-- ==== Defs.lean ====
def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdRefIdeal (m : (ℓ : Loc Cert.GateBwdRefIdeal.nD Cert.GateBwdRefIdeal.τ Cert.GateBwdRefIdeal.sig) → Buf (Elt Ideal) ℓ) : Prop :=
  True

def Pre_MixerRowsBwd (m : (ℓ : Loc Cert.MixerRowsBwd.nD Cert.MixerRowsBwd.τ Cert.MixerRowsBwd.sig) → Buf (Elt Bits) ℓ) : Prop :=
  True

def Pre_MixerRowsBwdIdeal (m : (ℓ : Loc Cert.MixerRowsBwdIdeal.nD Cert.MixerRowsBwdIdeal.τ Cert.MixerRowsBwdIdeal.sig) → Buf (Elt Ideal) ℓ) : Prop :=
  True

def Pre_MixerRowsBwdIdeal_mixer_rows_finite [hPre_mixer_rows_finite : Cert.Pre_mixer_rows_finite.Facts] (m : (ℓ : Loc Cert.MixerRowsBwdIdeal.nD Cert.MixerRowsBwdIdeal.τ Cert.MixerRowsBwdIdeal.sig) → Buf (Elt Ideal) ℓ) : Prop :=
  ∀ c : Dev Cert.MixerRowsBwdIdeal.nD,
    (Cert.Pre_mixer_rows_finite.fn (F := Ideal) (m ((c.tc : Thread Cert.MixerRowsBwdIdeal.nD Cert.MixerRowsBwdIdeal.τ).loc Cert.MixerRowsBwdIdeal.main_arg0)) (m ((c.tc : Thread Cert.MixerRowsBwdIdeal.nD Cert.MixerRowsBwdIdeal.τ).loc Cert.MixerRowsBwdIdeal.main_arg1)) (m ((c.tc : Thread Cert.MixerRowsBwdIdeal.nD Cert.MixerRowsBwdIdeal.τ).loc Cert.MixerRowsBwdIdeal.main_arg2)) (m ((c.tc : Thread Cert.MixerRowsBwdIdeal.nD Cert.MixerRowsBwdIdeal.τ).loc Cert.MixerRowsBwdIdeal.main_arg3)) (m ((c.tc : Thread Cert.MixerRowsBwdIdeal.nD Cert.MixerRowsBwdIdeal.τ).loc Cert.MixerRowsBwdIdeal.main_arg4)) (m ((c.tc : Thread Cert.MixerRowsBwdIdeal.nD Cert.MixerRowsBwdIdeal.τ).loc Cert.MixerRowsBwdIdeal.main_arg5)) (m ((c.tc : Thread Cert.MixerRowsBwdIdeal.nD Cert.MixerRowsBwdIdeal.τ).loc Cert.MixerRowsBwdIdeal.main_arg6)) (m ((c.tc : Thread Cert.MixerRowsBwdIdeal.nD Cert.MixerRowsBwdIdeal.τ).loc Cert.MixerRowsBwdIdeal.main_arg7)) (m ((c.tc : Thread Cert.MixerRowsBwdIdeal.nD Cert.MixerRowsBwdIdeal.τ).loc Cert.MixerRowsBwdIdeal.main_arg8))) = (fun _ => 1#1)

def Pre_MixerRowsBwdRefIdeal (m : (ℓ : Loc Cert.MixerRowsBwdRefIdeal.nD Cert.MixerRowsBwdRefIdeal.τ Cert.MixerRowsBwdRefIdeal.sig) → Buf (Elt Ideal) ℓ) : Prop :=
  True

def Pre_MixerRowsBwdRefIdeal_mixer_rows_finite [hPre_mixer_rows_finite : Cert.Pre_mixer_rows_finite.Facts] (m : (ℓ : Loc Cert.MixerRowsBwdRefIdeal.nD Cert.MixerRowsBwdRefIdeal.τ Cert.MixerRowsBwdRefIdeal.sig) → Buf (Elt Ideal) ℓ) : Prop :=
  ∀ c : Dev Cert.MixerRowsBwdRefIdeal.nD,
    (Cert.Pre_mixer_rows_finite.fn (F := Ideal) (m ((c.tc : Thread Cert.MixerRowsBwdRefIdeal.nD Cert.MixerRowsBwdRefIdeal.τ).loc Cert.MixerRowsBwdRefIdeal.main_arg0)) (m ((c.tc : Thread Cert.MixerRowsBwdRefIdeal.nD Cert.MixerRowsBwdRefIdeal.τ).loc Cert.MixerRowsBwdRefIdeal.main_arg1)) (m ((c.tc : Thread Cert.MixerRowsBwdRefIdeal.nD Cert.MixerRowsBwdRefIdeal.τ).loc Cert.MixerRowsBwdRefIdeal.main_arg2)) (m ((c.tc : Thread Cert.MixerRowsBwdRefIdeal.nD Cert.MixerRowsBwdRefIdeal.τ).loc Cert.MixerRowsBwdRefIdeal.main_arg3)) (m ((c.tc : Thread Cert.MixerRowsBwdRefIdeal.nD Cert.MixerRowsBwdRefIdeal.τ).loc Cert.MixerRowsBwdRefIdeal.main_arg4)) (m ((c.tc : Thread Cert.MixerRowsBwdRefIdeal.nD Cert.MixerRowsBwdRefIdeal.τ).loc Cert.MixerRowsBwdRefIdeal.main_arg5)) (m ((c.tc : Thread Cert.MixerRowsBwdRefIdeal.nD Cert.MixerRowsBwdRefIdeal.τ).loc Cert.MixerRowsBwdRefIdeal.main_arg6)) (m ((c.tc : Thread Cert.MixerRowsBwdRefIdeal.nD Cert.MixerRowsBwdRefIdeal.τ).loc Cert.MixerRowsBwdRefIdeal.main_arg7)) (m ((c.tc : Thread Cert.MixerRowsBwdRefIdeal.nD Cert.MixerRowsBwdRefIdeal.τ).loc Cert.MixerRowsBwdRefIdeal.main_arg8))) = (fun _ => 1#1)

def Pre_ShortConvBwd (m : (ℓ : Loc Cert.ShortConvBwd.nD Cert.ShortConvBwd.τ Cert.ShortConvBwd.sig) → Buf (Elt Bits) ℓ) : Prop :=
  True

def Pre_ShortConvBwdIdeal (m : (ℓ : Loc Cert.ShortConvBwdIdeal.nD Cert.ShortConvBwdIdeal.τ Cert.ShortConvBwdIdeal.sig) → Buf (Elt Ideal) ℓ) : Prop :=
  True

def Pre_ShortConvBwdRefIdeal (m : (ℓ : Loc Cert.ShortConvBwdRefIdeal.nD Cert.ShortConvBwdRefIdeal.τ Cert.ShortConvBwdRefIdeal.sig) → Buf (Elt Ideal) ℓ) : Prop :=
  True

def Pre_ConformerConvBwd (m : (ℓ : Loc Cert.ConformerConvBwd.nD Cert.ConformerConvBwd.τ Cert.ConformerConvBwd.sig) → Buf (Elt Bits) ℓ) : Prop :=
  True

def Pre_ConformerConvBwdIdeal (m : (ℓ : Loc Cert.ConformerConvBwdIdeal.nD Cert.ConformerConvBwdIdeal.τ Cert.ConformerConvBwdIdeal.sig) → Buf (Elt Ideal) ℓ) : Prop :=
  True

def Pre_ConformerConvBwdRefIdeal (m : (ℓ : Loc Cert.ConformerConvBwdRefIdeal.nD Cert.ConformerConvBwdRefIdeal.τ Cert.ConformerConvBwdRefIdeal.sig) → Buf (Elt Ideal) ℓ) : Prop :=
  True

def Pre_FfnOutBwd (m : (ℓ : Loc Cert.FfnOutBwd.nD Cert.FfnOutBwd.τ Cert.FfnOutBwd.sig) → Buf (Elt Bits) ℓ) : Prop :=
  True

def Pre_FfnOutBwdIdeal (m : (ℓ : Loc Cert.FfnOutBwdIdeal.nD Cert.FfnOutBwdIdeal.τ Cert.FfnOutBwdIdeal.sig) → Buf (Elt Ideal) ℓ) : Prop :=
  True

def Pre_FfnOutBwdIdeal_ffn_out_finite [hPre_ffn_out_finite : Cert.Pre_ffn_out_finite.Facts] (m : (ℓ : Loc Cert.FfnOutBwdIdeal.nD Cert.FfnOutBwdIdeal.τ Cert.FfnOutBwdIdeal.sig) → Buf (Elt Ideal) ℓ) : Prop :=
  ∀ c : Dev Cert.FfnOutBwdIdeal.nD,
    (Cert.Pre_ffn_out_finite.fn (F := Ideal) (m ((c.tc : Thread Cert.FfnOutBwdIdeal.nD Cert.FfnOutBwdIdeal.τ).loc Cert.FfnOutBwdIdeal.main_arg0)) (m ((c.tc : Thread Cert.FfnOutBwdIdeal.nD Cert.FfnOutBwdIdeal.τ).loc Cert.FfnOutBwdIdeal.main_arg1)) (m ((c.tc : Thread Cert.FfnOutBwdIdeal.nD Cert.FfnOutBwdIdeal.τ).loc Cert.FfnOutBwdIdeal.main_arg2)) (m ((c.tc : Thread Cert.FfnOutBwdIdeal.nD Cert.FfnOutBwdIdeal.τ).loc Cert.FfnOutBwdIdeal.main_arg3))) = (fun _ => 1#1)

def Pre_FfnOutBwdRefIdeal (m : (ℓ : Loc Cert.FfnOutBwdRefIdeal.nD Cert.FfnOutBwdRefIdeal.τ Cert.FfnOutBwdRefIdeal.sig) → Buf (Elt Ideal) ℓ) : Prop :=
  True

def Pre_FfnOutBwdRefIdeal_ffn_out_finite [hPre_ffn_out_finite : Cert.Pre_ffn_out_finite.Facts] (m : (ℓ : Loc Cert.FfnOutBwdRefIdeal.nD Cert.FfnOutBwdRefIdeal.τ Cert.FfnOutBwdRefIdeal.sig) → Buf (Elt Ideal) ℓ) : Prop :=
  ∀ c : Dev Cert.FfnOutBwdRefIdeal.nD,
    (Cert.Pre_ffn_out_finite.fn (F := Ideal) (m ((c.tc : Thread Cert.FfnOutBwdRefIdeal.nD Cert.FfnOutBwdRefIdeal.τ).loc Cert.FfnOutBwdRefIdeal.main_arg0)) (m ((c.tc : Thread Cert.FfnOutBwdRefIdeal.nD Cert.FfnOutBwdRefIdeal.τ).loc Cert.FfnOutBwdRefIdeal.main_arg1)) (m ((c.tc : Thread Cert.FfnOutBwdRefIdeal.nD Cert.FfnOutBwdRefIdeal.τ).loc Cert.FfnOutBwdRefIdeal.main_arg2)) (m ((c.tc : Thread Cert.FfnOutBwdRefIdeal.nD Cert.FfnOutBwdRefIdeal.τ).loc Cert.FfnOutBwdRefIdeal.main_arg3))) = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_LnFfnBwd (m : (ℓ : Loc Cert.LnFfnBwd.nD Cert.LnFfnBwd.τ Cert.LnFfnBwd.sig) → Buf (Elt Bits) ℓ) : Prop :=
  True

def Pre_LnFfnBwdIdeal (m : (ℓ : Loc Cert.LnFfnBwdIdeal.nD Cert.LnFfnBwdIdeal.τ Cert.LnFfnBwdIdeal.sig) → Buf (Elt Ideal) ℓ) : Prop :=
  True

def Pre_LnFfnBwdIdeal_ln_ffn_finite [hPre_ln_ffn_finite : Cert.Pre_ln_ffn_finite.Facts] (m : (ℓ : Loc Cert.LnFfnBwdIdeal.nD Cert.LnFfnBwdIdeal.τ Cert.LnFfnBwdIdeal.sig) → Buf (Elt Ideal) ℓ) : Prop :=
  ∀ c : Dev Cert.LnFfnBwdIdeal.nD,
    (Cert.Pre_ln_ffn_finite.fn (F := Ideal) (m ((c.tc : Thread Cert.LnFfnBwdIdeal.nD Cert.LnFfnBwdIdeal.τ).loc Cert.LnFfnBwdIdeal.main_arg0)) (m ((c.tc : Thread Cert.LnFfnBwdIdeal.nD Cert.LnFfnBwdIdeal.τ).loc Cert.LnFfnBwdIdeal.main_arg1)) (m ((c.tc : Thread Cert.LnFfnBwdIdeal.nD Cert.LnFfnBwdIdeal.τ).loc Cert.LnFfnBwdIdeal.main_arg2)) (m ((c.tc : Thread Cert.LnFfnBwdIdeal.nD Cert.LnFfnBwdIdeal.τ).loc Cert.LnFfnBwdIdeal.main_arg3)) (m ((c.tc : Thread Cert.LnFfnBwdIdeal.nD Cert.LnFfnBwdIdeal.τ).loc Cert.LnFfnBwdIdeal.main_arg4))) = (fun _ => 1#1)

def Pre_LnFfnBwdRefIdeal (m : (ℓ : Loc Cert.LnFfnBwdRefIdeal.nD Cert.LnFfnBwdRefIdeal.τ Cert.LnFfnBwdRefIdeal.sig) → Buf (Elt Ideal) ℓ) : Prop :=
  True

def Pre_LnFfnBwdRefIdeal_ln_ffn_finite [hPre_ln_ffn_finite : Cert.Pre_ln_ffn_finite.Facts] (m : (ℓ : Loc Cert.LnFfnBwdRefIdeal.nD Cert.LnFfnBwdRefIdeal.τ Cert.LnFfnBwdRefIdeal.sig) → Buf (Elt Ideal) ℓ) : Prop :=
  ∀ c : Dev Cert.LnFfnBwdRefIdeal.nD,
    (Cert.Pre_ln_ffn_finite.fn (F := Ideal) (m ((c.tc : Thread Cert.LnFfnBwdRefIdeal.nD Cert.LnFfnBwdRefIdeal.τ).loc Cert.LnFfnBwdRefIdeal.main_arg0)) (m ((c.tc : Thread Cert.LnFfnBwdRefIdeal.nD Cert.LnFfnBwdRefIdeal.τ).loc Cert.LnFfnBwdRefIdeal.main_arg1)) (m ((c.tc : Thread Cert.LnFfnBwdRefIdeal.nD Cert.LnFfnBwdRefIdeal.τ).loc Cert.LnFfnBwdRefIdeal.main_arg2)) (m ((c.tc : Thread Cert.LnFfnBwdRefIdeal.nD Cert.LnFfnBwdRefIdeal.τ).loc Cert.LnFfnBwdRefIdeal.main_arg3)) (m ((c.tc : Thread Cert.LnFfnBwdRefIdeal.nD Cert.LnFfnBwdRefIdeal.τ).loc Cert.LnFfnBwdRefIdeal.main_arg4))) = (fun _ => 1#1)

def Pre_LnInBwd (m : (ℓ : Loc Cert.LnInBwd.nD Cert.LnInBwd.τ Cert.LnInBwd.sig) → Buf (Elt Bits) ℓ) : Prop :=
  True

def Pre_LnInBwdIdeal (m : (ℓ : Loc Cert.LnInBwdIdeal.nD Cert.LnInBwdIdeal.τ Cert.LnInBwdIdeal.sig) → Buf (Elt Ideal) ℓ) : Prop :=
  True

def Pre_LnInBwdIdeal_ln_in_finite [hPre_ln_in_finite : Cert.Pre_ln_in_finite.Facts] (m : (ℓ : Loc Cert.LnInBwdIdeal.nD Cert.LnInBwdIdeal.τ Cert.LnInBwdIdeal.sig) → Buf (Elt Ideal) ℓ) : Prop :=
  ∀ c : Dev Cert.LnInBwdIdeal.nD,
    (Cert.Pre_ln_in_finite.fn (F := Ideal) (m ((c.tc : Thread Cert.LnInBwdIdeal.nD Cert.LnInBwdIdeal.τ).loc Cert.LnInBwdIdeal.main_arg0)) (m ((c.tc : Thread Cert.LnInBwdIdeal.nD Cert.LnInBwdIdeal.τ).loc Cert.LnInBwdIdeal.main_arg1)) (m ((c.tc : Thread Cert.LnInBwdIdeal.nD Cert.LnInBwdIdeal.τ).loc Cert.LnInBwdIdeal.main_arg2)) (m ((c.tc : Thread Cert.LnInBwdIdeal.nD Cert.LnInBwdIdeal.τ).loc Cert.LnInBwdIdeal.main_arg3))) = (fun _ => 1#1)

def Pre_LnInBwdRefIdeal (m : (ℓ : Loc Cert.LnInBwdRefIdeal.nD Cert.LnInBwdRefIdeal.τ Cert.LnInBwdRefIdeal.sig) → Buf (Elt Ideal) ℓ) : Prop :=
  True

def Pre_LnInBwdRefIdeal_ln_in_finite [hPre_ln_in_finite : Cert.Pre_ln_in_finite.Facts] (m : (ℓ : Loc Cert.LnInBwdRefIdeal.nD Cert.LnInBwdRefIdeal.τ Cert.LnInBwdRefIdeal.sig) → Buf (Elt Ideal) ℓ) : Prop :=
  ∀ c : Dev Cert.LnInBwdRefIdeal.nD,
    (Cert.Pre_ln_in_finite.fn (F := Ideal) (m ((c.tc : Thread Cert.LnInBwdRefIdeal.nD Cert.LnInBwdRefIdeal.τ).loc Cert.LnInBwdRefIdeal.main_arg0)) (m ((c.tc : Thread Cert.LnInBwdRefIdeal.nD Cert.LnInBwdRefIdeal.τ).loc Cert.LnInBwdRefIdeal.main_arg1)) (m ((c.tc : Thread Cert.LnInBwdRefIdeal.nD Cert.LnInBwdRefIdeal.τ).loc Cert.LnInBwdRefIdeal.main_arg2)) (m ((c.tc : Thread Cert.LnInBwdRefIdeal.nD Cert.LnInBwdRefIdeal.τ).loc Cert.LnInBwdRefIdeal.main_arg3))) = (fun _ => 1#1)

def Pre_LnInFwd (m : (ℓ : Loc Cert.LnInFwd.nD Cert.LnInFwd.τ Cert.LnInFwd.sig) → Buf (Elt Bits) ℓ) : Prop :=
  True

def Pre_LnInFwdIdeal (m : (ℓ : Loc Cert.LnInFwdIdeal.nD Cert.LnInFwdIdeal.τ Cert.LnInFwdIdeal.sig) → Buf (Elt Ideal) ℓ) : Prop :=
  True

def Pre_LnInFwdRefIdeal (m : (ℓ : Loc Cert.LnInFwdRefIdeal.nD Cert.LnInFwdRefIdeal.τ Cert.LnInFwdRefIdeal.sig) → Buf (Elt Ideal) ℓ) : Prop :=
  True

def Pre_ConformerConvFwd (m : (ℓ : Loc Cert.ConformerConvFwd.nD Cert.ConformerConvFwd.τ Cert.ConformerConvFwd.sig) → Buf (Elt Bits) ℓ) : Prop :=
  True

def Pre_ConformerConvFwdIdeal (m : (ℓ : Loc Cert.ConformerConvFwdIdeal.nD Cert.ConformerConvFwdIdeal.τ Cert.ConformerConvFwdIdeal.sig) → Buf (Elt Ideal) ℓ) : Prop :=
  True

def Pre_ConformerConvFwdRefIdeal (m : (ℓ : Loc Cert.ConformerConvFwdRefIdeal.nD Cert.ConformerConvFwdRefIdeal.τ Cert.ConformerConvFwdRefIdeal.sig) → Buf (Elt Ideal) ℓ) : Prop :=
  True

def Pre_MmOutLn (m : (ℓ : Loc Cert.MmOutLn.nD Cert.MmOutLn.τ Cert.MmOutLn.sig) → Buf (Elt Bits) ℓ) : Prop :=
  True

def Pre_MmOutLnIdeal (m : (ℓ : Loc Cert.MmOutLnIdeal.nD Cert.MmOutLnIdeal.τ Cert.MmOutLnIdeal.sig) → Buf (Elt Ideal) ℓ) : Prop :=
  True

def Pre_MmOutLnRefIdeal (m : (ℓ : Loc Cert.MmOutLnRefIdeal.nD Cert.MmOutLnRefIdeal.τ Cert.MmOutLnRefIdeal.sig) → Buf (Elt Ideal) ℓ) : Prop :=
  True

def Pre_FfnInSwiglu (m : (ℓ : Loc Cert.FfnInSwiglu.nD Cert.FfnInSwiglu.τ Cert.FfnInSwiglu.sig) → Buf (Elt Bits) ℓ) : Prop :=
  True

def Pre_FfnInSwigluIdeal (m : (ℓ : Loc Cert.FfnInSwigluIdeal.nD Cert.FfnInSwigluIdeal.τ Cert.FfnInSwigluIdeal.sig) → Buf (Elt Ideal) ℓ) : Prop :=
  True

def Pre_FfnInSwigluRefIdeal (m : (ℓ : Loc Cert.FfnInSwigluRefIdeal.nD Cert.FfnInSwigluRefIdeal.τ Cert.FfnInSwigluRefIdeal.sig) → Buf (Elt Ideal) ℓ) : Prop :=
  True

def Pre_FfnOutLn (m : (ℓ : Loc Cert.FfnOutLn.nD Cert.FfnOutLn.τ Cert.FfnOutLn.sig) → Buf (Elt Bits) ℓ) : Prop :=
  True

def Pre_FfnOutLnIdeal (m : (ℓ : Loc Cert.FfnOutLnIdeal.nD Cert.FfnOutLnIdeal.τ Cert.FfnOutLnIdeal.sig) → Buf (Elt Ideal) ℓ) : Prop :=
  True

def Pre_FfnOutLnRefIdeal (m : (ℓ : Loc Cert.FfnOutLnRefIdeal.nD Cert.FfnOutLnRefIdeal.τ Cert.FfnOutLnRefIdeal.sig) → Buf (Elt Ideal) ℓ) : Prop :=
  True

def Pre_BranchMerge (m : (ℓ : Loc Cert.BranchMerge.nD Cert.BranchMerge.τ Cert.BranchMerge.sig) → Buf (Elt Bits) ℓ) : Prop :=
  True

def Pre_BranchMergeIdeal (m : (ℓ : Loc Cert.BranchMergeIdeal.nD Cert.BranchMergeIdeal.τ Cert.BranchMergeIdeal.sig) → Buf (Elt Ideal) ℓ) : Prop :=
  True

def Pre_BranchMergeRefIdeal (m : (ℓ : Loc Cert.BranchMergeRefIdeal.nD Cert.BranchMergeRefIdeal.τ Cert.BranchMergeRefIdeal.sig) → Buf (Elt Ideal) ℓ) : Prop :=
  True

def Pre_MixerRowsFwd (m : (ℓ : Loc Cert.MixerRowsFwd.nD Cert.MixerRowsFwd.τ Cert.MixerRowsFwd.sig) → Buf (Elt Bits) ℓ) : Prop :=
  True

def Pre_MixerRowsFwdIdeal (m : (ℓ : Loc Cert.MixerRowsFwdIdeal.nD Cert.MixerRowsFwdIdeal.τ Cert.MixerRowsFwdIdeal.sig) → Buf (Elt Ideal) ℓ) : Prop :=
  True

def Pre_MixerRowsFwdRefIdeal (m : (ℓ : Loc Cert.MixerRowsFwdRefIdeal.nD Cert.MixerRowsFwdRefIdeal.τ Cert.MixerRowsFwdRefIdeal.sig) → Buf (Elt Ideal) ℓ) : Prop :=
  True

def Pre_ShortConvFwd (m : (ℓ : Loc Cert.ShortConvFwd.nD Cert.ShortConvFwd.τ Cert.ShortConvFwd.sig) → Buf (Elt Bits) ℓ) : Prop :=
  True

def Pre_ShortConvFwdIdeal (m : (ℓ : Loc Cert.ShortConvFwdIdeal.nD Cert.ShortConvFwdIdeal.τ Cert.ShortConvFwdIdeal.sig) → Buf (Elt Ideal) ℓ) : Prop :=
  True

def Pre_ShortConvFwdRefIdeal (m : (ℓ : Loc Cert.ShortConvFwdRefIdeal.nD Cert.ShortConvFwdRefIdeal.τ Cert.ShortConvFwdRefIdeal.sig) → Buf (Elt Ideal) ℓ) : Prop :=
  True

def Pre_MmIn (m : (ℓ : Loc Cert.MmIn.nD Cert.MmIn.τ Cert.MmIn.sig) → Buf (Elt Bits) ℓ) : Prop :=
  True

def Pre_MmInIdeal (m : (ℓ : Loc Cert.MmInIdeal.nD Cert.MmInIdeal.τ Cert.MmInIdeal.sig) → Buf (Elt Ideal) ℓ) : Prop :=
  True

def Pre_MmInRefIdeal (m : (ℓ : Loc Cert.MmInRefIdeal.nD Cert.MmInRefIdeal.τ Cert.MmInRefIdeal.sig) → Buf (Elt Ideal) ℓ) : Prop :=
  True

def Pre_MmOutDgrad (m : (ℓ : Loc Cert.MmOutDgrad.nD Cert.MmOutDgrad.τ Cert.MmOutDgrad.sig) → Buf (Elt Bits) ℓ) : Prop :=
  True

def Pre_MmOutDgradIdeal (m : (ℓ : Loc Cert.MmOutDgradIdeal.nD Cert.MmOutDgradIdeal.τ Cert.MmOutDgradIdeal.sig) → Buf (Elt Ideal) ℓ) : Prop :=
  True

def Pre_MmOutDgradRefIdeal (m : (ℓ : Loc Cert.MmOutDgradRefIdeal.nD Cert.MmOutDgradRefIdeal.τ Cert.MmOutDgradRefIdeal.sig) → Buf (Elt Ideal) ℓ) : Prop :=
  True

def Pre_FfnOutWgrad (m : (ℓ : Loc Cert.FfnOutWgrad.nD Cert.FfnOutWgrad.τ Cert.FfnOutWgrad.sig) → Buf (Elt Bits) ℓ) : Prop :=
  True

def Pre_FfnOutWgradIdeal (m : (ℓ : Loc Cert.FfnOutWgradIdeal.nD Cert.FfnOutWgradIdeal.τ Cert.FfnOutWgradIdeal.sig) → Buf (Elt Ideal) ℓ) : Prop :=
  True

def Pre_FfnOutWgradRefIdeal (m : (ℓ : Loc Cert.FfnOutWgradRefIdeal.nD Cert.FfnOutWgradRefIdeal.τ Cert.FfnOutWgradRefIdeal.sig) → Buf (Elt Ideal) ℓ) : Prop :=
  True

def Pre_BranchDgrad (m : (ℓ : Loc Cert.BranchDgrad.nD Cert.BranchDgrad.τ Cert.BranchDgrad.sig) → Buf (Elt Bits) ℓ) : Prop :=
  True

def Pre_BranchDgradIdeal (m : (ℓ : Loc Cert.BranchDgradIdeal.nD Cert.BranchDgradIdeal.τ Cert.BranchDgradIdeal.sig) → Buf (Elt Ideal) ℓ) : Prop :=
  True

def Pre_BranchDgradRefIdeal (m : (ℓ : Loc Cert.BranchDgradRefIdeal.nD Cert.BranchDgradRefIdeal.τ Cert.BranchDgradRefIdeal.sig) → Buf (Elt Ideal) ℓ) : Prop :=
  True

def Pre_BranchWgrad (m : (ℓ : Loc Cert.BranchWgrad.nD Cert.BranchWgrad.τ Cert.BranchWgrad.sig) → Buf (Elt Bits) ℓ) : Prop :=
  True

def Pre_BranchWgradIdeal (m : (ℓ : Loc Cert.BranchWgradIdeal.nD Cert.BranchWgradIdeal.τ Cert.BranchWgradIdeal.sig) → Buf (Elt Ideal) ℓ) : Prop :=
  True

def Pre_BranchWgradRefIdeal (m : (ℓ : Loc Cert.BranchWgradRefIdeal.nD Cert.BranchWgradRefIdeal.τ Cert.BranchWgradRefIdeal.sig) → Buf (Elt Ideal) ℓ) : Prop :=
  True

def Pre_MmInWgrad (m : (ℓ : Loc Cert.MmInWgrad.nD Cert.MmInWgrad.τ Cert.MmInWgrad.sig) → Buf (Elt Bits) ℓ) : Prop :=
  True

def Pre_MmInWgradIdeal (m : (ℓ : Loc Cert.MmInWgradIdeal.nD Cert.MmInWgradIdeal.τ Cert.MmInWgradIdeal.sig) → Buf (Elt Ideal) ℓ) : Prop :=
  True

def Pre_MmInWgradRefIdeal (m : (ℓ : Loc Cert.MmInWgradRefIdeal.nD Cert.MmInWgradRefIdeal.τ Cert.MmInWgradRefIdeal.sig) → Buf (Elt Ideal) ℓ) : Prop :=
  True

def Pre_MmInDgrad (m : (ℓ : Loc Cert.MmInDgrad.nD Cert.MmInDgrad.τ Cert.MmInDgrad.sig) → Buf (Elt Bits) ℓ) : Prop :=
  True

def Pre_MmInDgradIdeal (m : (ℓ : Loc Cert.MmInDgradIdeal.nD Cert.MmInDgradIdeal.τ Cert.MmInDgradIdeal.sig) → Buf (Elt Ideal) ℓ) : Prop :=
  True

def Pre_MmInDgradRefIdeal (m : (ℓ : Loc Cert.MmInDgradRefIdeal.nD Cert.MmInDgradRefIdeal.τ Cert.MmInDgradRefIdeal.sig) → Buf (Elt Ideal) ℓ) : Prop :=
  True

def Pre_SumDevices (m : (ℓ : Loc Cert.SumDevices.nD Cert.SumDevices.τ Cert.SumDevices.sig) → Buf (Elt Bits) ℓ) : Prop :=
  True

def Pre_SumDevicesIdeal (m : (ℓ : Loc Cert.SumDevicesIdeal.nD Cert.SumDevicesIdeal.τ Cert.SumDevicesIdeal.sig) → Buf (Elt Ideal) ℓ) : Prop :=
  True

def Pre_SumDevicesRefIdeal (m : (ℓ : Loc Cert.SumDevicesRefIdeal.nD Cert.SumDevicesRefIdeal.τ Cert.SumDevicesRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3)
      ∧ r.2.mem ((c.tc : Thread Cert.GateBwd.nD Cert.GateBwd.τ).loc Cert.GateBwd.main_arg4) = m ((c.tc : Thread Cert.GateBwd.nD Cert.GateBwd.τ).loc Cert.GateBwd.main_arg4))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
      ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4))
      ∧ r.2.sem = fun _ => 0)

def quiescent_GateBwdRefIdeal [hGateBwdRefIdeal : Cert.GateBwdRefIdeal.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2)
      ∧ r.2.mem ((c.tc : Thread Cert.GateBwdRefIdeal.nD Cert.GateBwdRefIdeal.τ).loc Cert.GateBwdRefIdeal.main_arg3) = m ((c.tc : Thread Cert.GateBwdRefIdeal.nD Cert.GateBwdRefIdeal.τ).loc Cert.GateBwdRefIdeal.main_arg3)
      ∧ r.2.mem ((c.tc : Thread Cert.GateBwdRefIdeal.nD Cert.GateBwdRefIdeal.τ).loc Cert.GateBwdRefIdeal.main_arg4) = m ((c.tc : Thread Cert.GateBwdRefIdeal.nD Cert.GateBwdRefIdeal.τ).loc Cert.GateBwdRefIdeal.main_arg4))
      ∧ r.2.sem = fun _ => 0)

def quiescent_MixerRowsBwd [hMixerRowsBwd : Cert.MixerRowsBwd.Facts] : Prop :=
  ∀ (m : (ℓ : Loc Cert.MixerRowsBwd.nD Cert.MixerRowsBwd.τ Cert.MixerRowsBwd.sig) → Buf (Elt Bits) ℓ) (g : Dev Cert.MixerRowsBwd.nD → PrngReg), Pre_MixerRowsBwd m →
    θ_run (Cert.MixerRowsBwd.defs (F := Bits)) (onTc (τ := Cert.MixerRowsBwd.τ) (Cert.MixerRowsBwd.main (F := Bits))) ⟨m, fun _ => 0, g⟩ (fun r => (∀ c : Dev Cert.MixerRowsBwd.nD,
      r.2.mem ((c.tc : Thread Cert.MixerRowsBwd.nD Cert.MixerRowsBwd.τ).loc Cert.MixerRowsBwd.main_arg0) = m ((c.tc : Thread Cert.MixerRowsBwd.nD Cert.MixerRowsBwd.τ).loc Cert.MixerRowsBwd.main_arg0)
      ∧ r.2.mem ((c.tc : Thread Cert.MixerRowsBwd.nD Cert.MixerRowsBwd.τ).loc Cert.MixerRowsBwd.main_arg1) = m ((c.tc : Thread Cert.MixerRowsBwd.nD Cert.MixerRowsBwd.τ).loc Cert.MixerRowsBwd.main_arg1)
      ∧ r.2.mem ((c.tc : Thread Cert.MixerRowsBwd.nD Cert.MixerRowsBwd.τ).loc Cert.MixerRowsBwd.main_arg2) = m ((c.tc : Thread Cert.MixerRowsBwd.nD Cert.MixerRowsBwd.τ).loc Cert.MixerRowsBwd.main_arg2)
      ∧ r.2.mem ((c.tc : Thread Cert.MixerRowsBwd.nD Cert.MixerRowsBwd.τ).loc Cert.MixerRowsBwd.main_arg3) = m ((c.tc : Thread Cert.MixerRowsBwd.nD Cert.MixerRowsBwd.τ).loc Cert.MixerRowsBwd.main_arg3)
      ∧ r.2.mem ((c.tc : Thread Cert.MixerRowsBwd.nD Cert.MixerRowsBwd.τ).loc Cert.MixerRowsBwd.main_arg4) = m ((c.tc : Thread Cert.MixerRowsBwd.nD Cert.MixerRowsBwd.τ).loc Cert.MixerRowsBwd.main_arg4)
      ∧ r.2.mem ((c.tc : Thread Cert.MixerRowsBwd.nD Cert.MixerRowsBwd.τ).loc Cert.MixerRowsBwd.main_arg5) = m ((c.tc : Thread Cert.MixerRowsBwd.nD Cert.MixerRowsBwd.τ).loc Cert.MixerRowsBwd.main_arg5)
      ∧ r.2.mem ((c.tc : Thread Cert.MixerRowsBwd.nD Cert.MixerRowsBwd.τ).loc Cert.MixerRowsBwd.main_arg6) = m ((c.tc : Thread Cert.MixerRowsBwd.nD Cert.MixerRowsBwd.τ).loc Cert.MixerRowsBwd.main_arg6)
      ∧ r.2.mem ((c.tc : Thread Cert.MixerRowsBwd.nD Cert.MixerRowsBwd.τ).loc Cert.MixerRowsBwd.main_arg7) = m ((c.tc : Thread Cert.MixerRowsBwd.nD Cert.MixerRowsBwd.τ).loc Cert.MixerRowsBwd.main_arg7)
      ∧ r.2.mem ((c.tc : Thread Cert.MixerRowsBwd.nD Cert.MixerRowsBwd.τ).loc Cert.MixerRowsBwd.main_arg8) = m ((c.tc : Thread Cert.MixerRowsBwd.nD Cert.MixerRowsBwd.τ).loc Cert.MixerRowsBwd.main_arg8))
      ∧ r.2.sem = fun _ => 0)

def quiescent_MixerRowsBwdIdeal [hMixerRowsBwdIdeal : Cert.MixerRowsBwdIdeal.Facts] : Prop :=
  ∀ (m : (ℓ : Loc Cert.MixerRowsBwdIdeal.nD Cert.MixerRowsBwdIdeal.τ Cert.MixerRowsBwdIdeal.sig) → Buf (Elt Ideal) ℓ) (g : Dev Cert.MixerRowsBwdIdeal.nD → PrngReg), Pre_MixerRowsBwdIdeal m →
    θ_run (Cert.MixerRowsBwdIdeal.defs (F := Ideal)) (onTc (τ := Cert.MixerRowsBwdIdeal.τ) (Cert.MixerRowsBwdIdeal.main (F := Ideal))) ⟨m, fun _ => 0, g⟩ (fun r => (∀ c : Dev Cert.MixerRowsBwdIdeal.nD,
      r.2.mem ((c.tc : Thread Cert.MixerRowsBwdIdeal.nD Cert.MixerRowsBwdIdeal.τ).loc Cert.MixerRowsBwdIdeal.main_arg0) = m ((c.tc : Thread Cert.MixerRowsBwdIdeal.nD Cert.MixerRowsBwdIdeal.τ).loc Cert.MixerRowsBwdIdeal.main_arg0)
      ∧ r.2.mem ((c.tc : Thread Cert.MixerRowsBwdIdeal.nD Cert.MixerRowsBwdIdeal.τ).loc Cert.MixerRowsBwdIdeal.main_arg1) = m ((c.tc : Thread Cert.MixerRowsBwdIdeal.nD Cert.MixerRowsBwdIdeal.τ).loc Cert.MixerRowsBwdIdeal.main_arg1)
      ∧ r.2.mem ((c.tc : Thread Cert.MixerRowsBwdIdeal.nD Cert.MixerRowsBwdIdeal.τ).loc Cert.MixerRowsBwdIdeal.main_arg2) = m ((c.tc : Thread Cert.MixerRowsBwdIdeal.nD Cert.MixerRowsBwdIdeal.τ).loc Cert.MixerRowsBwdIdeal.main_arg2)
      ∧ r.2.mem ((c.tc : Thread Cert.MixerRowsBwdIdeal.nD Cert.MixerRowsBwdIdeal.τ).loc Cert.MixerRowsBwdIdeal.main_arg3) = m ((c.tc : Thread Cert.MixerRowsBwdIdeal.nD Cert.MixerRowsBwdIdeal.τ).loc Cert.MixerRowsBwdIdeal.main_arg3)
      ∧ r.2.mem ((c.tc : Thread Cert.MixerRowsBwdIdeal.nD Cert.MixerRowsBwdIdeal.τ).loc Cert.MixerRowsBwdIdeal.main_arg4) = m ((c.tc : Thread Cert.MixerRowsBwdIdeal.nD Cert.MixerRowsBwdIdeal.τ).loc Cert.MixerRowsBwdIdeal.main_arg4)
      ∧ r.2.mem ((c.tc : Thread Cert.MixerRowsBwdIdeal.nD Cert.MixerRowsBwdIdeal.τ).loc Cert.MixerRowsBwdIdeal.main_arg5) = m ((c.tc : Thread Cert.MixerRowsBwdIdeal.nD Cert.MixerRowsBwdIdeal.τ).loc Cert.MixerRowsBwdIdeal.main_arg5)
      ∧ r.2.mem ((c.tc : Thread Cert.MixerRowsBwdIdeal.nD Cert.MixerRowsBwdIdeal.τ).loc Cert.MixerRowsBwdIdeal.main_arg6) = m ((c.tc : Thread Cert.MixerRowsBwdIdeal.nD Cert.MixerRowsBwdIdeal.τ).loc Cert.MixerRowsBwdIdeal.main_arg6)
      ∧ r.2.mem ((c.tc : Thread Cert.MixerRowsBwdIdeal.nD Cert.MixerRowsBwdIdeal.τ).loc Cert.MixerRowsBwdIdeal.main_arg7) = m ((c.tc : Thread Cert.MixerRowsBwdIdeal.nD Cert.MixerRowsBwdIdeal.τ).loc Cert.MixerRowsBwdIdeal.main_arg7)
      ∧ r.2.mem ((c.tc : Thread Cert.MixerRowsBwdIdeal.nD Cert.MixerRowsBwdIdeal.τ).loc Cert.MixerRowsBwdIdeal.main_arg8) = m ((c.tc : Thread Cert.MixerRowsBwdIdeal.nD Cert.MixerRowsBwdIdeal.τ).loc Cert.MixerRowsBwdIdeal.main_arg8))
      ∧ r.2.sem = fun _ => 0)

def quiescent_MixerRowsBwdIdeal_pre_mixer_rows_finite [hMixerRowsBwdIdeal : Cert.MixerRowsBwdIdeal.Facts] [hPre_mixer_rows_finite : Cert.Pre_mixer_rows_finite.Facts] : Prop :=
  ∀ (m : (ℓ : Loc Cert.MixerRowsBwdIdeal.nD Cert.MixerRowsBwdIdeal.τ Cert.MixerRowsBwdIdeal.sig) → Buf (Elt Ideal) ℓ) (g : Dev Cert.MixerRowsBwdIdeal.nD → PrngReg), Pre_MixerRowsBwdIdeal_mixer_rows_finite m →
    θ_run (Cert.MixerRowsBwdIdeal.defs (F := Ideal)) (onTc (τ := Cert.MixerRowsBwdIdeal.τ) (Cert.MixerRowsBwdIdeal.main (F := Ideal))) ⟨m, fun _ => 0, g⟩ (fun r => (∀ c : Dev Cert.MixerRowsBwdIdeal.nD,
      r.2.mem ((c.tc : Thread Cert.MixerRowsBwdIdeal.nD Cert.MixerRowsBwdIdeal.τ).loc Cert.MixerRowsBwdIdeal.main_arg0) = m ((c.tc : Thread Cert.MixerRowsBwdIdeal.nD Cert.MixerRowsBwdIdeal.τ).loc Cert.MixerRowsBwdIdeal.main_arg0)
      ∧ r.2.mem ((c.tc : Thread Cert.MixerRowsBwdIdeal.nD Cert.MixerRowsBwdIdeal.τ).loc Cert.MixerRowsBwdIdeal.main_arg1) = m ((c.tc : Thread Cert.MixerRowsBwdIdeal.nD Cert.MixerRowsBwdIdeal.τ).loc Cert.MixerRowsBwdIdeal.main_arg1)
      ∧ r.2.mem ((c.tc : Thread Cert.MixerRowsBwdIdeal.nD Cert.MixerRowsBwdIdeal.τ).loc Cert.MixerRowsBwdIdeal.main_arg2) = m ((c.tc : Thread Cert.MixerRowsBwdIdeal.nD Cert.MixerRowsBwdIdeal.τ).loc Cert.MixerRowsBwdIdeal.main_arg2)
      ∧ r.2.mem ((c.tc : Thread Cert.MixerRowsBwdIdeal.nD Cert.MixerRowsBwdIdeal.τ).loc Cert.MixerRowsBwdIdeal.main_arg3) = m ((c.tc : Thread Cert.MixerRowsBwdIdeal.nD Cert.MixerRowsBwdIdeal.τ).loc Cert.MixerRowsBwdIdeal.main_arg3)
      ∧ r.2.mem ((c.tc : Thread Cert.MixerRowsBwdIdeal.nD Cert.MixerRowsBwdIdeal.τ).loc Cert.MixerRowsBwdIdeal.main_arg4) = m ((c.tc : Thread Cert.MixerRowsBwdIdeal.nD Cert.MixerRowsBwdIdeal.τ).loc Cert.MixerRowsBwdIdeal.main_arg4)
      ∧ r.2.mem ((c.tc : Thread Cert.MixerRowsBwdIdeal.nD Cert.MixerRowsBwdIdeal.τ).loc Cert.MixerRowsBwdIdeal.main_arg5) = m ((c.tc : Thread Cert.MixerRowsBwdIdeal.nD Cert.MixerRowsBwdIdeal.τ).loc Cert.MixerRowsBwdIdeal.main_arg5)
      ∧ r.2.mem ((c.tc : Thread Cert.MixerRowsBwdIdeal.nD Cert.MixerRowsBwdIdeal.τ).loc Cert.MixerRowsBwdIdeal.main_arg6) = m ((c.tc : Thread Cert.MixerRowsBwdIdeal.nD Cert.MixerRowsBwdIdeal.τ).loc Cert.MixerRowsBwdIdeal.main_arg6)
      ∧ r.2.mem ((c.tc : Thread Cert.MixerRowsBwdIdeal.nD Cert.MixerRowsBwdIdeal.τ).loc Cert.MixerRowsBwdIdeal.main_arg7) = m ((c.tc : Thread Cert.MixerRowsBwdIdeal.nD Cert.MixerRowsBwdIdeal.τ).loc Cert.MixerRowsBwdIdeal.main_arg7)
      ∧ r.2.mem ((c.tc : Thread Cert.MixerRowsBwdIdeal.nD Cert.MixerRowsBwdIdeal.τ).loc Cert.MixerRowsBwdIdeal.main_arg8) = m ((c.tc : Thread Cert.MixerRowsBwdIdeal.nD Cert.MixerRowsBwdIdeal.τ).loc Cert.MixerRowsBwdIdeal.main_arg8))
      ∧ r.2.sem = fun _ => 0)

def quiescent_MixerRowsBwdRefIdeal [hMixerRowsBwdRefIdeal : Cert.MixerRowsBwdRefIdeal.Facts] : Prop :=
  ∀ (m : (ℓ : Loc Cert.MixerRowsBwdRefIdeal.nD Cert.MixerRowsBwdRefIdeal.τ Cert.MixerRowsBwdRefIdeal.sig) → Buf (Elt Ideal) ℓ) (g : Dev Cert.MixerRowsBwdRefIdeal.nD → PrngReg), Pre_MixerRowsBwdRefIdeal m →
    θ_run (Cert.MixerRowsBwdRefIdeal.defs (F := Ideal)) (onTc (τ := Cert.MixerRowsBwdRefIdeal.τ) (Cert.MixerRowsBwdRefIdeal.main (F := Ideal))) ⟨m, fun _ => 0, g⟩ (fun r => (∀ c : Dev Cert.MixerRowsBwdRefIdeal.nD,
      r.2.mem ((c.tc : Thread Cert.MixerRowsBwdRefIdeal.nD Cert.MixerRowsBwdRefIdeal.τ).loc Cert.MixerRowsBwdRefIdeal.main_arg0) = m ((c.tc : Thread Cert.MixerRowsBwdRefIdeal.nD Cert.MixerRowsBwdRefIdeal.τ).loc Cert.MixerRowsBwdRefIdeal.main_arg0)
      ∧ r.2.mem ((c.tc : Thread Cert.MixerRowsBwdRefIdeal.nD Cert.MixerRowsBwdRefIdeal.τ).loc Cert.MixerRowsBwdRefIdeal.main_arg1) = m ((c.tc : Thread Cert.MixerRowsBwdRefIdeal.nD Cert.MixerRowsBwdRefIdeal.τ).loc Cert.MixerRowsBwdRefIdeal.main_arg1)
      ∧ r.2.mem ((c.tc : Thread Cert.MixerRowsBwdRefIdeal.nD Cert.MixerRowsBwdRefIdeal.τ).loc Cert.MixerRowsBwdRefIdeal.main_arg2) = m ((c.tc : Thread Cert.MixerRowsBwdRefIdeal.nD Cert.MixerRowsBwdRefIdeal.τ).loc Cert.MixerRowsBwdRefIdeal.main_arg2)
      ∧ r.2.mem ((c.tc : Thread Cert.MixerRowsBwdRefIdeal.nD Cert.MixerRowsBwdRefIdeal.τ).loc Cert.MixerRowsBwdRefIdeal.main_arg3) = m ((c.tc : Thread Cert.MixerRowsBwdRefIdeal.nD Cert.MixerRowsBwdRefIdeal.τ).loc Cert.MixerRowsBwdRefIdeal.main_arg3)
      ∧ r.2.mem ((c.tc : Thread Cert.MixerRowsBwdRefIdeal.nD Cert.MixerRowsBwdRefIdeal.τ).loc Cert.MixerRowsBwdRefIdeal.main_arg4) = m ((c.tc : Thread Cert.MixerRowsBwdRefIdeal.nD Cert.MixerRowsBwdRefIdeal.τ).loc Cert.MixerRowsBwdRefIdeal.main_arg4)
      ∧ r.2.mem ((c.tc : Thread Cert.MixerRowsBwdRefIdeal.nD Cert.MixerRowsBwdRefIdeal.τ).loc Cert.MixerRowsBwdRefIdeal.main_arg5) = m ((c.tc : Thread Cert.MixerRowsBwdRefIdeal.nD Cert.MixerRowsBwdRefIdeal.τ).loc Cert.MixerRowsBwdRefIdeal.main_arg5)
      ∧ r.2.mem ((c.tc : Thread Cert.MixerRowsBwdRefIdeal.nD Cert.MixerRowsBwdRefIdeal.τ).loc Cert.MixerRowsBwdRefIdeal.main_arg6) = m ((c.tc : Thread Cert.MixerRowsBwdRefIdeal.nD Cert.MixerRowsBwdRefIdeal.τ).loc Cert.MixerRowsBwdRefIdeal.main_arg6)
      ∧ r.2.mem ((c.tc : Thread Cert.MixerRowsBwdRefIdeal.nD Cert.MixerRowsBwdRefIdeal.τ).loc Cert.MixerRowsBwdRefIdeal.main_arg7) = m ((c.tc : Thread Cert.MixerRowsBwdRefIdeal.nD Cert.MixerRowsBwdRefIdeal.τ).loc Cert.MixerRowsBwdRefIdeal.main_arg7)
      ∧ r.2.mem ((c.tc : Thread Cert.MixerRowsBwdRefIdeal.nD Cert.MixerRowsBwdRefIdeal.τ).loc Cert.MixerRowsBwdRefIdeal.main_arg8) = m ((c.tc : Thread Cert.MixerRowsBwdRefIdeal.nD Cert.MixerRowsBwdRefIdeal.τ).loc Cert.MixerRowsBwdRefIdeal.main_arg8))
      ∧ r.2.sem = fun _ => 0)

def quiescent_MixerRowsBwdRefIdeal_pre_mixer_rows_finite [hMixerRowsBwdRefIdeal : Cert.MixerRowsBwdRefIdeal.Facts] [hPre_mixer_rows_finite : Cert.Pre_mixer_rows_finite.Facts] : Prop :=
  ∀ (m : (ℓ : Loc Cert.MixerRowsBwdRefIdeal.nD Cert.MixerRowsBwdRefIdeal.τ Cert.MixerRowsBwdRefIdeal.sig) → Buf (Elt Ideal) ℓ) (g : Dev Cert.MixerRowsBwdRefIdeal.nD → PrngReg), Pre_MixerRowsBwdRefIdeal_mixer_rows_finite m →
    θ_run (Cert.MixerRowsBwdRefIdeal.defs (F := Ideal)) (onTc (τ := Cert.MixerRowsBwdRefIdeal.τ) (Cert.MixerRowsBwdRefIdeal.main (F := Ideal))) ⟨m, fun _ => 0, g⟩ (fun r => (∀ c : Dev Cert.MixerRowsBwdRefIdeal.nD,
      r.2.mem ((c.tc : Thread Cert.MixerRowsBwdRefIdeal.nD Cert.MixerRowsBwdRefIdeal.τ).loc Cert.MixerRowsBwdRefIdeal.main_arg0) = m ((c.tc : Thread Cert.MixerRowsBwdRefIdeal.nD Cert.MixerRowsBwdRefIdeal.τ).loc Cert.MixerRowsBwdRefIdeal.main_arg0)
      ∧ r.2.mem ((c.tc : Thread Cert.MixerRowsBwdRefIdeal.nD Cert.MixerRowsBwdRefIdeal.τ).loc Cert.MixerRowsBwdRefIdeal.main_arg1) = m ((c.tc : Thread Cert.MixerRowsBwdRefIdeal.nD Cert.MixerRowsBwdRefIdeal.τ).loc Cert.MixerRowsBwdRefIdeal.main_arg1)
      ∧ r.2.mem ((c.tc : Thread Cert.MixerRowsBwdRefIdeal.nD Cert.MixerRowsBwdRefIdeal.τ).loc Cert.MixerRowsBwdRefIdeal.main_arg2) = m ((c.tc : Thread Cert.MixerRowsBwdRefIdeal.nD Cert.MixerRowsBwdRefIdeal.τ).loc Cert.MixerRowsBwdRefIdeal.main_arg2)
      ∧ r.2.mem ((c.tc : Thread Cert.MixerRowsBwdRefIdeal.nD Cert.MixerRowsBwdRefIdeal.τ).loc Cert.MixerRowsBwdRefIdeal.main_arg3) = m ((c.tc : Thread Cert.MixerRowsBwdRefIdeal.nD Cert.MixerRowsBwdRefIdeal.τ).loc Cert.MixerRowsBwdRefIdeal.main_arg3)
      ∧ r.2.mem ((c.tc : Thread Cert.MixerRowsBwdRefIdeal.nD Cert.MixerRowsBwdRefIdeal.τ).loc Cert.MixerRowsBwdRefIdeal.main_arg4) = m ((c.tc : Thread Cert.MixerRowsBwdRefIdeal.nD Cert.MixerRowsBwdRefIdeal.τ).loc Cert.MixerRowsBwdRefIdeal.main_arg4)
      ∧ r.2.mem ((c.tc : Thread Cert.MixerRowsBwdRefIdeal.nD Cert.MixerRowsBwdRefIdeal.τ).loc Cert.MixerRowsBwdRefIdeal.main_arg5) = m ((c.tc : Thread Cert.MixerRowsBwdRefIdeal.nD Cert.MixerRowsBwdRefIdeal.τ).loc Cert.MixerRowsBwdRefIdeal.main_arg5)
      ∧ r.2.mem ((c.tc : Thread Cert.MixerRowsBwdRefIdeal.nD Cert.MixerRowsBwdRefIdeal.τ).loc Cert.MixerRowsBwdRefIdeal.main_arg6) = m ((c.tc : Thread Cert.MixerRowsBwdRefIdeal.nD Cert.MixerRowsBwdRefIdeal.τ).loc Cert.MixerRowsBwdRefIdeal.main_arg6)
      ∧ r.2.mem ((c.tc : Thread Cert.MixerRowsBwdRefIdeal.nD Cert.MixerRowsBwdRefIdeal.τ).loc Cert.MixerRowsBwdRefIdeal.main_arg7) = m ((c.tc : Thread Cert.MixerRowsBwdRefIdeal.nD Cert.MixerRowsBwdRefIdeal.τ).loc Cert.MixerRowsBwdRefIdeal.main_arg7)
      ∧ r.2.mem ((c.tc : Thread Cert.MixerRowsBwdRefIdeal.nD Cert.MixerRowsBwdRefIdeal.τ).loc Cert.MixerRowsBwdRefIdeal.main_arg8) = m ((c.tc : Thread Cert.MixerRowsBwdRefIdeal.nD Cert.MixerRowsBwdRefIdeal.τ).loc Cert.MixerRowsBwdRefIdeal.main_arg8))
      ∧ r.2.sem = fun _ => 0)

def quiescent_ShortConvBwd [hShortConvBwd : Cert.ShortConvBwd.Facts] : Prop :=
  ∀ (m : (ℓ : Loc Cert.ShortConvBwd.nD Cert.ShortConvBwd.τ Cert.ShortConvBwd.sig) → Buf (Elt Bits) ℓ) (g : Dev Cert.ShortConvBwd.nD → PrngReg), Pre_ShortConvBwd m →
    θ_run (Cert.ShortConvBwd.defs (F := Bits)) (onTc (τ := Cert.ShortConvBwd.τ) (Cert.ShortConvBwd.main (F := Bits))) ⟨m, fun _ => 0, g⟩ (fun r => (∀ c : Dev Cert.ShortConvBwd.nD,
      r.2.mem ((c.tc : Thread Cert.ShortConvBwd.nD Cert.ShortConvBwd.τ).loc Cert.ShortConvBwd.main_arg0) = m ((c.tc : Thread Cert.ShortConvBwd.nD Cert.ShortConvBwd.τ).loc Cert.ShortConvBwd.main_arg0)
      ∧ r.2.mem ((c.tc : Thread Cert.ShortConvBwd.nD Cert.ShortConvBwd.τ).loc Cert.ShortConvBwd.main_arg1) = m ((c.tc : Thread Cert.ShortConvBwd.nD Cert.ShortConvBwd.τ).loc Cert.ShortConvBwd.main_arg1)
      ∧ r.2.mem ((c.tc : Thread Cert.ShortConvBwd.nD Cert.ShortConvBwd.τ).loc Cert.ShortConvBwd.main_arg2) = m ((c.tc : Thread Cert.ShortConvBwd.nD Cert.ShortConvBwd.τ).loc Cert.ShortConvBwd.main_arg2))
      ∧ r.2.sem = fun _ => 0)

def quiescent_ShortConvBwdIdeal [hShortConvBwdIdeal : Cert.ShortConvBwdIdeal.Facts] : Prop :=
  ∀ (m : (ℓ : Loc Cert.ShortConvBwdIdeal.nD Cert.ShortConvBwdIdeal.τ Cert.ShortConvBwdIdeal.sig) → Buf (Elt Ideal) ℓ) (g : Dev Cert.ShortConvBwdIdeal.nD → PrngReg), Pre_ShortConvBwdIdeal m →
    θ_run (Cert.ShortConvBwdIdeal.defs (F := Ideal)) (onTc (τ := Cert.ShortConvBwdIdeal.τ) (Cert.ShortConvBwdIdeal.main (F := Ideal))) ⟨m, fun _ => 0, g⟩ (fun r => (∀ c : Dev Cert.ShortConvBwdIdeal.nD,
      r.2.mem ((c.tc : Thread Cert.ShortConvBwdIdeal.nD Cert.ShortConvBwdIdeal.τ).loc Cert.ShortConvBwdIdeal.main_arg0) = m ((c.tc : Thread Cert.ShortConvBwdIdeal.nD Cert.ShortConvBwdIdeal.τ).loc Cert.ShortConvBwdIdeal.main_arg0)
      ∧ r.2.mem ((c.tc : Thread Cert.ShortConvBwdIdeal.nD Cert.ShortConvBwdIdeal.τ).loc Cert.ShortConvBwdIdeal.main_arg1) = m ((c.tc : Thread Cert.ShortConvBwdIdeal.nD Cert.ShortConvBwdIdeal.τ).loc Cert.ShortConvBwdIdeal.main_arg1)
      ∧ r.2.mem ((c.tc : Thread Cert.ShortConvBwdIdeal.nD Cert.ShortConvBwdIdeal.τ).loc Cert.ShortConvBwdIdeal.main_arg2) = m ((c.tc : Thread Cert.ShortConvBwdIdeal.nD Cert.ShortConvBwdIdeal.τ).loc Cert.ShortConvBwdIdeal.main_arg2))
      ∧ r.2.sem = fun _ => 0)

def quiescent_ShortConvBwdRefIdeal [hShortConvBwdRefIdeal : Cert.ShortConvBwdRefIdeal.Facts] : Prop :=
  ∀ (m : (ℓ : Loc Cert.ShortConvBwdRefIdeal.nD Cert.ShortConvBwdRefIdeal.τ Cert.ShortConvBwdRefIdeal.sig) → Buf (Elt Ideal) ℓ) (g : Dev Cert.ShortConvBwdRefIdeal.nD → PrngReg), Pre_ShortConvBwdRefIdeal m →
    θ_run (Cert.ShortConvBwdRefIdeal.defs (F := Ideal)) (onTc (τ := Cert.ShortConvBwdRefIdeal.τ) (Cert.ShortConvBwdRefIdeal.main (F := Ideal))) ⟨m, fun _ => 0, g⟩ (fun r => (∀ c : Dev Cert.ShortConvBwdRefIdeal.nD,
      r.2.mem ((c.tc : Thread Cert.ShortConvBwdRefIdeal.nD Cert.ShortConvBwdRefIdeal.τ).loc Cert.ShortConvBwdRefIdeal.main_arg0) = m ((c.tc : Thread Cert.ShortConvBwdRefIdeal.nD Cert.ShortConvBwdRefIdeal.τ).loc Cert.ShortConvBwdRefIdeal.main_arg0)
      ∧ r.2.mem ((c.tc : Thread Cert.ShortConvBwdRefIdeal.nD Cert.ShortConvBwdRefIdeal.τ).loc Cert.ShortConvBwdRefIdeal.main_arg1) = m ((c.tc : Thread Cert.ShortConvBwdRefIdeal.nD Cert.ShortConvBwdRefIdeal.τ).loc Cert.ShortConvBwdRefIdeal.main_arg1)
      ∧ r.2.mem ((c.tc : Thread Cert.ShortConvBwdRefIdeal.nD Cert.ShortConvBwdRefIdeal.τ).loc Cert.ShortConvBwdRefIdeal.main_arg2) = m ((c.tc : Thread Cert.ShortConvBwdRefIdeal.nD Cert.ShortConvBwdRefIdeal.τ).loc Cert.ShortConvBwdRefIdeal.main_arg2))
      ∧ r.2.sem = fun _ => 0)

def quiescent_ConformerConvBwd [hConformerConvBwd : Cert.ConformerConvBwd.Facts] : Prop :=
  ∀ (m : (ℓ : Loc Cert.ConformerConvBwd.nD Cert.ConformerConvBwd.τ Cert.ConformerConvBwd.sig) → Buf (Elt Bits) ℓ) (g : Dev Cert.ConformerConvBwd.nD → PrngReg), Pre_ConformerConvBwd m →
    θ_run (Cert.ConformerConvBwd.defs (F := Bits)) (onTc (τ := Cert.ConformerConvBwd.τ) (Cert.ConformerConvBwd.main (F := Bits))) ⟨m, fun _ => 0, g⟩ (fun r => (∀ c : Dev Cert.ConformerConvBwd.nD,
      r.2.mem ((c.tc : Thread Cert.ConformerConvBwd.nD Cert.ConformerConvBwd.τ).loc Cert.ConformerConvBwd.main_arg0) = m ((c.tc : Thread Cert.ConformerConvBwd.nD Cert.ConformerConvBwd.τ).loc Cert.ConformerConvBwd.main_arg0)
      ∧ r.2.mem ((c.tc : Thread Cert.ConformerConvBwd.nD Cert.ConformerConvBwd.τ).loc Cert.ConformerConvBwd.main_arg1) = m ((c.tc : Thread Cert.ConformerConvBwd.nD Cert.ConformerConvBwd.τ).loc Cert.ConformerConvBwd.main_arg1)
      ∧ r.2.mem ((c.tc : Thread Cert.ConformerConvBwd.nD Cert.ConformerConvBwd.τ).loc Cert.ConformerConvBwd.main_arg2) = m ((c.tc : Thread Cert.ConformerConvBwd.nD Cert.ConformerConvBwd.τ).loc Cert.ConformerConvBwd.main_arg2))
      ∧ r.2.sem = fun _ => 0)

def quiescent_ConformerConvBwdIdeal [hConformerConvBwdIdeal : Cert.ConformerConvBwdIdeal.Facts] : Prop :=
  ∀ (m : (ℓ : Loc Cert.ConformerConvBwdIdeal.nD Cert.ConformerConvBwdIdeal.τ Cert.ConformerConvBwdIdeal.sig) → Buf (Elt Ideal) ℓ) (g : Dev Cert.ConformerConvBwdIdeal.nD → PrngReg), Pre_ConformerConvBwdIdeal m →
    θ_run (Cert.ConformerConvBwdIdeal.defs (F := Ideal)) (onTc (τ := Cert.ConformerConvBwdIdeal.τ) (Cert.ConformerConvBwdIdeal.main (F := Ideal))) ⟨m, fun _ => 0, g⟩ (fun r => (∀ c : Dev Cert.ConformerConvBwdIdeal.nD,
      r.2.mem ((c.tc : Thread Cert.ConformerConvBwdIdeal.nD Cert.ConformerConvBwdIdeal.τ).loc Cert.ConformerConvBwdIdeal.main_arg0) = m ((c.tc : Thread Cert.ConformerConvBwdIdeal.nD Cert.ConformerConvBwdIdeal.τ).loc Cert.ConformerConvBwdIdeal.main_arg0)
      ∧ r.2.mem ((c.tc : Thread Cert.ConformerConvBwdIdeal.nD Cert.ConformerConvBwdIdeal.τ).loc Cert.ConformerConvBwdIdeal.main_arg1) = m ((c.tc : Thread Cert.ConformerConvBwdIdeal.nD Cert.ConformerConvBwdIdeal.τ).loc Cert.ConformerConvBwdIdeal.main_arg1)
      ∧ r.2.mem ((c.tc : Thread Cert.ConformerConvBwdIdeal.nD Cert.ConformerConvBwdIdeal.τ).loc Cert.ConformerConvBwdIdeal.main_arg2) = m ((c.tc : Thread Cert.ConformerConvBwdIdeal.nD Cert.ConformerConvBwdIdeal.τ).loc Cert.ConformerConvBwdIdeal.main_arg2))
      ∧ r.2.sem = fun _ => 0)

def quiescent_ConformerConvBwdRefIdeal [hConformerConvBwdRefIdeal : Cert.ConformerConvBwdRefIdeal.Facts] : Prop :=
  ∀ (m : (ℓ : Loc Cert.ConformerConvBwdRefIdeal.nD Cert.ConformerConvBwdRefIdeal.τ Cert.ConformerConvBwdRefIdeal.sig) → Buf (Elt Ideal) ℓ) (g : Dev Cert.ConformerConvBwdRefIdeal.nD → PrngReg), Pre_ConformerConvBwdRefIdeal m →
    θ_run (Cert.ConformerConvBwdRefIdeal.defs (F := Ideal)) (onTc (τ := Cert.ConformerConvBwdRefIdeal.τ) (Cert.ConformerConvBwdRefIdeal.main (F := Ideal))) ⟨m, fun _ => 0, g⟩ (fun r => (∀ c : Dev Cert.ConformerConvBwdRefIdeal.nD,
      r.2.mem ((c.tc : Thread Cert.ConformerConvBwdRefIdeal.nD Cert.ConformerConvBwdRefIdeal.τ).loc Cert.ConformerConvBwdRefIdeal.main_arg0) = m ((c.tc : Thread Cert.ConformerConvBwdRefIdeal.nD Cert.ConformerConvBwdRefIdeal.τ).loc Cert.ConformerConvBwdRefIdeal.main_arg0)
      ∧ r.2.mem ((c.tc : Thread Cert.ConformerConvBwdRefIdeal.nD Cert.ConformerConvBwdRefIdeal.τ).loc Cert.ConformerConvBwdRefIdeal.main_arg1) = m ((c.tc : Thread Cert.ConformerConvBwdRefIdeal.nD Cert.ConformerConvBwdRefIdeal.τ).loc Cert.ConformerConvBwdRefIdeal.main_arg1)
      ∧ r.2.mem ((c.tc : Thread Cert.ConformerConvBwdRefIdeal.nD Cert.ConformerConvBwdRefIdeal.τ).loc Cert.ConformerConvBwdRefIdeal.main_arg2) = m ((c.tc : Thread Cert.ConformerConvBwdRefIdeal.nD Cert.ConformerConvBwdRefIdeal.τ).loc Cert.ConformerConvBwdRefIdeal.main_arg2))
      ∧ r.2.sem = fun _ => 0)

def quiescent_FfnOutBwd [hFfnOutBwd : Cert.FfnOutBwd.Facts] : Prop :=
  ∀ (m : (ℓ : Loc Cert.FfnOutBwd.nD Cert.FfnOutBwd.τ Cert.FfnOutBwd.sig) → Buf (Elt Bits) ℓ) (g : Dev Cert.FfnOutBwd.nD → PrngReg), Pre_FfnOutBwd m →
    θ_run (Cert.FfnOutBwd.defs (F := Bits)) (onTc (τ := Cert.FfnOutBwd.τ) (Cert.FfnOutBwd.main (F := Bits))) ⟨m, fun _ => 0, g⟩ (fun r => (∀ c : Dev Cert.FfnOutBwd.nD,
      r.2.mem ((c.tc : Thread Cert.FfnOutBwd.nD Cert.FfnOutBwd.τ).loc Cert.FfnOutBwd.main_arg0) = m ((c.tc : Thread Cert.FfnOutBwd.nD Cert.FfnOutBwd.τ).loc Cert.FfnOutBwd.main_arg0)
      ∧ r.2.mem ((c.tc : Thread Cert.FfnOutBwd.nD Cert.FfnOutBwd.τ).loc Cert.FfnOutBwd.main_arg1) = m ((c.tc : Thread Cert.FfnOutBwd.nD Cert.FfnOutBwd.τ).loc Cert.FfnOutBwd.main_arg1)
      ∧ r.2.mem ((c.tc : Thread Cert.FfnOutBwd.nD Cert.FfnOutBwd.τ).loc Cert.FfnOutBwd.main_arg2) = m ((c.tc : Thread Cert.FfnOutBwd.nD Cert.FfnOutBwd.τ).loc Cert.FfnOutBwd.main_arg2)
      ∧ r.2.mem ((c.tc : Thread Cert.FfnOutBwd.nD Cert.FfnOutBwd.τ).loc Cert.FfnOutBwd.main_arg3) = m ((c.tc : Thread Cert.FfnOutBwd.nD Cert.FfnOutBwd.τ).loc Cert.FfnOutBwd.main_arg3))
      ∧ r.2.sem = fun _ => 0)

def quiescent_FfnOutBwdIdeal [hFfnOutBwdIdeal : Cert.FfnOutBwdIdeal.Facts] : Prop :=
  ∀ (m : (ℓ : Loc Cert.FfnOutBwdIdeal.nD Cert.FfnOutBwdIdeal.τ Cert.FfnOutBwdIdeal.sig) → Buf (Elt Ideal) ℓ) (g : Dev Cert.FfnOutBwdIdeal.nD → PrngReg), Pre_FfnOutBwdIdeal m →
    θ_run (Cert.FfnOutBwdIdeal.defs (F := Ideal)) (onTc (τ := Cert.FfnOutBwdIdeal.τ) (Cert.FfnOutBwdIdeal.main (F := Ideal))) ⟨m, fun _ => 0, g⟩ (fun r => (∀ c : Dev Cert.FfnOutBwdIdeal.nD,
      r.2.mem ((c.tc : Thread Cert.FfnOutBwdIdeal.nD Cert.FfnOutBwdIdeal.τ).loc Cert.FfnOutBwdIdeal.main_arg0) = m ((c.tc : Thread Cert.FfnOutBwdIdeal.nD Cert.FfnOutBwdIdeal.τ).loc Cert.FfnOutBwdIdeal.main_arg0)
      ∧ r.2.mem ((c.tc : Thread Cert.FfnOutBwdIdeal.nD Cert.FfnOutBwdIdeal.τ).loc Cert.FfnOutBwdIdeal.main_arg1) = m ((c.tc : Thread Cert.FfnOutBwdIdeal.nD Cert.FfnOutBwdIdeal.τ).loc Cert.FfnOutBwdIdeal.main_arg1)
      ∧ r.2.mem ((c.tc : Thread Cert.FfnOutBwdIdeal.nD Cert.FfnOutBwdIdeal.τ).loc Cert.FfnOutBwdIdeal.main_arg2) = m ((c.tc : Thread Cert.FfnOutBwdIdeal.nD Cert.FfnOutBwdIdeal.τ).loc Cert.FfnOutBwdIdeal.main_arg2)
      ∧ r.2.mem ((c.tc : Thread Cert.FfnOutBwdIdeal.nD Cert.FfnOutBwdIdeal.τ).loc Cert.FfnOutBwdIdeal.main_arg3) = m ((c.tc : Thread Cert.FfnOutBwdIdeal.nD Cert.FfnOutBwdIdeal.τ).loc Cert.FfnOutBwdIdeal.main_arg3))
      ∧ r.2.sem = fun _ => 0)

def quiescent_FfnOutBwdIdeal_pre_ffn_out_finite [hFfnOutBwdIdeal : Cert.FfnOutBwdIdeal.Facts] [hPre_ffn_out_finite : Cert.Pre_ffn_out_finite.Facts] : Prop :=
  ∀ (m : (ℓ : Loc Cert.FfnOutBwdIdeal.nD Cert.FfnOutBwdIdeal.τ Cert.FfnOutBwdIdeal.sig) → Buf (Elt Ideal) ℓ) (g : Dev Cert.FfnOutBwdIdeal.nD → PrngReg), Pre_FfnOutBwdIdeal_ffn_out_finite m →
    θ_run (Cert.FfnOutBwdIdeal.defs (F := Ideal)) (onTc (τ := Cert.FfnOutBwdIdeal.τ) (Cert.FfnOutBwdIdeal.main (F := Ideal))) ⟨m, fun _ => 0, g⟩ (fun r => (∀ c : Dev Cert.FfnOutBwdIdeal.nD,
      r.2.mem ((c.tc : Thread Cert.FfnOutBwdIdeal.nD Cert.FfnOutBwdIdeal.τ).loc Cert.FfnOutBwdIdeal.main_arg0) = m ((c.tc : Thread Cert.FfnOutBwdIdeal.nD Cert.FfnOutBwdIdeal.τ).loc Cert.FfnOutBwdIdeal.main_arg0)
      ∧ r.2.mem ((c.tc : Thread Cert.FfnOutBwdIdeal.nD Cert.FfnOutBwdIdeal.τ).loc Cert.FfnOutBwdIdeal.main_arg1) = m ((c.tc : Thread Cert.FfnOutBwdIdeal.nD Cert.FfnOutBwdIdeal.τ).loc Cert.FfnOutBwdIdeal.main_arg1)
      ∧ r.2.mem ((c.tc : Thread Cert.FfnOutBwdIdeal.nD Cert.FfnOutBwdIdeal.τ).loc Cert.FfnOutBwdIdeal.main_arg2) = m ((c.tc : Thread Cert.FfnOutBwdIdeal.nD Cert.FfnOutBwdIdeal.τ).loc Cert.FfnOutBwdIdeal.main_arg2)
      ∧ r.2.mem ((c.tc : Thread Cert.FfnOutBwdIdeal.nD Cert.FfnOutBwdIdeal.τ).loc Cert.FfnOutBwdIdeal.main_arg3) = m ((c.tc : Thread Cert.FfnOutBwdIdeal.nD Cert.FfnOutBwdIdeal.τ).loc Cert.FfnOutBwdIdeal.main_arg3))
      ∧ r.2.sem = fun _ => 0)

def quiescent_FfnOutBwdRefIdeal [hFfnOutBwdRefIdeal : Cert.FfnOutBwdRefIdeal.Facts] : Prop :=
  ∀ (m : (ℓ : Loc Cert.FfnOutBwdRefIdeal.nD Cert.FfnOutBwdRefIdeal.τ Cert.FfnOutBwdRefIdeal.sig) → Buf (Elt Ideal) ℓ) (g : Dev Cert.FfnOutBwdRefIdeal.nD → PrngReg), Pre_FfnOutBwdRefIdeal m →
    θ_run (Cert.FfnOutBwdRefIdeal.defs (F := Ideal)) (onTc (τ := Cert.FfnOutBwdRefIdeal.τ) (Cert.FfnOutBwdRefIdeal.main (F := Ideal))) ⟨m, fun _ => 0, g⟩ (fun r => (∀ c : Dev Cert.FfnOutBwdRefIdeal.nD,
      r.2.mem ((c.tc : Thread Cert.FfnOutBwdRefIdeal.nD Cert.FfnOutBwdRefIdeal.τ).loc Cert.FfnOutBwdRefIdeal.main_arg0) = m ((c.tc : Thread Cert.FfnOutBwdRefIdeal.nD Cert.FfnOutBwdRefIdeal.τ).loc Cert.FfnOutBwdRefIdeal.main_arg0)
      ∧ r.2.mem ((c.tc : Thread Cert.FfnOutBwdRefIdeal.nD Cert.FfnOutBwdRefIdeal.τ).loc Cert.FfnOutBwdRefIdeal.main_arg1) = m ((c.tc : Thread Cert.FfnOutBwdRefIdeal.nD Cert.FfnOutBwdRefIdeal.τ).loc Cert.FfnOutBwdRefIdeal.main_arg1)
      ∧ r.2.mem ((c.tc : Thread Cert.FfnOutBwdRefIdeal.nD Cert.FfnOutBwdRefIdeal.τ).loc Cert.FfnOutBwdRefIdeal.main_arg2) = m ((c.tc : Thread Cert.FfnOutBwdRefIdeal.nD Cert.FfnOutBwdRefIdeal.τ).loc Cert.FfnOutBwdRefIdeal.main_arg2)
      ∧ r.2.mem ((c.tc : Thread Cert.FfnOutBwdRefIdeal.nD Cert.FfnOutBwdRefIdeal.τ).loc Cert.FfnOutBwdRefIdeal.main_arg3) = m ((c.tc : Thread Cert.FfnOutBwdRefIdeal.nD Cert.FfnOutBwdRefIdeal.τ).loc Cert.FfnOutBwdRefIdeal.main_arg3))
      ∧ r.2.sem = fun _ => 0)

def quiescent_FfnOutBwdRefIdeal_pre_ffn_out_finite [hFfnOutBwdRefIdeal : Cert.FfnOutBwdRefIdeal.Facts] [hPre_ffn_out_finite : Cert.Pre_ffn_out_finite.Facts] : Prop :=
  ∀ (m : (ℓ : Loc Cert.FfnOutBwdRefIdeal.nD Cert.FfnOutBwdRefIdeal.τ Cert.FfnOutBwdRefIdeal.sig) → Buf (Elt Ideal) ℓ) (g : Dev Cert.FfnOutBwdRefIdeal.nD → PrngReg), Pre_FfnOutBwdRefIdeal_ffn_out_finite m →
    θ_run (Cert.FfnOutBwdRefIdeal.defs (F := Ideal)) (onTc (τ := Cert.FfnOutBwdRefIdeal.τ) (Cert.FfnOutBwdRefIdeal.main (F := Ideal))) ⟨m, fun _ => 0, g⟩ (fun r => (∀ c : Dev Cert.FfnOutBwdRefIdeal.nD,
      r.2.mem ((c.tc : Thread Cert.FfnOutBwdRefIdeal.nD Cert.FfnOutBwdRefIdeal.τ).loc Cert.FfnOutBwdRefIdeal.main_arg0) = m ((c.tc : Thread Cert.FfnOutBwdRefIdeal.nD Cert.FfnOutBwdRefIdeal.τ).loc Cert.FfnOutBwdRefIdeal.main_arg0)
      ∧ r.2.mem ((c.tc : Thread Cert.FfnOutBwdRefIdeal.nD Cert.FfnOutBwdRefIdeal.τ).loc Cert.FfnOutBwdRefIdeal.main_arg1) = m ((c.tc : Thread Cert.FfnOutBwdRefIdeal.nD Cert.FfnOutBwdRefIdeal.τ).loc Cert.FfnOutBwdRefIdeal.main_arg1)
      ∧ r.2.mem ((c.tc : Thread Cert.FfnOutBwdRefIdeal.nD Cert.FfnOutBwdRefIdeal.τ).loc Cert.FfnOutBwdRefIdeal.main_arg2) = m ((c.tc : Thread Cert.FfnOutBwdRefIdeal.nD Cert.FfnOutBwdRefIdeal.τ).loc Cert.FfnOutBwdRefIdeal.main_arg2)
      ∧ r.2.mem ((c.tc : Thread Cert.FfnOutBwdRefIdeal.nD Cert.FfnOutBwdRefIdeal.τ).loc Cert.FfnOutBwdRefIdeal.main_arg3) = m ((c.tc : Thread Cert.FfnOutBwdRefIdeal.nD Cert.FfnOutBwdRefIdeal.τ).loc Cert.FfnOutBwdRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3))
      ∧ r.2.sem = fun _ => 0)

def quiescent_LnFfnBwd [hLnFfnBwd : Cert.LnFfnBwd.Facts] : Prop :=
  ∀ (m : (ℓ : Loc Cert.LnFfnBwd.nD Cert.LnFfnBwd.τ Cert.LnFfnBwd.sig) → Buf (Elt Bits) ℓ) (g : Dev Cert.LnFfnBwd.nD → PrngReg), Pre_LnFfnBwd m →
    θ_run (Cert.LnFfnBwd.defs (F := Bits)) (onTc (τ := Cert.LnFfnBwd.τ) (Cert.LnFfnBwd.main (F := Bits))) ⟨m, fun _ => 0, g⟩ (fun r => (∀ c : Dev Cert.LnFfnBwd.nD,
      r.2.mem ((c.tc : Thread Cert.LnFfnBwd.nD Cert.LnFfnBwd.τ).loc Cert.LnFfnBwd.main_arg0) = m ((c.tc : Thread Cert.LnFfnBwd.nD Cert.LnFfnBwd.τ).loc Cert.LnFfnBwd.main_arg0)
      ∧ r.2.mem ((c.tc : Thread Cert.LnFfnBwd.nD Cert.LnFfnBwd.τ).loc Cert.LnFfnBwd.main_arg1) = m ((c.tc : Thread Cert.LnFfnBwd.nD Cert.LnFfnBwd.τ).loc Cert.LnFfnBwd.main_arg1)
      ∧ r.2.mem ((c.tc : Thread Cert.LnFfnBwd.nD Cert.LnFfnBwd.τ).loc Cert.LnFfnBwd.main_arg2) = m ((c.tc : Thread Cert.LnFfnBwd.nD Cert.LnFfnBwd.τ).loc Cert.LnFfnBwd.main_arg2)
      ∧ r.2.mem ((c.tc : Thread Cert.LnFfnBwd.nD Cert.LnFfnBwd.τ).loc Cert.LnFfnBwd.main_arg3) = m ((c.tc : Thread Cert.LnFfnBwd.nD Cert.LnFfnBwd.τ).loc Cert.LnFfnBwd.main_arg3)
      ∧ r.2.mem ((c.tc : Thread Cert.LnFfnBwd.nD Cert.LnFfnBwd.τ).loc Cert.LnFfnBwd.main_arg4) = m ((c.tc : Thread Cert.LnFfnBwd.nD Cert.LnFfnBwd.τ).loc Cert.LnFfnBwd.main_arg4))
      ∧ r.2.sem = fun _ => 0)

def quiescent_LnFfnBwdIdeal [hLnFfnBwdIdeal : Cert.LnFfnBwdIdeal.Facts] : Prop :=
  ∀ (m : (ℓ : Loc Cert.LnFfnBwdIdeal.nD Cert.LnFfnBwdIdeal.τ Cert.LnFfnBwdIdeal.sig) → Buf (Elt Ideal) ℓ) (g : Dev Cert.LnFfnBwdIdeal.nD → PrngReg), Pre_LnFfnBwdIdeal m →
    θ_run (Cert.LnFfnBwdIdeal.defs (F := Ideal)) (onTc (τ := Cert.LnFfnBwdIdeal.τ) (Cert.LnFfnBwdIdeal.main (F := Ideal))) ⟨m, fun _ => 0, g⟩ (fun r => (∀ c : Dev Cert.LnFfnBwdIdeal.nD,
      r.2.mem ((c.tc : Thread Cert.LnFfnBwdIdeal.nD Cert.LnFfnBwdIdeal.τ).loc Cert.LnFfnBwdIdeal.main_arg0) = m ((c.tc : Thread Cert.LnFfnBwdIdeal.nD Cert.LnFfnBwdIdeal.τ).loc Cert.LnFfnBwdIdeal.main_arg0)
      ∧ r.2.mem ((c.tc : Thread Cert.LnFfnBwdIdeal.nD Cert.LnFfnBwdIdeal.τ).loc Cert.LnFfnBwdIdeal.main_arg1) = m ((c.tc : Thread Cert.LnFfnBwdIdeal.nD Cert.LnFfnBwdIdeal.τ).loc Cert.LnFfnBwdIdeal.main_arg1)
      ∧ r.2.mem ((c.tc : Thread Cert.LnFfnBwdIdeal.nD Cert.LnFfnBwdIdeal.τ).loc Cert.LnFfnBwdIdeal.main_arg2) = m ((c.tc : Thread Cert.LnFfnBwdIdeal.nD Cert.LnFfnBwdIdeal.τ).loc Cert.LnFfnBwdIdeal.main_arg2)
      ∧ r.2.mem ((c.tc : Thread Cert.LnFfnBwdIdeal.nD Cert.LnFfnBwdIdeal.τ).loc Cert.LnFfnBwdIdeal.main_arg3) = m ((c.tc : Thread Cert.LnFfnBwdIdeal.nD Cert.LnFfnBwdIdeal.τ).loc Cert.LnFfnBwdIdeal.main_arg3)
      ∧ r.2.mem ((c.tc : Thread Cert.LnFfnBwdIdeal.nD Cert.LnFfnBwdIdeal.τ).loc Cert.LnFfnBwdIdeal.main_arg4) = m ((c.tc : Thread Cert.LnFfnBwdIdeal.nD Cert.LnFfnBwdIdeal.τ).loc Cert.LnFfnBwdIdeal.main_arg4))
      ∧ r.2.sem = fun _ => 0)

def quiescent_LnFfnBwdIdeal_pre_ln_ffn_finite [hLnFfnBwdIdeal : Cert.LnFfnBwdIdeal.Facts] [hPre_ln_ffn_finite : Cert.Pre_ln_ffn_finite.Facts] : Prop :=
  ∀ (m : (ℓ : Loc Cert.LnFfnBwdIdeal.nD Cert.LnFfnBwdIdeal.τ Cert.LnFfnBwdIdeal.sig) → Buf (Elt Ideal) ℓ) (g : Dev Cert.LnFfnBwdIdeal.nD → PrngReg), Pre_LnFfnBwdIdeal_ln_ffn_finite m →
    θ_run (Cert.LnFfnBwdIdeal.defs (F := Ideal)) (onTc (τ := Cert.LnFfnBwdIdeal.τ) (Cert.LnFfnBwdIdeal.main (F := Ideal))) ⟨m, fun _ => 0, g⟩ (fun r => (∀ c : Dev Cert.LnFfnBwdIdeal.nD,
      r.2.mem ((c.tc : Thread Cert.LnFfnBwdIdeal.nD Cert.LnFfnBwdIdeal.τ).loc Cert.LnFfnBwdIdeal.main_arg0) = m ((c.tc : Thread Cert.LnFfnBwdIdeal.nD Cert.LnFfnBwdIdeal.τ).loc Cert.LnFfnBwdIdeal.main_arg0)
      ∧ r.2.mem ((c.tc : Thread Cert.LnFfnBwdIdeal.nD Cert.LnFfnBwdIdeal.τ).loc Cert.LnFfnBwdIdeal.main_arg1) = m ((c.tc : Thread Cert.LnFfnBwdIdeal.nD Cert.LnFfnBwdIdeal.τ).loc Cert.LnFfnBwdIdeal.main_arg1)
      ∧ r.2.mem ((c.tc : Thread Cert.LnFfnBwdIdeal.nD Cert.LnFfnBwdIdeal.τ).loc Cert.LnFfnBwdIdeal.main_arg2) = m ((c.tc : Thread Cert.LnFfnBwdIdeal.nD Cert.LnFfnBwdIdeal.τ).loc Cert.LnFfnBwdIdeal.main_arg2)
      ∧ r.2.mem ((c.tc : Thread Cert.LnFfnBwdIdeal.nD Cert.LnFfnBwdIdeal.τ).loc Cert.LnFfnBwdIdeal.main_arg3) = m ((c.tc : Thread Cert.LnFfnBwdIdeal.nD Cert.LnFfnBwdIdeal.τ).loc Cert.LnFfnBwdIdeal.main_arg3)
      ∧ r.2.mem ((c.tc : Thread Cert.LnFfnBwdIdeal.nD Cert.LnFfnBwdIdeal.τ).loc Cert.LnFfnBwdIdeal.main_arg4) = m ((c.tc : Thread Cert.LnFfnBwdIdeal.nD Cert.LnFfnBwdIdeal.τ).loc Cert.LnFfnBwdIdeal.main_arg4))
      ∧ r.2.sem = fun _ => 0)

def quiescent_LnFfnBwdRefIdeal [hLnFfnBwdRefIdeal : Cert.LnFfnBwdRefIdeal.Facts] : Prop :=
  ∀ (m : (ℓ : Loc Cert.LnFfnBwdRefIdeal.nD Cert.LnFfnBwdRefIdeal.τ Cert.LnFfnBwdRefIdeal.sig) → Buf (Elt Ideal) ℓ) (g : Dev Cert.LnFfnBwdRefIdeal.nD → PrngReg), Pre_LnFfnBwdRefIdeal m →
    θ_run (Cert.LnFfnBwdRefIdeal.defs (F := Ideal)) (onTc (τ := Cert.LnFfnBwdRefIdeal.τ) (Cert.LnFfnBwdRefIdeal.main (F := Ideal))) ⟨m, fun _ => 0, g⟩ (fun r => (∀ c : Dev Cert.LnFfnBwdRefIdeal.nD,
      r.2.mem ((c.tc : Thread Cert.LnFfnBwdRefIdeal.nD Cert.LnFfnBwdRefIdeal.τ).loc Cert.LnFfnBwdRefIdeal.main_arg0) = m ((c.tc : Thread Cert.LnFfnBwdRefIdeal.nD Cert.LnFfnBwdRefIdeal.τ).loc Cert.LnFfnBwdRefIdeal.main_arg0)
      ∧ r.2.mem ((c.tc : Thread Cert.LnFfnBwdRefIdeal.nD Cert.LnFfnBwdRefIdeal.τ).loc Cert.LnFfnBwdRefIdeal.main_arg1) = m ((c.tc : Thread Cert.LnFfnBwdRefIdeal.nD Cert.LnFfnBwdRefIdeal.τ).loc Cert.LnFfnBwdRefIdeal.main_arg1)
      ∧ r.2.mem ((c.tc : Thread Cert.LnFfnBwdRefIdeal.nD Cert.LnFfnBwdRefIdeal.τ).loc Cert.LnFfnBwdRefIdeal.main_arg2) = m ((c.tc : Thread Cert.LnFfnBwdRefIdeal.nD Cert.LnFfnBwdRefIdeal.τ).loc Cert.LnFfnBwdRefIdeal.main_arg2)
      ∧ r.2.mem ((c.tc : Thread Cert.LnFfnBwdRefIdeal.nD Cert.LnFfnBwdRefIdeal.τ).loc Cert.LnFfnBwdRefIdeal.main_arg3) = m ((c.tc : Thread Cert.LnFfnBwdRefIdeal.nD Cert.LnFfnBwdRefIdeal.τ).loc Cert.LnFfnBwdRefIdeal.main_arg3)
      ∧ r.2.mem ((c.tc : Thread Cert.LnFfnBwdRefIdeal.nD Cert.LnFfnBwdRefIdeal.τ).loc Cert.LnFfnBwdRefIdeal.main_arg4) = m ((c.tc : Thread Cert.LnFfnBwdRefIdeal.nD Cert.LnFfnBwdRefIdeal.τ).loc Cert.LnFfnBwdRefIdeal.main_arg4))
      ∧ r.2.sem = fun _ => 0)

def quiescent_LnFfnBwdRefIdeal_pre_ln_ffn_finite [hLnFfnBwdRefIdeal : Cert.LnFfnBwdRefIdeal.Facts] [hPre_ln_ffn_finite : Cert.Pre_ln_ffn_finite.Facts] : Prop :=
  ∀ (m : (ℓ : Loc Cert.LnFfnBwdRefIdeal.nD Cert.LnFfnBwdRefIdeal.τ Cert.LnFfnBwdRefIdeal.sig) → Buf (Elt Ideal) ℓ) (g : Dev Cert.LnFfnBwdRefIdeal.nD → PrngReg), Pre_LnFfnBwdRefIdeal_ln_ffn_finite m →
    θ_run (Cert.LnFfnBwdRefIdeal.defs (F := Ideal)) (onTc (τ := Cert.LnFfnBwdRefIdeal.τ) (Cert.LnFfnBwdRefIdeal.main (F := Ideal))) ⟨m, fun _ => 0, g⟩ (fun r => (∀ c : Dev Cert.LnFfnBwdRefIdeal.nD,
      r.2.mem ((c.tc : Thread Cert.LnFfnBwdRefIdeal.nD Cert.LnFfnBwdRefIdeal.τ).loc Cert.LnFfnBwdRefIdeal.main_arg0) = m ((c.tc : Thread Cert.LnFfnBwdRefIdeal.nD Cert.LnFfnBwdRefIdeal.τ).loc Cert.LnFfnBwdRefIdeal.main_arg0)
      ∧ r.2.mem ((c.tc : Thread Cert.LnFfnBwdRefIdeal.nD Cert.LnFfnBwdRefIdeal.τ).loc Cert.LnFfnBwdRefIdeal.main_arg1) = m ((c.tc : Thread Cert.LnFfnBwdRefIdeal.nD Cert.LnFfnBwdRefIdeal.τ).loc Cert.LnFfnBwdRefIdeal.main_arg1)
      ∧ r.2.mem ((c.tc : Thread Cert.LnFfnBwdRefIdeal.nD Cert.LnFfnBwdRefIdeal.τ).loc Cert.LnFfnBwdRefIdeal.main_arg2) = m ((c.tc : Thread Cert.LnFfnBwdRefIdeal.nD Cert.LnFfnBwdRefIdeal.τ).loc Cert.LnFfnBwdRefIdeal.main_arg2)
      ∧ r.2.mem ((c.tc : Thread Cert.LnFfnBwdRefIdeal.nD Cert.LnFfnBwdRefIdeal.τ).loc Cert.LnFfnBwdRefIdeal.main_arg3) = m ((c.tc : Thread Cert.LnFfnBwdRefIdeal.nD Cert.LnFfnBwdRefIdeal.τ).loc Cert.LnFfnBwdRefIdeal.main_arg3)
      ∧ r.2.mem ((c.tc : Thread Cert.LnFfnBwdRefIdeal.nD Cert.LnFfnBwdRefIdeal.τ).loc Cert.LnFfnBwdRefIdeal.main_arg4) = m ((c.tc : Thread Cert.LnFfnBwdRefIdeal.nD Cert.LnFfnBwdRefIdeal.τ).loc Cert.LnFfnBwdRefIdeal.main_arg4))
      ∧ r.2.sem = fun _ => 0)

def quiescent_LnInBwd [hLnInBwd : Cert.LnInBwd.Facts] : Prop :=
  ∀ (m : (ℓ : Loc Cert.LnInBwd.nD Cert.LnInBwd.τ Cert.LnInBwd.sig) → Buf (Elt Bits) ℓ) (g : Dev Cert.LnInBwd.nD → PrngReg), Pre_LnInBwd m →
    θ_run (Cert.LnInBwd.defs (F := Bits)) (onTc (τ := Cert.LnInBwd.τ) (Cert.LnInBwd.main (F := Bits))) ⟨m, fun _ => 0, g⟩ (fun r => (∀ c : Dev Cert.LnInBwd.nD,
      r.2.mem ((c.tc : Thread Cert.LnInBwd.nD Cert.LnInBwd.τ).loc Cert.LnInBwd.main_arg0) = m ((c.tc : Thread Cert.LnInBwd.nD Cert.LnInBwd.τ).loc Cert.LnInBwd.main_arg0)
      ∧ r.2.mem ((c.tc : Thread Cert.LnInBwd.nD Cert.LnInBwd.τ).loc Cert.LnInBwd.main_arg1) = m ((c.tc : Thread Cert.LnInBwd.nD Cert.LnInBwd.τ).loc Cert.LnInBwd.main_arg1)
      ∧ r.2.mem ((c.tc : Thread Cert.LnInBwd.nD Cert.LnInBwd.τ).loc Cert.LnInBwd.main_arg2) = m ((c.tc : Thread Cert.LnInBwd.nD Cert.LnInBwd.τ).loc Cert.LnInBwd.main_arg2)
      ∧ r.2.mem ((c.tc : Thread Cert.LnInBwd.nD Cert.LnInBwd.τ).loc Cert.LnInBwd.main_arg3) = m ((c.tc : Thread Cert.LnInBwd.nD Cert.LnInBwd.τ).loc Cert.LnInBwd.main_arg3))
      ∧ r.2.sem = fun _ => 0)

def quiescent_LnInBwdIdeal [hLnInBwdIdeal : Cert.LnInBwdIdeal.Facts] : Prop :=
  ∀ (m : (ℓ : Loc Cert.LnInBwdIdeal.nD Cert.LnInBwdIdeal.τ Cert.LnInBwdIdeal.sig) → Buf (Elt Ideal) ℓ) (g : Dev Cert.LnInBwdIdeal.nD → PrngReg), Pre_LnInBwdIdeal m →
    θ_run (Cert.LnInBwdIdeal.defs (F := Ideal)) (onTc (τ := Cert.LnInBwdIdeal.τ) (Cert.LnInBwdIdeal.main (F := Ideal))) ⟨m, fun _ => 0, g⟩ (fun r => (∀ c : Dev Cert.LnInBwdIdeal.nD,
      r.2.mem ((c.tc : Thread Cert.LnInBwdIdeal.nD Cert.LnInBwdIdeal.τ).loc Cert.LnInBwdIdeal.main_arg0) = m ((c.tc : Thread Cert.LnInBwdIdeal.nD Cert.LnInBwdIdeal.τ).loc Cert.LnInBwdIdeal.main_arg0)
      ∧ r.2.mem ((c.tc : Thread Cert.LnInBwdIdeal.nD Cert.LnInBwdIdeal.τ).loc Cert.LnInBwdIdeal.main_arg1) = m ((c.tc : Thread Cert.LnInBwdIdeal.nD Cert.LnInBwdIdeal.τ).loc Cert.LnInBwdIdeal.main_arg1)
      ∧ r.2.mem ((c.tc : Thread Cert.LnInBwdIdeal.nD Cert.LnInBwdIdeal.τ).loc Cert.LnInBwdIdeal.main_arg2) = m ((c.tc : Thread Cert.LnInBwdIdeal.nD Cert.LnInBwdIdeal.τ).loc Cert.LnInBwdIdeal.main_arg2)
      ∧ r.2.mem ((c.tc : Thread Cert.LnInBwdIdeal.nD Cert.LnInBwdIdeal.τ).loc Cert.LnInBwdIdeal.main_arg3) = m ((c.tc : Thread Cert.LnInBwdIdeal.nD Cert.LnInBwdIdeal.τ).loc Cert.LnInBwdIdeal.main_arg3))
      ∧ r.2.sem = fun _ => 0)

def quiescent_LnInBwdIdeal_pre_ln_in_finite [hLnInBwdIdeal : Cert.LnInBwdIdeal.Facts] [hPre_ln_in_finite : Cert.Pre_ln_in_finite.Facts] : Prop :=
  ∀ (m : (ℓ : Loc Cert.LnInBwdIdeal.nD Cert.LnInBwdIdeal.τ Cert.LnInBwdIdeal.sig) → Buf (Elt Ideal) ℓ) (g : Dev Cert.LnInBwdIdeal.nD → PrngReg), Pre_LnInBwdIdeal_ln_in_finite m →
    θ_run (Cert.LnInBwdIdeal.defs (F := Ideal)) (onTc (τ := Cert.LnInBwdIdeal.τ) (Cert.LnInBwdIdeal.main (F := Ideal))) ⟨m, fun _ => 0, g⟩ (fun r => (∀ c : Dev Cert.LnInBwdIdeal.nD,
      r.2.mem ((c.tc : Thread Cert.LnInBwdIdeal.nD Cert.LnInBwdIdeal.τ).loc Cert.LnInBwdIdeal.main_arg0) = m ((c.tc : Thread Cert.LnInBwdIdeal.nD Cert.LnInBwdIdeal.τ).loc Cert.LnInBwdIdeal.main_arg0)
      ∧ r.2.mem ((c.tc : Thread Cert.LnInBwdIdeal.nD Cert.LnInBwdIdeal.τ).loc Cert.LnInBwdIdeal.main_arg1) = m ((c.tc : Thread Cert.LnInBwdIdeal.nD Cert.LnInBwdIdeal.τ).loc Cert.LnInBwdIdeal.main_arg1)
      ∧ r.2.mem ((c.tc : Thread Cert.LnInBwdIdeal.nD Cert.LnInBwdIdeal.τ).loc Cert.LnInBwdIdeal.main_arg2) = m ((c.tc : Thread Cert.LnInBwdIdeal.nD Cert.LnInBwdIdeal.τ).loc Cert.LnInBwdIdeal.main_arg2)
      ∧ r.2.mem ((c.tc : Thread Cert.LnInBwdIdeal.nD Cert.LnInBwdIdeal.τ).loc Cert.LnInBwdIdeal.main_arg3) = m ((c.tc : Thread Cert.LnInBwdIdeal.nD Cert.LnInBwdIdeal.τ).loc Cert.LnInBwdIdeal.main_arg3))
      ∧ r.2.sem = fun _ => 0)

def quiescent_LnInBwdRefIdeal [hLnInBwdRefIdeal : Cert.LnInBwdRefIdeal.Facts] : Prop :=
  ∀ (m : (ℓ : Loc Cert.LnInBwdRefIdeal.nD Cert.LnInBwdRefIdeal.τ Cert.LnInBwdRefIdeal.sig) → Buf (Elt Ideal) ℓ) (g : Dev Cert.LnInBwdRefIdeal.nD → PrngReg), Pre_LnInBwdRefIdeal m →
    θ_run (Cert.LnInBwdRefIdeal.defs (F := Ideal)) (onTc (τ := Cert.LnInBwdRefIdeal.τ) (Cert.LnInBwdRefIdeal.main (F := Ideal))) ⟨m, fun _ => 0, g⟩ (fun r => (∀ c : Dev Cert.LnInBwdRefIdeal.nD,
      r.2.mem ((c.tc : Thread Cert.LnInBwdRefIdeal.nD Cert.LnInBwdRefIdeal.τ).loc Cert.LnInBwdRefIdeal.main_arg0) = m ((c.tc : Thread Cert.LnInBwdRefIdeal.nD Cert.LnInBwdRefIdeal.τ).loc Cert.LnInBwdRefIdeal.main_arg0)
      ∧ r.2.mem ((c.tc : Thread Cert.LnInBwdRefIdeal.nD Cert.LnInBwdRefIdeal.τ).loc Cert.LnInBwdRefIdeal.main_arg1) = m ((c.tc : Thread Cert.LnInBwdRefIdeal.nD Cert.LnInBwdRefIdeal.τ).loc Cert.LnInBwdRefIdeal.main_arg1)
      ∧ r.2.mem ((c.tc : Thread Cert.LnInBwdRefIdeal.nD Cert.LnInBwdRefIdeal.τ).loc Cert.LnInBwdRefIdeal.main_arg2) = m ((c.tc : Thread Cert.LnInBwdRefIdeal.nD Cert.LnInBwdRefIdeal.τ).loc Cert.LnInBwdRefIdeal.main_arg2)
      ∧ r.2.mem ((c.tc : Thread Cert.LnInBwdRefIdeal.nD Cert.LnInBwdRefIdeal.τ).loc Cert.LnInBwdRefIdeal.main_arg3) = m ((c.tc : Thread Cert.LnInBwdRefIdeal.nD Cert.LnInBwdRefIdeal.τ).loc Cert.LnInBwdRefIdeal.main_arg3))
      ∧ r.2.sem = fun _ => 0)

def quiescent_LnInBwdRefIdeal_pre_ln_in_finite [hLnInBwdRefIdeal : Cert.LnInBwdRefIdeal.Facts] [hPre_ln_in_finite : Cert.Pre_ln_in_finite.Facts] : Prop :=
  ∀ (m : (ℓ : Loc Cert.LnInBwdRefIdeal.nD Cert.LnInBwdRefIdeal.τ Cert.LnInBwdRefIdeal.sig) → Buf (Elt Ideal) ℓ) (g : Dev Cert.LnInBwdRefIdeal.nD → PrngReg), Pre_LnInBwdRefIdeal_ln_in_finite m →
    θ_run (Cert.LnInBwdRefIdeal.defs (F := Ideal)) (onTc (τ := Cert.LnInBwdRefIdeal.τ) (Cert.LnInBwdRefIdeal.main (F := Ideal))) ⟨m, fun _ => 0, g⟩ (fun r => (∀ c : Dev Cert.LnInBwdRefIdeal.nD,
      r.2.mem ((c.tc : Thread Cert.LnInBwdRefIdeal.nD Cert.LnInBwdRefIdeal.τ).loc Cert.LnInBwdRefIdeal.main_arg0) = m ((c.tc : Thread Cert.LnInBwdRefIdeal.nD Cert.LnInBwdRefIdeal.τ).loc Cert.LnInBwdRefIdeal.main_arg0)
      ∧ r.2.mem ((c.tc : Thread Cert.LnInBwdRefIdeal.nD Cert.LnInBwdRefIdeal.τ).loc Cert.LnInBwdRefIdeal.main_arg1) = m ((c.tc : Thread Cert.LnInBwdRefIdeal.nD Cert.LnInBwdRefIdeal.τ).loc Cert.LnInBwdRefIdeal.main_arg1)
      ∧ r.2.mem ((c.tc : Thread Cert.LnInBwdRefIdeal.nD Cert.LnInBwdRefIdeal.τ).loc Cert.LnInBwdRefIdeal.main_arg2) = m ((c.tc : Thread Cert.LnInBwdRefIdeal.nD Cert.LnInBwdRefIdeal.τ).loc Cert.LnInBwdRefIdeal.main_arg2)
      ∧ r.2.mem ((c.tc : Thread Cert.LnInBwdRefIdeal.nD Cert.LnInBwdRefIdeal.τ).loc Cert.LnInBwdRefIdeal.main_arg3) = m ((c.tc : Thread Cert.LnInBwdRefIdeal.nD Cert.LnInBwdRefIdeal.τ).loc Cert.LnInBwdRefIdeal.main_arg3))
      ∧ r.2.sem = fun _ => 0)

def quiescent_LnInFwd [hLnInFwd : Cert.LnInFwd.Facts] : Prop :=
  ∀ (m : (ℓ : Loc Cert.LnInFwd.nD Cert.LnInFwd.τ Cert.LnInFwd.sig) → Buf (Elt Bits) ℓ) (g : Dev Cert.LnInFwd.nD → PrngReg), Pre_LnInFwd m →
    θ_run (Cert.LnInFwd.defs (F := Bits)) (onTc (τ := Cert.LnInFwd.τ) (Cert.LnInFwd.main (F := Bits))) ⟨m, fun _ => 0, g⟩ (fun r => (∀ c : Dev Cert.LnInFwd.nD,
      r.2.mem ((c.tc : Thread Cert.LnInFwd.nD Cert.LnInFwd.τ).loc Cert.LnInFwd.main_arg0) = m ((c.tc : Thread Cert.LnInFwd.nD Cert.LnInFwd.τ).loc Cert.LnInFwd.main_arg0)
      ∧ r.2.mem ((c.tc : Thread Cert.LnInFwd.nD Cert.LnInFwd.τ).loc Cert.LnInFwd.main_arg1) = m ((c.tc : Thread Cert.LnInFwd.nD Cert.LnInFwd.τ).loc Cert.LnInFwd.main_arg1)
      ∧ r.2.mem ((c.tc : Thread Cert.LnInFwd.nD Cert.LnInFwd.τ).loc Cert.LnInFwd.main_arg2) = m ((c.tc : Thread Cert.LnInFwd.nD Cert.LnInFwd.τ).loc Cert.LnInFwd.main_arg2))
      ∧ r.2.sem = fun _ => 0)

def quiescent_LnInFwdIdeal [hLnInFwdIdeal : Cert.LnInFwdIdeal.Facts] : Prop :=
  ∀ (m : (ℓ : Loc Cert.LnInFwdIdeal.nD Cert.LnInFwdIdeal.τ Cert.LnInFwdIdeal.sig) → Buf (Elt Ideal) ℓ) (g : Dev Cert.LnInFwdIdeal.nD → PrngReg), Pre_LnInFwdIdeal m →
    θ_run (Cert.LnInFwdIdeal.defs (F := Ideal)) (onTc (τ := Cert.LnInFwdIdeal.τ) (Cert.LnInFwdIdeal.main (F := Ideal))) ⟨m, fun _ => 0, g⟩ (fun r => (∀ c : Dev Cert.LnInFwdIdeal.nD,
      r.2.mem ((c.tc : Thread Cert.LnInFwdIdeal.nD Cert.LnInFwdIdeal.τ).loc Cert.LnInFwdIdeal.main_arg0) = m ((c.tc : Thread Cert.LnInFwdIdeal.nD Cert.LnInFwdIdeal.τ).loc Cert.LnInFwdIdeal.main_arg0)
      ∧ r.2.mem ((c.tc : Thread Cert.LnInFwdIdeal.nD Cert.LnInFwdIdeal.τ).loc Cert.LnInFwdIdeal.main_arg1) = m ((c.tc : Thread Cert.LnInFwdIdeal.nD Cert.LnInFwdIdeal.τ).loc Cert.LnInFwdIdeal.main_arg1)
      ∧ r.2.mem ((c.tc : Thread Cert.LnInFwdIdeal.nD Cert.LnInFwdIdeal.τ).loc Cert.LnInFwdIdeal.main_arg2) = m ((c.tc : Thread Cert.LnInFwdIdeal.nD Cert.LnInFwdIdeal.τ).loc Cert.LnInFwdIdeal.main_arg2))
      ∧ r.2.sem = fun _ => 0)

def quiescent_LnInFwdRefIdeal [hLnInFwdRefIdeal : Cert.LnInFwdRefIdeal.Facts] : Prop :=
  ∀ (m : (ℓ : Loc Cert.LnInFwdRefIdeal.nD Cert.LnInFwdRefIdeal.τ Cert.LnInFwdRefIdeal.sig) → Buf (Elt Ideal) ℓ) (g : Dev Cert.LnInFwdRefIdeal.nD → PrngReg), Pre_LnInFwdRefIdeal m →
    θ_run (Cert.LnInFwdRefIdeal.defs (F := Ideal)) (onTc (τ := Cert.LnInFwdRefIdeal.τ) (Cert.LnInFwdRefIdeal.main (F := Ideal))) ⟨m, fun _ => 0, g⟩ (fun r => (∀ c : Dev Cert.LnInFwdRefIdeal.nD,
      r.2.mem ((c.tc : Thread Cert.LnInFwdRefIdeal.nD Cert.LnInFwdRefIdeal.τ).loc Cert.LnInFwdRefIdeal.main_arg0) = m ((c.tc : Thread Cert.LnInFwdRefIdeal.nD Cert.LnInFwdRefIdeal.τ).loc Cert.LnInFwdRefIdeal.main_arg0)
      ∧ r.2.mem ((c.tc : Thread Cert.LnInFwdRefIdeal.nD Cert.LnInFwdRefIdeal.τ).loc Cert.LnInFwdRefIdeal.main_arg1) = m ((c.tc : Thread Cert.LnInFwdRefIdeal.nD Cert.LnInFwdRefIdeal.τ).loc Cert.LnInFwdRefIdeal.main_arg1)
      ∧ r.2.mem ((c.tc : Thread Cert.LnInFwdRefIdeal.nD Cert.LnInFwdRefIdeal.τ).loc Cert.LnInFwdRefIdeal.main_arg2) = m ((c.tc : Thread Cert.LnInFwdRefIdeal.nD Cert.LnInFwdRefIdeal.τ).loc Cert.LnInFwdRefIdeal.main_arg2))
      ∧ r.2.sem = fun _ => 0)

def quiescent_ConformerConvFwd [hConformerConvFwd : Cert.ConformerConvFwd.Facts] : Prop :=
  ∀ (m : (ℓ : Loc Cert.ConformerConvFwd.nD Cert.ConformerConvFwd.τ Cert.ConformerConvFwd.sig) → Buf (Elt Bits) ℓ) (g : Dev Cert.ConformerConvFwd.nD → PrngReg), Pre_ConformerConvFwd m →
    θ_run (Cert.ConformerConvFwd.defs (F := Bits)) (onTc (τ := Cert.ConformerConvFwd.τ) (Cert.ConformerConvFwd.main (F := Bits))) ⟨m, fun _ => 0, g⟩ (fun r => (∀ c : Dev Cert.ConformerConvFwd.nD,
      r.2.mem ((c.tc : Thread Cert.ConformerConvFwd.nD Cert.ConformerConvFwd.τ).loc Cert.ConformerConvFwd.main_arg0) = m ((c.tc : Thread Cert.ConformerConvFwd.nD Cert.ConformerConvFwd.τ).loc Cert.ConformerConvFwd.main_arg0)
      ∧ r.2.mem ((c.tc : Thread Cert.ConformerConvFwd.nD Cert.ConformerConvFwd.τ).loc Cert.ConformerConvFwd.main_arg1) = m ((c.tc : Thread Cert.ConformerConvFwd.nD Cert.ConformerConvFwd.τ).loc Cert.ConformerConvFwd.main_arg1)
      ∧ r.2.mem ((c.tc : Thread Cert.ConformerConvFwd.nD Cert.ConformerConvFwd.τ).loc Cert.ConformerConvFwd.main_arg2) = m ((c.tc : Thread Cert.ConformerConvFwd.nD Cert.ConformerConvFwd.τ).loc Cert.ConformerConvFwd.main_arg2))
      ∧ r.2.sem = fun _ => 0)

def quiescent_ConformerConvFwdIdeal [hConformerConvFwdIdeal : Cert.ConformerConvFwdIdeal.Facts] : Prop :=
  ∀ (m : (ℓ : Loc Cert.ConformerConvFwdIdeal.nD Cert.ConformerConvFwdIdeal.τ Cert.ConformerConvFwdIdeal.sig) → Buf (Elt Ideal) ℓ) (g : Dev Cert.ConformerConvFwdIdeal.nD → PrngReg), Pre_ConformerConvFwdIdeal m →
    θ_run (Cert.ConformerConvFwdIdeal.defs (F := Ideal)) (onTc (τ := Cert.ConformerConvFwdIdeal.τ) (Cert.ConformerConvFwdIdeal.main (F := Ideal))) ⟨m, fun _ => 0, g⟩ (fun r => (∀ c : Dev Cert.ConformerConvFwdIdeal.nD,
      r.2.mem ((c.tc : Thread Cert.ConformerConvFwdIdeal.nD Cert.ConformerConvFwdIdeal.τ).loc Cert.ConformerConvFwdIdeal.main_arg0) = m ((c.tc : Thread Cert.ConformerConvFwdIdeal.nD Cert.ConformerConvFwdIdeal.τ).loc Cert.ConformerConvFwdIdeal.main_arg0)
      ∧ r.2.mem ((c.tc : Thread Cert.ConformerConvFwdIdeal.nD Cert.ConformerConvFwdIdeal.τ).loc Cert.ConformerConvFwdIdeal.main_arg1) = m ((c.tc : Thread Cert.ConformerConvFwdIdeal.nD Cert.ConformerConvFwdIdeal.τ).loc Cert.ConformerConvFwdIdeal.main_arg1)
      ∧ r.2.mem ((c.tc : Thread Cert.ConformerConvFwdIdeal.nD Cert.ConformerConvFwdIdeal.τ).loc Cert.ConformerConvFwdIdeal.main_arg2) = m ((c.tc : Thread Cert.ConformerConvFwdIdeal.nD Cert.ConformerConvFwdIdeal.τ).loc Cert.ConformerConvFwdIdeal.main_arg2))
      ∧ r.2.sem = fun _ => 0)

def quiescent_ConformerConvFwdRefIdeal [hConformerConvFwdRefIdeal : Cert.ConformerConvFwdRefIdeal.Facts] : Prop :=
  ∀ (m : (ℓ : Loc Cert.ConformerConvFwdRefIdeal.nD Cert.ConformerConvFwdRefIdeal.τ Cert.ConformerConvFwdRefIdeal.sig) → Buf (Elt Ideal) ℓ) (g : Dev Cert.ConformerConvFwdRefIdeal.nD → PrngReg), Pre_ConformerConvFwdRefIdeal m →
    θ_run (Cert.ConformerConvFwdRefIdeal.defs (F := Ideal)) (onTc (τ := Cert.ConformerConvFwdRefIdeal.τ) (Cert.ConformerConvFwdRefIdeal.main (F := Ideal))) ⟨m, fun _ => 0, g⟩ (fun r => (∀ c : Dev Cert.ConformerConvFwdRefIdeal.nD,
      r.2.mem ((c.tc : Thread Cert.ConformerConvFwdRefIdeal.nD Cert.ConformerConvFwdRefIdeal.τ).loc Cert.ConformerConvFwdRefIdeal.main_arg0) = m ((c.tc : Thread Cert.ConformerConvFwdRefIdeal.nD Cert.ConformerConvFwdRefIdeal.τ).loc Cert.ConformerConvFwdRefIdeal.main_arg0)
      ∧ r.2.mem ((c.tc : Thread Cert.ConformerConvFwdRefIdeal.nD Cert.ConformerConvFwdRefIdeal.τ).loc Cert.ConformerConvFwdRefIdeal.main_arg1) = m ((c.tc : Thread Cert.ConformerConvFwdRefIdeal.nD Cert.ConformerConvFwdRefIdeal.τ).loc Cert.ConformerConvFwdRefIdeal.main_arg1)
      ∧ r.2.mem ((c.tc : Thread Cert.ConformerConvFwdRefIdeal.nD Cert.ConformerConvFwdRefIdeal.τ).loc Cert.ConformerConvFwdRefIdeal.main_arg2) = m ((c.tc : Thread Cert.ConformerConvFwdRefIdeal.nD Cert.ConformerConvFwdRefIdeal.τ).loc Cert.ConformerConvFwdRefIdeal.main_arg2))
      ∧ r.2.sem = fun _ => 0)

def quiescent_MmOutLn [hMmOutLn : Cert.MmOutLn.Facts] : Prop :=
  ∀ (m : (ℓ : Loc Cert.MmOutLn.nD Cert.MmOutLn.τ Cert.MmOutLn.sig) → Buf (Elt Bits) ℓ) (g : Dev Cert.MmOutLn.nD → PrngReg), Pre_MmOutLn m →
    θ_run (Cert.MmOutLn.defs (F := Bits)) (onTc (τ := Cert.MmOutLn.τ) (Cert.MmOutLn.main (F := Bits))) ⟨m, fun _ => 0, g⟩ (fun r => (∀ c : Dev Cert.MmOutLn.nD,
      r.2.mem ((c.tc : Thread Cert.MmOutLn.nD Cert.MmOutLn.τ).loc Cert.MmOutLn.main_arg0) = m ((c.tc : Thread Cert.MmOutLn.nD Cert.MmOutLn.τ).loc Cert.MmOutLn.main_arg0)
      ∧ r.2.mem ((c.tc : Thread Cert.MmOutLn.nD Cert.MmOutLn.τ).loc Cert.MmOutLn.main_arg1) = m ((c.tc : Thread Cert.MmOutLn.nD Cert.MmOutLn.τ).loc Cert.MmOutLn.main_arg1)
      ∧ r.2.mem ((c.tc : Thread Cert.MmOutLn.nD Cert.MmOutLn.τ).loc Cert.MmOutLn.main_arg2) = m ((c.tc : Thread Cert.MmOutLn.nD Cert.MmOutLn.τ).loc Cert.MmOutLn.main_arg2)
      ∧ r.2.mem ((c.tc : Thread Cert.MmOutLn.nD Cert.MmOutLn.τ).loc Cert.MmOutLn.main_arg3) = m ((c.tc : Thread Cert.MmOutLn.nD Cert.MmOutLn.τ).loc Cert.MmOutLn.main_arg3)
      ∧ r.2.mem ((c.tc : Thread Cert.MmOutLn.nD Cert.MmOutLn.τ).loc Cert.MmOutLn.main_arg4) = m ((c.tc : Thread Cert.MmOutLn.nD Cert.MmOutLn.τ).loc Cert.MmOutLn.main_arg4)
      ∧ r.2.mem ((c.tc : Thread Cert.MmOutLn.nD Cert.MmOutLn.τ).loc Cert.MmOutLn.main_arg5) = m ((c.tc : Thread Cert.MmOutLn.nD Cert.MmOutLn.τ).loc Cert.MmOutLn.main_arg5)
      ∧ r.2.mem ((c.tc : Thread Cert.MmOutLn.nD Cert.MmOutLn.τ).loc Cert.MmOutLn.main_arg6) = m ((c.tc : Thread Cert.MmOutLn.nD Cert.MmOutLn.τ).loc Cert.MmOutLn.main_arg6))
      ∧ r.2.sem = fun _ => 0)

def quiescent_MmOutLnIdeal [hMmOutLnIdeal : Cert.MmOutLnIdeal.Facts] : Prop :=
  ∀ (m : (ℓ : Loc Cert.MmOutLnIdeal.nD Cert.MmOutLnIdeal.τ Cert.MmOutLnIdeal.sig) → Buf (Elt Ideal) ℓ) (g : Dev Cert.MmOutLnIdeal.nD → PrngReg), Pre_MmOutLnIdeal m →
    θ_run (Cert.MmOutLnIdeal.defs (F := Ideal)) (onTc (τ := Cert.MmOutLnIdeal.τ) (Cert.MmOutLnIdeal.main (F := Ideal))) ⟨m, fun _ => 0, g⟩ (fun r => (∀ c : Dev Cert.MmOutLnIdeal.nD,
      r.2.mem ((c.tc : Thread Cert.MmOutLnIdeal.nD Cert.MmOutLnIdeal.τ).loc Cert.MmOutLnIdeal.main_arg0) = m ((c.tc : Thread Cert.MmOutLnIdeal.nD Cert.MmOutLnIdeal.τ).loc Cert.MmOutLnIdeal.main_arg0)
      ∧ r.2.mem ((c.tc : Thread Cert.MmOutLnIdeal.nD Cert.MmOutLnIdeal.τ).loc Cert.MmOutLnIdeal.main_arg1) = m ((c.tc : Thread Cert.MmOutLnIdeal.nD Cert.MmOutLnIdeal.τ).loc Cert.MmOutLnIdeal.main_arg1)
      ∧ r.2.mem ((c.tc : Thread Cert.MmOutLnIdeal.nD Cert.MmOutLnIdeal.τ).loc Cert.MmOutLnIdeal.main_arg2) = m ((c.tc : Thread Cert.MmOutLnIdeal.nD Cert.MmOutLnIdeal.τ).loc Cert.MmOutLnIdeal.main_arg2)
      ∧ r.2.mem ((c.tc : Thread Cert.MmOutLnIdeal.nD Cert.MmOutLnIdeal.τ).loc Cert.MmOutLnIdeal.main_arg3) = m ((c.tc : Thread Cert.MmOutLnIdeal.nD Cert.MmOutLnIdeal.τ).loc Cert.MmOutLnIdeal.main_arg3)
      ∧ r.2.mem ((c.tc : Thread Cert.MmOutLnIdeal.nD Cert.MmOutLnIdeal.τ).loc Cert.MmOutLnIdeal.main_arg4) = m ((c.tc : Thread Cert.MmOutLnIdeal.nD Cert.MmOutLnIdeal.τ).loc Cert.MmOutLnIdeal.main_arg4)
      ∧ r.2.mem ((c.tc : Thread Cert.MmOutLnIdeal.nD Cert.MmOutLnIdeal.τ).loc Cert.MmOutLnIdeal.main_arg5) = m ((c.tc : Thread Cert.MmOutLnIdeal.nD Cert.MmOutLnIdeal.τ).loc Cert.MmOutLnIdeal.main_arg5)
      ∧ r.2.mem ((c.tc : Thread Cert.MmOutLnIdeal.nD Cert.MmOutLnIdeal.τ).loc Cert.MmOutLnIdeal.main_arg6) = m ((c.tc : Thread Cert.MmOutLnIdeal.nD Cert.MmOutLnIdeal.τ).loc Cert.MmOutLnIdeal.main_arg6))
      ∧ r.2.sem = fun _ => 0)

def quiescent_MmOutLnRefIdeal [hMmOutLnRefIdeal : Cert.MmOutLnRefIdeal.Facts] : Prop :=
  ∀ (m : (ℓ : Loc Cert.MmOutLnRefIdeal.nD Cert.MmOutLnRefIdeal.τ Cert.MmOutLnRefIdeal.sig) → Buf (Elt Ideal) ℓ) (g : Dev Cert.MmOutLnRefIdeal.nD → PrngReg), Pre_MmOutLnRefIdeal m →
    θ_run (Cert.MmOutLnRefIdeal.defs (F := Ideal)) (onTc (τ := Cert.MmOutLnRefIdeal.τ) (Cert.MmOutLnRefIdeal.main (F := Ideal))) ⟨m, fun _ => 0, g⟩ (fun r => (∀ c : Dev Cert.MmOutLnRefIdeal.nD,
      r.2.mem ((c.tc : Thread Cert.MmOutLnRefIdeal.nD Cert.MmOutLnRefIdeal.τ).loc Cert.MmOutLnRefIdeal.main_arg0) = m ((c.tc : Thread Cert.MmOutLnRefIdeal.nD Cert.MmOutLnRefIdeal.τ).loc Cert.MmOutLnRefIdeal.main_arg0)
      ∧ r.2.mem ((c.tc : Thread Cert.MmOutLnRefIdeal.nD Cert.MmOutLnRefIdeal.τ).loc Cert.MmOutLnRefIdeal.main_arg1) = m ((c.tc : Thread Cert.MmOutLnRefIdeal.nD Cert.MmOutLnRefIdeal.τ).loc Cert.MmOutLnRefIdeal.main_arg1)
      ∧ r.2.mem ((c.tc : Thread Cert.MmOutLnRefIdeal.nD Cert.MmOutLnRefIdeal.τ).loc Cert.MmOutLnRefIdeal.main_arg2) = m ((c.tc : Thread Cert.MmOutLnRefIdeal.nD Cert.MmOutLnRefIdeal.τ).loc Cert.MmOutLnRefIdeal.main_arg2)
      ∧ r.2.mem ((c.tc : Thread Cert.MmOutLnRefIdeal.nD Cert.MmOutLnRefIdeal.τ).loc Cert.MmOutLnRefIdeal.main_arg3) = m ((c.tc : Thread Cert.MmOutLnRefIdeal.nD Cert.MmOutLnRefIdeal.τ).loc Cert.MmOutLnRefIdeal.main_arg3)
      ∧ r.2.mem ((c.tc : Thread Cert.MmOutLnRefIdeal.nD Cert.MmOutLnRefIdeal.τ).loc Cert.MmOutLnRefIdeal.main_arg4) = m ((c.tc : Thread Cert.MmOutLnRefIdeal.nD Cert.MmOutLnRefIdeal.τ).loc Cert.MmOutLnRefIdeal.main_arg4)
      ∧ r.2.mem ((c.tc : Thread Cert.MmOutLnRefIdeal.nD Cert.MmOutLnRefIdeal.τ).loc Cert.MmOutLnRefIdeal.main_arg5) = m ((c.tc : Thread Cert.MmOutLnRefIdeal.nD Cert.MmOutLnRefIdeal.τ).loc Cert.MmOutLnRefIdeal.main_arg5)
      ∧ r.2.mem ((c.tc : Thread Cert.MmOutLnRefIdeal.nD Cert.MmOutLnRefIdeal.τ).loc Cert.MmOutLnRefIdeal.main_arg6) = m ((c.tc : Thread Cert.MmOutLnRefIdeal.nD Cert.MmOutLnRefIdeal.τ).loc Cert.MmOutLnRefIdeal.main_arg6))
      ∧ r.2.sem = fun _ => 0)

def quiescent_FfnInSwiglu [hFfnInSwiglu : Cert.FfnInSwiglu.Facts] : Prop :=
  ∀ (m : (ℓ : Loc Cert.FfnInSwiglu.nD Cert.FfnInSwiglu.τ Cert.FfnInSwiglu.sig) → Buf (Elt Bits) ℓ) (g : Dev Cert.FfnInSwiglu.nD → PrngReg), Pre_FfnInSwiglu m →
    θ_run (Cert.FfnInSwiglu.defs (F := Bits)) (onTc (τ := Cert.FfnInSwiglu.τ) (Cert.FfnInSwiglu.main (F := Bits))) ⟨m, fun _ => 0, g⟩ (fun r => (∀ c : Dev Cert.FfnInSwiglu.nD,
      r.2.mem ((c.tc : Thread Cert.FfnInSwiglu.nD Cert.FfnInSwiglu.τ).loc Cert.FfnInSwiglu.main_arg0) = m ((c.tc : Thread Cert.FfnInSwiglu.nD Cert.FfnInSwiglu.τ).loc Cert.FfnInSwiglu.main_arg0)
      ∧ r.2.mem ((c.tc : Thread Cert.FfnInSwiglu.nD Cert.FfnInSwiglu.τ).loc Cert.FfnInSwiglu.main_arg1) = m ((c.tc : Thread Cert.FfnInSwiglu.nD Cert.FfnInSwiglu.τ).loc Cert.FfnInSwiglu.main_arg1))
      ∧ r.2.sem = fun _ => 0)

def quiescent_FfnInSwigluIdeal [hFfnInSwigluIdeal : Cert.FfnInSwigluIdeal.Facts] : Prop :=
  ∀ (m : (ℓ : Loc Cert.FfnInSwigluIdeal.nD Cert.FfnInSwigluIdeal.τ Cert.FfnInSwigluIdeal.sig) → Buf (Elt Ideal) ℓ) (g : Dev Cert.FfnInSwigluIdeal.nD → PrngReg), Pre_FfnInSwigluIdeal m →
    θ_run (Cert.FfnInSwigluIdeal.defs (F := Ideal)) (onTc (τ := Cert.FfnInSwigluIdeal.τ) (Cert.FfnInSwigluIdeal.main (F := Ideal))) ⟨m, fun _ => 0, g⟩ (fun r => (∀ c : Dev Cert.FfnInSwigluIdeal.nD,
      r.2.mem ((c.tc : Thread Cert.FfnInSwigluIdeal.nD Cert.FfnInSwigluIdeal.τ).loc Cert.FfnInSwigluIdeal.main_arg0) = m ((c.tc : Thread Cert.FfnInSwigluIdeal.nD Cert.FfnInSwigluIdeal.τ).loc Cert.FfnInSwigluIdeal.main_arg0)
      ∧ r.2.mem ((c.tc : Thread Cert.FfnInSwigluIdeal.nD Cert.FfnInSwigluIdeal.τ).loc Cert.FfnInSwigluIdeal.main_arg1) = m ((c.tc : Thread Cert.FfnInSwigluIdeal.nD Cert.FfnInSwigluIdeal.τ).loc Cert.FfnInSwigluIdeal.main_arg1))
      ∧ r.2.sem = fun _ => 0)

def quiescent_FfnInSwigluRefIdeal [hFfnInSwigluRefIdeal : Cert.FfnInSwigluRefIdeal.Facts] : Prop :=
  ∀ (m : (ℓ : Loc Cert.FfnInSwigluRefIdeal.nD Cert.FfnInSwigluRefIdeal.τ Cert.FfnInSwigluRefIdeal.sig) → Buf (Elt Ideal) ℓ) (g : Dev Cert.FfnInSwigluRefIdeal.nD → PrngReg), Pre_FfnInSwigluRefIdeal m →
    θ_run (Cert.FfnInSwigluRefIdeal.defs (F := Ideal)) (onTc (τ := Cert.FfnInSwigluRefIdeal.τ) (Cert.FfnInSwigluRefIdeal.main (F := Ideal))) ⟨m, fun _ => 0, g⟩ (fun r => (∀ c : Dev Cert.FfnInSwigluRefIdeal.nD,
      r.2.mem ((c.tc : Thread Cert.FfnInSwigluRefIdeal.nD Cert.FfnInSwigluRefIdeal.τ).loc Cert.FfnInSwigluRefIdeal.main_arg0) = m ((c.tc : Thread Cert.FfnInSwigluRefIdeal.nD Cert.FfnInSwigluRefIdeal.τ).loc Cert.FfnInSwigluRefIdeal.main_arg0)
      ∧ r.2.mem ((c.tc : Thread Cert.FfnInSwigluRefIdeal.nD Cert.FfnInSwigluRefIdeal.τ).loc Cert.FfnInSwigluRefIdeal.main_arg1) = m ((c.tc : Thread Cert.FfnInSwigluRefIdeal.nD Cert.FfnInSwigluRefIdeal.τ).loc Cert.FfnInSwigluRefIdeal.main_arg1))
      ∧ r.2.sem = fun _ => 0)

def quiescent_FfnOutLn [hFfnOutLn : Cert.FfnOutLn.Facts] : Prop :=
  ∀ (m : (ℓ : Loc Cert.FfnOutLn.nD Cert.FfnOutLn.τ Cert.FfnOutLn.sig) → Buf (Elt Bits) ℓ) (g : Dev Cert.FfnOutLn.nD → PrngReg), Pre_FfnOutLn m →
    θ_run (Cert.FfnOutLn.defs (F := Bits)) (onTc (τ := Cert.FfnOutLn.τ) (Cert.FfnOutLn.main (F := Bits))) ⟨m, fun _ => 0, g⟩ (fun r => (∀ c : Dev Cert.FfnOutLn.nD,
      r.2.mem ((c.tc : Thread Cert.FfnOutLn.nD Cert.FfnOutLn.τ).loc Cert.FfnOutLn.main_arg0) = m ((c.tc : Thread Cert.FfnOutLn.nD Cert.FfnOutLn.τ).loc Cert.FfnOutLn.main_arg0)
      ∧ r.2.mem ((c.tc : Thread Cert.FfnOutLn.nD Cert.FfnOutLn.τ).loc Cert.FfnOutLn.main_arg1) = m ((c.tc : Thread Cert.FfnOutLn.nD Cert.FfnOutLn.τ).loc Cert.FfnOutLn.main_arg1)
      ∧ r.2.mem ((c.tc : Thread Cert.FfnOutLn.nD Cert.FfnOutLn.τ).loc Cert.FfnOutLn.main_arg2) = m ((c.tc : Thread Cert.FfnOutLn.nD Cert.FfnOutLn.τ).loc Cert.FfnOutLn.main_arg2)
      ∧ r.2.mem ((c.tc : Thread Cert.FfnOutLn.nD Cert.FfnOutLn.τ).loc Cert.FfnOutLn.main_arg3) = m ((c.tc : Thread Cert.FfnOutLn.nD Cert.FfnOutLn.τ).loc Cert.FfnOutLn.main_arg3)
      ∧ r.2.mem ((c.tc : Thread Cert.FfnOutLn.nD Cert.FfnOutLn.τ).loc Cert.FfnOutLn.main_arg4) = m ((c.tc : Thread Cert.FfnOutLn.nD Cert.FfnOutLn.τ).loc Cert.FfnOutLn.main_arg4)
      ∧ r.2.mem ((c.tc : Thread Cert.FfnOutLn.nD Cert.FfnOutLn.τ).loc Cert.FfnOutLn.main_arg5) = m ((c.tc : Thread Cert.FfnOutLn.nD Cert.FfnOutLn.τ).loc Cert.FfnOutLn.main_arg5)
      ∧ r.2.mem ((c.tc : Thread Cert.FfnOutLn.nD Cert.FfnOutLn.τ).loc Cert.FfnOutLn.main_arg6) = m ((c.tc : Thread Cert.FfnOutLn.nD Cert.FfnOutLn.τ).loc Cert.FfnOutLn.main_arg6))
      ∧ r.2.sem = fun _ => 0)

def quiescent_FfnOutLnIdeal [hFfnOutLnIdeal : Cert.FfnOutLnIdeal.Facts] : Prop :=
  ∀ (m : (ℓ : Loc Cert.FfnOutLnIdeal.nD Cert.FfnOutLnIdeal.τ Cert.FfnOutLnIdeal.sig) → Buf (Elt Ideal) ℓ) (g : Dev Cert.FfnOutLnIdeal.nD → PrngReg), Pre_FfnOutLnIdeal m →
    θ_run (Cert.FfnOutLnIdeal.defs (F := Ideal)) (onTc (τ := Cert.FfnOutLnIdeal.τ) (Cert.FfnOutLnIdeal.main (F := Ideal))) ⟨m, fun _ => 0, g⟩ (fun r => (∀ c : Dev Cert.FfnOutLnIdeal.nD,
      r.2.mem ((c.tc : Thread Cert.FfnOutLnIdeal.nD Cert.FfnOutLnIdeal.τ).loc Cert.FfnOutLnIdeal.main_arg0) = m ((c.tc : Thread Cert.FfnOutLnIdeal.nD Cert.FfnOutLnIdeal.τ).loc Cert.FfnOutLnIdeal.main_arg0)
      ∧ r.2.mem ((c.tc : Thread Cert.FfnOutLnIdeal.nD Cert.FfnOutLnIdeal.τ).loc Cert.FfnOutLnIdeal.main_arg1) = m ((c.tc : Thread Cert.FfnOutLnIdeal.nD Cert.FfnOutLnIdeal.τ).loc Cert.FfnOutLnIdeal.main_arg1)
      ∧ r.2.mem ((c.tc : Thread Cert.FfnOutLnIdeal.nD Cert.FfnOutLnIdeal.τ).loc Cert.FfnOutLnIdeal.main_arg2) = m ((c.tc : Thread Cert.FfnOutLnIdeal.nD Cert.FfnOutLnIdeal.τ).loc Cert.FfnOutLnIdeal.main_arg2)
      ∧ r.2.mem ((c.tc : Thread Cert.FfnOutLnIdeal.nD Cert.FfnOutLnIdeal.τ).loc Cert.FfnOutLnIdeal.main_arg3) = m ((c.tc : Thread Cert.FfnOutLnIdeal.nD Cert.FfnOutLnIdeal.τ).loc Cert.FfnOutLnIdeal.main_arg3)
      ∧ r.2.mem ((c.tc : Thread Cert.FfnOutLnIdeal.nD Cert.FfnOutLnIdeal.τ).loc Cert.FfnOutLnIdeal.main_arg4) = m ((c.tc : Thread Cert.FfnOutLnIdeal.nD Cert.FfnOutLnIdeal.τ).loc Cert.FfnOutLnIdeal.main_arg4)
      ∧ r.2.mem ((c.tc : Thread Cert.FfnOutLnIdeal.nD Cert.FfnOutLnIdeal.τ).loc Cert.FfnOutLnIdeal.main_arg5) = m ((c.tc : Thread Cert.FfnOutLnIdeal.nD Cert.FfnOutLnIdeal.τ).loc Cert.FfnOutLnIdeal.main_arg5)
      ∧ r.2.mem ((c.tc : Thread Cert.FfnOutLnIdeal.nD Cert.FfnOutLnIdeal.τ).loc Cert.FfnOutLnIdeal.main_arg6) = m ((c.tc : Thread Cert.FfnOutLnIdeal.nD Cert.FfnOutLnIdeal.τ).loc Cert.FfnOutLnIdeal.main_arg6))
      ∧ r.2.sem = fun _ => 0)

def quiescent_FfnOutLnRefIdeal [hFfnOutLnRefIdeal : Cert.FfnOutLnRefIdeal.Facts] : Prop :=
  ∀ (m : (ℓ : Loc Cert.FfnOutLnRefIdeal.nD Cert.FfnOutLnRefIdeal.τ Cert.FfnOutLnRefIdeal.sig) → Buf (Elt Ideal) ℓ) (g : Dev Cert.FfnOutLnRefIdeal.nD → PrngReg), Pre_FfnOutLnRefIdeal m →
    θ_run (Cert.FfnOutLnRefIdeal.defs (F := Ideal)) (onTc (τ := Cert.FfnOutLnRefIdeal.τ) (Cert.FfnOutLnRefIdeal.main (F := Ideal))) ⟨m, fun _ => 0, g⟩ (fun r => (∀ c : Dev Cert.FfnOutLnRefIdeal.nD,
      r.2.mem ((c.tc : Thread Cert.FfnOutLnRefIdeal.nD Cert.FfnOutLnRefIdeal.τ).loc Cert.FfnOutLnRefIdeal.main_arg0) = m ((c.tc : Thread Cert.FfnOutLnRefIdeal.nD Cert.FfnOutLnRefIdeal.τ).loc Cert.FfnOutLnRefIdeal.main_arg0)
      ∧ r.2.mem ((c.tc : Thread Cert.FfnOutLnRefIdeal.nD Cert.FfnOutLnRefIdeal.τ).loc Cert.FfnOutLnRefIdeal.main_arg1) = m ((c.tc : Thread Cert.FfnOutLnRefIdeal.nD Cert.FfnOutLnRefIdeal.τ).loc Cert.FfnOutLnRefIdeal.main_arg1)
      ∧ r.2.mem ((c.tc : Thread Cert.FfnOutLnRefIdeal.nD Cert.FfnOutLnRefIdeal.τ).loc Cert.FfnOutLnRefIdeal.main_arg2) = m ((c.tc : Thread Cert.FfnOutLnRefIdeal.nD Cert.FfnOutLnRefIdeal.τ).loc Cert.FfnOutLnRefIdeal.main_arg2)
      ∧ r.2.mem ((c.tc : Thread Cert.FfnOutLnRefIdeal.nD Cert.FfnOutLnRefIdeal.τ).loc Cert.FfnOutLnRefIdeal.main_arg3) = m ((c.tc : Thread Cert.FfnOutLnRefIdeal.nD Cert.FfnOutLnRefIdeal.τ).loc Cert.FfnOutLnRefIdeal.main_arg3)
      ∧ r.2.mem ((c.tc : Thread Cert.FfnOutLnRefIdeal.nD Cert.FfnOutLnRefIdeal.τ).loc Cert.FfnOutLnRefIdeal.main_arg4) = m ((c.tc : Thread Cert.FfnOutLnRefIdeal.nD Cert.FfnOutLnRefIdeal.τ).loc Cert.FfnOutLnRefIdeal.main_arg4)
      ∧ r.2.mem ((c.tc : Thread Cert.FfnOutLnRefIdeal.nD Cert.FfnOutLnRefIdeal.τ).loc Cert.FfnOutLnRefIdeal.main_arg5) = m ((c.tc : Thread Cert.FfnOutLnRefIdeal.nD Cert.FfnOutLnRefIdeal.τ).loc Cert.FfnOutLnRefIdeal.main_arg5)
      ∧ r.2.mem ((c.tc : Thread Cert.FfnOutLnRefIdeal.nD Cert.FfnOutLnRefIdeal.τ).loc Cert.FfnOutLnRefIdeal.main_arg6) = m ((c.tc : Thread Cert.FfnOutLnRefIdeal.nD Cert.FfnOutLnRefIdeal.τ).loc Cert.FfnOutLnRefIdeal.main_arg6))
      ∧ r.2.sem = fun _ => 0)

def quiescent_BranchMerge [hBranchMerge : Cert.BranchMerge.Facts] : Prop :=
  ∀ (m : (ℓ : Loc Cert.BranchMerge.nD Cert.BranchMerge.τ Cert.BranchMerge.sig) → Buf (Elt Bits) ℓ) (g : Dev Cert.BranchMerge.nD → PrngReg), Pre_BranchMerge m →
    θ_run (Cert.BranchMerge.defs (F := Bits)) (onTc (τ := Cert.BranchMerge.τ) (Cert.BranchMerge.main (F := Bits))) ⟨m, fun _ => 0, g⟩ (fun r => (∀ c : Dev Cert.BranchMerge.nD,
      r.2.mem ((c.tc : Thread Cert.BranchMerge.nD Cert.BranchMerge.τ).loc Cert.BranchMerge.main_arg0) = m ((c.tc : Thread Cert.BranchMerge.nD Cert.BranchMerge.τ).loc Cert.BranchMerge.main_arg0)
      ∧ r.2.mem ((c.tc : Thread Cert.BranchMerge.nD Cert.BranchMerge.τ).loc Cert.BranchMerge.main_arg1) = m ((c.tc : Thread Cert.BranchMerge.nD Cert.BranchMerge.τ).loc Cert.BranchMerge.main_arg1)
      ∧ r.2.mem ((c.tc : Thread Cert.BranchMerge.nD Cert.BranchMerge.τ).loc Cert.BranchMerge.main_arg2) = m ((c.tc : Thread Cert.BranchMerge.nD Cert.BranchMerge.τ).loc Cert.BranchMerge.main_arg2)
      ∧ r.2.mem ((c.tc : Thread Cert.BranchMerge.nD Cert.BranchMerge.τ).loc Cert.BranchMerge.main_arg3) = m ((c.tc : Thread Cert.BranchMerge.nD Cert.BranchMerge.τ).loc Cert.BranchMerge.main_arg3))
      ∧ r.2.sem = fun _ => 0)

def quiescent_BranchMergeIdeal [hBranchMergeIdeal : Cert.BranchMergeIdeal.Facts] : Prop :=
  ∀ (m : (ℓ : Loc Cert.BranchMergeIdeal.nD Cert.BranchMergeIdeal.τ Cert.BranchMergeIdeal.sig) → Buf (Elt Ideal) ℓ) (g : Dev Cert.BranchMergeIdeal.nD → PrngReg), Pre_BranchMergeIdeal m →
    θ_run (Cert.BranchMergeIdeal.defs (F := Ideal)) (onTc (τ := Cert.BranchMergeIdeal.τ) (Cert.BranchMergeIdeal.main (F := Ideal))) ⟨m, fun _ => 0, g⟩ (fun r => (∀ c : Dev Cert.BranchMergeIdeal.nD,
      r.2.mem ((c.tc : Thread Cert.BranchMergeIdeal.nD Cert.BranchMergeIdeal.τ).loc Cert.BranchMergeIdeal.main_arg0) = m ((c.tc : Thread Cert.BranchMergeIdeal.nD Cert.BranchMergeIdeal.τ).loc Cert.BranchMergeIdeal.main_arg0)
      ∧ r.2.mem ((c.tc : Thread Cert.BranchMergeIdeal.nD Cert.BranchMergeIdeal.τ).loc Cert.BranchMergeIdeal.main_arg1) = m ((c.tc : Thread Cert.BranchMergeIdeal.nD Cert.BranchMergeIdeal.τ).loc Cert.BranchMergeIdeal.main_arg1)
      ∧ r.2.mem ((c.tc : Thread Cert.BranchMergeIdeal.nD Cert.BranchMergeIdeal.τ).loc Cert.BranchMergeIdeal.main_arg2) = m ((c.tc : Thread Cert.BranchMergeIdeal.nD Cert.BranchMergeIdeal.τ).loc Cert.BranchMergeIdeal.main_arg2)
      ∧ r.2.mem ((c.tc : Thread Cert.BranchMergeIdeal.nD Cert.BranchMergeIdeal.τ).loc Cert.BranchMergeIdeal.main_arg3) = m ((c.tc : Thread Cert.BranchMergeIdeal.nD Cert.BranchMergeIdeal.τ).loc Cert.BranchMergeIdeal.main_arg3))
      ∧ r.2.sem = fun _ => 0)

def quiescent_BranchMergeRefIdeal [hBranchMergeRefIdeal : Cert.BranchMergeRefIdeal.Facts] : Prop :=
  ∀ (m : (ℓ : Loc Cert.BranchMergeRefIdeal.nD Cert.BranchMergeRefIdeal.τ Cert.BranchMergeRefIdeal.sig) → Buf (Elt Ideal) ℓ) (g : Dev Cert.BranchMergeRefIdeal.nD → PrngReg), Pre_BranchMergeRefIdeal m →
    θ_run (Cert.BranchMergeRefIdeal.defs (F := Ideal)) (onTc (τ := Cert.BranchMergeRefIdeal.τ) (Cert.BranchMergeRefIdeal.main (F := Ideal))) ⟨m, fun _ => 0, g⟩ (fun r => (∀ c : Dev Cert.BranchMergeRefIdeal.nD,
      r.2.mem ((c.tc : Thread Cert.BranchMergeRefIdeal.nD Cert.BranchMergeRefIdeal.τ).loc Cert.BranchMergeRefIdeal.main_arg0) = m ((c.tc : Thread Cert.BranchMergeRefIdeal.nD Cert.BranchMergeRefIdeal.τ).loc Cert.BranchMergeRefIdeal.main_arg0)
      ∧ r.2.mem ((c.tc : Thread Cert.BranchMergeRefIdeal.nD Cert.BranchMergeRefIdeal.τ).loc Cert.BranchMergeRefIdeal.main_arg1) = m ((c.tc : Thread Cert.BranchMergeRefIdeal.nD Cert.BranchMergeRefIdeal.τ).loc Cert.BranchMergeRefIdeal.main_arg1)
      ∧ r.2.mem ((c.tc : Thread Cert.BranchMergeRefIdeal.nD Cert.BranchMergeRefIdeal.τ).loc Cert.BranchMergeRefIdeal.main_arg2) = m ((c.tc : Thread Cert.BranchMergeRefIdeal.nD Cert.BranchMergeRefIdeal.τ).loc Cert.BranchMergeRefIdeal.main_arg2)
      ∧ r.2.mem ((c.tc : Thread Cert.BranchMergeRefIdeal.nD Cert.BranchMergeRefIdeal.τ).loc Cert.BranchMergeRefIdeal.main_arg3) = m ((c.tc : Thread Cert.BranchMergeRefIdeal.nD Cert.BranchMergeRefIdeal.τ).loc Cert.BranchMergeRefIdeal.main_arg3))
      ∧ r.2.sem = fun _ => 0)

def quiescent_MixerRowsFwd [hMixerRowsFwd : Cert.MixerRowsFwd.Facts] : Prop :=
  ∀ (m : (ℓ : Loc Cert.MixerRowsFwd.nD Cert.MixerRowsFwd.τ Cert.MixerRowsFwd.sig) → Buf (Elt Bits) ℓ) (g : Dev Cert.MixerRowsFwd.nD → PrngReg), Pre_MixerRowsFwd m →
    θ_run (Cert.MixerRowsFwd.defs (F := Bits)) (onTc (τ := Cert.MixerRowsFwd.τ) (Cert.MixerRowsFwd.main (F := Bits))) ⟨m, fun _ => 0, g⟩ (fun r => (∀ c : Dev Cert.MixerRowsFwd.nD,
      r.2.mem ((c.tc : Thread Cert.MixerRowsFwd.nD Cert.MixerRowsFwd.τ).loc Cert.MixerRowsFwd.main_arg0) = m ((c.tc : Thread Cert.MixerRowsFwd.nD Cert.MixerRowsFwd.τ).loc Cert.MixerRowsFwd.main_arg0)
      ∧ r.2.mem ((c.tc : Thread Cert.MixerRowsFwd.nD Cert.MixerRowsFwd.τ).loc Cert.MixerRowsFwd.main_arg1) = m ((c.tc : Thread Cert.MixerRowsFwd.nD Cert.MixerRowsFwd.τ).loc Cert.MixerRowsFwd.main_arg1)
      ∧ r.2.mem ((c.tc : Thread Cert.MixerRowsFwd.nD Cert.MixerRowsFwd.τ).loc Cert.MixerRowsFwd.main_arg2) = m ((c.tc : Thread Cert.MixerRowsFwd.nD Cert.MixerRowsFwd.τ).loc Cert.MixerRowsFwd.main_arg2)
      ∧ r.2.mem ((c.tc : Thread Cert.MixerRowsFwd.nD Cert.MixerRowsFwd.τ).loc Cert.MixerRowsFwd.main_arg3) = m ((c.tc : Thread Cert.MixerRowsFwd.nD Cert.MixerRowsFwd.τ).loc Cert.MixerRowsFwd.main_arg3)
      ∧ r.2.mem ((c.tc : Thread Cert.MixerRowsFwd.nD Cert.MixerRowsFwd.τ).loc Cert.MixerRowsFwd.main_arg4) = m ((c.tc : Thread Cert.MixerRowsFwd.nD Cert.MixerRowsFwd.τ).loc Cert.MixerRowsFwd.main_arg4)
      ∧ r.2.mem ((c.tc : Thread Cert.MixerRowsFwd.nD Cert.MixerRowsFwd.τ).loc Cert.MixerRowsFwd.main_arg5) = m ((c.tc : Thread Cert.MixerRowsFwd.nD Cert.MixerRowsFwd.τ).loc Cert.MixerRowsFwd.main_arg5)
      ∧ r.2.mem ((c.tc : Thread Cert.MixerRowsFwd.nD Cert.MixerRowsFwd.τ).loc Cert.MixerRowsFwd.main_arg6) = m ((c.tc : Thread Cert.MixerRowsFwd.nD Cert.MixerRowsFwd.τ).loc Cert.MixerRowsFwd.main_arg6)
      ∧ r.2.mem ((c.tc : Thread Cert.MixerRowsFwd.nD Cert.MixerRowsFwd.τ).loc Cert.MixerRowsFwd.main_arg7) = m ((c.tc : Thread Cert.MixerRowsFwd.nD Cert.MixerRowsFwd.τ).loc Cert.MixerRowsFwd.main_arg7))
      ∧ r.2.sem = fun _ => 0)

def quiescent_MixerRowsFwdIdeal [hMixerRowsFwdIdeal : Cert.MixerRowsFwdIdeal.Facts] : Prop :=
  ∀ (m : (ℓ : Loc Cert.MixerRowsFwdIdeal.nD Cert.MixerRowsFwdIdeal.τ Cert.MixerRowsFwdIdeal.sig) → Buf (Elt Ideal) ℓ) (g : Dev Cert.MixerRowsFwdIdeal.nD → PrngReg), Pre_MixerRowsFwdIdeal m →
    θ_run (Cert.MixerRowsFwdIdeal.defs (F := Ideal)) (onTc (τ := Cert.MixerRowsFwdIdeal.τ) (Cert.MixerRowsFwdIdeal.main (F := Ideal))) ⟨m, fun _ => 0, g⟩ (fun r => (∀ c : Dev Cert.MixerRowsFwdIdeal.nD,
      r.2.mem ((c.tc : Thread Cert.MixerRowsFwdIdeal.nD Cert.MixerRowsFwdIdeal.τ).loc Cert.MixerRowsFwdIdeal.main_arg0) = m ((c.tc : Thread Cert.MixerRowsFwdIdeal.nD Cert.MixerRowsFwdIdeal.τ).loc Cert.MixerRowsFwdIdeal.main_arg0)
      ∧ r.2.mem ((c.tc : Thread Cert.MixerRowsFwdIdeal.nD Cert.MixerRowsFwdIdeal.τ).loc Cert.MixerRowsFwdIdeal.main_arg1) = m ((c.tc : Thread Cert.MixerRowsFwdIdeal.nD Cert.MixerRowsFwdIdeal.τ).loc Cert.MixerRowsFwdIdeal.main_arg1)
      ∧ r.2.mem ((c.tc : Thread Cert.MixerRowsFwdIdeal.nD Cert.MixerRowsFwdIdeal.τ).loc Cert.MixerRowsFwdIdeal.main_arg2) = m ((c.tc : Thread Cert.MixerRowsFwdIdeal.nD Cert.MixerRowsFwdIdeal.τ).loc Cert.MixerRowsFwdIdeal.main_arg2)
      ∧ r.2.mem ((c.tc : Thread Cert.MixerRowsFwdIdeal.nD Cert.MixerRowsFwdIdeal.τ).loc Cert.MixerRowsFwdIdeal.main_arg3) = m ((c.tc : Thread Cert.MixerRowsFwdIdeal.nD Cert.MixerRowsFwdIdeal.τ).loc Cert.MixerRowsFwdIdeal.main_arg3)
      ∧ r.2.mem ((c.tc : Thread Cert.MixerRowsFwdIdeal.nD Cert.MixerRowsFwdIdeal.τ).loc Cert.MixerRowsFwdIdeal.main_arg4) = m ((c.tc : Thread Cert.MixerRowsFwdIdeal.nD Cert.MixerRowsFwdIdeal.τ).loc Cert.MixerRowsFwdIdeal.main_arg4)
      ∧ r.2.mem ((c.tc : Thread Cert.MixerRowsFwdIdeal.nD Cert.MixerRowsFwdIdeal.τ).loc Cert.MixerRowsFwdIdeal.main_arg5) = m ((c.tc : Thread Cert.MixerRowsFwdIdeal.nD Cert.MixerRowsFwdIdeal.τ).loc Cert.MixerRowsFwdIdeal.main_arg5)
      ∧ r.2.mem ((c.tc : Thread Cert.MixerRowsFwdIdeal.nD Cert.MixerRowsFwdIdeal.τ).loc Cert.MixerRowsFwdIdeal.main_arg6) = m ((c.tc : Thread Cert.MixerRowsFwdIdeal.nD Cert.MixerRowsFwdIdeal.τ).loc Cert.MixerRowsFwdIdeal.main_arg6)
      ∧ r.2.mem ((c.tc : Thread Cert.MixerRowsFwdIdeal.nD Cert.MixerRowsFwdIdeal.τ).loc Cert.MixerRowsFwdIdeal.main_arg7) = m ((c.tc : Thread Cert.MixerRowsFwdIdeal.nD Cert.MixerRowsFwdIdeal.τ).loc Cert.MixerRowsFwdIdeal.main_arg7))
      ∧ r.2.sem = fun _ => 0)

def quiescent_MixerRowsFwdRefIdeal [hMixerRowsFwdRefIdeal : Cert.MixerRowsFwdRefIdeal.Facts] : Prop :=
  ∀ (m : (ℓ : Loc Cert.MixerRowsFwdRefIdeal.nD Cert.MixerRowsFwdRefIdeal.τ Cert.MixerRowsFwdRefIdeal.sig) → Buf (Elt Ideal) ℓ) (g : Dev Cert.MixerRowsFwdRefIdeal.nD → PrngReg), Pre_MixerRowsFwdRefIdeal m →
    θ_run (Cert.MixerRowsFwdRefIdeal.defs (F := Ideal)) (onTc (τ := Cert.MixerRowsFwdRefIdeal.τ) (Cert.MixerRowsFwdRefIdeal.main (F := Ideal))) ⟨m, fun _ => 0, g⟩ (fun r => (∀ c : Dev Cert.MixerRowsFwdRefIdeal.nD,
      r.2.mem ((c.tc : Thread Cert.MixerRowsFwdRefIdeal.nD Cert.MixerRowsFwdRefIdeal.τ).loc Cert.MixerRowsFwdRefIdeal.main_arg0) = m ((c.tc : Thread Cert.MixerRowsFwdRefIdeal.nD Cert.MixerRowsFwdRefIdeal.τ).loc Cert.MixerRowsFwdRefIdeal.main_arg0)
      ∧ r.2.mem ((c.tc : Thread Cert.MixerRowsFwdRefIdeal.nD Cert.MixerRowsFwdRefIdeal.τ).loc Cert.MixerRowsFwdRefIdeal.main_arg1) = m ((c.tc : Thread Cert.MixerRowsFwdRefIdeal.nD Cert.MixerRowsFwdRefIdeal.τ).loc Cert.MixerRowsFwdRefIdeal.main_arg1)
      ∧ r.2.mem ((c.tc : Thread Cert.MixerRowsFwdRefIdeal.nD Cert.MixerRowsFwdRefIdeal.τ).loc Cert.MixerRowsFwdRefIdeal.main_arg2) = m ((c.tc : Thread Cert.MixerRowsFwdRefIdeal.nD Cert.MixerRowsFwdRefIdeal.τ).loc Cert.MixerRowsFwdRefIdeal.main_arg2)
      ∧ r.2.mem ((c.tc : Thread Cert.MixerRowsFwdRefIdeal.nD Cert.MixerRowsFwdRefIdeal.τ).loc Cert.MixerRowsFwdRefIdeal.main_arg3) = m ((c.tc : Thread Cert.MixerRowsFwdRefIdeal.nD Cert.MixerRowsFwdRefIdeal.τ).loc Cert.MixerRowsFwdRefIdeal.main_arg3)
      ∧ r.2.mem ((c.tc : Thread Cert.MixerRowsFwdRefIdeal.nD Cert.MixerRowsFwdRefIdeal.τ).loc Cert.MixerRowsFwdRefIdeal.main_arg4) = m ((c.tc : Thread Cert.MixerRowsFwdRefIdeal.nD Cert.MixerRowsFwdRefIdeal.τ).loc Cert.MixerRowsFwdRefIdeal.main_arg4)
      ∧ r.2.mem ((c.tc : Thread Cert.MixerRowsFwdRefIdeal.nD Cert.MixerRowsFwdRefIdeal.τ).loc Cert.MixerRowsFwdRefIdeal.main_arg5) = m ((c.tc : Thread Cert.MixerRowsFwdRefIdeal.nD Cert.MixerRowsFwdRefIdeal.τ).loc Cert.MixerRowsFwdRefIdeal.main_arg5)
      ∧ r.2.mem ((c.tc : Thread Cert.MixerRowsFwdRefIdeal.nD Cert.MixerRowsFwdRefIdeal.τ).loc Cert.MixerRowsFwdRefIdeal.main_arg6) = m ((c.tc : Thread Cert.MixerRowsFwdRefIdeal.nD Cert.MixerRowsFwdRefIdeal.τ).loc Cert.MixerRowsFwdRefIdeal.main_arg6)
      ∧ r.2.mem ((c.tc : Thread Cert.MixerRowsFwdRefIdeal.nD Cert.MixerRowsFwdRefIdeal.τ).loc Cert.MixerRowsFwdRefIdeal.main_arg7) = m ((c.tc : Thread Cert.MixerRowsFwdRefIdeal.nD Cert.MixerRowsFwdRefIdeal.τ).loc Cert.MixerRowsFwdRefIdeal.main_arg7))
      ∧ r.2.sem = fun _ => 0)

def quiescent_ShortConvFwd [hShortConvFwd : Cert.ShortConvFwd.Facts] : Prop :=
  ∀ (m : (ℓ : Loc Cert.ShortConvFwd.nD Cert.ShortConvFwd.τ Cert.ShortConvFwd.sig) → Buf (Elt Bits) ℓ) (g : Dev Cert.ShortConvFwd.nD → PrngReg), Pre_ShortConvFwd m →
    θ_run (Cert.ShortConvFwd.defs (F := Bits)) (onTc (τ := Cert.ShortConvFwd.τ) (Cert.ShortConvFwd.main (F := Bits))) ⟨m, fun _ => 0, g⟩ (fun r => (∀ c : Dev Cert.ShortConvFwd.nD,
      r.2.mem ((c.tc : Thread Cert.ShortConvFwd.nD Cert.ShortConvFwd.τ).loc Cert.ShortConvFwd.main_arg0) = m ((c.tc : Thread Cert.ShortConvFwd.nD Cert.ShortConvFwd.τ).loc Cert.ShortConvFwd.main_arg0)
      ∧ r.2.mem ((c.tc : Thread Cert.ShortConvFwd.nD Cert.ShortConvFwd.τ).loc Cert.ShortConvFwd.main_arg1) = m ((c.tc : Thread Cert.ShortConvFwd.nD Cert.ShortConvFwd.τ).loc Cert.ShortConvFwd.main_arg1)
      ∧ r.2.mem ((c.tc : Thread Cert.ShortConvFwd.nD Cert.ShortConvFwd.τ).loc Cert.ShortConvFwd.main_arg2) = m ((c.tc : Thread Cert.ShortConvFwd.nD Cert.ShortConvFwd.τ).loc Cert.ShortConvFwd.main_arg2))
      ∧ r.2.sem = fun _ => 0)

def quiescent_ShortConvFwdIdeal [hShortConvFwdIdeal : Cert.ShortConvFwdIdeal.Facts] : Prop :=
  ∀ (m : (ℓ : Loc Cert.ShortConvFwdIdeal.nD Cert.ShortConvFwdIdeal.τ Cert.ShortConvFwdIdeal.sig) → Buf (Elt Ideal) ℓ) (g : Dev Cert.ShortConvFwdIdeal.nD → PrngReg), Pre_ShortConvFwdIdeal m →
    θ_run (Cert.ShortConvFwdIdeal.defs (F := Ideal)) (onTc (τ := Cert.ShortConvFwdIdeal.τ) (Cert.ShortConvFwdIdeal.main (F := Ideal))) ⟨m, fun _ => 0, g⟩ (fun r => (∀ c : Dev Cert.ShortConvFwdIdeal.nD,
      r.2.mem ((c.tc : Thread Cert.ShortConvFwdIdeal.nD Cert.ShortConvFwdIdeal.τ).loc Cert.ShortConvFwdIdeal.main_arg0) = m ((c.tc : Thread Cert.ShortConvFwdIdeal.nD Cert.ShortConvFwdIdeal.τ).loc Cert.ShortConvFwdIdeal.main_arg0)
      ∧ r.2.mem ((c.tc : Thread Cert.ShortConvFwdIdeal.nD Cert.ShortConvFwdIdeal.τ).loc Cert.ShortConvFwdIdeal.main_arg1) = m ((c.tc : Thread Cert.ShortConvFwdIdeal.nD Cert.ShortConvFwdIdeal.τ).loc Cert.ShortConvFwdIdeal.main_arg1)
      ∧ r.2.mem ((c.tc : Thread Cert.ShortConvFwdIdeal.nD Cert.ShortConvFwdIdeal.τ).loc Cert.ShortConvFwdIdeal.main_arg2) = m ((c.tc : Thread Cert.ShortConvFwdIdeal.nD Cert.ShortConvFwdIdeal.τ).loc Cert.ShortConvFwdIdeal.main_arg2))
      ∧ r.2.sem = fun _ => 0)

def quiescent_ShortConvFwdRefIdeal [hShortConvFwdRefIdeal : Cert.ShortConvFwdRefIdeal.Facts] : Prop :=
  ∀ (m : (ℓ : Loc Cert.ShortConvFwdRefIdeal.nD Cert.ShortConvFwdRefIdeal.τ Cert.ShortConvFwdRefIdeal.sig) → Buf (Elt Ideal) ℓ) (g : Dev Cert.ShortConvFwdRefIdeal.nD → PrngReg), Pre_ShortConvFwdRefIdeal m →
    θ_run (Cert.ShortConvFwdRefIdeal.defs (F := Ideal)) (onTc (τ := Cert.ShortConvFwdRefIdeal.τ) (Cert.ShortConvFwdRefIdeal.main (F := Ideal))) ⟨m, fun _ => 0, g⟩ (fun r => (∀ c : Dev Cert.ShortConvFwdRefIdeal.nD,
      r.2.mem ((c.tc : Thread Cert.ShortConvFwdRefIdeal.nD Cert.ShortConvFwdRefIdeal.τ).loc Cert.ShortConvFwdRefIdeal.main_arg0) = m ((c.tc : Thread Cert.ShortConvFwdRefIdeal.nD Cert.ShortConvFwdRefIdeal.τ).loc Cert.ShortConvFwdRefIdeal.main_arg0)
      ∧ r.2.mem ((c.tc : Thread Cert.ShortConvFwdRefIdeal.nD Cert.ShortConvFwdRefIdeal.τ).loc Cert.ShortConvFwdRefIdeal.main_arg1) = m ((c.tc : Thread Cert.ShortConvFwdRefIdeal.nD Cert.ShortConvFwdRefIdeal.τ).loc Cert.ShortConvFwdRefIdeal.main_arg1)
      ∧ r.2.mem ((c.tc : Thread Cert.ShortConvFwdRefIdeal.nD Cert.ShortConvFwdRefIdeal.τ).loc Cert.ShortConvFwdRefIdeal.main_arg2) = m ((c.tc : Thread Cert.ShortConvFwdRefIdeal.nD Cert.ShortConvFwdRefIdeal.τ).loc Cert.ShortConvFwdRefIdeal.main_arg2))
      ∧ r.2.sem = fun _ => 0)

def quiescent_MmIn [hMmIn : Cert.MmIn.Facts] : Prop :=
  ∀ (m : (ℓ : Loc Cert.MmIn.nD Cert.MmIn.τ Cert.MmIn.sig) → Buf (Elt Bits) ℓ) (g : Dev Cert.MmIn.nD → PrngReg), Pre_MmIn m →
    θ_run (Cert.MmIn.defs (F := Bits)) (onTc (τ := Cert.MmIn.τ) (Cert.MmIn.main (F := Bits))) ⟨m, fun _ => 0, g⟩ (fun r => (∀ c : Dev Cert.MmIn.nD,
      r.2.mem ((c.tc : Thread Cert.MmIn.nD Cert.MmIn.τ).loc Cert.MmIn.main_arg0) = m ((c.tc : Thread Cert.MmIn.nD Cert.MmIn.τ).loc Cert.MmIn.main_arg0)
      ∧ r.2.mem ((c.tc : Thread Cert.MmIn.nD Cert.MmIn.τ).loc Cert.MmIn.main_arg1) = m ((c.tc : Thread Cert.MmIn.nD Cert.MmIn.τ).loc Cert.MmIn.main_arg1))
      ∧ r.2.sem = fun _ => 0)

def quiescent_MmInIdeal [hMmInIdeal : Cert.MmInIdeal.Facts] : Prop :=
  ∀ (m : (ℓ : Loc Cert.MmInIdeal.nD Cert.MmInIdeal.τ Cert.MmInIdeal.sig) → Buf (Elt Ideal) ℓ) (g : Dev Cert.MmInIdeal.nD → PrngReg), Pre_MmInIdeal m →
    θ_run (Cert.MmInIdeal.defs (F := Ideal)) (onTc (τ := Cert.MmInIdeal.τ) (Cert.MmInIdeal.main (F := Ideal))) ⟨m, fun _ => 0, g⟩ (fun r => (∀ c : Dev Cert.MmInIdeal.nD,
      r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
      ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ r.2.sem = fun _ => 0)

def quiescent_MmInRefIdeal [hMmInRefIdeal : Cert.MmInRefIdeal.Facts] : Prop :=
  ∀ (m : (ℓ : Loc Cert.MmInRefIdeal.nD Cert.MmInRefIdeal.τ Cert.MmInRefIdeal.sig) → Buf (Elt Ideal) ℓ) (g : Dev Cert.MmInRefIdeal.nD → PrngReg), Pre_MmInRefIdeal m →
    θ_run (Cert.MmInRefIdeal.defs (F := Ideal)) (onTc (τ := Cert.MmInRefIdeal.τ) (Cert.MmInRefIdeal.main (F := Ideal))) ⟨m, fun _ => 0, g⟩ (fun r => (∀ c : Dev Cert.MmInRefIdeal.nD,
      r.2.mem ((c.tc : Thread Cert.MmInRefIdeal.nD Cert.MmInRefIdeal.τ).loc Cert.MmInRefIdeal.main_arg0) = m ((c.tc : Thread Cert.MmInRefIdeal.nD Cert.MmInRefIdeal.τ).loc Cert.MmInRefIdeal.main_arg0)
      ∧ r.2.mem ((c.tc : Thread Cert.MmInRefIdeal.nD Cert.MmInRefIdeal.τ).loc Cert.MmInRefIdeal.main_arg1) = m ((c.tc : Thread Cert.MmInRefIdeal.nD Cert.MmInRefIdeal.τ).loc Cert.MmInRefIdeal.main_arg1))
      ∧ r.2.sem = fun _ => 0)

def quiescent_MmOutDgrad [hMmOutDgrad : Cert.MmOutDgrad.Facts] : Prop :=
  ∀ (m : (ℓ : Loc Cert.MmOutDgrad.nD Cert.MmOutDgrad.τ Cert.MmOutDgrad.sig) → Buf (Elt Bits) ℓ) (g : Dev Cert.MmOutDgrad.nD → PrngReg), Pre_MmOutDgrad m →
    θ_run (Cert.MmOutDgrad.defs (F := Bits)) (onTc (τ := Cert.MmOutDgrad.τ) (Cert.MmOutDgrad.main (F := Bits))) ⟨m, fun _ => 0, g⟩ (fun r => (∀ c : Dev Cert.MmOutDgrad.nD,
      r.2.mem ((c.tc : Thread Cert.MmOutDgrad.nD Cert.MmOutDgrad.τ).loc Cert.MmOutDgrad.main_arg0) = m ((c.tc : Thread Cert.MmOutDgrad.nD Cert.MmOutDgrad.τ).loc Cert.MmOutDgrad.main_arg0)
      ∧ r.2.mem ((c.tc : Thread Cert.MmOutDgrad.nD Cert.MmOutDgrad.τ).loc Cert.MmOutDgrad.main_arg1) = m ((c.tc : Thread Cert.MmOutDgrad.nD Cert.MmOutDgrad.τ).loc Cert.MmOutDgrad.main_arg1)
      ∧ r.2.mem ((c.tc : Thread Cert.MmOutDgrad.nD Cert.MmOutDgrad.τ).loc Cert.MmOutDgrad.main_arg2) = m ((c.tc : Thread Cert.MmOutDgrad.nD Cert.MmOutDgrad.τ).loc Cert.MmOutDgrad.main_arg2))
      ∧ r.2.sem = fun _ => 0)

def quiescent_MmOutDgradIdeal [hMmOutDgradIdeal : Cert.MmOutDgradIdeal.Facts] : Prop :=
  ∀ (m : (ℓ : Loc Cert.MmOutDgradIdeal.nD Cert.MmOutDgradIdeal.τ Cert.MmOutDgradIdeal.sig) → Buf (Elt Ideal) ℓ) (g : Dev Cert.MmOutDgradIdeal.nD → PrngReg), Pre_MmOutDgradIdeal m →
    θ_run (Cert.MmOutDgradIdeal.defs (F := Ideal)) (onTc (τ := Cert.MmOutDgradIdeal.τ) (Cert.MmOutDgradIdeal.main (F := Ideal))) ⟨m, fun _ => 0, g⟩ (fun r => (∀ c : Dev Cert.MmOutDgradIdeal.nD,
      r.2.mem ((c.tc : Thread Cert.MmOutDgradIdeal.nD Cert.MmOutDgradIdeal.τ).loc Cert.MmOutDgradIdeal.main_arg0) = m ((c.tc : Thread Cert.MmOutDgradIdeal.nD Cert.MmOutDgradIdeal.τ).loc Cert.MmOutDgradIdeal.main_arg0)
      ∧ r.2.mem ((c.tc : Thread Cert.MmOutDgradIdeal.nD Cert.MmOutDgradIdeal.τ).loc Cert.MmOutDgradIdeal.main_arg1) = m ((c.tc : Thread Cert.MmOutDgradIdeal.nD Cert.MmOutDgradIdeal.τ).loc Cert.MmOutDgradIdeal.main_arg1)
      ∧ r.2.mem ((c.tc : Thread Cert.MmOutDgradIdeal.nD Cert.MmOutDgradIdeal.τ).loc Cert.MmOutDgradIdeal.main_arg2) = m ((c.tc : Thread Cert.MmOutDgradIdeal.nD Cert.MmOutDgradIdeal.τ).loc Cert.MmOutDgradIdeal.main_arg2))
      ∧ r.2.sem = fun _ => 0)

def quiescent_MmOutDgradRefIdeal [hMmOutDgradRefIdeal : Cert.MmOutDgradRefIdeal.Facts] : Prop :=
  ∀ (m : (ℓ : Loc Cert.MmOutDgradRefIdeal.nD Cert.MmOutDgradRefIdeal.τ Cert.MmOutDgradRefIdeal.sig) → Buf (Elt Ideal) ℓ) (g : Dev Cert.MmOutDgradRefIdeal.nD → PrngReg), Pre_MmOutDgradRefIdeal m →
    θ_run (Cert.MmOutDgradRefIdeal.defs (F := Ideal)) (onTc (τ := Cert.MmOutDgradRefIdeal.τ) (Cert.MmOutDgradRefIdeal.main (F := Ideal))) ⟨m, fun _ => 0, g⟩ (fun r => (∀ c : Dev Cert.MmOutDgradRefIdeal.nD,
      r.2.mem ((c.tc : Thread Cert.MmOutDgradRefIdeal.nD Cert.MmOutDgradRefIdeal.τ).loc Cert.MmOutDgradRefIdeal.main_arg0) = m ((c.tc : Thread Cert.MmOutDgradRefIdeal.nD Cert.MmOutDgradRefIdeal.τ).loc Cert.MmOutDgradRefIdeal.main_arg0)
      ∧ r.2.mem ((c.tc : Thread Cert.MmOutDgradRefIdeal.nD Cert.MmOutDgradRefIdeal.τ).loc Cert.MmOutDgradRefIdeal.main_arg1) = m ((c.tc : Thread Cert.MmOutDgradRefIdeal.nD Cert.MmOutDgradRefIdeal.τ).loc Cert.MmOutDgradRefIdeal.main_arg1)
      ∧ r.2.mem ((c.tc : Thread Cert.MmOutDgradRefIdeal.nD Cert.MmOutDgradRefIdeal.τ).loc Cert.MmOutDgradRefIdeal.main_arg2) = m ((c.tc : Thread Cert.MmOutDgradRefIdeal.nD Cert.MmOutDgradRefIdeal.τ).loc Cert.MmOutDgradRefIdeal.main_arg2))
      ∧ r.2.sem = fun _ => 0)

def quiescent_FfnOutWgrad [hFfnOutWgrad : Cert.FfnOutWgrad.Facts] : Prop :=
  ∀ (m : (ℓ : Loc Cert.FfnOutWgrad.nD Cert.FfnOutWgrad.τ Cert.FfnOutWgrad.sig) → Buf (Elt Bits) ℓ) (g : Dev Cert.FfnOutWgrad.nD → PrngReg), Pre_FfnOutWgrad m →
    θ_run (Cert.FfnOutWgrad.defs (F := Bits)) (onTc (τ := Cert.FfnOutWgrad.τ) (Cert.FfnOutWgrad.main (F := Bits))) ⟨m, fun _ => 0, g⟩ (fun r => (∀ c : Dev Cert.FfnOutWgrad.nD,
      r.2.mem ((c.tc : Thread Cert.FfnOutWgrad.nD Cert.FfnOutWgrad.τ).loc Cert.FfnOutWgrad.main_arg0) = m ((c.tc : Thread Cert.FfnOutWgrad.nD Cert.FfnOutWgrad.τ).loc Cert.FfnOutWgrad.main_arg0)
      ∧ r.2.mem ((c.tc : Thread Cert.FfnOutWgrad.nD Cert.FfnOutWgrad.τ).loc Cert.FfnOutWgrad.main_arg1) = m ((c.tc : Thread Cert.FfnOutWgrad.nD Cert.FfnOutWgrad.τ).loc Cert.FfnOutWgrad.main_arg1)
      ∧ r.2.mem ((c.tc : Thread Cert.FfnOutWgrad.nD Cert.FfnOutWgrad.τ).loc Cert.FfnOutWgrad.main_arg2) = m ((c.tc : Thread Cert.FfnOutWgrad.nD Cert.FfnOutWgrad.τ).loc Cert.FfnOutWgrad.main_arg2))
      ∧ r.2.sem = fun _ => 0)

def quiescent_FfnOutWgradIdeal [hFfnOutWgradIdeal : Cert.FfnOutWgradIdeal.Facts] : Prop :=
  ∀ (m : (ℓ : Loc Cert.FfnOutWgradIdeal.nD Cert.FfnOutWgradIdeal.τ Cert.FfnOutWgradIdeal.sig) → Buf (Elt Ideal) ℓ) (g : Dev Cert.FfnOutWgradIdeal.nD → PrngReg), Pre_FfnOutWgradIdeal m →
    θ_run (Cert.FfnOutWgradIdeal.defs (F := Ideal)) (onTc (τ := Cert.FfnOutWgradIdeal.τ) (Cert.FfnOutWgradIdeal.main (F := Ideal))) ⟨m, fun _ => 0, g⟩ (fun r => (∀ c : Dev Cert.FfnOutWgradIdeal.nD,
      r.2.mem ((c.tc : Thread Cert.FfnOutWgradIdeal.nD Cert.FfnOutWgradIdeal.τ).loc Cert.FfnOutWgradIdeal.main_arg0) = m ((c.tc : Thread Cert.FfnOutWgradIdeal.nD Cert.FfnOutWgradIdeal.τ).loc Cert.FfnOutWgradIdeal.main_arg0)
      ∧ r.2.mem ((c.tc : Thread Cert.FfnOutWgradIdeal.nD Cert.FfnOutWgradIdeal.τ).loc Cert.FfnOutWgradIdeal.main_arg1) = m ((c.tc : Thread Cert.FfnOutWgradIdeal.nD Cert.FfnOutWgradIdeal.τ).loc Cert.FfnOutWgradIdeal.main_arg1)
      ∧ r.2.mem ((c.tc : Thread Cert.FfnOutWgradIdeal.nD Cert.FfnOutWgradIdeal.τ).loc Cert.FfnOutWgradIdeal.main_arg2) = m ((c.tc : Thread Cert.FfnOutWgradIdeal.nD Cert.FfnOutWgradIdeal.τ).loc Cert.FfnOutWgradIdeal.main_arg2))
      ∧ r.2.sem = fun _ => 0)

def quiescent_FfnOutWgradRefIdeal [hFfnOutWgradRefIdeal : Cert.FfnOutWgradRefIdeal.Facts] : Prop :=
  ∀ (m : (ℓ : Loc Cert.FfnOutWgradRefIdeal.nD Cert.FfnOutWgradRefIdeal.τ Cert.FfnOutWgradRefIdeal.sig) → Buf (Elt Ideal) ℓ) (g : Dev Cert.FfnOutWgradRefIdeal.nD → PrngReg), Pre_FfnOutWgradRefIdeal m →
    θ_run (Cert.FfnOutWgradRefIdeal.defs (F := Ideal)) (onTc (τ := Cert.FfnOutWgradRefIdeal.τ) (Cert.FfnOutWgradRefIdeal.main (F := Ideal))) ⟨m, fun _ => 0, g⟩ (fun r => (∀ c : Dev Cert.FfnOutWgradRefIdeal.nD,
      r.2.mem ((c.tc : Thread Cert.FfnOutWgradRefIdeal.nD Cert.FfnOutWgradRefIdeal.τ).loc Cert.FfnOutWgradRefIdeal.main_arg0) = m ((c.tc : Thread Cert.FfnOutWgradRefIdeal.nD Cert.FfnOutWgradRefIdeal.τ).loc Cert.FfnOutWgradRefIdeal.main_arg0)
      ∧ r.2.mem ((c.tc : Thread Cert.FfnOutWgradRefIdeal.nD Cert.FfnOutWgradRefIdeal.τ).loc Cert.FfnOutWgradRefIdeal.main_arg1) = m ((c.tc : Thread Cert.FfnOutWgradRefIdeal.nD Cert.FfnOutWgradRefIdeal.τ).loc Cert.FfnOutWgradRefIdeal.main_arg1)
      ∧ r.2.mem ((c.tc : Thread Cert.FfnOutWgradRefIdeal.nD Cert.FfnOutWgradRefIdeal.τ).loc Cert.FfnOutWgradRefIdeal.main_arg2) = m ((c.tc : Thread Cert.FfnOutWgradRefIdeal.nD Cert.FfnOutWgradRefIdeal.τ).loc Cert.FfnOutWgradRefIdeal.main_arg2))
      ∧ r.2.sem = fun _ => 0)

def quiescent_BranchDgrad [hBranchDgrad : Cert.BranchDgrad.Facts] : Prop :=
  ∀ (m : (ℓ : Loc Cert.BranchDgrad.nD Cert.BranchDgrad.τ Cert.BranchDgrad.sig) → Buf (Elt Bits) ℓ) (g : Dev Cert.BranchDgrad.nD → PrngReg), Pre_BranchDgrad m →
    θ_run (Cert.BranchDgrad.defs (F := Bits)) (onTc (τ := Cert.BranchDgrad.τ) (Cert.BranchDgrad.main (F := Bits))) ⟨m, fun _ => 0, g⟩ (fun r => (∀ c : Dev Cert.BranchDgrad.nD,
      r.2.mem ((c.tc : Thread Cert.BranchDgrad.nD Cert.BranchDgrad.τ).loc Cert.BranchDgrad.main_arg0) = m ((c.tc : Thread Cert.BranchDgrad.nD Cert.BranchDgrad.τ).loc Cert.BranchDgrad.main_arg0)
      ∧ r.2.mem ((c.tc : Thread Cert.BranchDgrad.nD Cert.BranchDgrad.τ).loc Cert.BranchDgrad.main_arg1) = m ((c.tc : Thread Cert.BranchDgrad.nD Cert.BranchDgrad.τ).loc Cert.BranchDgrad.main_arg1)
      ∧ r.2.mem ((c.tc : Thread Cert.BranchDgrad.nD Cert.BranchDgrad.τ).loc Cert.BranchDgrad.main_arg2) = m ((c.tc : Thread Cert.BranchDgrad.nD Cert.BranchDgrad.τ).loc Cert.BranchDgrad.main_arg2))
      ∧ r.2.sem = fun _ => 0)

def quiescent_BranchDgradIdeal [hBranchDgradIdeal : Cert.BranchDgradIdeal.Facts] : Prop :=
  ∀ (m : (ℓ : Loc Cert.BranchDgradIdeal.nD Cert.BranchDgradIdeal.τ Cert.BranchDgradIdeal.sig) → Buf (Elt Ideal) ℓ) (g : Dev Cert.BranchDgradIdeal.nD → PrngReg), Pre_BranchDgradIdeal m →
    θ_run (Cert.BranchDgradIdeal.defs (F := Ideal)) (onTc (τ := Cert.BranchDgradIdeal.τ) (Cert.BranchDgradIdeal.main (F := Ideal))) ⟨m, fun _ => 0, g⟩ (fun r => (∀ c : Dev Cert.BranchDgradIdeal.nD,
      r.2.mem ((c.tc : Thread Cert.BranchDgradIdeal.nD Cert.BranchDgradIdeal.τ).loc Cert.BranchDgradIdeal.main_arg0) = m ((c.tc : Thread Cert.BranchDgradIdeal.nD Cert.BranchDgradIdeal.τ).loc Cert.BranchDgradIdeal.main_arg0)
      ∧ r.2.mem ((c.tc : Thread Cert.BranchDgradIdeal.nD Cert.BranchDgradIdeal.τ).loc Cert.BranchDgradIdeal.main_arg1) = m ((c.tc : Thread Cert.BranchDgradIdeal.nD Cert.BranchDgradIdeal.τ).loc Cert.BranchDgradIdeal.main_arg1)
      ∧ r.2.mem ((c.tc : Thread Cert.BranchDgradIdeal.nD Cert.BranchDgradIdeal.τ).loc Cert.BranchDgradIdeal.main_arg2) = m ((c.tc : Thread Cert.BranchDgradIdeal.nD Cert.BranchDgradIdeal.τ).loc Cert.BranchDgradIdeal.main_arg2))
      ∧ r.2.sem = fun _ => 0)

def quiescent_BranchDgradRefIdeal [hBranchDgradRefIdeal : Cert.BranchDgradRefIdeal.Facts] : Prop :=
  ∀ (m : (ℓ : Loc Cert.BranchDgradRefIdeal.nD Cert.BranchDgradRefIdeal.τ Cert.BranchDgradRefIdeal.sig) → Buf (Elt Ideal) ℓ) (g : Dev Cert.BranchDgradRefIdeal.nD → PrngReg), Pre_BranchDgradRefIdeal m →
    θ_run (Cert.BranchDgradRefIdeal.defs (F := Ideal)) (onTc (τ := Cert.BranchDgradRefIdeal.τ) (Cert.BranchDgradRefIdeal.main (F := Ideal))) ⟨m, fun _ => 0, g⟩ (fun r => (∀ c : Dev Cert.BranchDgradRefIdeal.nD,
      r.2.mem ((c.tc : Thread Cert.BranchDgradRefIdeal.nD Cert.BranchDgradRefIdeal.τ).loc Cert.BranchDgradRefIdeal.main_arg0) = m ((c.tc : Thread Cert.BranchDgradRefIdeal.nD Cert.BranchDgradRefIdeal.τ).loc Cert.BranchDgradRefIdeal.main_arg0)
      ∧ r.2.mem ((c.tc : Thread Cert.BranchDgradRefIdeal.nD Cert.BranchDgradRefIdeal.τ).loc Cert.BranchDgradRefIdeal.main_arg1) = m ((c.tc : Thread Cert.BranchDgradRefIdeal.nD Cert.BranchDgradRefIdeal.τ).loc Cert.BranchDgradRefIdeal.main_arg1)
      ∧ r.2.mem ((c.tc : Thread Cert.BranchDgradRefIdeal.nD Cert.BranchDgradRefIdeal.τ).loc Cert.BranchDgradRefIdeal.main_arg2) = m ((c.tc : Thread Cert.BranchDgradRefIdeal.nD Cert.BranchDgradRefIdeal.τ).loc Cert.BranchDgradRefIdeal.main_arg2))
      ∧ r.2.sem = fun _ => 0)

def quiescent_BranchWgrad [hBranchWgrad : Cert.BranchWgrad.Facts] : Prop :=
  ∀ (m : (ℓ : Loc Cert.BranchWgrad.nD Cert.BranchWgrad.τ Cert.BranchWgrad.sig) → Buf (Elt Bits) ℓ) (g : Dev Cert.BranchWgrad.nD → PrngReg), Pre_BranchWgrad m →
    θ_run (Cert.BranchWgrad.defs (F := Bits)) (onTc (τ := Cert.BranchWgrad.τ) (Cert.BranchWgrad.main (F := Bits))) ⟨m, fun _ => 0, g⟩ (fun r => (∀ c : Dev Cert.BranchWgrad.nD,
      r.2.mem ((c.tc : Thread Cert.BranchWgrad.nD Cert.BranchWgrad.τ).loc Cert.BranchWgrad.main_arg0) = m ((c.tc : Thread Cert.BranchWgrad.nD Cert.BranchWgrad.τ).loc Cert.BranchWgrad.main_arg0)
      ∧ r.2.mem ((c.tc : Thread Cert.BranchWgrad.nD Cert.BranchWgrad.τ).loc Cert.BranchWgrad.main_arg1) = m ((c.tc : Thread Cert.BranchWgrad.nD Cert.BranchWgrad.τ).loc Cert.BranchWgrad.main_arg1)
      ∧ r.2.mem ((c.tc : Thread Cert.BranchWgrad.nD Cert.BranchWgrad.τ).loc Cert.BranchWgrad.main_arg2) = m ((c.tc : Thread Cert.BranchWgrad.nD Cert.BranchWgrad.τ).loc Cert.BranchWgrad.main_arg2))
      ∧ r.2.sem = fun _ => 0)

def quiescent_BranchWgradIdeal [hBranchWgradIdeal : Cert.BranchWgradIdeal.Facts] : Prop :=
  ∀ (m : (ℓ : Loc Cert.BranchWgradIdeal.nD Cert.BranchWgradIdeal.τ Cert.BranchWgradIdeal.sig) → Buf (Elt Ideal) ℓ) (g : Dev Cert.BranchWgradIdeal.nD → PrngReg), Pre_BranchWgradIdeal m →
    θ_run (Cert.BranchWgradIdeal.defs (F := Ideal)) (onTc (τ := Cert.BranchWgradIdeal.τ) (Cert.BranchWgradIdeal.main (F := Ideal))) ⟨m, fun _ => 0, g⟩ (fun r => (∀ c : Dev Cert.BranchWgradIdeal.nD,
      r.2.mem ((c.tc : Thread Cert.BranchWgradIdeal.nD Cert.BranchWgradIdeal.τ).loc Cert.BranchWgradIdeal.main_arg0) = m ((c.tc : Thread Cert.BranchWgradIdeal.nD Cert.BranchWgradIdeal.τ).loc Cert.BranchWgradIdeal.main_arg0)
      ∧ r.2.mem ((c.tc : Thread Cert.BranchWgradIdeal.nD Cert.BranchWgradIdeal.τ).loc Cert.BranchWgradIdeal.main_arg1) = m ((c.tc : Thread Cert.BranchWgradIdeal.nD Cert.BranchWgradIdeal.τ).loc Cert.BranchWgradIdeal.main_arg1)
      ∧ r.2.mem ((c.tc : Thread Cert.BranchWgradIdeal.nD Cert.BranchWgradIdeal.τ).loc Cert.BranchWgradIdeal.main_arg2) = m ((c.tc : Thread Cert.BranchWgradIdeal.nD Cert.BranchWgradIdeal.τ).loc Cert.BranchWgradIdeal.main_arg2))
      ∧ r.2.sem = fun _ => 0)

def quiescent_BranchWgradRefIdeal [hBranchWgradRefIdeal : Cert.BranchWgradRefIdeal.Facts] : Prop :=
  ∀ (m : (ℓ : Loc Cert.BranchWgradRefIdeal.nD Cert.BranchWgradRefIdeal.τ Cert.BranchWgradRefIdeal.sig) → Buf (Elt Ideal) ℓ) (g : Dev Cert.BranchWgradRefIdeal.nD → PrngReg), Pre_BranchWgradRefIdeal m →
    θ_run (Cert.BranchWgradRefIdeal.defs (F := Ideal)) (onTc (τ := Cert.BranchWgradRefIdeal.τ) (Cert.BranchWgradRefIdeal.main (F := Ideal))) ⟨m, fun _ => 0, g⟩ (fun r => (∀ c : Dev Cert.BranchWgradRefIdeal.nD,
      r.2.mem ((c.tc : Thread Cert.BranchWgradRefIdeal.nD Cert.BranchWgradRefIdeal.τ).loc Cert.BranchWgradRefIdeal.main_arg0) = m ((c.tc : Thread Cert.BranchWgradRefIdeal.nD Cert.BranchWgradRefIdeal.τ).loc Cert.BranchWgradRefIdeal.main_arg0)
      ∧ r.2.mem ((c.tc : Thread Cert.BranchWgradRefIdeal.nD Cert.BranchWgradRefIdeal.τ).loc Cert.BranchWgradRefIdeal.main_arg1) = m ((c.tc : Thread Cert.BranchWgradRefIdeal.nD Cert.BranchWgradRefIdeal.τ).loc Cert.BranchWgradRefIdeal.main_arg1)
      ∧ r.2.mem ((c.tc : Thread Cert.BranchWgradRefIdeal.nD Cert.BranchWgradRefIdeal.τ).loc Cert.BranchWgradRefIdeal.main_arg2) = m ((c.tc : Thread Cert.BranchWgradRefIdeal.nD Cert.BranchWgradRefIdeal.τ).loc Cert.BranchWgradRefIdeal.main_arg2))
      ∧ r.2.sem = fun _ => 0)

def quiescent_MmInWgrad [hMmInWgrad : Cert.MmInWgrad.Facts] : Prop :=
  ∀ (m : (ℓ : Loc Cert.MmInWgrad.nD Cert.MmInWgrad.τ Cert.MmInWgrad.sig) → Buf (Elt Bits) ℓ) (g : Dev Cert.MmInWgrad.nD → PrngReg), Pre_MmInWgrad m →
    θ_run (Cert.MmInWgrad.defs (F := Bits)) (onTc (τ := Cert.MmInWgrad.τ) (Cert.MmInWgrad.main (F := Bits))) ⟨m, fun _ => 0, g⟩ (fun r => (∀ c : Dev Cert.MmInWgrad.nD,
      r.2.mem ((c.tc : Thread Cert.MmInWgrad.nD Cert.MmInWgrad.τ).loc Cert.MmInWgrad.main_arg0) = m ((c.tc : Thread Cert.MmInWgrad.nD Cert.MmInWgrad.τ).loc Cert.MmInWgrad.main_arg0)
      ∧ r.2.mem ((c.tc : Thread Cert.MmInWgrad.nD Cert.MmInWgrad.τ).loc Cert.MmInWgrad.main_arg1) = m ((c.tc : Thread Cert.MmInWgrad.nD Cert.MmInWgrad.τ).loc Cert.MmInWgrad.main_arg1)
      ∧ r.2.mem ((c.tc : Thread Cert.MmInWgrad.nD Cert.MmInWgrad.τ).loc Cert.MmInWgrad.main_arg2) = m ((c.tc : Thread Cert.MmInWgrad.nD Cert.MmInWgrad.τ).loc Cert.MmInWgrad.main_arg2))
      ∧ r.2.sem = fun _ => 0)

def quiescent_MmInWgradIdeal [hMmInWgradIdeal : Cert.MmInWgradIdeal.Facts] : Prop :=
  ∀ (m : (ℓ : Loc Cert.MmInWgradIdeal.nD Cert.MmInWgradIdeal.τ Cert.MmInWgradIdeal.sig) → Buf (Elt Ideal) ℓ) (g : Dev Cert.MmInWgradIdeal.nD → PrngReg), Pre_MmInWgradIdeal m →
    θ_run (Cert.MmInWgradIdeal.defs (F := Ideal)) (onTc (τ := Cert.MmInWgradIdeal.τ) (Cert.MmInWgradIdeal.main (F := Ideal))) ⟨m, fun _ => 0, g⟩ (fun r => (∀ c : Dev Cert.MmInWgradIdeal.nD,
      r.2.mem ((c.tc : Thread Cert.MmInWgradIdeal.nD Cert.MmInWgradIdeal.τ).loc Cert.MmInWgradIdeal.main_arg0) = m ((c.tc : Thread Cert.MmInWgradIdeal.nD Cert.MmInWgradIdeal.τ).loc Cert.MmInWgradIdeal.main_arg0)
      ∧ r.2.mem ((c.tc : Thread Cert.MmInWgradIdeal.nD Cert.MmInWgradIdeal.τ).loc Cert.MmInWgradIdeal.main_arg1) = m ((c.tc : Thread Cert.MmInWgradIdeal.nD Cert.MmInWgradIdeal.τ).loc Cert.MmInWgradIdeal.main_arg1)
      ∧ r.2.mem ((c.tc : Thread Cert.MmInWgradIdeal.nD Cert.MmInWgradIdeal.τ).loc Cert.MmInWgradIdeal.main_arg2) = m ((c.tc : Thread Cert.MmInWgradIdeal.nD Cert.MmInWgradIdeal.τ).loc Cert.MmInWgradIdeal.main_arg2))
      ∧ r.2.sem = fun _ => 0)

def quiescent_MmInWgradRefIdeal [hMmInWgradRefIdeal : Cert.MmInWgradRefIdeal.Facts] : Prop :=
  ∀ (m : (ℓ : Loc Cert.MmInWgradRefIdeal.nD Cert.MmInWgradRefIdeal.τ Cert.MmInWgradRefIdeal.sig) → Buf (Elt Ideal) ℓ) (g : Dev Cert.MmInWgradRefIdeal.nD → PrngReg), Pre_MmInWgradRefIdeal m →
    θ_run (Cert.MmInWgradRefIdeal.defs (F := Ideal)) (onTc (τ := Cert.MmInWgradRefIdeal.τ) (Cert.MmInWgradRefIdeal.main (F := Ideal))) ⟨m, fun _ => 0, g⟩ (fun r => (∀ c : Dev Cert.MmInWgradRefIdeal.nD,
      r.2.mem ((c.tc : Thread Cert.MmInWgradRefIdeal.nD Cert.MmInWgradRefIdeal.τ).loc Cert.MmInWgradRefIdeal.main_arg0) = m ((c.tc : Thread Cert.MmInWgradRefIdeal.nD Cert.MmInWgradRefIdeal.τ).loc Cert.MmInWgradRefIdeal.main_arg0)
      ∧ r.2.mem ((c.tc : Thread Cert.MmInWgradRefIdeal.nD Cert.MmInWgradRefIdeal.τ).loc Cert.MmInWgradRefIdeal.main_arg1) = m ((c.tc : Thread Cert.MmInWgradRefIdeal.nD Cert.MmInWgradRefIdeal.τ).loc Cert.MmInWgradRefIdeal.main_arg1)
      ∧ r.2.mem ((c.tc : Thread Cert.MmInWgradRefIdeal.nD Cert.MmInWgradRefIdeal.τ).loc Cert.MmInWgradRefIdeal.main_arg2) = m ((c.tc : Thread Cert.MmInWgradRefIdeal.nD Cert.MmInWgradRefIdeal.τ).loc Cert.MmInWgradRefIdeal.main_arg2))
      ∧ r.2.sem = fun _ => 0)

def quiescent_MmInDgrad [hMmInDgrad : Cert.MmInDgrad.Facts] : Prop :=
  ∀ (m : (ℓ : Loc Cert.MmInDgrad.nD Cert.MmInDgrad.τ Cert.MmInDgrad.sig) → Buf (Elt Bits) ℓ) (g : Dev Cert.MmInDgrad.nD → PrngReg), Pre_MmInDgrad m →
    θ_run (Cert.MmInDgrad.defs (F := Bits)) (onTc (τ := Cert.MmInDgrad.τ) (Cert.MmInDgrad.main (F := Bits))) ⟨m, fun _ => 0, g⟩ (fun r => (∀ c : Dev Cert.MmInDgrad.nD,
      r.2.mem ((c.tc : Thread Cert.MmInDgrad.nD Cert.MmInDgrad.τ).loc Cert.MmInDgrad.main_arg0) = m ((c.tc : Thread Cert.MmInDgrad.nD Cert.MmInDgrad.τ).loc Cert.MmInDgrad.main_arg0)
      ∧ r.2.mem ((c.tc : Thread Cert.MmInDgrad.nD Cert.MmInDgrad.τ).loc Cert.MmInDgrad.main_arg1) = m ((c.tc : Thread Cert.MmInDgrad.nD Cert.MmInDgrad.τ).loc Cert.MmInDgrad.main_arg1)
      ∧ r.2.mem ((c.tc : Thread Cert.MmInDgrad.nD Cert.MmInDgrad.τ).loc Cert.MmInDgrad.main_arg2) = m ((c.tc : Thread Cert.MmInDgrad.nD Cert.MmInDgrad.τ).loc Cert.MmInDgrad.main_arg2)
      ∧ r.2.mem ((c.tc : Thread Cert.MmInDgrad.nD Cert.MmInDgrad.τ).loc Cert.MmInDgrad.main_arg3) = m ((c.tc : Thread Cert.MmInDgrad.nD Cert.MmInDgrad.τ).loc Cert.MmInDgrad.main_arg3))
      ∧ r.2.sem = fun _ => 0)

def quiescent_MmInDgradIdeal [hMmInDgradIdeal : Cert.MmInDgradIdeal.Facts] : Prop :=
  ∀ (m : (ℓ : Loc Cert.MmInDgradIdeal.nD Cert.MmInDgradIdeal.τ Cert.MmInDgradIdeal.sig) → Buf (Elt Ideal) ℓ) (g : Dev Cert.MmInDgradIdeal.nD → PrngReg), Pre_MmInDgradIdeal m →
    θ_run (Cert.MmInDgradIdeal.defs (F := Ideal)) (onTc (τ := Cert.MmInDgradIdeal.τ) (Cert.MmInDgradIdeal.main (F := Ideal))) ⟨m, fun _ => 0, g⟩ (fun r => (∀ c : Dev Cert.MmInDgradIdeal.nD,
      r.2.mem ((c.tc : Thread Cert.MmInDgradIdeal.nD Cert.MmInDgradIdeal.τ).loc Cert.MmInDgradIdeal.main_arg0) = m ((c.tc : Thread Cert.MmInDgradIdeal.nD Cert.MmInDgradIdeal.τ).loc Cert.MmInDgradIdeal.main_arg0)
      ∧ r.2.mem ((c.tc : Thread Cert.MmInDgradIdeal.nD Cert.MmInDgradIdeal.τ).loc Cert.MmInDgradIdeal.main_arg1) = m ((c.tc : Thread Cert.MmInDgradIdeal.nD Cert.MmInDgradIdeal.τ).loc Cert.MmInDgradIdeal.main_arg1)
      ∧ r.2.mem ((c.tc : Thread Cert.MmInDgradIdeal.nD Cert.MmInDgradIdeal.τ).loc Cert.MmInDgradIdeal.main_arg2) = m ((c.tc : Thread Cert.MmInDgradIdeal.nD Cert.MmInDgradIdeal.τ).loc Cert.MmInDgradIdeal.main_arg2)
      ∧ r.2.mem ((c.tc : Thread Cert.MmInDgradIdeal.nD Cert.MmInDgradIdeal.τ).loc Cert.MmInDgradIdeal.main_arg3) = m ((c.tc : Thread Cert.MmInDgradIdeal.nD Cert.MmInDgradIdeal.τ).loc Cert.MmInDgradIdeal.main_arg3))
      ∧ r.2.sem = fun _ => 0)

def quiescent_MmInDgradRefIdeal [hMmInDgradRefIdeal : Cert.MmInDgradRefIdeal.Facts] : Prop :=
  ∀ (m : (ℓ : Loc Cert.MmInDgradRefIdeal.nD Cert.MmInDgradRefIdeal.τ Cert.MmInDgradRefIdeal.sig) → Buf (Elt Ideal) ℓ) (g : Dev Cert.MmInDgradRefIdeal.nD → PrngReg), Pre_MmInDgradRefIdeal m →
    θ_run (Cert.MmInDgradRefIdeal.defs (F := Ideal)) (onTc (τ := Cert.MmInDgradRefIdeal.τ) (Cert.MmInDgradRefIdeal.main (F := Ideal))) ⟨m, fun _ => 0, g⟩ (fun r => (∀ c : Dev Cert.MmInDgradRefIdeal.nD,
      r.2.mem ((c.tc : Thread Cert.MmInDgradRefIdeal.nD Cert.MmInDgradRefIdeal.τ).loc Cert.MmInDgradRefIdeal.main_arg0) = m ((c.tc : Thread Cert.MmInDgradRefIdeal.nD Cert.MmInDgradRefIdeal.τ).loc Cert.MmInDgradRefIdeal.main_arg0)
      ∧ r.2.mem ((c.tc : Thread Cert.MmInDgradRefIdeal.nD Cert.MmInDgradRefIdeal.τ).loc Cert.MmInDgradRefIdeal.main_arg1) = m ((c.tc : Thread Cert.MmInDgradRefIdeal.nD Cert.MmInDgradRefIdeal.τ).loc Cert.MmInDgradRefIdeal.main_arg1)
      ∧ r.2.mem ((c.tc : Thread Cert.MmInDgradRefIdeal.nD Cert.MmInDgradRefIdeal.τ).loc Cert.MmInDgradRefIdeal.main_arg2) = m ((c.tc : Thread Cert.MmInDgradRefIdeal.nD Cert.MmInDgradRefIdeal.τ).loc Cert.MmInDgradRefIdeal.main_arg2)
      ∧ r.2.mem ((c.tc : Thread Cert.MmInDgradRefIdeal.nD Cert.MmInDgradRefIdeal.τ).loc Cert.MmInDgradRefIdeal.main_arg3) = m ((c.tc : Thread Cert.MmInDgradRefIdeal.nD Cert.MmInDgradRefIdeal.τ).loc Cert.MmInDgradRefIdeal.main_arg3))
      ∧ r.2.sem = fun _ => 0)

def quiescent_SumDevices [hSumDevices : Cert.SumDevices.Facts] : Prop :=
  ∀ (m : (ℓ : Loc Cert.SumDevices.nD Cert.SumDevices.τ Cert.SumDevices.sig) → Buf (Elt Bits) ℓ) (g : Dev Cert.SumDevices.nD → PrngReg), Pre_SumDevices m →
    θ_run (Cert.SumDevices.defs (F := Bits)) (onTc (τ := Cert.SumDevices.τ) (Cert.SumDevices.main (F := Bits))) ⟨m, fun _ => 0, g⟩ (fun r => (∀ c : Dev Cert.SumDevices.nD,
      r.2.mem ((c.tc : Thread Cert.SumDevices.nD Cert.SumDevices.τ).loc Cert.SumDevices.main_arg0) = m ((c.tc : Thread Cert.SumDevices.nD Cert.SumDevices.τ).loc Cert.SumDevices.main_arg0))
      ∧ r.2.sem = fun _ => 0)

def quiescent_SumDevicesIdeal [hSumDevicesIdeal : Cert.SumDevicesIdeal.Facts] : Prop :=
  ∀ (m : (ℓ : Loc Cert.SumDevicesIdeal.nD Cert.SumDevicesIdeal.τ Cert.SumDevicesIdeal.sig) → Buf (Elt Ideal) ℓ) (g : Dev Cert.SumDevicesIdeal.nD → PrngReg), Pre_SumDevicesIdeal m →
    θ_run (Cert.SumDevicesIdeal.defs (F := Ideal)) (onTc (τ := Cert.SumDevicesIdeal.τ) (Cert.SumDevicesIdeal.main (F := Ideal))) ⟨m, fun _ => 0, g⟩ (fun r => (∀ c : Dev Cert.SumDevicesIdeal.nD,
      r.2.mem ((c.tc : Thread Cert.SumDevicesIdeal.nD Cert.SumDevicesIdeal.τ).loc Cert.SumDevicesIdeal.main_arg0) = m ((c.tc : Thread Cert.SumDevicesIdeal.nD Cert.SumDevicesIdeal.τ).loc Cert.SumDevicesIdeal.main_arg0))
      ∧ r.2.sem = fun _ => 0)

def quiescent_SumDevicesRefIdeal [hSumDevicesRefIdeal : Cert.SumDevicesRefIdeal.Facts] : Prop :=
  ∀ (m : (ℓ : Loc Cert.SumDevicesRefIdeal.nD Cert.SumDevicesRefIdeal.τ Cert.SumDevicesRefIdeal.sig) → Buf (Elt Ideal) ℓ) (g : Dev Cert.SumDevicesRefIdeal.nD → PrngReg), Pre_SumDevicesRefIdeal m →
    θ_run (Cert.SumDevicesRefIdeal.defs (F := Ideal)) (onTc (τ := Cert.SumDevicesRefIdeal.τ) (Cert.SumDevicesRefIdeal.main (F := Ideal))) ⟨m, fun _ => 0, g⟩ (fun r => (∀ c : Dev Cert.SumDevicesRefIdeal.nD,
      r.2.mem ((c.tc : Thread Cert.SumDevicesRefIdeal.nD Cert.SumDevicesRefIdeal.τ).loc Cert.SumDevicesRefIdeal.main_arg0) = m ((c.tc : Thread Cert.SumDevicesRefIdeal.nD Cert.SumDevicesRefIdeal.τ).loc Cert.SumDevicesRefIdeal.main_arg0))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def preserves_GateBwd_GateBwdIdeal : Prop :=
  True

def algebraic_GateBwdIdeal_GateBwdRefIdeal [hGateBwdIdeal : Cert.GateBwdIdeal.Facts] [hGateBwdRefIdeal : Cert.GateBwdRefIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdRefIdeal.nD Cert.GateBwdRefIdeal.τ Cert.GateBwdRefIdeal.sig) → Buf (Elt Ideal) ℓ) (g' : Dev Cert.GateBwdRefIdeal.nD → PrngReg), Pre_GateBwdIdeal m →
    (∀ c : Dev Cert.GateBwdIdeal.nD,
      m' ((c.tc : Thread Cert.GateBwdRefIdeal.nD Cert.GateBwdRefIdeal.τ).loc Cert.GateBwdRefIdeal.main_arg0) = m ((c.tc : Thread Cert.GateBwdIdeal.nD Cert.GateBwdIdeal.τ).loc Cert.GateBwdIdeal.main_arg0)
      ∧ m' ((c.tc : Thread Cert.GateBwdRefIdeal.nD Cert.GateBwdRefIdeal.τ).loc Cert.GateBwdRefIdeal.main_arg1) = m ((c.tc : Thread Cert.GateBwdIdeal.nD Cert.GateBwdIdeal.τ).loc Cert.GateBwdIdeal.main_arg1)
      ∧ m' ((c.tc : Thread Cert.GateBwdRefIdeal.nD Cert.GateBwdRefIdeal.τ).loc Cert.GateBwdRefIdeal.main_arg2) = m ((c.tc : Thread Cert.GateBwdIdeal.nD Cert.GateBwdIdeal.τ).loc Cert.GateBwdIdeal.main_arg2)
      ∧ m' ((c.tc : Thread Cert.GateBwdRefIdeal.nD Cert.GateBwdRefIdeal.τ).loc Cert.GateBwdRefIdeal.main_arg3) = m ((c.tc : Thread Cert.GateBwdIdeal.nD Cert.GateBwdIdeal.τ).loc Cert.GateBwdIdeal.main_arg3)
      ∧ m' ((c.tc : Thread Cert.GateBwdRefIdeal.nD Cert.GateBwdRefIdeal.τ).loc Cert.GateBwdRefIdeal.main_arg4) = m ((c.tc : Thread Cert.GateBwdIdeal.nD Cert.GateBwdIdeal.τ).loc Cert.GateBwdIdeal.main_arg4)) →
    ∃ (v0 : (c : Dev Cert.GateBwdIdeal.nD) → Buf (Elt Ideal) ((c.tc : Thread Cert.GateBwdIdeal.nD Cert.GateBwdIdeal.τ).loc Cert.GateBwdIdeal.main_v2_0)) (v1 : (c : Dev Cert.GateBwdIdeal.nD) → Buf (Elt Ideal) ((c.tc : Thread Cert.GateBwdIdeal.nD Cert.GateBwdIdeal.τ).loc Cert.GateBwdIdeal.main_v2_1)) (v2 : (c : Dev Cert.GateBwdIdeal.nD) → Buf (Elt Ideal) ((c.tc : Thread Cert.GateBwdIdeal.nD Cert.GateBwdIdeal.τ).loc Cert.GateBwdIdeal.main_v2_2)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v2_0) = v0 c
          ∧ r.2.mem ((c.tc : Thread Cert.GateBwdIdeal.nD Cert.GateBwdIdeal.τ).loc Cert.GateBwdIdeal.main_v2_1) = v1 c
          ∧ r.2.mem ((c.tc : Thread Cert.GateBwdIdeal.nD Cert.GateBwdIdeal.τ).loc Cert.GateBwdIdeal.main_v2_2) = v2 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
          ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4))
      ∧ θ_run (Cert.GateBwdRefIdeal.defs (F := Ideal)) (onTc (τ := Cert.GateBwdRefIdeal.τ) (Cert.GateBwdRefIdeal.main (F := Ideal))) ⟨m', fun _ => 0, g'⟩ (fun r => ∀ c : Dev Cert.GateBwdRefIdeal.nD,
          r.2.mem ((c.tc : Thread Cert.GateBwdRefIdeal.nD Cert.GateBwdRefIdeal.τ).loc Cert.GateBwdRefIdeal.main_v29) = v0 c
          ∧ r.2.mem ((c.tc : Thread Cert.GateBwdRefIdeal.nD Cert.GateBwdRefIdeal.τ).loc Cert.GateBwdRefIdeal.main_v32) = v1 c
          ∧ r.2.mem ((c.tc : Thread Cert.GateBwdRefIdeal.nD Cert.GateBwdRefIdeal.τ).loc Cert.GateBwdRefIdeal.main_v33) = v2 c
          ∧ r.2.mem ((c.tc : Thread Cert.GateBwdRefIdeal.nD Cert.GateBwdRefIdeal.τ).loc Cert.GateBwdRefIdeal.main_arg0) = m' ((c.tc : Thread Cert.GateBwdRefIdeal.nD Cert.GateBwdRefIdeal.τ).loc Cert.GateBwdRefIdeal.main_arg0)
          ∧ r.2.mem ((c.tc : Thread Cert.GateBwdRefIdeal.nD Cert.GateBwdRefIdeal.τ).loc Cert.GateBwdRefIdeal.main_arg1) = m' ((c.tc : Thread Cert.GateBwdRefIdeal.nD Cert.GateBwdRefIdeal.τ).loc Cert.GateBwdRefIdeal.main_arg1)
          ∧ r.2.mem ((c.tc : Thread Cert.GateBwdRefIdeal.nD Cert.GateBwdRefIdeal.τ).loc Cert.GateBwdRefIdeal.main_arg2) = m' ((c.tc : Thread Cert.GateBwdRefIdeal.nD Cert.GateBwdRefIdeal.τ).loc Cert.GateBwdRefIdeal.main_arg2)
          ∧ r.2.mem ((c.tc : Thread Cert.GateBwdRefIdeal.nD Cert.GateBwdRefIdeal.τ).loc Cert.GateBwdRefIdeal.main_arg3) = m' ((c.tc : Thread Cert.GateBwdRefIdeal.nD Cert.GateBwdRefIdeal.τ).loc Cert.GateBwdRefIdeal.main_arg3)
          ∧ r.2.mem ((c.tc : Thread Cert.GateBwdRefIdeal.nD Cert.GateBwdRefIdeal.τ).loc Cert.GateBwdRefIdeal.main_arg4) = m' ((c.tc : Thread Cert.GateBwdRefIdeal.nD Cert.GateBwdRefIdeal.τ).loc Cert.GateBwdRefIdeal.main_arg4))

def preserves_MixerRowsBwd_MixerRowsBwdIdeal : Prop :=
  True

def algebraic_MixerRowsBwdIdeal_MixerRowsBwdRefIdeal_pre_mixer_rows_finite [hMixerRowsBwdIdeal : Cert.MixerRowsBwdIdeal.Facts] [hMixerRowsBwdRefIdeal : Cert.MixerRowsBwdRefIdeal.Facts] [hPre_mixer_rows_finite : Cert.Pre_mixer_rows_finite.Facts] : Prop :=
  ∀ (m : (ℓ : Loc Cert.MixerRowsBwdIdeal.nD Cert.MixerRowsBwdIdeal.τ Cert.MixerRowsBwdIdeal.sig) → Buf (Elt Ideal) ℓ) (g : Dev Cert.MixerRowsBwdIdeal.nD → PrngReg)
    (m' : (ℓ : Loc Cert.MixerRowsBwdRefIdeal.nD Cert.MixerRowsBwdRefIdeal.τ Cert.MixerRowsBwdRefIdeal.sig) → Buf (Elt Ideal) ℓ) (g' : Dev Cert.MixerRowsBwdRefIdeal.nD → PrngReg), Pre_MixerRowsBwdIdeal_mixer_rows_finite m →
    (∀ c : Dev Cert.MixerRowsBwdIdeal.nD,
      m' ((c.tc : Thread Cert.MixerRowsBwdRefIdeal.nD Cert.MixerRowsBwdRefIdeal.τ).loc Cert.MixerRowsBwdRefIdeal.main_arg0) = m ((c.tc : Thread Cert.MixerRowsBwdIdeal.nD Cert.MixerRowsBwdIdeal.τ).loc Cert.MixerRowsBwdIdeal.main_arg0)
      ∧ m' ((c.tc : Thread Cert.MixerRowsBwdRefIdeal.nD Cert.MixerRowsBwdRefIdeal.τ).loc Cert.MixerRowsBwdRefIdeal.main_arg1) = m ((c.tc : Thread Cert.MixerRowsBwdIdeal.nD Cert.MixerRowsBwdIdeal.τ).loc Cert.MixerRowsBwdIdeal.main_arg1)
      ∧ m' ((c.tc : Thread Cert.MixerRowsBwdRefIdeal.nD Cert.MixerRowsBwdRefIdeal.τ).loc Cert.MixerRowsBwdRefIdeal.main_arg2) = m ((c.tc : Thread Cert.MixerRowsBwdIdeal.nD Cert.MixerRowsBwdIdeal.τ).loc Cert.MixerRowsBwdIdeal.main_arg2)
      ∧ m' ((c.tc : Thread Cert.MixerRowsBwdRefIdeal.nD Cert.MixerRowsBwdRefIdeal.τ).loc Cert.MixerRowsBwdRefIdeal.main_arg3) = m ((c.tc : Thread Cert.MixerRowsBwdIdeal.nD Cert.MixerRowsBwdIdeal.τ).loc Cert.MixerRowsBwdIdeal.main_arg3)
      ∧ m' ((c.tc : Thread Cert.MixerRowsBwdRefIdeal.nD Cert.MixerRowsBwdRefIdeal.τ).loc Cert.MixerRowsBwdRefIdeal.main_arg4) = m ((c.tc : Thread Cert.MixerRowsBwdIdeal.nD Cert.MixerRowsBwdIdeal.τ).loc Cert.MixerRowsBwdIdeal.main_arg4)
      ∧ m' ((c.tc : Thread Cert.MixerRowsBwdRefIdeal.nD Cert.MixerRowsBwdRefIdeal.τ).loc Cert.MixerRowsBwdRefIdeal.main_arg5) = m ((c.tc : Thread Cert.MixerRowsBwdIdeal.nD Cert.MixerRowsBwdIdeal.τ).loc Cert.MixerRowsBwdIdeal.main_arg5)
      ∧ m' ((c.tc : Thread Cert.MixerRowsBwdRefIdeal.nD Cert.MixerRowsBwdRefIdeal.τ).loc Cert.MixerRowsBwdRefIdeal.main_arg6) = m ((c.tc : Thread Cert.MixerRowsBwdIdeal.nD Cert.MixerRowsBwdIdeal.τ).loc Cert.MixerRowsBwdIdeal.main_arg6)
      ∧ m' ((c.tc : Thread Cert.MixerRowsBwdRefIdeal.nD Cert.MixerRowsBwdRefIdeal.τ).loc Cert.MixerRowsBwdRefIdeal.main_arg7) = m ((c.tc : Thread Cert.MixerRowsBwdIdeal.nD Cert.MixerRowsBwdIdeal.τ).loc Cert.MixerRowsBwdIdeal.main_arg7)
      ∧ m' ((c.tc : Thread Cert.MixerRowsBwdRefIdeal.nD Cert.MixerRowsBwdRefIdeal.τ).loc Cert.MixerRowsBwdRefIdeal.main_arg8) = m ((c.tc : Thread Cert.MixerRowsBwdIdeal.nD Cert.MixerRowsBwdIdeal.τ).loc Cert.MixerRowsBwdIdeal.main_arg8)) →
    ∃ (v0 : (c : Dev Cert.MixerRowsBwdIdeal.nD) → Buf (Elt Ideal) ((c.tc : Thread Cert.MixerRowsBwdIdeal.nD Cert.MixerRowsBwdIdeal.τ).loc Cert.MixerRowsBwdIdeal.main_v5_0)) (v1 : (c : Dev Cert.MixerRowsBwdIdeal.nD) → Buf (Elt Ideal) ((c.tc : Thread Cert.MixerRowsBwdIdeal.nD Cert.MixerRowsBwdIdeal.τ).loc Cert.MixerRowsBwdIdeal.main_v5_1)) (v2 : (c : Dev Cert.MixerRowsBwdIdeal.nD) → Buf (Elt Ideal) ((c.tc : Thread Cert.MixerRowsBwdIdeal.nD Cert.MixerRowsBwdIdeal.τ).loc Cert.MixerRowsBwdIdeal.main_v5_2)) (v3 : (c : Dev Cert.MixerRowsBwdIdeal.nD) → Buf (Elt Ideal) ((c.tc : Thread Cert.MixerRowsBwdIdeal.nD Cert.MixerRowsBwdIdeal.τ).loc Cert.MixerRowsBwdIdeal.main_v5_3)) (v4 : (c : Dev Cert.MixerRowsBwdIdeal.nD) → Buf (Elt Ideal) ((c.tc : Thread Cert.MixerRowsBwdIdeal.nD Cert.MixerRowsBwdIdeal.τ).loc Cert.MixerRowsBwdIdeal.main_v5_4)) (v5 : (c : Dev Cert.MixerRowsBwdIdeal.nD) → Buf (Elt Ideal) ((c.tc : Thread Cert.MixerRowsBwdIdeal.nD Cert.MixerRowsBwdIdeal.τ).loc Cert.MixerRowsBwdIdeal.main_v5_5)) (v6 : (c : Dev Cert.MixerRowsBwdIdeal.nD) → Buf (Elt Ideal) ((c.tc : Thread Cert.MixerRowsBwdIdeal.nD Cert.MixerRowsBwdIdeal.τ).loc Cert.MixerRowsBwdIdeal.main_v5_6)) (v7 : (c : Dev Cert.MixerRowsBwdIdeal.nD) → Buf (Elt Ideal) ((c.tc : Thread Cert.MixerRowsBwdIdeal.nD Cert.MixerRowsBwdIdeal.τ).loc Cert.MixerRowsBwdIdeal.main_v5_7)),
      θ_run (Cert.MixerRowsBwdIdeal.defs (F := Ideal)) (onTc (τ := Cert.MixerRowsBwdIdeal.τ) (Cert.MixerRowsBwdIdeal.main (F := Ideal))) ⟨m, fun _ => 0, g⟩ (fun r => ∀ c : Dev Cert.MixerRowsBwdIdeal.nD,
          r.2.mem ((c.tc : Thread Cert.MixerRowsBwdIdeal.nD Cert.MixerRowsBwdIdeal.τ).loc Cert.MixerRowsBwdIdeal.main_v5_0) = v0 c
          ∧ r.2.mem ((c.tc : Thread Cert.MixerRowsBwdIdeal.nD Cert.MixerRowsBwdIdeal.τ).loc Cert.MixerRowsBwdIdeal.main_v5_1) = v1 c
          ∧ r.2.mem ((c.tc : Thread Cert.MixerRowsBwdIdeal.nD Cert.MixerRowsBwdIdeal.τ).loc Cert.MixerRowsBwdIdeal.main_v5_2) = v2 c
          ∧ r.2.mem ((c.tc : Thread Cert.MixerRowsBwdIdeal.nD Cert.MixerRowsBwdIdeal.τ).loc Cert.MixerRowsBwdIdeal.main_v5_3) = v3 c
          ∧ r.2.mem ((c.tc : Thread Cert.MixerRowsBwdIdeal.nD Cert.MixerRowsBwdIdeal.τ).loc Cert.MixerRowsBwdIdeal.main_v5_4) = v4 c
          ∧ r.2.mem ((c.tc : Thread Cert.MixerRowsBwdIdeal.nD Cert.MixerRowsBwdIdeal.τ).loc Cert.MixerRowsBwdIdeal.main_v5_5) = v5 c
          ∧ r.2.mem ((c.tc : Thread Cert.MixerRowsBwdIdeal.nD Cert.MixerRowsBwdIdeal.τ).loc Cert.MixerRowsBwdIdeal.main_v5_6) = v6 c
          ∧ r.2.mem ((c.tc : Thread Cert.MixerRowsBwdIdeal.nD Cert.MixerRowsBwdIdeal.τ).loc Cert.MixerRowsBwdIdeal.main_v5_7) = v7 c
          ∧ r.2.mem ((c.tc : Thread Cert.MixerRowsBwdIdeal.nD Cert.MixerRowsBwdIdeal.τ).loc Cert.MixerRowsBwdIdeal.main_arg0) = m ((c.tc : Thread Cert.MixerRowsBwdIdeal.nD Cert.MixerRowsBwdIdeal.τ).loc Cert.MixerRowsBwdIdeal.main_arg0)
          ∧ r.2.mem ((c.tc : Thread Cert.MixerRowsBwdIdeal.nD Cert.MixerRowsBwdIdeal.τ).loc Cert.MixerRowsBwdIdeal.main_arg1) = m ((c.tc : Thread Cert.MixerRowsBwdIdeal.nD Cert.MixerRowsBwdIdeal.τ).loc Cert.MixerRowsBwdIdeal.main_arg1)
          ∧ r.2.mem ((c.tc : Thread Cert.MixerRowsBwdIdeal.nD Cert.MixerRowsBwdIdeal.τ).loc Cert.MixerRowsBwdIdeal.main_arg2) = m ((c.tc : Thread Cert.MixerRowsBwdIdeal.nD Cert.MixerRowsBwdIdeal.τ).loc Cert.MixerRowsBwdIdeal.main_arg2)
          ∧ r.2.mem ((c.tc : Thread Cert.MixerRowsBwdIdeal.nD Cert.MixerRowsBwdIdeal.τ).loc Cert.MixerRowsBwdIdeal.main_arg3) = m ((c.tc : Thread Cert.MixerRowsBwdIdeal.nD Cert.MixerRowsBwdIdeal.τ).loc Cert.MixerRowsBwdIdeal.main_arg3)
          ∧ r.2.mem ((c.tc : Thread Cert.MixerRowsBwdIdeal.nD Cert.MixerRowsBwdIdeal.τ).loc Cert.MixerRowsBwdIdeal.main_arg4) = m ((c.tc : Thread Cert.MixerRowsBwdIdeal.nD Cert.MixerRowsBwdIdeal.τ).loc Cert.MixerRowsBwdIdeal.main_arg4)
          ∧ r.2.mem ((c.tc : Thread Cert.MixerRowsBwdIdeal.nD Cert.MixerRowsBwdIdeal.τ).loc Cert.MixerRowsBwdIdeal.main_arg5) = m ((c.tc : Thread Cert.MixerRowsBwdIdeal.nD Cert.MixerRowsBwdIdeal.τ).loc Cert.MixerRowsBwdIdeal.main_arg5)
          ∧ r.2.mem ((c.tc : Thread Cert.MixerRowsBwdIdeal.nD Cert.MixerRowsBwdIdeal.τ).loc Cert.MixerRowsBwdIdeal.main_arg6) = m ((c.tc : Thread Cert.MixerRowsBwdIdeal.nD Cert.MixerRowsBwdIdeal.τ).loc Cert.MixerRowsBwdIdeal.main_arg6)
          ∧ r.2.mem ((c.tc : Thread Cert.MixerRowsBwdIdeal.nD Cert.MixerRowsBwdIdeal.τ).loc Cert.MixerRowsBwdIdeal.main_arg7) = m ((c.tc : Thread Cert.MixerRowsBwdIdeal.nD Cert.MixerRowsBwdIdeal.τ).loc Cert.MixerRowsBwdIdeal.main_arg7)
          ∧ r.2.mem ((c.tc : Thread Cert.MixerRowsBwdIdeal.nD Cert.MixerRowsBwdIdeal.τ).loc Cert.MixerRowsBwdIdeal.main_arg8) = m ((c.tc : Thread Cert.MixerRowsBwdIdeal.nD Cert.MixerRowsBwdIdeal.τ).loc Cert.MixerRowsBwdIdeal.main_arg8))
      ∧ θ_run (Cert.MixerRowsBwdRefIdeal.defs (F := Ideal)) (onTc (τ := Cert.MixerRowsBwdRefIdeal.τ) (Cert.MixerRowsBwdRefIdeal.main (F := Ideal))) ⟨m', fun _ => 0, g'⟩ (fun r => ∀ c : Dev Cert.MixerRowsBwdRefIdeal.nD,
          r.2.mem ((c.tc : Thread Cert.MixerRowsBwdRefIdeal.nD Cert.MixerRowsBwdRefIdeal.τ).loc Cert.MixerRowsBwdRefIdeal.main_v191) = v0 c
          ∧ r.2.mem ((c.tc : Thread Cert.MixerRowsBwdRefIdeal.nD Cert.MixerRowsBwdRefIdeal.τ).loc Cert.MixerRowsBwdRefIdeal.main_v187) = v1 c
          ∧ r.2.mem ((c.tc : Thread Cert.MixerRowsBwdRefIdeal.nD Cert.MixerRowsBwdRefIdeal.τ).loc Cert.MixerRowsBwdRefIdeal.main_v192) = v2 c
          ∧ r.2.mem ((c.tc : Thread Cert.MixerRowsBwdRefIdeal.nD Cert.MixerRowsBwdRefIdeal.τ).loc Cert.MixerRowsBwdRefIdeal.main_v193) = v3 c
          ∧ r.2.mem ((c.tc : Thread Cert.MixerRowsBwdRefIdeal.nD Cert.MixerRowsBwdRefIdeal.τ).loc Cert.MixerRowsBwdRefIdeal.main_v71) = v4 c
          ∧ r.2.mem ((c.tc : Thread Cert.MixerRowsBwdRefIdeal.nD Cert.MixerRowsBwdRefIdeal.τ).loc Cert.MixerRowsBwdRefIdeal.main_v194) = v5 c
          ∧ r.2.mem ((c.tc : Thread Cert.MixerRowsBwdRefIdeal.nD Cert.MixerRowsBwdRefIdeal.τ).loc Cert.MixerRowsBwdRefIdeal.main_v195) = v6 c
          ∧ r.2.mem ((c.tc : Thread Cert.MixerRowsBwdRefIdeal.nD Cert.MixerRowsBwdRefIdeal.τ).loc Cert.MixerRowsBwdRefIdeal.main_v196) = v7 c
          ∧ r.2.mem ((c.tc : Thread Cert.MixerRowsBwdRefIdeal.nD Cert.MixerRowsBwdRefIdeal.τ).loc Cert.MixerRowsBwdRefIdeal.main_arg0) = m' ((c.tc : Thread Cert.MixerRowsBwdRefIdeal.nD Cert.MixerRowsBwdRefIdeal.τ).loc Cert.MixerRowsBwdRefIdeal.main_arg0)
          ∧ r.2.mem ((c.tc : Thread Cert.MixerRowsBwdRefIdeal.nD Cert.MixerRowsBwdRefIdeal.τ).loc Cert.MixerRowsBwdRefIdeal.main_arg1) = m' ((c.tc : Thread Cert.MixerRowsBwdRefIdeal.nD Cert.MixerRowsBwdRefIdeal.τ).loc Cert.MixerRowsBwdRefIdeal.main_arg1)
          ∧ r.2.mem ((c.tc : Thread Cert.MixerRowsBwdRefIdeal.nD Cert.MixerRowsBwdRefIdeal.τ).loc Cert.MixerRowsBwdRefIdeal.main_arg2) = m' ((c.tc : Thread Cert.MixerRowsBwdRefIdeal.nD Cert.MixerRowsBwdRefIdeal.τ).loc Cert.MixerRowsBwdRefIdeal.main_arg2)
          ∧ r.2.mem ((c.tc : Thread Cert.MixerRowsBwdRefIdeal.nD Cert.MixerRowsBwdRefIdeal.τ).loc Cert.MixerRowsBwdRefIdeal.main_arg3) = m' ((c.tc : Thread Cert.MixerRowsBwdRefIdeal.nD Cert.MixerRowsBwdRefIdeal.τ).loc Cert.MixerRowsBwdRefIdeal.main_arg3)
          ∧ r.2.mem ((c.tc : Thread Cert.MixerRowsBwdRefIdeal.nD Cert.MixerRowsBwdRefIdeal.τ).loc Cert.MixerRowsBwdRefIdeal.main_arg4) = m' ((c.tc : Thread Cert.MixerRowsBwdRefIdeal.nD Cert.MixerRowsBwdRefIdeal.τ).loc Cert.MixerRowsBwdRefIdeal.main_arg4)
          ∧ r.2.mem ((c.tc : Thread Cert.MixerRowsBwdRefIdeal.nD Cert.MixerRowsBwdRefIdeal.τ).loc Cert.MixerRowsBwdRefIdeal.main_arg5) = m' ((c.tc : Thread Cert.MixerRowsBwdRefIdeal.nD Cert.MixerRowsBwdRefIdeal.τ).loc Cert.MixerRowsBwdRefIdeal.main_arg5)
          ∧ r.2.mem ((c.tc : Thread Cert.MixerRowsBwdRefIdeal.nD Cert.MixerRowsBwdRefIdeal.τ).loc Cert.MixerRowsBwdRefIdeal.main_arg6) = m' ((c.tc : Thread Cert.MixerRowsBwdRefIdeal.nD Cert.MixerRowsBwdRefIdeal.τ).loc Cert.MixerRowsBwdRefIdeal.main_arg6)
          ∧ r.2.mem ((c.tc : Thread Cert.MixerRowsBwdRefIdeal.nD Cert.MixerRowsBwdRefIdeal.τ).loc Cert.MixerRowsBwdRefIdeal.main_arg7) = m' ((c.tc : Thread Cert.MixerRowsBwdRefIdeal.nD Cert.MixerRowsBwdRefIdeal.τ).loc Cert.MixerRowsBwdRefIdeal.main_arg7)
          ∧ r.2.mem ((c.tc : Thread Cert.MixerRowsBwdRefIdeal.nD Cert.MixerRowsBwdRefIdeal.τ).loc Cert.MixerRowsBwdRefIdeal.main_arg8) = m' ((c.tc : Thread Cert.MixerRowsBwdRefIdeal.nD Cert.MixerRowsBwdRefIdeal.τ).loc Cert.MixerRowsBwdRefIdeal.main_arg8))

def preserves_ShortConvBwd_ShortConvBwdIdeal : Prop :=
  True

def algebraic_ShortConvBwdIdeal_ShortConvBwdRefIdeal [hShortConvBwdIdeal : Cert.ShortConvBwdIdeal.Facts] [hShortConvBwdRefIdeal : Cert.ShortConvBwdRefIdeal.Facts] : Prop :=
  ∀ (m : (ℓ : Loc Cert.ShortConvBwdIdeal.nD Cert.ShortConvBwdIdeal.τ Cert.ShortConvBwdIdeal.sig) → Buf (Elt Ideal) ℓ) (g : Dev Cert.ShortConvBwdIdeal.nD → PrngReg)
    (m' : (ℓ : Loc Cert.ShortConvBwdRefIdeal.nD Cert.ShortConvBwdRefIdeal.τ Cert.ShortConvBwdRefIdeal.sig) → Buf (Elt Ideal) ℓ) (g' : Dev Cert.ShortConvBwdRefIdeal.nD → PrngReg), Pre_ShortConvBwdIdeal m →
    (∀ c : Dev Cert.ShortConvBwdIdeal.nD,
      m' ((c.tc : Thread Cert.ShortConvBwdRefIdeal.nD Cert.ShortConvBwdRefIdeal.τ).loc Cert.ShortConvBwdRefIdeal.main_arg0) = m ((c.tc : Thread Cert.ShortConvBwdIdeal.nD Cert.ShortConvBwdIdeal.τ).loc Cert.ShortConvBwdIdeal.main_arg0)
      ∧ m' ((c.tc : Thread Cert.ShortConvBwdRefIdeal.nD Cert.ShortConvBwdRefIdeal.τ).loc Cert.ShortConvBwdRefIdeal.main_arg1) = m ((c.tc : Thread Cert.ShortConvBwdIdeal.nD Cert.ShortConvBwdIdeal.τ).loc Cert.ShortConvBwdIdeal.main_arg1)
      ∧ m' ((c.tc : Thread Cert.ShortConvBwdRefIdeal.nD Cert.ShortConvBwdRefIdeal.τ).loc Cert.ShortConvBwdRefIdeal.main_arg2) = m ((c.tc : Thread Cert.ShortConvBwdIdeal.nD Cert.ShortConvBwdIdeal.τ).loc Cert.ShortConvBwdIdeal.main_arg2)) →
    ∃ (v0 : (c : Dev Cert.ShortConvBwdIdeal.nD) → Buf (Elt Ideal) ((c.tc : Thread Cert.ShortConvBwdIdeal.nD Cert.ShortConvBwdIdeal.τ).loc Cert.ShortConvBwdIdeal.main_v0_0)) (v1 : (c : Dev Cert.ShortConvBwdIdeal.nD) → Buf (Elt Ideal) ((c.tc : Thread Cert.ShortConvBwdIdeal.nD Cert.ShortConvBwdIdeal.τ).loc Cert.ShortConvBwdIdeal.main_v0_1)),
      θ_run (Cert.ShortConvBwdIdeal.defs (F := Ideal)) (onTc (τ := Cert.ShortConvBwdIdeal.τ) (Cert.ShortConvBwdIdeal.main (F := Ideal))) ⟨m, fun _ => 0, g⟩ (fun r => ∀ c : Dev Cert.ShortConvBwdIdeal.nD,
          r.2.mem ((c.tc : Thread Cert.ShortConvBwdIdeal.nD Cert.ShortConvBwdIdeal.τ).loc Cert.ShortConvBwdIdeal.main_v0_0) = v0 c
          ∧ r.2.mem ((c.tc : Thread Cert.ShortConvBwdIdeal.nD Cert.ShortConvBwdIdeal.τ).loc Cert.ShortConvBwdIdeal.main_v0_1) = v1 c
          ∧ r.2.mem ((c.tc : Thread Cert.ShortConvBwdIdeal.nD Cert.ShortConvBwdIdeal.τ).loc Cert.ShortConvBwdIdeal.main_arg0) = m ((c.tc : Thread Cert.ShortConvBwdIdeal.nD Cert.ShortConvBwdIdeal.τ).loc Cert.ShortConvBwdIdeal.main_arg0)
          ∧ r.2.mem ((c.tc : Thread Cert.ShortConvBwdIdeal.nD Cert.ShortConvBwdIdeal.τ).loc Cert.ShortConvBwdIdeal.main_arg1) = m ((c.tc : Thread Cert.ShortConvBwdIdeal.nD Cert.ShortConvBwdIdeal.τ).loc Cert.ShortConvBwdIdeal.main_arg1)
          ∧ r.2.mem ((c.tc : Thread Cert.ShortConvBwdIdeal.nD Cert.ShortConvBwdIdeal.τ).loc Cert.ShortConvBwdIdeal.main_arg2) = m ((c.tc : Thread Cert.ShortConvBwdIdeal.nD Cert.ShortConvBwdIdeal.τ).loc Cert.ShortConvBwdIdeal.main_arg2))
      ∧ θ_run (Cert.ShortConvBwdRefIdeal.defs (F := Ideal)) (onTc (τ := Cert.ShortConvBwdRefIdeal.τ) (Cert.ShortConvBwdRefIdeal.main (F := Ideal))) ⟨m', fun _ => 0, g'⟩ (fun r => ∀ c : Dev Cert.ShortConvBwdRefIdeal.nD,
          r.2.mem ((c.tc : Thread Cert.ShortConvBwdRefIdeal.nD Cert.ShortConvBwdRefIdeal.τ).loc Cert.ShortConvBwdRefIdeal.main_v49) = v0 c
          ∧ r.2.mem ((c.tc : Thread Cert.ShortConvBwdRefIdeal.nD Cert.ShortConvBwdRefIdeal.τ).loc Cert.ShortConvBwdRefIdeal.main_v38) = v1 c
          ∧ r.2.mem ((c.tc : Thread Cert.ShortConvBwdRefIdeal.nD Cert.ShortConvBwdRefIdeal.τ).loc Cert.ShortConvBwdRefIdeal.main_arg0) = m' ((c.tc : Thread Cert.ShortConvBwdRefIdeal.nD Cert.ShortConvBwdRefIdeal.τ).loc Cert.ShortConvBwdRefIdeal.main_arg0)
          ∧ r.2.mem ((c.tc : Thread Cert.ShortConvBwdRefIdeal.nD Cert.ShortConvBwdRefIdeal.τ).loc Cert.ShortConvBwdRefIdeal.main_arg1) = m' ((c.tc : Thread Cert.ShortConvBwdRefIdeal.nD Cert.ShortConvBwdRefIdeal.τ).loc Cert.ShortConvBwdRefIdeal.main_arg1)
          ∧ r.2.mem ((c.tc : Thread Cert.ShortConvBwdRefIdeal.nD Cert.ShortConvBwdRefIdeal.τ).loc Cert.ShortConvBwdRefIdeal.main_arg2) = m' ((c.tc : Thread Cert.ShortConvBwdRefIdeal.nD Cert.ShortConvBwdRefIdeal.τ).loc Cert.ShortConvBwdRefIdeal.main_arg2))

def preserves_ConformerConvBwd_ConformerConvBwdIdeal : Prop :=
  True

def algebraic_ConformerConvBwdIdeal_ConformerConvBwdRefIdeal [hConformerConvBwdIdeal : Cert.ConformerConvBwdIdeal.Facts] [hConformerConvBwdRefIdeal : Cert.ConformerConvBwdRefIdeal.Facts] : Prop :=
  ∀ (m : (ℓ : Loc Cert.ConformerConvBwdIdeal.nD Cert.ConformerConvBwdIdeal.τ Cert.ConformerConvBwdIdeal.sig) → Buf (Elt Ideal) ℓ) (g : Dev Cert.ConformerConvBwdIdeal.nD → PrngReg)
    (m' : (ℓ : Loc Cert.ConformerConvBwdRefIdeal.nD Cert.ConformerConvBwdRefIdeal.τ Cert.ConformerConvBwdRefIdeal.sig) → Buf (Elt Ideal) ℓ) (g' : Dev Cert.ConformerConvBwdRefIdeal.nD → PrngReg), Pre_ConformerConvBwdIdeal m →
    (∀ c : Dev Cert.ConformerConvBwdIdeal.nD,
      m' ((c.tc : Thread Cert.ConformerConvBwdRefIdeal.nD Cert.ConformerConvBwdRefIdeal.τ).loc Cert.ConformerConvBwdRefIdeal.main_arg0) = m ((c.tc : Thread Cert.ConformerConvBwdIdeal.nD Cert.ConformerConvBwdIdeal.τ).loc Cert.ConformerConvBwdIdeal.main_arg0)
      ∧ m' ((c.tc : Thread Cert.ConformerConvBwdRefIdeal.nD Cert.ConformerConvBwdRefIdeal.τ).loc Cert.ConformerConvBwdRefIdeal.main_arg1) = m ((c.tc : Thread Cert.ConformerConvBwdIdeal.nD Cert.ConformerConvBwdIdeal.τ).loc Cert.ConformerConvBwdIdeal.main_arg1)
      ∧ m' ((c.tc : Thread Cert.ConformerConvBwdRefIdeal.nD Cert.ConformerConvBwdRefIdeal.τ).loc Cert.ConformerConvBwdRefIdeal.main_arg2) = m ((c.tc : Thread Cert.ConformerConvBwdIdeal.nD Cert.ConformerConvBwdIdeal.τ).loc Cert.ConformerConvBwdIdeal.main_arg2)) →
    ∃ (v0 : (c : Dev Cert.ConformerConvBwdIdeal.nD) → Buf (Elt Ideal) ((c.tc : Thread Cert.ConformerConvBwdIdeal.nD Cert.ConformerConvBwdIdeal.τ).loc Cert.ConformerConvBwdIdeal.main_v0_0)) (v1 : (c : Dev Cert.ConformerConvBwdIdeal.nD) → Buf (Elt Ideal) ((c.tc : Thread Cert.ConformerConvBwdIdeal.nD Cert.ConformerConvBwdIdeal.τ).loc Cert.ConformerConvBwdIdeal.main_v0_1)) (v2 : (c : Dev Cert.ConformerConvBwdIdeal.nD) → Buf (Elt Ideal) ((c.tc : Thread Cert.ConformerConvBwdIdeal.nD Cert.ConformerConvBwdIdeal.τ).loc Cert.ConformerConvBwdIdeal.main_v0_2)),
      θ_run (Cert.ConformerConvBwdIdeal.defs (F := Ideal)) (onTc (τ := Cert.ConformerConvBwdIdeal.τ) (Cert.ConformerConvBwdIdeal.main (F := Ideal))) ⟨m, fun _ => 0, g⟩ (fun r => ∀ c : Dev Cert.ConformerConvBwdIdeal.nD,
          r.2.mem ((c.tc : Thread Cert.ConformerConvBwdIdeal.nD Cert.ConformerConvBwdIdeal.τ).loc Cert.ConformerConvBwdIdeal.main_v0_0) = v0 c
          ∧ r.2.mem ((c.tc : Thread Cert.ConformerConvBwdIdeal.nD Cert.ConformerConvBwdIdeal.τ).loc Cert.ConformerConvBwdIdeal.main_v0_1) = v1 c
          ∧ r.2.mem ((c.tc : Thread Cert.ConformerConvBwdIdeal.nD Cert.ConformerConvBwdIdeal.τ).loc Cert.ConformerConvBwdIdeal.main_v0_2) = v2 c
          ∧ r.2.mem ((c.tc : Thread Cert.ConformerConvBwdIdeal.nD Cert.ConformerConvBwdIdeal.τ).loc Cert.ConformerConvBwdIdeal.main_arg0) = m ((c.tc : Thread Cert.ConformerConvBwdIdeal.nD Cert.ConformerConvBwdIdeal.τ).loc Cert.ConformerConvBwdIdeal.main_arg0)
          ∧ r.2.mem ((c.tc : Thread Cert.ConformerConvBwdIdeal.nD Cert.ConformerConvBwdIdeal.τ).loc Cert.ConformerConvBwdIdeal.main_arg1) = m ((c.tc : Thread Cert.ConformerConvBwdIdeal.nD Cert.ConformerConvBwdIdeal.τ).loc Cert.ConformerConvBwdIdeal.main_arg1)
          ∧ r.2.mem ((c.tc : Thread Cert.ConformerConvBwdIdeal.nD Cert.ConformerConvBwdIdeal.τ).loc Cert.ConformerConvBwdIdeal.main_arg2) = m ((c.tc : Thread Cert.ConformerConvBwdIdeal.nD Cert.ConformerConvBwdIdeal.τ).loc Cert.ConformerConvBwdIdeal.main_arg2))
      ∧ θ_run (Cert.ConformerConvBwdRefIdeal.defs (F := Ideal)) (onTc (τ := Cert.ConformerConvBwdRefIdeal.τ) (Cert.ConformerConvBwdRefIdeal.main (F := Ideal))) ⟨m', fun _ => 0, g'⟩ (fun r => ∀ c : Dev Cert.ConformerConvBwdRefIdeal.nD,
          r.2.mem ((c.tc : Thread Cert.ConformerConvBwdRefIdeal.nD Cert.ConformerConvBwdRefIdeal.τ).loc Cert.ConformerConvBwdRefIdeal.main_v60) = v0 c
          ∧ r.2.mem ((c.tc : Thread Cert.ConformerConvBwdRefIdeal.nD Cert.ConformerConvBwdRefIdeal.τ).loc Cert.ConformerConvBwdRefIdeal.main_v49) = v1 c
          ∧ r.2.mem ((c.tc : Thread Cert.ConformerConvBwdRefIdeal.nD Cert.ConformerConvBwdRefIdeal.τ).loc Cert.ConformerConvBwdRefIdeal.main_v61) = v2 c
          ∧ r.2.mem ((c.tc : Thread Cert.ConformerConvBwdRefIdeal.nD Cert.ConformerConvBwdRefIdeal.τ).loc Cert.ConformerConvBwdRefIdeal.main_arg0) = m' ((c.tc : Thread Cert.ConformerConvBwdRefIdeal.nD Cert.ConformerConvBwdRefIdeal.τ).loc Cert.ConformerConvBwdRefIdeal.main_arg0)
          ∧ r.2.mem ((c.tc : Thread Cert.ConformerConvBwdRefIdeal.nD Cert.ConformerConvBwdRefIdeal.τ).loc Cert.ConformerConvBwdRefIdeal.main_arg1) = m' ((c.tc : Thread Cert.ConformerConvBwdRefIdeal.nD Cert.ConformerConvBwdRefIdeal.τ).loc Cert.ConformerConvBwdRefIdeal.main_arg1)
          ∧ r.2.mem ((c.tc : Thread Cert.ConformerConvBwdRefIdeal.nD Cert.ConformerConvBwdRefIdeal.τ).loc Cert.ConformerConvBwdRefIdeal.main_arg2) = m' ((c.tc : Thread Cert.ConformerConvBwdRefIdeal.nD Cert.ConformerConvBwdRefIdeal.τ).loc Cert.ConformerConvBwdRefIdeal.main_arg2))

def preserves_FfnOutBwd_FfnOutBwdIdeal : Prop :=
  True

def algebraic_FfnOutBwdIdeal_FfnOutBwdRefIdeal_pre_ffn_out_finite [hFfnOutBwdIdeal : Cert.FfnOutBwdIdeal.Facts] [hFfnOutBwdRefIdeal : Cert.FfnOutBwdRefIdeal.Facts] [hPre_ffn_out_finite : Cert.Pre_ffn_out_finite.Facts] : Prop :=
  ∀ (m : (ℓ : Loc Cert.FfnOutBwdIdeal.nD Cert.FfnOutBwdIdeal.τ Cert.FfnOutBwdIdeal.sig) → Buf (Elt Ideal) ℓ) (g : Dev Cert.FfnOutBwdIdeal.nD → PrngReg)
    (m' : (ℓ : Loc Cert.FfnOutBwdRefIdeal.nD Cert.FfnOutBwdRefIdeal.τ Cert.FfnOutBwdRefIdeal.sig) → Buf (Elt Ideal) ℓ) (g' : Dev Cert.FfnOutBwdRefIdeal.nD → PrngReg), Pre_FfnOutBwdIdeal_ffn_out_finite m →
    (∀ c : Dev Cert.FfnOutBwdIdeal.nD,
      m' ((c.tc : Thread Cert.FfnOutBwdRefIdeal.nD Cert.FfnOutBwdRefIdeal.τ).loc Cert.FfnOutBwdRefIdeal.main_arg0) = m ((c.tc : Thread Cert.FfnOutBwdIdeal.nD Cert.FfnOutBwdIdeal.τ).loc Cert.FfnOutBwdIdeal.main_arg0)
      ∧ m' ((c.tc : Thread Cert.FfnOutBwdRefIdeal.nD Cert.FfnOutBwdRefIdeal.τ).loc Cert.FfnOutBwdRefIdeal.main_arg1) = m ((c.tc : Thread Cert.FfnOutBwdIdeal.nD Cert.FfnOutBwdIdeal.τ).loc Cert.FfnOutBwdIdeal.main_arg1)
      ∧ m' ((c.tc : Thread Cert.FfnOutBwdRefIdeal.nD Cert.FfnOutBwdRefIdeal.τ).loc Cert.FfnOutBwdRefIdeal.main_arg2) = m ((c.tc : Thread Cert.FfnOutBwdIdeal.nD Cert.FfnOutBwdIdeal.τ).loc Cert.FfnOutBwdIdeal.main_arg2)
      ∧ m' ((c.tc : Thread Cert.FfnOutBwdRefIdeal.nD Cert.FfnOutBwdRefIdeal.τ).loc Cert.FfnOutBwdRefIdeal.main_arg3) = m ((c.tc : Thread Cert.FfnOutBwdIdeal.nD Cert.FfnOutBwdIdeal.τ).loc Cert.FfnOutBwdIdeal.main_arg3)) →
    ∃ (v0 : (c : Dev Cert.FfnOutBwdIdeal.nD) → Buf (Elt Ideal) ((c.tc : Thread Cert.FfnOutBwdIdeal.nD Cert.FfnOutBwdIdeal.τ).loc Cert.FfnOutBwdIdeal.main_v8)),
      θ_run (Cert.FfnOutBwdIdeal.defs (F := Ideal)) (onTc (τ := Cert.FfnOutBwdIdeal.τ) (Cert.FfnOutBwdIdeal.main (F := Ideal))) ⟨m, fun _ => 0, g⟩ (fun r => ∀ c : Dev Cert.FfnOutBwdIdeal.nD,
          r.2.mem ((c.tc : Thread Cert.FfnOutBwdIdeal.nD Cert.FfnOutBwdIdeal.τ).loc Cert.FfnOutBwdIdeal.main_v8) = v0 c
          ∧ r.2.mem ((c.tc : Thread Cert.FfnOutBwdIdeal.nD Cert.FfnOutBwdIdeal.τ).loc Cert.FfnOutBwdIdeal.main_arg0) = m ((c.tc : Thread Cert.FfnOutBwdIdeal.nD Cert.FfnOutBwdIdeal.τ).loc Cert.FfnOutBwdIdeal.main_arg0)
          ∧ r.2.mem ((c.tc : Thread Cert.FfnOutBwdIdeal.nD Cert.FfnOutBwdIdeal.τ).loc Cert.FfnOutBwdIdeal.main_arg1) = m ((c.tc : Thread Cert.FfnOutBwdIdeal.nD Cert.FfnOutBwdIdeal.τ).loc Cert.FfnOutBwdIdeal.main_arg1)
          ∧ r.2.mem ((c.tc : Thread Cert.FfnOutBwdIdeal.nD Cert.FfnOutBwdIdeal.τ).loc Cert.FfnOutBwdIdeal.main_arg2) = m ((c.tc : Thread Cert.FfnOutBwdIdeal.nD Cert.FfnOutBwdIdeal.τ).loc Cert.FfnOutBwdIdeal.main_arg2)
          ∧ r.2.mem ((c.tc : Thread Cert.FfnOutBwdIdeal.nD Cert.FfnOutBwdIdeal.τ).loc Cert.FfnOutBwdIdeal.main_arg3) = m ((c.tc : Thread Cert.FfnOutBwdIdeal.nD Cert.FfnOutBwdIdeal.τ).loc Cert.FfnOutBwdIdeal.main_arg3))
      ∧ θ_run (Cert.FfnOutBwdRefIdeal.defs (F := Ideal)) (onTc (τ := Cert.FfnOutBwdRefIdeal.τ) (Cert.FfnOutBwdRefIdeal.main (F := Ideal))) ⟨m', fun _ => 0, g'⟩ (fun r => ∀ c : Dev Cert.FfnOutBwdRefIdeal.nD,
          r.2.mem ((c.tc : Thread Cert.FfnOutBwdRefIdeal.nD Cert.FfnOutBwdRefIdeal.τ).loc Cert.FfnOutBwdRefIdeal.main_v25) = v0 c
          ∧ r.2.mem ((c.tc : Thread Cert.FfnOutBwdRefIdeal.nD Cert.FfnOutBwdRefIdeal.τ).loc Cert.FfnOutBwdRefIdeal.main_arg0) = m' ((c.tc : Thread Cert.FfnOutBwdRefIdeal.nD Cert.FfnOutBwdRefIdeal.τ).loc Cert.FfnOutBwdRefIdeal.main_arg0)
          ∧ r.2.mem ((c.tc : Thread Cert.FfnOutBwdRefIdeal.nD Cert.FfnOutBwdRefIdeal.τ).loc Cert.FfnOutBwdRefIdeal.main_arg1) = m' ((c.tc : Thread Cert.FfnOutBwdRefIdeal.nD Cert.FfnOutBwdRefIdeal.τ).loc Cert.FfnOutBwdRefIdeal.main_arg1)
          ∧ r.2.mem ((c.tc : Thread Cert.FfnOutBwdRefIdeal.nD Cert.FfnOutBwdRefIdeal.τ).loc Cert.FfnOutBwdRefIdeal.main_arg2) = m' ((c.tc : Thread Cert.FfnOutBwdRefIdeal.nD Cert.FfnOutBwdRefIdeal.τ).loc Cert.FfnOutBwdRefIdeal.main_arg2)
          ∧ r.2.mem ((c.tc : Thread Cert.FfnOutBwdRefIdeal.nD Cert.FfnOutBwdRefIdeal.τ).loc Cert.FfnOutBwdRefIdeal.main_arg3) = m' ((c.tc : Thread Cert.FfnOutBwdRefIdeal.nD Cert.FfnOutBwdRefIdeal.τ).loc Cert.FfnOutBwdRefIdeal.main_arg3))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)
      ∧ m' ((c.tc : Thread Cert.LossHeadRefIdeal.nD Cert.LossHeadRefIdeal.τ).loc Cert.LossHeadRefIdeal.main_arg3) = m ((c.tc : Thread Cert.LossHeadIdeal.nD Cert.LossHeadIdeal.τ).loc Cert.LossHeadIdeal.main_arg3)) →
    ∃ (v0 : (c : Dev Cert.LossHeadIdeal.nD) → Buf (Elt Ideal) ((c.tc : Thread Cert.LossHeadIdeal.nD Cert.LossHeadIdeal.τ).loc Cert.LossHeadIdeal.main_v22_0)) (v1 : (c : Dev Cert.LossHeadIdeal.nD) → Buf (Elt Ideal) ((c.tc : Thread Cert.LossHeadIdeal.nD Cert.LossHeadIdeal.τ).loc Cert.LossHeadIdeal.main_v22_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v22_0) = v0 c
          ∧ r.2.mem ((c.tc : Thread Cert.LossHeadIdeal.nD Cert.LossHeadIdeal.τ).loc Cert.LossHeadIdeal.main_v22_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v42) = v0 c
          ∧ r.2.mem ((c.tc : Thread Cert.LossHeadRefIdeal.nD Cert.LossHeadRefIdeal.τ).loc Cert.LossHeadRefIdeal.main_v43) = v1 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2)
          ∧ r.2.mem ((c.tc : Thread Cert.LossHeadRefIdeal.nD Cert.LossHeadRefIdeal.τ).loc Cert.LossHeadRefIdeal.main_arg3) = m' ((c.tc : Thread Cert.LossHeadRefIdeal.nD Cert.LossHeadRefIdeal.τ).loc Cert.LossHeadRefIdeal.main_arg3))

def preserves_LnFfnBwd_LnFfnBwdIdeal : Prop :=
  True

def algebraic_LnFfnBwdIdeal_LnFfnBwdRefIdeal_pre_ln_ffn_finite [hLnFfnBwdIdeal : Cert.LnFfnBwdIdeal.Facts] [hLnFfnBwdRefIdeal : Cert.LnFfnBwdRefIdeal.Facts] [hPre_ln_ffn_finite : Cert.Pre_ln_ffn_finite.Facts] : Prop :=
  ∀ (m : (ℓ : Loc Cert.LnFfnBwdIdeal.nD Cert.LnFfnBwdIdeal.τ Cert.LnFfnBwdIdeal.sig) → Buf (Elt Ideal) ℓ) (g : Dev Cert.LnFfnBwdIdeal.nD → PrngReg)
    (m' : (ℓ : Loc Cert.LnFfnBwdRefIdeal.nD Cert.LnFfnBwdRefIdeal.τ Cert.LnFfnBwdRefIdeal.sig) → Buf (Elt Ideal) ℓ) (g' : Dev Cert.LnFfnBwdRefIdeal.nD → PrngReg), Pre_LnFfnBwdIdeal_ln_ffn_finite m →
    (∀ c : Dev Cert.LnFfnBwdIdeal.nD,
      m' ((c.tc : Thread Cert.LnFfnBwdRefIdeal.nD Cert.LnFfnBwdRefIdeal.τ).loc Cert.LnFfnBwdRefIdeal.main_arg0) = m ((c.tc : Thread Cert.LnFfnBwdIdeal.nD Cert.LnFfnBwdIdeal.τ).loc Cert.LnFfnBwdIdeal.main_arg0)
      ∧ m' ((c.tc : Thread Cert.LnFfnBwdRefIdeal.nD Cert.LnFfnBwdRefIdeal.τ).loc Cert.LnFfnBwdRefIdeal.main_arg1) = m ((c.tc : Thread Cert.LnFfnBwdIdeal.nD Cert.LnFfnBwdIdeal.τ).loc Cert.LnFfnBwdIdeal.main_arg1)
      ∧ m' ((c.tc : Thread Cert.LnFfnBwdRefIdeal.nD Cert.LnFfnBwdRefIdeal.τ).loc Cert.LnFfnBwdRefIdeal.main_arg2) = m ((c.tc : Thread Cert.LnFfnBwdIdeal.nD Cert.LnFfnBwdIdeal.τ).loc Cert.LnFfnBwdIdeal.main_arg2)
      ∧ m' ((c.tc : Thread Cert.LnFfnBwdRefIdeal.nD Cert.LnFfnBwdRefIdeal.τ).loc Cert.LnFfnBwdRefIdeal.main_arg3) = m ((c.tc : Thread Cert.LnFfnBwdIdeal.nD Cert.LnFfnBwdIdeal.τ).loc Cert.LnFfnBwdIdeal.main_arg3)
      ∧ m' ((c.tc : Thread Cert.LnFfnBwdRefIdeal.nD Cert.LnFfnBwdRefIdeal.τ).loc Cert.LnFfnBwdRefIdeal.main_arg4) = m ((c.tc : Thread Cert.LnFfnBwdIdeal.nD Cert.LnFfnBwdIdeal.τ).loc Cert.LnFfnBwdIdeal.main_arg4)) →
    ∃ (v0 : (c : Dev Cert.LnFfnBwdIdeal.nD) → Buf (Elt Ideal) ((c.tc : Thread Cert.LnFfnBwdIdeal.nD Cert.LnFfnBwdIdeal.τ).loc Cert.LnFfnBwdIdeal.main_v22_0)) (v1 : (c : Dev Cert.LnFfnBwdIdeal.nD) → Buf (Elt Ideal) ((c.tc : Thread Cert.LnFfnBwdIdeal.nD Cert.LnFfnBwdIdeal.τ).loc Cert.LnFfnBwdIdeal.main_v22_1)) (v2 : (c : Dev Cert.LnFfnBwdIdeal.nD) → Buf (Elt Ideal) ((c.tc : Thread Cert.LnFfnBwdIdeal.nD Cert.LnFfnBwdIdeal.τ).loc Cert.LnFfnBwdIdeal.main_v22_2)) (v3 : (c : Dev Cert.LnFfnBwdIdeal.nD) → Buf (Elt Ideal) ((c.tc : Thread Cert.LnFfnBwdIdeal.nD Cert.LnFfnBwdIdeal.τ).loc Cert.LnFfnBwdIdeal.main_v22_3)),
      θ_run (Cert.LnFfnBwdIdeal.defs (F := Ideal)) (onTc (τ := Cert.LnFfnBwdIdeal.τ) (Cert.LnFfnBwdIdeal.main (F := Ideal))) ⟨m, fun _ => 0, g⟩ (fun r => ∀ c : Dev Cert.LnFfnBwdIdeal.nD,
          r.2.mem ((c.tc : Thread Cert.LnFfnBwdIdeal.nD Cert.LnFfnBwdIdeal.τ).loc Cert.LnFfnBwdIdeal.main_v22_0) = v0 c
          ∧ r.2.mem ((c.tc : Thread Cert.LnFfnBwdIdeal.nD Cert.LnFfnBwdIdeal.τ).loc Cert.LnFfnBwdIdeal.main_v22_1) = v1 c
          ∧ r.2.mem ((c.tc : Thread Cert.LnFfnBwdIdeal.nD Cert.LnFfnBwdIdeal.τ).loc Cert.LnFfnBwdIdeal.main_v22_2) = v2 c
          ∧ r.2.mem ((c.tc : Thread Cert.LnFfnBwdIdeal.nD Cert.LnFfnBwdIdeal.τ).loc Cert.LnFfnBwdIdeal.main_v22_3) = v3 c
          ∧ r.2.mem ((c.tc : Thread Cert.LnFfnBwdIdeal.nD Cert.LnFfnBwdIdeal.τ).loc Cert.LnFfnBwdIdeal.main_arg0) = m ((c.tc : Thread Cert.LnFfnBwdIdeal.nD Cert.LnFfnBwdIdeal.τ).loc Cert.LnFfnBwdIdeal.main_arg0)
          ∧ r.2.mem ((c.tc : Thread Cert.LnFfnBwdIdeal.nD Cert.LnFfnBwdIdeal.τ).loc Cert.LnFfnBwdIdeal.main_arg1) = m ((c.tc : Thread Cert.LnFfnBwdIdeal.nD Cert.LnFfnBwdIdeal.τ).loc Cert.LnFfnBwdIdeal.main_arg1)
          ∧ r.2.mem ((c.tc : Thread Cert.LnFfnBwdIdeal.nD Cert.LnFfnBwdIdeal.τ).loc Cert.LnFfnBwdIdeal.main_arg2) = m ((c.tc : Thread Cert.LnFfnBwdIdeal.nD Cert.LnFfnBwdIdeal.τ).loc Cert.LnFfnBwdIdeal.main_arg2)
          ∧ r.2.mem ((c.tc : Thread Cert.LnFfnBwdIdeal.nD Cert.LnFfnBwdIdeal.τ).loc Cert.LnFfnBwdIdeal.main_arg3) = m ((c.tc : Thread Cert.LnFfnBwdIdeal.nD Cert.LnFfnBwdIdeal.τ).loc Cert.LnFfnBwdIdeal.main_arg3)
          ∧ r.2.mem ((c.tc : Thread Cert.LnFfnBwdIdeal.nD Cert.LnFfnBwdIdeal.τ).loc Cert.LnFfnBwdIdeal.main_arg4) = m ((c.tc : Thread Cert.LnFfnBwdIdeal.nD Cert.LnFfnBwdIdeal.τ).loc Cert.LnFfnBwdIdeal.main_arg4))
      ∧ θ_run (Cert.LnFfnBwdRefIdeal.defs (F := Ideal)) (onTc (τ := Cert.LnFfnBwdRefIdeal.τ) (Cert.LnFfnBwdRefIdeal.main (F := Ideal))) ⟨m', fun _ => 0, g'⟩ (fun r => ∀ c : Dev Cert.LnFfnBwdRefIdeal.nD,
          r.2.mem ((c.tc : Thread Cert.LnFfnBwdRefIdeal.nD Cert.LnFfnBwdRefIdeal.τ).loc Cert.LnFfnBwdRefIdeal.main_v69) = v0 c
          ∧ r.2.mem ((c.tc : Thread Cert.LnFfnBwdRefIdeal.nD Cert.LnFfnBwdRefIdeal.τ).loc Cert.LnFfnBwdRefIdeal.main_v70) = v1 c
          ∧ r.2.mem ((c.tc : Thread Cert.LnFfnBwdRefIdeal.nD Cert.LnFfnBwdRefIdeal.τ).loc Cert.LnFfnBwdRefIdeal.main_v71) = v2 c
          ∧ r.2.mem ((c.tc : Thread Cert.LnFfnBwdRefIdeal.nD Cert.LnFfnBwdRefIdeal.τ).loc Cert.LnFfnBwdRefIdeal.main_v72) = v3 c
          ∧ r.2.mem ((c.tc : Thread Cert.LnFfnBwdRefIdeal.nD Cert.LnFfnBwdRefIdeal.τ).loc Cert.LnFfnBwdRefIdeal.main_arg0) = m' ((c.tc : Thread Cert.LnFfnBwdRefIdeal.nD Cert.LnFfnBwdRefIdeal.τ).loc Cert.LnFfnBwdRefIdeal.main_arg0)
          ∧ r.2.mem ((c.tc : Thread Cert.LnFfnBwdRefIdeal.nD Cert.LnFfnBwdRefIdeal.τ).loc Cert.LnFfnBwdRefIdeal.main_arg1) = m' ((c.tc : Thread Cert.LnFfnBwdRefIdeal.nD Cert.LnFfnBwdRefIdeal.τ).loc Cert.LnFfnBwdRefIdeal.main_arg1)
          ∧ r.2.mem ((c.tc : Thread Cert.LnFfnBwdRefIdeal.nD Cert.LnFfnBwdRefIdeal.τ).loc Cert.LnFfnBwdRefIdeal.main_arg2) = m' ((c.tc : Thread Cert.LnFfnBwdRefIdeal.nD Cert.LnFfnBwdRefIdeal.τ).loc Cert.LnFfnBwdRefIdeal.main_arg2)
          ∧ r.2.mem ((c.tc : Thread Cert.LnFfnBwdRefIdeal.nD Cert.LnFfnBwdRefIdeal.τ).loc Cert.LnFfnBwdRefIdeal.main_arg3) = m' ((c.tc : Thread Cert.LnFfnBwdRefIdeal.nD Cert.LnFfnBwdRefIdeal.τ).loc Cert.LnFfnBwdRefIdeal.main_arg3)
          ∧ r.2.mem ((c.tc : Thread Cert.LnFfnBwdRefIdeal.nD Cert.LnFfnBwdRefIdeal.τ).loc Cert.LnFfnBwdRefIdeal.main_arg4) = m' ((c.tc : Thread Cert.LnFfnBwdRefIdeal.nD Cert.LnFfnBwdRefIdeal.τ).loc Cert.LnFfnBwdRefIdeal.main_arg4))

def preserves_LnInBwd_LnInBwdIdeal : Prop :=
  True

def algebraic_LnInBwdIdeal_LnInBwdRefIdeal_pre_ln_in_finite [hLnInBwdIdeal : Cert.LnInBwdIdeal.Facts] [hLnInBwdRefIdeal : Cert.LnInBwdRefIdeal.Facts] [hPre_ln_in_finite : Cert.Pre_ln_in_finite.Facts] : Prop :=
  ∀ (m : (ℓ : Loc Cert.LnInBwdIdeal.nD Cert.LnInBwdIdeal.τ Cert.LnInBwdIdeal.sig) → Buf (Elt Ideal) ℓ) (g : Dev Cert.LnInBwdIdeal.nD → PrngReg)
    (m' : (ℓ : Loc Cert.LnInBwdRefIdeal.nD Cert.LnInBwdRefIdeal.τ Cert.LnInBwdRefIdeal.sig) → Buf (Elt Ideal) ℓ) (g' : Dev Cert.LnInBwdRefIdeal.nD → PrngReg), Pre_LnInBwdIdeal_ln_in_finite m →
    (∀ c : Dev Cert.LnInBwdIdeal.nD,
      m' ((c.tc : Thread Cert.LnInBwdRefIdeal.nD Cert.LnInBwdRefIdeal.τ).loc Cert.LnInBwdRefIdeal.main_arg0) = m ((c.tc : Thread Cert.LnInBwdIdeal.nD Cert.LnInBwdIdeal.τ).loc Cert.LnInBwdIdeal.main_arg0)
      ∧ m' ((c.tc : Thread Cert.LnInBwdRefIdeal.nD Cert.LnInBwdRefIdeal.τ).loc Cert.LnInBwdRefIdeal.main_arg1) = m ((c.tc : Thread Cert.LnInBwdIdeal.nD Cert.LnInBwdIdeal.τ).loc Cert.LnInBwdIdeal.main_arg1)
      ∧ m' ((c.tc : Thread Cert.LnInBwdRefIdeal.nD Cert.LnInBwdRefIdeal.τ).loc Cert.LnInBwdRefIdeal.main_arg2) = m ((c.tc : Thread Cert.LnInBwdIdeal.nD Cert.LnInBwdIdeal.τ).loc Cert.LnInBwdIdeal.main_arg2)
      ∧ m' ((c.tc : Thread Cert.LnInBwdRefIdeal.nD Cert.LnInBwdRefIdeal.τ).loc Cert.LnInBwdRefIdeal.main_arg3) = m ((c.tc : Thread Cert.LnInBwdIdeal.nD Cert.LnInBwdIdeal.τ).loc Cert.LnInBwdIdeal.main_arg3)) →
    ∃ (v0 : (c : Dev Cert.LnInBwdIdeal.nD) → Buf (Elt Ideal) ((c.tc : Thread Cert.LnInBwdIdeal.nD Cert.LnInBwdIdeal.τ).loc Cert.LnInBwdIdeal.main_v17_0)) (v1 : (c : Dev Cert.LnInBwdIdeal.nD) → Buf (Elt Ideal) ((c.tc : Thread Cert.LnInBwdIdeal.nD Cert.LnInBwdIdeal.τ).loc Cert.LnInBwdIdeal.main_v17_1)) (v2 : (c : Dev Cert.LnInBwdIdeal.nD) → Buf (Elt Ideal) ((c.tc : Thread Cert.LnInBwdIdeal.nD Cert.LnInBwdIdeal.τ).loc Cert.LnInBwdIdeal.main_v17_2)),
      θ_run (Cert.LnInBwdIdeal.defs (F := Ideal)) (onTc (τ := Cert.LnInBwdIdeal.τ) (Cert.LnInBwdIdeal.main (F := Ideal))) ⟨m, fun _ => 0, g⟩ (fun r => ∀ c : Dev Cert.LnInBwdIdeal.nD,
          r.2.mem ((c.tc : Thread Cert.LnInBwdIdeal.nD Cert.LnInBwdIdeal.τ).loc Cert.LnInBwdIdeal.main_v17_0) = v0 c
          ∧ r.2.mem ((c.tc : Thread Cert.LnInBwdIdeal.nD Cert.LnInBwdIdeal.τ).loc Cert.LnInBwdIdeal.main_v17_1) = v1 c
          ∧ r.2.mem ((c.tc : Thread Cert.LnInBwdIdeal.nD Cert.LnInBwdIdeal.τ).loc Cert.LnInBwdIdeal.main_v17_2) = v2 c
          ∧ r.2.mem ((c.tc : Thread Cert.LnInBwdIdeal.nD Cert.LnInBwdIdeal.τ).loc Cert.LnInBwdIdeal.main_arg0) = m ((c.tc : Thread Cert.LnInBwdIdeal.nD Cert.LnInBwdIdeal.τ).loc Cert.LnInBwdIdeal.main_arg0)
          ∧ r.2.mem ((c.tc : Thread Cert.LnInBwdIdeal.nD Cert.LnInBwdIdeal.τ).loc Cert.LnInBwdIdeal.main_arg1) = m ((c.tc : Thread Cert.LnInBwdIdeal.nD Cert.LnInBwdIdeal.τ).loc Cert.LnInBwdIdeal.main_arg1)
          ∧ r.2.mem ((c.tc : Thread Cert.LnInBwdIdeal.nD Cert.LnInBwdIdeal.τ).loc Cert.LnInBwdIdeal.main_arg2) = m ((c.tc : Thread Cert.LnInBwdIdeal.nD Cert.LnInBwdIdeal.τ).loc Cert.LnInBwdIdeal.main_arg2)
          ∧ r.2.mem ((c.tc : Thread Cert.LnInBwdIdeal.nD Cert.LnInBwdIdeal.τ).loc Cert.LnInBwdIdeal.main_arg3) = m ((c.tc : Thread Cert.LnInBwdIdeal.nD Cert.LnInBwdIdeal.τ).loc Cert.LnInBwdIdeal.main_arg3))
      ∧ θ_run (Cert.LnInBwdRefIdeal.defs (F := Ideal)) (onTc (τ := Cert.LnInBwdRefIdeal.τ) (Cert.LnInBwdRefIdeal.main (F := Ideal))) ⟨m', fun _ => 0, g'⟩ (fun r => ∀ c : Dev Cert.LnInBwdRefIdeal.nD,
          r.2.mem ((c.tc : Thread Cert.LnInBwdRefIdeal.nD Cert.LnInBwdRefIdeal.τ).loc Cert.LnInBwdRefIdeal.main_v62) = v0 c
          ∧ r.2.mem ((c.tc : Thread Cert.LnInBwdRefIdeal.nD Cert.LnInBwdRefIdeal.τ).loc Cert.LnInBwdRefIdeal.main_v63) = v1 c
          ∧ r.2.mem ((c.tc : Thread Cert.LnInBwdRefIdeal.nD Cert.LnInBwdRefIdeal.τ).loc Cert.LnInBwdRefIdeal.main_v64) = v2 c
          ∧ r.2.mem ((c.tc : Thread Cert.LnInBwdRefIdeal.nD Cert.LnInBwdRefIdeal.τ).loc Cert.LnInBwdRefIdeal.main_arg0) = m' ((c.tc : Thread Cert.LnInBwdRefIdeal.nD Cert.LnInBwdRefIdeal.τ).loc Cert.LnInBwdRefIdeal.main_arg0)
          ∧ r.2.mem ((c.tc : Thread Cert.LnInBwdRefIdeal.nD Cert.LnInBwdRefIdeal.τ).loc Cert.LnInBwdRefIdeal.main_arg1) = m' ((c.tc : Thread Cert.LnInBwdRefIdeal.nD Cert.LnInBwdRefIdeal.τ).loc Cert.LnInBwdRefIdeal.main_arg1)
          ∧ r.2.mem ((c.tc : Thread Cert.LnInBwdRefIdeal.nD Cert.LnInBwdRefIdeal.τ).loc Cert.LnInBwdRefIdeal.main_arg2) = m' ((c.tc : Thread Cert.LnInBwdRefIdeal.nD Cert.LnInBwdRefIdeal.τ).loc Cert.LnInBwdRefIdeal.main_arg2)
          ∧ r.2.mem ((c.tc : Thread Cert.LnInBwdRefIdeal.nD Cert.LnInBwdRefIdeal.τ).loc Cert.LnInBwdRefIdeal.main_arg3) = m' ((c.tc : Thread Cert.LnInBwdRefIdeal.nD Cert.LnInBwdRefIdeal.τ).loc Cert.LnInBwdRefIdeal.main_arg3))

def preserves_LnInFwd_LnInFwdIdeal : Prop :=
  True

def algebraic_LnInFwdIdeal_LnInFwdRefIdeal [hLnInFwdIdeal : Cert.LnInFwdIdeal.Facts] [hLnInFwdRefIdeal : Cert.LnInFwdRefIdeal.Facts] : Prop :=
  ∀ (m : (ℓ : Loc Cert.LnInFwdIdeal.nD Cert.LnInFwdIdeal.τ Cert.LnInFwdIdeal.sig) → Buf (Elt Ideal) ℓ) (g : Dev Cert.LnInFwdIdeal.nD → PrngReg)
    (m' : (ℓ : Loc Cert.LnInFwdRefIdeal.nD Cert.LnInFwdRefIdeal.τ Cert.LnInFwdRefIdeal.sig) → Buf (Elt Ideal) ℓ) (g' : Dev Cert.LnInFwdRefIdeal.nD → PrngReg), Pre_LnInFwdIdeal m →
    (∀ c : Dev Cert.LnInFwdIdeal.nD,
      m' ((c.tc : Thread Cert.LnInFwdRefIdeal.nD Cert.LnInFwdRefIdeal.τ).loc Cert.LnInFwdRefIdeal.main_arg0) = m ((c.tc : Thread Cert.LnInFwdIdeal.nD Cert.LnInFwdIdeal.τ).loc Cert.LnInFwdIdeal.main_arg0)
      ∧ m' ((c.tc : Thread Cert.LnInFwdRefIdeal.nD Cert.LnInFwdRefIdeal.τ).loc Cert.LnInFwdRefIdeal.main_arg1) = m ((c.tc : Thread Cert.LnInFwdIdeal.nD Cert.LnInFwdIdeal.τ).loc Cert.LnInFwdIdeal.main_arg1)
      ∧ m' ((c.tc : Thread Cert.LnInFwdRefIdeal.nD Cert.LnInFwdRefIdeal.τ).loc Cert.LnInFwdRefIdeal.main_arg2) = m ((c.tc : Thread Cert.LnInFwdIdeal.nD Cert.LnInFwdIdeal.τ).loc Cert.LnInFwdIdeal.main_arg2)) →
    ∃ (v0 : (c : Dev Cert.LnInFwdIdeal.nD) → Buf (Elt Ideal) ((c.tc : Thread Cert.LnInFwdIdeal.nD Cert.LnInFwdIdeal.τ).loc Cert.LnInFwdIdeal.main_v2_0)) (v1 : (c : Dev Cert.LnInFwdIdeal.nD) → Buf (Elt Ideal) ((c.tc : Thread Cert.LnInFwdIdeal.nD Cert.LnInFwdIdeal.τ).loc Cert.LnInFwdIdeal.main_v2_1)) (v2 : (c : Dev Cert.LnInFwdIdeal.nD) → Buf (Elt Ideal) ((c.tc : Thread Cert.LnInFwdIdeal.nD Cert.LnInFwdIdeal.τ).loc Cert.LnInFwdIdeal.main_v2_2)),
      θ_run (Cert.LnInFwdIdeal.defs (F := Ideal)) (onTc (τ := Cert.LnInFwdIdeal.τ) (Cert.LnInFwdIdeal.main (F := Ideal))) ⟨m, fun _ => 0, g⟩ (fun r => ∀ c : Dev Cert.LnInFwdIdeal.nD,
          r.2.mem ((c.tc : Thread Cert.LnInFwdIdeal.nD Cert.LnInFwdIdeal.τ).loc Cert.LnInFwdIdeal.main_v2_0) = v0 c
          ∧ r.2.mem ((c.tc : Thread Cert.LnInFwdIdeal.nD Cert.LnInFwdIdeal.τ).loc Cert.LnInFwdIdeal.main_v2_1) = v1 c
          ∧ r.2.mem ((c.tc : Thread Cert.LnInFwdIdeal.nD Cert.LnInFwdIdeal.τ).loc Cert.LnInFwdIdeal.main_v2_2) = v2 c
          ∧ r.2.mem ((c.tc : Thread Cert.LnInFwdIdeal.nD Cert.LnInFwdIdeal.τ).loc Cert.LnInFwdIdeal.main_arg0) = m ((c.tc : Thread Cert.LnInFwdIdeal.nD Cert.LnInFwdIdeal.τ).loc Cert.LnInFwdIdeal.main_arg0)
          ∧ r.2.mem ((c.tc : Thread Cert.LnInFwdIdeal.nD Cert.LnInFwdIdeal.τ).loc Cert.LnInFwdIdeal.main_arg1) = m ((c.tc : Thread Cert.LnInFwdIdeal.nD Cert.LnInFwdIdeal.τ).loc Cert.LnInFwdIdeal.main_arg1)
          ∧ r.2.mem ((c.tc : Thread Cert.LnInFwdIdeal.nD Cert.LnInFwdIdeal.τ).loc Cert.LnInFwdIdeal.main_arg2) = m ((c.tc : Thread Cert.LnInFwdIdeal.nD Cert.LnInFwdIdeal.τ).loc Cert.LnInFwdIdeal.main_arg2))
      ∧ θ_run (Cert.LnInFwdRefIdeal.defs (F := Ideal)) (onTc (τ := Cert.LnInFwdRefIdeal.τ) (Cert.LnInFwdRefIdeal.main (F := Ideal))) ⟨m', fun _ => 0, g'⟩ (fun r => ∀ c : Dev Cert.LnInFwdRefIdeal.nD,
          r.2.mem ((c.tc : Thread Cert.LnInFwdRefIdeal.nD Cert.LnInFwdRefIdeal.τ).loc Cert.LnInFwdRefIdeal.main_v17) = v0 c
          ∧ r.2.mem ((c.tc : Thread Cert.LnInFwdRefIdeal.nD Cert.LnInFwdRefIdeal.τ).loc Cert.LnInFwdRefIdeal.main_v24) = v1 c
          ∧ r.2.mem ((c.tc : Thread Cert.LnInFwdRefIdeal.nD Cert.LnInFwdRefIdeal.τ).loc Cert.LnInFwdRefIdeal.main_v13) = v2 c
          ∧ r.2.mem ((c.tc : Thread Cert.LnInFwdRefIdeal.nD Cert.LnInFwdRefIdeal.τ).loc Cert.LnInFwdRefIdeal.main_arg0) = m' ((c.tc : Thread Cert.LnInFwdRefIdeal.nD Cert.LnInFwdRefIdeal.τ).loc Cert.LnInFwdRefIdeal.main_arg0)
          ∧ r.2.mem ((c.tc : Thread Cert.LnInFwdRefIdeal.nD Cert.LnInFwdRefIdeal.τ).loc Cert.LnInFwdRefIdeal.main_arg1) = m' ((c.tc : Thread Cert.LnInFwdRefIdeal.nD Cert.LnInFwdRefIdeal.τ).loc Cert.LnInFwdRefIdeal.main_arg1)
          ∧ r.2.mem ((c.tc : Thread Cert.LnInFwdRefIdeal.nD Cert.LnInFwdRefIdeal.τ).loc Cert.LnInFwdRefIdeal.main_arg2) = m' ((c.tc : Thread Cert.LnInFwdRefIdeal.nD Cert.LnInFwdRefIdeal.τ).loc Cert.LnInFwdRefIdeal.main_arg2))

def preserves_ConformerConvFwd_ConformerConvFwdIdeal : Prop :=
  True

def algebraic_ConformerConvFwdIdeal_ConformerConvFwdRefIdeal [hConformerConvFwdIdeal : Cert.ConformerConvFwdIdeal.Facts] [hConformerConvFwdRefIdeal : Cert.ConformerConvFwdRefIdeal.Facts] : Prop :=
  ∀ (m : (ℓ : Loc Cert.ConformerConvFwdIdeal.nD Cert.ConformerConvFwdIdeal.τ Cert.ConformerConvFwdIdeal.sig) → Buf (Elt Ideal) ℓ) (g : Dev Cert.ConformerConvFwdIdeal.nD → PrngReg)
    (m' : (ℓ : Loc Cert.ConformerConvFwdRefIdeal.nD Cert.ConformerConvFwdRefIdeal.τ Cert.ConformerConvFwdRefIdeal.sig) → Buf (Elt Ideal) ℓ) (g' : Dev Cert.ConformerConvFwdRefIdeal.nD → PrngReg), Pre_ConformerConvFwdIdeal m →
    (∀ c : Dev Cert.ConformerConvFwdIdeal.nD,
      m' ((c.tc : Thread Cert.ConformerConvFwdRefIdeal.nD Cert.ConformerConvFwdRefIdeal.τ).loc Cert.ConformerConvFwdRefIdeal.main_arg0) = m ((c.tc : Thread Cert.ConformerConvFwdIdeal.nD Cert.ConformerConvFwdIdeal.τ).loc Cert.ConformerConvFwdIdeal.main_arg0)
      ∧ m' ((c.tc : Thread Cert.ConformerConvFwdRefIdeal.nD Cert.ConformerConvFwdRefIdeal.τ).loc Cert.ConformerConvFwdRefIdeal.main_arg1) = m ((c.tc : Thread Cert.ConformerConvFwdIdeal.nD Cert.ConformerConvFwdIdeal.τ).loc Cert.ConformerConvFwdIdeal.main_arg1)
      ∧ m' ((c.tc : Thread Cert.ConformerConvFwdRefIdeal.nD Cert.ConformerConvFwdRefIdeal.τ).loc Cert.ConformerConvFwdRefIdeal.main_arg2) = m ((c.tc : Thread Cert.ConformerConvFwdIdeal.nD Cert.ConformerConvFwdIdeal.τ).loc Cert.ConformerConvFwdIdeal.main_arg2)) →
    ∃ (v0 : (c : Dev Cert.ConformerConvFwdIdeal.nD) → Buf (Elt Ideal) ((c.tc : Thread Cert.ConformerConvFwdIdeal.nD Cert.ConformerConvFwdIdeal.τ).loc Cert.ConformerConvFwdIdeal.main_v1)),
      θ_run (Cert.ConformerConvFwdIdeal.defs (F := Ideal)) (onTc (τ := Cert.ConformerConvFwdIdeal.τ) (Cert.ConformerConvFwdIdeal.main (F := Ideal))) ⟨m, fun _ => 0, g⟩ (fun r => ∀ c : Dev Cert.ConformerConvFwdIdeal.nD,
          r.2.mem ((c.tc : Thread Cert.ConformerConvFwdIdeal.nD Cert.ConformerConvFwdIdeal.τ).loc Cert.ConformerConvFwdIdeal.main_v1) = v0 c
          ∧ r.2.mem ((c.tc : Thread Cert.ConformerConvFwdIdeal.nD Cert.ConformerConvFwdIdeal.τ).loc Cert.ConformerConvFwdIdeal.main_arg0) = m ((c.tc : Thread Cert.ConformerConvFwdIdeal.nD Cert.ConformerConvFwdIdeal.τ).loc Cert.ConformerConvFwdIdeal.main_arg0)
          ∧ r.2.mem ((c.tc : Thread Cert.ConformerConvFwdIdeal.nD Cert.ConformerConvFwdIdeal.τ).loc Cert.ConformerConvFwdIdeal.main_arg1) = m ((c.tc : Thread Cert.ConformerConvFwdIdeal.nD Cert.ConformerConvFwdIdeal.τ).loc Cert.ConformerConvFwdIdeal.main_arg1)
          ∧ r.2.mem ((c.tc : Thread Cert.ConformerConvFwdIdeal.nD Cert.ConformerConvFwdIdeal.τ).loc Cert.ConformerConvFwdIdeal.main_arg2) = m ((c.tc : Thread Cert.ConformerConvFwdIdeal.nD Cert.ConformerConvFwdIdeal.τ).loc Cert.ConformerConvFwdIdeal.main_arg2))
      ∧ θ_run (Cert.ConformerConvFwdRefIdeal.defs (F := Ideal)) (onTc (τ := Cert.ConformerConvFwdRefIdeal.τ) (Cert.ConformerConvFwdRefIdeal.main (F := Ideal))) ⟨m', fun _ => 0, g'⟩ (fun r => ∀ c : Dev Cert.ConformerConvFwdRefIdeal.nD,
          r.2.mem ((c.tc : Thread Cert.ConformerConvFwdRefIdeal.nD Cert.ConformerConvFwdRefIdeal.τ).loc Cert.ConformerConvFwdRefIdeal.main_v35) = v0 c
          ∧ r.2.mem ((c.tc : Thread Cert.ConformerConvFwdRefIdeal.nD Cert.ConformerConvFwdRefIdeal.τ).loc Cert.ConformerConvFwdRefIdeal.main_arg0) = m' ((c.tc : Thread Cert.ConformerConvFwdRefIdeal.nD Cert.ConformerConvFwdRefIdeal.τ).loc Cert.ConformerConvFwdRefIdeal.main_arg0)
          ∧ r.2.mem ((c.tc : Thread Cert.ConformerConvFwdRefIdeal.nD Cert.ConformerConvFwdRefIdeal.τ).loc Cert.ConformerConvFwdRefIdeal.main_arg1) = m' ((c.tc : Thread Cert.ConformerConvFwdRefIdeal.nD Cert.ConformerConvFwdRefIdeal.τ).loc Cert.ConformerConvFwdRefIdeal.main_arg1)
          ∧ r.2.mem ((c.tc : Thread Cert.ConformerConvFwdRefIdeal.nD Cert.ConformerConvFwdRefIdeal.τ).loc Cert.ConformerConvFwdRefIdeal.main_arg2) = m' ((c.tc : Thread Cert.ConformerConvFwdRefIdeal.nD Cert.ConformerConvFwdRefIdeal.τ).loc Cert.ConformerConvFwdRefIdeal.main_arg2))

def preserves_MmOutLn_MmOutLnIdeal : Prop :=
  True

def algebraic_MmOutLnIdeal_MmOutLnRefIdeal [hMmOutLnIdeal : Cert.MmOutLnIdeal.Facts] [hMmOutLnRefIdeal : Cert.MmOutLnRefIdeal.Facts] : Prop :=
  ∀ (m : (ℓ : Loc Cert.MmOutLnIdeal.nD Cert.MmOutLnIdeal.τ Cert.MmOutLnIdeal.sig) → Buf (Elt Ideal) ℓ) (g : Dev Cert.MmOutLnIdeal.nD → PrngReg)
    (m' : (ℓ : Loc Cert.MmOutLnRefIdeal.nD Cert.MmOutLnRefIdeal.τ Cert.MmOutLnRefIdeal.sig) → Buf (Elt Ideal) ℓ) (g' : Dev Cert.MmOutLnRefIdeal.nD → PrngReg), Pre_MmOutLnIdeal m →
    (∀ c : Dev Cert.MmOutLnIdeal.nD,
      m' ((c.tc : Thread Cert.MmOutLnRefIdeal.nD Cert.MmOutLnRefIdeal.τ).loc Cert.MmOutLnRefIdeal.main_arg0) = m ((c.tc : Thread Cert.MmOutLnIdeal.nD Cert.MmOutLnIdeal.τ).loc Cert.MmOutLnIdeal.main_arg0)
      ∧ m' ((c.tc : Thread Cert.MmOutLnRefIdeal.nD Cert.MmOutLnRefIdeal.τ).loc Cert.MmOutLnRefIdeal.main_arg1) = m ((c.tc : Thread Cert.MmOutLnIdeal.nD Cert.MmOutLnIdeal.τ).loc Cert.MmOutLnIdeal.main_arg1)
      ∧ m' ((c.tc : Thread Cert.MmOutLnRefIdeal.nD Cert.MmOutLnRefIdeal.τ).loc Cert.MmOutLnRefIdeal.main_arg2) = m ((c.tc : Thread Cert.MmOutLnIdeal.nD Cert.MmOutLnIdeal.τ).loc Cert.MmOutLnIdeal.main_arg2)
      ∧ m' ((c.tc : Thread Cert.MmOutLnRefIdeal.nD Cert.MmOutLnRefIdeal.τ).loc Cert.MmOutLnRefIdeal.main_arg3) = m ((c.tc : Thread Cert.MmOutLnIdeal.nD Cert.MmOutLnIdeal.τ).loc Cert.MmOutLnIdeal.main_arg3)
      ∧ m' ((c.tc : Thread Cert.MmOutLnRefIdeal.nD Cert.MmOutLnRefIdeal.τ).loc Cert.MmOutLnRefIdeal.main_arg4) = m ((c.tc : Thread Cert.MmOutLnIdeal.nD Cert.MmOutLnIdeal.τ).loc Cert.MmOutLnIdeal.main_arg4)
      ∧ m' ((c.tc : Thread Cert.MmOutLnRefIdeal.nD Cert.MmOutLnRefIdeal.τ).loc Cert.MmOutLnRefIdeal.main_arg5) = m ((c.tc : Thread Cert.MmOutLnIdeal.nD Cert.MmOutLnIdeal.τ).loc Cert.MmOutLnIdeal.main_arg5)
      ∧ m' ((c.tc : Thread Cert.MmOutLnRefIdeal.nD Cert.MmOutLnRefIdeal.τ).loc Cert.MmOutLnRefIdeal.main_arg6) = m ((c.tc : Thread Cert.MmOutLnIdeal.nD Cert.MmOutLnIdeal.τ).loc Cert.MmOutLnIdeal.main_arg6)) →
    ∃ (v0 : (c : Dev Cert.MmOutLnIdeal.nD) → Buf (Elt Ideal) ((c.tc : Thread Cert.MmOutLnIdeal.nD Cert.MmOutLnIdeal.τ).loc Cert.MmOutLnIdeal.main_v30_0)) (v1 : (c : Dev Cert.MmOutLnIdeal.nD) → Buf (Elt Ideal) ((c.tc : Thread Cert.MmOutLnIdeal.nD Cert.MmOutLnIdeal.τ).loc Cert.MmOutLnIdeal.main_v30_1)) (v2 : (c : Dev Cert.MmOutLnIdeal.nD) → Buf (Elt Ideal) ((c.tc : Thread Cert.MmOutLnIdeal.nD Cert.MmOutLnIdeal.τ).loc Cert.MmOutLnIdeal.main_v30_2)),
      θ_run (Cert.MmOutLnIdeal.defs (F := Ideal)) (onTc (τ := Cert.MmOutLnIdeal.τ) (Cert.MmOutLnIdeal.main (F := Ideal))) ⟨m, fun _ => 0, g⟩ (fun r => ∀ c : Dev Cert.MmOutLnIdeal.nD,
          r.2.mem ((c.tc : Thread Cert.MmOutLnIdeal.nD Cert.MmOutLnIdeal.τ).loc Cert.MmOutLnIdeal.main_v30_0) = v0 c
          ∧ r.2.mem ((c.tc : Thread Cert.MmOutLnIdeal.nD Cert.MmOutLnIdeal.τ).loc Cert.MmOutLnIdeal.main_v30_1) = v1 c
          ∧ r.2.mem ((c.tc : Thread Cert.MmOutLnIdeal.nD Cert.MmOutLnIdeal.τ).loc Cert.MmOutLnIdeal.main_v30_2) = v2 c
          ∧ r.2.mem ((c.tc : Thread Cert.MmOutLnIdeal.nD Cert.MmOutLnIdeal.τ).loc Cert.MmOutLnIdeal.main_arg0) = m ((c.tc : Thread Cert.MmOutLnIdeal.nD Cert.MmOutLnIdeal.τ).loc Cert.MmOutLnIdeal.main_arg0)
          ∧ r.2.mem ((c.tc : Thread Cert.MmOutLnIdeal.nD Cert.MmOutLnIdeal.τ).loc Cert.MmOutLnIdeal.main_arg1) = m ((c.tc : Thread Cert.MmOutLnIdeal.nD Cert.MmOutLnIdeal.τ).loc Cert.MmOutLnIdeal.main_arg1)
          ∧ r.2.mem ((c.tc : Thread Cert.MmOutLnIdeal.nD Cert.MmOutLnIdeal.τ).loc Cert.MmOutLnIdeal.main_arg2) = m ((c.tc : Thread Cert.MmOutLnIdeal.nD Cert.MmOutLnIdeal.τ).loc Cert.MmOutLnIdeal.main_arg2)
          ∧ r.2.mem ((c.tc : Thread Cert.MmOutLnIdeal.nD Cert.MmOutLnIdeal.τ).loc Cert.MmOutLnIdeal.main_arg3) = m ((c.tc : Thread Cert.MmOutLnIdeal.nD Cert.MmOutLnIdeal.τ).loc Cert.MmOutLnIdeal.main_arg3)
          ∧ r.2.mem ((c.tc : Thread Cert.MmOutLnIdeal.nD Cert.MmOutLnIdeal.τ).loc Cert.MmOutLnIdeal.main_arg4) = m ((c.tc : Thread Cert.MmOutLnIdeal.nD Cert.MmOutLnIdeal.τ).loc Cert.MmOutLnIdeal.main_arg4)
          ∧ r.2.mem ((c.tc : Thread Cert.MmOutLnIdeal.nD Cert.MmOutLnIdeal.τ).loc Cert.MmOutLnIdeal.main_arg5) = m ((c.tc : Thread Cert.MmOutLnIdeal.nD Cert.MmOutLnIdeal.τ).loc Cert.MmOutLnIdeal.main_arg5)
          ∧ r.2.mem ((c.tc : Thread Cert.MmOutLnIdeal.nD Cert.MmOutLnIdeal.τ).loc Cert.MmOutLnIdeal.main_arg6) = m ((c.tc : Thread Cert.MmOutLnIdeal.nD Cert.MmOutLnIdeal.τ).loc Cert.MmOutLnIdeal.main_arg6))
      ∧ θ_run (Cert.MmOutLnRefIdeal.defs (F := Ideal)) (onTc (τ := Cert.MmOutLnRefIdeal.τ) (Cert.MmOutLnRefIdeal.main (F := Ideal))) ⟨m', fun _ => 0, g'⟩ (fun r => ∀ c : Dev Cert.MmOutLnRefIdeal.nD,
          r.2.mem ((c.tc : Thread Cert.MmOutLnRefIdeal.nD Cert.MmOutLnRefIdeal.τ).loc Cert.MmOutLnRefIdeal.main_v53) = v0 c
          ∧ r.2.mem ((c.tc : Thread Cert.MmOutLnRefIdeal.nD Cert.MmOutLnRefIdeal.τ).loc Cert.MmOutLnRefIdeal.main_v60) = v1 c
          ∧ r.2.mem ((c.tc : Thread Cert.MmOutLnRefIdeal.nD Cert.MmOutLnRefIdeal.τ).loc Cert.MmOutLnRefIdeal.main_v49) = v2 c
          ∧ r.2.mem ((c.tc : Thread Cert.MmOutLnRefIdeal.nD Cert.MmOutLnRefIdeal.τ).loc Cert.MmOutLnRefIdeal.main_arg0) = m' ((c.tc : Thread Cert.MmOutLnRefIdeal.nD Cert.MmOutLnRefIdeal.τ).loc Cert.MmOutLnRefIdeal.main_arg0)
          ∧ r.2.mem ((c.tc : Thread Cert.MmOutLnRefIdeal.nD Cert.MmOutLnRefIdeal.τ).loc Cert.MmOutLnRefIdeal.main_arg1) = m' ((c.tc : Thread Cert.MmOutLnRefIdeal.nD Cert.MmOutLnRefIdeal.τ).loc Cert.MmOutLnRefIdeal.main_arg1)
          ∧ r.2.mem ((c.tc : Thread Cert.MmOutLnRefIdeal.nD Cert.MmOutLnRefIdeal.τ).loc Cert.MmOutLnRefIdeal.main_arg2) = m' ((c.tc : Thread Cert.MmOutLnRefIdeal.nD Cert.MmOutLnRefIdeal.τ).loc Cert.MmOutLnRefIdeal.main_arg2)
          ∧ r.2.mem ((c.tc : Thread Cert.MmOutLnRefIdeal.nD Cert.MmOutLnRefIdeal.τ).loc Cert.MmOutLnRefIdeal.main_arg3) = m' ((c.tc : Thread Cert.MmOutLnRefIdeal.nD Cert.MmOutLnRefIdeal.τ).loc Cert.MmOutLnRefIdeal.main_arg3)
          ∧ r.2.mem ((c.tc : Thread Cert.MmOutLnRefIdeal.nD Cert.MmOutLnRefIdeal.τ).loc Cert.MmOutLnRefIdeal.main_arg4) = m' ((c.tc : Thread Cert.MmOutLnRefIdeal.nD Cert.MmOutLnRefIdeal.τ).loc Cert.MmOutLnRefIdeal.main_arg4)
          ∧ r.2.mem ((c.tc : Thread Cert.MmOutLnRefIdeal.nD Cert.MmOutLnRefIdeal.τ).loc Cert.MmOutLnRefIdeal.main_arg5) = m' ((c.tc : Thread Cert.MmOutLnRefIdeal.nD Cert.MmOutLnRefIdeal.τ).loc Cert.MmOutLnRefIdeal.main_arg5)
          ∧ r.2.mem ((c.tc : Thread Cert.MmOutLnRefIdeal.nD Cert.MmOutLnRefIdeal.τ).loc Cert.MmOutLnRefIdeal.main_arg6) = m' ((c.tc : Thread Cert.MmOutLnRefIdeal.nD Cert.MmOutLnRefIdeal.τ).loc Cert.MmOutLnRefIdeal.main_arg6))

def preserves_FfnInSwiglu_FfnInSwigluIdeal : Prop :=
  True

def algebraic_FfnInSwigluIdeal_FfnInSwigluRefIdeal [hFfnInSwigluIdeal : Cert.FfnInSwigluIdeal.Facts] [hFfnInSwigluRefIdeal : Cert.FfnInSwigluRefIdeal.Facts] : Prop :=
  ∀ (m : (ℓ : Loc Cert.FfnInSwigluIdeal.nD Cert.FfnInSwigluIdeal.τ Cert.FfnInSwigluIdeal.sig) → Buf (Elt Ideal) ℓ) (g : Dev Cert.FfnInSwigluIdeal.nD → PrngReg)
    (m' : (ℓ : Loc Cert.FfnInSwigluRefIdeal.nD Cert.FfnInSwigluRefIdeal.τ Cert.FfnInSwigluRefIdeal.sig) → Buf (Elt Ideal) ℓ) (g' : Dev Cert.FfnInSwigluRefIdeal.nD → PrngReg), Pre_FfnInSwigluIdeal m →
    (∀ c : Dev Cert.FfnInSwigluIdeal.nD,
      m' ((c.tc : Thread Cert.FfnInSwigluRefIdeal.nD Cert.FfnInSwigluRefIdeal.τ).loc Cert.FfnInSwigluRefIdeal.main_arg0) = m ((c.tc : Thread Cert.FfnInSwigluIdeal.nD Cert.FfnInSwigluIdeal.τ).loc Cert.FfnInSwigluIdeal.main_arg0)
      ∧ m' ((c.tc : Thread Cert.FfnInSwigluRefIdeal.nD Cert.FfnInSwigluRefIdeal.τ).loc Cert.FfnInSwigluRefIdeal.main_arg1) = m ((c.tc : Thread Cert.FfnInSwigluIdeal.nD Cert.FfnInSwigluIdeal.τ).loc Cert.FfnInSwigluIdeal.main_arg1)) →
    ∃ (v0 : (c : Dev Cert.FfnInSwigluIdeal.nD) → Buf (Elt Ideal) ((c.tc : Thread Cert.FfnInSwigluIdeal.nD Cert.FfnInSwigluIdeal.τ).loc Cert.FfnInSwigluIdeal.main_v2_0)) (v1 : (c : Dev Cert.FfnInSwigluIdeal.nD) → Buf (Elt Ideal) ((c.tc : Thread Cert.FfnInSwigluIdeal.nD Cert.FfnInSwigluIdeal.τ).loc Cert.FfnInSwigluIdeal.main_v2_1)),
      θ_run (Cert.FfnInSwigluIdeal.defs (F := Ideal)) (onTc (τ := Cert.FfnInSwigluIdeal.τ) (Cert.FfnInSwigluIdeal.main (F := Ideal))) ⟨m, fun _ => 0, g⟩ (fun r => ∀ c : Dev Cert.FfnInSwigluIdeal.nD,
          r.2.mem ((c.tc : Thread Cert.FfnInSwigluIdeal.nD Cert.FfnInSwigluIdeal.τ).loc Cert.FfnInSwigluIdeal.main_v2_0) = v0 c
          ∧ r.2.mem ((c.tc : Thread Cert.FfnInSwigluIdeal.nD Cert.FfnInSwigluIdeal.τ).loc Cert.FfnInSwigluIdeal.main_v2_1) = v1 c
          ∧ r.2.mem ((c.tc : Thread Cert.FfnInSwigluIdeal.nD Cert.FfnInSwigluIdeal.τ).loc Cert.FfnInSwigluIdeal.main_arg0) = m ((c.tc : Thread Cert.FfnInSwigluIdeal.nD Cert.FfnInSwigluIdeal.τ).loc Cert.FfnInSwigluIdeal.main_arg0)
          ∧ r.2.mem ((c.tc : Thread Cert.FfnInSwigluIdeal.nD Cert.FfnInSwigluIdeal.τ).loc Cert.FfnInSwigluIdeal.main_arg1) = m ((c.tc : Thread Cert.FfnInSwigluIdeal.nD Cert.FfnInSwigluIdeal.τ).loc Cert.FfnInSwigluIdeal.main_arg1))
      ∧ θ_run (Cert.FfnInSwigluRefIdeal.defs (F := Ideal)) (onTc (τ := Cert.FfnInSwigluRefIdeal.τ) (Cert.FfnInSwigluRefIdeal.main (F := Ideal))) ⟨m', fun _ => 0, g'⟩ (fun r => ∀ c : Dev Cert.FfnInSwigluRefIdeal.nD,
          r.2.mem ((c.tc : Thread Cert.FfnInSwigluRefIdeal.nD Cert.FfnInSwigluRefIdeal.τ).loc Cert.FfnInSwigluRefIdeal.main_v5) = v0 c
          ∧ r.2.mem ((c.tc : Thread Cert.FfnInSwigluRefIdeal.nD Cert.FfnInSwigluRefIdeal.τ).loc Cert.FfnInSwigluRefIdeal.main_v14) = v1 c
          ∧ r.2.mem ((c.tc : Thread Cert.FfnInSwigluRefIdeal.nD Cert.FfnInSwigluRefIdeal.τ).loc Cert.FfnInSwigluRefIdeal.main_arg0) = m' ((c.tc : Thread Cert.FfnInSwigluRefIdeal.nD Cert.FfnInSwigluRefIdeal.τ).loc Cert.FfnInSwigluRefIdeal.main_arg0)
          ∧ r.2.mem ((c.tc : Thread Cert.FfnInSwigluRefIdeal.nD Cert.FfnInSwigluRefIdeal.τ).loc Cert.FfnInSwigluRefIdeal.main_arg1) = m' ((c.tc : Thread Cert.FfnInSwigluRefIdeal.nD Cert.FfnInSwigluRefIdeal.τ).loc Cert.FfnInSwigluRefIdeal.main_arg1))

def preserves_FfnOutLn_FfnOutLnIdeal : Prop :=
  True

def algebraic_FfnOutLnIdeal_FfnOutLnRefIdeal [hFfnOutLnIdeal : Cert.FfnOutLnIdeal.Facts] [hFfnOutLnRefIdeal : Cert.FfnOutLnRefIdeal.Facts] : Prop :=
  ∀ (m : (ℓ : Loc Cert.FfnOutLnIdeal.nD Cert.FfnOutLnIdeal.τ Cert.FfnOutLnIdeal.sig) → Buf (Elt Ideal) ℓ) (g : Dev Cert.FfnOutLnIdeal.nD → PrngReg)
    (m' : (ℓ : Loc Cert.FfnOutLnRefIdeal.nD Cert.FfnOutLnRefIdeal.τ Cert.FfnOutLnRefIdeal.sig) → Buf (Elt Ideal) ℓ) (g' : Dev Cert.FfnOutLnRefIdeal.nD → PrngReg), Pre_FfnOutLnIdeal m →
    (∀ c : Dev Cert.FfnOutLnIdeal.nD,
      m' ((c.tc : Thread Cert.FfnOutLnRefIdeal.nD Cert.FfnOutLnRefIdeal.τ).loc Cert.FfnOutLnRefIdeal.main_arg0) = m ((c.tc : Thread Cert.FfnOutLnIdeal.nD Cert.FfnOutLnIdeal.τ).loc Cert.FfnOutLnIdeal.main_arg0)
      ∧ m' ((c.tc : Thread Cert.FfnOutLnRefIdeal.nD Cert.FfnOutLnRefIdeal.τ).loc Cert.FfnOutLnRefIdeal.main_arg1) = m ((c.tc : Thread Cert.FfnOutLnIdeal.nD Cert.FfnOutLnIdeal.τ).loc Cert.FfnOutLnIdeal.main_arg1)
      ∧ m' ((c.tc : Thread Cert.FfnOutLnRefIdeal.nD Cert.FfnOutLnRefIdeal.τ).loc Cert.FfnOutLnRefIdeal.main_arg2) = m ((c.tc : Thread Cert.FfnOutLnIdeal.nD Cert.FfnOutLnIdeal.τ).loc Cert.FfnOutLnIdeal.main_arg2)
      ∧ m' ((c.tc : Thread Cert.FfnOutLnRefIdeal.nD Cert.FfnOutLnRefIdeal.τ).loc Cert.FfnOutLnRefIdeal.main_arg3) = m ((c.tc : Thread Cert.FfnOutLnIdeal.nD Cert.FfnOutLnIdeal.τ).loc Cert.FfnOutLnIdeal.main_arg3)
      ∧ m' ((c.tc : Thread Cert.FfnOutLnRefIdeal.nD Cert.FfnOutLnRefIdeal.τ).loc Cert.FfnOutLnRefIdeal.main_arg4) = m ((c.tc : Thread Cert.FfnOutLnIdeal.nD Cert.FfnOutLnIdeal.τ).loc Cert.FfnOutLnIdeal.main_arg4)
      ∧ m' ((c.tc : Thread Cert.FfnOutLnRefIdeal.nD Cert.FfnOutLnRefIdeal.τ).loc Cert.FfnOutLnRefIdeal.main_arg5) = m ((c.tc : Thread Cert.FfnOutLnIdeal.nD Cert.FfnOutLnIdeal.τ).loc Cert.FfnOutLnIdeal.main_arg5)
      ∧ m' ((c.tc : Thread Cert.FfnOutLnRefIdeal.nD Cert.FfnOutLnRefIdeal.τ).loc Cert.FfnOutLnRefIdeal.main_arg6) = m ((c.tc : Thread Cert.FfnOutLnIdeal.nD Cert.FfnOutLnIdeal.τ).loc Cert.FfnOutLnIdeal.main_arg6)) →
    ∃ (v0 : (c : Dev Cert.FfnOutLnIdeal.nD) → Buf (Elt Ideal) ((c.tc : Thread Cert.FfnOutLnIdeal.nD Cert.FfnOutLnIdeal.τ).loc Cert.FfnOutLnIdeal.main_v30_0)) (v1 : (c : Dev Cert.FfnOutLnIdeal.nD) → Buf (Elt Ideal) ((c.tc : Thread Cert.FfnOutLnIdeal.nD Cert.FfnOutLnIdeal.τ).loc Cert.FfnOutLnIdeal.main_v30_1)) (v2 : (c : Dev Cert.FfnOutLnIdeal.nD) → Buf (Elt Ideal) ((c.tc : Thread Cert.FfnOutLnIdeal.nD Cert.FfnOutLnIdeal.τ).loc Cert.FfnOutLnIdeal.main_v30_2)),
      θ_run (Cert.FfnOutLnIdeal.defs (F := Ideal)) (onTc (τ := Cert.FfnOutLnIdeal.τ) (Cert.FfnOutLnIdeal.main (F := Ideal))) ⟨m, fun _ => 0, g⟩ (fun r => ∀ c : Dev Cert.FfnOutLnIdeal.nD,
          r.2.mem ((c.tc : Thread Cert.FfnOutLnIdeal.nD Cert.FfnOutLnIdeal.τ).loc Cert.FfnOutLnIdeal.main_v30_0) = v0 c
          ∧ r.2.mem ((c.tc : Thread Cert.FfnOutLnIdeal.nD Cert.FfnOutLnIdeal.τ).loc Cert.FfnOutLnIdeal.main_v30_1) = v1 c
          ∧ r.2.mem ((c.tc : Thread Cert.FfnOutLnIdeal.nD Cert.FfnOutLnIdeal.τ).loc Cert.FfnOutLnIdeal.main_v30_2) = v2 c
          ∧ r.2.mem ((c.tc : Thread Cert.FfnOutLnIdeal.nD Cert.FfnOutLnIdeal.τ).loc Cert.FfnOutLnIdeal.main_arg0) = m ((c.tc : Thread Cert.FfnOutLnIdeal.nD Cert.FfnOutLnIdeal.τ).loc Cert.FfnOutLnIdeal.main_arg0)
          ∧ r.2.mem ((c.tc : Thread Cert.FfnOutLnIdeal.nD Cert.FfnOutLnIdeal.τ).loc Cert.FfnOutLnIdeal.main_arg1) = m ((c.tc : Thread Cert.FfnOutLnIdeal.nD Cert.FfnOutLnIdeal.τ).loc Cert.FfnOutLnIdeal.main_arg1)
          ∧ r.2.mem ((c.tc : Thread Cert.FfnOutLnIdeal.nD Cert.FfnOutLnIdeal.τ).loc Cert.FfnOutLnIdeal.main_arg2) = m ((c.tc : Thread Cert.FfnOutLnIdeal.nD Cert.FfnOutLnIdeal.τ).loc Cert.FfnOutLnIdeal.main_arg2)
          ∧ r.2.mem ((c.tc : Thread Cert.FfnOutLnIdeal.nD Cert.FfnOutLnIdeal.τ).loc Cert.FfnOutLnIdeal.main_arg3) = m ((c.tc : Thread Cert.FfnOutLnIdeal.nD Cert.FfnOutLnIdeal.τ).loc Cert.FfnOutLnIdeal.main_arg3)
          ∧ r.2.mem ((c.tc : Thread Cert.FfnOutLnIdeal.nD Cert.FfnOutLnIdeal.τ).loc Cert.FfnOutLnIdeal.main_arg4) = m ((c.tc : Thread Cert.FfnOutLnIdeal.nD Cert.FfnOutLnIdeal.τ).loc Cert.FfnOutLnIdeal.main_arg4)
          ∧ r.2.mem ((c.tc : Thread Cert.FfnOutLnIdeal.nD Cert.FfnOutLnIdeal.τ).loc Cert.FfnOutLnIdeal.main_arg5) = m ((c.tc : Thread Cert.FfnOutLnIdeal.nD Cert.FfnOutLnIdeal.τ).loc Cert.FfnOutLnIdeal.main_arg5)
          ∧ r.2.mem ((c.tc : Thread Cert.FfnOutLnIdeal.nD Cert.FfnOutLnIdeal.τ).loc Cert.FfnOutLnIdeal.main_arg6) = m ((c.tc : Thread Cert.FfnOutLnIdeal.nD Cert.FfnOutLnIdeal.τ).loc Cert.FfnOutLnIdeal.main_arg6))
      ∧ θ_run (Cert.FfnOutLnRefIdeal.defs (F := Ideal)) (onTc (τ := Cert.FfnOutLnRefIdeal.τ) (Cert.FfnOutLnRefIdeal.main (F := Ideal))) ⟨m', fun _ => 0, g'⟩ (fun r => ∀ c : Dev Cert.FfnOutLnRefIdeal.nD,
          r.2.mem ((c.tc : Thread Cert.FfnOutLnRefIdeal.nD Cert.FfnOutLnRefIdeal.τ).loc Cert.FfnOutLnRefIdeal.main_v53) = v0 c
          ∧ r.2.mem ((c.tc : Thread Cert.FfnOutLnRefIdeal.nD Cert.FfnOutLnRefIdeal.τ).loc Cert.FfnOutLnRefIdeal.main_v60) = v1 c
          ∧ r.2.mem ((c.tc : Thread Cert.FfnOutLnRefIdeal.nD Cert.FfnOutLnRefIdeal.τ).loc Cert.FfnOutLnRefIdeal.main_v49) = v2 c
          ∧ r.2.mem ((c.tc : Thread Cert.FfnOutLnRefIdeal.nD Cert.FfnOutLnRefIdeal.τ).loc Cert.FfnOutLnRefIdeal.main_arg0) = m' ((c.tc : Thread Cert.FfnOutLnRefIdeal.nD Cert.FfnOutLnRefIdeal.τ).loc Cert.FfnOutLnRefIdeal.main_arg0)
          ∧ r.2.mem ((c.tc : Thread Cert.FfnOutLnRefIdeal.nD Cert.FfnOutLnRefIdeal.τ).loc Cert.FfnOutLnRefIdeal.main_arg1) = m' ((c.tc : Thread Cert.FfnOutLnRefIdeal.nD Cert.FfnOutLnRefIdeal.τ).loc Cert.FfnOutLnRefIdeal.main_arg1)
          ∧ r.2.mem ((c.tc : Thread Cert.FfnOutLnRefIdeal.nD Cert.FfnOutLnRefIdeal.τ).loc Cert.FfnOutLnRefIdeal.main_arg2) = m' ((c.tc : Thread Cert.FfnOutLnRefIdeal.nD Cert.FfnOutLnRefIdeal.τ).loc Cert.FfnOutLnRefIdeal.main_arg2)
          ∧ r.2.mem ((c.tc : Thread Cert.FfnOutLnRefIdeal.nD Cert.FfnOutLnRefIdeal.τ).loc Cert.FfnOutLnRefIdeal.main_arg3) = m' ((c.tc : Thread Cert.FfnOutLnRefIdeal.nD Cert.FfnOutLnRefIdeal.τ).loc Cert.FfnOutLnRefIdeal.main_arg3)
          ∧ r.2.mem ((c.tc : Thread Cert.FfnOutLnRefIdeal.nD Cert.FfnOutLnRefIdeal.τ).loc Cert.FfnOutLnRefIdeal.main_arg4) = m' ((c.tc : Thread Cert.FfnOutLnRefIdeal.nD Cert.FfnOutLnRefIdeal.τ).loc Cert.FfnOutLnRefIdeal.main_arg4)
          ∧ r.2.mem ((c.tc : Thread Cert.FfnOutLnRefIdeal.nD Cert.FfnOutLnRefIdeal.τ).loc Cert.FfnOutLnRefIdeal.main_arg5) = m' ((c.tc : Thread Cert.FfnOutLnRefIdeal.nD Cert.FfnOutLnRefIdeal.τ).loc Cert.FfnOutLnRefIdeal.main_arg5)
          ∧ r.2.mem ((c.tc : Thread Cert.FfnOutLnRefIdeal.nD Cert.FfnOutLnRefIdeal.τ).loc Cert.FfnOutLnRefIdeal.main_arg6) = m' ((c.tc : Thread Cert.FfnOutLnRefIdeal.nD Cert.FfnOutLnRefIdeal.τ).loc Cert.FfnOutLnRefIdeal.main_arg6))

def preserves_BranchMerge_BranchMergeIdeal : Prop :=
  True

def algebraic_BranchMergeIdeal_BranchMergeRefIdeal [hBranchMergeIdeal : Cert.BranchMergeIdeal.Facts] [hBranchMergeRefIdeal : Cert.BranchMergeRefIdeal.Facts] : Prop :=
  ∀ (m : (ℓ : Loc Cert.BranchMergeIdeal.nD Cert.BranchMergeIdeal.τ Cert.BranchMergeIdeal.sig) → Buf (Elt Ideal) ℓ) (g : Dev Cert.BranchMergeIdeal.nD → PrngReg)
    (m' : (ℓ : Loc Cert.BranchMergeRefIdeal.nD Cert.BranchMergeRefIdeal.τ Cert.BranchMergeRefIdeal.sig) → Buf (Elt Ideal) ℓ) (g' : Dev Cert.BranchMergeRefIdeal.nD → PrngReg), Pre_BranchMergeIdeal m →
    (∀ c : Dev Cert.BranchMergeIdeal.nD,
      m' ((c.tc : Thread Cert.BranchMergeRefIdeal.nD Cert.BranchMergeRefIdeal.τ).loc Cert.BranchMergeRefIdeal.main_arg0) = m ((c.tc : Thread Cert.BranchMergeIdeal.nD Cert.BranchMergeIdeal.τ).loc Cert.BranchMergeIdeal.main_arg0)
      ∧ m' ((c.tc : Thread Cert.BranchMergeRefIdeal.nD Cert.BranchMergeRefIdeal.τ).loc Cert.BranchMergeRefIdeal.main_arg1) = m ((c.tc : Thread Cert.BranchMergeIdeal.nD Cert.BranchMergeIdeal.τ).loc Cert.BranchMergeIdeal.main_arg1)
      ∧ m' ((c.tc : Thread Cert.BranchMergeRefIdeal.nD Cert.BranchMergeRefIdeal.τ).loc Cert.BranchMergeRefIdeal.main_arg2) = m ((c.tc : Thread Cert.BranchMergeIdeal.nD Cert.BranchMergeIdeal.τ).loc Cert.BranchMergeIdeal.main_arg2)
      ∧ m' ((c.tc : Thread Cert.BranchMergeRefIdeal.nD Cert.BranchMergeRefIdeal.τ).loc Cert.BranchMergeRefIdeal.main_arg3) = m ((c.tc : Thread Cert.BranchMergeIdeal.nD Cert.BranchMergeIdeal.τ).loc Cert.BranchMergeIdeal.main_arg3)) →
    ∃ (v0 : (c : Dev Cert.BranchMergeIdeal.nD) → Buf (Elt Ideal) ((c.tc : Thread Cert.BranchMergeIdeal.nD Cert.BranchMergeIdeal.τ).loc Cert.BranchMergeIdeal.main_v4_0)) (v1 : (c : Dev Cert.BranchMergeIdeal.nD) → Buf (Elt Ideal) ((c.tc : Thread Cert.BranchMergeIdeal.nD Cert.BranchMergeIdeal.τ).loc Cert.BranchMergeIdeal.main_v4_1)),
      θ_run (Cert.BranchMergeIdeal.defs (F := Ideal)) (onTc (τ := Cert.BranchMergeIdeal.τ) (Cert.BranchMergeIdeal.main (F := Ideal))) ⟨m, fun _ => 0, g⟩ (fun r => ∀ c : Dev Cert.BranchMergeIdeal.nD,
          r.2.mem ((c.tc : Thread Cert.BranchMergeIdeal.nD Cert.BranchMergeIdeal.τ).loc Cert.BranchMergeIdeal.main_v4_0) = v0 c
          ∧ r.2.mem ((c.tc : Thread Cert.BranchMergeIdeal.nD Cert.BranchMergeIdeal.τ).loc Cert.BranchMergeIdeal.main_v4_1) = v1 c
          ∧ r.2.mem ((c.tc : Thread Cert.BranchMergeIdeal.nD Cert.BranchMergeIdeal.τ).loc Cert.BranchMergeIdeal.main_arg0) = m ((c.tc : Thread Cert.BranchMergeIdeal.nD Cert.BranchMergeIdeal.τ).loc Cert.BranchMergeIdeal.main_arg0)
          ∧ r.2.mem ((c.tc : Thread Cert.BranchMergeIdeal.nD Cert.BranchMergeIdeal.τ).loc Cert.BranchMergeIdeal.main_arg1) = m ((c.tc : Thread Cert.BranchMergeIdeal.nD Cert.BranchMergeIdeal.τ).loc Cert.BranchMergeIdeal.main_arg1)
          ∧ r.2.mem ((c.tc : Thread Cert.BranchMergeIdeal.nD Cert.BranchMergeIdeal.τ).loc Cert.BranchMergeIdeal.main_arg2) = m ((c.tc : Thread Cert.BranchMergeIdeal.nD Cert.BranchMergeIdeal.τ).loc Cert.BranchMergeIdeal.main_arg2)
          ∧ r.2.mem ((c.tc : Thread Cert.BranchMergeIdeal.nD Cert.BranchMergeIdeal.τ).loc Cert.BranchMergeIdeal.main_arg3) = m ((c.tc : Thread Cert.BranchMergeIdeal.nD Cert.BranchMergeIdeal.τ).loc Cert.BranchMergeIdeal.main_arg3))
      ∧ θ_run (Cert.BranchMergeRefIdeal.defs (F := Ideal)) (onTc (τ := Cert.BranchMergeRefIdeal.τ) (Cert.BranchMergeRefIdeal.main (F := Ideal))) ⟨m', fun _ => 0, g'⟩ (fun r => ∀ c : Dev Cert.BranchMergeRefIdeal.nD,
          r.2.mem ((c.tc : Thread Cert.BranchMergeRefIdeal.nD Cert.BranchMergeRefIdeal.τ).loc Cert.BranchMergeRefIdeal.main_v27) = v0 c
          ∧ r.2.mem ((c.tc : Thread Cert.BranchMergeRefIdeal.nD Cert.BranchMergeRefIdeal.τ).loc Cert.BranchMergeRefIdeal.main_v28) = v1 c
          ∧ r.2.mem ((c.tc : Thread Cert.BranchMergeRefIdeal.nD Cert.BranchMergeRefIdeal.τ).loc Cert.BranchMergeRefIdeal.main_arg0) = m' ((c.tc : Thread Cert.BranchMergeRefIdeal.nD Cert.BranchMergeRefIdeal.τ).loc Cert.BranchMergeRefIdeal.main_arg0)
          ∧ r.2.mem ((c.tc : Thread Cert.BranchMergeRefIdeal.nD Cert.BranchMergeRefIdeal.τ).loc Cert.BranchMergeRefIdeal.main_arg1) = m' ((c.tc : Thread Cert.BranchMergeRefIdeal.nD Cert.BranchMergeRefIdeal.τ).loc Cert.BranchMergeRefIdeal.main_arg1)
          ∧ r.2.mem ((c.tc : Thread Cert.BranchMergeRefIdeal.nD Cert.BranchMergeRefIdeal.τ).loc Cert.BranchMergeRefIdeal.main_arg2) = m' ((c.tc : Thread Cert.BranchMergeRefIdeal.nD Cert.BranchMergeRefIdeal.τ).loc Cert.BranchMergeRefIdeal.main_arg2)
          ∧ r.2.mem ((c.tc : Thread Cert.BranchMergeRefIdeal.nD Cert.BranchMergeRefIdeal.τ).loc Cert.BranchMergeRefIdeal.main_arg3) = m' ((c.tc : Thread Cert.BranchMergeRefIdeal.nD Cert.BranchMergeRefIdeal.τ).loc Cert.BranchMergeRefIdeal.main_arg3))

def preserves_MixerRowsFwd_MixerRowsFwdIdeal : Prop :=
  True

def algebraic_MixerRowsFwdIdeal_MixerRowsFwdRefIdeal [hMixerRowsFwdIdeal : Cert.MixerRowsFwdIdeal.Facts] [hMixerRowsFwdRefIdeal : Cert.MixerRowsFwdRefIdeal.Facts] : Prop :=
  ∀ (m : (ℓ : Loc Cert.MixerRowsFwdIdeal.nD Cert.MixerRowsFwdIdeal.τ Cert.MixerRowsFwdIdeal.sig) → Buf (Elt Ideal) ℓ) (g : Dev Cert.MixerRowsFwdIdeal.nD → PrngReg)
    (m' : (ℓ : Loc Cert.MixerRowsFwdRefIdeal.nD Cert.MixerRowsFwdRefIdeal.τ Cert.MixerRowsFwdRefIdeal.sig) → Buf (Elt Ideal) ℓ) (g' : Dev Cert.MixerRowsFwdRefIdeal.nD → PrngReg), Pre_MixerRowsFwdIdeal m →
    (∀ c : Dev Cert.MixerRowsFwdIdeal.nD,
      m' ((c.tc : Thread Cert.MixerRowsFwdRefIdeal.nD Cert.MixerRowsFwdRefIdeal.τ).loc Cert.MixerRowsFwdRefIdeal.main_arg0) = m ((c.tc : Thread Cert.MixerRowsFwdIdeal.nD Cert.MixerRowsFwdIdeal.τ).loc Cert.MixerRowsFwdIdeal.main_arg0)
      ∧ m' ((c.tc : Thread Cert.MixerRowsFwdRefIdeal.nD Cert.MixerRowsFwdRefIdeal.τ).loc Cert.MixerRowsFwdRefIdeal.main_arg1) = m ((c.tc : Thread Cert.MixerRowsFwdIdeal.nD Cert.MixerRowsFwdIdeal.τ).loc Cert.MixerRowsFwdIdeal.main_arg1)
      ∧ m' ((c.tc : Thread Cert.MixerRowsFwdRefIdeal.nD Cert.MixerRowsFwdRefIdeal.τ).loc Cert.MixerRowsFwdRefIdeal.main_arg2) = m ((c.tc : Thread Cert.MixerRowsFwdIdeal.nD Cert.MixerRowsFwdIdeal.τ).loc Cert.MixerRowsFwdIdeal.main_arg2)
      ∧ m' ((c.tc : Thread Cert.MixerRowsFwdRefIdeal.nD Cert.MixerRowsFwdRefIdeal.τ).loc Cert.MixerRowsFwdRefIdeal.main_arg3) = m ((c.tc : Thread Cert.MixerRowsFwdIdeal.nD Cert.MixerRowsFwdIdeal.τ).loc Cert.MixerRowsFwdIdeal.main_arg3)
      ∧ m' ((c.tc : Thread Cert.MixerRowsFwdRefIdeal.nD Cert.MixerRowsFwdRefIdeal.τ).loc Cert.MixerRowsFwdRefIdeal.main_arg4) = m ((c.tc : Thread Cert.MixerRowsFwdIdeal.nD Cert.MixerRowsFwdIdeal.τ).loc Cert.MixerRowsFwdIdeal.main_arg4)
      ∧ m' ((c.tc : Thread Cert.MixerRowsFwdRefIdeal.nD Cert.MixerRowsFwdRefIdeal.τ).loc Cert.MixerRowsFwdRefIdeal.main_arg5) = m ((c.tc : Thread Cert.MixerRowsFwdIdeal.nD Cert.MixerRowsFwdIdeal.τ).loc Cert.MixerRowsFwdIdeal.main_arg5)
      ∧ m' ((c.tc : Thread Cert.MixerRowsFwdRefIdeal.nD Cert.MixerRowsFwdRefIdeal.τ).loc Cert.MixerRowsFwdRefIdeal.main_arg6) = m ((c.tc : Thread Cert.MixerRowsFwdIdeal.nD Cert.MixerRowsFwdIdeal.τ).loc Cert.MixerRowsFwdIdeal.main_arg6)
      ∧ m' ((c.tc : Thread Cert.MixerRowsFwdRefIdeal.nD Cert.MixerRowsFwdRefIdeal.τ).loc Cert.MixerRowsFwdRefIdeal.main_arg7) = m ((c.tc : Thread Cert.MixerRowsFwdIdeal.nD Cert.MixerRowsFwdIdeal.τ).loc Cert.MixerRowsFwdIdeal.main_arg7)) →
    ∃ (v0 : (c : Dev Cert.MixerRowsFwdIdeal.nD) → Buf (Elt Ideal) ((c.tc : Thread Cert.MixerRowsFwdIdeal.nD Cert.MixerRowsFwdIdeal.τ).loc Cert.MixerRowsFwdIdeal.main_v6)),
      θ_run (Cert.MixerRowsFwdIdeal.defs (F := Ideal)) (onTc (τ := Cert.MixerRowsFwdIdeal.τ) (Cert.MixerRowsFwdIdeal.main (F := Ideal))) ⟨m, fun _ => 0, g⟩ (fun r => ∀ c : Dev Cert.MixerRowsFwdIdeal.nD,
          r.2.mem ((c.tc : Thread Cert.MixerRowsFwdIdeal.nD Cert.MixerRowsFwdIdeal.τ).loc Cert.MixerRowsFwdIdeal.main_v6) = v0 c
          ∧ r.2.mem ((c.tc : Thread Cert.MixerRowsFwdIdeal.nD Cert.MixerRowsFwdIdeal.τ).loc Cert.MixerRowsFwdIdeal.main_arg0) = m ((c.tc : Thread Cert.MixerRowsFwdIdeal.nD Cert.MixerRowsFwdIdeal.τ).loc Cert.MixerRowsFwdIdeal.main_arg0)
          ∧ r.2.mem ((c.tc : Thread Cert.MixerRowsFwdIdeal.nD Cert.MixerRowsFwdIdeal.τ).loc Cert.MixerRowsFwdIdeal.main_arg1) = m ((c.tc : Thread Cert.MixerRowsFwdIdeal.nD Cert.MixerRowsFwdIdeal.τ).loc Cert.MixerRowsFwdIdeal.main_arg1)
          ∧ r.2.mem ((c.tc : Thread Cert.MixerRowsFwdIdeal.nD Cert.MixerRowsFwdIdeal.τ).loc Cert.MixerRowsFwdIdeal.main_arg2) = m ((c.tc : Thread Cert.MixerRowsFwdIdeal.nD Cert.MixerRowsFwdIdeal.τ).loc Cert.MixerRowsFwdIdeal.main_arg2)
          ∧ r.2.mem ((c.tc : Thread Cert.MixerRowsFwdIdeal.nD Cert.MixerRowsFwdIdeal.τ).loc Cert.MixerRowsFwdIdeal.main_arg3) = m ((c.tc : Thread Cert.MixerRowsFwdIdeal.nD Cert.MixerRowsFwdIdeal.τ).loc Cert.MixerRowsFwdIdeal.main_arg3)
          ∧ r.2.mem ((c.tc : Thread Cert.MixerRowsFwdIdeal.nD Cert.MixerRowsFwdIdeal.τ).loc Cert.MixerRowsFwdIdeal.main_arg4) = m ((c.tc : Thread Cert.MixerRowsFwdIdeal.nD Cert.MixerRowsFwdIdeal.τ).loc Cert.MixerRowsFwdIdeal.main_arg4)
          ∧ r.2.mem ((c.tc : Thread Cert.MixerRowsFwdIdeal.nD Cert.MixerRowsFwdIdeal.τ).loc Cert.MixerRowsFwdIdeal.main_arg5) = m ((c.tc : Thread Cert.MixerRowsFwdIdeal.nD Cert.MixerRowsFwdIdeal.τ).loc Cert.MixerRowsFwdIdeal.main_arg5)
          ∧ r.2.mem ((c.tc : Thread Cert.MixerRowsFwdIdeal.nD Cert.MixerRowsFwdIdeal.τ).loc Cert.MixerRowsFwdIdeal.main_arg6) = m ((c.tc : Thread Cert.MixerRowsFwdIdeal.nD Cert.MixerRowsFwdIdeal.τ).loc Cert.MixerRowsFwdIdeal.main_arg6)
          ∧ r.2.mem ((c.tc : Thread Cert.MixerRowsFwdIdeal.nD Cert.MixerRowsFwdIdeal.τ).loc Cert.MixerRowsFwdIdeal.main_arg7) = m ((c.tc : Thread Cert.MixerRowsFwdIdeal.nD Cert.MixerRowsFwdIdeal.τ).loc Cert.MixerRowsFwdIdeal.main_arg7))
      ∧ θ_run (Cert.MixerRowsFwdRefIdeal.defs (F := Ideal)) (onTc (τ := Cert.MixerRowsFwdRefIdeal.τ) (Cert.MixerRowsFwdRefIdeal.main (F := Ideal))) ⟨m', fun _ => 0, g'⟩ (fun r => ∀ c : Dev Cert.MixerRowsFwdRefIdeal.nD,
          r.2.mem ((c.tc : Thread Cert.MixerRowsFwdRefIdeal.nD Cert.MixerRowsFwdRefIdeal.τ).loc Cert.MixerRowsFwdRefIdeal.main_v87) = v0 c
          ∧ r.2.mem ((c.tc : Thread Cert.MixerRowsFwdRefIdeal.nD Cert.MixerRowsFwdRefIdeal.τ).loc Cert.MixerRowsFwdRefIdeal.main_arg0) = m' ((c.tc : Thread Cert.MixerRowsFwdRefIdeal.nD Cert.MixerRowsFwdRefIdeal.τ).loc Cert.MixerRowsFwdRefIdeal.main_arg0)
          ∧ r.2.mem ((c.tc : Thread Cert.MixerRowsFwdRefIdeal.nD Cert.MixerRowsFwdRefIdeal.τ).loc Cert.MixerRowsFwdRefIdeal.main_arg1) = m' ((c.tc : Thread Cert.MixerRowsFwdRefIdeal.nD Cert.MixerRowsFwdRefIdeal.τ).loc Cert.MixerRowsFwdRefIdeal.main_arg1)
          ∧ r.2.mem ((c.tc : Thread Cert.MixerRowsFwdRefIdeal.nD Cert.MixerRowsFwdRefIdeal.τ).loc Cert.MixerRowsFwdRefIdeal.main_arg2) = m' ((c.tc : Thread Cert.MixerRowsFwdRefIdeal.nD Cert.MixerRowsFwdRefIdeal.τ).loc Cert.MixerRowsFwdRefIdeal.main_arg2)
          ∧ r.2.mem ((c.tc : Thread Cert.MixerRowsFwdRefIdeal.nD Cert.MixerRowsFwdRefIdeal.τ).loc Cert.MixerRowsFwdRefIdeal.main_arg3) = m' ((c.tc : Thread Cert.MixerRowsFwdRefIdeal.nD Cert.MixerRowsFwdRefIdeal.τ).loc Cert.MixerRowsFwdRefIdeal.main_arg3)
          ∧ r.2.mem ((c.tc : Thread Cert.MixerRowsFwdRefIdeal.nD Cert.MixerRowsFwdRefIdeal.τ).loc Cert.MixerRowsFwdRefIdeal.main_arg4) = m' ((c.tc : Thread Cert.MixerRowsFwdRefIdeal.nD Cert.MixerRowsFwdRefIdeal.τ).loc Cert.MixerRowsFwdRefIdeal.main_arg4)
          ∧ r.2.mem ((c.tc : Thread Cert.MixerRowsFwdRefIdeal.nD Cert.MixerRowsFwdRefIdeal.τ).loc Cert.MixerRowsFwdRefIdeal.main_arg5) = m' ((c.tc : Thread Cert.MixerRowsFwdRefIdeal.nD Cert.MixerRowsFwdRefIdeal.τ).loc Cert.MixerRowsFwdRefIdeal.main_arg5)
          ∧ r.2.mem ((c.tc : Thread Cert.MixerRowsFwdRefIdeal.nD Cert.MixerRowsFwdRefIdeal.τ).loc Cert.MixerRowsFwdRefIdeal.main_arg6) = m' ((c.tc : Thread Cert.MixerRowsFwdRefIdeal.nD Cert.MixerRowsFwdRefIdeal.τ).loc Cert.MixerRowsFwdRefIdeal.main_arg6)
          ∧ r.2.mem ((c.tc : Thread Cert.MixerRowsFwdRefIdeal.nD Cert.MixerRowsFwdRefIdeal.τ).loc Cert.MixerRowsFwdRefIdeal.main_arg7) = m' ((c.tc : Thread Cert.MixerRowsFwdRefIdeal.nD Cert.MixerRowsFwdRefIdeal.τ).loc Cert.MixerRowsFwdRefIdeal.main_arg7))

def preserves_ShortConvFwd_ShortConvFwdIdeal : Prop :=
  True

def algebraic_ShortConvFwdIdeal_ShortConvFwdRefIdeal [hShortConvFwdIdeal : Cert.ShortConvFwdIdeal.Facts] [hShortConvFwdRefIdeal : Cert.ShortConvFwdRefIdeal.Facts] : Prop :=
  ∀ (m : (ℓ : Loc Cert.ShortConvFwdIdeal.nD Cert.ShortConvFwdIdeal.τ Cert.ShortConvFwdIdeal.sig) → Buf (Elt Ideal) ℓ) (g : Dev Cert.ShortConvFwdIdeal.nD → PrngReg)
    (m' : (ℓ : Loc Cert.ShortConvFwdRefIdeal.nD Cert.ShortConvFwdRefIdeal.τ Cert.ShortConvFwdRefIdeal.sig) → Buf (Elt Ideal) ℓ) (g' : Dev Cert.ShortConvFwdRefIdeal.nD → PrngReg), Pre_ShortConvFwdIdeal m →
    (∀ c : Dev Cert.ShortConvFwdIdeal.nD,
      m' ((c.tc : Thread Cert.ShortConvFwdRefIdeal.nD Cert.ShortConvFwdRefIdeal.τ).loc Cert.ShortConvFwdRefIdeal.main_arg0) = m ((c.tc : Thread Cert.ShortConvFwdIdeal.nD Cert.ShortConvFwdIdeal.τ).loc Cert.ShortConvFwdIdeal.main_arg0)
      ∧ m' ((c.tc : Thread Cert.ShortConvFwdRefIdeal.nD Cert.ShortConvFwdRefIdeal.τ).loc Cert.ShortConvFwdRefIdeal.main_arg1) = m ((c.tc : Thread Cert.ShortConvFwdIdeal.nD Cert.ShortConvFwdIdeal.τ).loc Cert.ShortConvFwdIdeal.main_arg1)
      ∧ m' ((c.tc : Thread Cert.ShortConvFwdRefIdeal.nD Cert.ShortConvFwdRefIdeal.τ).loc Cert.ShortConvFwdRefIdeal.main_arg2) = m ((c.tc : Thread Cert.ShortConvFwdIdeal.nD Cert.ShortConvFwdIdeal.τ).loc Cert.ShortConvFwdIdeal.main_arg2)) →
    ∃ (v0 : (c : Dev Cert.ShortConvFwdIdeal.nD) → Buf (Elt Ideal) ((c.tc : Thread Cert.ShortConvFwdIdeal.nD Cert.ShortConvFwdIdeal.τ).loc Cert.ShortConvFwdIdeal.main_v1)),
      θ_run (Cert.ShortConvFwdIdeal.defs (F := Ideal)) (onTc (τ := Cert.ShortConvFwdIdeal.τ) (Cert.ShortConvFwdIdeal.main (F := Ideal))) ⟨m, fun _ => 0, g⟩ (fun r => ∀ c : Dev Cert.ShortConvFwdIdeal.nD,
          r.2.mem ((c.tc : Thread Cert.ShortConvFwdIdeal.nD Cert.ShortConvFwdIdeal.τ).loc Cert.ShortConvFwdIdeal.main_v1) = v0 c
          ∧ r.2.mem ((c.tc : Thread Cert.ShortConvFwdIdeal.nD Cert.ShortConvFwdIdeal.τ).loc Cert.ShortConvFwdIdeal.main_arg0) = m ((c.tc : Thread Cert.ShortConvFwdIdeal.nD Cert.ShortConvFwdIdeal.τ).loc Cert.ShortConvFwdIdeal.main_arg0)
          ∧ r.2.mem ((c.tc : Thread Cert.ShortConvFwdIdeal.nD Cert.ShortConvFwdIdeal.τ).loc Cert.ShortConvFwdIdeal.main_arg1) = m ((c.tc : Thread Cert.ShortConvFwdIdeal.nD Cert.ShortConvFwdIdeal.τ).loc Cert.ShortConvFwdIdeal.main_arg1)
          ∧ r.2.mem ((c.tc : Thread Cert.ShortConvFwdIdeal.nD Cert.ShortConvFwdIdeal.τ).loc Cert.ShortConvFwdIdeal.main_arg2) = m ((c.tc : Thread Cert.ShortConvFwdIdeal.nD Cert.ShortConvFwdIdeal.τ).loc Cert.ShortConvFwdIdeal.main_arg2))
      ∧ θ_run (Cert.ShortConvFwdRefIdeal.defs (F := Ideal)) (onTc (τ := Cert.ShortConvFwdRefIdeal.τ) (Cert.ShortConvFwdRefIdeal.main (F := Ideal))) ⟨m', fun _ => 0, g'⟩ (fun r => ∀ c : Dev Cert.ShortConvFwdRefIdeal.nD,
          r.2.mem ((c.tc : Thread Cert.ShortConvFwdRefIdeal.nD Cert.ShortConvFwdRefIdeal.τ).loc Cert.ShortConvFwdRefIdeal.main_v30) = v0 c
          ∧ r.2.mem ((c.tc : Thread Cert.ShortConvFwdRefIdeal.nD Cert.ShortConvFwdRefIdeal.τ).loc Cert.ShortConvFwdRefIdeal.main_arg0) = m' ((c.tc : Thread Cert.ShortConvFwdRefIdeal.nD Cert.ShortConvFwdRefIdeal.τ).loc Cert.ShortConvFwdRefIdeal.main_arg0)
          ∧ r.2.mem ((c.tc : Thread Cert.ShortConvFwdRefIdeal.nD Cert.ShortConvFwdRefIdeal.τ).loc Cert.ShortConvFwdRefIdeal.main_arg1) = m' ((c.tc : Thread Cert.ShortConvFwdRefIdeal.nD Cert.ShortConvFwdRefIdeal.τ).loc Cert.ShortConvFwdRefIdeal.main_arg1)
          ∧ r.2.mem ((c.tc : Thread Cert.ShortConvFwdRefIdeal.nD Cert.ShortConvFwdRefIdeal.τ).loc Cert.ShortConvFwdRefIdeal.main_arg2) = m' ((c.tc : Thread Cert.ShortConvFwdRefIdeal.nD Cert.ShortConvFwdRefIdeal.τ).loc Cert.ShortConvFwdRefIdeal.main_arg2))

def preserves_MmIn_MmInIdeal : Prop :=
  True

def algebraic_MmInIdeal_MmInRefIdeal [hMmInIdeal : Cert.MmInIdeal.Facts] [hMmInRefIdeal : Cert.MmInRefIdeal.Facts] : Prop :=
  ∀ (m : (ℓ : Loc Cert.MmInIdeal.nD Cert.MmInIdeal.τ Cert.MmInIdeal.sig) → Buf (Elt Ideal) ℓ) (g : Dev Cert.MmInIdeal.nD → PrngReg)
    (m' : (ℓ : Loc Cert.MmInRefIdeal.nD Cert.MmInRefIdeal.τ Cert.MmInRefIdeal.sig) → Buf (Elt Ideal) ℓ) (g' : Dev Cert.MmInRefIdeal.nD → PrngReg), Pre_MmInIdeal m →
    (∀ c : Dev Cert.MmInIdeal.nD,
      m' ((c.tc : Thread Cert.MmInRefIdeal.nD Cert.MmInRefIdeal.τ).loc Cert.MmInRefIdeal.main_arg0) = m ((c.tc : Thread Cert.MmInIdeal.nD Cert.MmInIdeal.τ).loc Cert.MmInIdeal.main_arg0)
      ∧ m' ((c.tc : Thread Cert.MmInRefIdeal.nD Cert.MmInRefIdeal.τ).loc Cert.MmInRefIdeal.main_arg1) = m ((c.tc : Thread Cert.MmInIdeal.nD Cert.MmInIdeal.τ).loc Cert.MmInIdeal.main_arg1)) →
    ∃ (v0 : (c : Dev Cert.MmInIdeal.nD) → Buf (Elt Ideal) ((c.tc : Thread Cert.MmInIdeal.nD Cert.MmInIdeal.τ).loc Cert.MmInIdeal.main_v2)),
      θ_run (Cert.MmInIdeal.defs (F := Ideal)) (onTc (τ := Cert.MmInIdeal.τ) (Cert.MmInIdeal.main (F := Ideal))) ⟨m, fun _ => 0, g⟩ (fun r => ∀ c : Dev Cert.MmInIdeal.nD,
          r.2.mem ((c.tc : Thread Cert.MmInIdeal.nD Cert.MmInIdeal.τ).loc Cert.MmInIdeal.main_v2) = v0 c
          ∧ r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
          ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ θ_run (Cert.MmInRefIdeal.defs (F := Ideal)) (onTc (τ := Cert.MmInRefIdeal.τ) (Cert.MmInRefIdeal.main (F := Ideal))) ⟨m', fun _ => 0, g'⟩ (fun r => ∀ c : Dev Cert.MmInRefIdeal.nD,
          r.2.mem ((c.tc : Thread Cert.MmInRefIdeal.nD Cert.MmInRefIdeal.τ).loc Cert.MmInRefIdeal.main_v0) = v0 c
          ∧ r.2.mem ((c.tc : Thread Cert.MmInRefIdeal.nD Cert.MmInRefIdeal.τ).loc Cert.MmInRefIdeal.main_arg0) = m' ((c.tc : Thread Cert.MmInRefIdeal.nD Cert.MmInRefIdeal.τ).loc Cert.MmInRefIdeal.main_arg0)
          ∧ r.2.mem ((c.tc : Thread Cert.MmInRefIdeal.nD Cert.MmInRefIdeal.τ).loc Cert.MmInRefIdeal.main_arg1) = m' ((c.tc : Thread Cert.MmInRefIdeal.nD Cert.MmInRefIdeal.τ).loc Cert.MmInRefIdeal.main_arg1))

def preserves_MmOutDgrad_MmOutDgradIdeal : Prop :=
  True

def algebraic_MmOutDgradIdeal_MmOutDgradRefIdeal [hMmOutDgradIdeal : Cert.MmOutDgradIdeal.Facts] [hMmOutDgradRefIdeal : Cert.MmOutDgradRefIdeal.Facts] : Prop :=
  ∀ (m : (ℓ : Loc Cert.MmOutDgradIdeal.nD Cert.MmOutDgradIdeal.τ Cert.MmOutDgradIdeal.sig) → Buf (Elt Ideal) ℓ) (g : Dev Cert.MmOutDgradIdeal.nD → PrngReg)
    (m' : (ℓ : Loc Cert.MmOutDgradRefIdeal.nD Cert.MmOutDgradRefIdeal.τ Cert.MmOutDgradRefIdeal.sig) → Buf (Elt Ideal) ℓ) (g' : Dev Cert.MmOutDgradRefIdeal.nD → PrngReg), Pre_MmOutDgradIdeal m →
    (∀ c : Dev Cert.MmOutDgradIdeal.nD,
      m' ((c.tc : Thread Cert.MmOutDgradRefIdeal.nD Cert.MmOutDgradRefIdeal.τ).loc Cert.MmOutDgradRefIdeal.main_arg0) = m ((c.tc : Thread Cert.MmOutDgradIdeal.nD Cert.MmOutDgradIdeal.τ).loc Cert.MmOutDgradIdeal.main_arg0)
      ∧ m' ((c.tc : Thread Cert.MmOutDgradRefIdeal.nD Cert.MmOutDgradRefIdeal.τ).loc Cert.MmOutDgradRefIdeal.main_arg1) = m ((c.tc : Thread Cert.MmOutDgradIdeal.nD Cert.MmOutDgradIdeal.τ).loc Cert.MmOutDgradIdeal.main_arg1)
      ∧ m' ((c.tc : Thread Cert.MmOutDgradRefIdeal.nD Cert.MmOutDgradRefIdeal.τ).loc Cert.MmOutDgradRefIdeal.main_arg2) = m ((c.tc : Thread Cert.MmOutDgradIdeal.nD Cert.MmOutDgradIdeal.τ).loc Cert.MmOutDgradIdeal.main_arg2)) →
    ∃ (v0 : (c : Dev Cert.MmOutDgradIdeal.nD) → Buf (Elt Ideal) ((c.tc : Thread Cert.MmOutDgradIdeal.nD Cert.MmOutDgradIdeal.τ).loc Cert.MmOutDgradIdeal.main_v2)),
      θ_run (Cert.MmOutDgradIdeal.defs (F := Ideal)) (onTc (τ := Cert.MmOutDgradIdeal.τ) (Cert.MmOutDgradIdeal.main (F := Ideal))) ⟨m, fun _ => 0, g⟩ (fun r => ∀ c : Dev Cert.MmOutDgradIdeal.nD,
          r.2.mem ((c.tc : Thread Cert.MmOutDgradIdeal.nD Cert.MmOutDgradIdeal.τ).loc Cert.MmOutDgradIdeal.main_v2) = v0 c
          ∧ r.2.mem ((c.tc : Thread Cert.MmOutDgradIdeal.nD Cert.MmOutDgradIdeal.τ).loc Cert.MmOutDgradIdeal.main_arg0) = m ((c.tc : Thread Cert.MmOutDgradIdeal.nD Cert.MmOutDgradIdeal.τ).loc Cert.MmOutDgradIdeal.main_arg0)
          ∧ r.2.mem ((c.tc : Thread Cert.MmOutDgradIdeal.nD Cert.MmOutDgradIdeal.τ).loc Cert.MmOutDgradIdeal.main_arg1) = m ((c.tc : Thread Cert.MmOutDgradIdeal.nD Cert.MmOutDgradIdeal.τ).loc Cert.MmOutDgradIdeal.main_arg1)
          ∧ r.2.mem ((c.tc : Thread Cert.MmOutDgradIdeal.nD Cert.MmOutDgradIdeal.τ).loc Cert.MmOutDgradIdeal.main_arg2) = m ((c.tc : Thread Cert.MmOutDgradIdeal.nD Cert.MmOutDgradIdeal.τ).loc Cert.MmOutDgradIdeal.main_arg2))
      ∧ θ_run (Cert.MmOutDgradRefIdeal.defs (F := Ideal)) (onTc (τ := Cert.MmOutDgradRefIdeal.τ) (Cert.MmOutDgradRefIdeal.main (F := Ideal))) ⟨m', fun _ => 0, g'⟩ (fun r => ∀ c : Dev Cert.MmOutDgradRefIdeal.nD,
          r.2.mem ((c.tc : Thread Cert.MmOutDgradRefIdeal.nD Cert.MmOutDgradRefIdeal.τ).loc Cert.MmOutDgradRefIdeal.main_v1) = v0 c
          ∧ r.2.mem ((c.tc : Thread Cert.MmOutDgradRefIdeal.nD Cert.MmOutDgradRefIdeal.τ).loc Cert.MmOutDgradRefIdeal.main_arg0) = m' ((c.tc : Thread Cert.MmOutDgradRefIdeal.nD Cert.MmOutDgradRefIdeal.τ).loc Cert.MmOutDgradRefIdeal.main_arg0)
          ∧ r.2.mem ((c.tc : Thread Cert.MmOutDgradRefIdeal.nD Cert.MmOutDgradRefIdeal.τ).loc Cert.MmOutDgradRefIdeal.main_arg1) = m' ((c.tc : Thread Cert.MmOutDgradRefIdeal.nD Cert.MmOutDgradRefIdeal.τ).loc Cert.MmOutDgradRefIdeal.main_arg1)
          ∧ r.2.mem ((c.tc : Thread Cert.MmOutDgradRefIdeal.nD Cert.MmOutDgradRefIdeal.τ).loc Cert.MmOutDgradRefIdeal.main_arg2) = m' ((c.tc : Thread Cert.MmOutDgradRefIdeal.nD Cert.MmOutDgradRefIdeal.τ).loc Cert.MmOutDgradRefIdeal.main_arg2))

def preserves_FfnOutWgrad_FfnOutWgradIdeal : Prop :=
  True

def algebraic_FfnOutWgradIdeal_FfnOutWgradRefIdeal [hFfnOutWgradIdeal : Cert.FfnOutWgradIdeal.Facts] [hFfnOutWgradRefIdeal : Cert.FfnOutWgradRefIdeal.Facts] : Prop :=
  ∀ (m : (ℓ : Loc Cert.FfnOutWgradIdeal.nD Cert.FfnOutWgradIdeal.τ Cert.FfnOutWgradIdeal.sig) → Buf (Elt Ideal) ℓ) (g : Dev Cert.FfnOutWgradIdeal.nD → PrngReg)
    (m' : (ℓ : Loc Cert.FfnOutWgradRefIdeal.nD Cert.FfnOutWgradRefIdeal.τ Cert.FfnOutWgradRefIdeal.sig) → Buf (Elt Ideal) ℓ) (g' : Dev Cert.FfnOutWgradRefIdeal.nD → PrngReg), Pre_FfnOutWgradIdeal m →
    (∀ c : Dev Cert.FfnOutWgradIdeal.nD,
      m' ((c.tc : Thread Cert.FfnOutWgradRefIdeal.nD Cert.FfnOutWgradRefIdeal.τ).loc Cert.FfnOutWgradRefIdeal.main_arg0) = m ((c.tc : Thread Cert.FfnOutWgradIdeal.nD Cert.FfnOutWgradIdeal.τ).loc Cert.FfnOutWgradIdeal.main_arg0)
      ∧ m' ((c.tc : Thread Cert.FfnOutWgradRefIdeal.nD Cert.FfnOutWgradRefIdeal.τ).loc Cert.FfnOutWgradRefIdeal.main_arg1) = m ((c.tc : Thread Cert.FfnOutWgradIdeal.nD Cert.FfnOutWgradIdeal.τ).loc Cert.FfnOutWgradIdeal.main_arg1)
      ∧ m' ((c.tc : Thread Cert.FfnOutWgradRefIdeal.nD Cert.FfnOutWgradRefIdeal.τ).loc Cert.FfnOutWgradRefIdeal.main_arg2) = m ((c.tc : Thread Cert.FfnOutWgradIdeal.nD Cert.FfnOutWgradIdeal.τ).loc Cert.FfnOutWgradIdeal.main_arg2)) →
    ∃ (v0 : (c : Dev Cert.FfnOutWgradIdeal.nD) → Buf (Elt Ideal) ((c.tc : Thread Cert.FfnOutWgradIdeal.nD Cert.FfnOutWgradIdeal.τ).loc Cert.FfnOutWgradIdeal.main_v2)),
      θ_run (Cert.FfnOutWgradIdeal.defs (F := Ideal)) (onTc (τ := Cert.FfnOutWgradIdeal.τ) (Cert.FfnOutWgradIdeal.main (F := Ideal))) ⟨m, fun _ => 0, g⟩ (fun r => ∀ c : Dev Cert.FfnOutWgradIdeal.nD,
          r.2.mem ((c.tc : Thread Cert.FfnOutWgradIdeal.nD Cert.FfnOutWgradIdeal.τ).loc Cert.FfnOutWgradIdeal.main_v2) = v0 c
          ∧ r.2.mem ((c.tc : Thread Cert.FfnOutWgradIdeal.nD Cert.FfnOutWgradIdeal.τ).loc Cert.FfnOutWgradIdeal.main_arg0) = m ((c.tc : Thread Cert.FfnOutWgradIdeal.nD Cert.FfnOutWgradIdeal.τ).loc Cert.FfnOutWgradIdeal.main_arg0)
          ∧ r.2.mem ((c.tc : Thread Cert.FfnOutWgradIdeal.nD Cert.FfnOutWgradIdeal.τ).loc Cert.FfnOutWgradIdeal.main_arg1) = m ((c.tc : Thread Cert.FfnOutWgradIdeal.nD Cert.FfnOutWgradIdeal.τ).loc Cert.FfnOutWgradIdeal.main_arg1)
          ∧ r.2.mem ((c.tc : Thread Cert.FfnOutWgradIdeal.nD Cert.FfnOutWgradIdeal.τ).loc Cert.FfnOutWgradIdeal.main_arg2) = m ((c.tc : Thread Cert.FfnOutWgradIdeal.nD Cert.FfnOutWgradIdeal.τ).loc Cert.FfnOutWgradIdeal.main_arg2))
      ∧ θ_run (Cert.FfnOutWgradRefIdeal.defs (F := Ideal)) (onTc (τ := Cert.FfnOutWgradRefIdeal.τ) (Cert.FfnOutWgradRefIdeal.main (F := Ideal))) ⟨m', fun _ => 0, g'⟩ (fun r => ∀ c : Dev Cert.FfnOutWgradRefIdeal.nD,
          r.2.mem ((c.tc : Thread Cert.FfnOutWgradRefIdeal.nD Cert.FfnOutWgradRefIdeal.τ).loc Cert.FfnOutWgradRefIdeal.main_v3) = v0 c
          ∧ r.2.mem ((c.tc : Thread Cert.FfnOutWgradRefIdeal.nD Cert.FfnOutWgradRefIdeal.τ).loc Cert.FfnOutWgradRefIdeal.main_arg0) = m' ((c.tc : Thread Cert.FfnOutWgradRefIdeal.nD Cert.FfnOutWgradRefIdeal.τ).loc Cert.FfnOutWgradRefIdeal.main_arg0)
          ∧ r.2.mem ((c.tc : Thread Cert.FfnOutWgradRefIdeal.nD Cert.FfnOutWgradRefIdeal.τ).loc Cert.FfnOutWgradRefIdeal.main_arg1) = m' ((c.tc : Thread Cert.FfnOutWgradRefIdeal.nD Cert.FfnOutWgradRefIdeal.τ).loc Cert.FfnOutWgradRefIdeal.main_arg1)
          ∧ r.2.mem ((c.tc : Thread Cert.FfnOutWgradRefIdeal.nD Cert.FfnOutWgradRefIdeal.τ).loc Cert.FfnOutWgradRefIdeal.main_arg2) = m' ((c.tc : Thread Cert.FfnOutWgradRefIdeal.nD Cert.FfnOutWgradRefIdeal.τ).loc Cert.FfnOutWgradRefIdeal.main_arg2))

def preserves_BranchDgrad_BranchDgradIdeal : Prop :=
  True

def algebraic_BranchDgradIdeal_BranchDgradRefIdeal [hBranchDgradIdeal : Cert.BranchDgradIdeal.Facts] [hBranchDgradRefIdeal : Cert.BranchDgradRefIdeal.Facts] : Prop :=
  ∀ (m : (ℓ : Loc Cert.BranchDgradIdeal.nD Cert.BranchDgradIdeal.τ Cert.BranchDgradIdeal.sig) → Buf (Elt Ideal) ℓ) (g : Dev Cert.BranchDgradIdeal.nD → PrngReg)
    (m' : (ℓ : Loc Cert.BranchDgradRefIdeal.nD Cert.BranchDgradRefIdeal.τ Cert.BranchDgradRefIdeal.sig) → Buf (Elt Ideal) ℓ) (g' : Dev Cert.BranchDgradRefIdeal.nD → PrngReg), Pre_BranchDgradIdeal m →
    (∀ c : Dev Cert.BranchDgradIdeal.nD,
      m' ((c.tc : Thread Cert.BranchDgradRefIdeal.nD Cert.BranchDgradRefIdeal.τ).loc Cert.BranchDgradRefIdeal.main_arg0) = m ((c.tc : Thread Cert.BranchDgradIdeal.nD Cert.BranchDgradIdeal.τ).loc Cert.BranchDgradIdeal.main_arg0)
      ∧ m' ((c.tc : Thread Cert.BranchDgradRefIdeal.nD Cert.BranchDgradRefIdeal.τ).loc Cert.BranchDgradRefIdeal.main_arg1) = m ((c.tc : Thread Cert.BranchDgradIdeal.nD Cert.BranchDgradIdeal.τ).loc Cert.BranchDgradIdeal.main_arg1)
      ∧ m' ((c.tc : Thread Cert.BranchDgradRefIdeal.nD Cert.BranchDgradRefIdeal.τ).loc Cert.BranchDgradRefIdeal.main_arg2) = m ((c.tc : Thread Cert.BranchDgradIdeal.nD Cert.BranchDgradIdeal.τ).loc Cert.BranchDgradIdeal.main_arg2)) →
    ∃ (v0 : (c : Dev Cert.BranchDgradIdeal.nD) → Buf (Elt Ideal) ((c.tc : Thread Cert.BranchDgradIdeal.nD Cert.BranchDgradIdeal.τ).loc Cert.BranchDgradIdeal.main_v2)),
      θ_run (Cert.BranchDgradIdeal.defs (F := Ideal)) (onTc (τ := Cert.BranchDgradIdeal.τ) (Cert.BranchDgradIdeal.main (F := Ideal))) ⟨m, fun _ => 0, g⟩ (fun r => ∀ c : Dev Cert.BranchDgradIdeal.nD,
          r.2.mem ((c.tc : Thread Cert.BranchDgradIdeal.nD Cert.BranchDgradIdeal.τ).loc Cert.BranchDgradIdeal.main_v2) = v0 c
          ∧ r.2.mem ((c.tc : Thread Cert.BranchDgradIdeal.nD Cert.BranchDgradIdeal.τ).loc Cert.BranchDgradIdeal.main_arg0) = m ((c.tc : Thread Cert.BranchDgradIdeal.nD Cert.BranchDgradIdeal.τ).loc Cert.BranchDgradIdeal.main_arg0)
          ∧ r.2.mem ((c.tc : Thread Cert.BranchDgradIdeal.nD Cert.BranchDgradIdeal.τ).loc Cert.BranchDgradIdeal.main_arg1) = m ((c.tc : Thread Cert.BranchDgradIdeal.nD Cert.BranchDgradIdeal.τ).loc Cert.BranchDgradIdeal.main_arg1)
          ∧ r.2.mem ((c.tc : Thread Cert.BranchDgradIdeal.nD Cert.BranchDgradIdeal.τ).loc Cert.BranchDgradIdeal.main_arg2) = m ((c.tc : Thread Cert.BranchDgradIdeal.nD Cert.BranchDgradIdeal.τ).loc Cert.BranchDgradIdeal.main_arg2))
      ∧ θ_run (Cert.BranchDgradRefIdeal.defs (F := Ideal)) (onTc (τ := Cert.BranchDgradRefIdeal.τ) (Cert.BranchDgradRefIdeal.main (F := Ideal))) ⟨m', fun _ => 0, g'⟩ (fun r => ∀ c : Dev Cert.BranchDgradRefIdeal.nD,
          r.2.mem ((c.tc : Thread Cert.BranchDgradRefIdeal.nD Cert.BranchDgradRefIdeal.τ).loc Cert.BranchDgradRefIdeal.main_v36) = v0 c
          ∧ r.2.mem ((c.tc : Thread Cert.BranchDgradRefIdeal.nD Cert.BranchDgradRefIdeal.τ).loc Cert.BranchDgradRefIdeal.main_arg0) = m' ((c.tc : Thread Cert.BranchDgradRefIdeal.nD Cert.BranchDgradRefIdeal.τ).loc Cert.BranchDgradRefIdeal.main_arg0)
          ∧ r.2.mem ((c.tc : Thread Cert.BranchDgradRefIdeal.nD Cert.BranchDgradRefIdeal.τ).loc Cert.BranchDgradRefIdeal.main_arg1) = m' ((c.tc : Thread Cert.BranchDgradRefIdeal.nD Cert.BranchDgradRefIdeal.τ).loc Cert.BranchDgradRefIdeal.main_arg1)
          ∧ r.2.mem ((c.tc : Thread Cert.BranchDgradRefIdeal.nD Cert.BranchDgradRefIdeal.τ).loc Cert.BranchDgradRefIdeal.main_arg2) = m' ((c.tc : Thread Cert.BranchDgradRefIdeal.nD Cert.BranchDgradRefIdeal.τ).loc Cert.BranchDgradRefIdeal.main_arg2))

def preserves_BranchWgrad_BranchWgradIdeal : Prop :=
  True

def algebraic_BranchWgradIdeal_BranchWgradRefIdeal [hBranchWgradIdeal : Cert.BranchWgradIdeal.Facts] [hBranchWgradRefIdeal : Cert.BranchWgradRefIdeal.Facts] : Prop :=
  ∀ (m : (ℓ : Loc Cert.BranchWgradIdeal.nD Cert.BranchWgradIdeal.τ Cert.BranchWgradIdeal.sig) → Buf (Elt Ideal) ℓ) (g : Dev Cert.BranchWgradIdeal.nD → PrngReg)
    (m' : (ℓ : Loc Cert.BranchWgradRefIdeal.nD Cert.BranchWgradRefIdeal.τ Cert.BranchWgradRefIdeal.sig) → Buf (Elt Ideal) ℓ) (g' : Dev Cert.BranchWgradRefIdeal.nD → PrngReg), Pre_BranchWgradIdeal m →
    (∀ c : Dev Cert.BranchWgradIdeal.nD,
      m' ((c.tc : Thread Cert.BranchWgradRefIdeal.nD Cert.BranchWgradRefIdeal.τ).loc Cert.BranchWgradRefIdeal.main_arg0) = m ((c.tc : Thread Cert.BranchWgradIdeal.nD Cert.BranchWgradIdeal.τ).loc Cert.BranchWgradIdeal.main_arg0)
      ∧ m' ((c.tc : Thread Cert.BranchWgradRefIdeal.nD Cert.BranchWgradRefIdeal.τ).loc Cert.BranchWgradRefIdeal.main_arg1) = m ((c.tc : Thread Cert.BranchWgradIdeal.nD Cert.BranchWgradIdeal.τ).loc Cert.BranchWgradIdeal.main_arg1)
      ∧ m' ((c.tc : Thread Cert.BranchWgradRefIdeal.nD Cert.BranchWgradRefIdeal.τ).loc Cert.BranchWgradRefIdeal.main_arg2) = m ((c.tc : Thread Cert.BranchWgradIdeal.nD Cert.BranchWgradIdeal.τ).loc Cert.BranchWgradIdeal.main_arg2)) →
    ∃ (v0 : (c : Dev Cert.BranchWgradIdeal.nD) → Buf (Elt Ideal) ((c.tc : Thread Cert.BranchWgradIdeal.nD Cert.BranchWgradIdeal.τ).loc Cert.BranchWgradIdeal.main_v2)),
      θ_run (Cert.BranchWgradIdeal.defs (F := Ideal)) (onTc (τ := Cert.BranchWgradIdeal.τ) (Cert.BranchWgradIdeal.main (F := Ideal))) ⟨m, fun _ => 0, g⟩ (fun r => ∀ c : Dev Cert.BranchWgradIdeal.nD,
          r.2.mem ((c.tc : Thread Cert.BranchWgradIdeal.nD Cert.BranchWgradIdeal.τ).loc Cert.BranchWgradIdeal.main_v2) = v0 c
          ∧ r.2.mem ((c.tc : Thread Cert.BranchWgradIdeal.nD Cert.BranchWgradIdeal.τ).loc Cert.BranchWgradIdeal.main_arg0) = m ((c.tc : Thread Cert.BranchWgradIdeal.nD Cert.BranchWgradIdeal.τ).loc Cert.BranchWgradIdeal.main_arg0)
          ∧ r.2.mem ((c.tc : Thread Cert.BranchWgradIdeal.nD Cert.BranchWgradIdeal.τ).loc Cert.BranchWgradIdeal.main_arg1) = m ((c.tc : Thread Cert.BranchWgradIdeal.nD Cert.BranchWgradIdeal.τ).loc Cert.BranchWgradIdeal.main_arg1)
          ∧ r.2.mem ((c.tc : Thread Cert.BranchWgradIdeal.nD Cert.BranchWgradIdeal.τ).loc Cert.BranchWgradIdeal.main_arg2) = m ((c.tc : Thread Cert.BranchWgradIdeal.nD Cert.BranchWgradIdeal.τ).loc Cert.BranchWgradIdeal.main_arg2))
      ∧ θ_run (Cert.BranchWgradRefIdeal.defs (F := Ideal)) (onTc (τ := Cert.BranchWgradRefIdeal.τ) (Cert.BranchWgradRefIdeal.main (F := Ideal))) ⟨m', fun _ => 0, g'⟩ (fun r => ∀ c : Dev Cert.BranchWgradRefIdeal.nD,
          r.2.mem ((c.tc : Thread Cert.BranchWgradRefIdeal.nD Cert.BranchWgradRefIdeal.τ).loc Cert.BranchWgradRefIdeal.main_v17) = v0 c
          ∧ r.2.mem ((c.tc : Thread Cert.BranchWgradRefIdeal.nD Cert.BranchWgradRefIdeal.τ).loc Cert.BranchWgradRefIdeal.main_arg0) = m' ((c.tc : Thread Cert.BranchWgradRefIdeal.nD Cert.BranchWgradRefIdeal.τ).loc Cert.BranchWgradRefIdeal.main_arg0)
          ∧ r.2.mem ((c.tc : Thread Cert.BranchWgradRefIdeal.nD Cert.BranchWgradRefIdeal.τ).loc Cert.BranchWgradRefIdeal.main_arg1) = m' ((c.tc : Thread Cert.BranchWgradRefIdeal.nD Cert.BranchWgradRefIdeal.τ).loc Cert.BranchWgradRefIdeal.main_arg1)
          ∧ r.2.mem ((c.tc : Thread Cert.BranchWgradRefIdeal.nD Cert.BranchWgradRefIdeal.τ).loc Cert.BranchWgradRefIdeal.main_arg2) = m' ((c.tc : Thread Cert.BranchWgradRefIdeal.nD Cert.BranchWgradRefIdeal.τ).loc Cert.BranchWgradRefIdeal.main_arg2))

def preserves_MmInWgrad_MmInWgradIdeal : Prop :=
  True

def algebraic_MmInWgradIdeal_MmInWgradRefIdeal [hMmInWgradIdeal : Cert.MmInWgradIdeal.Facts] [hMmInWgradRefIdeal : Cert.MmInWgradRefIdeal.Facts] : Prop :=
  ∀ (m : (ℓ : Loc Cert.MmInWgradIdeal.nD Cert.MmInWgradIdeal.τ Cert.MmInWgradIdeal.sig) → Buf (Elt Ideal) ℓ) (g : Dev Cert.MmInWgradIdeal.nD → PrngReg)
    (m' : (ℓ : Loc Cert.MmInWgradRefIdeal.nD Cert.MmInWgradRefIdeal.τ Cert.MmInWgradRefIdeal.sig) → Buf (Elt Ideal) ℓ) (g' : Dev Cert.MmInWgradRefIdeal.nD → PrngReg), Pre_MmInWgradIdeal m →
    (∀ c : Dev Cert.MmInWgradIdeal.nD,
      m' ((c.tc : Thread Cert.MmInWgradRefIdeal.nD Cert.MmInWgradRefIdeal.τ).loc Cert.MmInWgradRefIdeal.main_arg0) = m ((c.tc : Thread Cert.MmInWgradIdeal.nD Cert.MmInWgradIdeal.τ).loc Cert.MmInWgradIdeal.main_arg0)
      ∧ m' ((c.tc : Thread Cert.MmInWgradRefIdeal.nD Cert.MmInWgradRefIdeal.τ).loc Cert.MmInWgradRefIdeal.main_arg1) = m ((c.tc : Thread Cert.MmInWgradIdeal.nD Cert.MmInWgradIdeal.τ).loc Cert.MmInWgradIdeal.main_arg1)
      ∧ m' ((c.tc : Thread Cert.MmInWgradRefIdeal.nD Cert.MmInWgradRefIdeal.τ).loc Cert.MmInWgradRefIdeal.main_arg2) = m ((c.tc : Thread Cert.MmInWgradIdeal.nD Cert.MmInWgradIdeal.τ).loc Cert.MmInWgradIdeal.main_arg2)) →
    ∃ (v0 : (c : Dev Cert.MmInWgradIdeal.nD) → Buf (Elt Ideal) ((c.tc : Thread Cert.MmInWgradIdeal.nD Cert.MmInWgradIdeal.τ).loc Cert.MmInWgradIdeal.main_v14)),
      θ_run (Cert.MmInWgradIdeal.defs (F := Ideal)) (onTc (τ := Cert.MmInWgradIdeal.τ) (Cert.MmInWgradIdeal.main (F := Ideal))) ⟨m, fun _ => 0, g⟩ (fun r => ∀ c : Dev Cert.MmInWgradIdeal.nD,
          r.2.mem ((c.tc : Thread Cert.MmInWgradIdeal.nD Cert.MmInWgradIdeal.τ).loc Cert.MmInWgradIdeal.main_v14) = v0 c
          ∧ r.2.mem ((c.tc : Thread Cert.MmInWgradIdeal.nD Cert.MmInWgradIdeal.τ).loc Cert.MmInWgradIdeal.main_arg0) = m ((c.tc : Thread Cert.MmInWgradIdeal.nD Cert.MmInWgradIdeal.τ).loc Cert.MmInWgradIdeal.main_arg0)
          ∧ r.2.mem ((c.tc : Thread Cert.MmInWgradIdeal.nD Cert.MmInWgradIdeal.τ).loc Cert.MmInWgradIdeal.main_arg1) = m ((c.tc : Thread Cert.MmInWgradIdeal.nD Cert.MmInWgradIdeal.τ).loc Cert.MmInWgradIdeal.main_arg1)
          ∧ r.2.mem ((c.tc : Thread Cert.MmInWgradIdeal.nD Cert.MmInWgradIdeal.τ).loc Cert.MmInWgradIdeal.main_arg2) = m ((c.tc : Thread Cert.MmInWgradIdeal.nD Cert.MmInWgradIdeal.τ).loc Cert.MmInWgradIdeal.main_arg2))
      ∧ θ_run (Cert.MmInWgradRefIdeal.defs (F := Ideal)) (onTc (τ := Cert.MmInWgradRefIdeal.τ) (Cert.MmInWgradRefIdeal.main (F := Ideal))) ⟨m', fun _ => 0, g'⟩ (fun r => ∀ c : Dev Cert.MmInWgradRefIdeal.nD,
          r.2.mem ((c.tc : Thread Cert.MmInWgradRefIdeal.nD Cert.MmInWgradRefIdeal.τ).loc Cert.MmInWgradRefIdeal.main_v3) = v0 c
          ∧ r.2.mem ((c.tc : Thread Cert.MmInWgradRefIdeal.nD Cert.MmInWgradRefIdeal.τ).loc Cert.MmInWgradRefIdeal.main_arg0) = m' ((c.tc : Thread Cert.MmInWgradRefIdeal.nD Cert.MmInWgradRefIdeal.τ).loc Cert.MmInWgradRefIdeal.main_arg0)
          ∧ r.2.mem ((c.tc : Thread Cert.MmInWgradRefIdeal.nD Cert.MmInWgradRefIdeal.τ).loc Cert.MmInWgradRefIdeal.main_arg1) = m' ((c.tc : Thread Cert.MmInWgradRefIdeal.nD Cert.MmInWgradRefIdeal.τ).loc Cert.MmInWgradRefIdeal.main_arg1)
          ∧ r.2.mem ((c.tc : Thread Cert.MmInWgradRefIdeal.nD Cert.MmInWgradRefIdeal.τ).loc Cert.MmInWgradRefIdeal.main_arg2) = m' ((c.tc : Thread Cert.MmInWgradRefIdeal.nD Cert.MmInWgradRefIdeal.τ).loc Cert.MmInWgradRefIdeal.main_arg2))

def preserves_MmInDgrad_MmInDgradIdeal : Prop :=
  True

def algebraic_MmInDgradIdeal_MmInDgradRefIdeal [hMmInDgradIdeal : Cert.MmInDgradIdeal.Facts] [hMmInDgradRefIdeal : Cert.MmInDgradRefIdeal.Facts] : Prop :=
  ∀ (m : (ℓ : Loc Cert.MmInDgradIdeal.nD Cert.MmInDgradIdeal.τ Cert.MmInDgradIdeal.sig) → Buf (Elt Ideal) ℓ) (g : Dev Cert.MmInDgradIdeal.nD → PrngReg)
    (m' : (ℓ : Loc Cert.MmInDgradRefIdeal.nD Cert.MmInDgradRefIdeal.τ Cert.MmInDgradRefIdeal.sig) → Buf (Elt Ideal) ℓ) (g' : Dev Cert.MmInDgradRefIdeal.nD → PrngReg), Pre_MmInDgradIdeal m →
    (∀ c : Dev Cert.MmInDgradIdeal.nD,
      m' ((c.tc : Thread Cert.MmInDgradRefIdeal.nD Cert.MmInDgradRefIdeal.τ).loc Cert.MmInDgradRefIdeal.main_arg0) = m ((c.tc : Thread Cert.MmInDgradIdeal.nD Cert.MmInDgradIdeal.τ).loc Cert.MmInDgradIdeal.main_arg0)
      ∧ m' ((c.tc : Thread Cert.MmInDgradRefIdeal.nD Cert.MmInDgradRefIdeal.τ).loc Cert.MmInDgradRefIdeal.main_arg1) = m ((c.tc : Thread Cert.MmInDgradIdeal.nD Cert.MmInDgradIdeal.τ).loc Cert.MmInDgradIdeal.main_arg1)
      ∧ m' ((c.tc : Thread Cert.MmInDgradRefIdeal.nD Cert.MmInDgradRefIdeal.τ).loc Cert.MmInDgradRefIdeal.main_arg2) = m ((c.tc : Thread Cert.MmInDgradIdeal.nD Cert.MmInDgradIdeal.τ).loc Cert.MmInDgradIdeal.main_arg2)
      ∧ m' ((c.tc : Thread Cert.MmInDgradRefIdeal.nD Cert.MmInDgradRefIdeal.τ).loc Cert.MmInDgradRefIdeal.main_arg3) = m ((c.tc : Thread Cert.MmInDgradIdeal.nD Cert.MmInDgradIdeal.τ).loc Cert.MmInDgradIdeal.main_arg3)) →
    ∃ (v0 : (c : Dev Cert.MmInDgradIdeal.nD) → Buf (Elt Ideal) ((c.tc : Thread Cert.MmInDgradIdeal.nD Cert.MmInDgradIdeal.τ).loc Cert.MmInDgradIdeal.main_v14)),
      θ_run (Cert.MmInDgradIdeal.defs (F := Ideal)) (onTc (τ := Cert.MmInDgradIdeal.τ) (Cert.MmInDgradIdeal.main (F := Ideal))) ⟨m, fun _ => 0, g⟩ (fun r => ∀ c : Dev Cert.MmInDgradIdeal.nD,
          r.2.mem ((c.tc : Thread Cert.MmInDgradIdeal.nD Cert.MmInDgradIdeal.τ).loc Cert.MmInDgradIdeal.main_v14) = v0 c
          ∧ r.2.mem ((c.tc : Thread Cert.MmInDgradIdeal.nD Cert.MmInDgradIdeal.τ).loc Cert.MmInDgradIdeal.main_arg0) = m ((c.tc : Thread Cert.MmInDgradIdeal.nD Cert.MmInDgradIdeal.τ).loc Cert.MmInDgradIdeal.main_arg0)
          ∧ r.2.mem ((c.tc : Thread Cert.MmInDgradIdeal.nD Cert.MmInDgradIdeal.τ).loc Cert.MmInDgradIdeal.main_arg1) = m ((c.tc : Thread Cert.MmInDgradIdeal.nD Cert.MmInDgradIdeal.τ).loc Cert.MmInDgradIdeal.main_arg1)
          ∧ r.2.mem ((c.tc : Thread Cert.MmInDgradIdeal.nD Cert.MmInDgradIdeal.τ).loc Cert.MmInDgradIdeal.main_arg2) = m ((c.tc : Thread Cert.MmInDgradIdeal.nD Cert.MmInDgradIdeal.τ).loc Cert.MmInDgradIdeal.main_arg2)
          ∧ r.2.mem ((c.tc : Thread Cert.MmInDgradIdeal.nD Cert.MmInDgradIdeal.τ).loc Cert.MmInDgradIdeal.main_arg3) = m ((c.tc : Thread Cert.MmInDgradIdeal.nD Cert.MmInDgradIdeal.τ).loc Cert.MmInDgradIdeal.main_arg3))
      ∧ θ_run (Cert.MmInDgradRefIdeal.defs (F := Ideal)) (onTc (τ := Cert.MmInDgradRefIdeal.τ) (Cert.MmInDgradRefIdeal.main (F := Ideal))) ⟨m', fun _ => 0, g'⟩ (fun r => ∀ c : Dev Cert.MmInDgradRefIdeal.nD,
          r.2.mem ((c.tc : Thread Cert.MmInDgradRefIdeal.nD Cert.MmInDgradRefIdeal.τ).loc Cert.MmInDgradRefIdeal.main_v6) = v0 c
          ∧ r.2.mem ((c.tc : Thread Cert.MmInDgradRefIdeal.nD Cert.MmInDgradRefIdeal.τ).loc Cert.MmInDgradRefIdeal.main_arg0) = m' ((c.tc : Thread Cert.MmInDgradRefIdeal.nD Cert.MmInDgradRefIdeal.τ).loc Cert.MmInDgradRefIdeal.main_arg0)
          ∧ r.2.mem ((c.tc : Thread Cert.MmInDgradRefIdeal.nD Cert.MmInDgradRefIdeal.τ).loc Cert.MmInDgradRefIdeal.main_arg1) = m' ((c.tc : Thread Cert.MmInDgradRefIdeal.nD Cert.MmInDgradRefIdeal.τ).loc Cert.MmInDgradRefIdeal.main_arg1)
          ∧ r.2.mem ((c.tc : Thread Cert.MmInDgradRefIdeal.nD Cert.MmInDgradRefIdeal.τ).loc Cert.MmInDgradRefIdeal.main_arg2) = m' ((c.tc : Thread Cert.MmInDgradRefIdeal.nD Cert.MmInDgradRefIdeal.τ).loc Cert.MmInDgradRefIdeal.main_arg2)
          ∧ r.2.mem ((c.tc : Thread Cert.MmInDgradRefIdeal.nD Cert.MmInDgradRefIdeal.τ).loc Cert.MmInDgradRefIdeal.main_arg3) = m' ((c.tc : Thread Cert.MmInDgradRefIdeal.nD Cert.MmInDgradRefIdeal.τ).loc Cert.MmInDgradRefIdeal.main_arg3))

def preserves_SumDevices_SumDevicesIdeal : Prop :=
  True

def algebraic_SumDevicesIdeal_SumDevicesRefIdeal [hSumDevicesIdeal : Cert.SumDevicesIdeal.Facts] [hSumDevicesRefIdeal : Cert.SumDevicesRefIdeal.Facts] : Prop :=
  ∀ (m : (ℓ : Loc Cert.SumDevicesIdeal.nD Cert.SumDevicesIdeal.τ Cert.SumDevicesIdeal.sig) → Buf (Elt Ideal) ℓ) (g : Dev Cert.SumDevicesIdeal.nD → PrngReg)
    (m' : (ℓ : Loc Cert.SumDevicesRefIdeal.nD Cert.SumDevicesRefIdeal.τ Cert.SumDevicesRefIdeal.sig) → Buf (Elt Ideal) ℓ) (g' : Dev Cert.SumDevicesRefIdeal.nD → PrngReg), Pre_SumDevicesIdeal m →
    (∀ c : Dev Cert.SumDevicesIdeal.nD,
      m' ((c.tc : Thread Cert.SumDevicesRefIdeal.nD Cert.SumDevicesRefIdeal.τ).loc Cert.SumDevicesRefIdeal.main_arg0) = m ((c.tc : Thread Cert.SumDevicesIdeal.nD Cert.SumDevicesIdeal.τ).loc Cert.SumDevicesIdeal.main_arg0)) →
    ∃ (v0 : (c : Dev Cert.SumDevicesIdeal.nD) → Buf (Elt Ideal) ((c.tc : Thread Cert.SumDevicesIdeal.nD Cert.SumDevicesIdeal.τ).loc Cert.SumDevicesIdeal.main_v0)),
      θ_run (Cert.SumDevicesIdeal.defs (F := Ideal)) (onTc (τ := Cert.SumDevicesIdeal.τ) (Cert.SumDevicesIdeal.main (F := Ideal))) ⟨m, fun _ => 0, g⟩ (fun r => ∀ c : Dev Cert.SumDevicesIdeal.nD,
          r.2.mem ((c.tc : Thread Cert.SumDevicesIdeal.nD Cert.SumDevicesIdeal.τ).loc Cert.SumDevicesIdeal.main_v0) = v0 c
          ∧ r.2.mem ((c.tc : Thread Cert.SumDevicesIdeal.nD Cert.SumDevicesIdeal.τ).loc Cert.SumDevicesIdeal.main_arg0) = m ((c.tc : Thread Cert.SumDevicesIdeal.nD Cert.SumDevicesIdeal.τ).loc Cert.SumDevicesIdeal.main_arg0))
      ∧ θ_run (Cert.SumDevicesRefIdeal.defs (F := Ideal)) (onTc (τ := Cert.SumDevicesRefIdeal.τ) (Cert.SumDevicesRefIdeal.main (F := Ideal))) ⟨m', fun _ => 0, g'⟩ (fun r => ∀ c : Dev Cert.SumDevicesRefIdeal.nD,
          r.2.mem ((c.tc : Thread Cert.SumDevicesRefIdeal.nD Cert.SumDevicesRefIdeal.τ).loc Cert.SumDevicesRefIdeal.main_v0) = v0 c
          ∧ r.2.mem ((c.tc : Thread Cert.SumDevicesRefIdeal.nD Cert.SumDevicesRefIdeal.τ).loc Cert.SumDevicesRefIdeal.main_arg0) = m' ((c.tc : Thread Cert.SumDevicesRefIdeal.nD Cert.SumDevicesRefIdeal.τ).loc Cert.SumDevicesRefIdeal.main_arg0))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def Claim : Prop :=
  ∃ (hGateBwd : Cert.GateBwd.Facts) (hGateBwdIdeal : Cert.GateBwdIdeal.Facts) (hGateBwdRefIdeal : Cert.GateBwdRefIdeal.Facts) (hMixerRowsBwd : Cert.MixerRowsBwd.Facts) (hMixerRowsBwdIdeal : Cert.MixerRowsBwdIdeal.Facts) (hMixerRowsBwdRefIdeal : Cert.MixerRowsBwdRefIdeal.Facts) (hShortConvBwd : Cert.ShortConvBwd.Facts) (hShortConvBwdIdeal : Cert.ShortConvBwdIdeal.Facts) (hShortConvBwdRefIdeal : Cert.ShortConvBwdRefIdeal.Facts) (hConformerConvBwd : Cert.ConformerConvBwd.Facts) (hConformerConvBwdIdeal : Cert.ConformerConvBwdIdeal.Facts) (hConformerConvBwdRefIdeal : Cert.ConformerConvBwdRefIdeal.Facts) (hFfnOutBwd : Cert.FfnOutBwd.Facts) (hFfnOutBwdIdeal : Cert.FfnOutBwdIdeal.Facts) (hFfnOutBwdRefIdeal : Cert.FfnOutBwdRefIdeal.Facts) (hLossHead : Cert.LossHead.Facts) (hLossHeadIdeal : Cert.LossHeadIdeal.Facts) (hLossHeadRefIdeal : Cert.LossHeadRefIdeal.Facts) (hLnFfnBwd : Cert.LnFfnBwd.Facts) (hLnFfnBwdIdeal : Cert.LnFfnBwdIdeal.Facts) (hLnFfnBwdRefIdeal : Cert.LnFfnBwdRefIdeal.Facts) (hLnInBwd : Cert.LnInBwd.Facts) (hLnInBwdIdeal : Cert.LnInBwdIdeal.Facts) (hLnInBwdRefIdeal : Cert.LnInBwdRefIdeal.Facts) (hLnInFwd : Cert.LnInFwd.Facts) (hLnInFwdIdeal : Cert.LnInFwdIdeal.Facts) (hLnInFwdRefIdeal : Cert.LnInFwdRefIdeal.Facts) (hConformerConvFwd : Cert.ConformerConvFwd.Facts) (hConformerConvFwdIdeal : Cert.ConformerConvFwdIdeal.Facts) (hConformerConvFwdRefIdeal : Cert.ConformerConvFwdRefIdeal.Facts) (hMmOutLn : Cert.MmOutLn.Facts) (hMmOutLnIdeal : Cert.MmOutLnIdeal.Facts) (hMmOutLnRefIdeal : Cert.MmOutLnRefIdeal.Facts) (hFfnInSwiglu : Cert.FfnInSwiglu.Facts) (hFfnInSwigluIdeal : Cert.FfnInSwigluIdeal.Facts) (hFfnInSwigluRefIdeal : Cert.FfnInSwigluRefIdeal.Facts) (hFfnOutLn : Cert.FfnOutLn.Facts) (hFfnOutLnIdeal : Cert.FfnOutLnIdeal.Facts) (hFfnOutLnRefIdeal : Cert.FfnOutLnRefIdeal.Facts) (hBranchMerge : Cert.BranchMerge.Facts) (hBranchMergeIdeal : Cert.BranchMergeIdeal.Facts) (hBranchMergeRefIdeal : Cert.BranchMergeRefIdeal.Facts) (hMixerRowsFwd : Cert.MixerRowsFwd.Facts) (hMixerRowsFwdIdeal : Cert.MixerRowsFwdIdeal.Facts) (hMixerRowsFwdRefIdeal : Cert.MixerRowsFwdRefIdeal.Facts) (hShortConvFwd : Cert.ShortConvFwd.Facts) (hShortConvFwdIdeal : Cert.ShortConvFwdIdeal.Facts) (hShortConvFwdRefIdeal : Cert.ShortConvFwdRefIdeal.Facts) (hMmIn : Cert.MmIn.Facts) (hMmInIdeal : Cert.MmInIdeal.Facts) (hMmInRefIdeal : Cert.MmInRefIdeal.Facts) (hMmOutDgrad : Cert.MmOutDgrad.Facts) (hMmOutDgradIdeal : Cert.MmOutDgradIdeal.Facts) (hMmOutDgradRefIdeal : Cert.MmOutDgradRefIdeal.Facts) (hFfnOutWgrad : Cert.FfnOutWgrad.Facts) (hFfnOutWgradIdeal : Cert.FfnOutWgradIdeal.Facts) (hFfnOutWgradRefIdeal : Cert.FfnOutWgradRefIdeal.Facts) (hBranchDgrad : Cert.BranchDgrad.Facts) (hBranchDgradIdeal : Cert.BranchDgradIdeal.Facts) (hBranchDgradRefIdeal : Cert.BranchDgradRefIdeal.Facts) (hBranchWgrad : Cert.BranchWgrad.Facts) (hBranchWgradIdeal : Cert.BranchWgradIdeal.Facts) (hBranchWgradRefIdeal : Cert.BranchWgradRefIdeal.Facts) (hMmInWgrad : Cert.MmInWgrad.Facts) (hMmInWgradIdeal : Cert.MmInWgradIdeal.Facts) (hMmInWgradRefIdeal : Cert.MmInWgradRefIdeal.Facts) (hMmInDgrad : Cert.MmInDgrad.Facts) (hMmInDgradIdeal : Cert.MmInDgradIdeal.Facts) (hMmInDgradRefIdeal : Cert.MmInDgradRefIdeal.Facts) (hSumDevices : Cert.SumDevices.Facts) (hSumDevicesIdeal : Cert.SumDevicesIdeal.Facts) (hSumDevicesRefIdeal : Cert.SumDevicesRefIdeal.Facts) (hAdamSmall : Cert.AdamSmall.Facts) (hAdamSmallIdeal : Cert.AdamSmallIdeal.Facts) (hAdamSmallRefIdeal : Cert.AdamSmallRefIdeal.Facts) (hPre_mixer_rows_finite : Cert.Pre_mixer_rows_finite.Facts) (hPre_ffn_out_finite : Cert.Pre_ffn_out_finite.Facts) (hPre_ln_ffn_finite : Cert.Pre_ln_ffn_finite.Facts) (hPre_ln_in_finite : Cert.Pre_ln_in_finite.Facts),
    quiescent_GateBwd (hGateBwd := hGateBwd)
    ∧ quiescent_GateBwdIdeal (hGateBwdIdeal := hGateBwdIdeal)
    ∧ quiescent_GateBwdRefIdeal (hGateBwdRefIdeal := hGateBwdRefIdeal)
    ∧ quiescent_MixerRowsBwd (hMixerRowsBwd := hMixerRowsBwd)
    ∧ quiescent_MixerRowsBwdIdeal (hMixerRowsBwdIdeal := hMixerRowsBwdIdeal)
    ∧ quiescent_MixerRowsBwdIdeal_pre_mixer_rows_finite (hMixerRowsBwdIdeal := hMixerRowsBwdIdeal) (hPre_mixer_rows_finite := hPre_mixer_rows_finite)
    ∧ quiescent_MixerRowsBwdRefIdeal (hMixerRowsBwdRefIdeal := hMixerRowsBwdRefIdeal)
    ∧ quiescent_MixerRowsBwdRefIdeal_pre_mixer_rows_finite (hMixerRowsBwdRefIdeal := hMixerRowsBwdRefIdeal) (hPre_mixer_rows_finite := hPre_mixer_rows_finite)
    ∧ quiescent_ShortConvBwd (hShortConvBwd := hShortConvBwd)
    ∧ quiescent_ShortConvBwdIdeal (hShortConvBwdIdeal := hShortConvBwdIdeal)
    ∧ quiescent_ShortConvBwdRefIdeal (hShortConvBwdRefIdeal := hShortConvBwdRefIdeal)
    ∧ quiescent_ConformerConvBwd (hConformerConvBwd := hConformerConvBwd)
    ∧ quiescent_ConformerConvBwdIdeal (hConformerConvBwdIdeal := hConformerConvBwdIdeal)
    ∧ quiescent_ConformerConvBwdRefIdeal (hConformerConvBwdRefIdeal := hConformerConvBwdRefIdeal)
    ∧ quiescent_FfnOutBwd (hFfnOutBwd := hFfnOutBwd)
    ∧ quiescent_FfnOutBwdIdeal (hFfnOutBwdIdeal := hFfnOutBwdIdeal)
    ∧ quiescent_FfnOutBwdIdeal_pre_ffn_out_finite (hFfnOutBwdIdeal := hFfnOutBwdIdeal) (hPre_ffn_out_finite := hPre_ffn_out_finite)
    ∧ quiescent_FfnOutBwdRefIdeal (hFfnOutBwdRefIdeal := hFfnOutBwdRefIdeal)
    ∧ quiescent_FfnOutBwdRefIdeal_pre_ffn_out_finite (hFfnOutBwdRefIdeal := hFfnOutBwdRefIdeal) (hPre_ffn_out_finite := hPre_ffn_out_finite)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_LnFfnBwd (hLnFfnBwd := hLnFfnBwd)
    ∧ quiescent_LnFfnBwdIdeal (hLnFfnBwdIdeal := hLnFfnBwdIdeal)
    ∧ quiescent_LnFfnBwdIdeal_pre_ln_ffn_finite (hLnFfnBwdIdeal := hLnFfnBwdIdeal) (hPre_ln_ffn_finite := hPre_ln_ffn_finite)
    ∧ quiescent_LnFfnBwdRefIdeal (hLnFfnBwdRefIdeal := hLnFfnBwdRefIdeal)
    ∧ quiescent_LnFfnBwdRefIdeal_pre_ln_ffn_finite (hLnFfnBwdRefIdeal := hLnFfnBwdRefIdeal) (hPre_ln_ffn_finite := hPre_ln_ffn_finite)
    ∧ quiescent_LnInBwd (hLnInBwd := hLnInBwd)
    ∧ quiescent_LnInBwdIdeal (hLnInBwdIdeal := hLnInBwdIdeal)
    ∧ quiescent_LnInBwdIdeal_pre_ln_in_finite (hLnInBwdIdeal := hLnInBwdIdeal) (hPre_ln_in_finite := hPre_ln_in_finite)
    ∧ quiescent_LnInBwdRefIdeal (hLnInBwdRefIdeal := hLnInBwdRefIdeal)
    ∧ quiescent_LnInBwdRefIdeal_pre_ln_in_finite (hLnInBwdRefIdeal := hLnInBwdRefIdeal) (hPre_ln_in_finite := hPre_ln_in_finite)
    ∧ quiescent_LnInFwd (hLnInFwd := hLnInFwd)
    ∧ quiescent_LnInFwdIdeal (hLnInFwdIdeal := hLnInFwdIdeal)
    ∧ quiescent_LnInFwdRefIdeal (hLnInFwdRefIdeal := hLnInFwdRefIdeal)
    ∧ quiescent_ConformerConvFwd (hConformerConvFwd := hConformerConvFwd)
    ∧ quiescent_ConformerConvFwdIdeal (hConformerConvFwdIdeal := hConformerConvFwdIdeal)
    ∧ quiescent_ConformerConvFwdRefIdeal (hConformerConvFwdRefIdeal := hConformerConvFwdRefIdeal)
    ∧ quiescent_MmOutLn (hMmOutLn := hMmOutLn)
    ∧ quiescent_MmOutLnIdeal (hMmOutLnIdeal := hMmOutLnIdeal)
    ∧ quiescent_MmOutLnRefIdeal (hMmOutLnRefIdeal := hMmOutLnRefIdeal)
    ∧ quiescent_FfnInSwiglu (hFfnInSwiglu := hFfnInSwiglu)
    ∧ quiescent_FfnInSwigluIdeal (hFfnInSwigluIdeal := hFfnInSwigluIdeal)
    ∧ quiescent_FfnInSwigluRefIdeal (hFfnInSwigluRefIdeal := hFfnInSwigluRefIdeal)
    ∧ quiescent_FfnOutLn (hFfnOutLn := hFfnOutLn)
    ∧ quiescent_FfnOutLnIdeal (hFfnOutLnIdeal := hFfnOutLnIdeal)
    ∧ quiescent_FfnOutLnRefIdeal (hFfnOutLnRefIdeal := hFfnOutLnRefIdeal)
    ∧ quiescent_BranchMerge (hBranchMerge := hBranchMerge)
    ∧ quiescent_BranchMergeIdeal (hBranchMergeIdeal := hBranchMergeIdeal)
    ∧ quiescent_BranchMergeRefIdeal (hBranchMergeRefIdeal := hBranchMergeRefIdeal)
    ∧ quiescent_MixerRowsFwd (hMixerRowsFwd := hMixerRowsFwd)
    ∧ quiescent_MixerRowsFwdIdeal (hMixerRowsFwdIdeal := hMixerRowsFwdIdeal)
    ∧ quiescent_MixerRowsFwdRefIdeal (hMixerRowsFwdRefIdeal := hMixerRowsFwdRefIdeal)
    ∧ quiescent_ShortConvFwd (hShortConvFwd := hShortConvFwd)
    ∧ quiescent_ShortConvFwdIdeal (hShortConvFwdIdeal := hShortConvFwdIdeal)
    ∧ quiescent_ShortConvFwdRefIdeal (hShortConvFwdRefIdeal := hShortConvFwdRefIdeal)
    ∧ quiescent_MmIn (hMmIn := hMmIn)
    ∧ quiescent_MmInIdeal (hMmInIdeal := hMmInIdeal)
    ∧ quiescent_MmInRefIdeal (hMmInRefIdeal := hMmInRefIdeal)
    ∧ quiescent_MmOutDgrad (hMmOutDgrad := hMmOutDgrad)
    ∧ quiescent_MmOutDgradIdeal (hMmOutDgradIdeal := hMmOutDgradIdeal)
    ∧ quiescent_MmOutDgradRefIdeal (hMmOutDgradRefIdeal := hMmOutDgradRefIdeal)
    ∧ quiescent_FfnOutWgrad (hFfnOutWgrad := hFfnOutWgrad)
    ∧ quiescent_FfnOutWgradIdeal (hFfnOutWgradIdeal := hFfnOutWgradIdeal)
    ∧ quiescent_FfnOutWgradRefIdeal (hFfnOutWgradRefIdeal := hFfnOutWgradRefIdeal)
    ∧ quiescent_BranchDgrad (hBranchDgrad := hBranchDgrad)
    ∧ quiescent_BranchDgradIdeal (hBranchDgradIdeal := hBranchDgradIdeal)
    ∧ quiescent_BranchDgradRefIdeal (hBranchDgradRefIdeal := hBranchDgradRefIdeal)
    ∧ quiescent_BranchWgrad (hBranchWgrad := hBranchWgrad)
    ∧ quiescent_BranchWgradIdeal (hBranchWgradIdeal := hBranchWgradIdeal)
    ∧ quiescent_BranchWgradRefIdeal (hBranchWgradRefIdeal := hBranchWgradRefIdeal)
    ∧ quiescent_MmInWgrad (hMmInWgrad := hMmInWgrad)
    ∧ quiescent_MmInWgradIdeal (hMmInWgradIdeal := hMmInWgradIdeal)
    ∧ quiescent_MmInWgradRefIdeal (hMmInWgradRefIdeal := hMmInWgradRefIdeal)
    ∧ quiescent_MmInDgrad (hMmInDgrad := hMmInDgrad)
    ∧ quiescent_MmInDgradIdeal (hMmInDgradIdeal := hMmInDgradIdeal)
    ∧ quiescent_MmInDgradRefIdeal (hMmInDgradRefIdeal := hMmInDgradRefIdeal)
    ∧ quiescent_SumDevices (hSumDevices := hSumDevices)
    ∧ quiescent_SumDevicesIdeal (hSumDevicesIdeal := hSumDevicesIdeal)
    ∧ quiescent_SumDevicesRefIdeal (hSumDevicesRefIdeal := hSumDevicesRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_GateBwd_GateBwdIdeal
    ∧ algebraic_GateBwdIdeal_GateBwdRefIdeal (hGateBwdIdeal := hGateBwdIdeal) (hGateBwdRefIdeal := hGateBwdRefIdeal)
    ∧ preserves_MixerRowsBwd_MixerRowsBwdIdeal
    ∧ algebraic_MixerRowsBwdIdeal_MixerRowsBwdRefIdeal_pre_mixer_rows_finite (hMixerRowsBwdIdeal := hMixerRowsBwdIdeal) (hMixerRowsBwdRefIdeal := hMixerRowsBwdRefIdeal) (hPre_mixer_rows_finite := hPre_mixer_rows_finite)
    ∧ preserves_ShortConvBwd_ShortConvBwdIdeal
    ∧ algebraic_ShortConvBwdIdeal_ShortConvBwdRefIdeal (hShortConvBwdIdeal := hShortConvBwdIdeal) (hShortConvBwdRefIdeal := hShortConvBwdRefIdeal)
    ∧ preserves_ConformerConvBwd_ConformerConvBwdIdeal
    ∧ algebraic_ConformerConvBwdIdeal_ConformerConvBwdRefIdeal (hConformerConvBwdIdeal := hConformerConvBwdIdeal) (hConformerConvBwdRefIdeal := hConformerConvBwdRefIdeal)
    ∧ preserves_FfnOutBwd_FfnOutBwdIdeal
    ∧ algebraic_FfnOutBwdIdeal_FfnOutBwdRefIdeal_pre_ffn_out_finite (hFfnOutBwdIdeal := hFfnOutBwdIdeal) (hFfnOutBwdRefIdeal := hFfnOutBwdRefIdeal) (hPre_ffn_out_finite := hPre_ffn_out_finite)
    ∧ preserves_LossHead_LossHeadIdeal
    ∧ algebraic_LossHeadIdeal_LossHeadRefIdeal (hLossHeadIdeal := hLossHeadIdeal) (hLossHeadRefIdeal := hLossHeadRefIdeal)
    ∧ preserves_LnFfnBwd_LnFfnBwdIdeal
    ∧ algebraic_LnFfnBwdIdeal_LnFfnBwdRefIdeal_pre_ln_ffn_finite (hLnFfnBwdIdeal := hLnFfnBwdIdeal) (hLnFfnBwdRefIdeal := hLnFfnBwdRefIdeal) (hPre_ln_ffn_finite := hPre_ln_ffn_finite)
    ∧ preserves_LnInBwd_LnInBwdIdeal
    ∧ algebraic_LnInBwdIdeal_LnInBwdRefIdeal_pre_ln_in_finite (hLnInBwdIdeal := hLnInBwdIdeal) (hLnInBwdRefIdeal := hLnInBwdRefIdeal) (hPre_ln_in_finite := hPre_ln_in_finite)
    ∧ preserves_LnInFwd_LnInFwdIdeal
    ∧ algebraic_LnInFwdIdeal_LnInFwdRefIdeal (hLnInFwdIdeal := hLnInFwdIdeal) (hLnInFwdRefIdeal := hLnInFwdRefIdeal)
    ∧ preserves_ConformerConvFwd_ConformerConvFwdIdeal
    ∧ algebraic_ConformerConvFwdIdeal_ConformerConvFwdRefIdeal (hConformerConvFwdIdeal := hConformerConvFwdIdeal) (hConformerConvFwdRefIdeal := hConformerConvFwdRefIdeal)
    ∧ preserves_MmOutLn_MmOutLnIdeal
    ∧ algebraic_MmOutLnIdeal_MmOutLnRefIdeal (hMmOutLnIdeal := hMmOutLnIdeal) (hMmOutLnRefIdeal := hMmOutLnRefIdeal)
    ∧ preserves_FfnInSwiglu_FfnInSwigluIdeal
    ∧ algebraic_FfnInSwigluIdeal_FfnInSwigluRefIdeal (hFfnInSwigluIdeal := hFfnInSwigluIdeal) (hFfnInSwigluRefIdeal := hFfnInSwigluRefIdeal)
    ∧ preserves_FfnOutLn_FfnOutLnIdeal
    ∧ algebraic_FfnOutLnIdeal_FfnOutLnRefIdeal (hFfnOutLnIdeal := hFfnOutLnIdeal) (hFfnOutLnRefIdeal := hFfnOutLnRefIdeal)
    ∧ preserves_BranchMerge_BranchMergeIdeal
    ∧ algebraic_BranchMergeIdeal_BranchMergeRefIdeal (hBranchMergeIdeal := hBranchMergeIdeal) (hBranchMergeRefIdeal := hBranchMergeRefIdeal)
    ∧ preserves_MixerRowsFwd_MixerRowsFwdIdeal
    ∧ algebraic_MixerRowsFwdIdeal_MixerRowsFwdRefIdeal (hMixerRowsFwdIdeal := hMixerRowsFwdIdeal) (hMixerRowsFwdRefIdeal := hMixerRowsFwdRefIdeal)
    ∧ preserves_ShortConvFwd_ShortConvFwdIdeal
    ∧ algebraic_ShortConvFwdIdeal_ShortConvFwdRefIdeal (hShortConvFwdIdeal := hShortConvFwdIdeal) (hShortConvFwdRefIdeal := hShortConvFwdRefIdeal)
    ∧ preserves_MmIn_MmInIdeal
    ∧ algebraic_MmInIdeal_MmInRefIdeal (hMmInIdeal := hMmInIdeal) (hMmInRefIdeal := hMmInRefIdeal)
    ∧ preserves_MmOutDgrad_MmOutDgradIdeal
    ∧ algebraic_MmOutDgradIdeal_MmOutDgradRefIdeal (hMmOutDgradIdeal := hMmOutDgradIdeal) (hMmOutDgradRefIdeal := hMmOutDgradRefIdeal)
    ∧ preserves_FfnOutWgrad_FfnOutWgradIdeal
    ∧ algebraic_FfnOutWgradIdeal_FfnOutWgradRefIdeal (hFfnOutWgradIdeal := hFfnOutWgradIdeal) (hFfnOutWgradRefIdeal := hFfnOutWgradRefIdeal)
    ∧ preserves_BranchDgrad_BranchDgradIdeal
    ∧ algebraic_BranchDgradIdeal_BranchDgradRefIdeal (hBranchDgradIdeal := hBranchDgradIdeal) (hBranchDgradRefIdeal := hBranchDgradRefIdeal)
    ∧ preserves_BranchWgrad_BranchWgradIdeal
    ∧ algebraic_BranchWgradIdeal_BranchWgradRefIdeal (hBranchWgradIdeal := hBranchWgradIdeal) (hBranchWgradRefIdeal := hBranchWgradRefIdeal)
    ∧ preserves_MmInWgrad_MmInWgradIdeal
    ∧ algebraic_MmInWgradIdeal_MmInWgradRefIdeal (hMmInWgradIdeal := hMmInWgradIdeal) (hMmInWgradRefIdeal := hMmInWgradRefIdeal)
    ∧ preserves_MmInDgrad_MmInDgradIdeal
    ∧ algebraic_MmInDgradIdeal_MmInDgradRefIdeal (hMmInDgradIdeal := hMmInDgradIdeal) (hMmInDgradRefIdeal := hMmInDgradRefIdeal)
    ∧ preserves_SumDevices_SumDevicesIdeal
    ∧ algebraic_SumDevicesIdeal_SumDevicesRefIdeal (hSumDevicesIdeal := hSumDevicesIdeal) (hSumDevicesRefIdeal := hSumDevicesRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Pre_ffn_out_finite.lean ====
abbrev S4096x2048 : Shape := ⟨2, ![4096, 2048]⟩
abbrev S2048x11264 : Shape := ⟨2, ![2048, 11264]⟩
abbrev S5632x2048 : Shape := ⟨2, ![5632, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x11264 : S_.BroadcastsInDim S2048x11264 (![] : Fin 0 → Fin S2048x11264.rank)
  reducesTo_S2048x11264_S_d0_1 : S2048x11264.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S4096x2048 .f32) (main_arg1 : FVec F S2048x11264 .f32) (main_arg2 : FVec F S5632x2048 .f32) (main_arg3 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x11264 .f32 := Host.absf main_arg1
  let main_cst_0 : FVec F S_ .f32 := constant S_ .f32 0x7F800000#32
  let main_v5 : FVec F S2048x11264 .f32 := broadcastInDim S2048x11264 ![] bcast_S_S2048x11264 main_cst_0
  let main_v6 : IVec S2048x11264 1 := cmpf .olt main_v4 main_v5
  let main_c_1 : IVec S_ 1 := constantI S_ 1 1#1
  let main_v7 : IVec S_ 1 := (fun x v => Host.reduce IntOp.andi x v reducesTo_S2048x11264_S_d0_1 h_S_) main_v6 main_c_1
  let main_v8 : FVec F S5632x2048 .f32 := Host.absf main_arg2
  let main_cst_2 : FVec F S_ .f32 := constant S_ .f32 0x7F800000#32
  let main_v9 : FVec F S5632x2048 .f32 := broadcastInDim S5632x2048 ![] bcast_S_S5632x2048 main_cst_2
  let main_v10 : IVec S5632x2048 1 := cmpf .olt main_v8 main_v9
  let main_c_3 : IVec S_ 1 := constantI S_ 1 1#1
  let main_v11 : IVec S_ 1 := (fun x v => Host.reduce IntOp.andi x v reducesTo_S5632x2048_S_d0_1 h_S_) main_v10 main_c_3
  let main_v12 : FVec F S4096x2048 .f32 := Host.absf main_arg3
  let main_cst_4 : FVec F S_ .f32 := constant S_ .f32 0x7F800000#32
  let main_v13 : FVec F S4096x2048 .f32 := broadcastInDim S4096x2048 ![] bcast_S_S4096x2048 main_cst_4
  let main_v14 : IVec S4096x2048 1 := cmpf .olt main_v12 main_v13
  let main_c_5 : IVec S_ 1 := constantI S_ 1 1#1
  let main_v15 : IVec S_ 1 := (fun x v => Host.reduce IntOp.andi x v reducesTo_S4096x2048_S_d0_1 h_S_) main_v14 main_c_5
  fn_part1 (F := F) main_v3 main_v7 main_v11 main_v15
-- ==== Pre_ln_ffn_finite.lean ====
abbrev S4096x2048 : Shape := ⟨2, ![4096, 2048]⟩
abbrev S4x2048 : Shape := ⟨2, ![4, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4x2048 : S_.BroadcastsInDim S4x2048 (![] : Fin 0 → Fin S4x2048.rank)
  reducesTo_S4x2048_S_d0_1 : S4x2048.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S4096x2048 .f32) (main_arg1 : FVec F S4096x2048 .f32) (main_arg2 : FVec F S4x2048 .f32) (main_arg3 : FVec F S4x2048 .f32) (main_arg4 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : FVec F S4x2048 .f32 := Host.absf main_arg2
  let main_cst_2 : FVec F S_ .f32 := constant S_ .f32 0x7F800000#32
  let main_v9 : FVec F S4x2048 .f32 := broadcastInDim S4x2048 ![] bcast_S_S4x2048 main_cst_2
  let main_v10 : IVec S4x2048 1 := cmpf .olt main_v8 main_v9
  let main_c_3 : IVec S_ 1 := constantI S_ 1 1#1
  let main_v11 : IVec S_ 1 := (fun x v => Host.reduce IntOp.andi x v reducesTo_S4x2048_S_d0_1 h_S_) main_v10 main_c_3
  let main_v12 : FVec F S4096x2048 .f32 := Host.absf main_arg4
  let main_cst_4 : FVec F S_ .f32 := constant S_ .f32 0x7F800000#32
  let main_v13 : FVec F S4096x2048 .f32 := broadcastInDim S4096x2048 ![] bcast_S_S4096x2048 main_cst_4
  let main_v14 : IVec S4096x2048 1 := cmpf .olt main_v12 main_v13
  let main_c_5 : IVec S_ 1 := constantI S_ 1 1#1
  let main_v15 : IVec S_ 1 := (fun x v => Host.reduce IntOp.andi x v reducesTo_S4096x2048_S_d0_1 h_S_) main_v14 main_c_5
  fn_part1 (F := F) main_v3 main_v7 main_v11 main_v15
-- ==== Pre_ln_in_finite.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4096x2048 .f32) (main_arg1 : FVec F S2048 .f32) (main_arg2 : FVec F S2048 .f32) (main_arg3 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : FVec F S4096x2048 .f32 := Host.absf main_arg3
  let main_cst_2 : FVec F S_ .f32 := constant S_ .f32 0x7F800000#32
  let main_v9 : FVec F S4096x2048 .f32 := broadcastInDim S4096x2048 ![] bcast_S_S4096x2048 main_cst_2
  let main_v10 : IVec S4096x2048 1 := cmpf .olt main_v8 main_v9
  let main_c_3 : IVec S_ 1 := constantI S_ 1 1#1
  let main_v11 : IVec S_ 1 := (fun x v => Host.reduce IntOp.andi x v reducesTo_S4096x2048_S_d0_1 h_S_) main_v10 main_c_3
  let main_v12 : IVec S_ 1 := andi main_v3 main_v7
  let main_v13 : IVec S_ 1 := andi main_v12 main_v11
  main_v13
-- ==== Pre_mixer_rows_finite.lean ====
abbrev S3x4096x1024 : Shape := ⟨3, ![3, 4096, 1024]⟩
abbrev S4096x13312 : Shape := ⟨2, ![4096, 13312]⟩
abbrev S4096x1024 : Shape := ⟨2, ![4096, 1024]⟩
abbrev S4x1024 : Shape := ⟨2, ![4, 1024]⟩
abbrev S4x8x128x128 : Shape := ⟨4, ![4, 8, 128, 128]⟩
abbrev S4x8x128 : Shape := ⟨3, ![4, 8, 128]⟩
abbrev S_ : Shape := ⟨0, ![]⟩

class Facts : Prop where
  bcast_S_S3x4096x1024 : S_.BroadcastsInDim S3x4096x1024 (![] : Fin 0 → Fin S3x4096x1024.rank)
  reducesTo_S3x4096x1024_S_d0_1_2 : S3x4096x1024.ReducesTo [0, 1, 2] S_
  h_S_ : 0 < S_.numel
  bcast_S_S4096x13312 : S_.BroadcastsInDim S4096x13312 (![] : Fin 0 → Fin S4096x13312.rank)
  reducesTo_S4096x13312_S_d0_1 : S4096x13312.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4x1024 : S_.BroadcastsInDim S4x1024 (![] : Fin 0 → Fin S4x1024.rank)
  reducesTo_S4x1024_S_d0_1 : S4x1024.ReducesTo [0, 1] S_
  bcast_S_S4x8x128x128 : S_.BroadcastsInDim S4x8x128x128 (![] : Fin 0 → Fin S4x8x128x128.rank)
  reducesTo_S4x8x128x128_S_d0_1_2_3 : S4x8x128x128.ReducesTo [0, 1, 2, 3] S_

variable [Facts]

def fn_part1 {F : FTy → Type} [FloatOps F] (main_arg5 : FVec F S4x8x128x128 .f32) (main_arg7 : FVec F S4x1024 .f32) (main_arg8 : FVec F S4x1024 .f32) (main_v3 : IVec S_ 1) (main_v7 : IVec S_ 1) (main_v11 : IVec S_ 1) (main_v15 : IVec S_ 1) : IVec S_ 1 :=
  let main_v16 : FVec F S4x8x128x128 .f32 := Host.absf main_arg5
  let main_cst_6 : FVec F S_ .f32 := constant S_ .f32 0x7F800000#32
  let main_v17 : FVec F S4x8x128x128 .f32 := broadcastInDim S4x8x128x128 ![] bcast_S_S4x8x128x128 main_cst_6
  let main_v18 : IVec S4x8x128x128 1 := cmpf .olt main_v16 main_v17
  let main_c_7 : IVec S_ 1 := constantI S_ 1 1#1
  let main_v19 : IVec S_ 1 := (fun x v => Host.reduce IntOp.andi x v reducesTo_S4x8x128x128_S_d0_1_2_3 h_S_) main_v18 main_c_7
  let main_v20 : FVec F S4x1024 .f32 := Host.absf main_arg7
  let main_cst_8 : FVec F S_ .f32 := constant S_ .f32 0x7F800000#32
  let main_v21 : FVec F S4x1024 .f32 := broadcastInDim S4x1024 ![] bcast_S_S4x1024 main_cst_8
  let main_v22 : IVec S4x1024 1 := cmpf .olt main_v20 main_v21
  let main_c_9 : IVec S_ 1 := constantI S_ 1 1#1
  let main_v23 : IVec S_ 1 := (fun x v => Host.reduce IntOp.andi x v reducesTo_S4x1024_S_d0_1 h_S_) main_v22 main_c_9
  let main_v24 : FVec F S4x1024 .f32 := Host.absf main_arg8
  let main_cst_10 : FVec F S_ .f32 := constant S_ .f32 0x7F800000#32
  let main_v25 : FVec F S4x1024 .f32 := broadcastInDim S4x1024 ![] bcast_S_S4x1024 main_cst_10
  let main_v26 : IVec S4x1024 1 := cmpf .olt main_v24 main_v25
  let main_c_11 : IVec S_ 1 := constantI S_ 1 1#1
  let main_v27 : IVec S_ 1 := (fun x v => Host.reduce IntOp.andi x v reducesTo_S4x1024_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S3x4096x1024 .f32) (main_arg1 : FVec F S4096x13312 .f32) (main_arg2 : FVec F S4096x1024 .f32) (main_arg3 : FVec F S4x1024 .f32) (main_arg4 : FVec F S4x1024 .f32) (main_arg5 : FVec F S4x8x128x128 .f32) (main_arg6 : FVec F S4x8x128 .f32) (main_arg7 : FVec F S4x1024 .f32) (main_arg8 : FVec F S4x1024 .f32) : IVec S_ 1 :=
  let main_v0 : FVec F S3x4096x1024 .f32 := Host.absf main_arg0
  let main_cst : FVec F S_ .f32 := constant S_ .f32 0x7F800000#32
  let main_v1 : FVec F S3x4096x1024 .f32 := broadcastInDim S3x4096x1024 ![] bcast_S_S3x4096x1024 main_cst
  let main_v2 : IVec S3x4096x1024 1 := cmpf .olt main_v0 main_v1
  let main_c : IVec S_ 1 := constantI S_ 1 1#1
  let main_v3 : IVec S_ 1 := (fun x v => Host.reduce IntOp.andi x v reducesTo_S3x4096x1024_S_d0_1_2 h_S_) main_v2 main_c
  let main_v4 : FVec F S4096x13312 .f32 := Host.absf main_arg1
  let main_cst_0 : FVec F S_ .f32 := constant S_ .f32 0x7F800000#32
  let main_v5 : FVec F S4096x13312 .f32 := broadcastInDim S4096x13312 ![] bcast_S_S4096x13312 main_cst_0
  let main_v6 : IVec S4096x13312 1 := cmpf .olt main_v4 main_v5
  let main_c_1 : IVec S_ 1 := constantI S_ 1 1#1
  let main_v7 : IVec S_ 1 := (fun x v => Host.reduce IntOp.andi x v reducesTo_S4096x13312_S_d0_1 h_S_) main_v6 main_c_1
  let main_v8 : FVec F S4096x1024 .f32 := Host.absf main_arg2
  let main_cst_2 : FVec F S_ .f32 := constant S_ .f32 0x7F800000#32
  let main_v9 : FVec F S4096x1024 .f32 := broadcastInDim S4096x1024 ![] bcast_S_S4096x1024 main_cst_2
  let main_v10 : IVec S4096x1024 1 := cmpf .olt main_v8 main_v9
  let main_c_3 : IVec S_ 1 := constantI S_ 1 1#1
  let main_v11 : IVec S_ 1 := (fun x v => Host.reduce IntOp.andi x v reducesTo_S4096x1024_S_d0_1 h_S_) main_v10 main_c_3
  let main_v12 : FVec F S4x1024 .f32 := Host.absf main_arg3
  let main_cst_4 : FVec F S_ .f32 := constant S_ .f32 0x7F800000#32
  let main_v13 : FVec F S4x1024 .f32 := broadcastInDim S4x1024 ![] bcast_S_S4x1024 main_cst_4
  let main_v14 : IVec S4x1024 1 := cmpf .olt main_v12 main_v13
  let main_c_5 : IVec S_ 1 := constantI S_ 1 1#1
  let main_v15 : IVec S_ 1 := (fun x v => Host.reduce IntOp.andi x v reducesTo_S4x1024_S_d0_1 h_S_) main_v14 main_c_5
  fn_part1 (F := F) main_arg5 main_arg7 main_arg8 main_v3 main_v7 main_v11 main_v15
-- ==== GateBwd.lean ====
abbrev S4096x3x1024 : Shape := ⟨3, ![4096, 3, 1024]⟩
abbrev S3x1024x2048 : Shape := ⟨3, ![3, 1024, 2048]⟩
abbrev S4096x13312 : Shape := ⟨2, ![4096, 13312]⟩
abbrev S4x6144 : Shape := ⟨2, ![4, 6144]⟩
abbrev S4096x2048 : Shape := ⟨2, ![4096, 2048]⟩
abbrev S3x4096x2048 : Shape := ⟨3, ![3, 4096, 2048]⟩
abbrev S4x3x1x2048 : Shape := ⟨4, ![4, 3, 1, 2048]⟩
abbrev S3x1x2048 : Shape := ⟨3, ![3, 1, 2048]⟩
abbrev S512x512 : Shape := ⟨2, ![512, 512]⟩
abbrev S3x512x512 : Shape := ⟨3, ![3, 512, 512]⟩
abbrev S1x3x1x512 : Shape := ⟨4, ![1, 3, 1, 512]⟩
abbrev S3x1x512 : Shape := ⟨3, ![3, 1, 512]⟩
abbrev S1x1x1x512 : Shape := ⟨4, ![1, 1, 1, 512]⟩
abbrev S1x512 : Shape := ⟨2, ![1, 512]⟩
abbrev S1x512x512 : Shape := ⟨3, ![1, 512, 512]⟩
abbrev S1x1x512 : Shape := ⟨3, ![1, 1, 512]⟩
abbrev S512 : Shape := ⟨1, ![512]⟩

abbrev nBuf : Space → Nat
  | .hbm => 10
  | .vmem => 18
  | .smem => 0
  | _ => 0

abbrev bufTy : (tb : Table) → Fin (tcTables nBuf tb) → BufTy
  | .hbm, ⟨0, _⟩ => ⟨S4096x3x1024, .f32⟩
  | .hbm, ⟨1, _⟩ => ⟨S3x1024x2048, .f32⟩
  | .hbm, ⟨2, _⟩ => ⟨S4096x13312, .f32⟩
  | .hbm, ⟨3, _⟩ => ⟨S4x6144, .f32⟩
  | .hbm, ⟨4, _⟩ => ⟨S4096x2048, .f32⟩
  | .hbm, ⟨5, _⟩ => ⟨S3x4096x2048, .f32⟩
  | .hbm, ⟨6, _⟩ => ⟨S4x3x1x2048, .f32⟩
  | .hbm, ⟨7, _⟩ => ⟨S3x4096x2048, .bf16⟩
  | .hbm, ⟨8, _⟩ => ⟨S3x4096x2048, .bf16⟩
  | .hbm, ⟨9, _⟩ => ⟨S3x1x2048, .f32⟩
  | .local _ .vmem, ⟨0, _⟩ => ⟨S512x512, .f32⟩
  | .local _ .vmem, ⟨1, _⟩ => ⟨S512x512, .f32⟩
  | .local _ .vmem, ⟨2, _⟩ => ⟨S3x512x512, .f32⟩
  | .local _ .vmem, ⟨3, _⟩ => ⟨S3x512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x3x1x512, .f32⟩
  | .local _ .vmem, ⟨11, _⟩ => ⟨S1x3x1x512, .f32⟩
  | .local _ .vmem, ⟨12, _⟩ => ⟨S3x512x512, .bf16⟩
  | .local _ .vmem, ⟨13, _⟩ => ⟨S3x512x512, .bf16⟩
  | .local _ .vmem, ⟨14, _⟩ => ⟨S3x512x512, .bf16⟩
  | .local _ .vmem, ⟨15, _⟩ => ⟨S3x512x512, .bf16⟩
  | .local _ .vmem, ⟨16, _⟩ => ⟨S3x1x512, .f32⟩
  | .local _ .vmem, ⟨17, _⟩ => ⟨S3x1x512, .f32⟩
  | _, _ => ⟨S4096x3x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg0
  let c0_i32 : BitVec 32 := 0#32
  ![arg1.toNat, v0.toNat]

def cc0_transform_5 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S3x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== GateBwdRefIdeal.lean ====
abbrev S4096x3x1024 : Shape := ⟨3, ![4096, 3, 1024]⟩
abbrev S3x1024x2048 : Shape := ⟨3, ![3, 1024, 2048]⟩
abbrev S4096x13312 : Shape := ⟨2, ![4096, 13312]⟩
abbrev S4x6144 : Shape := ⟨2, ![4, 6144]⟩
abbrev S4096x2048 : Shape := ⟨2, ![4096, 2048]⟩
abbrev S3x2048x4096 : Shape := ⟨3, ![3, 2048, 4096]⟩
abbrev S4096x3x2048 : Shape := ⟨3, ![4096, 3, 2048]⟩
abbrev S4096x6144 : Shape := ⟨2, ![4096, 6144]⟩
abbrev S1x6144 : Shape := ⟨2, ![1, 6144]⟩
abbrev S6144 : Shape := ⟨1, ![6144]⟩
abbrev S_ : Shape := ⟨0, ![]⟩
abbrev S3x4096x2048 : Shape := ⟨3, ![3, 4096, 2048]⟩
abbrev S3x1x2048 : Shape := ⟨3, ![3, 1, 2048]⟩

abbrev nBuf : Space → Nat
  | .hbm => 45
  | .vmem => 0
  | .smem => 0
  | _ => 0

abbrev bufTy : (tb : Table) → Fin (tcTables nBuf tb) → BufTy
  | .hbm, ⟨0, _⟩ => ⟨S4096x3x1024, .f32⟩
  | .hbm, ⟨1, _⟩ => ⟨S3x1024x2048, .f32⟩
  | .hbm, ⟨2, _⟩ => ⟨S4096x13312, .f32⟩
  | .hbm, ⟨3, _⟩ => ⟨S4x6144, .f32⟩
  | .hbm, ⟨4, _⟩ => ⟨S4096x2048, .f32⟩
  | .hbm, ⟨5, _⟩ => ⟨S3x2048x4096, .f32⟩
  | .hbm, ⟨6, _⟩ => ⟨S4096x3x2048, .f32⟩
  | .hbm, ⟨7, _⟩ => ⟨S4096x6144, .f32⟩
  | .hbm, ⟨8, _⟩ => ⟨S1x6144, .f32⟩
  | .hbm, ⟨9, _⟩ => ⟨S6144, .f32⟩
  | .hbm, ⟨10, _⟩ => ⟨S1x6144, .f32⟩
  | .hbm, ⟨11, _⟩ => ⟨S4096x6144, .f32⟩
  | .hbm, ⟨12, _⟩ => ⟨S4096x6144, .f32⟩
  | .hbm, ⟨13, _⟩ => ⟨S4096x6144, .f32⟩
  | .hbm, ⟨14, _⟩ => ⟨S4096x6144, .f32⟩
  | .hbm, ⟨15, _⟩ => ⟨S_, .f32⟩
  | .hbm, ⟨16, _⟩ => ⟨S4096x6144, .f32⟩
  | .hbm, ⟨17, _⟩ => ⟨S4096x6144, .f32⟩
  | .hbm, ⟨18, _⟩ => ⟨S_, .f32⟩
  | .hbm, ⟨19, _⟩ => ⟨S4096x6144, .f32⟩
  | .hbm, ⟨20, _⟩ => ⟨S4096x6144, .f32⟩
  | .hbm, ⟨21, _⟩ => ⟨S_, .f32⟩
  | .hbm, ⟨22, _⟩ => ⟨S4096x6144, .f32⟩
  | .hbm, ⟨23, _⟩ => ⟨S4096x6144, .f32⟩
  | .hbm, ⟨24, _⟩ => ⟨S4096x6144, .f32⟩
  | .hbm, ⟨25, _⟩ => ⟨S4096x3x2048, .f32⟩
  | .hbm, ⟨26, _⟩ => ⟨S4096x3x2048, .f32⟩
  | .hbm, ⟨27, _⟩ => ⟨S_, .f32⟩
  | .hbm, ⟨28, _⟩ => ⟨S4096x2048, .f32⟩
  | .hbm, ⟨29, _⟩ => ⟨S4096x3x2048, .f32⟩
  | .hbm, ⟨30, _⟩ => ⟨S4096x3x2048, .f32⟩
  | .hbm, ⟨31, _⟩ => ⟨S4096x3x2048, .f32⟩
  | .hbm, ⟨32, _⟩ => ⟨S4096x6144, .f32⟩
  | .hbm, ⟨33, _⟩ => ⟨S4096x6144, .f32⟩
  | .hbm, ⟨34, _⟩ => ⟨S_, .f32⟩
  | .hbm, ⟨35, _⟩ => ⟨S6144, .f32⟩
  | .hbm, ⟨36, _⟩ => ⟨S1x6144, .f32⟩
  | .hbm, ⟨37, _⟩ => ⟨S_, .f32⟩
  | .hbm, ⟨38, _⟩ => ⟨S6144, .f32⟩
  | .hbm, ⟨39, _⟩ => ⟨S3x4096x2048, .f32⟩
  | .hbm, ⟨40, _⟩ => ⟨S3x4096x2048, .bf16⟩
  | .hbm, ⟨41, _⟩ => ⟨S4096x3x2048, .f32⟩
  | .hbm, ⟨42, _⟩ => ⟨S3x4096x2048, .f32⟩
  | .hbm, ⟨43, _⟩ => ⟨S3x4096x2048, .bf16⟩
  | .hbm, ⟨44, _⟩ => ⟨S3x1x2048, .f32⟩
  | _, _ => ⟨S4096x3x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== MixerRowsBwd.lean ====
abbrev S3x4096x1024 : Shape := ⟨3, ![3, 4096, 1024]⟩
abbrev S4096x13312 : Shape := ⟨2, ![4096, 13312]⟩
abbrev S4096x1024 : Shape := ⟨2, ![4096, 1024]⟩
abbrev S4x1024 : Shape := ⟨2, ![4, 1024]⟩
abbrev S4x8x128x128 : Shape := ⟨4, ![4, 8, 128, 128]⟩
abbrev S4x8x128 : Shape := ⟨3, ![4, 8, 128]⟩
abbrev S4x1x1024 : Shape := ⟨3, ![4, 1, 1024]⟩
abbrev S4x8x128x1 : Shape := ⟨4, ![4, 8, 128, 1]⟩
abbrev S2x4096x1024 : Shape := ⟨3, ![2, 4096, 1024]⟩
abbrev S1x1024 : Shape := ⟨2, ![1, 1024]⟩
abbrev S8x128x128 : Shape := ⟨3, ![8, 128, 128]⟩
abbrev S8x128x1 : Shape := ⟨3, ![8, 128, 1]⟩
abbrev S1x256x1024 : Shape := ⟨3, ![1, 256, 1024]⟩
abbrev S256x1024 : Shape := ⟨2, ![256, 1024]⟩
abbrev S1x1x1024 : Shape := ⟨3, ![1, 1, 1024]⟩
abbrev S1x8x128x128 : Shape := ⟨4, ![1, 8, 128, 128]⟩
abbrev S1x8x128x1 : Shape := ⟨4, ![1, 8, 128, 1]⟩
abbrev S2x256x1024 : Shape := ⟨3, ![2, 256, 1024]⟩
abbrev S256 : Shape := ⟨1, ![256]⟩
abbrev S256x1 : Shape := ⟨2, ![256, 1]⟩
abbrev S128x128 : Shape := ⟨2, ![128, 128]⟩
abbrev S1x1x128x128 : Shape := ⟨4, ![1, 1, 128, 128]⟩
abbrev S1x1x128x1 : Shape := ⟨4, ![1, 1, 128, 1]⟩
abbrev S128x1 : Shape := ⟨2, ![128, 1]⟩
abbrev S1x128x128 : Shape := ⟨3, ![1, 128, 128]⟩
abbrev S1024 : Shape := ⟨1, ![1024]⟩
abbrev S128 : Shape := ⟨1, ![128]⟩
abbrev S1x128x1 : Shape := ⟨3, ![1, 128, 1]⟩

abbrev nBuf : Space → Nat
  | .hbm => 22
  | .vmem => 28
  | .smem => 0
  | _ => 0

abbrev bufTy : (tb : Table) → Fin (tcTables nBuf tb) → BufTy
  | .hbm, ⟨0, _⟩ => ⟨S3x4096x1024, .f32⟩
  | .hbm, ⟨1, _⟩ => ⟨S4096x13312, .f32⟩
  | .hbm, ⟨2, _⟩ => ⟨S4096x1024, .f32⟩
  | .hbm, ⟨3, _⟩ => ⟨S4x1024, .f32⟩
  | .hbm, ⟨4, _⟩ => ⟨S4x1024, .f32⟩
  | .hbm, ⟨5, _⟩ => ⟨S4x8x128x128, .f32⟩
  | .hbm, ⟨6, _⟩ => ⟨S4x8x128, .f32⟩
  | .hbm, ⟨7, _⟩ => ⟨S4x1024, .f32⟩
  | .hbm, ⟨8, _⟩ => ⟨S4x1024, .f32⟩
  | .hbm, ⟨9, _⟩ => ⟨S4x1x1024, .f32⟩
  | .hbm, ⟨10, _⟩ => ⟨S4x1x1024, .f32⟩
  | .hbm, ⟨11, _⟩ => ⟨S4x8x128x1, .f32⟩
  | .hbm, ⟨12, _⟩ => ⟨S4x1x1024, .f32⟩
  | .hbm, ⟨13, _⟩ => ⟨S4x1x1024, .f32⟩
  | .hbm, ⟨14, _⟩ => ⟨S2x4096x1024, .bf16⟩
  | .hbm, ⟨15, _⟩ => ⟨S4096x1024, .f32⟩
  | .hbm, ⟨16, _⟩ => ⟨S1x1024, .f32⟩
  | .hbm, ⟨17, _⟩ => ⟨S1x1024, .f32⟩
  | .hbm, ⟨18, _⟩ => ⟨S8x128x128, .f32⟩
  | .hbm, ⟨19, _⟩ => ⟨S8x128x1, .f32⟩
  | .hbm, ⟨20, _⟩ => ⟨S1x1024, .f32⟩
  | .hbm, ⟨21, _⟩ => ⟨S1x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x8x128x128, .f32⟩
  | .local _ .vmem, ⟨13, _⟩ => ⟨S1x8x128x1, .f32⟩
  | .local _ .vmem, ⟨14, _⟩ => ⟨S1x1x1024, .f32⟩
  | .local _ .vmem, ⟨15, _⟩ => ⟨S1x1x1024, .f32⟩
  | .local _ .vmem, ⟨16, _⟩ => ⟨S2x256x1024, .bf16⟩
  | .local _ .vmem, ⟨17, _⟩ => ⟨S2x256x1024, .bf16⟩
  | .local _ .vmem, ⟨18, _⟩ => ⟨S256x1024, .f32⟩
  | .local _ .vmem, ⟨19, _⟩ => ⟨S256x1024, .f32⟩
  | .local _ .vmem, ⟨20, _⟩ => ⟨S1x1024, .f32⟩
  | .local _ .vmem, ⟨21, _⟩ => ⟨S1x1024, .f32⟩
  | .local _ .vmem, ⟨22, _⟩ => ⟨S8x128x128, .f32⟩
  | .local _ .vmem, ⟨23, _⟩ => ⟨S8x128x1, .f32⟩
  | .local _ .vmem, ⟨24, _⟩ => ⟨S1x1024, .f32⟩
  | .local _ .vmem, ⟨25, _⟩ => ⟨S1x1024, .f32⟩
  | .local _ .vmem, ⟨26, _⟩ => ⟨S256x1024, .f32⟩
  | .local _ .vmem, ⟨27, _⟩ => ⟨S8x128x128, .f32⟩
  | _, _ => ⟨S3x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_v5_5 : Ref sig .tc := ⟨.hbm, 19, rfl⟩
abbrev main_v5_6 : Ref sig .tc := ⟨.hbm, 20, rfl⟩
abbrev main_v5_7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v623 : BitVec 1 := Scalar.cmpi .eq arg0 c15_i32
  let v624 : BitVec 32 := Scalar.extui v623
  let c0_i32_435 : BitVec 32 := 0#32
  let v625 : BitVec 1 := Scalar.cmpi .ne v624 c0_i32_435
  v625

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_8 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8x128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x128x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== MixerRowsBwdRefIdeal.lean ====
abbrev S3x4096x1024 : Shape := ⟨3, ![3, 4096, 1024]⟩
abbrev S4096x13312 : Shape := ⟨2, ![4096, 13312]⟩
abbrev S4096x1024 : Shape := ⟨2, ![4096, 1024]⟩
abbrev S4x1024 : Shape := ⟨2, ![4, 1024]⟩
abbrev S4x8x128x128 : Shape := ⟨4, ![4, 8, 128, 128]⟩
abbrev S4x8x128 : Shape := ⟨3, ![4, 8, 128]⟩
abbrev S1x1024 : Shape := ⟨2, ![1, 1024]⟩
abbrev S1024 : Shape := ⟨1, ![1024]⟩
abbrev S1x8x128x128 : Shape := ⟨4, ![1, 8, 128, 128]⟩
abbrev S8x128x128 : Shape := ⟨3, ![8, 128, 128]⟩
abbrev S1x8x128 : Shape := ⟨3, ![1, 8, 128]⟩
abbrev S8x128 : Shape := ⟨2, ![8, 128]⟩
abbrev S_ : Shape := ⟨0, ![]⟩
abbrev S4096 : Shape := ⟨1, ![4096]⟩
abbrev S4096x1 : Shape := ⟨2, ![4096, 1]⟩
abbrev S32x128x8x128 : Shape := ⟨4, ![32, 128, 8, 128]⟩
abbrev S8x32x128x128 : Shape := ⟨4, ![8, 32, 128, 128]⟩
abbrev S128x8 : Shape := ⟨2, ![128, 8]⟩
abbrev S128x8x1 : Shape := ⟨3, ![128, 8, 1]⟩
abbrev S1x128x8x1 : Shape := ⟨4, ![1, 128, 8, 1]⟩
abbrev S1x4096x1024 : Shape := ⟨3, ![1, 4096, 1024]⟩
abbrev S2x4096x1024 : Shape := ⟨3, ![2, 4096, 1024]⟩
abbrev S8x128x1 : Shape := ⟨3, ![8, 128, 1]⟩

abbrev nBuf : Space → Nat
  | .hbm => 251
  | .vmem => 0
  | .smem => 0
  | _ => 0

abbrev hbmTy0_0 (i : Nat) : BufTy := match i % 128 with
  | 0 => ⟨S3x4096x1024, .f32⟩
  | 1 => ⟨S4096x13312, .f32⟩
  | 2 => ⟨S4096x1024, .f32⟩
  | 3 => ⟨S4x1024, .f32⟩
  | 4 => ⟨S4x1024, .f32⟩
  | 5 => ⟨S4x8x128x128, .f32⟩
  | 6 => ⟨S4x8x128, .f32⟩
  | 7 => ⟨S4x1024, .f32⟩
  | 8 => ⟨S4x1024, .f32⟩
  | 9 => ⟨S4096x1024, .f32⟩
  | 10 => ⟨S4096x1024, .f32⟩
  | 11 => ⟨S1x1024, .f32⟩
  | 12 => ⟨S1024, .f32⟩
  | 13 => ⟨S1x1024, .f32⟩
  | 14 => ⟨S1024, .f32⟩
  | 15 => ⟨S1x8x128x128, .f32⟩
  | 16 => ⟨S8x128x128, .f32⟩
  | 17 => ⟨S1x8x128, .f32⟩
  | 18 => ⟨S8x128, .f32⟩
  | 19 => ⟨S_, .f32⟩
  | 20 => ⟨S4096, .f32⟩
  | 21 => ⟨S4096x1, .f32⟩
  | 22 => ⟨S_, .f32⟩
  | 23 => ⟨S4096x1, .f32⟩
  | 24 => ⟨S4096x1, .f32⟩
  | 25 => ⟨S4096x1024, .f32⟩
  | 26 => ⟨S4096x1024, .f32⟩
  | 27 => ⟨S4096x1024, .f32⟩
  | 28 => ⟨S_, .f32⟩
  | 29 => ⟨S4096x1024, .f32⟩
  | 30 => ⟨S4096x1024, .f32⟩
  | 31 => ⟨S_, .f32⟩
  | 32 => ⟨S4096, .f32⟩
  | 33 => ⟨S4096x1, .f32⟩
  | 34 => ⟨S_, .f32⟩
  | 35 => ⟨S4096x1, .f32⟩
  | 36 => ⟨S4096x1, .f32⟩
  | 37 => ⟨S4096x1024, .f32⟩
  | 38 => ⟨S4096x1024, .f32⟩
  | 39 => ⟨S_, .f32⟩
  | 40 => ⟨S4096x1, .f32⟩
  | 41 => ⟨S4096x1, .f32⟩
  | 42 => ⟨S4096x1, .f32⟩
  | 43 => ⟨S4096x1, .f32⟩
  | 44 => ⟨S_, .f32⟩
  | 45 => ⟨S4096x1, .f32⟩
  | 46 => ⟨S4096x1, .f32⟩
  | 47 => ⟨S4096x1024, .f32⟩
  | 48 => ⟨S4096x1024, .f32⟩
  | 49 => ⟨S1x1024, .f32⟩
  | 50 => ⟨S4096x1024, .f32⟩
  | 51 => ⟨S4096x1024, .f32⟩
  | 52 => ⟨S1x1024, .f32⟩
  | 53 => ⟨S4096x1024, .f32⟩
  | 54 => ⟨S4096x1024, .f32⟩
  | 55 => ⟨S32x128x8x128, .f32⟩
  | 56 => ⟨S8x128x128, .i32⟩
  | 57 => ⟨S8x128x128, .i32⟩
  | 58 => ⟨S8x128x128, .i1⟩
  | 59 => ⟨S_, .f32⟩
  | 60 => ⟨S8x128x128, .f32⟩
  | 61 => ⟨S8x128x128, .f32⟩
  | 62 => ⟨S_, .f32⟩
  | 63 => ⟨S8x128x128, .f32⟩
  | 64 => ⟨S8x32x128x128, .f32⟩
  | 65 => ⟨S32x128x8x128, .f32⟩
  | 66 => ⟨S128x8, .f32⟩
  | 67 => ⟨S128x8x1, .f32⟩
  | 68 => ⟨S1x128x8x1, .f32⟩
  | 69 => ⟨S32x128x8x128, .f32⟩
  | 70 => ⟨S32x128x8x128, .f32⟩
  | 71 => ⟨S4096x1024, .f32⟩
  | 72 => ⟨S4096x1024, .f32⟩
  | 73 => ⟨S1x4096x1024, .f32⟩
  | 74 => ⟨S4096x1024, .f32⟩
  | 75 => ⟨S4096x1024, .f32⟩
  | 76 => ⟨S4096x1024, .f32⟩
  | 77 => ⟨S32x128x8x128, .f32⟩
  | 78 => ⟨S_, .f32⟩
  | 79 => ⟨S128x8, .f32⟩
  | 80 => ⟨S1x128x8x1, .f32⟩
  | 81 => ⟨S_, .f32⟩
  | 82 => ⟨S128x8, .f32⟩
  | 83 => ⟨S128x8x1, .f32⟩
  | 84 => ⟨S_, .f32⟩
  | 85 => ⟨S128x8, .f32⟩
  | 86 => ⟨S8x128, .f32⟩
  | 87 => ⟨S8x32x128x128, .f32⟩
  | 88 => ⟨S8x128x128, .f32⟩
  | 89 => ⟨S8x32x128x128, .f32⟩
  | 90 => ⟨S32x128x8x128, .f32⟩
  | 91 => ⟨S_, .f32⟩
  | 92 => ⟨S8x128x128, .f32⟩
  | 93 => ⟨S8x128x128, .f32⟩
  | 94 => ⟨S4096x1024, .f32⟩
  | 95 => ⟨S_, .f32⟩
  | 96 => ⟨S1024, .f32⟩
  | 97 => ⟨S1x1024, .f32⟩
  | 98 => ⟨S_, .f32⟩
  | 99 => ⟨S1024, .f32⟩
  | 100 => ⟨S4096x1024, .f32⟩
  | 101 => ⟨S_, .f32⟩
  | 102 => ⟨S1024, .f32⟩
  | 103 => ⟨S1x1024, .f32⟩
  | 104 => ⟨S4096x1024, .f32⟩
  | 105 => ⟨S4096x1024, .f32⟩
  | 106 => ⟨S_, .f32⟩
  | 107 => ⟨S1024, .f32⟩
  | 108 => ⟨S4096x1024, .f32⟩
  | 109 => ⟨S_, .f32⟩
  | 110 => ⟨S4096, .f32⟩
  | 111 => ⟨S4096x1, .f32⟩
  | 112 => ⟨S4096x1024, .f32⟩
  | 113 => ⟨S4096x1024, .f32⟩
  | 114 => ⟨S4096x1, .f32⟩
  | 115 => ⟨S4096x1024, .f32⟩
  | 116 => ⟨S_, .f32⟩
  | 117 => ⟨S4096, .f32⟩
  | 118 => ⟨S4096x1, .f32⟩
  | 119 => ⟨S_, .f32⟩
  | 120 => ⟨S4096x1, .f32⟩
  | 121 => ⟨S4096x1, .f32⟩
  | 122 => ⟨S_, .f32⟩
  | 123 => ⟨S4096, .f32⟩
  | 124 => ⟨S4096x1024, .f32⟩
  | 125 => ⟨S4096x1024, .f32⟩
  | 126 => ⟨S4096x1024, .f32⟩
  | 127 => ⟨S_, .f32⟩
  | _ => ⟨S3x4096x1024, .f32⟩

abbrev hbmTy0_1 (i : Nat) : BufTy := match i % 128 with
  | 0 => ⟨S4096, .f32⟩
  | 1 => ⟨S4096x1, .f32⟩
  | 2 => ⟨S4096x1024, .f32⟩
  | 3 => ⟨S4096x1, .f32⟩
  | 4 => ⟨S_, .f32⟩
  | 5 => ⟨S4096x1, .f32⟩
  | 6 => ⟨S4096x1, .f32⟩
  | 7 => ⟨S_, .f32⟩
  | 8 => ⟨S4096, .f32⟩
  | 9 => ⟨S4096x1024, .f32⟩
  | 10 => ⟨S4096x1024, .f32⟩
  | 11 => ⟨S1x1024, .f32⟩
  | 12 => ⟨S1024, .f32⟩
  | 13 => ⟨S1x1024, .f32⟩
  | 14 => ⟨S1024, .f32⟩
  | 15 => ⟨S_, .f32⟩
  | 16 => ⟨S4096, .f32⟩
  | 17 => ⟨S4096x1, .f32⟩
  | 18 => ⟨S_, .f32⟩
  | 19 => ⟨S4096x1, .f32⟩
  | 20 => ⟨S4096x1, .f32⟩
  | 21 => ⟨S4096x1024, .f32⟩
  | 22 => ⟨S4096x1024, .f32⟩
  | 23 => ⟨S4096x1024, .f32⟩
  | 24 => ⟨S_, .f32⟩
  | 25 => ⟨S4096x1024, .f32⟩
  | 26 => ⟨S4096x1024, .f32⟩
  | 27 => ⟨S_, .f32⟩
  | 28 => ⟨S4096, .f32⟩
  | 29 => ⟨S4096x1, .f32⟩
  | 30 => ⟨S_, .f32⟩
  | 31 => ⟨S4096x1, .f32⟩
  | 32 => ⟨S4096x1, .f32⟩
  | 33 => ⟨S4096x1024, .f32⟩
  | 34 => ⟨S4096x1024, .f32⟩
  | 35 => ⟨S_, .f32⟩
  | 36 => ⟨S4096x1, .f32⟩
  | 37 => ⟨S4096x1, .f32⟩
  | 38 => ⟨S4096x1, .f32⟩
  | 39 => ⟨S4096x1, .f32⟩
  | 40 => ⟨S_, .f32⟩
  | 41 => ⟨S4096x1, .f32⟩
  | 42 => ⟨S4096x1, .f32⟩
  | 43 => ⟨S4096x1024, .f32⟩
  | 44 => ⟨S4096x1024, .f32⟩
  | 45 => ⟨S1x1024, .f32⟩
  | 46 => ⟨S4096x1024, .f32⟩
  | 47 => ⟨S4096x1024, .f32⟩
  | 48 => ⟨S1x1024, .f32⟩
  | 49 => ⟨S4096x1024, .f32⟩
  | 50 => ⟨S4096x1024, .f32⟩
  | 51 => ⟨S4096x1024, .f32⟩
  | 52 => ⟨S4096x1024, .f32⟩
  | 53 => ⟨S_, .f32⟩
  | 54 => ⟨S4096x1024, .f32⟩
  | 55 => ⟨S4096x1024, .f32⟩
  | 56 => ⟨S_, .f32⟩
  | 57 => ⟨S4096x1024, .f32⟩
  | 58 => ⟨S4096x1024, .f32⟩
  | 59 => ⟨S_, .f32⟩
  | 60 => ⟨S4096x1024, .f32⟩
  | 61 => ⟨S4096x1024, .f32⟩
  | 62 => ⟨S4096x1024, .f32⟩
  | 63 => ⟨S4096x1024, .f32⟩
  | 64 => ⟨S1x4096x1024, .f32⟩
  | 65 => ⟨S4096x1024, .f32⟩
  | 66 => ⟨S4096x1024, .f32⟩
  | 67 => ⟨S4096x1024, .f32⟩
  | 68 => ⟨S4096x1024, .f32⟩
  | 69 => ⟨S4096x1024, .f32⟩
  | 70 => ⟨S_, .f32⟩
  | 71 => ⟨S1024, .f32⟩
  | 72 => ⟨S1x1024, .f32⟩
  | 73 => ⟨S_, .f32⟩
  | 74 => ⟨S1024, .f32⟩
  | 75 => ⟨S4096x1024, .f32⟩
  | 76 => ⟨S_, .f32⟩
  | 77 => ⟨S1024, .f32⟩
  | 78 => ⟨S1x1024, .f32⟩
  | 79 => ⟨S4096x1024, .f32⟩
  | 80 => ⟨S4096x1024, .f32⟩
  | 81 => ⟨S_, .f32⟩
  | 82 => ⟨S1024, .f32⟩
  | 83 => ⟨S4096x1024, .f32⟩
  | 84 => ⟨S_, .f32⟩
  | 85 => ⟨S4096, .f32⟩
  | 86 => ⟨S4096x1, .f32⟩
  | 87 => ⟨S4096x1024, .f32⟩
  | 88 => ⟨S4096x1024, .f32⟩
  | 89 => ⟨S4096x1, .f32⟩
  | 90 => ⟨S4096x1024, .f32⟩
  | 91 => ⟨S_, .f32⟩
  | 92 => ⟨S4096, .f32⟩
  | 93 => ⟨S4096x1, .f32⟩
  | 94 => ⟨S_, .f32⟩
  | 95 => ⟨S4096x1, .f32⟩
  | 96 => ⟨S4096x1, .f32⟩
  | 97 => ⟨S_, .f32⟩
  | 98 => ⟨S4096, .f32⟩
  | 99 => ⟨S4096x1024, .f32⟩
  | 100 => ⟨S4096x1024, .f32⟩
  | 101 => ⟨S4096x1024, .f32⟩
  | 102 => ⟨S_, .f32⟩
  | 103 => ⟨S4096, .f32⟩
  | 104 => ⟨S4096x1, .f32⟩
  | 105 => ⟨S4096x1024, .f32⟩
  | 106 => ⟨S4096x1, .f32⟩
  | 107 => ⟨S_, .f32⟩
  | 108 => ⟨S4096x1, .f32⟩
  | 109 => ⟨S4096x1, .f32⟩
  | 110 => ⟨S_, .f32⟩
  | 111 => ⟨S4096, .f32⟩
  | 112 => ⟨S4096x1024, .f32⟩
  | 113 => ⟨S4096x1024, .f32⟩
  | 114 => ⟨S1x4096x1024, .f32⟩
  | 115 => ⟨S1x4096x1024, .f32⟩
  | 116 => ⟨S2x4096x1024, .f32⟩
  | 117 => ⟨S2x4096x1024, .bf16⟩
  | 118 => ⟨S1x1024, .f32⟩
  | 119 => ⟨S1x1024, .f32⟩
  | 120 => ⟨S8x128x1, .f32⟩
  | 121 => ⟨S1x1024, .f32⟩
  | 122 => ⟨S1x1024, .f32⟩
  | _ => ⟨S3x4096x1024, .f32⟩

abbrev hbmTy (i : Nat) : BufTy := match i / 128 with
  | 0 => hbmTy0_0 i
  | 1 => hbmTy0_1 i
  | _ => ⟨S3x4096x1024, .f32⟩

abbrev bufTy : (tb : Table) → Fin (tcTables nBuf tb) → BufTy
  | .hbm, ⟨i, _⟩ => hbmTy i
  | _, _ => ⟨S3x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_8 : Ref sig .tc := ⟨.hbm, 78, rfl⟩
abbrev main_v60 : Ref sig .tc := ⟨.hbm, 79, rfl⟩
abbrev main_v61 : Ref sig .tc := ⟨.hbm, 80, rfl⟩
abbrev main_cst_9 : Ref sig .tc := ⟨.hbm, 81, rfl⟩
abbrev main_v62 : Ref sig .tc := ⟨.hbm, 82, rfl⟩
abbrev main_v63 : Ref sig .tc := ⟨.hbm, 83, rfl⟩
abbrev main_cst_10 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_11 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_12 : Ref sig .tc := ⟨.hbm, 95, rfl⟩
abbrev main_v73 : Ref sig .tc := ⟨.hbm, 96, rfl⟩
abbrev main_v74 : Ref sig .tc := ⟨.hbm, 97, rfl⟩
abbrev main_cst_13 : Ref sig .tc := ⟨.hbm, 98, rfl⟩
abbrev main_v75 : Ref sig .tc := ⟨.hbm, 99, rfl⟩
abbrev main_v76 : Ref sig .tc := ⟨.hbm, 100, rfl⟩
abbrev main_cst_14 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_15 : Ref sig .tc := ⟨.hbm, 106, rfl⟩
abbrev main_v81 : Ref sig .tc := ⟨.hbm, 107, rfl⟩
abbrev main_v82 : Ref sig .tc := ⟨.hbm, 108, rfl⟩
abbrev main_cst_16 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_17 : Ref sig .tc := ⟨.hbm, 116, rfl⟩
abbrev main_v89 : Ref sig .tc := ⟨.hbm, 117, rfl⟩
abbrev main_v90 : Ref sig .tc := ⟨.hbm, 118, rfl⟩
abbrev main_cst_18 : Ref sig .tc := ⟨.hbm, 119, rfl⟩
abbrev main_v91 : Ref sig .tc := ⟨.hbm, 120, rfl⟩
abbrev main_v92 : Ref sig .tc := ⟨.hbm, 121, rfl⟩
abbrev main_cst_19 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_20 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_21 : Ref sig .tc := ⟨.hbm, 132, rfl⟩
abbrev main_v101 : Ref sig .tc := ⟨.hbm, 133, rfl⟩
abbrev main_v102 : Ref sig .tc := ⟨.hbm, 134, rfl⟩
abbrev main_cst_22 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_cst_23 : Ref sig .tc := ⟨.hbm, 143, rfl⟩
abbrev main_v110 : Ref sig .tc := ⟨.hbm, 144, rfl⟩
abbrev main_v111 : Ref sig .tc := ⟨.hbm, 145, rfl⟩
abbrev main_cst_24 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_cst_25 : Ref sig .tc := ⟨.hbm, 152, rfl⟩
abbrev main_v117 : Ref sig .tc := ⟨.hbm, 153, rfl⟩
abbrev main_v118 : Ref sig .tc := ⟨.hbm, 154, rfl⟩
abbrev main_cst_26 : Ref sig .tc := ⟨.hbm, 155, rfl⟩
abbrev main_v119 : Ref sig .tc := ⟨.hbm, 156, rfl⟩
abbrev main_v120 : Ref sig .tc := ⟨.hbm, 157, rfl⟩
abbrev main_cst_27 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_cst_28 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_cst_29 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_cst_30 : Ref sig .tc := ⟨.hbm, 181, rfl⟩
abbrev main_v141 : Ref sig .tc := ⟨.hbm, 182, rfl⟩
abbrev main_v142 : Ref sig .tc := ⟨.hbm, 183, rfl⟩
abbrev main_cst_31 : Ref sig .tc := ⟨.hbm, 184, rfl⟩
abbrev main_v143 : Ref sig .tc := ⟨.hbm, 185, rfl⟩
abbrev main_v144 : Ref sig .tc := ⟨.hbm, 186, rfl⟩
abbrev main_cst_32 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_cst_33 : Ref sig .tc := ⟨.hbm, 198, rfl⟩
abbrev main_v155 : Ref sig .tc := ⟨.hbm, 199, rfl⟩
abbrev main_v156 : Ref sig .tc := ⟨.hbm, 200, rfl⟩
abbrev main_cst_34 : Ref sig .tc := ⟨.hbm, 201, rfl⟩
abbrev main_v157 : Ref sig .tc := ⟨.hbm, 202, rfl⟩
abbrev main_v158 : Ref sig .tc := ⟨.hbm, 203, rfl⟩
abbrev main_cst_35 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_cst_36 : Ref sig .tc := ⟨.hbm, 209, rfl⟩
abbrev main_v163 : Ref sig .tc := ⟨.hbm, 210, rfl⟩
abbrev main_v164 : Ref sig .tc := ⟨.hbm, 211, rfl⟩
abbrev main_cst_37 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_cst_38 : Ref sig .tc := ⟨.hbm, 219, rfl⟩
abbrev main_v171 : Ref sig .tc := ⟨.hbm, 220, rfl⟩
abbrev main_v172 : Ref sig .tc := ⟨.hbm, 221, rfl⟩
abbrev main_cst_39 : Ref sig .tc := ⟨.hbm, 222, rfl⟩
abbrev main_v173 : Ref sig .tc := ⟨.hbm, 223, rfl⟩
abbrev main_v174 : Ref sig .tc := ⟨.hbm, 224, rfl⟩
abbrev main_cst_40 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_cst_41 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_cst_42 : Ref sig .tc := ⟨.hbm, 235, rfl⟩
abbrev main_v183 : Ref sig .tc := ⟨.hbm, 236, rfl⟩
abbrev main_v184 : Ref sig .tc := ⟨.hbm, 237, rfl⟩
abbrev main_cst_43 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩

abbrev nD : Nat := 1
abbrev τ : Topo := Topo.v7x

variable {F : FTy → Type} [FloatOps F]
-- ==== ShortConvBwd.lean ====
abbrev S3x4096x1024 : Shape := ⟨3, ![3, 4096, 1024]⟩
abbrev S4096x13312 : Shape := ⟨2, ![4096, 13312]⟩
abbrev S4x3x1024 : Shape := ⟨3, ![4, 3, 1024]⟩
abbrev S3x1024 : Shape := ⟨2, ![3, 1024]⟩
abbrev S1x4096x128 : Shape := ⟨3, ![1, 4096, 128]⟩
abbrev S4096x128 : Shape := ⟨2, ![4096, 128]⟩
abbrev S1x3x128 : Shape := ⟨3, ![1, 3, 128]⟩
abbrev S3x4096x128 : Shape := ⟨3, ![3, 4096, 128]⟩
abbrev S3x128 : Shape := ⟨2, ![3, 128]⟩
abbrev S4128x128 : Shape := ⟨2, ![4128, 128]⟩
abbrev S3x8x128 : Shape := ⟨3, ![3, 8, 128]⟩
abbrev S32x128 : Shape := ⟨2, ![32, 128]⟩
abbrev S1x1x128 : Shape := ⟨3, ![1, 1, 128]⟩
abbrev S1x128 : Shape := ⟨2, ![1, 128]⟩
abbrev S256x128 : Shape := ⟨2, ![256, 128]⟩
abbrev S1x256x128 : Shape := ⟨3, ![1, 256, 128]⟩
abbrev S1x8x128 : Shape := ⟨3, ![1, 8, 128]⟩
abbrev S8x128 : Shape := ⟨2, ![8, 128]⟩
abbrev S32x8x128 : Shape := ⟨3, ![32, 8, 128]⟩
abbrev S128 : Shape := ⟨1, ![128]⟩

abbrev nBuf : Space → Nat
  | .hbm => 5
  | .vmem => 17
  | .smem => 0
  | _ => 0

abbrev bufTy : (tb : Table) → Fin (tcTables nBuf tb) → BufTy
  | .hbm, ⟨0, _⟩ => ⟨S3x4096x1024, .f32⟩
  | .hbm, ⟨1, _⟩ => ⟨S4096x13312, .f32⟩
  | .hbm, ⟨2, _⟩ => ⟨S4x3x1024, .f32⟩
  | .hbm, ⟨3, _⟩ => ⟨S3x4096x1024, .bf16⟩
  | .hbm, ⟨4, _⟩ => ⟨S3x1024, .f32⟩
  | .local _ .vmem, ⟨0, _⟩ => ⟨S1x4096x128, .f32⟩
  | .local _ .vmem, ⟨1, _⟩ => ⟨S1x4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S1x3x128, .f32⟩
  | .local _ .vmem, ⟨9, _⟩ => ⟨S1x3x128, .f32⟩
  | .local _ .vmem, ⟨10, _⟩ => ⟨S3x4096x128, .bf16⟩
  | .local _ .vmem, ⟨11, _⟩ => ⟨S3x4096x128, .bf16⟩
  | .local _ .vmem, ⟨12, _⟩ => ⟨S3x128, .f32⟩
  | .local _ .vmem, ⟨13, _⟩ => ⟨S3x128, .f32⟩
  | .local _ .vmem, ⟨14, _⟩ => ⟨S4128x128, .f32⟩
  | .local _ .vmem, ⟨15, _⟩ => ⟨S4128x128, .f32⟩
  | .local _ .vmem, ⟨16, _⟩ => ⟨S3x8x128, .f32⟩
  | _, _ => ⟨S3x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ShortConvBwdRefIdeal.lean ====
abbrev S3x4096x1024 : Shape := ⟨3, ![3, 4096, 1024]⟩
abbrev S4096x13312 : Shape := ⟨2, ![4096, 13312]⟩
abbrev S4x3x1024 : Shape := ⟨3, ![4, 3, 1024]⟩
abbrev S4096x1024 : Shape := ⟨2, ![4096, 1024]⟩
abbrev S1x3x1024 : Shape := ⟨3, ![1, 3, 1024]⟩
abbrev S3x1024 : Shape := ⟨2, ![3, 1024]⟩
abbrev S_ : Shape := ⟨0, ![]⟩
abbrev S2x1024 : Shape := ⟨2, ![2, 1024]⟩
abbrev S4098x1024 : Shape := ⟨2, ![4098, 1024]⟩
abbrev S3 : Shape := ⟨1, ![3]⟩
abbrev S3x1 : Shape := ⟨2, ![3, 1]⟩
abbrev S4096 : Shape := ⟨1, ![4096]⟩
abbrev S1x4096 : Shape := ⟨2, ![1, 4096]⟩
abbrev S3x4096 : Shape := ⟨2, ![3, 4096]⟩
abbrev S3x4096x1 : Shape := ⟨3, ![3, 4096, 1]⟩
abbrev S3x1x1024 : Shape := ⟨3, ![3, 1, 1024]⟩
abbrev S1x4096x1024 : Shape := ⟨3, ![1, 4096, 1024]⟩

abbrev nBuf : Space → Nat
  | .hbm => 61
  | .vmem => 0
  | .smem => 0
  | _ => 0

abbrev bufTy : (tb : Table) → Fin (tcTables nBuf tb) → BufTy
  | .hbm, ⟨0, _⟩ => ⟨S3x4096x1024, .f32⟩
  | .hbm, ⟨1, _⟩ => ⟨S4096x13312, .f32⟩
  | .hbm, ⟨2, _⟩ => ⟨S4x3x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1x3x1024, .f32⟩
  | .hbm, ⟨7, _⟩ => ⟨S3x1024, .f32⟩
  | .hbm, ⟨8, _⟩ => ⟨S4096x1024, .f32⟩
  | .hbm, ⟨9, _⟩ => ⟨S_, .f32⟩
  | .hbm, ⟨10, _⟩ => ⟨S2x1024, .f32⟩
  | .hbm, ⟨11, _⟩ => ⟨S4098x1024, .f32⟩
  | .hbm, ⟨12, _⟩ => ⟨S_, .f32⟩
  | .hbm, ⟨13, _⟩ => ⟨S2x1024, .f32⟩
  | .hbm, ⟨14, _⟩ => ⟨S3, .i32⟩
  | .hbm, ⟨15, _⟩ => ⟨S3x1, .i32⟩
  | .hbm, ⟨16, _⟩ => ⟨S4096, .i32⟩
  | .hbm, ⟨17, _⟩ => ⟨S1x4096, .i32⟩
  | .hbm, ⟨18, _⟩ => ⟨S3x4096, .i32⟩
  | .hbm, ⟨19, _⟩ => ⟨S3x4096, .i32⟩
  | .hbm, ⟨20, _⟩ => ⟨S3x4096, .i32⟩
  | .hbm, ⟨21, _⟩ => ⟨S_, .i32⟩
  | .hbm, ⟨22, _⟩ => ⟨S3x4096, .i32⟩
  | .hbm, ⟨23, _⟩ => ⟨S3x4096, .i1⟩
  | .hbm, ⟨24, _⟩ => ⟨S_, .i32⟩
  | .hbm, ⟨25, _⟩ => ⟨S3x4096, .i32⟩
  | .hbm, ⟨26, _⟩ => ⟨S3x4096, .i32⟩
  | .hbm, ⟨27, _⟩ => ⟨S3x4096, .i32⟩
  | .hbm, ⟨28, _⟩ => ⟨S3x4096x1, .i32⟩
  | .hbm, ⟨29, _⟩ => ⟨S3x4096x1024, .f32⟩
  | .hbm, ⟨30, _⟩ => ⟨S3x1x1024, .f32⟩
  | .hbm, ⟨31, _⟩ => ⟨S3x4096x1024, .f32⟩
  | .hbm, ⟨32, _⟩ => ⟨S3x4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S1x4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S3x4096x1024, .f32⟩
  | .hbm, ⟨41, _⟩ => ⟨S3x4096x1024, .f32⟩
  | .hbm, ⟨42, _⟩ => ⟨S3x4096x1024, .f32⟩
  | .hbm, ⟨43, _⟩ => ⟨S3x4096x1024, .f32⟩
  | .hbm, ⟨44, _⟩ => ⟨S_, .f32⟩
  | .hbm, ⟨45, _⟩ => ⟨S3x1024, .f32⟩
  | .hbm, ⟨46, _⟩ => ⟨S3x1x1024, .f32⟩
  | .hbm, ⟨47, _⟩ => ⟨S_, .f32⟩
  | .hbm, ⟨48, _⟩ => ⟨S3x1024, .f32⟩
  | .hbm, ⟨49, _⟩ => ⟨S_, .f32⟩
  | .hbm, ⟨50, _⟩ => ⟨S4098x1024, .f32⟩
  | .hbm, ⟨51, _⟩ => ⟨S4098x1024, .f32⟩
  | .hbm, ⟨52, _⟩ => ⟨S2x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S1x4096x1024, .f32⟩
  | .hbm, ⟨57, _⟩ => ⟨S1x4096x1024, .f32⟩
  | .hbm, ⟨58, _⟩ => ⟨S1x4096x1024, .f32⟩
  | .hbm, ⟨59, _⟩ => ⟨S3x4096x1024, .f32⟩
  | .hbm, ⟨60, _⟩ => ⟨S3x4096x1024, .bf16⟩
  | _, _ => ⟨S3x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_v16 : Ref sig .tc := ⟨.hbm, 22, rfl⟩
abbrev main_v17 : Ref sig .tc := ⟨.hbm, 23, rfl⟩
abbrev main_c_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩

abbrev nD : Nat := 1
abbrev τ : Topo := Topo.v7x

variable {F : FTy → Type} [FloatOps F]
-- ==== ConformerConvBwd.lean ====
abbrev S4096x1024 : Shape := ⟨2, ![4096, 1024]⟩
abbrev S4096x13312 : Shape := ⟨2, ![4096, 13312]⟩
abbrev S4x31x1024 : Shape := ⟨3, ![4, 31, 1024]⟩
abbrev S2x4096x1024 : Shape := ⟨3, ![2, 4096, 1024]⟩
abbrev S31x1024 : Shape := ⟨2, ![31, 1024]⟩
abbrev S1x1024 : Shape := ⟨2, ![1, 1024]⟩
abbrev S4096x128 : Shape := ⟨2, ![4096, 128]⟩
abbrev S1x31x128 : Shape := ⟨3, ![1, 31, 128]⟩
abbrev S2x4096x128 : Shape := ⟨3, ![2, 4096, 128]⟩
abbrev S31x128 : Shape := ⟨2, ![31, 128]⟩
abbrev S1x128 : Shape := ⟨2, ![1, 128]⟩
abbrev S4128x128 : Shape := ⟨2, ![4128, 128]⟩
abbrev S31x8x128 : Shape := ⟨3, ![31, 8, 128]⟩
abbrev S32x128 : Shape := ⟨2, ![32, 128]⟩
abbrev S1x1x128 : Shape := ⟨3, ![1, 1, 128]⟩
abbrev S256x128 : Shape := ⟨2, ![256, 128]⟩
abbrev S1x256x128 : Shape := ⟨3, ![1, 256, 128]⟩
abbrev S1x8x128 : Shape := ⟨3, ![1, 8, 128]⟩
abbrev S8x128 : Shape := ⟨2, ![8, 128]⟩
abbrev S32x8x128 : Shape := ⟨3, ![32, 8, 128]⟩
abbrev S128 : Shape := ⟨1, ![128]⟩

abbrev nBuf : Space → Nat
  | .hbm => 6
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x13312, .f32⟩
  | .hbm, ⟨2, _⟩ => ⟨S4x31x1024, .f32⟩
  | .hbm, ⟨3, _⟩ => ⟨S2x4096x1024, .bf16⟩
  | .hbm, ⟨4, _⟩ => ⟨S31x1024, .f32⟩
  | .hbm, ⟨5, _⟩ => ⟨S1x1024, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x31x128, .f32⟩
  | .local _ .vmem, ⟨7, _⟩ => ⟨S1x31x128, .f32⟩
  | .local _ .vmem, ⟨8, _⟩ => ⟨S2x4096x128, .bf16⟩
  | .local _ .vmem, ⟨9, _⟩ => ⟨S2x4096x128, .bf16⟩
  | .local _ .vmem, ⟨10, _⟩ => ⟨S31x128, .f32⟩
  | .local _ .vmem, ⟨11, _⟩ => ⟨S31x128, .f32⟩
  | .local _ .vmem, ⟨12, _⟩ => ⟨S1x128, .f32⟩
  | .local _ .vmem, ⟨13, _⟩ => ⟨S1x128, .f32⟩
  | .local _ .vmem, ⟨14, _⟩ => ⟨S4128x128, .f32⟩
  | .local _ .vmem, ⟨15, _⟩ => ⟨S4128x128, .f32⟩
  | .local _ .vmem, ⟨16, _⟩ => ⟨S31x8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x31x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S31x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConformerConvBwdRefIdeal.lean ====
abbrev S4096x1024 : Shape := ⟨2, ![4096, 1024]⟩
abbrev S4096x13312 : Shape := ⟨2, ![4096, 13312]⟩
abbrev S4x31x1024 : Shape := ⟨3, ![4, 31, 1024]⟩
abbrev S1x31x1024 : Shape := ⟨3, ![1, 31, 1024]⟩
abbrev S31x1024 : Shape := ⟨2, ![31, 1024]⟩
abbrev S_ : Shape := ⟨0, ![]⟩
abbrev S1024 : Shape := ⟨1, ![1024]⟩
abbrev S30x1024 : Shape := ⟨2, ![30, 1024]⟩
abbrev S4126x1024 : Shape := ⟨2, ![4126, 1024]⟩
abbrev S31 : Shape := ⟨1, ![31]⟩
abbrev S31x1 : Shape := ⟨2, ![31, 1]⟩
abbrev S4096 : Shape := ⟨1, ![4096]⟩
abbrev S1x4096 : Shape := ⟨2, ![1, 4096]⟩
abbrev S31x4096 : Shape := ⟨2, ![31, 4096]⟩
abbrev S31x4096x1 : Shape := ⟨3, ![31, 4096, 1]⟩
abbrev S31x4096x1024 : Shape := ⟨3, ![31, 4096, 1024]⟩
abbrev S31x1x1024 : Shape := ⟨3, ![31, 1, 1024]⟩
abbrev S1x1024 : Shape := ⟨2, ![1, 1024]⟩
abbrev S1x4096x1024 : Shape := ⟨3, ![1, 4096, 1024]⟩
abbrev S2x4096x1024 : Shape := ⟨3, ![2, 4096, 1024]⟩

abbrev nBuf : Space → Nat
  | .hbm => 79
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x13312, .f32⟩
  | .hbm, ⟨2, _⟩ => ⟨S4x31x1024, .f32⟩
  | .hbm, ⟨3, _⟩ => ⟨S4096x1024, .f32⟩
  | .hbm, ⟨4, _⟩ => ⟨S4096x1024, .f32⟩
  | .hbm, ⟨5, _⟩ => ⟨S1x31x1024, .f32⟩
  | .hbm, ⟨6, _⟩ => ⟨S31x1024, .f32⟩
  | .hbm, ⟨7, _⟩ => ⟨S_, .f32⟩
  | .hbm, ⟨8, _⟩ => ⟨S1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S30x1024, .f32⟩
  | .hbm, ⟨24, _⟩ => ⟨S4126x1024, .f32⟩
  | .hbm, ⟨25, _⟩ => ⟨S_, .f32⟩
  | .hbm, ⟨26, _⟩ => ⟨S30x1024, .f32⟩
  | .hbm, ⟨27, _⟩ => ⟨S31, .i32⟩
  | .hbm, ⟨28, _⟩ => ⟨S31x1, .i32⟩
  | .hbm, ⟨29, _⟩ => ⟨S4096, .i32⟩
  | .hbm, ⟨30, _⟩ => ⟨S1x4096, .i32⟩
  | .hbm, ⟨31, _⟩ => ⟨S31x4096, .i32⟩
  | .hbm, ⟨32, _⟩ => ⟨S31x4096, .i32⟩
  | .hbm, ⟨33, _⟩ => ⟨S31x4096, .i32⟩
  | .hbm, ⟨34, _⟩ => ⟨S_, .i32⟩
  | .hbm, ⟨35, _⟩ => ⟨S31x4096, .i32⟩
  | .hbm, ⟨36, _⟩ => ⟨S31x4096, .i1⟩
  | .hbm, ⟨37, _⟩ => ⟨S_, .i32⟩
  | .hbm, ⟨38, _⟩ => ⟨S31x4096, .i32⟩
  | .hbm, ⟨39, _⟩ => ⟨S31x4096, .i32⟩
  | .hbm, ⟨40, _⟩ => ⟨S31x4096, .i32⟩
  | .hbm, ⟨41, _⟩ => ⟨S31x4096x1, .i32⟩
  | .hbm, ⟨42, _⟩ => ⟨S31x4096x1024, .f32⟩
  | .hbm, ⟨43, _⟩ => ⟨S31x1x1024, .f32⟩
  | .hbm, ⟨44, _⟩ => ⟨S31x4096x1024, .f32⟩
  | .hbm, ⟨45, _⟩ => ⟨S31x4096x1024, .f32⟩
  | .hbm, ⟨46, _⟩ => ⟨S_, .f32⟩
  | .hbm, ⟨47, _⟩ => ⟨S4096x1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S_, .f32⟩
  | .hbm, ⟨56, _⟩ => ⟨S1024, .f32⟩
  | .hbm, ⟨57, _⟩ => ⟨S31x4096x1024, .f32⟩
  | .hbm, ⟨58, _⟩ => ⟨S31x4096x1024, .f32⟩
  | .hbm, ⟨59, _⟩ => ⟨S31x4096x1024, .f32⟩
  | .hbm, ⟨60, _⟩ => ⟨S31x4096x1024, .f32⟩
  | .hbm, ⟨61, _⟩ => ⟨S_, .f32⟩
  | .hbm, ⟨62, _⟩ => ⟨S31x1024, .f32⟩
  | .hbm, ⟨63, _⟩ => ⟨S31x1x1024, .f32⟩
  | .hbm, ⟨64, _⟩ => ⟨S_, .f32⟩
  | .hbm, ⟨65, _⟩ => ⟨S31x1024, .f32⟩
  | .hbm, ⟨66, _⟩ => ⟨S_, .f32⟩
  | .hbm, ⟨67, _⟩ => ⟨S4126x1024, .f32⟩
  | .hbm, ⟨68, _⟩ => ⟨S4126x1024, .f32⟩
  | .hbm, ⟨69, _⟩ => ⟨S30x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S1x4096x1024, .f32⟩
  | .hbm, ⟨75, _⟩ => ⟨S1x4096x1024, .f32⟩
  | .hbm, ⟨76, _⟩ => ⟨S2x4096x1024, .f32⟩
  | .hbm, ⟨77, _⟩ => ⟨S2x4096x1024, .bf16⟩
  | .hbm, ⟨78, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c : Ref sig .tc := ⟨.hbm, 34, rfl⟩
abbrev main_v25 : Ref sig .tc := ⟨.hbm, 35, rfl⟩
abbrev main_v26 : Ref sig .tc := ⟨.hbm, 36, rfl⟩
abbrev main_c_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_7 : Ref sig .tc := ⟨.hbm, 52, rfl⟩
abbrev main_v40 : Ref sig .tc := ⟨.hbm, 53, rfl⟩
abbrev main_v41 : Ref sig .tc := ⟨.hbm, 54, rfl⟩
abbrev main_cst_8 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_9 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩

abbrev nD : Nat := 1
abbrev τ : Topo := Topo.v7x

variable {F : FTy → Type} [FloatOps F]
-- ==== FfnOutBwd.lean ====
abbrev S4096x2048 : Shape := ⟨2, ![4096, 2048]⟩
abbrev S2048x11264 : Shape := ⟨2, ![2048, 11264]⟩
abbrev S5632x2048 : Shape := ⟨2, ![5632, 2048]⟩
abbrev S4096x11264 : Shape := ⟨2, ![4096, 11264]⟩
abbrev S4096x5632 : Shape := ⟨2, ![4096, 5632]⟩
abbrev S1x4096x5632 : Shape := ⟨3, ![1, 4096, 5632]⟩
abbrev S2x4096x5632 : Shape := ⟨3, ![2, 4096, 5632]⟩
abbrev S512x2048 : Shape := ⟨2, ![512, 2048]⟩
abbrev S1408x2048 : Shape := ⟨2, ![1408, 2048]⟩
abbrev S2x512x1408 : Shape := ⟨3, ![2, 512, 1408]⟩
abbrev S256x2048 : Shape := ⟨2, ![256, 2048]⟩
abbrev S512x256 : Shape := ⟨2, ![512, 256]⟩
abbrev S1x512x256 : Shape := ⟨3, ![1, 512, 256]⟩
abbrev S128x2048 : Shape := ⟨2, ![128, 2048]⟩
abbrev S512x128 : Shape := ⟨2, ![512, 128]⟩
abbrev S1x512x128 : Shape := ⟨3, ![1, 512, 128]⟩

abbrev nBuf : Space → Nat
  | .hbm => 13
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S5632x2048, .f32⟩
  | .hbm, ⟨3, _⟩ => ⟨S4096x2048, .f32⟩
  | .hbm, ⟨4, _⟩ => ⟨S4096x11264, .f32⟩
  | .hbm, ⟨5, _⟩ => ⟨S4096x5632, .f32⟩
  | .hbm, ⟨6, _⟩ => ⟨S4096x5632, .f32⟩
  | .hbm, ⟨7, _⟩ => ⟨S1x4096x5632, .f32⟩
  | .hbm, ⟨8, _⟩ => ⟨S1x4096x5632, .f32⟩
  | .hbm, ⟨9, _⟩ => ⟨S2x4096x5632, .f32⟩
  | .hbm, ⟨10, _⟩ => ⟨S4096x2048, .bf16⟩
  | .hbm, ⟨11, _⟩ => ⟨S5632x2048, .bf16⟩
  | .hbm, ⟨12, _⟩ => ⟨S2x4096x5632, .bf16⟩
  | .local _ .vmem, ⟨0, _⟩ => ⟨S512x2048, .bf16⟩
  | .local _ .vmem, ⟨1, _⟩ => ⟨S512x2048, .bf16⟩
  | .local _ .vmem, ⟨2, _⟩ => ⟨S1408x2048, .bf16⟩
  | .local _ .vmem, ⟨3, _⟩ => ⟨S1408x2048, .bf16⟩
  | .local _ .vmem, ⟨4, _⟩ => ⟨S2x512x1408, .f32⟩
  | .local _ .vmem, ⟨5, _⟩ => ⟨S2x512x1408, .f32⟩
  | .local _ .vmem, ⟨6, _⟩ => ⟨S2x512x1408, .bf16⟩
  | .local _ .vmem, ⟨7, _⟩ => ⟨S2x512x1408, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnOutBwdRefIdeal.lean ====
abbrev S4096x2048 : Shape := ⟨2, ![4096, 2048]⟩
abbrev S2048x11264 : Shape := ⟨2, ![2048, 11264]⟩
abbrev S5632x2048 : Shape := ⟨2, ![5632, 2048]⟩
abbrev S4096x11264 : Shape := ⟨2, ![4096, 11264]⟩
abbrev S4096x5632 : Shape := ⟨2, ![4096, 5632]⟩
abbrev S_ : Shape := ⟨0, ![]⟩
abbrev S1x4096x5632 : Shape := ⟨3, ![1, 4096, 5632]⟩
abbrev S2x4096x5632 : Shape := ⟨3, ![2, 4096, 5632]⟩

abbrev nBuf : Space → Nat
  | .hbm => 33
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S5632x2048, .f32⟩
  | .hbm, ⟨3, _⟩ => ⟨S4096x2048, .f32⟩
  | .hbm, ⟨4, _⟩ => ⟨S4096x11264, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x2048, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S1x4096x5632, .f32⟩
  | .hbm, ⟨30, _⟩ => ⟨S1x4096x5632, .f32⟩
  | .hbm, ⟨31, _⟩ => ⟨S2x4096x5632, .f32⟩
  | .hbm, ⟨32, _⟩ => ⟨S2x4096x5632, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== LossHead.lean ====
abbrev S4096x2048 : Shape := ⟨2, ![4096, 2048]⟩
abbrev S4x2048 : Shape := ⟨2, ![4, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S2048 : Shape := ⟨1, ![2048]⟩
abbrev S1x1 : Shape := ⟨2, ![1, 1]⟩
abbrev S512x2048 : Shape := ⟨2, ![512, 2048]⟩
abbrev S512 : Shape := ⟨1, ![512]⟩
abbrev S512x1 : Shape := ⟨2, ![512, 1]⟩
abbrev S1 : Shape := ⟨1, ![1]⟩

abbrev nBuf : Space → Nat
  | .hbm => 33
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4x2048, .f32⟩
  | .hbm, ⟨2, _⟩ => ⟨S4x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S1x2048, .f32⟩
  | .hbm, ⟨26, _⟩ => ⟨S2048, .f32⟩
  | .hbm, ⟨27, _⟩ => ⟨S1x2048, .f32⟩
  | .hbm, ⟨28, _⟩ => ⟨S1x2048, .f32⟩
  | .hbm, ⟨29, _⟩ => ⟨S2048, .f32⟩
  | .hbm, ⟨30, _⟩ => ⟨S1x2048, .f32⟩
  | .hbm, ⟨31, _⟩ => ⟨S4096x2048, .f32⟩
  | .hbm, ⟨32, _⟩ => ⟨S1x1, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S4096x2048 : Shape := ⟨2, ![4096, 2048]⟩
abbrev S4x2048 : Shape := ⟨2, ![4, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x1 : Shape := ⟨2, ![1, 1]⟩

abbrev nBuf : Space → Nat
  | .hbm => 61
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4x2048, .f32⟩
  | .hbm, ⟨2, _⟩ => ⟨S4x2048, .f32⟩
  | .hbm, ⟨3, _⟩ => ⟨S4096x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x2048, .f32⟩
  | .hbm, ⟨30, _⟩ => ⟨S4096x2048, .f32⟩
  | .hbm, ⟨31, _⟩ => ⟨S1x2048, .f32⟩
  | .hbm, ⟨32, _⟩ => ⟨S4096x2048, .f32⟩
  | .hbm, ⟨33, _⟩ => ⟨S4096x2048, .f32⟩
  | .hbm, ⟨34, _⟩ => ⟨S1x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096, .f32⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S4096, .f32⟩
  | .hbm, ⟨55, _⟩ => ⟨S_, .f32⟩
  | .hbm, ⟨56, _⟩ => ⟨S4096, .f32⟩
  | .hbm, ⟨57, _⟩ => ⟨S4096, .f32⟩
  | .hbm, ⟨58, _⟩ => ⟨S4096x2048, .f32⟩
  | .hbm, ⟨59, _⟩ => ⟨S4096x2048, .f32⟩
  | .hbm, ⟨60, _⟩ => ⟨S1x1, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_cst_9 : Ref sig .tc := ⟨.hbm, 51, rfl⟩
abbrev main_cst_10 : Ref sig .tc := ⟨.hbm, 52, rfl⟩
abbrev main_v37 : Ref sig .tc := ⟨.hbm, 53, rfl⟩
abbrev main_v38 : Ref sig .tc := ⟨.hbm, 54, rfl⟩
abbrev main_cst_11 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]
-- ==== LnFfnBwd.lean ====
abbrev S4096x2048 : Shape := ⟨2, ![4096, 2048]⟩
abbrev S4x2048 : Shape := ⟨2, ![4, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S2048 : Shape := ⟨1, ![2048]⟩
abbrev S512x2048 : Shape := ⟨2, ![512, 2048]⟩
abbrev S512x1 : Shape := ⟨2, ![512, 1]⟩
abbrev S512 : Shape := ⟨1, ![512]⟩

abbrev nBuf : Space → Nat
  | .hbm => 37
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4x2048, .f32⟩
  | .hbm, ⟨3, _⟩ => ⟨S4x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x2048, .f32⟩
  | .hbm, ⟨29, _⟩ => ⟨S4096x2048, .f32⟩
  | .hbm, ⟨30, _⟩ => ⟨S1x2048, .f32⟩
  | .hbm, ⟨31, _⟩ => ⟨S2048, .f32⟩
  | .hbm, ⟨32, _⟩ => ⟨S1x2048, .f32⟩
  | .hbm, ⟨33, _⟩ => ⟨S4096x2048, .f32⟩
  | .hbm, ⟨34, _⟩ => ⟨S4096x2048, .bf16⟩
  | .hbm, ⟨35, _⟩ => ⟨S1x2048, .f32⟩
  | .hbm, ⟨36, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x1, .f32⟩
  | .local _ .vmem, ⟨5, _⟩ => ⟨S512x1, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | .local _ .vmem, ⟨12, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev main_v22_2 : Ref sig .tc := ⟨.hbm, 35, rfl⟩
abbrev main_v22_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LnFfnBwdRefIdeal.lean ====
abbrev S4096x2048 : Shape := ⟨2, ![4096, 2048]⟩
abbrev S4x2048 : Shape := ⟨2, ![4, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 97
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4x2048, .f32⟩
  | .hbm, ⟨3, _⟩ => ⟨S4x2048, .f32⟩
  | .hbm, ⟨4, _⟩ => ⟨S4096x2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x2048, .f32⟩
  | .hbm, ⟨42, _⟩ => ⟨S4096x2048, .f32⟩
  | .hbm, ⟨43, _⟩ => ⟨S1x2048, .f32⟩
  | .hbm, ⟨44, _⟩ => ⟨S4096x2048, .f32⟩
  | .hbm, ⟨45, _⟩ => ⟨S4096x2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S_, .f32⟩
  | .hbm, ⟨54, _⟩ => ⟨S2048, .f32⟩
  | .hbm, ⟨55, _⟩ => ⟨S4096x2048, .f32⟩
  | .hbm, ⟨56, _⟩ => ⟨S_, .f32⟩
  | .hbm, ⟨57, _⟩ => ⟨S2048, .f32⟩
  | .hbm, ⟨58, _⟩ => ⟨S1x2048, .f32⟩
  | .hbm, ⟨59, _⟩ => ⟨S4096x2048, .f32⟩
  | .hbm, ⟨60, _⟩ => ⟨S4096x2048, .f32⟩
  | .hbm, ⟨61, _⟩ => ⟨S_, .f32⟩
  | .hbm, ⟨62, _⟩ => ⟨S2048, .f32⟩
  | .hbm, ⟨63, _⟩ => ⟨S4096x2048, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S4096x2048, .f32⟩
  | .hbm, ⟨68, _⟩ => ⟨S4096x2048, .f32⟩
  | .hbm, ⟨69, _⟩ => ⟨S4096x1, .f32⟩
  | .hbm, ⟨70, _⟩ => ⟨S4096x2048, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S_, .f32⟩
  | .hbm, ⟨78, _⟩ => ⟨S4096, .f32⟩
  | .hbm, ⟨79, _⟩ => ⟨S4096x2048, .f32⟩
  | .hbm, ⟨80, _⟩ => ⟨S4096x2048, .f32⟩
  | .hbm, ⟨81, _⟩ => ⟨S4096x2048, .f32⟩
  | .hbm, ⟨82, _⟩ => ⟨S_, .f32⟩
  | .hbm, ⟨83, _⟩ => ⟨S4096, .f32⟩
  | .hbm, ⟨84, _⟩ => ⟨S4096x1, .f32⟩
  | .hbm, ⟨85, _⟩ => ⟨S4096x2048, .f32⟩
  | .hbm, ⟨86, _⟩ => ⟨S4096x1, .f32⟩
  | .hbm, ⟨87, _⟩ => ⟨S_, .f32⟩
  | .hbm, ⟨88, _⟩ => ⟨S4096x1, .f32⟩
  | .hbm, ⟨89, _⟩ => ⟨S4096x1, .f32⟩
  | .hbm, ⟨90, _⟩ => ⟨S_, .f32⟩
  | .hbm, ⟨91, _⟩ => ⟨S4096, .f32⟩
  | .hbm, ⟨92, _⟩ => ⟨S4096x2048, .f32⟩
  | .hbm, ⟨93, _⟩ => ⟨S4096x2048, .f32⟩
  | .hbm, ⟨94, _⟩ => ⟨S4096x2048, .bf16⟩
  | .hbm, ⟨95, _⟩ => ⟨S1x2048, .f32⟩
  | .hbm, ⟨96, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_cst_11 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_12 : Ref sig .tc := ⟨.hbm, 71, rfl⟩
abbrev main_v53 : Ref sig .tc := ⟨.hbm, 72, rfl⟩
abbrev main_v54 : Ref sig .tc := ⟨.hbm, 73, rfl⟩
abbrev main_cst_13 : Ref sig .tc := ⟨.hbm, 74, rfl⟩
abbrev main_v55 : Ref sig .tc := ⟨.hbm, 75, rfl⟩
abbrev main_v56 : Ref sig .tc := ⟨.hbm, 76, rfl⟩
abbrev main_cst_14 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_15 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_16 : Ref sig .tc := ⟨.hbm, 87, rfl⟩
abbrev main_v65 : Ref sig .tc := ⟨.hbm, 88, rfl⟩
abbrev main_v66 : Ref sig .tc := ⟨.hbm, 89, rfl⟩
abbrev main_cst_17 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩

abbrev nD : Nat := 1
abbrev τ : Topo := Topo.v7x

variable {F : FTy → Type} [FloatOps F]
-- ==== LnInBwd.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S512x2048 : Shape := ⟨2, ![512, 2048]⟩
abbrev S512x1 : Shape := ⟨2, ![512, 1]⟩
abbrev S512 : Shape := ⟨1, ![512]⟩

abbrev nBuf : Space → Nat
  | .hbm => 29
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S1x2048, .f32⟩
  | .hbm, ⟨26, _⟩ => ⟨S4096x2048, .f32⟩
  | .hbm, ⟨27, _⟩ => ⟨S1x2048, .f32⟩
  | .hbm, ⟨28, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x1, .f32⟩
  | .local _ .vmem, ⟨5, _⟩ => ⟨S512x1, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LnInBwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 87
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x2048, .f32⟩
  | .hbm, ⟨33, _⟩ => ⟨S4096x2048, .f32⟩
  | .hbm, ⟨34, _⟩ => ⟨S1x2048, .f32⟩
  | .hbm, ⟨35, _⟩ => ⟨S4096x2048, .f32⟩
  | .hbm, ⟨36, _⟩ => ⟨S4096x2048, .f32⟩
  | .hbm, ⟨37, _⟩ => ⟨S1x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S2048, .f32⟩
  | .hbm, ⟨43, _⟩ => ⟨S1x2048, .f32⟩
  | .hbm, ⟨44, _⟩ => ⟨S_, .f32⟩
  | .hbm, ⟨45, _⟩ => ⟨S2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S4096x2048, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S4096x2048, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S_, .f32⟩
  | .hbm, ⟨82, _⟩ => ⟨S4096, .f32⟩
  | .hbm, ⟨83, _⟩ => ⟨S4096x2048, .f32⟩
  | .hbm, ⟨84, _⟩ => ⟨S4096x2048, .f32⟩
  | .hbm, ⟨85, _⟩ => ⟨S1x2048, .f32⟩
  | .hbm, ⟨86, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_cst_12 : Ref sig .tc := ⟨.hbm, 65, rfl⟩
abbrev main_v48 : Ref sig .tc := ⟨.hbm, 66, rfl⟩
abbrev main_v49 : Ref sig .tc := ⟨.hbm, 67, rfl⟩
abbrev main_cst_13 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_14 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_15 : Ref sig .tc := ⟨.hbm, 78, rfl⟩
abbrev main_v58 : Ref sig .tc := ⟨.hbm, 79, rfl⟩
abbrev main_v59 : Ref sig .tc := ⟨.hbm, 80, rfl⟩
abbrev main_cst_16 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]
-- ==== LnInFwd.lean ====
abbrev S4096x2048 : Shape := ⟨2, ![4096, 2048]⟩
abbrev S2048 : Shape := ⟨1, ![2048]⟩
abbrev S1x2048 : Shape := ⟨2, ![1, 2048]⟩
abbrev S4096x1 : Shape := ⟨2, ![4096, 1]⟩
abbrev S512x2048 : Shape := ⟨2, ![512, 2048]⟩
abbrev S512x1 : Shape := ⟨2, ![512, 1]⟩
abbrev S512 : Shape := ⟨1, ![512]⟩

abbrev nBuf : Space → Nat
  | .hbm => 8
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S4096x1, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | .local _ .vmem, ⟨8, _⟩ => ⟨S512x1, .f32⟩
  | .local _ .vmem, ⟨9, _⟩ => ⟨S512x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LnInFwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== ConformerConvFwd.lean ====
abbrev S4096x13312 : Shape := ⟨2, ![4096, 13312]⟩
abbrev S4x31x1024 : Shape := ⟨3, ![4, 31, 1024]⟩
abbrev S4x1024 : Shape := ⟨2, ![4, 1024]⟩
abbrev S4x1x1024 : Shape := ⟨3, ![4, 1, 1024]⟩
abbrev S4096x1024 : Shape := ⟨2, ![4096, 1024]⟩
abbrev S4096x128 : Shape := ⟨2, ![4096, 128]⟩
abbrev S1x31x128 : Shape := ⟨3, ![1, 31, 128]⟩
abbrev S1x1x128 : Shape := ⟨3, ![1, 1, 128]⟩
abbrev S4128x128 : Shape := ⟨2, ![4128, 128]⟩
abbrev S32x128 : Shape := ⟨2, ![32, 128]⟩
abbrev S1x128 : Shape := ⟨2, ![1, 128]⟩
abbrev S256x128 : Shape := ⟨2, ![256, 128]⟩

abbrev nBuf : Space → Nat
  | .hbm => 5
  | .vmem => 11
  | .smem => 0
  | _ => 0

abbrev bufTy : (tb : Table) → Fin (tcTables nBuf tb) → BufTy
  | .hbm, ⟨0, _⟩ => ⟨S4096x13312, .f32⟩
  | .hbm, ⟨1, _⟩ => ⟨S4x31x1024, .f32⟩
  | .hbm, ⟨2, _⟩ => ⟨S4x1024, .f32⟩
  | .hbm, ⟨3, _⟩ => ⟨S4x1x1024, .f32⟩
  | .hbm, ⟨4, _⟩ => ⟨S4096x1024, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S1x31x128, .f32⟩
  | .local _ .vmem, ⟨5, _⟩ => ⟨S1x31x128, .f32⟩
  | .local _ .vmem, ⟨6, _⟩ => ⟨S1x1x128, .f32⟩
  | .local _ .vmem, ⟨7, _⟩ => ⟨S1x1x128, .f32⟩
  | .local _ .vmem, ⟨8, _⟩ => ⟨S4096x128, .f32⟩
  | .local _ .vmem, ⟨9, _⟩ => ⟨S4096x128, .f32⟩
  | .local _ .vmem, ⟨10, _⟩ => ⟨S4128x128, .f32⟩
  | _, _ => ⟨S4096x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat, arg0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x31x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConformerConvFwdRefIdeal.lean ====
abbrev S4096x13312 : Shape := ⟨2, ![4096, 13312]⟩
abbrev S4x31x1024 : Shape := ⟨3, ![4, 31, 1024]⟩
abbrev S4x1024 : Shape := ⟨2, ![4, 1024]⟩
abbrev S4096x1024 : Shape := ⟨2, ![4096, 1024]⟩
abbrev S1x31x1024 : Shape := ⟨3, ![1, 31, 1024]⟩
abbrev S31x1024 : Shape := ⟨2, ![31, 1024]⟩
abbrev S1x1024 : Shape := ⟨2, ![1, 1024]⟩
abbrev S1024 : Shape := ⟨1, ![1024]⟩
abbrev S_ : Shape := ⟨0, ![]⟩
abbrev S30x1024 : Shape := ⟨2, ![30, 1024]⟩
abbrev S4126x1024 : Shape := ⟨2, ![4126, 1024]⟩
abbrev S31 : Shape := ⟨1, ![31]⟩
abbrev S31x1 : Shape := ⟨2, ![31, 1]⟩
abbrev S4096 : Shape := ⟨1, ![4096]⟩
abbrev S1x4096 : Shape := ⟨2, ![1, 4096]⟩
abbrev S31x4096 : Shape := ⟨2, ![31, 4096]⟩
abbrev S31x4096x1 : Shape := ⟨3, ![31, 4096, 1]⟩
abbrev S31x4096x1024 : Shape := ⟨3, ![31, 4096, 1024]⟩
abbrev S31x1x1024 : Shape := ⟨3, ![31, 1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S4096x13312, .f32⟩
  | .hbm, ⟨1, _⟩ => ⟨S4x31x1024, .f32⟩
  | .hbm, ⟨2, _⟩ => ⟨S4x1024, .f32⟩
  | .hbm, ⟨3, _⟩ => ⟨S4096x1024, .f32⟩
  | .hbm, ⟨4, _⟩ => ⟨S4096x1024, .f32⟩
  | .hbm, ⟨5, _⟩ => ⟨S1x31x1024, .f32⟩
  | .hbm, ⟨6, _⟩ => ⟨S31x1024, .f32⟩
  | .hbm, ⟨7, _⟩ => ⟨S1x1024, .f32⟩
  | .hbm, ⟨8, _⟩ => ⟨S1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S30x1024, .f32⟩
  | .hbm, ⟨20, _⟩ => ⟨S4126x1024, .f32⟩
  | .hbm, ⟨21, _⟩ => ⟨S31, .i32⟩
  | .hbm, ⟨22, _⟩ => ⟨S31x1, .i32⟩
  | .hbm, ⟨23, _⟩ => ⟨S4096, .i32⟩
  | .hbm, ⟨24, _⟩ => ⟨S1x4096, .i32⟩
  | .hbm, ⟨25, _⟩ => ⟨S31x4096, .i32⟩
  | .hbm, ⟨26, _⟩ => ⟨S31x4096, .i32⟩
  | .hbm, ⟨27, _⟩ => ⟨S31x4096, .i32⟩
  | .hbm, ⟨28, _⟩ => ⟨S_, .i32⟩
  | .hbm, ⟨29, _⟩ => ⟨S31x4096, .i32⟩
  | .hbm, ⟨30, _⟩ => ⟨S31x4096, .i1⟩
  | .hbm, ⟨31, _⟩ => ⟨S_, .i32⟩
  | .hbm, ⟨32, _⟩ => ⟨S31x4096, .i32⟩
  | .hbm, ⟨33, _⟩ => ⟨S31x4096, .i32⟩
  | .hbm, ⟨34, _⟩ => ⟨S31x4096, .i32⟩
  | .hbm, ⟨35, _⟩ => ⟨S31x4096x1, .i32⟩
  | .hbm, ⟨36, _⟩ => ⟨S31x4096x1024, .f32⟩
  | .hbm, ⟨37, _⟩ => ⟨S31x1x1024, .f32⟩
  | .hbm, ⟨38, _⟩ => ⟨S31x4096x1024, .f32⟩
  | .hbm, ⟨39, _⟩ => ⟨S31x4096x1024, .f32⟩
  | .hbm, ⟨40, _⟩ => ⟨S_, .f32⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x1024, .f32⟩
  | _, _ => ⟨S4096x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_v22 : Ref sig .tc := ⟨.hbm, 29, rfl⟩
abbrev main_v23 : Ref sig .tc := ⟨.hbm, 30, rfl⟩
abbrev main_c_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== MmOutLn.lean ====
abbrev S4096x2048 : Shape := ⟨2, ![4096, 2048]⟩
abbrev S2048x2048 : Shape := ⟨2, ![2048, 2048]⟩
abbrev S4x2048 : Shape := ⟨2, ![4, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S2048 : Shape := ⟨1, ![2048]⟩
abbrev S512x2048 : Shape := ⟨2, ![512, 2048]⟩
abbrev S512x1 : Shape := ⟨2, ![512, 1]⟩
abbrev S512 : Shape := ⟨1, ![512]⟩

abbrev nBuf : Space → Nat
  | .hbm => 45
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S4x2048, .f32⟩
  | .hbm, ⟨7, _⟩ => ⟨S4096x2048, .bf16⟩
  | .hbm, ⟨8, _⟩ => ⟨S2048x2048, .bf16⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x2048, .f32⟩
  | .hbm, ⟨29, _⟩ => ⟨S4096x2048, .f32⟩
  | .hbm, ⟨30, _⟩ => ⟨S1x2048, .f32⟩
  | .hbm, ⟨31, _⟩ => ⟨S2048, .f32⟩
  | .hbm, ⟨32, _⟩ => ⟨S1x2048, .f32⟩
  | .hbm, ⟨33, _⟩ => ⟨S1x2048, .f32⟩
  | .hbm, ⟨34, _⟩ => ⟨S2048, .f32⟩
  | .hbm, ⟨35, _⟩ => ⟨S1x2048, .f32⟩
  | .hbm, ⟨36, _⟩ => ⟨S1x2048, .f32⟩
  | .hbm, ⟨37, _⟩ => ⟨S2048, .f32⟩
  | .hbm, ⟨38, _⟩ => ⟨S1x2048, .f32⟩
  | .hbm, ⟨39, _⟩ => ⟨S1x2048, .f32⟩
  | .hbm, ⟨40, _⟩ => ⟨S2048, .f32⟩
  | .hbm, ⟨41, _⟩ => ⟨S1x2048, .f32⟩
  | .hbm, ⟨42, _⟩ => ⟨S4096x2048, .f32⟩
  | .hbm, ⟨43, _⟩ => ⟨S4096x2048, .bf16⟩
  | .hbm, ⟨44, _⟩ => ⟨S4096x1, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S512x1, .f32⟩
  | .local _ .vmem, ⟨14, _⟩ => ⟨S512x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30_0 : Ref sig .tc := ⟨.hbm, 42, rfl⟩
abbrev main_v30_1 : Ref sig .tc := ⟨.hbm, 43, rfl⟩
abbrev main_v30_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MmOutLnRefIdeal.lean ====
abbrev S4096x2048 : Shape := ⟨2, ![4096, 2048]⟩
abbrev S2048x2048 : Shape := ⟨2, ![2048, 2048]⟩
abbrev S4x2048 : Shape := ⟨2, ![4, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 79
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S4x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S2048, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x2048, .f32⟩
  | .hbm, ⟨33, _⟩ => ⟨S4096x2048, .f32⟩
  | .hbm, ⟨34, _⟩ => ⟨S1x2048, .f32⟩
  | .hbm, ⟨35, _⟩ => ⟨S4096x2048, .f32⟩
  | .hbm, ⟨36, _⟩ => ⟨S4096x2048, .f32⟩
  | .hbm, ⟨37, _⟩ => ⟨S1x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S1x2048, .f32⟩
  | .hbm, ⟨46, _⟩ => ⟨S2048, .f32⟩
  | .hbm, ⟨47, _⟩ => ⟨S1x2048, .f32⟩
  | .hbm, ⟨48, _⟩ => ⟨S2048, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S4096x1, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S1x2048, .f32⟩
  | .hbm, ⟨73, _⟩ => ⟨S4096x2048, .f32⟩
  | .hbm, ⟨74, _⟩ => ⟨S4096x2048, .f32⟩
  | .hbm, ⟨75, _⟩ => ⟨S1x2048, .f32⟩
  | .hbm, ⟨76, _⟩ => ⟨S4096x2048, .f32⟩
  | .hbm, ⟨77, _⟩ => ⟨S4096x2048, .f32⟩
  | .hbm, ⟨78, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== FfnInSwiglu.lean ====
abbrev S4096x2048 : Shape := ⟨2, ![4096, 2048]⟩
abbrev S2048x11264 : Shape := ⟨2, ![2048, 11264]⟩
abbrev S2x4096x5632 : Shape := ⟨3, ![2, 4096, 5632]⟩
abbrev S4096x5632 : Shape := ⟨2, ![4096, 5632]⟩
abbrev S256x2048 : Shape := ⟨2, ![256, 2048]⟩
abbrev S2048x1408 : Shape := ⟨2, ![2048, 1408]⟩
abbrev S2x256x1408 : Shape := ⟨3, ![2, 256, 1408]⟩
abbrev S256x1408 : Shape := ⟨2, ![256, 1408]⟩
abbrev S1x256x1408 : Shape := ⟨3, ![1, 256, 1408]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S4096x2048, .bf16⟩
  | .hbm, ⟨3, _⟩ => ⟨S2048x11264, .bf16⟩
  | .hbm, ⟨4, _⟩ => ⟨S2x4096x5632, .f32⟩
  | .hbm, ⟨5, _⟩ => ⟨S4096x5632, .bf16⟩
  | .local _ .vmem, ⟨0, _⟩ => ⟨S256x2048, .bf16⟩
  | .local _ .vmem, ⟨1, _⟩ => ⟨S256x2048, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S2x256x1408, .f32⟩
  | .local _ .vmem, ⟨7, _⟩ => ⟨S2x256x1408, .f32⟩
  | .local _ .vmem, ⟨8, _⟩ => ⟨S256x1408, .bf16⟩
  | .local _ .vmem, ⟨9, _⟩ => ⟨S256x1408, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnInSwigluRefIdeal.lean ====
abbrev S4096x2048 : Shape := ⟨2, ![4096, 2048]⟩
abbrev S2048x11264 : Shape := ⟨2, ![2048, 11264]⟩
abbrev S4096x11264 : Shape := ⟨2, ![4096, 11264]⟩
abbrev S4096x5632 : Shape := ⟨2, ![4096, 5632]⟩
abbrev S1x4096x5632 : Shape := ⟨3, ![1, 4096, 5632]⟩
abbrev S2x4096x5632 : Shape := ⟨3, ![2, 4096, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S4096x11264, .f32⟩
  | .hbm, ⟨3, _⟩ => ⟨S4096x5632, .f32⟩
  | .hbm, ⟨4, _⟩ => ⟨S4096x5632, .f32⟩
  | .hbm, ⟨5, _⟩ => ⟨S1x4096x5632, .f32⟩
  | .hbm, ⟨6, _⟩ => ⟨S1x4096x5632, .f32⟩
  | .hbm, ⟨7, _⟩ => ⟨S2x4096x5632, .f32⟩
  | .hbm, ⟨8, _⟩ => ⟨S4096x5632, .f32⟩
  | .hbm, ⟨9, _⟩ => ⟨S4096x5632, .f32⟩
  | .hbm, ⟨10, _⟩ => ⟨S_, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== FfnOutLn.lean ====
abbrev S4096x5632 : Shape := ⟨2, ![4096, 5632]⟩
abbrev S5632x2048 : Shape := ⟨2, ![5632, 2048]⟩
abbrev S4096x2048 : Shape := ⟨2, ![4096, 2048]⟩
abbrev S4x2048 : Shape := ⟨2, ![4, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S2048 : Shape := ⟨1, ![2048]⟩
abbrev S512x1408 : Shape := ⟨2, ![512, 1408]⟩
abbrev S1408x2048 : Shape := ⟨2, ![1408, 2048]⟩
abbrev S512x2048 : Shape := ⟨2, ![512, 2048]⟩
abbrev S512x1 : Shape := ⟨2, ![512, 1]⟩
abbrev S512 : Shape := ⟨1, ![512]⟩

abbrev nBuf : Space → Nat
  | .hbm => 45
  | .vmem => 17
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S4x2048, .f32⟩
  | .hbm, ⟨7, _⟩ => ⟨S4096x5632, .bf16⟩
  | .hbm, ⟨8, _⟩ => ⟨S5632x2048, .bf16⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x2048, .f32⟩
  | .hbm, ⟨29, _⟩ => ⟨S4096x2048, .f32⟩
  | .hbm, ⟨30, _⟩ => ⟨S1x2048, .f32⟩
  | .hbm, ⟨31, _⟩ => ⟨S2048, .f32⟩
  | .hbm, ⟨32, _⟩ => ⟨S1x2048, .f32⟩
  | .hbm, ⟨33, _⟩ => ⟨S1x2048, .f32⟩
  | .hbm, ⟨34, _⟩ => ⟨S2048, .f32⟩
  | .hbm, ⟨35, _⟩ => ⟨S1x2048, .f32⟩
  | .hbm, ⟨36, _⟩ => ⟨S1x2048, .f32⟩
  | .hbm, ⟨37, _⟩ => ⟨S2048, .f32⟩
  | .hbm, ⟨38, _⟩ => ⟨S1x2048, .f32⟩
  | .hbm, ⟨39, _⟩ => ⟨S1x2048, .f32⟩
  | .hbm, ⟨40, _⟩ => ⟨S2048, .f32⟩
  | .hbm, ⟨41, _⟩ => ⟨S1x2048, .f32⟩
  | .hbm, ⟨42, _⟩ => ⟨S4096x2048, .f32⟩
  | .hbm, ⟨43, _⟩ => ⟨S4096x2048, .bf16⟩
  | .hbm, ⟨44, _⟩ => ⟨S4096x1, .f32⟩
  | .local _ .vmem, ⟨0, _⟩ => ⟨S512x1408, .bf16⟩
  | .local _ .vmem, ⟨1, _⟩ => ⟨S512x1408, .bf16⟩
  | .local _ .vmem, ⟨2, _⟩ => ⟨S1408x2048, .bf16⟩
  | .local _ .vmem, ⟨3, _⟩ => ⟨S1408x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S512x1, .f32⟩
  | .local _ .vmem, ⟨15, _⟩ => ⟨S512x1, .f32⟩
  | .local _ .vmem, ⟨16, _⟩ => ⟨S512x2048, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30_0 : Ref sig .tc := ⟨.hbm, 42, rfl⟩
abbrev main_v30_1 : Ref sig .tc := ⟨.hbm, 43, rfl⟩
abbrev main_v30_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnOutLnRefIdeal.lean ====
abbrev S4096x5632 : Shape := ⟨2, ![4096, 5632]⟩
abbrev S5632x2048 : Shape := ⟨2, ![5632, 2048]⟩
abbrev S4096x2048 : Shape := ⟨2, ![4096, 2048]⟩
abbrev S4x2048 : Shape := ⟨2, ![4, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 79
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S4x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S2048, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x2048, .f32⟩
  | .hbm, ⟨33, _⟩ => ⟨S4096x2048, .f32⟩
  | .hbm, ⟨34, _⟩ => ⟨S1x2048, .f32⟩
  | .hbm, ⟨35, _⟩ => ⟨S4096x2048, .f32⟩
  | .hbm, ⟨36, _⟩ => ⟨S4096x2048, .f32⟩
  | .hbm, ⟨37, _⟩ => ⟨S1x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S1x2048, .f32⟩
  | .hbm, ⟨46, _⟩ => ⟨S2048, .f32⟩
  | .hbm, ⟨47, _⟩ => ⟨S1x2048, .f32⟩
  | .hbm, ⟨48, _⟩ => ⟨S2048, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S4096x1, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S1x2048, .f32⟩
  | .hbm, ⟨73, _⟩ => ⟨S4096x2048, .f32⟩
  | .hbm, ⟨74, _⟩ => ⟨S4096x2048, .f32⟩
  | .hbm, ⟨75, _⟩ => ⟨S1x2048, .f32⟩
  | .hbm, ⟨76, _⟩ => ⟨S4096x2048, .f32⟩
  | .hbm, ⟨77, _⟩ => ⟨S4096x2048, .f32⟩
  | .hbm, ⟨78, _⟩ => ⟨S4096x2048, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== BranchMerge.lean ====
abbrev S4096x3x1024 : Shape := ⟨3, ![4096, 3, 1024]⟩
abbrev S3x1024x2048 : Shape := ⟨3, ![3, 1024, 2048]⟩
abbrev S4096x13312 : Shape := ⟨2, ![4096, 13312]⟩
abbrev S4x6144 : Shape := ⟨2, ![4, 6144]⟩
abbrev S3x4096x1024 : Shape := ⟨3, ![3, 4096, 1024]⟩
abbrev S4x3x1x2048 : Shape := ⟨4, ![4, 3, 1, 2048]⟩
abbrev S4096x2048 : Shape := ⟨2, ![4096, 2048]⟩
abbrev S3x4096x2048 : Shape := ⟨3, ![3, 4096, 2048]⟩
abbrev S3x1024x1024 : Shape := ⟨3, ![3, 1024, 1024]⟩
abbrev S3x1024x512 : Shape := ⟨3, ![3, 1024, 512]⟩
abbrev S1024x512 : Shape := ⟨2, ![1024, 512]⟩
abbrev S1x3x1x512 : Shape := ⟨4, ![1, 3, 1, 512]⟩
abbrev S1x1024x1024 : Shape := ⟨3, ![1, 1024, 1024]⟩
abbrev S1024x1024 : Shape := ⟨2, ![1024, 1024]⟩
abbrev S1x1024x256 : Shape := ⟨3, ![1, 1024, 256]⟩
abbrev S1024x256 : Shape := ⟨2, ![1024, 256]⟩
abbrev S1x1x1x256 : Shape := ⟨4, ![1, 1, 1, 256]⟩
abbrev S1x256 : Shape := ⟨2, ![1, 256]⟩

abbrev nBuf : Space → Nat
  | .hbm => 10
  | .vmem => 16
  | .smem => 0
  | _ => 0

abbrev bufTy : (tb : Table) → Fin (tcTables nBuf tb) → BufTy
  | .hbm, ⟨0, _⟩ => ⟨S4096x3x1024, .f32⟩
  | .hbm, ⟨1, _⟩ => ⟨S3x1024x2048, .f32⟩
  | .hbm, ⟨2, _⟩ => ⟨S4096x13312, .f32⟩
  | .hbm, ⟨3, _⟩ => ⟨S4x6144, .f32⟩
  | .hbm, ⟨4, _⟩ => ⟨S3x4096x1024, .f32⟩
  | .hbm, ⟨5, _⟩ => ⟨S3x4096x1024, .bf16⟩
  | .hbm, ⟨6, _⟩ => ⟨S3x1024x2048, .bf16⟩
  | .hbm, ⟨7, _⟩ => ⟨S4x3x1x2048, .f32⟩
  | .hbm, ⟨8, _⟩ => ⟨S4096x2048, .bf16⟩
  | .hbm, ⟨9, _⟩ => ⟨S3x4096x2048, .f32⟩
  | .local _ .vmem, ⟨0, _⟩ => ⟨S3x1024x1024, .bf16⟩
  | .local _ .vmem, ⟨1, _⟩ => ⟨S3x1024x1024, .bf16⟩
  | .local _ .vmem, ⟨2, _⟩ => ⟨S3x1024x512, .bf16⟩
  | .local _ .vmem, ⟨3, _⟩ => ⟨S3x1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1x3x1x512, .f32⟩
  | .local _ .vmem, ⟨11, _⟩ => ⟨S1x3x1x512, .f32⟩
  | .local _ .vmem, ⟨12, _⟩ => ⟨S1024x512, .bf16⟩
  | .local _ .vmem, ⟨13, _⟩ => ⟨S1024x512, .bf16⟩
  | .local _ .vmem, ⟨14, _⟩ => ⟨S3x1024x512, .f32⟩
  | .local _ .vmem, ⟨15, _⟩ => ⟨S3x1024x512, .f32⟩
  | _, _ => ⟨S4096x3x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  ![arg0.toNat, v0.toNat]

def cc0_transform_5 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S3x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== BranchMergeRefIdeal.lean ====
abbrev S4096x3x1024 : Shape := ⟨3, ![4096, 3, 1024]⟩
abbrev S3x1024x2048 : Shape := ⟨3, ![3, 1024, 2048]⟩
abbrev S4096x13312 : Shape := ⟨2, ![4096, 13312]⟩
abbrev S4x6144 : Shape := ⟨2, ![4, 6144]⟩
abbrev S4096x6144 : Shape := ⟨2, ![4096, 6144]⟩
abbrev S1x6144 : Shape := ⟨2, ![1, 6144]⟩
abbrev S6144 : Shape := ⟨1, ![6144]⟩
abbrev S_ : Shape := ⟨0, ![]⟩
abbrev S4096x3x2048 : Shape := ⟨3, ![4096, 3, 2048]⟩
abbrev S4096x1x1024 : Shape := ⟨3, ![4096, 1, 1024]⟩
abbrev S4096x1024 : Shape := ⟨2, ![4096, 1024]⟩
abbrev S3x2048x4096 : Shape := ⟨3, ![3, 2048, 4096]⟩
abbrev S4096x2048 : Shape := ⟨2, ![4096, 2048]⟩
abbrev S3x4096x2048 : Shape := ⟨3, ![3, 4096, 2048]⟩

abbrev nBuf : Space → Nat
  | .hbm => 36
  | .vmem => 0
  | .smem => 0
  | _ => 0

abbrev bufTy : (tb : Table) → Fin (tcTables nBuf tb) → BufTy
  | .hbm, ⟨0, _⟩ => ⟨S4096x3x1024, .f32⟩
  | .hbm, ⟨1, _⟩ => ⟨S3x1024x2048, .f32⟩
  | .hbm, ⟨2, _⟩ => ⟨S4096x13312, .f32⟩
  | .hbm, ⟨3, _⟩ => ⟨S4x6144, .f32⟩
  | .hbm, ⟨4, _⟩ => ⟨S4096x6144, .f32⟩
  | .hbm, ⟨5, _⟩ => ⟨S1x6144, .f32⟩
  | .hbm, ⟨6, _⟩ => ⟨S6144, .f32⟩
  | .hbm, ⟨7, _⟩ => ⟨S1x6144, .f32⟩
  | .hbm, ⟨8, _⟩ => ⟨S4096x6144, .f32⟩
  | .hbm, ⟨9, _⟩ => ⟨S4096x6144, .f32⟩
  | .hbm, ⟨10, _⟩ => ⟨S4096x6144, .f32⟩
  | .hbm, ⟨11, _⟩ => ⟨S4096x6144, .f32⟩
  | .hbm, ⟨12, _⟩ => ⟨S_, .f32⟩
  | .hbm, ⟨13, _⟩ => ⟨S4096x6144, .f32⟩
  | .hbm, ⟨14, _⟩ => ⟨S4096x6144, .f32⟩
  | .hbm, ⟨15, _⟩ => ⟨S_, .f32⟩
  | .hbm, ⟨16, _⟩ => ⟨S4096x6144, .f32⟩
  | .hbm, ⟨17, _⟩ => ⟨S4096x6144, .f32⟩
  | .hbm, ⟨18, _⟩ => ⟨S4096x3x2048, .f32⟩
  | .hbm, ⟨19, _⟩ => ⟨S4096x1x1024, .f32⟩
  | .hbm, ⟨20, _⟩ => ⟨S4096x1024, .f32⟩
  | .hbm, ⟨21, _⟩ => ⟨S4096x1x1024, .f32⟩
  | .hbm, ⟨22, _⟩ => ⟨S4096x1024, .f32⟩
  | .hbm, ⟨23, _⟩ => ⟨S4096x1x1024, .f32⟩
  | .hbm, ⟨24, _⟩ => ⟨S4096x1024, .f32⟩
  | .hbm, ⟨25, _⟩ => ⟨S4096x1x1024, .f32⟩
  | .hbm, ⟨26, _⟩ => ⟨S4096x1x1024, .f32⟩
  | .hbm, ⟨27, _⟩ => ⟨S4096x1x1024, .f32⟩
  | .hbm, ⟨28, _⟩ => ⟨S4096x3x1024, .f32⟩
  | .hbm, ⟨29, _⟩ => ⟨S3x2048x4096, .f32⟩
  | .hbm, ⟨30, _⟩ => ⟨S4096x3x2048, .f32⟩
  | .hbm, ⟨31, _⟩ => ⟨S4096x3x2048, .f32⟩
  | .hbm, ⟨32, _⟩ => ⟨S_, .f32⟩
  | .hbm, ⟨33, _⟩ => ⟨S4096x2048, .f32⟩
  | .hbm, ⟨34, _⟩ => ⟨S4096x2048, .bf16⟩
  | .hbm, ⟨35, _⟩ => ⟨S3x4096x2048, .f32⟩
  | _, _ => ⟨S4096x3x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== MixerRowsFwd.lean ====
abbrev S4096x13312 : Shape := ⟨2, ![4096, 13312]⟩
abbrev S4096x1024 : Shape := ⟨2, ![4096, 1024]⟩
abbrev S4x1024 : Shape := ⟨2, ![4, 1024]⟩
abbrev S4x8x128x128 : Shape := ⟨4, ![4, 8, 128, 128]⟩
abbrev S4x8x128 : Shape := ⟨3, ![4, 8, 128]⟩
abbrev S4x1x1024 : Shape := ⟨3, ![4, 1, 1024]⟩
abbrev S4x8x128x1 : Shape := ⟨4, ![4, 8, 128, 1]⟩
abbrev S3x4096x1024 : Shape := ⟨3, ![3, 4096, 1024]⟩
abbrev S512x1024 : Shape := ⟨2, ![512, 1024]⟩
abbrev S1x1x1024 : Shape := ⟨3, ![1, 1, 1024]⟩
abbrev S1x8x128x128 : Shape := ⟨4, ![1, 8, 128, 128]⟩
abbrev S1x8x128x1 : Shape := ⟨4, ![1, 8, 128, 1]⟩
abbrev S2x512x1024 : Shape := ⟨3, ![2, 512, 1024]⟩
abbrev S512 : Shape := ⟨1, ![512]⟩
abbrev S512x1 : Shape := ⟨2, ![512, 1]⟩
abbrev S1x1024 : Shape := ⟨2, ![1, 1024]⟩
abbrev S128x128 : Shape := ⟨2, ![128, 128]⟩
abbrev S1x1x128x128 : Shape := ⟨4, ![1, 1, 128, 128]⟩
abbrev S1x1x128x1 : Shape := ⟨4, ![1, 1, 128, 1]⟩
abbrev S128x1 : Shape := ⟨2, ![128, 1]⟩
abbrev S1x128x128 : Shape := ⟨3, ![1, 128, 128]⟩
abbrev S1x512x1024 : Shape := ⟨3, ![1, 512, 1024]⟩
abbrev S2x4096x1024 : Shape := ⟨3, ![2, 4096, 1024]⟩

abbrev nBuf : Space → Nat
  | .hbm => 15
  | .vmem => 14
  | .smem => 0
  | _ => 0

abbrev bufTy : (tb : Table) → Fin (tcTables nBuf tb) → BufTy
  | .hbm, ⟨0, _⟩ => ⟨S4096x13312, .f32⟩
  | .hbm, ⟨1, _⟩ => ⟨S4096x1024, .f32⟩
  | .hbm, ⟨2, _⟩ => ⟨S4x1024, .f32⟩
  | .hbm, ⟨3, _⟩ => ⟨S4x1024, .f32⟩
  | .hbm, ⟨4, _⟩ => ⟨S4x8x128x128, .f32⟩
  | .hbm, ⟨5, _⟩ => ⟨S4x8x128, .f32⟩
  | .hbm, ⟨6, _⟩ => ⟨S4x1024, .f32⟩
  | .hbm, ⟨7, _⟩ => ⟨S4x1024, .f32⟩
  | .hbm, ⟨8, _⟩ => ⟨S4x1x1024, .f32⟩
  | .hbm, ⟨9, _⟩ => ⟨S4x1x1024, .f32⟩
  | .hbm, ⟨10, _⟩ => ⟨S4x8x128x1, .f32⟩
  | .hbm, ⟨11, _⟩ => ⟨S4x1x1024, .f32⟩
  | .hbm, ⟨12, _⟩ => ⟨S4x1x1024, .f32⟩
  | .hbm, ⟨13, _⟩ => ⟨S3x4096x1024, .bf16⟩
  | .hbm, ⟨14, _⟩ => ⟨S2x4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x8x128x128, .f32⟩
  | .local _ .vmem, ⟨9, _⟩ => ⟨S1x8x128x1, .f32⟩
  | .local _ .vmem, ⟨10, _⟩ => ⟨S1x1x1024, .f32⟩
  | .local _ .vmem, ⟨11, _⟩ => ⟨S1x1x1024, .f32⟩
  | .local _ .vmem, ⟨12, _⟩ => ⟨S2x512x1024, .bf16⟩
  | .local _ .vmem, ⟨13, _⟩ => ⟨S2x512x1024, .bf16⟩
  | _, _ => ⟨S4096x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_6 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixerRowsFwdRefIdeal.lean ====
abbrev S4096x13312 : Shape := ⟨2, ![4096, 13312]⟩
abbrev S4096x1024 : Shape := ⟨2, ![4096, 1024]⟩
abbrev S4x1024 : Shape := ⟨2, ![4, 1024]⟩
abbrev S4x8x128x128 : Shape := ⟨4, ![4, 8, 128, 128]⟩
abbrev S4x8x128 : Shape := ⟨3, ![4, 8, 128]⟩
abbrev S1x1024 : Shape := ⟨2, ![1, 1024]⟩
abbrev S1024 : Shape := ⟨1, ![1024]⟩
abbrev S1x8x128x128 : Shape := ⟨4, ![1, 8, 128, 128]⟩
abbrev S8x128x128 : Shape := ⟨3, ![8, 128, 128]⟩
abbrev S1x8x128 : Shape := ⟨3, ![1, 8, 128]⟩
abbrev S8x128 : Shape := ⟨2, ![8, 128]⟩
abbrev S_ : Shape := ⟨0, ![]⟩
abbrev S4096 : Shape := ⟨1, ![4096]⟩
abbrev S4096x1 : Shape := ⟨2, ![4096, 1]⟩
abbrev S32x128x8x128 : Shape := ⟨4, ![32, 128, 8, 128]⟩
abbrev S8x32x128x128 : Shape := ⟨4, ![8, 32, 128, 128]⟩
abbrev S128x8 : Shape := ⟨2, ![128, 8]⟩
abbrev S128x8x1 : Shape := ⟨3, ![128, 8, 1]⟩
abbrev S1x128x8x1 : Shape := ⟨4, ![1, 128, 8, 1]⟩
abbrev S1x4096x1024 : Shape := ⟨3, ![1, 4096, 1024]⟩
abbrev S2x4096x1024 : Shape := ⟨3, ![2, 4096, 1024]⟩

abbrev nBuf : Space → Nat
  | .hbm => 109
  | .vmem => 0
  | .smem => 0
  | _ => 0

abbrev bufTy : (tb : Table) → Fin (tcTables nBuf tb) → BufTy
  | .hbm, ⟨0, _⟩ => ⟨S4096x13312, .f32⟩
  | .hbm, ⟨1, _⟩ => ⟨S4096x1024, .f32⟩
  | .hbm, ⟨2, _⟩ => ⟨S4x1024, .f32⟩
  | .hbm, ⟨3, _⟩ => ⟨S4x1024, .f32⟩
  | .hbm, ⟨4, _⟩ => ⟨S4x8x128x128, .f32⟩
  | .hbm, ⟨5, _⟩ => ⟨S4x8x128, .f32⟩
  | .hbm, ⟨6, _⟩ => ⟨S4x1024, .f32⟩
  | .hbm, ⟨7, _⟩ => ⟨S4x1024, .f32⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S1x8x128x128, .f32⟩
  | .hbm, ⟨15, _⟩ => ⟨S8x128x128, .f32⟩
  | .hbm, ⟨16, _⟩ => ⟨S1x8x128, .f32⟩
  | .hbm, ⟨17, _⟩ => ⟨S8x128, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S32x128x8x128, .f32⟩
  | .hbm, ⟨48, _⟩ => ⟨S8x128x128, .i32⟩
  | .hbm, ⟨49, _⟩ => ⟨S8x128x128, .i32⟩
  | .hbm, ⟨50, _⟩ => ⟨S8x128x128, .i1⟩
  | .hbm, ⟨51, _⟩ => ⟨S_, .f32⟩
  | .hbm, ⟨52, _⟩ => ⟨S8x128x128, .f32⟩
  | .hbm, ⟨53, _⟩ => ⟨S8x128x128, .f32⟩
  | .hbm, ⟨54, _⟩ => ⟨S8x32x128x128, .f32⟩
  | .hbm, ⟨55, _⟩ => ⟨S32x128x8x128, .f32⟩
  | .hbm, ⟨56, _⟩ => ⟨S128x8, .f32⟩
  | .hbm, ⟨57, _⟩ => ⟨S128x8x1, .f32⟩
  | .hbm, ⟨58, _⟩ => ⟨S1x128x8x1, .f32⟩
  | .hbm, ⟨59, _⟩ => ⟨S32x128x8x128, .f32⟩
  | .hbm, ⟨60, _⟩ => ⟨S32x128x8x128, .f32⟩
  | .hbm, ⟨61, _⟩ => ⟨S4096x1024, .f32⟩
  | .hbm, ⟨62, _⟩ => ⟨S4096x1024, .f32⟩
  | .hbm, ⟨63, _⟩ => ⟨S1x1024, .f32⟩
  | .hbm, ⟨64, _⟩ => ⟨S1024, .f32⟩
  | .hbm, ⟨65, _⟩ => ⟨S1x1024, .f32⟩
  | .hbm, ⟨66, _⟩ => ⟨S1024, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S4096, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S4096x1024, .f32⟩
  | .hbm, ⟨83, _⟩ => ⟨S4096x1024, .f32⟩
  | .hbm, ⟨84, _⟩ => ⟨S_, .f32⟩
  | .hbm, ⟨85, _⟩ => ⟨S4096x1, .f32⟩
  | .hbm, ⟨86, _⟩ => ⟨S4096x1, .f32⟩
  | .hbm, ⟨87, _⟩ => ⟨S4096x1, .f32⟩
  | .hbm, ⟨88, _⟩ => ⟨S4096x1024, .f32⟩
  | .hbm, ⟨89, _⟩ => ⟨S4096x1024, .f32⟩
  | .hbm, ⟨90, _⟩ => ⟨S1x1024, .f32⟩
  | .hbm, ⟨91, _⟩ => ⟨S4096x1024, .f32⟩
  | .hbm, ⟨92, _⟩ => ⟨S4096x1024, .f32⟩
  | .hbm, ⟨93, _⟩ => ⟨S1x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S_, .f32⟩
  | .hbm, ⟨99, _⟩ => ⟨S4096x1024, .f32⟩
  | .hbm, ⟨100, _⟩ => ⟨S4096x1024, .f32⟩
  | .hbm, ⟨101, _⟩ => ⟨S_, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S1x4096x1024, .f32⟩
  | .hbm, ⟨106, _⟩ => ⟨S1x4096x1024, .f32⟩
  | .hbm, ⟨107, _⟩ => ⟨S2x4096x1024, .f32⟩
  | .hbm, ⟨108, _⟩ => ⟨S2x4096x1024, .bf16⟩
  | _, _ => ⟨S4096x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_5 : Ref sig .tc := ⟨.hbm, 67, rfl⟩
abbrev main_v53 : Ref sig .tc := ⟨.hbm, 68, rfl⟩
abbrev main_v54 : Ref sig .tc := ⟨.hbm, 69, rfl⟩
abbrev main_cst_6 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_7 : Ref sig .tc := ⟨.hbm, 76, rfl⟩
abbrev main_v60 : Ref sig .tc := ⟨.hbm, 77, rfl⟩
abbrev main_v61 : Ref sig .tc := ⟨.hbm, 78, rfl⟩
abbrev main_cst_8 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_9 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_10 : Ref sig .tc := ⟨.hbm, 98, rfl⟩
abbrev main_v79 : Ref sig .tc := ⟨.hbm, 99, rfl⟩
abbrev main_v80 : Ref sig .tc := ⟨.hbm, 100, rfl⟩
abbrev main_cst_11 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩

abbrev nD : Nat := 1
abbrev τ : Topo := Topo.v7x

variable {F : FTy → Type} [FloatOps F]
-- ==== ShortConvFwd.lean ====
abbrev S3x4096x1024 : Shape := ⟨3, ![3, 4096, 1024]⟩
abbrev S4096x13312 : Shape := ⟨2, ![4096, 13312]⟩
abbrev S4x3x1024 : Shape := ⟨3, ![4, 3, 1024]⟩
abbrev S4096x128 : Shape := ⟨2, ![4096, 128]⟩
abbrev S1x3x128 : Shape := ⟨3, ![1, 3, 128]⟩
abbrev S1x4096x128 : Shape := ⟨3, ![1, 4096, 128]⟩
abbrev S4128x128 : Shape := ⟨2, ![4128, 128]⟩
abbrev S32x128 : Shape := ⟨2, ![32, 128]⟩
abbrev S1x1x128 : Shape := ⟨3, ![1, 1, 128]⟩
abbrev S1x128 : Shape := ⟨2, ![1, 128]⟩
abbrev S256x128 : Shape := ⟨2, ![256, 128]⟩
abbrev S1x256x128 : Shape := ⟨3, ![1, 256, 128]⟩

abbrev nBuf : Space → Nat
  | .hbm => 5
  | .vmem => 11
  | .smem => 0
  | _ => 0

abbrev bufTy : (tb : Table) → Fin (tcTables nBuf tb) → BufTy
  | .hbm, ⟨0, _⟩ => ⟨S3x4096x1024, .f32⟩
  | .hbm, ⟨1, _⟩ => ⟨S4096x13312, .f32⟩
  | .hbm, ⟨2, _⟩ => ⟨S4x3x1024, .f32⟩
  | .hbm, ⟨3, _⟩ => ⟨S3x4096x1024, .bf16⟩
  | .hbm, ⟨4, _⟩ => ⟨S3x4096x1024, .bf16⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x3x128, .f32⟩
  | .local _ .vmem, ⟨7, _⟩ => ⟨S1x3x128, .f32⟩
  | .local _ .vmem, ⟨8, _⟩ => ⟨S1x4096x128, .bf16⟩
  | .local _ .vmem, ⟨9, _⟩ => ⟨S1x4096x128, .bf16⟩
  | .local _ .vmem, ⟨10, _⟩ => ⟨S4128x128, .f32⟩
  | _, _ => ⟨S3x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat, arg0.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ShortConvFwdRefIdeal.lean ====
abbrev S3x4096x1024 : Shape := ⟨3, ![3, 4096, 1024]⟩
abbrev S4096x13312 : Shape := ⟨2, ![4096, 13312]⟩
abbrev S4x3x1024 : Shape := ⟨3, ![4, 3, 1024]⟩
abbrev S4096x1024 : Shape := ⟨2, ![4096, 1024]⟩
abbrev S1x3x1024 : Shape := ⟨3, ![1, 3, 1024]⟩
abbrev S3x1024 : Shape := ⟨2, ![3, 1024]⟩
abbrev S_ : Shape := ⟨0, ![]⟩
abbrev S2x1024 : Shape := ⟨2, ![2, 1024]⟩
abbrev S4098x1024 : Shape := ⟨2, ![4098, 1024]⟩
abbrev S3 : Shape := ⟨1, ![3]⟩
abbrev S3x1 : Shape := ⟨2, ![3, 1]⟩
abbrev S4096 : Shape := ⟨1, ![4096]⟩
abbrev S1x4096 : Shape := ⟨2, ![1, 4096]⟩
abbrev S3x4096 : Shape := ⟨2, ![3, 4096]⟩
abbrev S3x4096x1 : Shape := ⟨3, ![3, 4096, 1]⟩
abbrev S3x1x1024 : Shape := ⟨3, ![3, 1, 1024]⟩
abbrev S2x4096x1024 : Shape := ⟨3, ![2, 4096, 1024]⟩
abbrev S1x4096x1024 : Shape := ⟨3, ![1, 4096, 1024]⟩

abbrev nBuf : Space → Nat
  | .hbm => 38
  | .vmem => 0
  | .smem => 0
  | _ => 0

abbrev bufTy : (tb : Table) → Fin (tcTables nBuf tb) → BufTy
  | .hbm, ⟨0, _⟩ => ⟨S3x4096x1024, .f32⟩
  | .hbm, ⟨1, _⟩ => ⟨S4096x13312, .f32⟩
  | .hbm, ⟨2, _⟩ => ⟨S4x3x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1x3x1024, .f32⟩
  | .hbm, ⟨7, _⟩ => ⟨S3x1024, .f32⟩
  | .hbm, ⟨8, _⟩ => ⟨S4096x1024, .f32⟩
  | .hbm, ⟨9, _⟩ => ⟨S_, .f32⟩
  | .hbm, ⟨10, _⟩ => ⟨S2x1024, .f32⟩
  | .hbm, ⟨11, _⟩ => ⟨S4098x1024, .f32⟩
  | .hbm, ⟨12, _⟩ => ⟨S3, .i32⟩
  | .hbm, ⟨13, _⟩ => ⟨S3x1, .i32⟩
  | .hbm, ⟨14, _⟩ => ⟨S4096, .i32⟩
  | .hbm, ⟨15, _⟩ => ⟨S1x4096, .i32⟩
  | .hbm, ⟨16, _⟩ => ⟨S3x4096, .i32⟩
  | .hbm, ⟨17, _⟩ => ⟨S3x4096, .i32⟩
  | .hbm, ⟨18, _⟩ => ⟨S3x4096, .i32⟩
  | .hbm, ⟨19, _⟩ => ⟨S_, .i32⟩
  | .hbm, ⟨20, _⟩ => ⟨S3x4096, .i32⟩
  | .hbm, ⟨21, _⟩ => ⟨S3x4096, .i1⟩
  | .hbm, ⟨22, _⟩ => ⟨S_, .i32⟩
  | .hbm, ⟨23, _⟩ => ⟨S3x4096, .i32⟩
  | .hbm, ⟨24, _⟩ => ⟨S3x4096, .i32⟩
  | .hbm, ⟨25, _⟩ => ⟨S3x4096, .i32⟩
  | .hbm, ⟨26, _⟩ => ⟨S3x4096x1, .i32⟩
  | .hbm, ⟨27, _⟩ => ⟨S3x4096x1024, .f32⟩
  | .hbm, ⟨28, _⟩ => ⟨S3x1x1024, .f32⟩
  | .hbm, ⟨29, _⟩ => ⟨S3x4096x1024, .f32⟩
  | .hbm, ⟨30, _⟩ => ⟨S3x4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S2x4096x1024, .f32⟩
  | .hbm, ⟨35, _⟩ => ⟨S1x4096x1024, .f32⟩
  | .hbm, ⟨36, _⟩ => ⟨S3x4096x1024, .f32⟩
  | .hbm, ⟨37, _⟩ => ⟨S3x4096x1024, .bf16⟩
  | _, _ => ⟨S3x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]
-- ==== MmIn.lean ====
abbrev S4096x2048 : Shape := ⟨2, ![4096, 2048]⟩
abbrev S2048x13312 : Shape := ⟨2, ![2048, 13312]⟩
abbrev S4096x13312 : Shape := ⟨2, ![4096, 13312]⟩
abbrev S2048x2048 : Shape := ⟨2, ![2048, 2048]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x13312, .f32⟩
  | .hbm, ⟨2, _⟩ => ⟨S4096x2048, .bf16⟩
  | .hbm, ⟨3, _⟩ => ⟨S2048x13312, .bf16⟩
  | .hbm, ⟨4, _⟩ => ⟨S4096x13312, .f32⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .f32⟩
  | .local _ .vmem, ⟨5, _⟩ => ⟨S2048x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![13, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmInRefIdeal.lean ====
abbrev S4096x2048 : Shape := ⟨2, ![4096, 2048]⟩
abbrev S2048x13312 : Shape := ⟨2, ![2048, 13312]⟩
abbrev S4096x13312 : Shape := ⟨2, ![4096, 13312]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x13312, .f32⟩
  | .hbm, ⟨2, _⟩ => ⟨S4096x13312, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MmOutDgrad.lean ====
abbrev S4096x2048 : Shape := ⟨2, ![4096, 2048]⟩
abbrev S2048x2048 : Shape := ⟨2, ![2048, 2048]⟩
abbrev S1024x2048 : Shape := ⟨2, ![1024, 2048]⟩

abbrev nBuf : Space → Nat
  | .hbm => 6
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S2048x2048, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MmOutDgradRefIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== FfnOutWgrad.lean ====
abbrev S4096x5632 : Shape := ⟨2, ![4096, 5632]⟩
abbrev S5632x2048 : Shape := ⟨2, ![5632, 2048]⟩
abbrev S4096x2048 : Shape := ⟨2, ![4096, 2048]⟩
abbrev S1024x1408 : Shape := ⟨2, ![1024, 1408]⟩
abbrev S1024x2048 : Shape := ⟨2, ![1024, 2048]⟩
abbrev S1408x2048 : Shape := ⟨2, ![1408, 2048]⟩

abbrev nBuf : Space → Nat
  | .hbm => 6
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x5632, .bf16⟩
  | .hbm, ⟨4, _⟩ => ⟨S4096x2048, .bf16⟩
  | .hbm, ⟨5, _⟩ => ⟨S5632x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x2048, .bf16⟩
  | .local _ .vmem, ⟨3, _⟩ => ⟨S1024x2048, .bf16⟩
  | .local _ .vmem, ⟨4, _⟩ => ⟨S1408x2048, .bf16⟩
  | .local _ .vmem, ⟨5, _⟩ => ⟨S1408x2048, .bf16⟩
  | .local _ .vmem, ⟨6, _⟩ => ⟨S1408x2048, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnOutWgradRefIdeal.lean ====
abbrev S4096x5632 : Shape := ⟨2, ![4096, 5632]⟩
abbrev S5632x2048 : Shape := ⟨2, ![5632, 2048]⟩
abbrev S4096x2048 : Shape := ⟨2, ![4096, 2048]⟩
abbrev S2048x5632 : Shape := ⟨2, ![2048, 5632]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x2048, .f32⟩
  | .hbm, ⟨4, _⟩ => ⟨S2048x5632, .f32⟩
  | .hbm, ⟨5, _⟩ => ⟨S5632x2048, .f32⟩
  | .hbm, ⟨6, _⟩ => ⟨S5632x2048, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== BranchDgrad.lean ====
abbrev S3x4096x1024 : Shape := ⟨3, ![3, 4096, 1024]⟩
abbrev S3x1024x2048 : Shape := ⟨3, ![3, 1024, 2048]⟩
abbrev S3x4096x2048 : Shape := ⟨3, ![3, 4096, 2048]⟩
abbrev S1x1024x2048 : Shape := ⟨3, ![1, 1024, 2048]⟩
abbrev S1x1024x1024 : Shape := ⟨3, ![1, 1024, 1024]⟩
abbrev S1024x2048 : Shape := ⟨2, ![1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S3x4096x1024, .f32⟩
  | .hbm, ⟨1, _⟩ => ⟨S3x1024x2048, .f32⟩
  | .hbm, ⟨2, _⟩ => ⟨S3x4096x2048, .f32⟩
  | .hbm, ⟨3, _⟩ => ⟨S3x4096x2048, .bf16⟩
  | .hbm, ⟨4, _⟩ => ⟨S3x1024x2048, .bf16⟩
  | .hbm, ⟨5, _⟩ => ⟨S3x4096x1024, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x1024, .f32⟩
  | .local _ .vmem, ⟨5, _⟩ => ⟨S1x1024x1024, .f32⟩
  | _, _ => ⟨S3x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BranchDgradRefIdeal.lean ====
abbrev S3x4096x1024 : Shape := ⟨3, ![3, 4096, 1024]⟩
abbrev S3x1024x2048 : Shape := ⟨3, ![3, 1024, 2048]⟩
abbrev S3x4096x2048 : Shape := ⟨3, ![3, 4096, 2048]⟩
abbrev S1x4096x1024 : Shape := ⟨3, ![1, 4096, 1024]⟩
abbrev S4096x1024 : Shape := ⟨2, ![4096, 1024]⟩
abbrev S4096x1x1024 : Shape := ⟨3, ![4096, 1, 1024]⟩
abbrev S4096x3x1024 : Shape := ⟨3, ![4096, 3, 1024]⟩
abbrev S3x2048x4096 : Shape := ⟨3, ![3, 2048, 4096]⟩
abbrev S4096x3x2048 : Shape := ⟨3, ![4096, 3, 2048]⟩

abbrev nBuf : Space → Nat
  | .hbm => 40
  | .vmem => 0
  | .smem => 0
  | _ => 0

abbrev bufTy : (tb : Table) → Fin (tcTables nBuf tb) → BufTy
  | .hbm, ⟨0, _⟩ => ⟨S3x4096x1024, .f32⟩
  | .hbm, ⟨1, _⟩ => ⟨S3x1024x2048, .f32⟩
  | .hbm, ⟨2, _⟩ => ⟨S3x4096x2048, .f32⟩
  | .hbm, ⟨3, _⟩ => ⟨S1x4096x1024, .f32⟩
  | .hbm, ⟨4, _⟩ => ⟨S4096x1024, .f32⟩
  | .hbm, ⟨5, _⟩ => ⟨S1x4096x1024, .f32⟩
  | .hbm, ⟨6, _⟩ => ⟨S4096x1024, .f32⟩
  | .hbm, ⟨7, _⟩ => ⟨S1x4096x1024, .f32⟩
  | .hbm, ⟨8, _⟩ => ⟨S4096x1024, .f32⟩
  | .hbm, ⟨9, _⟩ => ⟨S4096x1x1024, .f32⟩
  | .hbm, ⟨10, _⟩ => ⟨S4096x1x1024, .f32⟩
  | .hbm, ⟨11, _⟩ => ⟨S4096x1x1024, .f32⟩
  | .hbm, ⟨12, _⟩ => ⟨S4096x3x1024, .f32⟩
  | .hbm, ⟨13, _⟩ => ⟨S3x2048x4096, .f32⟩
  | .hbm, ⟨14, _⟩ => ⟨S4096x3x2048, .f32⟩
  | .hbm, ⟨15, _⟩ => ⟨S3x4096x2048, .f32⟩
  | .hbm, ⟨16, _⟩ => ⟨S4096x3x2048, .f32⟩
  | .hbm, ⟨17, _⟩ => ⟨S3x2048x4096, .f32⟩
  | .hbm, ⟨18, _⟩ => ⟨S3x4096x1024, .f32⟩
  | .hbm, ⟨19, _⟩ => ⟨S4096x3x1024, .f32⟩
  | .hbm, ⟨20, _⟩ => ⟨S4096x1x1024, .f32⟩
  | .hbm, ⟨21, _⟩ => ⟨S4096x1024, .f32⟩
  | .hbm, ⟨22, _⟩ => ⟨S4096x1x1024, .f32⟩
  | .hbm, ⟨23, _⟩ => ⟨S4096x1024, .f32⟩
  | .hbm, ⟨24, _⟩ => ⟨S4096x1x1024, .f32⟩
  | .hbm, ⟨25, _⟩ => ⟨S4096x1024, .f32⟩
  | .hbm, ⟨26, _⟩ => ⟨S1x4096x1024, .f32⟩
  | .hbm, ⟨27, _⟩ => ⟨S1x4096x1024, .f32⟩
  | .hbm, ⟨28, _⟩ => ⟨S1x4096x1024, .f32⟩
  | .hbm, ⟨29, _⟩ => ⟨S3x4096x1024, .f32⟩
  | .hbm, ⟨30, _⟩ => ⟨S1x4096x1024, .f32⟩
  | .hbm, ⟨31, _⟩ => ⟨S4096x1024, .f32⟩
  | .hbm, ⟨32, _⟩ => ⟨S1x4096x1024, .f32⟩
  | .hbm, ⟨33, _⟩ => ⟨S4096x1024, .f32⟩
  | .hbm, ⟨34, _⟩ => ⟨S1x4096x1024, .f32⟩
  | .hbm, ⟨35, _⟩ => ⟨S4096x1024, .f32⟩
  | .hbm, ⟨36, _⟩ => ⟨S1x4096x1024, .f32⟩
  | .hbm, ⟨37, _⟩ => ⟨S1x4096x1024, .f32⟩
  | .hbm, ⟨38, _⟩ => ⟨S1x4096x1024, .f32⟩
  | .hbm, ⟨39, _⟩ => ⟨S3x4096x1024, .f32⟩
  | _, _ => ⟨S3x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩

abbrev nD : Nat := 1
abbrev τ : Topo := Topo.v7x

variable {F : FTy → Type} [FloatOps F]
-- ==== BranchWgrad.lean ====
abbrev S3x4096x1024 : Shape := ⟨3, ![3, 4096, 1024]⟩
abbrev S3x1024x2048 : Shape := ⟨3, ![3, 1024, 2048]⟩
abbrev S3x4096x2048 : Shape := ⟨3, ![3, 4096, 2048]⟩
abbrev S1x1024x1024 : Shape := ⟨3, ![1, 1024, 1024]⟩
abbrev S1x1024x2048 : Shape := ⟨3, ![1, 1024, 2048]⟩
abbrev S1024x2048 : Shape := ⟨2, ![1024, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S3x4096x1024, .f32⟩
  | .hbm, ⟨1, _⟩ => ⟨S3x1024x2048, .f32⟩
  | .hbm, ⟨2, _⟩ => ⟨S3x4096x2048, .f32⟩
  | .hbm, ⟨3, _⟩ => ⟨S3x4096x1024, .bf16⟩
  | .hbm, ⟨4, _⟩ => ⟨S3x4096x2048, .bf16⟩
  | .hbm, ⟨5, _⟩ => ⟨S3x1024x2048, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1024x2048, .f32⟩
  | _, _ => ⟨S3x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, arg1.toNat, c0_i32_3.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== BranchWgradRefIdeal.lean ====
abbrev S3x4096x1024 : Shape := ⟨3, ![3, 4096, 1024]⟩
abbrev S3x1024x2048 : Shape := ⟨3, ![3, 1024, 2048]⟩
abbrev S3x4096x2048 : Shape := ⟨3, ![3, 4096, 2048]⟩
abbrev S1x4096x1024 : Shape := ⟨3, ![1, 4096, 1024]⟩
abbrev S4096x1024 : Shape := ⟨2, ![4096, 1024]⟩
abbrev S4096x1x1024 : Shape := ⟨3, ![4096, 1, 1024]⟩
abbrev S4096x3x1024 : Shape := ⟨3, ![4096, 3, 1024]⟩
abbrev S3x2048x4096 : Shape := ⟨3, ![3, 2048, 4096]⟩
abbrev S4096x3x2048 : Shape := ⟨3, ![4096, 3, 2048]⟩
abbrev S3x2048x1024 : Shape := ⟨3, ![3, 2048, 1024]⟩

abbrev nBuf : Space → Nat
  | .hbm => 21
  | .vmem => 0
  | .smem => 0
  | _ => 0

abbrev bufTy : (tb : Table) → Fin (tcTables nBuf tb) → BufTy
  | .hbm, ⟨0, _⟩ => ⟨S3x4096x1024, .f32⟩
  | .hbm, ⟨1, _⟩ => ⟨S3x1024x2048, .f32⟩
  | .hbm, ⟨2, _⟩ => ⟨S3x4096x2048, .f32⟩
  | .hbm, ⟨3, _⟩ => ⟨S1x4096x1024, .f32⟩
  | .hbm, ⟨4, _⟩ => ⟨S4096x1024, .f32⟩
  | .hbm, ⟨5, _⟩ => ⟨S1x4096x1024, .f32⟩
  | .hbm, ⟨6, _⟩ => ⟨S4096x1024, .f32⟩
  | .hbm, ⟨7, _⟩ => ⟨S1x4096x1024, .f32⟩
  | .hbm, ⟨8, _⟩ => ⟨S4096x1024, .f32⟩
  | .hbm, ⟨9, _⟩ => ⟨S4096x1x1024, .f32⟩
  | .hbm, ⟨10, _⟩ => ⟨S4096x1x1024, .f32⟩
  | .hbm, ⟨11, _⟩ => ⟨S4096x1x1024, .f32⟩
  | .hbm, ⟨12, _⟩ => ⟨S4096x3x1024, .f32⟩
  | .hbm, ⟨13, _⟩ => ⟨S3x2048x4096, .f32⟩
  | .hbm, ⟨14, _⟩ => ⟨S4096x3x2048, .f32⟩
  | .hbm, ⟨15, _⟩ => ⟨S3x4096x2048, .f32⟩
  | .hbm, ⟨16, _⟩ => ⟨S4096x3x2048, .f32⟩
  | .hbm, ⟨17, _⟩ => ⟨S3x2048x4096, .f32⟩
  | .hbm, ⟨18, _⟩ => ⟨S3x2048x1024, .f32⟩
  | .hbm, ⟨19, _⟩ => ⟨S3x1024x2048, .f32⟩
  | .hbm, ⟨20, _⟩ => ⟨S3x1024x2048, .bf16⟩
  | _, _ => ⟨S3x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]
-- ==== MmInWgrad.lean ====
abbrev S4096x2048 : Shape := ⟨2, ![4096, 2048]⟩
abbrev S2048x13312 : Shape := ⟨2, ![2048, 13312]⟩
abbrev S4096x13312 : Shape := ⟨2, ![4096, 13312]⟩
abbrev S4096x7168 : Shape := ⟨2, ![4096, 7168]⟩
abbrev S4096x7x1024 : Shape := ⟨3, ![4096, 7, 1024]⟩
abbrev S7x4096x1024 : Shape := ⟨3, ![7, 4096, 1024]⟩
abbrev S3x4096x1024 : Shape := ⟨3, ![3, 4096, 1024]⟩
abbrev S2x4096x1024 : Shape := ⟨3, ![2, 4096, 1024]⟩
abbrev S4096x6144 : Shape := ⟨2, ![4096, 6144]⟩
abbrev S4096x3x2048 : Shape := ⟨3, ![4096, 3, 2048]⟩
abbrev S3x4096x2048 : Shape := ⟨3, ![3, 4096, 2048]⟩
abbrev S1024x2048 : Shape := ⟨2, ![1024, 2048]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 18
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S2048x13312, .f32⟩
  | .hbm, ⟨2, _⟩ => ⟨S4096x13312, .f32⟩
  | .hbm, ⟨3, _⟩ => ⟨S4096x7168, .f32⟩
  | .hbm, ⟨4, _⟩ => ⟨S4096x7x1024, .f32⟩
  | .hbm, ⟨5, _⟩ => ⟨S7x4096x1024, .f32⟩
  | .hbm, ⟨6, _⟩ => ⟨S3x4096x1024, .f32⟩
  | .hbm, ⟨7, _⟩ => ⟨S2x4096x1024, .f32⟩
  | .hbm, ⟨8, _⟩ => ⟨S2x4096x1024, .f32⟩
  | .hbm, ⟨9, _⟩ => ⟨S4096x6144, .f32⟩
  | .hbm, ⟨10, _⟩ => ⟨S4096x3x2048, .f32⟩
  | .hbm, ⟨11, _⟩ => ⟨S3x4096x2048, .f32⟩
  | .hbm, ⟨12, _⟩ => ⟨S3x4096x1024, .bf16⟩
  | .hbm, ⟨13, _⟩ => ⟨S2x4096x1024, .bf16⟩
  | .hbm, ⟨14, _⟩ => ⟨S2x4096x1024, .bf16⟩
  | .hbm, ⟨15, _⟩ => ⟨S3x4096x2048, .bf16⟩
  | .hbm, ⟨16, _⟩ => ⟨S4096x2048, .bf16⟩
  | .hbm, ⟨17, _⟩ => ⟨S2048x13312, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S2048x1024, .bf16⟩
  | .local _ .vmem, ⟨11, _⟩ => ⟨S2048x1024, .bf16⟩
  | .local _ .vmem, ⟨12, _⟩ => ⟨S2048x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![13, 4], ![false, false]⟩

def k0_cond6 (i : grid0.Coords) : BitVec 1 :=
  let arg1 : BitVec 32 := BitVec.ofNat 32 (i 1).val
  let c3_i32_9 : BitVec 32 := 3#32
  let v23 : BitVec 1 := Scalar.cmpi .eq arg1 c3_i32_9
  let v24 : BitVec 32 := Scalar.extui v23
  let c0_i32_10 : BitVec 32 := 0#32
  let v25 : BitVec 1 := Scalar.cmpi .ne v24 c0_i32_10
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c3_i32 : BitVec 32 := 3#32
  let v1 : BitVec 1 := Scalar.cmpi .slt arg0 c3_i32
  let v2 : BitVec 1 := Scalar.andi v0 v1
  let c0_i32_0 : BitVec 32 := 0#32
  let v3 : BitVec 32 := Scalar.subi arg0 c0_i32_0
  let c0_i32_1 : BitVec 32 := 0#32
  let c2_i32 : BitVec 32 := 2#32
  let v4 : BitVec 32 := Scalar.maxsi c0_i32_1 v3
  let v5 : BitVec 32 := Scalar.minsi c2_i32 v4
  let c1_i32 : BitVec 32 := 1#32
  let v6 : BitVec 32 := Scalar.divsi v5 c1_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c0_i32_4 : BitVec 32 := 0#32
  let v12 : BitVec 1 := Scalar.cmpi .sgt c1_i32 c0_i32_4
  let v13 : BitVec 32 := Scalar.extui v12
  let c0_i32_5 : BitVec 32 := 0#32
  let v14 : BitVec 1 := Scalar.cmpi .slt c1_i32 c0_i32_5
  let v15 : BitVec 32 := Scalar.extui v14
  let v16 : BitVec 32 := Scalar.subi v13 v15
  let v17 : BitVec 1 := Scalar.cmpi .ne v11 v16
  let v18 : BitVec 32 := Scalar.remsi v5 c1_i32
  let c0_i32_6 : BitVec 32 := 0#32
  let v19 : BitVec 1 := Scalar.cmpi .ne v18 c0_i32_6
  let v20 : BitVec 1 := Scalar.andi v17 v19
  let c1_i32_7 : BitVec 32 := 1#32
  let v21 : BitVec 32 := Scalar.subi v6 c1_i32_7
  let v22 : BitVec 32 := Scalar.select v20 v21 v6
  let c0_i32_8 : BitVec 32 := 0#32
  let v23 : BitVec 32 := Scalar.select v2 arg1 c0_i32_8
  let c1_i32_9 : BitVec 32 := 1#32
  let c0_i32_10 : BitVec 32 := 0#32
  let v24 : BitVec 1 := Scalar.cmpi .eq c1_i32_9 c0_i32_10
  let c1_i32_11 : BitVec 32 := 1#32
  let v25 : BitVec 32 := Scalar.select v24 c1_i32_11 c1_i32_9
  let v26 : BitVec 32 := Scalar.remsi v5 v25
  let c0_i32_12 : BitVec 32 := 0#32
  let v27 : BitVec 1 := Scalar.cmpi .ne v26 c0_i32_12
  let c0_i32_13 : BitVec 32 := 0#32
  let v28 : BitVec 1 := Scalar.cmpi .slt v26 c0_i32_13
  let c0_i32_14 : BitVec 32 := 0#32
  let v29 : BitVec 1 := Scalar.cmpi .slt v25 c0_i32_14
  let v30 : BitVec 1 := Scalar.xori v28 v29
  let v31 : BitVec 1 := Scalar.andi v30 v27
  let v32 : BitVec 32 := Scalar.addi v26 v25
  let v33 : BitVec 32 := Scalar.select v31 v32 v26
  let c0_i32_15 : BitVec 32 := 0#32
  ![v22.toNat, v23.toNat, v33.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .sge arg0 c3_i32
  let c5_i32 : BitVec 32 := 5#32
  let v1 : BitVec 1 := Scalar.cmpi .slt arg0 c5_i32
  let v2 : BitVec 1 := Scalar.andi v0 v1
  let c3_i32_0 : BitVec 32 := 3#32
  let v3 : BitVec 32 := Scalar.subi arg0 c3_i32_0
  let c0_i32 : BitVec 32 := 0#32
  let c1_i32 : BitVec 32 := 1#32
  let v4 : BitVec 32 := Scalar.maxsi c0_i32 v3
  let v5 : BitVec 32 := Scalar.minsi c1_i32 v4
  let c1_i32_1 : BitVec 32 := 1#32
  let v6 : BitVec 32 := Scalar.divsi v5 c1_i32_1
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c0_i32_4 : BitVec 32 := 0#32
  let v12 : BitVec 1 := Scalar.cmpi .sgt c1_i32_1 c0_i32_4
  let v13 : BitVec 32 := Scalar.extui v12
  let c0_i32_5 : BitVec 32 := 0#32
  let v14 : BitVec 1 := Scalar.cmpi .slt c1_i32_1 c0_i32_5
  let v15 : BitVec 32 := Scalar.extui v14
  let v16 : BitVec 32 := Scalar.subi v13 v15
  let v17 : BitVec 1 := Scalar.cmpi .ne v11 v16
  let v18 : BitVec 32 := Scalar.remsi v5 c1_i32_1
  let c0_i32_6 : BitVec 32 := 0#32
  let v19 : BitVec 1 := Scalar.cmpi .ne v18 c0_i32_6
  let v20 : BitVec 1 := Scalar.andi v17 v19
  let c1_i32_7 : BitVec 32 := 1#32
  let v21 : BitVec 32 := Scalar.subi v6 c1_i32_7
  let v22 : BitVec 32 := Scalar.select v20 v21 v6
  let c0_i32_8 : BitVec 32 := 0#32
  let v23 : BitVec 32 := Scalar.select v2 arg1 c0_i32_8
  let c1_i32_9 : BitVec 32 := 1#32
  let c0_i32_10 : BitVec 32 := 0#32
  let v24 : BitVec 1 := Scalar.cmpi .eq c1_i32_9 c0_i32_10
  let c1_i32_11 : BitVec 32 := 1#32
  let v25 : BitVec 32 := Scalar.select v24 c1_i32_11 c1_i32_9
  let v26 : BitVec 32 := Scalar.remsi v5 v25
  let c0_i32_12 : BitVec 32 := 0#32
  let v27 : BitVec 1 := Scalar.cmpi .ne v26 c0_i32_12
  let c0_i32_13 : BitVec 32 := 0#32
  let v28 : BitVec 1 := Scalar.cmpi .slt v26 c0_i32_13
  let c0_i32_14 : BitVec 32 := 0#32
  let v29 : BitVec 1 := Scalar.cmpi .slt v25 c0_i32_14
  let v30 : BitVec 1 := Scalar.xori v28 v29
  let v31 : BitVec 1 := Scalar.andi v30 v27
  let v32 : BitVec 32 := Scalar.addi v26 v25
  let v33 : BitVec 32 := Scalar.select v31 v32 v26
  let c0_i32_15 : BitVec 32 := 0#32
  ![v22.toNat, v23.toNat, v33.toNat]

def cc0_transform_3 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 1 := Scalar.cmpi .sge arg0 c5_i32
  let c7_i32 : BitVec 32 := 7#32
  let v1 : BitVec 1 := Scalar.cmpi .slt arg0 c7_i32
  let v2 : BitVec 1 := Scalar.andi v0 v1
  let c5_i32_0 : BitVec 32 := 5#32
  let v3 : BitVec 32 := Scalar.subi arg0 c5_i32_0
  let c0_i32 : BitVec 32 := 0#32
  let c1_i32 : BitVec 32 := 1#32
  let v4 : BitVec 32 := Scalar.maxsi c0_i32 v3
  let v5 : BitVec 32 := Scalar.minsi c1_i32 v4
  let c1_i32_1 : BitVec 32 := 1#32
  let v6 : BitVec 32 := Scalar.divsi v5 c1_i32_1
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c0_i32_4 : BitVec 32 := 0#32
  let v12 : BitVec 1 := Scalar.cmpi .sgt c1_i32_1 c0_i32_4
  let v13 : BitVec 32 := Scalar.extui v12
  let c0_i32_5 : BitVec 32 := 0#32
  let v14 : BitVec 1 := Scalar.cmpi .slt c1_i32_1 c0_i32_5
  let v15 : BitVec 32 := Scalar.extui v14
  let v16 : BitVec 32 := Scalar.subi v13 v15
  let v17 : BitVec 1 := Scalar.cmpi .ne v11 v16
  let v18 : BitVec 32 := Scalar.remsi v5 c1_i32_1
  let c0_i32_6 : BitVec 32 := 0#32
  let v19 : BitVec 1 := Scalar.cmpi .ne v18 c0_i32_6
  let v20 : BitVec 1 := Scalar.andi v17 v19
  let c1_i32_7 : BitVec 32 := 1#32
  let v21 : BitVec 32 := Scalar.subi v6 c1_i32_7
  let v22 : BitVec 32 := Scalar.select v20 v21 v6
  let c0_i32_8 : BitVec 32 := 0#32
  let v23 : BitVec 32 := Scalar.select v2 arg1 c0_i32_8
  let c1_i32_9 : BitVec 32 := 1#32
  let c0_i32_10 : BitVec 32 := 0#32
  let v24 : BitVec 1 := Scalar.cmpi .eq c1_i32_9 c0_i32_10
  let c1_i32_11 : BitVec 32 := 1#32
  let v25 : BitVec 32 := Scalar.select v24 c1_i32_11 c1_i32_9
  let v26 : BitVec 32 := Scalar.remsi v5 v25
  let c0_i32_12 : BitVec 32 := 0#32
  let v27 : BitVec 1 := Scalar.cmpi .ne v26 c0_i32_12
  let c0_i32_13 : BitVec 32 := 0#32
  let v28 : BitVec 1 := Scalar.cmpi .slt v26 c0_i32_13
  let c0_i32_14 : BitVec 32 := 0#32
  let v29 : BitVec 1 := Scalar.cmpi .slt v25 c0_i32_14
  let v30 : BitVec 1 := Scalar.xori v28 v29
  let v31 : BitVec 1 := Scalar.andi v30 v27
  let v32 : BitVec 32 := Scalar.addi v26 v25
  let v33 : BitVec 32 := Scalar.select v31 v32 v26
  let c0_i32_15 : BitVec 32 := 0#32
  ![v22.toNat, v23.toNat, v33.toNat]

def cc0_transform_4 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 1 := Scalar.cmpi .sge arg0 c7_i32
  let c13_i32 : BitVec 32 := 13#32
  let v1 : BitVec 1 := Scalar.cmpi .slt arg0 c13_i32
  let v2 : BitVec 1 := Scalar.andi v0 v1
  let c7_i32_0 : BitVec 32 := 7#32
  let v3 : BitVec 32 := Scalar.subi arg0 c7_i32_0
  let c0_i32 : BitVec 32 := 0#32
  let c5_i32 : BitVec 32 := 5#32
  let v4 : BitVec 32 := Scalar.maxsi c0_i32 v3
  let v5 : BitVec 32 := Scalar.minsi c5_i32 v4
  let c2_i32 : BitVec 32 := 2#32
  let v6 : BitVec 32 := Scalar.divsi v5 c2_i32
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c0_i32_3 : BitVec 32 := 0#32
  let v12 : BitVec 1 := Scalar.cmpi .sgt c2_i32 c0_i32_3
  let v13 : BitVec 32 := Scalar.extui v12
  let c0_i32_4 : BitVec 32 := 0#32
  let v14 : BitVec 1 := Scalar.cmpi .slt c2_i32 c0_i32_4
  let v15 : BitVec 32 := Scalar.extui v14
  let v16 : BitVec 32 := Scalar.subi v13 v15
  let v17 : BitVec 1 := Scalar.cmpi .ne v11 v16
  let v18 : BitVec 32 := Scalar.remsi v5 c2_i32
  let c0_i32_5 : BitVec 32 := 0#32
  let v19 : BitVec 1 := Scalar.cmpi .ne v18 c0_i32_5
  let v20 : BitVec 1 := Scalar.andi v17 v19
  let c1_i32 : BitVec 32 := 1#32
  let v21 : BitVec 32 := Scalar.subi v6 c1_i32
  let v22 : BitVec 32 := Scalar.select v20 v21 v6
  let c0_i32_6 : BitVec 32 := 0#32
  let v23 : BitVec 32 := Scalar.select v2 arg1 c0_i32_6
  let c2_i32_7 : BitVec 32 := 2#32
  let c0_i32_8 : BitVec 32 := 0#32
  let v24 : BitVec 1 := Scalar.cmpi .eq c2_i32_7 c0_i32_8
  let c1_i32_9 : BitVec 32 := 1#32
  let v25 : BitVec 32 := Scalar.select v24 c1_i32_9 c2_i32_7
  let v26 : BitVec 32 := Scalar.remsi v5 v25
  let c0_i32_10 : BitVec 32 := 0#32
  let v27 : BitVec 1 := Scalar.cmpi .ne v26 c0_i32_10
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let v31 : BitVec 1 := Scalar.andi v30 v27
  let v32 : BitVec 32 := Scalar.addi v26 v25
  let v33 : BitVec 32 := Scalar.select v31 v32 v26
  let c0_i32_13 : BitVec 32 := 0#32
  ![v22.toNat, v23.toNat, v33.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MmInWgradRefIdeal.lean ====
abbrev S4096x2048 : Shape := ⟨2, ![4096, 2048]⟩
abbrev S2048x13312 : Shape := ⟨2, ![2048, 13312]⟩
abbrev S4096x13312 : Shape := ⟨2, ![4096, 13312]⟩
abbrev S13312x2048 : Shape := ⟨2, ![13312, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x13312, .f32⟩
  | .hbm, ⟨2, _⟩ => ⟨S4096x13312, .f32⟩
  | .hbm, ⟨3, _⟩ => ⟨S4096x13312, .f32⟩
  | .hbm, ⟨4, _⟩ => ⟨S13312x2048, .f32⟩
  | .hbm, ⟨5, _⟩ => ⟨S2048x13312, .f32⟩
  | .hbm, ⟨6, _⟩ => ⟨S2048x13312, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MmInDgrad.lean ====
abbrev S4096x2048 : Shape := ⟨2, ![4096, 2048]⟩
abbrev S2048x13312 : Shape := ⟨2, ![2048, 13312]⟩
abbrev S4096x13312 : Shape := ⟨2, ![4096, 13312]⟩
abbrev S4096x7168 : Shape := ⟨2, ![4096, 7168]⟩
abbrev S4096x7x1024 : Shape := ⟨3, ![4096, 7, 1024]⟩
abbrev S7x4096x1024 : Shape := ⟨3, ![7, 4096, 1024]⟩
abbrev S3x4096x1024 : Shape := ⟨3, ![3, 4096, 1024]⟩
abbrev S2x4096x1024 : Shape := ⟨3, ![2, 4096, 1024]⟩
abbrev S4096x6144 : Shape := ⟨2, ![4096, 6144]⟩
abbrev S4096x3x2048 : Shape := ⟨3, ![4096, 3, 2048]⟩
abbrev S3x4096x2048 : Shape := ⟨3, ![3, 4096, 2048]⟩
abbrev S1x512x1024 : Shape := ⟨3, ![1, 512, 1024]⟩
abbrev S2048x1024 : Shape := ⟨2, ![2048, 1024]⟩
abbrev S512x2048 : Shape := ⟨2, ![512, 2048]⟩
abbrev S512x1024 : Shape := ⟨2, ![512, 1024]⟩

abbrev nBuf : Space → Nat
  | .hbm => 19
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S2048x13312, .f32⟩
  | .hbm, ⟨2, _⟩ => ⟨S4096x13312, .f32⟩
  | .hbm, ⟨3, _⟩ => ⟨S4096x2048, .f32⟩
  | .hbm, ⟨4, _⟩ => ⟨S4096x7168, .f32⟩
  | .hbm, ⟨5, _⟩ => ⟨S4096x7x1024, .f32⟩
  | .hbm, ⟨6, _⟩ => ⟨S7x4096x1024, .f32⟩
  | .hbm, ⟨7, _⟩ => ⟨S3x4096x1024, .f32⟩
  | .hbm, ⟨8, _⟩ => ⟨S2x4096x1024, .f32⟩
  | .hbm, ⟨9, _⟩ => ⟨S2x4096x1024, .f32⟩
  | .hbm, ⟨10, _⟩ => ⟨S4096x6144, .f32⟩
  | .hbm, ⟨11, _⟩ => ⟨S4096x3x2048, .f32⟩
  | .hbm, ⟨12, _⟩ => ⟨S3x4096x2048, .f32⟩
  | .hbm, ⟨13, _⟩ => ⟨S3x4096x1024, .bf16⟩
  | .hbm, ⟨14, _⟩ => ⟨S2x4096x1024, .bf16⟩
  | .hbm, ⟨15, _⟩ => ⟨S2x4096x1024, .bf16⟩
  | .hbm, ⟨16, _⟩ => ⟨S3x4096x2048, .bf16⟩
  | .hbm, ⟨17, _⟩ => ⟨S2048x13312, .bf16⟩
  | .hbm, ⟨18, _⟩ => ⟨S4096x2048, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S2048x1024, .bf16⟩
  | .local _ .vmem, ⟨9, _⟩ => ⟨S2048x1024, .bf16⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 13], ![false, false]⟩

def k0_cond6 (i : grid0.Coords) : BitVec 1 :=
  let arg1 : BitVec 32 := BitVec.ofNat 32 (i 1).val
  let c12_i32 : BitVec 32 := 12#32
  let v23 : BitVec 1 := Scalar.cmpi .eq arg1 c12_i32
  let v24 : BitVec 32 := Scalar.extui v23
  let c0_i32_9 : BitVec 32 := 0#32
  let v25 : BitVec 1 := Scalar.cmpi .ne v24 c0_i32_9
  v25

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c2_i32 : BitVec 32 := 2#32
  let v1 : BitVec 32 := Scalar.maxsi c0_i32_0 v0
  let v2 : BitVec 32 := Scalar.minsi c2_i32 v1
  let c1_i32 : BitVec 32 := 1#32
  let v3 : BitVec 32 := Scalar.divsi v2 c1_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c1_i32 c0_i32_3
  let v10 : BitVec 32 := Scalar.extui v9
  let c0_i32_4 : BitVec 32 := 0#32
  let v11 : BitVec 1 := Scalar.cmpi .slt c1_i32 c0_i32_4
  let v12 : BitVec 32 := Scalar.extui v11
  let v13 : BitVec 32 := Scalar.subi v10 v12
  let v14 : BitVec 1 := Scalar.cmpi .ne v8 v13
  let v15 : BitVec 32 := Scalar.remsi v2 c1_i32
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c1_i32_7 : BitVec 32 := 1#32
  let c0_i32_8 : BitVec 32 := 0#32
  let v20 : BitVec 1 := Scalar.cmpi .eq c1_i32_7 c0_i32_8
  let c1_i32_9 : BitVec 32 := 1#32
  let v21 : BitVec 32 := Scalar.select v20 c1_i32_9 c1_i32_7
  let v22 : BitVec 32 := Scalar.remsi v2 v21
  let c0_i32_10 : BitVec 32 := 0#32
  let v23 : BitVec 1 := Scalar.cmpi .ne v22 c0_i32_10
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let v27 : BitVec 1 := Scalar.andi v26 v23
  let v28 : BitVec 32 := Scalar.addi v22 v21
  let v29 : BitVec 32 := Scalar.select v27 v28 v22
  let c0_i32_13 : BitVec 32 := 0#32
  ![v19.toNat, arg0.toNat, v29.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c1_i32 : BitVec 32 := 1#32
  let v1 : BitVec 32 := Scalar.maxsi c0_i32 v0
  let v2 : BitVec 32 := Scalar.minsi c1_i32 v1
  let c1_i32_0 : BitVec 32 := 1#32
  let v3 : BitVec 32 := Scalar.divsi v2 c1_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c1_i32_0 c0_i32_3
  let v10 : BitVec 32 := Scalar.extui v9
  let c0_i32_4 : BitVec 32 := 0#32
  let v11 : BitVec 1 := Scalar.cmpi .slt c1_i32_0 c0_i32_4
  let v12 : BitVec 32 := Scalar.extui v11
  let v13 : BitVec 32 := Scalar.subi v10 v12
  let v14 : BitVec 1 := Scalar.cmpi .ne v8 v13
  let v15 : BitVec 32 := Scalar.remsi v2 c1_i32_0
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c1_i32_7 : BitVec 32 := 1#32
  let c0_i32_8 : BitVec 32 := 0#32
  let v20 : BitVec 1 := Scalar.cmpi .eq c1_i32_7 c0_i32_8
  let c1_i32_9 : BitVec 32 := 1#32
  let v21 : BitVec 32 := Scalar.select v20 c1_i32_9 c1_i32_7
  let v22 : BitVec 32 := Scalar.remsi v2 v21
  let c0_i32_10 : BitVec 32 := 0#32
  let v23 : BitVec 1 := Scalar.cmpi .ne v22 c0_i32_10
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let v27 : BitVec 1 := Scalar.andi v26 v23
  let v28 : BitVec 32 := Scalar.addi v22 v21
  let v29 : BitVec 32 := Scalar.select v27 v28 v22
  let c0_i32_13 : BitVec 32 := 0#32
  ![v19.toNat, arg0.toNat, v29.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.subi arg1 c5_i32
  let c0_i32 : BitVec 32 := 0#32
  let c1_i32 : BitVec 32 := 1#32
  let v1 : BitVec 32 := Scalar.maxsi c0_i32 v0
  let v2 : BitVec 32 := Scalar.minsi c1_i32 v1
  let c1_i32_0 : BitVec 32 := 1#32
  let v3 : BitVec 32 := Scalar.divsi v2 c1_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c1_i32_0 c0_i32_3
  let v10 : BitVec 32 := Scalar.extui v9
  let c0_i32_4 : BitVec 32 := 0#32
  let v11 : BitVec 1 := Scalar.cmpi .slt c1_i32_0 c0_i32_4
  let v12 : BitVec 32 := Scalar.extui v11
  let v13 : BitVec 32 := Scalar.subi v10 v12
  let v14 : BitVec 1 := Scalar.cmpi .ne v8 v13
  let v15 : BitVec 32 := Scalar.remsi v2 c1_i32_0
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c1_i32_7 : BitVec 32 := 1#32
  let c0_i32_8 : BitVec 32 := 0#32
  let v20 : BitVec 1 := Scalar.cmpi .eq c1_i32_7 c0_i32_8
  let c1_i32_9 : BitVec 32 := 1#32
  let v21 : BitVec 32 := Scalar.select v20 c1_i32_9 c1_i32_7
  let v22 : BitVec 32 := Scalar.remsi v2 v21
  let c0_i32_10 : BitVec 32 := 0#32
  let v23 : BitVec 1 := Scalar.cmpi .ne v22 c0_i32_10
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let v27 : BitVec 1 := Scalar.andi v26 v23
  let v28 : BitVec 32 := Scalar.addi v22 v21
  let v29 : BitVec 32 := Scalar.select v27 v28 v22
  let c0_i32_13 : BitVec 32 := 0#32
  ![v19.toNat, arg0.toNat, v29.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c0_i32 : BitVec 32 := 0#32
  let c5_i32 : BitVec 32 := 5#32
  let v1 : BitVec 32 := Scalar.maxsi c0_i32 v0
  let v2 : BitVec 32 := Scalar.minsi c5_i32 v1
  let c2_i32 : BitVec 32 := 2#32
  let v3 : BitVec 32 := Scalar.divsi v2 c2_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2_i32 c0_i32_2
  let v10 : BitVec 32 := Scalar.extui v9
  let c0_i32_3 : BitVec 32 := 0#32
  let v11 : BitVec 1 := Scalar.cmpi .slt c2_i32 c0_i32_3
  let v12 : BitVec 32 := Scalar.extui v11
  let v13 : BitVec 32 := Scalar.subi v10 v12
  let v14 : BitVec 1 := Scalar.cmpi .ne v8 v13
  let v15 : BitVec 32 := Scalar.remsi v2 c2_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  ![v19.toNat, arg0.toNat, v29.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MmInDgradRefIdeal.lean ====
abbrev S4096x2048 : Shape := ⟨2, ![4096, 2048]⟩
abbrev S2048x13312 : Shape := ⟨2, ![2048, 13312]⟩
abbrev S4096x13312 : Shape := ⟨2, ![4096, 13312]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x13312, .f32⟩
  | .hbm, ⟨2, _⟩ => ⟨S4096x13312, .f32⟩
  | .hbm, ⟨3, _⟩ => ⟨S4096x2048, .f32⟩
  | .hbm, ⟨4, _⟩ => ⟨S4096x13312, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== SumDevices.lean ====
abbrev S8x1488x128 : Shape := ⟨3, ![8, 1488, 128]⟩
abbrev S1488x128 : Shape := ⟨2, ![1488, 128]⟩
abbrev S1x1488x128 : Shape := ⟨3, ![1, 1488, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x1488x128, .f32⟩
  | .hbm, ⟨1, _⟩ => ⟨S1488x128, .f32⟩
  | .local _ .vmem, ⟨0, _⟩ => ⟨S8x1488x128, .f32⟩
  | .local _ .vmem, ⟨1, _⟩ => ⟨S1488x128, .f32⟩
  | _, _ => ⟨S8x1488x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1488x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1488x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumDevicesRefIdeal.lean ====
abbrev S8x1488x128 : Shape := ⟨3, ![8, 1488, 128]⟩
abbrev S_ : Shape := ⟨0, ![]⟩
abbrev S1488x128 : Shape := ⟨2, ![1488, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1488x128, .f32⟩
  | .hbm, ⟨1, _⟩ => ⟨S_, .f32⟩
  | .hbm, ⟨2, _⟩ => ⟨S1488x128, .f32⟩
  | _, _ => ⟨S8x1488x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamSmall.lean ====
abbrev S4904x128 : Shape := ⟨2, ![4904, 128]⟩

abbrev nBuf : Space → Nat
  | .hbm => 7
  | .vmem => 7
  | .smem => 0
  | _ => 0

abbrev bufTy : (tb : Table) → Fin (tcTables nBuf tb) → BufTy
  | .hbm, ⟨0, _⟩ => ⟨S4904x128, .f32⟩
  | .hbm, ⟨1, _⟩ => ⟨S4904x128, .f32⟩
  | .hbm, ⟨2, _⟩ => ⟨S4904x128, .f32⟩
  | .hbm, ⟨3, _⟩ => ⟨S4904x128, .f32⟩
  | .hbm, ⟨4, _⟩ => ⟨S4904x128, .f32⟩
  | .hbm, ⟨5, _⟩ => ⟨S4904x128, .f32⟩
  | .hbm, ⟨6, _⟩ => ⟨S4904x128, .f32⟩
  | .local _ .vmem, ⟨0, _⟩ => ⟨S4904x128, .f32⟩
  | .local _ .vmem, ⟨1, _⟩ => ⟨S4904x128, .f32⟩
  | .local _ .vmem, ⟨2, _⟩ => ⟨S4904x128, .f32⟩
  | .local _ .vmem, ⟨3, _⟩ => ⟨S4904x128, .f32⟩
  | .local _ .vmem, ⟨4, _⟩ => ⟨S4904x128, .f32⟩
  | .local _ .vmem, ⟨5, _⟩ => ⟨S4904x128, .f32⟩
  | .local _ .vmem, ⟨6, _⟩ => ⟨S4904x128, .f32⟩
  | _, _ => ⟨S4904x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4904x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4904x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4904x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4904x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4904x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4904x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4904x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S4904x128 : Shape := ⟨2, ![4904, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4904x128, .f32⟩
  | .hbm, ⟨1, _⟩ => ⟨S4904x128, .f32⟩
  | .hbm, ⟨2, _⟩ => ⟨S4904x128, .f32⟩
  | .hbm, ⟨3, _⟩ => ⟨S4904x128, .f32⟩
  | .hbm, ⟨4, _⟩ => ⟨S_, .f32⟩
  | .hbm, ⟨5, _⟩ => ⟨S4904x128, .f32⟩
  | .hbm, ⟨6, _⟩ => ⟨S4904x128, .f32⟩
  | .hbm, ⟨7, _⟩ => ⟨S_, .f32⟩
  | .hbm, ⟨8, _⟩ => ⟨S4904x128, .f32⟩
  | .hbm, ⟨9, _⟩ => ⟨S4904x128, .f32⟩
  | .hbm, ⟨10, _⟩ => ⟨S4904x128, .f32⟩
  | .hbm, ⟨11, _⟩ => ⟨S_, .f32⟩
  | .hbm, ⟨12, _⟩ => ⟨S4904x128, .f32⟩
  | .hbm, ⟨13, _⟩ => ⟨S4904x128, .f32⟩
  | .hbm, ⟨14, _⟩ => ⟨S4904x128, .f32⟩
  | .hbm, ⟨15, _⟩ => ⟨S_, .f32⟩
  | .hbm, ⟨16, _⟩ => ⟨S4904x128, .f32⟩
  | .hbm, ⟨17, _⟩ => ⟨S4904x128, .f32⟩
  | .hbm, ⟨18, _⟩ => ⟨S4904x128, .f32⟩
  | .hbm, ⟨19, _⟩ => ⟨S_, .f32⟩
  | .hbm, ⟨20, _⟩ => ⟨S4904x128, .f32⟩
  | .hbm, ⟨21, _⟩ => ⟨S4904x128, .f32⟩
  | .hbm, ⟨22, _⟩ => ⟨S_, .f32⟩
  | .hbm, ⟨23, _⟩ => ⟨S4904x128, .f32⟩
  | .hbm, ⟨24, _⟩ => ⟨S4904x128, .f32⟩
  | .hbm, ⟨25, _⟩ => ⟨S4904x128, .f32⟩
  | .hbm, ⟨26, _⟩ => ⟨S_, .f32⟩
  | .hbm, ⟨27, _⟩ => ⟨S4904x128, .f32⟩
  | .hbm, ⟨28, _⟩ => ⟨S4904x128, .f32⟩
  | .hbm, ⟨29, _⟩ => ⟨S4904x128, .f32⟩
  | .hbm, ⟨30, _⟩ => ⟨S_, .f32⟩
  | .hbm, ⟨31, _⟩ => ⟨S4904x128, .f32⟩
  | .hbm, ⟨32, _⟩ => ⟨S4904x128, .f32⟩
  | .hbm, ⟨33, _⟩ => ⟨S4904x128, .f32⟩
  | .hbm, ⟨34, _⟩ => ⟨S_, .f32⟩
  | .hbm, ⟨35, _⟩ => ⟨S4904x128, .f32⟩
  | .hbm, ⟨36, _⟩ => ⟨S4904x128, .f32⟩
  | _, _ => ⟨S4904x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.GateRef.lean ====
module

public import proofs.«01_k».proof.Proof.Gen.GateBwdRefIdeal.Read
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem
namespace Cert.GateBwdRefIdeal.Val
open Cert.GateBwdRefIdeal Cert.GateBwdRefIdeal.Gen Cert.GateBwdRefIdeal.Read

variable (y : FVec Ideal S4096x3x1024 .f32) (w : FVec Ideal S3x1024x2048 .f32) (z : FVec Ideal S4096x13312 .f32)
  (b : FVec Ideal S4x6144 .f32) (ct : FVec Ideal S4096x2048 .f32)

/-- The gate of mixer `n` at row `r`, column `q`: the logistic of the packed projection plus the layer's bias. -/
def gate (n : Fin 3) (r : Fin 4096) (q : Fin 2048) : EReal :=
  Ideal.logistic (z (ix2 r ⟨7168 + (n.val * 2048 + q.val), by omega⟩) + b (ix2 3 ⟨n.val * 2048 + q.val, by omega⟩))

/-- The projected branches. -/
def proj : FVec Ideal S3x4096x2048 .f32 := fun i => ∑ k : Fin 1024, y (ix3 (i 1) (i 0) k) * w (ix3 (i 0) k (i 2))

/-- The gradient of the gate's argument, `p` the projected branches. -/
def dgate (p : FVec Ideal S3x4096x2048 .f32) (n : Fin 3) (r : Fin 4096) (q : Fin 2048) : EReal :=
  ct (ix2 r q) * p (ix3 n r q) * (gate z b n r q * (1 - gate z b n r q))

/-- The reference's logistic, flat over the three mixers, is the gate. -/
theorem read_gate (r : Fin 4096) (n : Fin 3) (q : Fin 2048) :
    val_main_v13 (F := Ideal) z b (ix2 r ⟨n.val * 2048 + q.val, by omega⟩) = gate z b n r q := by
  pointwise [val_main_v13, val_main_v12, val_main_v11, val_main_v10, val_main_v9, val_main_v8, val_main_v7,
    val_main_v6, val_main_v5, val_main_v4, val_main_v3, val_main_v2, val_main_cst, val_main_cst_0, gate]
  rfl

/-- The first result: the gradient of the projected branches. -/
theorem read_dproj (n : Fin 3) (r : Fin 4096) (q : Fin 2048) :
    val_main_v29 (F := Ideal) z b ct (ix3 n r q) = ct (ix2 r q) * gate z b n r q := by
  pointwise [val_main_v29, val_main_v28, val_main_v21, val_main_v20, val_main_v17]
  rw [read_gate, mul_comm]

/-- The gradient of the gate's argument, flat over the three mixers. -/
theorem read_flat (n : Fin 3) (r : Fin 4096) (q : Fin 2048) :
    val_main_v24 (F := Ideal) y w z b ct (ix2 r ⟨n.val * 2048 + q.val, by omega⟩) = dgate z b ct (proj y w) n r q := by
  have h2 : (n.val * 2048 + q.val) % 2048 = q.val := by omega
  have h1 : (n.val * 2048 + q.val) / 2048 = n.val := by omega
  pointwise [val_main_v24, val_main_v23, val_main_v22, val_main_v20, val_main_v1, val_main_v0, val_main_v16, val_main_v15,
    val_main_v14, val_main_cst_1, dgate, proj, h1, h2]
  rw [read_gate]
  simp only [mul_comm (w _)]

/-- The second result: the gradient of the gate's argument. -/
theorem read_dgate (n : Fin 3) (r : Fin 4096) (q : Fin 2048) :
    val_main_v32 (F := Ideal) y w z b ct (ix3 n r q) = dgate z b ct (proj y w) n r q := by
  pointwise [val_main_v32, val_main_v31, val_main_v30]
  exact read_flat y w z b ct n r q

/-- The third result: the bias gradient, summed over the rows. -/
theorem read_dbias (n : Fin 3) (r : Fin 1) (q : Fin 2048) :
    val_main_v33 (F := Ideal) y w z b ct (ix3 n r q) = ∑ r : Fin 4096, dgate z b ct (proj y w) n r q := by
  pointwise [val_main_v33, val_main_v27, val_main_v26, val_main_v25, val_main_cst_3, val_main_cst_4]
  simp only [read_flat, Finset.univ_unique, Finset.sum_singleton, zero_add]

end Cert.GateBwdRefIdeal.Val
end
-- ==== Proof.Kit.lean ====
module
public import Idealize.ShloMosaic.Lib.Pipeline.ReadBack
public import Idealize.ShloMosaic.Lib.Pipeline.ValueKit
public import Idealize.ShloMosaic.Lib.WordCmp
@[expose] public section
noncomputable section
open Idealize.ShloMosaic
namespace Cert.Kit

variable {Val : EltTy → Type} {S : Shape} {e : EltTy}

/-- Where a later store of a buffer covers the index, the earlier stores do not matter. -/
theorem canon_over [∀ e, Nonempty (Val e)] (L' : List (View.Piece Val S e)) (y : S.Idx) (v : Val e) :
    ∀ (L : List (View.Piece Val S e)) (_ : ∃ p ∈ L, y ∈ p.1.set) (_ : View.canon L y = v), View.canon (L ++ L') y = v
  | [], hy, _ => by obtain ⟨p, hp, _⟩ := hy; simp at hp
  | p :: L, hy, hv => by
    by_cases hm : y ∈ p.1.set
    · obtain ⟨x, rfl⟩ := p.1.exists_idx_of_mem hm
      rw [← hv, List.cons_append, show p.1.idx x = p.1.emb x from rfl, View.canon_cons_emb, View.canon_cons_emb]
    · rw [List.cons_append, View.canon_cons_of_not_mem _ _ hm]
      rw [View.canon_cons_of_not_mem _ _ hm] at hv
      obtain ⟨q, hq, hyq⟩ := hy
      rcases List.mem_cons.mp hq with rfl | hq'
      · exact absurd hyq hm
      · exact canon_over L' y v L ⟨q, hq', hyq⟩ hv

/-- A unit-stride load of a buffer, at an index, is the buffer at the shifted index. -/
theorem ld_at {S : Shape} {e : EltTy} {Val : EltTy → Type} (X : S.Idx → Val e) (off size : Fin S.rank → ℕ) (inb : ∀ a, off a + size a ≤ S.size a)
    (x : (Rect.unit off size inb).shape.Idx) (y : S.Idx) (h : ∀ a, (y a).val = off a + (x a).val) :
    View.ld X (Rect.unit off size inb) x = X y :=
  congrArg X (funext fun a => Fin.ext (by rw [h a]; show off a + 1 * (x a).val = _; rw [one_mul]))

/-- The host's sum over the first and the last axis of an array of rank four. -/
theorem hostReduceAdd_outer {n0 n1 n2 n3 : ℕ} (h : (⟨4, ![n0, n1, n2, n3]⟩ : Shape).ReducesTo [0, 3] ⟨2, ![n1, n2]⟩)
    (v : (⟨4, ![n0, n1, n2, n3]⟩ : Shape).Idx → EReal) (init : EReal) (a : Fin n1) (g : Fin n2) :
    Ideal.hostReduceAdd h v init (ix2 a g) = init + ∑ n : Fin n0, ∑ l : Fin n3, v (ix4 n a g l) := by
  have hd : ∀ i : (⟨4, ![n0, n1, n2, n3]⟩ : Shape).Idx, h.drop i = ix2 a g ↔ (i 1).val = a.val ∧ (i 2).val = g.val := fun i => by
    have h0 := h.drop_apply_val_of_eq i 0 1 (show 0 < 2 by omega) rfl
    have h1 := h.drop_apply_val_of_eq i 1 2 (show 1 < 2 by omega) rfl
    constructor
    · intro e; rw [e] at h0 h1; exact ⟨h0.symm, h1.symm⟩
    · rintro ⟨e0, e1⟩; funext b; apply Fin.ext
      match b with
      | 0 => exact h0.trans e0
      | 1 => exact h1.trans e1
  unfold Ideal.hostReduceAdd
  rw [← Fintype.sum_prod_type']
  congr 1
  refine Finset.sum_bij' (fun i _ => (i 0, i 3)) (fun q _ => ix4 q.1 a g q.2) (by simp) (fun q _ => ?_) (fun i hi => ?_) (fun q _ => rfl) (fun i hi => ?_)
  · exact Finset.mem_filter.mpr ⟨Finset.mem_univ _, (hd _).mpr ⟨rfl, rfl⟩⟩
  all_goals
    obtain ⟨e0, e1⟩ := (hd i).mp (Finset.mem_filter.mp hi).2
    have he : i = ix4 (i 0) a g (i 3) := funext fun k => Fin.ext (match k with
      | 0 => rfl
      | 1 => e0
      | 2 => e1
      | 3 => rfl)
  · exact he.symm
  · exact congrArg v he

/-- The causal choice between two values, `a` and `b` the coordinates compared. -/
theorem select_causal (a b : Fin 128) (x y : EReal) :
    Scalar.select (IntOp.cmpi CmpIPredicate.sge (BitVec.ofNat 32 a.val) (BitVec.ofNat 32 b.val)) x y = if b.val ≤ a.val then x else y := by
  word_cmp

end Cert.Kit
end
-- ==== Proof.GateVal.lean ====
module

public import proofs.«01_k».proof.Proof.Gen.GateBwdIdeal.Frame
public import proofs.«01_k».proof.Proof.GateRef
public import Idealize.ShloMosaic.Lib.Pipeline.ValueKit
public import proofs.«01_k».proof.Proof.Kit

@[expose] public section
set_option maxRecDepth 16384
noncomputable section
open Idealize.ShloMosaic Idealize.ShloMosaic.TcCoe Idealize.SL.Sem
open Idealize.ShloMosaic.Pipeline (Dat)
namespace Cert.GateBwdIdeal.Val
open Cert.GateBwdIdeal Cert.GateBwdIdeal.Gen
open Cert.GateBwdRefIdeal.Val (gate proj dgate)
variable (m : (ℓ : Loc nD τ sig) → Buf (Elt Ideal) ℓ)

theorem idx : ∀ t : Fin cfg0.N, win0_0.index t = ![t.val % 8, t.val / 8] ∧ win0_1.index t = ![0, t.val % 8, t.val / 8]
    ∧ win0_2.index t = ![t.val % 8, 14 + t.val / 8] ∧ win0_3.index t = ![t.val % 8, 18 + t.val / 8] ∧ win0_4.index t = ![t.val % 8, 22 + t.val / 8]
    ∧ win0_5.index t = ![3, 0, 0, t.val / 8]
    ∧ win0_6.index t = ![0, t.val % 8, t.val / 8] ∧ win0_7.index t = ![0, t.val % 8, t.val / 8] ∧ win0_8.index t = ![0, 0, t.val / 8] :=
  (by decide +kernel : ∀ t : Fin grid0.N, _)

/-- The branches entering the mixers. -/
abbrev aY (c : Dev nD) : FVec Ideal S4096x3x1024 .f32 := m ((c : Thread nD τ).loc main_arg0)
/-- The branches' projection weights. -/
abbrev aW (c : Dev nD) : FVec Ideal S3x1024x2048 .f32 := m ((c : Thread nD τ).loc main_arg1)
/-- The packed projection of the layer's input. -/
abbrev aZ (c : Dev nD) : FVec Ideal S4096x13312 .f32 := m ((c : Thread nD τ).loc main_arg2)
/-- The gates' biases of all layers. -/
abbrev aB (c : Dev nD) : FVec Ideal S4x6144 .f32 := m ((c : Thread nD τ).loc main_arg3)
/-- The cotangent. -/
abbrev aC (c : Dev nD) : FVec Ideal S4096x2048 .f32 := m ((c : Thread nD τ).loc main_arg4)

/-- The packed projection enters the region as it was given. -/
theorem entry_z (c : Dev nD) : V m c main_arg2 = aZ m c := by entry_read; rfl
/-- So does the cotangent. -/
theorem entry_c (c : Dev nD) : V m c main_arg4 = aC m c := by entry_read; rfl
/-- The host's product enters the region as the projected branches. -/
theorem entry_p (c : Dev nD) : V m c main_v0 = proj (aY m c) (aW m c) := by
  entry_read; funext i; idx_vars i; pointwise [proj]
/-- The biases enter the region split over the three mixers. -/
theorem entry_b (c : Dev nD) (l : Fin 4) (n : Fin 3) (r : Fin 1) (q : Fin 2048) : V m c main_v1 (ix4 l n r q) =
    aB m c (ix2 l ⟨n.val * 2048 + q.val, by omega⟩) := by
  entry_read; pointwise []

end Cert.GateBwdIdeal.Val
end
-- ==== Proof.GateOut.lean ====
module

public import proofs.«01_k».proof.Proof.Gen.GateBwdIdeal.Frame
public import proofs.«01_k».proof.Proof.GateRef
public import Idealize.ShloMosaic.Lib.Pipeline.ValueKit
public import proofs.«01_k».proof.Proof.Kit
public import proofs.«01_k».proof.Proof.GateVal

@[expose] public section
set_option maxRecDepth 16384
noncomputable section
open Idealize.ShloMosaic Idealize.ShloMosaic.TcCoe Idealize.SL.Sem
open Idealize.ShloMosaic.Pipeline (Dat)
namespace Cert.GateBwdIdeal.Val
open Cert.GateBwdIdeal Cert.GateBwdIdeal.Gen
open Cert.GateBwdRefIdeal.Val (gate proj dgate read_dproj read_dgate read_dbias)
open Cert.GateBwdRefIdeal.Read (val_main_v29 val_main_v32 val_main_v33)
variable (m : (ℓ : Loc nD τ sig) → Buf (Elt Ideal) ℓ)

set_option maxHeartbeats 800000 in
/-- One point's block of the branches' gradient. -/
theorem point6 (c : Dev nD) (t : Fin cfg0.N) (y) (n : Fin 3) (r : Fin 4096) (q : Fin 2048)
    (hn : n.val = y 0) (hr : r.val = t.val % 8 * 512 + y 1) (hq : q.val = t.val / 8 * 512 + y 2) :
     (outsAt0 m c t.val t.isLt).1 y = aC m c (ix2 r q) * gate (aZ m c) (aB m c) n r q := by
  by_cases h : t.val % 8 = 0
  · rw [outsAt0_A m c t h]
    dsimp only
    frame_out
    canon_tiles x h
    all_goals (open_payloads; pointwise [gate]; blk_point [iblk, entry_z, entry_c, idx t])
  · rw [outsAt0_B m c t h]
    dsimp only
    frame_out
    canon_tiles x h
    all_goals (open_payloads; pointwise [gate]; blk_point [iblk, entry_z, entry_c, idx t])

variable (P : FVec Ideal S3x4096x2048 .f32)

set_option maxHeartbeats 800000 in
/-- One point's block of the gradient of the gate's argument. -/
theorem point7 (c : Dev nD) (hP : V m c main_v0 = P) (t : Fin cfg0.N) (y) (n : Fin 3) (r : Fin 4096) (q : Fin 2048)
    (hn : n.val = y 0) (hr : r.val = t.val % 8 * 512 + y 1) (hq : q.val = t.val / 8 * 512 + y 2) :
     (outsAt0 m c t.val t.isLt).2.1 y = dgate (aZ m c) (aB m c) (aC m c) P n r q := by
  by_cases h : t.val % 8 = 0
  · rw [outsAt0_A m c t h]
    dsimp only
    frame_out
    canon_tiles x h
    all_goals (open_payloads; pointwise [dgate, gate]; blk_point [iblk, entry_z, entry_c, hP, idx t])
  · rw [outsAt0_B m c t h]
    dsimp only
    frame_out
    canon_tiles x h
    all_goals (open_payloads; pointwise [dgate, gate]; blk_point [iblk, entry_z, entry_c, hP, idx t])

/-- The first result array. -/
theorem final6 (c : Dev nD) : (dats m 0 c).arrAt 6 (cfgs 0).N = val_main_v29 (F := Ideal) (aZ m c) (aB m c) (aC m c) := by
  refine (dats m 0 c).arrAt_eq_of_covers 6 _ (by decide +kernel) fun t hf y => ?_
  blk_simp
  rw [after0_6]
  have h0 : ((win0_6.blk t).view.emb y 0).val = (y 0).val := by blk_simp [idx t]
  have h1 : ((win0_6.blk t).view.emb y 1).val = t.val % 8 * 512 + (y 1).val := by blk_simp [idx t]
  have h2 : ((win0_6.blk t).view.emb y 2).val = t.val / 8 * 512 + (y 2).val := by blk_simp [idx t]
  generalize (win0_6.blk t).view.emb y = j at h0 h1 h2 ⊢
  idx_vars j
  exact (point6 m c t y _ _ _ h0 h1 h2).trans (read_dproj (aZ m c) (aB m c) (aC m c) _ _ _).symm

/-- The second result array. -/
theorem final7 (c : Dev nD) : (dats m 0 c).arrAt 7 (cfgs 0).N = val_main_v32 (F := Ideal) (aY m c) (aW m c) (aZ m c) (aB m c) (aC m c) := by
  refine (dats m 0 c).arrAt_eq_of_covers 7 _ (by decide +kernel) fun t hf y => ?_
  blk_simp
  rw [after0_7]
  have h0 : ((win0_7.blk t).view.emb y 0).val = (y 0).val := by blk_simp [idx t]
  have h1 : ((win0_7.blk t).view.emb y 1).val = t.val % 8 * 512 + (y 1).val := by blk_simp [idx t]
  have h2 : ((win0_7.blk t).view.emb y 2).val = t.val / 8 * 512 + (y 2).val := by blk_simp [idx t]
  generalize (win0_7.blk t).view.emb y = j at h0 h1 h2 ⊢
  idx_vars j
  exact (point7 m _ c (entry_p m c) t y _ _ _ h0 h1 h2).trans (read_dgate (aY m c) (aW m c) (aZ m c) (aB m c) (aC m c) _ _ _).symm

end Cert.GateBwdIdeal.Val
end
-- ==== Proof.GateBias.lean ====
module

public import proofs.«01_k».proof.Proof.Gen.GateBwdIdeal.Frame
public import proofs.«01_k».proof.Proof.GateRef
public import Idealize.ShloMosaic.Lib.Pipeline.ValueKit
public import proofs.«01_k».proof.Proof.Kit
public import proofs.«01_k».proof.Proof.GateVal

@[expose] public section
set_option maxRecDepth 16384
noncomputable section
open Idealize.ShloMosaic Idealize.ShloMosaic.TcCoe Idealize.SL.Sem
open Idealize.ShloMosaic.Pipeline (Dat)
namespace Cert.GateBwdIdeal.Val
open Cert.GateBwdIdeal Cert.GateBwdIdeal.Gen
open Cert.GateBwdRefIdeal.Val (gate proj dgate read_dproj read_dgate read_dbias)
open Cert.GateBwdRefIdeal.Read (val_main_v29 val_main_v32 val_main_v33)
variable (m : (ℓ : Loc nD τ sig) → Buf (Elt Ideal) ℓ)

variable (P : FVec Ideal S3x4096x2048 .f32)

/-- What row tile `t` adds to the bias gradient of branch `y 0` at lane `y 2` of its column tile. -/
def part8 (c : Dev nD) (t : Fin cfg0.N) (y : S3x1x512.Idx) : EReal :=
  ∑ a : Fin 512, dgate (aZ m c) (aB m c) (aC m c) P (y 0) ⟨t.val % 8 * 512 + a.val, by omega⟩
    ⟨t.val / 8 * 512 + (y 2).val, by have : t.val < 32 := lt_of_lt_of_eq t.isLt N_0; idx_bounds; omega⟩

/-- The first row tile starts from nothing. -/
theorem first8 (c : Dev nD) (hP : V m c main_v0 = P) (t : Fin cfg0.N) (h : t.val % 8 = 0) (y) :
     (outsAt0 m c t.val t.isLt).2.2 y = (show EReal from 0) + part8 m P c t y := by
  rw [outsAt0_A m c t h]
  dsimp only
  frame_open
  simp (disch := decide) only [↓View.readCov_skip, ↓View.readCov_cons_toLoadRect, ↓View.readCov_fill]
  frame_out
  refine Cert.Kit.canon_over [_] y _ [_, _, _] (View.cover_of_tiled_head _ _ _ (by rfl) y) ?_
  canon_tiles x h
  all_goals (open_payloads; pointwise [part8, dgate, gate]; blk_point [iblk, entry_z, entry_c, hP, idx t])
/-- A later row tile adds to what the one before left. -/
theorem step8 (c : Dev nD) (hP : V m c main_v0 = P) (t : Fin cfg0.N) (h : ¬ t.val % 8 = 0) (y) :
     (outsAt0 m c t.val t.isLt).2.2 y = (outsAt0 m c (t.val - 1) (by have := t.isLt; omega)).2.2 y + part8 m P c t y := by
  rw [outsAt0_B m c t h]
  dsimp only
  frame_out
  canon_tiles x h
  all_goals (open_payloads; pointwise [part8, dgate, gate]; blk_point [iblk, entry_z, entry_c, hP, idx t])

/-- The third result array. -/
theorem final8 (c : Dev nD) : (dats m 0 c).arrAt 8 (cfgs 0).N = val_main_v33 (F := Ideal) (aY m c) (aW m c) (aZ m c) (aB m c) (aC m c) := by
  refine (dats m 0 c).arrAt_eq_of_covers 8 _ (by decide +kernel) fun t hf y => ?_
  blk_simp
  rw [after0_8, Pipeline.eq_sum_fin_of_reset_step_apply_of_flush (fun n h => (outsAt0 m c n h).2.2) 8 (fun _ => 0) _
    (fun t h j => by rw [first8 m _ c (entry_p m c) t h j]) (fun t h j => by rw [step8 m _ c (entry_p m c) t h j]) t ((flush0_8 t).mp hf) _, zero_add]
  have h0 : ((win0_8.blk t).view.emb y 0).val = (y 0).val := by blk_simp [idx t]
  have h2 : ((win0_8.blk t).view.emb y 2).val = t.val / 8 * 512 + (y 2).val := by blk_simp [idx t]
  generalize (win0_8.blk t).view.emb y = j at h0 h2 ⊢
  idx_vars j
  refine Eq.trans ?_ (read_dbias (aY m c) (aW m c) (aZ m c) (aB m c) (aC m c) _ _ _).symm
  refine Fin.sum_mul_add_congr fun s k hl => ?_
  have hs : (8 * (t.val / 8) + s.val) / 8 = t.val / 8 := by omega
  have hr : (8 * (t.val / 8) + s.val) % 8 = s.val := by omega
  congr 1
  · exact Fin.ext h0.symm
  · exact Fin.ext (by dsimp only; rw [hr])
  · exact Fin.ext (by dsimp only; rw [hs, h2])

end Cert.GateBwdIdeal.Val
end
-- ==== Proof.Gate.lean ====
module
public import proofs.«01_k».proof.Defs
public import proofs.«01_k».proof.Proof.GateOut
public import proofs.«01_k».proof.Proof.GateBias
public import proofs.«01_k».proof.Proof.Gen.GateBwd.Frame
public import proofs.«01_k».proof.Proof.Gen.GateBwdRefIdeal.Run
@[expose] public section
noncomputable section
open Idealize.ShloMosaic Idealize.SL.Sem
namespace Cert.GateBwdIdeal.Val

/-- The gradient call of the output gate leaves the reference's three gradients. -/
theorem algebraic : Cert.algebraic_GateBwdIdeal_GateBwdRefIdeal (hGateBwdIdeal := Cert.GateBwdIdeal.Gen.facts) (hGateBwdRefIdeal := Cert.GateBwdRefIdeal.Gen.facts) := by
  pair_intro
  · run_from Cert.GateBwdIdeal.Gen.run_main m g
  · hlo_run
    · exact (final6 m c).symm
    · exact (final7 m c).symm
    · exact (final8 m c).symm

/-- The reference leaves its arguments as they were, and it declares no semaphore. -/
theorem frame_ref : Cert.quiescent_GateBwdRefIdeal (hGateBwdRefIdeal := Cert.GateBwdRefIdeal.Gen.facts) := fun m ρ _ =>
  (θ_run Cert.GateBwdRefIdeal.defs _ _).mono (fun r h => ⟨fun c => (h c).2.2.2, sem_eq_zero_of_no_sems (by decide) r.2⟩)
    (Cert.GateBwdRefIdeal.Value.run (F := Ideal) m ρ)

end Cert.GateBwdIdeal.Val
end
-- ==== Proof.Norm.lean ====
module
public import Idealize.ShloMosaic.Lib.Pipeline.ValueKit
public import Idealize.ShloMosaic.Lib.ReduceAll
@[expose] public section
noncomputable section
open Idealize.ShloMosaic
namespace Cert.Norm

/-- A number that is not infinite. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.add {x y : EReal} : IsReal x → IsReal y → IsReal (x + y) := by
  rintro ⟨a, rfl⟩ ⟨b, rfl⟩; exact ⟨a + b, (EReal.coe_add a b).symm⟩
theorem IsReal.mul {x y : EReal} : IsReal x → IsReal y → IsReal (x * y) := by
  rintro ⟨a, rfl⟩ ⟨b, rfl⟩; exact ⟨a * b, (EReal.coe_mul a b).symm⟩
theorem IsReal.sub {x y : EReal} : IsReal x → IsReal y → IsReal (x - y) := by
  rintro ⟨a, rfl⟩ ⟨b, rfl⟩; exact ⟨a - b, (EReal.coe_sub a b).symm⟩
theorem coe_sum {n : ℕ} (f : Fin n → ℝ) : ((∑ k, f k : ℝ) : EReal) = ∑ k, (f k : EReal) :=
  map_sum (⟨⟨Real.toEReal, rfl⟩, EReal.coe_add⟩ : ℝ →+ EReal) f Finset.univ
theorem IsReal.sum {n : ℕ} {f : Fin n → EReal} (h : ∀ k, IsReal (f k)) : IsReal (∑ k, f k) := by
  choose g hg using h
  exact ⟨∑ k, g k, by rw [coe_sum]; exact Finset.sum_congr rfl fun k _ => hg k⟩
/-- A number whose absolute value is below infinity is not infinite. -/
theorem IsReal.of_abs {x : EReal} (h : max x (-x) < ⊤) : IsReal x := by
  induction x with
  | bot => simp at h
  | top => simp at h
  | coe r => exact ⟨r, rfl⟩

/-- A word comparing below infinity in absolute value: the number is real. -/
theorem IsReal.of_cmp {x : EReal} (h : Ideal.cmp .olt (max x (-x)) (Ideal.ofBits .f32 0x7F800000#32) = 1#1) : IsReal x := by
  refine IsReal.of_abs ?_
  have ht : Ideal.ofBits .f32 0x7F800000#32 = ⊤ := by simp [Ideal.ofBits, Ideal.ieee]
  rw [ht] at h
  by_contra hc
  simp [Ideal.cmp, hc] at h

/-- An array all of whose entries compare below infinity in absolute value is real everywhere. -/
theorem IsReal.of_all {s : Shape} {axes : List (Fin s.rank)} (x : FVec Ideal s .f32)
    (hb : Shape.BroadcastsInDim ⟨0, ![]⟩ s (![] : Fin 0 → Fin s.rank)) (hr : s.ReducesTo axes ⟨0, ![]⟩) (hu : 0 < Shape.numel ⟨0, ![]⟩)
    (init : IVec ⟨0, ![]⟩ 1) (j : Shape.Idx ⟨0, ![]⟩)
    (h : Host.reduce IntOp.andi (cmpf .olt (Host.absf x) (broadcastInDim s ![] hb (constant (F := Ideal) ⟨0, ![]⟩ .f32 0x7F800000#32))) init hr hu j = 1#1)
    (i : s.Idx) : IsReal (x i) :=
  have : Subsingleton (Shape.Idx ⟨0, ![]⟩) := ⟨fun a b => funext fun k => k.elim0⟩
  IsReal.of_cmp (Host.reduce_andi_all _ _ hr hu j h i)

/-- The offset under the square root of a normalisation. -/
abbrev eps : EReal := Ideal.ofBits .f32 0x3727C5AC#32
theorem eps_eq : ∃ e : ℝ, 0 < e ∧ eps = (e : EReal) := by
  refine ⟨_, ?_, by simp [eps, Ideal.ofBits, Ideal.ieee]; rfl⟩
  norm_num
theorem half_eq : Ideal.ofBits .f32 0xBF000000#32 = ((-(1 / 2) : ℝ) : EReal) := by
  simp [Ideal.ofBits, Ideal.ieee]; norm_num; rw [← EReal.coe_mul]; congr 1; norm_num
theorem two_eq : Ideal.ofBits .f32 0x40000000#32 = ((2 : ℝ) : EReal) := by
  simp [Ideal.ofBits, Ideal.ieee]; norm_num; rw [← EReal.coe_mul]; congr 1; norm_num
theorem n1024_eq : Ideal.ofBits .f32 0x44800000#32 = ((1024 : ℝ) : EReal) := by
  simp [Ideal.ofBits, Ideal.ieee]; norm_num; rw [← EReal.coe_mul]; congr 1; norm_num
theorem n2048_eq : Ideal.ofBits .f32 0x45000000#32 = ((2048 : ℝ) : EReal) := by
  simp [Ideal.ofBits, Ideal.ieee]; norm_num; rw [← EReal.coe_mul]; congr 1; norm_num

variable {n : ℕ} (K : EReal) (x d : Fin n → EReal)

/-- The mean of a row, `K` its length. -/
def mean : EReal := Ideal.div (∑ k, x k) K
/-- A row's entry less the row's mean. -/
def dev (j : Fin n) : EReal := x j - mean K x
/-- The row's variance plus the offset. -/
def var : EReal := mean K (fun k => dev K x k * dev K x k) + eps
/-- One over the row's standard deviation. -/
def rstd : EReal := Ideal.rsqrt (var K x)
/-- The normalised row. -/
def hat (j : Fin n) : EReal := dev K x j * rstd K x

/-- The normalisation's gradient as a kernel writes it: `d` the gradient of the normalised row. -/
def bwd (j : Fin n) : EReal :=
  rstd K x * (d j - mean K d - hat K x j * mean K (fun k => d k * hat K x k))

/-- The gradient through the variance, one number a row. -/
def viaVar : EReal :=
  Ideal.div ((∑ k, dev K x k * d k) * (Ideal.ofBits .f32 0xBF000000#32 * Ideal.div (rstd K x) (var K x))) K
/-- The normalisation's gradient by the chain rule through the deviation, the variance and the mean. -/
def vjp (j : Fin n) : EReal :=
  (d j * rstd K x + viaVar K x d * (Ideal.ofBits .f32 0x40000000#32 * dev K x j)) +
    Ideal.div ((∑ k, -(d k * rstd K x)) + (∑ k, -(viaVar K x d * (Ideal.ofBits .f32 0x40000000#32 * dev K x k)))) K

variable {K x d}

theorem mean_coe (hn : (n : ℝ) ≠ 0) (a : Fin n → ℝ) :
    mean (((n : ℝ)) : EReal) (fun k => (a k : EReal)) = (((∑ k, a k) / n : ℝ) : EReal) := by
  rw [mean, Ideal.div_coe hn, ← coe_sum, ← EReal.coe_mul]; congr 1; ring

/-- On finite rows both gradients are the same. -/
theorem bwd_eq_vjp (hn : (n : ℝ) ≠ 0) (hK : K = ((n : ℝ) : EReal)) (hx : ∀ k, IsReal (x k)) (hd : ∀ k, IsReal (d k))
    (j : Fin n) : bwd K x d j = vjp K x d j := by
  subst hK
  obtain ⟨a, rfl⟩ : ∃ a : Fin n → ℝ, x = fun k => (a k : EReal) := ⟨_, funext fun k => (hx k).choose_spec⟩
  obtain ⟨b, rfl⟩ : ∃ b : Fin n → ℝ, d = fun k => (b k : EReal) := ⟨_, funext fun k => (hd k).choose_spec⟩
  obtain ⟨e, he, hee⟩ := eps_eq
  set μ : ℝ := (∑ k, a k) / n with hμ
  have hdev : ∀ k, dev ((n : ℝ) : EReal) (fun k => (a k : EReal)) k = ((a k - μ : ℝ) : EReal) := fun k => by
    rw [dev, mean_coe hn, EReal.coe_sub]
  set v : ℝ := (∑ k, (a k - μ) * (a k - μ)) / n + e with hv
  have hvar : var ((n : ℝ) : EReal) (fun k => (a k : EReal)) = (v : EReal) := by
    rw [var, hee, hv, EReal.coe_add, ← mean_coe hn]; simp only [hdev, EReal.coe_mul]
  have hpos : 0 < v := by
    have h1 : 0 ≤ (∑ k, (a k - μ) * (a k - μ)) := Finset.sum_nonneg fun k _ => mul_self_nonneg _
    have h2 : (0 : ℝ) ≤ n := Nat.cast_nonneg n
    have := div_nonneg h1 h2
    linarith
  set ρ : ℝ := (Real.sqrt v)⁻¹ with hρ
  have hr : rstd ((n : ℝ) : EReal) (fun k => (a k : EReal)) = (ρ : EReal) := by
    rw [rstd, hvar, Ideal.rsqrt_coe, if_neg (not_lt.mpr hpos.le), if_neg hpos.ne']
  have hρv : ρ / v = ρ * (ρ * ρ) := by
    rw [div_eq_mul_inv]; congr 1
    rw [hρ, ← mul_inv, Real.mul_self_sqrt hpos.le]
  have hsum : ∑ k, (a k - μ) = 0 := by
    rw [Finset.sum_sub_distrib, Finset.sum_const, Finset.card_univ, Fintype.card_fin, nsmul_eq_mul, hμ]; field_simp; ring
  set B : ℝ := ∑ k, b k with hB
  set M : ℝ := ∑ k, (a k - μ) * b k with hM
  have hvia : viaVar ((n : ℝ) : EReal) (fun k => (a k : EReal)) (fun k => (b k : EReal)) =
      ((M * (-(1 / 2) * (ρ * (ρ * ρ))) / n : ℝ) : EReal) := by
    rw [viaVar, hr, hvar, half_eq, Ideal.div_coe hpos.ne', Ideal.div_coe hn]
    simp only [hdev, ← EReal.coe_mul, ← coe_sum]
    rw [← hρv]; congr 1; ring
  rw [bwd, vjp, hvia, hr, two_eq, Ideal.div_coe hn]
  simp only [hat, hdev, hr, ← EReal.coe_mul, ← EReal.coe_neg, ← coe_sum, mean_coe hn, ← EReal.coe_sub, ← EReal.coe_add]
  congr 1
  rw [Finset.sum_neg_distrib, Finset.sum_neg_distrib, ← Finset.sum_mul, ← Finset.mul_sum, ← Finset.mul_sum, hsum]
  have h3 : ∑ k, b k * ((a k - μ) * ρ) = M * ρ := by
    rw [hM, Finset.sum_mul]; exact Finset.sum_congr rfl fun k _ => by ring
  rw [h3]
  field_simp
  ring

theorem IsReal.neg {x : EReal} : IsReal x → IsReal (-x) := by
  rintro ⟨a, rfl⟩; exact ⟨-a, (EReal.coe_neg a).symm⟩
theorem IsReal.logistic {x : EReal} : IsReal x → IsReal (Ideal.logistic x) := by
  rintro ⟨a, rfl⟩; exact ⟨_, Ideal.logistic_coe a⟩
theorem IsReal.mean (hn : (n : ℝ) ≠ 0) (hK : K = ((n : ℝ) : EReal)) (hx : ∀ k, IsReal (x k)) : IsReal (mean K x) := by
  subst hK
  obtain ⟨a, rfl⟩ : ∃ a : Fin n → ℝ, x = fun k => (a k : EReal) := ⟨_, funext fun k => (hx k).choose_spec⟩
  exact ⟨_, mean_coe hn a⟩
theorem IsReal.dev (hn : (n : ℝ) ≠ 0) (hK : K = ((n : ℝ) : EReal)) (hx : ∀ k, IsReal (x k)) (j : Fin n) : IsReal (dev K x j) :=
  (hx j).sub (IsReal.mean hn hK hx)
theorem IsReal.rstd (hn : (n : ℝ) ≠ 0) (hK : K = ((n : ℝ) : EReal)) (hx : ∀ k, IsReal (x k)) : IsReal (rstd K x) := by
  obtain ⟨b, hb⟩ : ∃ b : Fin n → ℝ, Norm.dev K x = fun k => (b k : EReal) := ⟨_, funext fun k => (IsReal.dev hn hK hx k).choose_spec⟩
  subst hK
  obtain ⟨e, he, hee⟩ := eps_eq
  have hvar : var ((n : ℝ) : EReal) x = (((∑ k, b k * b k) / n + e : ℝ) : EReal) := by
    rw [var, hb, hee, EReal.coe_add, ← mean_coe hn]; simp only [EReal.coe_mul]
  have hpos : 0 < (∑ k, b k * b k) / n + e := by
    have := div_nonneg (Finset.sum_nonneg fun k (_ : k ∈ Finset.univ) => mul_self_nonneg (b k)) (Nat.cast_nonneg (α := ℝ) n)
    linarith
  exact ⟨_, by rw [Norm.rstd, hvar, Ideal.rsqrt_coe, if_neg (not_lt.mpr hpos.le), if_neg hpos.ne']⟩
theorem IsReal.hat (hn : (n : ℝ) ≠ 0) (hK : K = ((n : ℝ) : EReal)) (hx : ∀ k, IsReal (x k)) (j : Fin n) : IsReal (hat K x j) :=
  (IsReal.dev hn hK hx j).mul (IsReal.rstd hn hK hx)

/-- The gradient of `y * logistic y` by the product rule and in its factored form. -/
theorem silu_grad {y d : EReal} (hy : IsReal y) (hd : IsReal d) :
    d * (Ideal.logistic y * (1 + y * (1 - Ideal.logistic y))) =
      d * Ideal.logistic y + y * d * (Ideal.logistic y * (1 - Ideal.logistic y)) := by
  obtain ⟨a, rfl⟩ := hy
  obtain ⟨b, rfl⟩ := hd
  simp only [Ideal.logistic_coe, ← EReal.coe_one, ← EReal.coe_mul, ← EReal.coe_sub, ← EReal.coe_add]
  congr 1
  ring

theorem and_one {a b : BitVec 1} : IntOp.andi a b = 1#1 ↔ a = 1#1 ∧ b = 1#1 := by revert a b; decide

end Cert.Norm
end
-- ==== Proof.MixerRef.lean ====
module

public import proofs.«01_k».proof.Proof.Gen.MixerRowsBwdRefIdeal.Read
public import proofs.«01_k».proof.Proof.Norm
public import proofs.«01_k».proof.Proof.Kit
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem
namespace Cert.MixerRowsBwdRefIdeal.Val
open Cert.MixerRowsBwdRefIdeal Cert.MixerRowsBwdRefIdeal.Gen Cert.MixerRowsBwdRefIdeal.Read

variable (dy : FVec Ideal S3x4096x1024 .f32) (z : FVec Ideal S4096x13312 .f32) (s : FVec Ideal S4096x1024 .f32)
  (lg lb : FVec Ideal S4x1024 .f32) (w : FVec Ideal S4x8x128x128 .f32) (sb : FVec Ideal S4x8x128 .f32)
  (cg cb : FVec Ideal S4x1024 .f32)

/-- The length of a mixer row, as the programs write it. -/
abbrev K : EReal := Ideal.ofBits .f32 0x44800000#32

/-- Row `a` of chunk `n`. -/
abbrev row (n : Fin 32) (a : Fin 128) : Fin 4096 := ⟨n.val * 128 + a.val, by omega⟩
/-- Lane `l` of group `g`. -/
abbrev lane (g : Fin 8) (l : Fin 128) : Fin 1024 := ⟨g.val * 128 + l.val, by omega⟩

/-- The gated half of the packed projection. -/
abbrev ucol (p : Fin 4096) (k : Fin 1024) : EReal := z (ix2 p ⟨3072 + k.val, by omega⟩)
/-- The half that is normalised and mixed along the rows of a chunk. -/
abbrev vrow (p : Fin 4096) (k : Fin 1024) : EReal := z (ix2 p ⟨4096 + k.val, by omega⟩)
/-- That half, normalised with the layer's scale and shift. -/
def vn (p : Fin 4096) (k : Fin 1024) : EReal := Norm.hat K (vrow z p) k * lg (ix2 3 k) + lb (ix2 3 k)
/-- The layer's mixing weights, causal within a chunk. -/
def wt (g : Fin 8) (a b : Fin 128) : EReal := if b.val ≤ a.val then w (ix4 3 g a b) else 0
/-- The mixed rows. -/
def mixed (n : Fin 32) (a : Fin 128) (g : Fin 8) (l : Fin 128) : EReal :=
  (∑ b : Fin 128, vn z lg lb (row n b) (lane g l) * wt w g a b) + sb (ix3 3 g a)
/-- The gradient of the gated half. -/
def du (n : Fin 32) (a : Fin 128) (g : Fin 8) (l : Fin 128) : EReal :=
  dy (ix3 1 (row n a) (lane g l)) * mixed z lg lb w sb n a g l
/-- The gradient of the mixed rows. -/
def dmix (n : Fin 32) (a : Fin 128) (g : Fin 8) (l : Fin 128) : EReal :=
  ucol z (row n a) (lane g l) * dy (ix3 1 (row n a) (lane g l))
/-- The gradient of the normalised half. -/
def dvn (n : Fin 32) (b : Fin 128) (g : Fin 8) (l : Fin 128) : EReal :=
  ∑ a : Fin 128, dmix dy z n a g l * wt w g a b
/-- The same, by row and lane. -/
def dvr (p : Fin 4096) (k : Fin 1024) : EReal :=
  dvn dy z w ⟨p.val / 128, by omega⟩ ⟨p.val % 128, by omega⟩ ⟨k.val / 128, by omega⟩ ⟨k.val % 128, by omega⟩

theorem dvr_row (n : Fin 32) (b : Fin 128) (g : Fin 8) (l : Fin 128) :
    dvr dy z w (row n b) (lane g l) = dvn dy z w n b g l := by
  unfold dvr; congr 1 <;> ext <;> dsimp only <;> omega

/-- The rows the last mixer normalises. -/
abbrev srow (p : Fin 4096) (k : Fin 1024) : EReal := s (ix2 p k)
/-- Those rows, normalised with the layer's scale and shift. -/
def sn (p : Fin 4096) (k : Fin 1024) : EReal := Norm.hat K (srow s p) k * cg (ix2 3 k) + cb (ix2 3 k)
/-- The gradient of the normalised rows through the activation, by the product rule. -/
def dsn (p : Fin 4096) (k : Fin 1024) : EReal :=
  dy (ix3 2 p k) * Ideal.logistic (sn s cg cb p k) +
    sn s cg cb p k * dy (ix3 2 p k) * (Ideal.logistic (sn s cg cb p k) * (1 - Ideal.logistic (sn s cg cb p k)))

theorem read_dev (p : Fin 4096) (k : Fin 1024) : val_main_v24 (F := Ideal) z (ix2 p k) = Norm.dev K (vrow z p) k := by
  pointwise [val_main_v24, val_main_v23, val_main_v13, val_main_v12, val_main_v11, val_main_v10, val_main_v1, val_main_cst,
    val_main_cst_0, Norm.dev, Norm.mean]
theorem read_var (p : Fin 4096) (x : Fin 1) : val_main_v26 (F := Ideal) z (ix2 p x) = Norm.var K (vrow z p) := by
  pointwise [val_main_v26, val_main_v25, val_main_v22,
    val_main_v21, val_main_v20, val_main_v19, val_main_v16, val_main_v15, val_main_v14, val_main_v13, val_main_v12, val_main_v11,
    val_main_v10, val_main_v1, val_main_cst, val_main_cst_0, val_main_cst_2, val_main_cst_3, val_main_cst_4,
    Norm.var, Norm.mean, Norm.dev]
theorem read_rstd (p : Fin 4096) (x : Fin 1) : val_main_v27 (F := Ideal) z (ix2 p x) = Norm.rstd K (vrow z p) := by
  pointwise [val_main_v27]
  rw [read_var]; rfl
theorem read_hat (p : Fin 4096) (k : Fin 1024) : val_main_v32 (F := Ideal) z (ix2 p k) = Norm.hat K (vrow z p) k := by
  pointwise [val_main_v32, val_main_v31]
  rw [read_dev, read_rstd]; rfl
theorem read_vn (p : Fin 4096) (k : Fin 1024) : val_main_v38 (F := Ideal) z lg lb (ix2 p k) = vn z lg lb p k := by
  pointwise [val_main_v38, val_main_v37, val_main_v36, val_main_v35, val_main_v34, val_main_v33, val_main_v5, val_main_v4, val_main_v3,
    val_main_v2, vn]
  rw [read_hat]
theorem read_vc (n : Fin 32) (a : Fin 128) (g : Fin 8) (l : Fin 128) :
    val_main_v39 (F := Ideal) z lg lb (ix4 n a g l) = vn z lg lb (row n a) (lane g l) := by
  pointwise [val_main_v39]
  exact read_vn _ _ _ _ _
theorem read_wt (g : Fin 8) (a b : Fin 128) : val_main_v44 (F := Ideal) w (ix3 g a b) = wt w g a b := by
  pointwise [val_main_v44, val_main_v43, val_main_v42, val_main_v41, val_main_v40, val_main_v7, val_main_v6, val_main_cst_6, wt]
  exact Kit.select_causal a b _ _
theorem read_mixed (n : Fin 32) (a : Fin 128) (g : Fin 8) (l : Fin 128) :
    val_main_v53 (F := Ideal) z lg lb w sb (ix2 (row n a) (lane g l)) = mixed z lg lb w sb n a g l := by
  have h2 : (n.val * 128 + a.val) % 128 = a.val := by omega
  have h1 : (n.val * 128 + a.val) / 128 = n.val := by omega
  have h4 : (g.val * 128 + l.val) % 128 = l.val := by omega
  have h3 : (g.val * 128 + l.val) / 128 = g.val := by omega
  pointwise [val_main_v53, val_main_v52, val_main_v51, val_main_v50, val_main_v49, val_main_v48, val_main_v47, val_main_v46, val_main_v9,
    val_main_v8, h1, h2, h3, h4, mixed]
  simp only [read_vc, read_wt]
/-- The first plane of the first result: the gradient of the gated half. -/
theorem read_du (n : Fin 32) (a : Fin 128) (g : Fin 8) (l : Fin 128) :
    val_main_v191 (F := Ideal) dy z lg lb w sb (ix3 0 (row n a) (lane g l)) = du dy z lg lb w sb n a g l := by
  pointwise [val_main_v191, val_main_v190, val_main_v188, val_main_v58, val_main_v56, val_main_v55, du]
  rw [← read_mixed]
theorem read_dmix (n : Fin 32) (a : Fin 128) (g : Fin 8) (l : Fin 128) :
    val_main_v59 (F := Ideal) dy z (ix4 n a g l) = dmix dy z n a g l := by
  pointwise [val_main_v59, val_main_v57, val_main_v56, val_main_v55, val_main_v0, dmix]
theorem read_dvn (n : Fin 32) (b : Fin 128) (g : Fin 8) (l : Fin 128) :
    val_main_v69 (F := Ideal) dy z w (ix4 n b g l) = dvn dy z w n b g l := by
  pointwise [val_main_v69, val_main_v68, val_main_v66, dvn]
  simp only [read_dmix, read_wt]
theorem read_dvr (p : Fin 4096) (k : Fin 1024) :
    val_main_v72 (F := Ideal) dy z w (ix2 p k) = dvr dy z w p k := by
  pointwise [val_main_v72, dvr]
  exact read_dvn _ _ _ _ _ _ _
/-- The second plane of the first result: the gradient of the normalised half before its normalisation. -/
theorem read_dv (p : Fin 4096) (k : Fin 1024) :
    val_main_v191 (F := Ideal) dy z lg lb w sb (ix3 1 p k) = Norm.vjp K (vrow z p) (fun k => dvr dy z w p k * lg (ix2 3 k)) k := by
  have hd : ∀ (p : Fin 4096) k, val_main_v80 (F := Ideal) dy z lg w (ix2 p k) = dvr dy z w p k * lg (ix2 3 k) := fun p k => by
    pointwise [val_main_v80, val_main_v79, val_main_v33, val_main_v3, val_main_v2]; rw [read_dvr]
  have hdev : ∀ (p : Fin 4096) k, val_main_v15 (F := Ideal) z (ix2 p k) = Norm.dev K (vrow z p) k := fun p k => (read_dev z p k)
  have hvia : ∀ p : Fin 4096, val_main_v93 (F := Ideal) dy z lg w (ix1 p) = Norm.viaVar K (vrow z p) (fun k => dvr dy z w p k * lg (ix2 3 k)) := fun p => by
    pointwise [val_main_v93, val_main_v92, val_main_v91, val_main_v87, val_main_v84, val_main_v83, val_main_v82, val_main_v30,
      val_main_v29, val_main_v28, val_main_cst_5, val_main_cst_16, val_main_cst_18, val_main_cst_19, Norm.viaVar]
    simp only [hd, read_dev, read_var, read_rstd, Finset.univ_unique, Finset.sum_singleton]
  pointwise [val_main_v191, val_main_v190, val_main_v189, val_main_v105, val_main_v104, val_main_v103, val_main_v102, val_main_v101,
    val_main_v100, val_main_v99, val_main_v98, val_main_v97, val_main_v96, val_main_v95, val_main_v94, val_main_v90, val_main_v89,
    val_main_v88, val_main_v86, val_main_v85, val_main_v18, val_main_v17, val_main_cst_1, val_main_cst_17, val_main_cst_20,
    val_main_cst_21, val_main_cst_22, Norm.vjp]
  simp only [hd, hdev, hvia, read_rstd, Finset.univ_unique, Finset.sum_singleton]
theorem read_dlg (x : Fin 1) (k : Fin 1024) :
    val_main_v192 (F := Ideal) dy z w (ix2 x k) = ∑ p : Fin 4096, Norm.hat K (vrow z p) k * dvr dy z w p k := by
  pointwise [val_main_v192, val_main_v81, val_main_v78, val_main_v77, val_main_v76, val_main_cst_14, val_main_cst_15]
  simp only [read_hat, read_dvr, Finset.univ_unique, Finset.sum_singleton]
theorem read_dlb (x : Fin 1) (k : Fin 1024) :
    val_main_v193 (F := Ideal) dy z w (ix2 x k) = ∑ p : Fin 4096, dvr dy z w p k := by
  pointwise [val_main_v193, val_main_v75, val_main_v74, val_main_v73, val_main_cst_12, val_main_cst_13]
  simp only [read_dvr, Finset.univ_unique, Finset.sum_singleton]
theorem read_dw (g : Fin 8) (a b : Fin 128) :
    val_main_v71 (F := Ideal) dy z lg lb (ix3 g a b) =
      if b.val ≤ a.val then ∑ n : Fin 32, ∑ l : Fin 128, dmix dy z n a g l * vn z lg lb (row n b) (lane g l) else 0 := by
  pointwise [val_main_v71, val_main_v42, val_main_v41, val_main_v40, val_main_v70, val_main_cst_11, val_main_v67, val_main_v66]
  simp only [read_dmix, read_vc]
  exact Kit.select_causal a b _ _
theorem read_dsb (g : Fin 8) (a : Fin 128) (x : Fin 1) :
    val_main_v194 (F := Ideal) dy z (ix3 g a x) = ∑ n : Fin 32, ∑ l : Fin 128, dmix dy z n a g l := by
  have h60 : val_main_v60 (F := Ideal) dy z (ix2 a g) = ∑ n : Fin 32, ∑ l : Fin 128, dmix dy z n a g l := by
    refine (Kit.hostReduceAdd_outer reducesTo_S32x128x8x128_S128x8_d0_3 (val_main_v59 (F := Ideal) dy z) _ a g).trans ?_
    simp only [read_dmix]; pointwise [val_main_cst_8]
  have h62 : val_main_v62 (F := Ideal) dy z (ix2 a g) = val_main_v60 (F := Ideal) dy z (ix2 a g) := by
    refine (Kit.hostReduceAdd_outer reducesTo_S1x128x8x1_S128x8_d0_3 (val_main_v61 (F := Ideal) dy z) _ a g).trans ?_
    simp only [Finset.univ_unique, Finset.sum_singleton]; pointwise [val_main_cst_9, val_main_v61]
  pointwise [val_main_v194, val_main_v65, val_main_v64, val_main_v63, val_main_cst_10]
  simp only [Finset.univ_unique, Finset.sum_singleton, h62, h60]

theorem read_sdev (p : Fin 4096) (k : Fin 1024) : val_main_v124 (F := Ideal) s (ix2 p k) = Norm.dev K (srow s p) k := by
  pointwise [val_main_v124, val_main_v123, val_main_v113, val_main_v112, val_main_v111, val_main_v110, val_main_cst_23,
    val_main_cst_24, Norm.dev, Norm.mean]
theorem read_svar (p : Fin 4096) (x : Fin 1) : val_main_v126 (F := Ideal) s (ix2 p x) = Norm.var K (srow s p) := by
  pointwise [val_main_v126, val_main_v125, val_main_v122,
    val_main_v121, val_main_v120, val_main_v119, val_main_v116, val_main_v115, val_main_v114, val_main_v113, val_main_v112, val_main_v111,
    val_main_v110, val_main_cst_23, val_main_cst_24, val_main_cst_26, val_main_cst_27, val_main_cst_28,
    Norm.var, Norm.mean, Norm.dev]
theorem read_srstd (p : Fin 4096) (x : Fin 1) : val_main_v127 (F := Ideal) s (ix2 p x) = Norm.rstd K (srow s p) := by
  pointwise [val_main_v127]
  rw [read_svar]; rfl
theorem read_shat (p : Fin 4096) (k : Fin 1024) : val_main_v132 (F := Ideal) s (ix2 p k) = Norm.hat K (srow s p) k := by
  pointwise [val_main_v132, val_main_v131]
  rw [read_sdev, read_srstd]; rfl
theorem read_sn (p : Fin 4096) (k : Fin 1024) : val_main_v138 (F := Ideal) s cg cb (ix2 p k) = sn s cg cb p k := by
  pointwise [val_main_v138, val_main_v137, val_main_v136, val_main_v135, val_main_v134, val_main_v133, val_main_v109, val_main_v108,
    val_main_v107, val_main_v106, sn]
  rw [read_shat]
theorem read_dsn (p : Fin 4096) (k : Fin 1024) : val_main_v154 (F := Ideal) dy s cg cb (ix2 p k) = dsn dy s cg cb p k := by
  pointwise [val_main_v154, val_main_v153, val_main_v152, val_main_v151, val_main_v150, val_main_v149, val_main_v147, val_main_v146,
    val_main_v145, val_main_v144, val_main_v143, val_main_v142, val_main_v141, val_main_v140, val_main_v139, val_main_cst_30,
    val_main_cst_31, val_main_cst_32, dsn]
  simp only [read_sn]; rfl
/-- The second result: the gradient of the rows the last mixer normalises. -/
theorem read_dr (p : Fin 4096) (k : Fin 1024) :
    val_main_v187 (F := Ideal) dy s cg cb (ix2 p k) = Norm.vjp K (srow s p) (fun k => dsn dy s cg cb p k * cg (ix2 3 k)) k := by
  have hd : ∀ (p : Fin 4096) k, val_main_v162 (F := Ideal) dy s cg cb (ix2 p k) = dsn dy s cg cb p k * cg (ix2 3 k) := fun p k => by
    pointwise [val_main_v162, val_main_v161, val_main_v133, val_main_v107, val_main_v106]; rw [read_dsn]
  have hdev : ∀ (p : Fin 4096) k, val_main_v115 (F := Ideal) s (ix2 p k) = Norm.dev K (srow s p) k := fun p k => (read_sdev s p k)
  have hvia : ∀ p : Fin 4096, val_main_v175 (F := Ideal) dy s cg cb (ix1 p) = Norm.viaVar K (srow s p) (fun k => dsn dy s cg cb p k * cg (ix2 3 k)) := fun p => by
    pointwise [val_main_v175, val_main_v174, val_main_v173, val_main_v169, val_main_v166, val_main_v165, val_main_v164, val_main_v130,
      val_main_v129, val_main_v128, val_main_cst_29, val_main_cst_37, val_main_cst_39, val_main_cst_40, Norm.viaVar]
    simp only [hd, read_sdev, read_svar, read_srstd, Finset.univ_unique, Finset.sum_singleton]
  pointwise [val_main_v187, val_main_v186, val_main_v185, val_main_v184, val_main_v183, val_main_v182, val_main_v181, val_main_v180,
    val_main_v179, val_main_v178, val_main_v177, val_main_v176, val_main_v172, val_main_v171,
    val_main_v170, val_main_v168, val_main_v167, val_main_v118, val_main_v117, val_main_cst_25, val_main_cst_38, val_main_cst_41,
    val_main_cst_42, val_main_cst_43, Norm.vjp]
  simp only [hd, hdev, hvia, read_srstd, Finset.univ_unique, Finset.sum_singleton]
theorem read_dcg (x : Fin 1) (k : Fin 1024) :
    val_main_v195 (F := Ideal) dy s cg cb (ix2 x k) = ∑ p : Fin 4096, Norm.hat K (srow s p) k * dsn dy s cg cb p k := by
  pointwise [val_main_v195, val_main_v163, val_main_v160, val_main_v159, val_main_v158, val_main_cst_35, val_main_cst_36]
  simp only [read_shat, read_dsn, Finset.univ_unique, Finset.sum_singleton]
theorem read_dcb (x : Fin 1) (k : Fin 1024) :
    val_main_v196 (F := Ideal) dy s cg cb (ix2 x k) = ∑ p : Fin 4096, dsn dy s cg cb p k := by
  pointwise [val_main_v196, val_main_v157, val_main_v156, val_main_v155, val_main_cst_33, val_main_cst_34]
  simp only [read_dsn, Finset.univ_unique, Finset.sum_singleton]

end Cert.MixerRowsBwdRefIdeal.Val
end
-- ==== Proof.MixerVal.lean ====
module

public import proofs.«01_k».proof.Proof.Gen.MixerRowsBwdIdeal.Frame
public import proofs.«01_k».proof.Proof.MixerRef
public import Idealize.ShloMosaic.Lib.Pipeline.ValueKit
public import proofs.«01_k».proof.Proof.Kit

@[expose] public section
set_option maxRecDepth 16384
noncomputable section
open Idealize.ShloMosaic Idealize.ShloMosaic.TcCoe Idealize.SL.Sem
open Idealize.ShloMosaic.Pipeline (Dat)
namespace Cert.MixerRowsBwdIdeal.Val
open Cert.MixerRowsBwdIdeal Cert.MixerRowsBwdIdeal.Gen
variable (m : (ℓ : Loc nD τ sig) → Buf (Elt Ideal) ℓ)

theorem idx : ∀ t : Fin cfg0.N, win0_0.index t = ![1, t.val, 0] ∧ win0_1.index t = ![2, t.val, 0]
    ∧ win0_2.index t = ![t.val, 3] ∧ win0_3.index t = ![t.val, 4] ∧ win0_4.index t = ![t.val, 0]
    ∧ win0_5.index t = ![3, 0, 0] ∧ win0_6.index t = ![3, 0, 0] ∧ win0_7.index t = ![3, 0, 0, 0] ∧ win0_8.index t = ![3, 0, 0, 0]
    ∧ win0_9.index t = ![3, 0, 0] ∧ win0_10.index t = ![3, 0, 0]
    ∧ win0_11.index t = ![0, t.val, 0] ∧ win0_12.index t = ![t.val, 0] ∧ win0_13.index t = ![0, 0] ∧ win0_14.index t = ![0, 0]
    ∧ win0_15.index t = ![0, 0, 0] ∧ win0_16.index t = ![0, 0, 0] ∧ win0_17.index t = ![0, 0] ∧ win0_18.index t = ![0, 0] :=
  (by decide +kernel : ∀ t : Fin grid0.N, _)

/-- The cotangents of the three mixers. -/
abbrev aD (c : Dev nD) : FVec Ideal S3x4096x1024 .f32 := m ((c : Thread nD τ).loc main_arg0)
/-- The packed projection of the layer's input. -/
abbrev aZ (c : Dev nD) : FVec Ideal S4096x13312 .f32 := m ((c : Thread nD τ).loc main_arg1)
/-- The rows the last mixer normalises. -/
abbrev aS (c : Dev nD) : FVec Ideal S4096x1024 .f32 := m ((c : Thread nD τ).loc main_arg2)
/-- The scales of the first normalisation, every layer. -/
abbrev aG (c : Dev nD) : FVec Ideal S4x1024 .f32 := m ((c : Thread nD τ).loc main_arg3)
/-- Its shifts. -/
abbrev aH (c : Dev nD) : FVec Ideal S4x1024 .f32 := m ((c : Thread nD τ).loc main_arg4)
/-- The mixing weights of every layer. -/
abbrev aW (c : Dev nD) : FVec Ideal S4x8x128x128 .f32 := m ((c : Thread nD τ).loc main_arg5)
/-- The mixing biases. -/
abbrev aB (c : Dev nD) : FVec Ideal S4x8x128 .f32 := m ((c : Thread nD τ).loc main_arg6)
/-- The scales of the second normalisation. -/
abbrev aE (c : Dev nD) : FVec Ideal S4x1024 .f32 := m ((c : Thread nD τ).loc main_arg7)
/-- Its shifts. -/
abbrev aF (c : Dev nD) : FVec Ideal S4x1024 .f32 := m ((c : Thread nD τ).loc main_arg8)

theorem entry_d (c : Dev nD) : V m c main_arg0 = aD m c := by entry_read; rfl
theorem entry_z (c : Dev nD) : V m c main_arg1 = aZ m c := by entry_read; rfl
theorem entry_s (c : Dev nD) : V m c main_arg2 = aS m c := by entry_read; rfl
theorem entry_w (c : Dev nD) : V m c main_arg5 = aW m c := by entry_read; rfl
/-- The layers' rows enter the region with a unit axis between. -/
theorem entry_g (c : Dev nD) : V m c main_v0 = fun i => aG m c (ix2 (i 0) (i 2)) := by entry_read; funext i; idx_vars i; pointwise []
theorem entry_h (c : Dev nD) : V m c main_v1 = fun i => aH m c (ix2 (i 0) (i 2)) := by entry_read; funext i; idx_vars i; pointwise []
theorem entry_b (c : Dev nD) : V m c main_v2 = fun i => aB m c (ix3 (i 0) (i 1) (i 2)) := by entry_read; funext i; idx_vars i; pointwise []
theorem entry_e (c : Dev nD) : V m c main_v3 = fun i => aE m c (ix2 (i 0) (i 2)) := by entry_read; funext i; idx_vars i; pointwise []
theorem entry_f (c : Dev nD) : V m c main_v4 = fun i => aF m c (ix2 (i 0) (i 2)) := by entry_read; funext i; idx_vars i; pointwise []

end Cert.MixerRowsBwdIdeal.Val
end
-- ==== Proof.MixerPay.lean ====
module

public import proofs.«01_k».proof.Proof.Gen.MixerRowsBwdIdeal.Skeleton
public import proofs.«01_k».proof.Proof.MixerRef
public import proofs.«01_k».proof.Proof.Kit
public import Idealize.ShloMosaic.Lib.Pipeline.ValueKit

@[expose] public section
set_option maxRecDepth 16384
noncomputable section
open Idealize.ShloMosaic Idealize.ShloMosaic.TcCoe Idealize.SL.Sem
namespace Cert.MixerRowsBwdIdeal.Val
open Cert.MixerRowsBwdIdeal Cert.MixerRowsBwdIdeal.Gen
open Cert.MixerRowsBwdRefIdeal.Val (K)

/-- One row of a block of rows. -/
abbrev brow (v : FVec Ideal S256x1024 .f32) (a : Fin 256) (k : Fin 1024) : EReal := v (ix2 a k)

theorem dev_at (v : FVec Ideal S256x1024 .f32) (a : Fin 256) (k : Fin 1024) :
    k0_pay16 (F := Ideal) v (ix2 a k) = Norm.dev K (brow v a) k := by
  pointwise [k0_pay16, Norm.dev, Norm.mean]
theorem rstd_at (v : FVec Ideal S256x1024 .f32) (a : Fin 256) (x : Fin 1) :
    k0_pay17 (F := Ideal) v (ix2 a x) = Norm.rstd K (brow v a) := by
  pointwise [k0_pay17, Norm.rstd, Norm.var, Norm.mean]
  simp only [dev_at]
/-- The kernel's normalised rows. -/
theorem hat_at (v : FVec Ideal S256x1024 .f32) (a : Fin 256) (k : Fin 1024) :
    k0_pay18 (F := Ideal) v (ix2 a k) = Norm.hat K (brow v a) k := by
  pointwise [k0_pay18, Norm.hat]
  rw [dev_at, rstd_at]
/-- The rows of the second normalisation are computed by the same operations. -/
theorem hat_at' (v : FVec Ideal S256x1024 .f32) (a : Fin 256) (k : Fin 1024) :
    k0_pay176 (F := Ideal) v (ix2 a k) = Norm.hat K (brow v a) k := hat_at v a k
theorem rstd_at' (v : FVec Ideal S256x1024 .f32) (a : Fin 256) (x : Fin 1) :
    k0_pay175 (F := Ideal) v (ix2 a x) = Norm.rstd K (brow v a) := rstd_at v a x
theorem vn_at (v : FVec Ideal S256x1024 .f32) (g h : FVec Ideal S1x1x1024 .f32) (a : Fin 256) (k : Fin 1024) :
    k0_pay20 (F := Ideal) v g h (ix2 a k) = Norm.hat K (brow v a) k * g (ix3 0 0 k) + h (ix3 0 0 k) := by
  pointwise [k0_pay20, k0_pay19]
  rw [hat_at]
/-- The gradient through the first normalisation, as the kernel forms it. -/
theorem bwd_at (v d : FVec Ideal S256x1024 .f32) (g : FVec Ideal S1x1x1024 .f32) (a : Fin 256) (k : Fin 1024) :
    k0_pay170 (F := Ideal) (k0_pay17 v) (k0_pay18 v) (k0_pay19 g) d (ix3 0 a k)
      = Norm.bwd K (brow v a) (fun k => d (ix2 a k) * g (ix3 0 0 k)) k := by
  pointwise [k0_pay170, k0_pay19, Norm.bwd, Norm.mean]
  simp only [hat_at, rstd_at]
/-- The gradient through the second normalisation. -/
theorem bwd_at' (v d : FVec Ideal S256x1024 .f32) (g : FVec Ideal S1x1x1024 .f32) (a : Fin 256) (k : Fin 1024) :
    k0_pay1 (F := Ideal) (k0_pay175 v) (k0_pay176 v) (k0_pay182 (k0_pay176 v) (k0_pay177 g) d) (k0_pay183 (k0_pay177 g) d) (ix2 a k)
      = Norm.bwd K (brow v a) (fun k => d (ix2 a k) * g (ix3 0 0 k)) k := by
  pointwise [k0_pay1, k0_pay177, k0_pay181, k0_pay182, k0_pay183, Norm.bwd, Norm.mean]
  simp only [hat_at', rstd_at']
/-- The activation's gradient in the kernel's factored form. -/
def actK (y d : EReal) : EReal := d * (Ideal.logistic y * (1 + y * (1 - Ideal.logistic y)))
theorem act_at (v : FVec Ideal S256x1024 .f32) (g h : FVec Ideal S1x1x1024 .f32) (d : FVec Ideal S1x256x1024 .f32) (a : Fin 256) (k : Fin 1024) :
    k0_pay178 (F := Ideal) v g h d (ix2 a k) = actK (Norm.hat K (brow v a) k * g (ix3 0 0 k) + h (ix3 0 0 k)) (d (ix3 0 a k)) := by
  pointwise [k0_pay178, k0_pay177, actK]
  simp only [hat_at']
theorem colhat_at (h d : FVec Ideal S256x1024 .f32) (p : FVec Ideal S1x1024 .f32) (x : Fin 1) (k : Fin 1024) :
    k0_pay171 (F := Ideal) h d p (ix2 x k) = p (ix2 x k) + ∑ a : Fin 256, d (ix2 a k) * h (ix2 a k) := by
  pointwise [k0_pay171]
theorem col_at (d : FVec Ideal S256x1024 .f32) (p : FVec Ideal S1x1024 .f32) (x : Fin 1) (k : Fin 1024) :
    k0_pay173 (F := Ideal) d p (ix2 x k) = p (ix2 x k) + ∑ a : Fin 256, d (ix2 a k) := by
  pointwise [k0_pay173]

theorem col_at' (d : FVec Ideal S256x1024 .f32) (p : FVec Ideal S1x1024 .f32) (x : Fin 1) (k : Fin 1024) :
    k0_pay180 (F := Ideal) d p (ix2 x k) = p (ix2 x k) + ∑ a : Fin 256, d (ix2 a k) := by
  pointwise [k0_pay180]

/-- The causal weights of a group. -/
theorem wt_at (w : FVec Ideal S1x1x128x128 .f32) (a b : Fin 128) :
    k0_pay22 (F := Ideal) w (ix2 a b) = if b.val ≤ a.val then w (ix4 0 0 a b) else 0 := by
  pointwise [k0_pay22, k0_pay21]
  exact Kit.select_causal a b _ _

theorem sq_at (d : FVec Ideal S1x128x128 .f32) (a l : Fin 128) : k0_pay25 (F := Ideal) d (ix2 a l) = d (ix3 0 a l) := by
  pointwise [k0_pay25]
theorem bias_at (b : FVec Ideal S1x1x128x1 .f32) (a : Fin 128) : k0_pay23 (F := Ideal) b (ix2 a 0) = b (ix4 0 0 a 0) := by
  pointwise [k0_pay23]

/-- One tile of the gated half's gradient: cotangents times the mixed rows. -/
def mixP (vb w : FVec Ideal S128x128 .bf16) (b : FVec Ideal S128x1 .f32) (dy : FVec Ideal S128x128 .f32) : FVec Ideal S1x128x128 .bf16 :=
  shapeCast S1x128x128 (truncf .bf16 (mulf dy (addf (matmul dot_S128x128_S128x128_S128x128_1_0_0_1_n_n none w vb
    (constant S128x128 .f32 0x00000000#32)) (broadcastTo S128x128 b broadcasts_S128x1_S128x128))) bitsLt_bf16_f32) shapeCasts_S128x128_S1x128x128
theorem mixP_at (vb w : FVec Ideal S128x128 .bf16) (b : FVec Ideal S128x1 .f32) (dy : FVec Ideal S128x128 .f32) (x : Fin 1) (a l : Fin 128) :
    mixP vb w b dy (ix3 x a l) = dy (ix2 a l) * ((∑ k : Fin 128, w (ix2 a k) * vb (ix2 k l)) + b (ix2 a 0)) := by
  pointwise [mixP]
/-- One tile of the gradient of the normalised half. -/
def dvnP (w dm : FVec Ideal S128x128 .bf16) : FVec Ideal S128x128 .f32 :=
  shapeCast S128x128 (matmul dot_S128x128_S128x128_S128x128_0_0_1_1_n_n none w dm (constant S128x128 .f32 0x00000000#32)) shapeCasts_S128x128_S128x128
theorem dvnP_at (w dm : FVec Ideal S128x128 .bf16) (b l : Fin 128) :
    dvnP w dm (ix2 b l) = ∑ a : Fin 128, w (ix2 a b) * dm (ix2 a l) := by
  pointwise [dvnP]
/-- One group's part of the weights' gradient. -/
def dwP (v0 v1 d0 d1 : FVec Ideal S128x128 .bf16) (p : FVec Ideal S1x128x128 .f32) : FVec Ideal S1x128x128 .f32 :=
  shapeCast S1x128x128 (addf (shapeCast S128x128 p shapeCasts_S1x128x128_S128x128) (select k0_pay21 (addf
    (matmul dot_S128x128_S128x128_S128x128_1_1_0_0_n_n none d0 v0 (constant S128x128 .f32 0x00000000#32))
    (matmul dot_S128x128_S128x128_S128x128_1_1_0_0_n_n none d1 v1 (constant S128x128 .f32 0x00000000#32)))
    (broadcast S128x128 (Scalar.ofBits (F := Ideal) .f32 0x00000000#32)))) shapeCasts_S128x128_S1x128x128
theorem dwP_at (v0 v1 d0 d1 : FVec Ideal S128x128 .bf16) (p : FVec Ideal S1x128x128 .f32) (x : Fin 1) (a b : Fin 128) :
    dwP v0 v1 d0 d1 p (ix3 x a b) = p (ix3 0 a b) + if b.val ≤ a.val then
      (∑ l : Fin 128, d0 (ix2 a l) * v0 (ix2 b l)) + ∑ l : Fin 128, d1 (ix2 a l) * v1 (ix2 b l) else 0 := by
  pointwise [dwP, k0_pay21]
  exact congrArg (p (ix3 0 a b) + ·) (Kit.select_causal a b _ _)
/-- One group's running sum of the gradients of its mixed rows. -/
theorem sb_at (d : FVec Ideal S128x128 .f32) (p : FVec Ideal S1x128x128 .f32) (x : Fin 1) (a l : Fin 128) :
    k0_pay169 (F := Ideal) d p (ix3 x a l) = p (ix3 0 a l) + d (ix2 a l) := by
  pointwise [k0_pay169]
/-- The last step's sums over the lanes. -/
theorem lane_at (p : FVec Ideal S1x128x128 .f32) (x y : Fin 1) (a : Fin 128) :
    k0_pay2 (F := Ideal) p (ix3 x a y) = ∑ l : Fin 128, p (ix3 0 a l) := by
  pointwise [k0_pay2]

end Cert.MixerRowsBwdIdeal.Val
end
-- ==== Proof.MixerRows.lean ====
module

public import proofs.«01_k».proof.Proof.MixerVal
public import proofs.«01_k».proof.Proof.MixerPay

@[expose] public section
set_option maxRecDepth 16384
noncomputable section
open Idealize.ShloMosaic Idealize.ShloMosaic.TcCoe Idealize.SL.Sem
open Idealize.ShloMosaic.Pipeline (Dat)
namespace Cert.MixerRowsBwdIdeal.Val
open Cert.MixerRowsBwdIdeal Cert.MixerRowsBwdIdeal.Gen
open Cert.MixerRowsBwdRefIdeal.Val (K row lane ucol vrow srow vn wt mixed dmix dvn dvr sn dsn)
variable (m : (ℓ : Loc nD τ sig) → Buf (Elt Ideal) ℓ)

/-- Row `a` of the block of step `t`. -/
abbrev brw (t : Fin cfg0.N) (a : Fin 256) : Fin 4096 :=
  ⟨t.val * 256 + a.val, by have : t.val < 16 := lt_of_lt_of_eq t.isLt N_0; omega⟩

/-- The blocks the steps read, as entries of the arguments. -/
theorem blk_d1 (c : Dev nD) (t : Fin cfg0.N) (x : Fin 1) (a : Fin 256) (k : Fin 1024) :
    iblk m c 0 t (ix3 x a k) = aD m c (ix3 1 (brw t a) k) := by blk_point [iblk, entry_d, idx t]
theorem blk_d2 (c : Dev nD) (t : Fin cfg0.N) (x : Fin 1) (a : Fin 256) (k : Fin 1024) :
    iblk m c 1 t (ix3 x a k) = aD m c (ix3 2 (brw t a) k) := by blk_point [iblk, entry_d, idx t]
theorem blk_u (c : Dev nD) (t : Fin cfg0.N) (a : Fin 256) (k : Fin 1024) :
    iblk m c 2 t (ix2 a k) = ucol (aZ m c) (brw t a) k := by blk_point [iblk, entry_z, idx t]
theorem blk_v (c : Dev nD) (t : Fin cfg0.N) (a : Fin 256) (k : Fin 1024) :
    iblk m c 3 t (ix2 a k) = vrow (aZ m c) (brw t a) k := by blk_point [iblk, entry_z, idx t]
theorem blk_s (c : Dev nD) (t : Fin cfg0.N) (a : Fin 256) (k : Fin 1024) :
    iblk m c 4 t (ix2 a k) = srow (aS m c) (brw t a) k := by blk_point [iblk, entry_s, idx t]
theorem blk_g (c : Dev nD) (t : Fin cfg0.N) (x y : Fin 1) (k : Fin 1024) :
    iblk m c 5 t (ix3 x y k) = aG m c (ix2 3 k) := by blk_point [iblk, entry_g, idx t]
theorem blk_h (c : Dev nD) (t : Fin cfg0.N) (x y : Fin 1) (k : Fin 1024) :
    iblk m c 6 t (ix3 x y k) = aH m c (ix2 3 k) := by blk_point [iblk, entry_h, idx t]
theorem blk_w (c : Dev nD) (t : Fin cfg0.N) (x : Fin 1) (g : Fin 8) (a b : Fin 128) :
    iblk m c 7 t (ix4 x g a b) = aW m c (ix4 3 g a b) := by blk_point [iblk, entry_w, idx t]
theorem blk_b (c : Dev nD) (t : Fin cfg0.N) (x : Fin 1) (g : Fin 8) (a : Fin 128) (y : Fin 1) :
    iblk m c 8 t (ix4 x g a y) = aB m c (ix3 3 g a) := by blk_point [iblk, entry_b, idx t]
theorem blk_e (c : Dev nD) (t : Fin cfg0.N) (x y : Fin 1) (k : Fin 1024) :
    iblk m c 9 t (ix3 x y k) = aE m c (ix2 3 k) := by blk_point [iblk, entry_e, idx t]
theorem blk_f (c : Dev nD) (t : Fin cfg0.N) (x y : Fin 1) (k : Fin 1024) :
    iblk m c 10 t (ix3 x y k) = aF m c (ix2 3 k) := by blk_point [iblk, entry_f, idx t]

theorem brow_s (c : Dev nD) (t : Fin cfg0.N) (a : Fin 256) : brow (iblk m c 4 t) a = srow (aS m c) (brw t a) := funext (blk_s m c t a)
theorem brow_v (c : Dev nD) (t : Fin cfg0.N) (a : Fin 256) : brow (iblk m c 3 t) a = vrow (aZ m c) (brw t a) := funext (blk_v m c t a)

/-- The cotangent of the last mixer's normalised rows. -/
abbrev dcK (c : Dev nD) (p : Fin 4096) (k : Fin 1024) : EReal := actK (sn (aS m c) (aE m c) (aF m c) p k) (aD m c (ix3 2 p k))

/-- What one step forms of it. -/
abbrev dcB (c : Dev nD) (t : Fin cfg0.N) : FVec Ideal S256x1024 .f32 :=
  k0_pay178 (iblk m c 4 t) (iblk m c 9 t) (iblk m c 10 t) (iblk m c 1 t)
theorem dcB_at (c : Dev nD) (t : Fin cfg0.N) (a : Fin 256) (k : Fin 1024) : dcB m c t (ix2 a k) = dcK m c (brw t a) k := by
  refine (act_at _ _ _ _ a k).trans ?_
  simp only [brow_s, blk_e, blk_f, blk_d2, dcK, sn]
theorem dr_at (c : Dev nD) (t : Fin cfg0.N) (a : Fin 256) (k : Fin 1024) :
    k0_pay1 (F := Ideal) (k0_pay175 (iblk m c 4 t)) (k0_pay176 (iblk m c 4 t)) (k0_pay182 (k0_pay176 (iblk m c 4 t))
      (k0_pay177 (iblk m c 9 t)) (dcB m c t)) (k0_pay183 (k0_pay177 (iblk m c 9 t)) (dcB m c t)) (ix2 a k)
      = Norm.bwd K (srow (aS m c) (brw t a)) (fun k => dcK m c (brw t a) k * aE m c (ix2 3 k)) k := by
  refine (bwd_at' _ _ _ a k).trans ?_
  simp only [brow_s, blk_e, dcB_at]

theorem point12 (c : Dev nD) (t : Fin cfg0.N) (a : Fin 256) (k : Fin 1024) :
    (outsAt0 m c t.val t.isLt).2.1 (ix2 a k)
      = Norm.bwd K (srow (aS m c) (brw t a)) (fun k => dcK m c (brw t a) k * aE m c (ix2 3 k)) k := by
  refine Eq.trans ?_ (dr_at m c t a k)
  by_cases h0 : t.val % 16 = 0
  · rw [outsAt0_A m c t h0 (by omega)]; dsimp only; frame_out
  · by_cases h1 : t.val % 16 = 15
    · rw [outsAt0_C m c t h0 h1]; dsimp only; frame_out
    · rw [outsAt0_B m c t h0 h1]; dsimp only; frame_out

end Cert.MixerRowsBwdIdeal.Val
end
-- ==== Proof.MixerCore.lean ====
module

public import proofs.«01_k».proof.Proof.MixerVal
public import proofs.«01_k».proof.Proof.MixerPay
public import proofs.«01_k».proof.Proof.MixerRows

@[expose] public section
set_option maxRecDepth 16384
noncomputable section
open Idealize.ShloMosaic Idealize.ShloMosaic.TcCoe Idealize.SL.Sem
open Idealize.ShloMosaic.Pipeline (Dat)
namespace Cert.MixerRowsBwdIdeal.Val
open Cert.MixerRowsBwdIdeal Cert.MixerRowsBwdIdeal.Gen
open Cert.MixerRowsBwdRefIdeal.Val (K row lane ucol vrow srow vn wt du mixed dmix dvn dvr sn dsn)
variable (m : (ℓ : Loc nD τ sig) → Buf (Elt Ideal) ℓ)

variable (c : Dev nD) (t : Fin cfg0.N)

/-- A square of the cotangents' block. -/
theorem ld_d (o1 o2 : ℕ) (inb : ∀ a, (![0, o1, o2] : Fin 3 → ℕ) a + (![1, 128, 128] : Fin 3 → ℕ) a ≤ S1x256x1024.size a) (x : Fin 1) (a l : Fin 128)
    (P : Fin 256) (Q : Fin 1024) (hP : P.val = o1 + a.val) (hQ : Q.val = o2 + l.val) :
    View.ld (S := S1x256x1024) (iblk m c 0 t) (Rect.unit ![0, o1, o2] ![1, 128, 128] inb) (ix3 x a l) = aD m c (ix3 1 (brw t P) Q) := by
  refine Eq.trans (Kit.ld_at (S := S1x256x1024) (iblk m c 0 t) ![0, o1, o2] ![1, 128, 128] inb (ix3 x a l) (ix3 0 P Q) ?_) (blk_d1 m c t 0 P Q)
  intro i
  match i with
  | 0 => have := x.isLt; show 0 = 0 + x.val; omega
  | 1 => exact hP
  | 2 => exact hQ
/-- The same square of the gated half. -/
theorem ld_u (o1 o2 : ℕ) (inb : ∀ a, (![o1, o2] : Fin 2 → ℕ) a + (![128, 128] : Fin 2 → ℕ) a ≤ S256x1024.size a) (a l : Fin 128)
    (P : Fin 256) (Q : Fin 1024) (hP : P.val = o1 + a.val) (hQ : Q.val = o2 + l.val) :
    View.ld (S := S256x1024) (iblk m c 2 t) (Rect.unit ![o1, o2] ![128, 128] inb) (ix2 a l) = ucol (aZ m c) (brw t P) Q := by
  refine Eq.trans (Kit.ld_at (S := S256x1024) (iblk m c 2 t) ![o1, o2] ![128, 128] inb (ix2 a l) (ix2 P Q) ?_) (blk_u m c t P Q)
  intro i
  match i with
  | 0 => exact hP
  | 1 => exact hQ
/-- One group of the mixing weights. -/
theorem ld_w (g : ℕ) (inb : ∀ a, (![0, g, 0, 0] : Fin 4 → ℕ) a + (![1, 1, 128, 128] : Fin 4 → ℕ) a ≤ S1x8x128x128.size a) (a b : Fin 128)
    (G : Fin 8) (hG : G.val = g) :
    View.ld (S := S1x8x128x128) (iblk m c 7 t) (Rect.unit ![0, g, 0, 0] ![1, 1, 128, 128] inb) (ix4 0 0 a b) = aW m c (ix4 3 G a b) := by
  refine Eq.trans (Kit.ld_at (S := S1x8x128x128) (iblk m c 7 t) ![0, g, 0, 0] ![1, 1, 128, 128] inb (ix4 0 0 a b) (ix4 0 G a b) ?_) (blk_w m c t 0 G a b)
  intro i
  match i with
  | 0 => rfl
  | 1 => exact hG
  | 2 => exact (Nat.zero_add _).symm
  | 3 => exact (Nat.zero_add _).symm
/-- One group of the mixing biases. -/
theorem ld_b (g : ℕ) (inb : ∀ a, (![0, g, 0, 0] : Fin 4 → ℕ) a + (![1, 1, 128, 1] : Fin 4 → ℕ) a ≤ S1x8x128x1.size a) (a : Fin 128)
    (G : Fin 8) (hG : G.val = g) :
    View.ld (S := S1x8x128x1) (iblk m c 8 t) (Rect.unit ![0, g, 0, 0] ![1, 1, 128, 1] inb) (ix4 0 0 a 0) = aB m c (ix3 3 G a) := by
  refine Eq.trans (Kit.ld_at (S := S1x8x128x1) (iblk m c 8 t) ![0, g, 0, 0] ![1, 1, 128, 1] inb (ix4 0 0 a 0) (ix4 0 G a 0) ?_) (blk_b m c t 0 G a 0)
  intro i
  match i with
  | 0 => rfl
  | 1 => exact hG
  | 2 => exact (Nat.zero_add _).symm
  | 3 => rfl

/-- The block's normalised half. -/
abbrev vnB : FVec Ideal S256x1024 .bf16 := k0_pay20 (iblk m c 3 t) (iblk m c 5 t) (iblk m c 6 t)
theorem vnB_at (a : Fin 256) (k : Fin 1024) : vnB m c t (ix2 a k) = vn (aZ m c) (aG m c) (aH m c) (brw t a) k := by
  refine (vn_at _ _ _ a k).trans ?_
  simp only [brow_v, blk_g, blk_h, vn]
theorem vnB_slice (o1 o2 : ℕ) (hs : S256x1024.Slices ![o1, o2] S128x128) (a l : Fin 128) (P : Fin 256) (Q : Fin 1024)
    (hP : P.val = o1 + a.val) (hQ : Q.val = o2 + l.val) :
    extractStridedSlice S128x128 ![o1, o2] (vnB m c t) hs (ix2 a l) = vn (aZ m c) (aG m c) (aH m c) (brw t P) Q := by
  rw [← vnB_at m c t P Q]; refine congrArg (vnB m c t) (funext fun i => Fin.ext ?_)
  match i with
  | 0 => exact hP.symm
  | 1 => exact hQ.symm

/-- The product of a square of cotangents with the gated half. -/
abbrev dmP (d : FVec Ideal S1x128x128 .f32) (u : FVec Ideal S128x128 .f32) : FVec Ideal S128x128 .f32 := mulf (k0_pay25 d) u
theorem dm_at (o1 o2 : ℕ) (i0 : ∀ a, (![0, o1, o2] : Fin 3 → ℕ) a + (![1, 128, 128] : Fin 3 → ℕ) a ≤ S1x256x1024.size a)
    (i2 : ∀ a, (![o1, o2] : Fin 2 → ℕ) a + (![128, 128] : Fin 2 → ℕ) a ≤ S256x1024.size a) (a l : Fin 128) (P : Fin 256) (Q : Fin 1024) (hP : P.val = o1 + a.val) (hQ : Q.val = o2 + l.val) :
    dmP (View.ld (S := S1x256x1024) (iblk m c 0 t) (Rect.unit ![0, o1, o2] ![1, 128, 128] i0)) (View.ld (S := S256x1024) (iblk m c 2 t) (Rect.unit ![o1, o2] ![128, 128] i2)) (ix2 a l)
      = ucol (aZ m c) (brw t P) Q * aD m c (ix3 1 (brw t P) Q) := by
  rw [← ld_d m c t o1 o2 i0 0 a l P Q hP hQ, ← ld_u m c t o1 o2 i2 a l P Q hP hQ, mul_comm]
  exact congrArg (· * _) (sq_at _ a l)

/-- The gradient of the gated half, by row and lane. -/
def duR (p : Fin 4096) (k : Fin 1024) : EReal :=
  du (aD m c) (aZ m c) (aG m c) (aH m c) (aW m c) (aB m c) ⟨p.val / 128, by omega⟩ ⟨p.val % 128, by omega⟩ ⟨k.val / 128, by omega⟩ ⟨k.val % 128, by omega⟩

theorem lane_self (k : Fin 1024) (hg hl) : lane ⟨k.val / 128, hg⟩ ⟨k.val % 128, hl⟩ = k := by ext; show k.val / 128 * 128 + k.val % 128 = _; omega
theorem row_brw (a P : Fin 256) (r : Fin 128) (o : ℕ) (ho : o % 128 = 0) (b : Fin 128) (h1 : a.val = o + r.val) (hP : P.val = o + b.val) (h) :
    row ⟨(brw t a).val / 128, h⟩ b = brw t P := by
  have : t.val < 16 := lt_of_lt_of_eq t.isLt N_0
  ext; show (t.val * 256 + a.val) / 128 * 128 + b.val = t.val * 256 + P.val; omega
theorem mod_brw (a : Fin 256) (r : Fin 128) (o : ℕ) (ho : o % 128 = 0) (h1 : a.val = o + r.val) (h) :
    (⟨(brw t a).val % 128, h⟩ : Fin 128) = r := by
  ext; show (t.val * 256 + a.val) % 128 = _; omega

/-- The chunks of one step. -/
abbrev chn (n : Fin 2) : Fin 32 := ⟨t.val * 2 + n.val, by have : t.val < 16 := lt_of_lt_of_eq t.isLt N_0; omega⟩
theorem row_chn (n : Fin 2) (b : Fin 128) (P : Fin 256) (hP : P.val = n.val * 128 + b.val) : row (chn t n) b = brw t P := by
  ext; show (t.val * 2 + n.val) * 128 + b.val = t.val * 256 + P.val; omega

/-- One step's part of the mixing weights' gradient. -/
def partW (G : Fin 8) (a b : Fin 128) : EReal := if b.val ≤ a.val then
  ∑ n : Fin 2, ∑ l : Fin 128, dmix (aD m c) (aZ m c) (chn t n) a G l * vn (aZ m c) (aG m c) (aH m c) (row (chn t n) b) (lane G l) else 0
/-- One step's part of the running sum of the mixed rows' gradients. -/
def partS (G : Fin 8) (a l : Fin 128) : EReal := ∑ n : Fin 2, dmix (aD m c) (aZ m c) (chn t n) a G l

variable (o1 o2 g : ℕ) (ho : o1 % 128 = 0) (hg : o2 = 128 * g)
  (i0 : ∀ a, (![0, o1, o2] : Fin 3 → ℕ) a + (![1, 128, 128] : Fin 3 → ℕ) a ≤ S1x256x1024.size a)
  (i2 : ∀ a, (![o1, o2] : Fin 2 → ℕ) a + (![128, 128] : Fin 2 → ℕ) a ≤ S256x1024.size a)
  (i7 : ∀ a, (![0, g, 0, 0] : Fin 4 → ℕ) a + (![1, 1, 128, 128] : Fin 4 → ℕ) a ≤ S1x8x128x128.size a)
  (i8 : ∀ a, (![0, g, 0, 0] : Fin 4 → ℕ) a + (![1, 1, 128, 1] : Fin 4 → ℕ) a ≤ S1x8x128x1.size a)
include ho hg

theorem core_du (hs : S256x1024.Slices ![o1, o2] S128x128) (x : S1x128x128.Idx) (a : Fin 256) (k : Fin 1024)
    (h1 : a.val = o1 + (x 1).val) (h2 : k.val = o2 + (x 2).val) :
    mixP (extractStridedSlice S128x128 ![o1, o2] (vnB m c t) hs)
      (k0_pay22 (View.ld (S := S1x8x128x128) (iblk m c 7 t) (Rect.unit ![0, g, 0, 0] ![1, 1, 128, 128] i7)))
      (k0_pay23 (View.ld (S := S1x8x128x1) (iblk m c 8 t) (Rect.unit ![0, g, 0, 0] ![1, 1, 128, 1] i8)))
      (k0_pay25 (View.ld (S := S1x256x1024) (iblk m c 0 t) (Rect.unit ![0, o1, o2] ![1, 128, 128] i0))) x = duR m c (brw t a) k := by
  obtain ⟨x0, r, l, rfl⟩ : ∃ x0 r l, x = ix3 x0 r l := ⟨x 0, x 1, x 2, by funext i; match i with | 0 => rfl | 1 => rfl | 2 => rfl⟩
  replace h1 : a.val = o1 + r.val := h1
  replace h2 : k.val = o2 + l.val := h2
  have hG : k.val / 128 = g := by omega
  refine (mixP_at _ _ _ _ _ _ _).trans ?_
  unfold duR du mixed wt
  simp only [lane_self, mod_brw t a r o1 ho h1]
  rw [row_brw t a a r o1 ho r h1 h1]
  congr 1
  · rw [sq_at]
    exact ld_d m c t o1 o2 i0 0 r l a k h1 h2
  · congr 1
    · refine Finset.sum_congr rfl fun b _ => ?_
      rw [wt_at, ld_w m c t g i7 r b ⟨k.val / 128, by omega⟩ hG, show (t.val * 256 + a.val) % 128 = r.val by omega,
        vnB_slice m c t o1 o2 hs b l ⟨o1 + b.val, by omega⟩ k rfl h2, row_brw t a ⟨o1 + b.val, by omega⟩ r o1 ho b h1 rfl, mul_comm]
    · rw [bias_at]
      exact ld_b m c t g i8 r ⟨k.val / 128, by omega⟩ hG

theorem core_dvn (x : S128x128.Idx) (a : Fin 256) (k : Fin 1024) (h1 : a.val = o1 + (x 0).val) (h2 : k.val = o2 + (x 1).val) :
    dvnP (k0_pay22 (View.ld (S := S1x8x128x128) (iblk m c 7 t) (Rect.unit ![0, g, 0, 0] ![1, 1, 128, 128] i7)))
      (truncf .bf16 (dmP (View.ld (S := S1x256x1024) (iblk m c 0 t) (Rect.unit ![0, o1, o2] ![1, 128, 128] i0))
        (View.ld (S := S256x1024) (iblk m c 2 t) (Rect.unit ![o1, o2] ![128, 128] i2))) bitsLt_bf16_f32) x = dvr (aD m c) (aZ m c) (aW m c) (brw t a) k := by
  obtain ⟨r, l, rfl⟩ : ∃ r l, x = ix2 r l := ⟨x 0, x 1, by funext i; match i with | 0 => rfl | 1 => rfl⟩
  replace h1 : a.val = o1 + r.val := h1
  replace h2 : k.val = o2 + l.val := h2
  have hG : k.val / 128 = g := by omega
  refine (dvnP_at _ _ _ _).trans ?_
  unfold dvr dvn dmix wt
  simp only [lane_self, mod_brw t a r o1 ho h1]
  refine Finset.sum_congr rfl fun b _ => ?_
  rw [wt_at, ld_w m c t g i7 b r ⟨k.val / 128, by omega⟩ hG, show (t.val * 256 + a.val) % 128 = r.val by omega, row_brw t a ⟨o1 + b.val, by omega⟩ r o1 ho b h1 rfl, mul_comm]
  refine congr (congrArg HMul.hMul ?_) rfl
  exact (dm_at m c t o1 o2 i0 i2 b l ⟨o1 + b.val, by omega⟩ k rfl h2)

variable (j0 : ∀ a, (![0, 0, o2] : Fin 3 → ℕ) a + (![1, 128, 128] : Fin 3 → ℕ) a ≤ S1x256x1024.size a)
  (j2 : ∀ a, (![0, o2] : Fin 2 → ℕ) a + (![128, 128] : Fin 2 → ℕ) a ≤ S256x1024.size a)
  (k0 : ∀ a, (![0, 128, o2] : Fin 3 → ℕ) a + (![1, 128, 128] : Fin 3 → ℕ) a ≤ S1x256x1024.size a)
  (k2 : ∀ a, (![128, o2] : Fin 2 → ℕ) a + (![128, 128] : Fin 2 → ℕ) a ≤ S256x1024.size a)
omit ho in
theorem core_dw (hs : S256x1024.Slices ![0, o2] S128x128) (ht : S256x1024.Slices ![128, o2] S128x128) (p : FVec Ideal S1x128x128 .f32)
    (x : S1x128x128.Idx) (G : Fin 8) (a b : Fin 128) (h0 : G.val = g + (x 0).val) (h1 : a.val = (x 1).val) (h2 : b.val = (x 2).val) :
    dwP (extractStridedSlice S128x128 ![0, o2] (vnB m c t) hs) (extractStridedSlice S128x128 ![128, o2] (vnB m c t) ht)
      (truncf .bf16 (dmP (View.ld (S := S1x256x1024) (iblk m c 0 t) (Rect.unit ![0, 0, o2] ![1, 128, 128] j0))
        (View.ld (S := S256x1024) (iblk m c 2 t) (Rect.unit ![0, o2] ![128, 128] j2))) bitsLt_bf16_f32)
      (truncf .bf16 (dmP (View.ld (S := S1x256x1024) (iblk m c 0 t) (Rect.unit ![0, 128, o2] ![1, 128, 128] k0))
        (View.ld (S := S256x1024) (iblk m c 2 t) (Rect.unit ![128, o2] ![128, 128] k2))) bitsLt_bf16_f32) p x
      = p (ix3 0 a b) + partW m c t G a b := by
  obtain ⟨x0, r, l, rfl⟩ : ∃ x0 r l, x = ix3 x0 r l := ⟨x 0, x 1, x 2, by funext i; match i with | 0 => rfl | 1 => rfl | 2 => rfl⟩
  obtain rfl : a = r := Fin.ext h1
  obtain rfl : b = l := Fin.ext h2
  replace h0 : G.val = g := by have : G.val = g + x0.val := h0; omega
  refine (dwP_at _ _ _ _ _ _ _ _).trans ?_
  unfold partW dmix
  rw [Fin.sum_univ_two]
  refine congrArg (p (ix3 0 a b) + ·) (if_congr Iff.rfl (congrArg₂ (· + ·) (Finset.sum_congr rfl fun l _ => ?_) (Finset.sum_congr rfl fun l _ => ?_)) rfl)
  · rw [row_chn t 0 a ⟨a.val, by omega⟩ (by simp), row_chn t 0 b ⟨b.val, by omega⟩ (by simp), vnB_slice m c t 0 o2 hs b l ⟨b.val, by omega⟩ (lane G l) (by simp) (by show G.val * 128 + l.val = _; omega)]
    refine congr (congrArg HMul.hMul ?_) rfl
    exact dm_at m c t 0 o2 j0 j2 a l ⟨a.val, by omega⟩ (lane G l) (by simp) (by show G.val * 128 + l.val = _; omega)
  · rw [row_chn t 1 a ⟨128 + a.val, by omega⟩ (by simp), row_chn t 1 b ⟨128 + b.val, by omega⟩ (by simp), vnB_slice m c t 128 o2 ht b l ⟨128 + b.val, by omega⟩ (lane G l) rfl (by show G.val * 128 + l.val = _; omega)]
    refine congr (congrArg HMul.hMul ?_) rfl
    exact dm_at m c t 128 o2 k0 k2 a l ⟨128 + a.val, by omega⟩ (lane G l) rfl (by show G.val * 128 + l.val = _; omega)

omit ho in
theorem core_sb (p : FVec Ideal S1x128x128 .f32) (x : S1x128x128.Idx) (G : Fin 8) (a l : Fin 128) (h0 : G.val = g + (x 0).val) (h1 : a.val = (x 1).val)
    (h2 : l.val = (x 2).val) :
    k0_pay169 (F := Ideal) (addf (dmP (View.ld (S := S1x256x1024) (iblk m c 0 t) (Rect.unit ![0, 0, o2] ![1, 128, 128] j0))
        (View.ld (S := S256x1024) (iblk m c 2 t) (Rect.unit ![0, o2] ![128, 128] j2)))
      (dmP (View.ld (S := S1x256x1024) (iblk m c 0 t) (Rect.unit ![0, 128, o2] ![1, 128, 128] k0))
        (View.ld (S := S256x1024) (iblk m c 2 t) (Rect.unit ![128, o2] ![128, 128] k2)))) p x
      = p (ix3 0 a l) + partS m c t G a l := by
  obtain ⟨x0, r, q, rfl⟩ : ∃ x0 r l, x = ix3 x0 r l := ⟨x 0, x 1, x 2, by funext i; match i with | 0 => rfl | 1 => rfl | 2 => rfl⟩
  obtain rfl : a = r := Fin.ext h1
  obtain rfl : l = q := Fin.ext h2
  replace h0 : G.val = g := by have : G.val = g + x0.val := h0; omega
  refine (sb_at _ _ _ _ _).trans (congrArg (p (ix3 0 a l) + ·) ?_)
  unfold partS dmix
  rw [Fin.sum_univ_two, row_chn t 0 a ⟨a.val, by omega⟩ (by simp), row_chn t 1 a ⟨128 + a.val, by omega⟩ (by simp)]
  exact congrArg₂ (· + ·) (dm_at m c t 0 o2 j0 j2 a l ⟨a.val, by omega⟩ (lane G l) (by simp) (by show G.val * 128 + l.val = _; omega))
    (dm_at m c t 128 o2 k0 k2 a l ⟨128 + a.val, by omega⟩ (lane G l) rfl (by show G.val * 128 + l.val = _; omega))
end Cert.MixerRowsBwdIdeal.Val
end
-- ==== Proof.MixerPoint.lean ====
module

public import proofs.«01_k».proof.Proof.MixerVal
public import proofs.«01_k».proof.Proof.MixerPay
public import proofs.«01_k».proof.Proof.MixerCore

@[expose] public section
set_option maxRecDepth 16384
noncomputable section
open Idealize.ShloMosaic Idealize.ShloMosaic.TcCoe Idealize.SL.Sem
open Idealize.ShloMosaic.Pipeline (Dat)
namespace Cert.MixerRowsBwdIdeal.Val
open Cert.MixerRowsBwdIdeal Cert.MixerRowsBwdIdeal.Gen
open Cert.MixerRowsBwdRefIdeal.Val (K row lane ucol vrow srow vn wt du mixed dmix dvn dvr sn dsn)
variable (m : (ℓ : Loc nD τ sig) → Buf (Elt Ideal) ℓ)

variable (c : Dev nD) (t : Fin cfg0.N)

/-- What a row of sums over the steps starts a step from: zero at the first step, what the step before left at the others. -/
def prev (f : (n : ℕ) → n < cfg0.N → FVec Ideal S1x1024 .f32) : FVec Ideal S1x1024 .f32 :=
  if h : t.val % 16 = 0 then k0_pay10 (F := Ideal) else f (t.val - 1) (by omega)

theorem index17 (x : Fin 1) (k : Fin 1024) :
    (outsAt0 m c t.val t.isLt).2.2.2.2.2.2.1 (ix2 x k) = prev t (fun n h => (outsAt0 m c n h).2.2.2.2.2.2.1) (ix2 x k)
      + ∑ a : Fin 256, dcK m c (brw t a) k * Norm.hat K (srow (aS m c) (brw t a)) k := by
  have e : ∀ a, dcB m c t (ix2 a k) * k0_pay176 (F := Ideal) (iblk m c 4 t) (ix2 a k) = dcK m c (brw t a) k * Norm.hat K (srow (aS m c) (brw t a)) k :=
    fun a => by rw [dcB_at, hat_at', brow_s]
  simp only [← e]
  refine Eq.trans ?_ (colhat_at _ _ _ x k)
  unfold prev
  by_cases h0 : t.val % 16 = 0
  · rw [outsAt0_A m c t h0 (by omega), dif_pos h0]; dsimp only; frame_out; rfl
  · rw [dif_neg h0]
    by_cases h1 : t.val % 16 = 15
    · rw [outsAt0_C m c t h0 h1]; dsimp only; frame_out; rfl
    · rw [outsAt0_B m c t h0 h1]; dsimp only; frame_out; rfl
theorem index18 (x : Fin 1) (k : Fin 1024) :
    (outsAt0 m c t.val t.isLt).2.2.2.2.2.2.2.1 (ix2 x k) = prev t (fun n h => (outsAt0 m c n h).2.2.2.2.2.2.2.1) (ix2 x k)
      + ∑ a : Fin 256, dcK m c (brw t a) k := by
  simp only [← dcB_at]
  refine Eq.trans ?_ (col_at' _ _ x k)
  unfold prev
  by_cases h0 : t.val % 16 = 0
  · rw [outsAt0_A m c t h0 (by omega), dif_pos h0]; dsimp only; frame_out; rfl
  · rw [dif_neg h0]
    by_cases h1 : t.val % 16 = 15
    · rw [outsAt0_C m c t h0 h1]; dsimp only; frame_out
    · rw [outsAt0_B m c t h0 h1]; dsimp only; frame_out

set_option maxHeartbeats 2000000 in
/-- The scratch buffer of a step: the gradient of its normalised half, and the three results formed from it. -/
theorem dvn_ex : ∃ v : FVec Ideal S256x1024 .f32, (∀ a k, v (ix2 a k) = dvr (aD m c) (aZ m c) (aW m c) (brw t a) k)
    ∧ (∀ x k, (outsAt0 m c t.val t.isLt).2.2.1 (ix2 x k) = k0_pay171 (k0_pay18 (iblk m c 3 t)) v (prev t (fun n h => (outsAt0 m c n h).2.2.1)) (ix2 x k))
    ∧ (∀ x k, (outsAt0 m c t.val t.isLt).2.2.2.1 (ix2 x k) = k0_pay180 v (prev t (fun n h => (outsAt0 m c n h).2.2.2.1)) (ix2 x k))
    ∧ (∀ a k, (outsAt0 m c t.val t.isLt).1 (ix3 1 a k)
        = k0_pay170 (k0_pay17 (iblk m c 3 t)) (k0_pay18 (iblk m c 3 t)) (k0_pay19 (iblk m c 5 t)) v (ix3 0 a k)) := by
  refine ⟨?v, ?val, ?u13, ?u14, ?u11⟩
  case u13 =>
    intro x k
    unfold prev
    by_cases h0 : t.val % 16 = 0
    · rw [outsAt0_A m c t h0 (by omega), dif_pos h0]; dsimp only; frame_out; rfl
    · rw [dif_neg h0]
      by_cases h1 : t.val % 16 = 15
      · rw [outsAt0_C m c t h0 h1]; dsimp only; frame_out
      · rw [outsAt0_B m c t h0 h1]; dsimp only; frame_out
  case u14 =>
    intro x k
    unfold prev
    by_cases h0 : t.val % 16 = 0
    · rw [outsAt0_A m c t h0 (by omega), dif_pos h0]; dsimp only; frame_out; rfl
    · rw [dif_neg h0]
      by_cases h1 : t.val % 16 = 15
      · rw [outsAt0_C m c t h0 h1]; dsimp only; frame_out; rfl
      · rw [outsAt0_B m c t h0 h1]; dsimp only; frame_out; rfl
  case u11 =>
    intro a k
    by_cases h0 : t.val % 16 = 0
    · rw [outsAt0_A m c t h0 (by omega)]; dsimp only; frame_out
      canon_tiles x h using (View.cover_of_tiledBy _ ![1, 128, 128] (by sl_kernel_rfl) _)
      case piece0 => exact congrArg _ (funext fun i => Fin.ext (by match i with | 0 => show (x 0).val = 0; omega | 1 => exact h1.symm | 2 => exact h2.symm))
      all_goals exact absurd h0 (show ¬(1 = (x 0).val) by omega)
    · by_cases h1 : t.val % 16 = 15
      · rw [outsAt0_C m c t h0 h1]; dsimp only; frame_out
        canon_tiles x h using (View.cover_of_tiledBy _ ![1, 128, 128] (by sl_kernel_rfl) _)
        case piece0 => exact congrArg _ (funext fun i => Fin.ext (by match i with | 0 => show (x 0).val = 0; omega | 1 => exact h1.symm | 2 => exact h2.symm))
        all_goals exact absurd h0 (show ¬(1 = (x 0).val) by omega)
      · rw [outsAt0_B m c t h0 h1]; dsimp only; frame_out
        canon_tiles x h using (View.cover_of_tiledBy _ ![1, 128, 128] (by sl_kernel_rfl) _)
        case piece0 => exact congrArg _ (funext fun i => Fin.ext (by match i with | 0 => show (x 0).val = 0; omega | 1 => exact h1.symm | 2 => exact h2.symm))
        all_goals exact absurd h0 (show ¬(1 = (x 0).val) by omega)
  case val =>
    intro a k
    refine (congrFun (View.readCov_eq_canon' _ _ _) _).trans ?_
    canon_tiles x h
    all_goals
      replace h0 : 0 + 1 * a.val = _ := h0
      replace h1 : 0 + 1 * k.val = _ := h1
      exact core_dvn m c t _ _ _ (by rfl) (by rfl) _ _ _ x a k (by omega) (by omega)

theorem index13 (x : Fin 1) (k : Fin 1024) :
    (outsAt0 m c t.val t.isLt).2.2.1 (ix2 x k) = prev t (fun n h => (outsAt0 m c n h).2.2.1) (ix2 x k)
      + ∑ a : Fin 256, dvr (aD m c) (aZ m c) (aW m c) (brw t a) k * Norm.hat K (vrow (aZ m c) (brw t a)) k := by
  obtain ⟨v, hv, h, -, -⟩ := dvn_ex m c t
  rw [h, colhat_at]
  simp only [hv, hat_at, brow_v]
theorem index14 (x : Fin 1) (k : Fin 1024) :
    (outsAt0 m c t.val t.isLt).2.2.2.1 (ix2 x k) = prev t (fun n h => (outsAt0 m c n h).2.2.2.1) (ix2 x k)
      + ∑ a : Fin 256, dvr (aD m c) (aZ m c) (aW m c) (brw t a) k := by
  obtain ⟨v, hv, -, h, -⟩ := dvn_ex m c t
  rw [h, col_at']
  simp only [hv]
theorem point11_1 (a : Fin 256) (k : Fin 1024) :
    (outsAt0 m c t.val t.isLt).1 (ix3 1 a k)
      = Norm.bwd K (vrow (aZ m c) (brw t a)) (fun k => dvr (aD m c) (aZ m c) (aW m c) (brw t a) k * aG m c (ix2 3 k)) k := by
  obtain ⟨v, hv, -, -, h⟩ := dvn_ex m c t
  rw [h]
  refine (bwd_at _ _ _ a k).trans ?_
  simp only [hv, brow_v, blk_g]

set_option maxHeartbeats 2000000 in
theorem point11_0 (a : Fin 256) (k : Fin 1024) : (outsAt0 m c t.val t.isLt).1 (ix3 0 a k) = duR m c (brw t a) k := by
  by_cases h0 : t.val % 16 = 0
  · rw [outsAt0_A m c t h0 (by omega)]; dsimp only; frame_out
    canon_tiles x h using (View.cover_of_tiledBy _ ![1, 128, 128] (by sl_kernel_rfl) _)
    case piece0 => exact absurd h0 (show ¬(0 = 1 + (x 0).val) by omega)
    all_goals
      replace h1 : a.val = _ := h1
      replace h2 : k.val = _ := h2
      exact core_du m c t _ _ _ (by rfl) (by rfl) _ _ _ (by decide) x a k (by omega) (by omega)
  · by_cases h1 : t.val % 16 = 15
    · rw [outsAt0_C m c t h0 h1]; dsimp only; frame_out
      canon_tiles x h using (View.cover_of_tiledBy _ ![1, 128, 128] (by sl_kernel_rfl) _)
      case piece0 => exact absurd h0 (show ¬(0 = 1 + (x 0).val) by omega)
      all_goals
        replace h1 : a.val = _ := h1
        replace h2 : k.val = _ := h2
        exact core_du m c t _ _ _ (by rfl) (by rfl) _ _ _ (by decide) x a k (by omega) (by omega)
    · rw [outsAt0_B m c t h0 h1]; dsimp only; frame_out
      canon_tiles x h using (View.cover_of_tiledBy _ ![1, 128, 128] (by sl_kernel_rfl) _)
      case piece0 => exact absurd h0 (show ¬(0 = 1 + (x 0).val) by omega)
      all_goals
        replace h1 : a.val = _ := h1
        replace h2 : k.val = _ := h2
        exact core_du m c t _ _ _ (by rfl) (by rfl) _ _ _ (by decide) x a k (by omega) (by omega)
end Cert.MixerRowsBwdIdeal.Val
end
-- ==== Proof.MixerAcc.lean ====
module

public import proofs.«01_k».proof.Proof.MixerVal
public import proofs.«01_k».proof.Proof.MixerPay
public import proofs.«01_k».proof.Proof.MixerCore

@[expose] public section
set_option maxRecDepth 16384
noncomputable section
open Idealize.ShloMosaic Idealize.ShloMosaic.TcCoe Idealize.SL.Sem
open Idealize.ShloMosaic.Pipeline (Dat)
namespace Cert.MixerRowsBwdIdeal.Val
open Cert.MixerRowsBwdIdeal Cert.MixerRowsBwdIdeal.Gen
open Cert.MixerRowsBwdRefIdeal.Val (K row lane ucol vrow srow vn wt du mixed dmix dvn dvr sn dsn)
variable (m : (ℓ : Loc nD τ sig) → Buf (Elt Ideal) ℓ)

variable (c : Dev nD) (t : Fin cfg0.N)

/-- What a step reads of a table of the groups, its own group's plane. -/
theorem plane (X : FVec Ideal S8x128x128 .f32) (g : ℕ) (inb : ∀ a, (![g, 0, 0] : Fin 3 → ℕ) a + (![1, 128, 128] : Fin 3 → ℕ) a ≤ S8x128x128.size a)
    (G : Fin 8) (hG : G.val = g) (a b : Fin 128) :
    View.ld (Val := Elt Ideal) (S := S8x128x128) (e' := .f32) X (Rect.unit ![g, 0, 0] ![1, 128, 128] inb) (ix3 0 a b) = X (ix3 G a b) := by
  refine Cert.Kit.ld_at (Val := Elt Ideal) (S := S8x128x128) (e := .f32) X _ _ inb _ _ fun i => ?_
  match i with
  | 0 => exact hG
  | 1 => exact (Nat.zero_add _).symm
  | 2 => exact (Nat.zero_add _).symm

theorem zero12 (G : Fin 8) (a b : Fin 128) : k0_pay12 (F := Ideal) (ix3 G a b) = 0 := by pointwise [k0_pay12]

theorem plane_idx (g : ℕ) (inb : ∀ a, (![g, 0, 0] : Fin 3 → ℕ) a + (![1, 128, 128] : Fin 3 → ℕ) a ≤ S8x128x128.size a)
    (G : Fin 8) (hG : G.val = g) (a b : Fin 128) :
    (Rect.unit (s := S8x128x128) ![g, 0, 0] ![1, 128, 128] inb).toLoadRect.idx (ix3 0 a b) = ix3 G a b := by
  funext i
  refine Fin.ext ?_
  match i with
  | 0 => show g + 1 * 0 = _; exact hG.symm
  | 1 => show 0 + 1 * a.val = a.val; omega
  | 2 => show 0 + 1 * b.val = b.val; omega

theorem lane_at' (p : FVec Ideal S1x128x128 .f32) (x : S1x128x1.Idx) (a : Fin 128) (h : a.val = (x 1).val) :
    k0_pay2 (F := Ideal) p x = ∑ l : Fin 128, p (ix3 0 a l) := by
  obtain ⟨x0, r, y, rfl⟩ : ∃ x0 r l, x = ix3 x0 r l := ⟨x 0, x 1, x 2, by funext i; match i with | 0 => rfl | 1 => rfl | 2 => rfl⟩
  obtain rfl : a = r := Fin.ext h
  exact lane_at p x0 y a
set_option maxHeartbeats 2000000 in
theorem index15 (G : Fin 8) (a b : Fin 128) (h0 : ¬t.val % 16 = 0) :
    (outsAt0 m c t.val t.isLt).2.2.2.2.1 (ix3 G a b) = (outsAt0 m c (t.val - 1) (by omega)).2.2.2.2.1 (ix3 G a b) + partW m c t G a b := by
  by_cases h1 : t.val % 16 = 15
  · rw [outsAt0_C m c t h0 h1]; dsimp only; frame_out
    canon_tiles x h
    all_goals
      replace h0 : G.val = _ := h0
      exact (core_dw m c t _ G.val (by omega) _ _ _ _ (by decide) (by decide) _ x G a b (by omega) h1 h2).trans (congrArg (· + _) (plane _ _ _ G (by omega) a b))
  · rw [outsAt0_B m c t h0 h1]; dsimp only; frame_out
    canon_tiles x h
    all_goals
      replace h0 : G.val = _ := h0
      exact (core_dw m c t _ G.val (by omega) _ _ _ _ (by decide) (by decide) _ x G a b (by omega) h1 h2).trans (congrArg (· + _) (plane _ _ _ G (by omega) a b))

set_option maxHeartbeats 2000000 in
theorem index15A (G : Fin 8) (a b : Fin 128) (h0 : t.val % 16 = 0) :
    (outsAt0 m c t.val t.isLt).2.2.2.2.1 (ix3 G a b) = 0 + partW m c t G a b := by
  rw [outsAt0_A m c t h0 (by omega)]; dsimp only
  frame_open
  simp (disch := decide) only [↓View.readCov_skip, ↓View.readCov_cons_toLoadRect, ↓View.readCov_fill]
  frame_out
  refine Cert.Kit.canon_over [_] _ _ [_, _, _, _, _, _, _, _] (View.cover_of_tiled_head _ _ _ (by rfl) _) ?_
  canon_tiles x h
  all_goals
      replace h0 : G.val = _ := h0
      exact (core_dw m c t _ G.val (by omega) _ _ _ _ (by decide) (by decide) _ x G a b (by omega) h1 h2).trans (congrArg (· + _) ((plane _ _ _ G (by omega) a b).trans (zero12 G a b)))

set_option maxHeartbeats 2000000 in
theorem indexS (G : Fin 8) (a b : Fin 128) (h0 : ¬t.val % 16 = 0) :
    (outsAt0 m c t.val t.isLt).2.2.2.2.2.2.2.2 (ix3 G a b) = (outsAt0 m c (t.val - 1) (by omega)).2.2.2.2.2.2.2.2 (ix3 G a b) + partS m c t G a b := by
  by_cases h1 : t.val % 16 = 15
  · rw [outsAt0_C m c t h0 h1]; dsimp only; frame_out
    canon_tiles x h
    all_goals
      replace h0 : G.val = _ := h0
      exact (core_sb m c t _ G.val (by omega) _ _ _ _ _ x G a b (by omega) h1 h2).trans (congrArg (· + _) ((plane _ _ _ G (by omega) a b).trans (congrFun (read_unread_whole _ _ _) _)))
  · rw [outsAt0_B m c t h0 h1]; dsimp only; frame_out
    canon_tiles x h
    all_goals
      replace h0 : G.val = _ := h0
      exact (core_sb m c t _ G.val (by omega) _ _ _ _ _ x G a b (by omega) h1 h2).trans (congrArg (· + _) ((plane _ _ _ G (by omega) a b).trans (congrFun (read_unread_whole _ _ _) _)))

set_option maxHeartbeats 2000000 in
theorem indexSA (G : Fin 8) (a b : Fin 128) (h0 : t.val % 16 = 0) :
    (outsAt0 m c t.val t.isLt).2.2.2.2.2.2.2.2 (ix3 G a b) = 0 + partS m c t G a b := by
  rw [outsAt0_A m c t h0 (by omega)]; dsimp only
  frame_open
  simp (disch := decide) only [↓View.readCov_skip, ↓View.readCov_cons_toLoadRect, ↓View.readCov_fill]
  frame_out
  refine Cert.Kit.canon_over [_] _ _ [_, _, _, _, _, _, _, _] (View.cover_of_tiled_head _ _ _ (by rfl) _) ?_
  canon_tiles x h
  all_goals
      replace h0 : G.val = _ := h0
      exact (core_sb m c t _ G.val (by omega) _ _ _ _ _ x G a b (by omega) h1 h2).trans (congrArg (· + _) ((plane _ _ _ G (by omega) a b).trans (zero12 G a b)))

set_option maxHeartbeats 2000000 in
theorem index16 (G : Fin 8) (a : Fin 128) (y : Fin 1) (h1 : t.val % 16 = 15) :
    (outsAt0 m c t.val t.isLt).2.2.2.2.2.1 (ix3 G a y) = ∑ l : Fin 128, (outsAt0 m c t.val t.isLt).2.2.2.2.2.2.2.2 (ix3 G a l) := by
  rw [outsAt0_C m c t (by omega) h1]; dsimp only; frame_out
  canon_tiles x h
  all_goals
      replace h0 : G.val = _ := h0
      exact (lane_at' _ x a h1).trans (Finset.sum_congr rfl fun l _ => (congrFun (View.readCov_eq_canon' _ _ _) _).trans
        (congrArg _ (plane_idx _ _ G (by omega) a l)))
end Cert.MixerRowsBwdIdeal.Val
end
-- ==== Proof.MixerFin.lean ====
module

public import proofs.«01_k».proof.Defs
public import proofs.«01_k».proof.Proof.MixerVal
public import proofs.«01_k».proof.Proof.MixerPay

@[expose] public section
set_option maxRecDepth 16384
noncomputable section
open Idealize.ShloMosaic Idealize.ShloMosaic.TcCoe Idealize.SL.Sem
namespace Cert.MixerRowsBwdIdeal.Val
open Cert.MixerRowsBwdIdeal
open Cert.MixerRowsBwdRefIdeal.Val (K row lane ucol vrow srow vn wt du mixed dmix dvn dvr sn dsn)
open Cert.Norm (IsReal)

/-- The arguments the gradients through the two normalisations read are not infinite. -/
structure Finite (dy : FVec Ideal S3x4096x1024 .f32) (z : FVec Ideal S4096x13312 .f32) (s : FVec Ideal S4096x1024 .f32)
    (lg : FVec Ideal S4x1024 .f32) (w : FVec Ideal S4x8x128x128 .f32) (cg cb : FVec Ideal S4x1024 .f32) : Prop where
  dy : ∀ i, IsReal (dy i)
  z : ∀ i, IsReal (z i)
  s : ∀ i, IsReal (s i)
  lg : ∀ i, IsReal (lg i)
  w : ∀ i, IsReal (w i)
  cg : ∀ i, IsReal (cg i)
  cb : ∀ i, IsReal (cb i)

theorem finite_of_fn [Cert.Pre_mixer_rows_finite.Facts] {dy : FVec Ideal S3x4096x1024 .f32} {z : FVec Ideal S4096x13312 .f32} {s : FVec Ideal S4096x1024 .f32}
    {lg lb : FVec Ideal S4x1024 .f32} {w : FVec Ideal S4x8x128x128 .f32} {sb : FVec Ideal S4x8x128 .f32} {cg cb : FVec Ideal S4x1024 .f32}
    (h : Cert.Pre_mixer_rows_finite.fn (F := Ideal) dy z s lg lb w sb cg cb = fun _ => 1#1) : Finite dy z s lg w cg cb := by
  have h0 := congrFun h (fun a => a.elim0)
  simp only [Cert.Pre_mixer_rows_finite.fn, Cert.Pre_mixer_rows_finite.fn_part1, andi_apply, Cert.Norm.and_one] at h0
  obtain ⟨⟨⟨⟨⟨⟨h1, h2⟩, h3⟩, h4⟩, h5⟩, h6⟩, h7⟩ := h0
  exact ⟨IsReal.of_all _ _ _ _ _ _ h1, IsReal.of_all _ _ _ _ _ _ h2, IsReal.of_all _ _ _ _ _ _ h3, IsReal.of_all _ _ _ _ _ _ h4,
    IsReal.of_all _ _ _ _ _ _ h5, IsReal.of_all _ _ _ _ _ _ h6, IsReal.of_all _ _ _ _ _ _ h7⟩

variable {dy : FVec Ideal S3x4096x1024 .f32} {z : FVec Ideal S4096x13312 .f32} {s : FVec Ideal S4096x1024 .f32}
  {lg : FVec Ideal S4x1024 .f32} {w : FVec Ideal S4x8x128x128 .f32} {cg cb : FVec Ideal S4x1024 .f32} (F : Finite dy z s lg w cg cb)
include F

theorem wt_real (g : Fin 8) (a b : Fin 128) : IsReal (wt w g a b) := by
  unfold wt; split
  · exact F.w _
  · exact IsReal.zero
theorem dvr_real (p : Fin 4096) (k : Fin 1024) : IsReal (dvr dy z w p k) :=
  IsReal.sum fun a => ((F.z _).mul (F.dy _)).mul (wt_real F _ _ _)
theorem sn_real (p : Fin 4096) (k : Fin 1024) : IsReal (sn s cg cb p k) :=
  ((IsReal.hat (n := 1024) (by norm_num) Cert.Norm.n1024_eq (fun k => F.s _) k).mul (F.cg _)).add (F.cb _)
theorem act_eq (p : Fin 4096) (k : Fin 1024) : actK (sn s cg cb p k) (dy (ix3 2 p k)) = dsn dy s cg cb p k :=
  Cert.Norm.silu_grad (sn_real F p k) (F.dy _)
theorem dsn_real (p : Fin 4096) (k : Fin 1024) : IsReal (dsn dy s cg cb p k) := by
  rw [← act_eq F]
  have h := IsReal.logistic (sn_real F p k)
  exact (F.dy _).mul (h.mul ((IsReal.coe 1).add ((sn_real F p k).mul ((IsReal.coe 1).sub h))))
theorem dv_eq (p : Fin 4096) (k : Fin 1024) :
    Cert.Norm.bwd K (vrow z p) (fun k => dvr dy z w p k * lg (ix2 3 k)) k = Cert.Norm.vjp K (vrow z p) (fun k => dvr dy z w p k * lg (ix2 3 k)) k :=
  Cert.Norm.bwd_eq_vjp (n := 1024) (by norm_num) Cert.Norm.n1024_eq (fun k => F.z _) (fun k => (dvr_real F p k).mul (F.lg _)) k
theorem dr_eq (p : Fin 4096) (k : Fin 1024) :
    Cert.Norm.bwd K (srow s p) (fun k => actK (sn s cg cb p k) (dy (ix3 2 p k)) * cg (ix2 3 k)) k
      = Cert.Norm.vjp K (srow s p) (fun k => dsn dy s cg cb p k * cg (ix2 3 k)) k := by
  simp only [act_eq F]
  exact Cert.Norm.bwd_eq_vjp (n := 1024) (by norm_num) Cert.Norm.n1024_eq (fun k => F.s _) (fun k => (dsn_real F p k).mul (F.cg _)) k

end Cert.MixerRowsBwdIdeal.Val
end
-- ==== Proof.MixerOut.lean ====
module

public import proofs.«01_k».proof.Proof.MixerRows
public import proofs.«01_k».proof.Proof.MixerPoint
public import proofs.«01_k».proof.Proof.MixerAcc
public import proofs.«01_k».proof.Proof.MixerFin

@[expose] public section
set_option maxRecDepth 16384
noncomputable section
open Idealize.ShloMosaic Idealize.ShloMosaic.TcCoe Idealize.SL.Sem
open Idealize.ShloMosaic.Pipeline (Dat)
namespace Cert.MixerRowsBwdIdeal.Val
open Cert.MixerRowsBwdIdeal Cert.MixerRowsBwdIdeal.Gen Cert.MixerRowsBwdRefIdeal.Read
open Cert.MixerRowsBwdRefIdeal.Val (K row lane ucol vrow srow vn wt du mixed dmix dvn dvr sn dsn
  read_du read_dv read_dr read_dlg read_dlb read_dw read_dsb read_dcg read_dcb)
variable (m : (ℓ : Loc nD τ sig) → Buf (Elt Ideal) ℓ) (c : Dev nD)
  (F : Finite (aD m c) (aZ m c) (aS m c) (aG m c) (aW m c) (aE m c) (aF m c))

/-- The sum over the steps and a step's rows is the sum over all rows. -/
theorem rows_sum (t : Fin cfg0.N) (f : Fin 4096 → EReal) (h : ∀ s : Fin 16, 16 * (t.val / 16) + s.val < cfg0.N) :
    ∑ s : Fin 16, ∑ a : Fin 256, f (brw ⟨16 * (t.val / 16) + s.val, h s⟩ a) = ∑ p : Fin 4096, f p := by
  have ht : t.val < 16 := lt_of_lt_of_eq t.isLt N_0
  refine Fin.sum_mul_add_congr fun s k hl => congrArg f (Fin.ext ?_)
  show (16 * (t.val / 16) + s.val) * 256 + k.val = s.val * 256 + k.val
  omega
/-- The sum over the steps and a step's two chunks is the sum over all chunks. -/
theorem chunks_sum (t : Fin cfg0.N) (f : Fin 32 → EReal) (h : ∀ s : Fin 16, 16 * (t.val / 16) + s.val < cfg0.N) :
    ∑ s : Fin 16, ∑ a : Fin 2, f (chn ⟨16 * (t.val / 16) + s.val, h s⟩ a) = ∑ p : Fin 32, f p := by
  have ht : t.val < 16 := lt_of_lt_of_eq t.isLt N_0
  refine Fin.sum_mul_add_congr fun s k hl => congrArg f (Fin.ext ?_)
  show (16 * (t.val / 16) + s.val) * 2 + k.val = s.val * 2 + k.val
  omega

/-- A row of sums over the steps, complete at the last one. -/
theorem row_total (f : (n : ℕ) → n < cfg0.N → FVec Ideal S1x1024 .f32) (G : Fin 4096 → Fin 1024 → EReal)
    (h : ∀ (t : Fin cfg0.N) (x : Fin 1) (k : Fin 1024), f t.val t.isLt (ix2 x k) = prev t f (ix2 x k) + ∑ a : Fin 256, G (brw t a) k)
    (t : Fin cfg0.N) (ht : t.val % 16 = 15) (x : Fin 1) (k : Fin 1024) : f t.val t.isLt (ix2 x k) = ∑ p : Fin 4096, G p k := by
  have z0 : ∀ j, k0_pay10 (F := Ideal) j = 0 := fun j => by pointwise [k0_pay10]
  rw [Pipeline.eq_sum_fin_of_reset_step_apply_of_flush f 16 (fun _ => 0) (fun t j => ∑ a : Fin 256, G (brw t a) (j 1))
    (fun t h0 j => by idx_vars j; rw [h, prev, dif_pos h0, z0]) (fun t h0 j => by idx_vars j; rw [h, prev, dif_neg h0]) t ht _, zero_add]
  exact rows_sum t (fun p => G p k) _

/-- A table of sums over the steps, complete at the last one. -/
theorem table_total (f : (n : ℕ) → n < cfg0.N → FVec Ideal S8x128x128 .f32) (P : Fin cfg0.N → Fin 8 → Fin 128 → Fin 128 → EReal)
    (hA : ∀ (t : Fin cfg0.N) G a b, t.val % 16 = 0 → f t.val t.isLt (ix3 G a b) = 0 + P t G a b)
    (hB : ∀ (t : Fin cfg0.N) G a b, ¬t.val % 16 = 0 → f t.val t.isLt (ix3 G a b) = f (t.val - 1) (by omega) (ix3 G a b) + P t G a b)
    (t : Fin cfg0.N) (ht : t.val % 16 = 15) (h : ∀ s : Fin 16, 16 * (t.val / 16) + s.val < cfg0.N) (G : Fin 8) (a b : Fin 128) :
    f t.val t.isLt (ix3 G a b) = ∑ s : Fin 16, P ⟨16 * (t.val / 16) + s.val, h s⟩ G a b := by
  have e : ∀ j : S8x128x128.Idx, j = ix3 (j 0) (j 1) (j 2) := fun j => by funext i; match i with | 0 => rfl | 1 => rfl | 2 => rfl
  rw [Pipeline.eq_sum_fin_of_reset_step_apply_of_flush f 16 (fun _ => 0) (fun t j => P t (j 0) (j 1) (j 2))
    (fun t hz j => by rw [e j]; exact hA t _ _ _ hz) (fun t hz j => by rw [e j]; exact hB t _ _ _ hz) t ht _, zero_add]
  rfl
theorem point_lt (t : Fin cfg0.N) (s : Fin 16) : 16 * (t.val / 16) + s.val < cfg0.N := by
  have ht : t.val < 16 := lt_of_lt_of_eq t.isLt N_0
  exact lt_of_lt_of_eq (by omega) N_0.symm

theorem row_self (p : Fin 4096) (h g) : row ⟨p.val / 128, h⟩ ⟨p.val % 128, g⟩ = p := by
  ext; show p.val / 128 * 128 + p.val % 128 = _; omega
theorem read_duR (p : Fin 4096) (k : Fin 1024) :
    val_main_v191 (F := Ideal) (aD m c) (aZ m c) (aG m c) (aH m c) (aW m c) (aB m c) (ix3 0 p k) = duR m c p k := by
  have h := read_du (aD m c) (aZ m c) (aG m c) (aH m c) (aW m c) (aB m c) ⟨p.val / 128, by omega⟩ ⟨p.val % 128, by omega⟩ ⟨k.val / 128, by omega⟩ ⟨k.val % 128, by omega⟩
  rw [lane_self, row_self] at h
  exact h

include F in
theorem final11 : (dats m 0 c).arrAt 11 (cfgs 0).N
    = val_main_v191 (F := Ideal) (aD m c) (aZ m c) (aG m c) (aH m c) (aW m c) (aB m c) := by
  refine (dats m 0 c).arrAt_eq_of_covers 11 _ (by decide +kernel) fun t hf y => ?_
  blk_simp
  rw [after0_11]
  have h0 : ((win0_11.blk t).view.emb y 0).val = (y 0).val := by blk_simp [idx t]
  have h1 : ((win0_11.blk t).view.emb y 1).val = t.val * 256 + (y 1).val := by blk_simp [idx t]
  have h2 : ((win0_11.blk t).view.emb y 2).val = (y 2).val := by blk_simp [idx t]
  generalize (win0_11.blk t).view.emb y = j at h0 h1 h2 ⊢
  idx_vars j
  idx_vars y
  obtain rfl : j0 = y0 := Fin.ext h0
  obtain rfl : j1 = brw t y1 := Fin.ext h1
  obtain rfl : j2 = y2 := Fin.ext h2
  match j0 with
  | 0 => exact (point11_0 m c t y1 j2).trans (read_duR m c (brw t y1) j2).symm
  | 1 => exact (point11_1 m c t y1 j2).trans ((dv_eq F (brw t y1) j2).trans (read_dv (aD m c) (aZ m c) (aG m c) (aH m c) (aW m c) (aB m c) (brw t y1) j2).symm)
include F in
theorem final12 : (dats m 0 c).arrAt 12 (cfgs 0).N = val_main_v187 (F := Ideal) (aD m c) (aS m c) (aE m c) (aF m c) := by
  refine (dats m 0 c).arrAt_eq_of_covers 12 _ (by decide +kernel) fun t hf y => ?_
  blk_simp
  rw [after0_12]
  have h0 : ((win0_12.blk t).view.emb y 0).val = t.val * 256 + (y 0).val := by blk_simp [idx t]
  have h1 : ((win0_12.blk t).view.emb y 1).val = (y 1).val := by blk_simp [idx t]
  generalize (win0_12.blk t).view.emb y = j at h0 h1 ⊢
  idx_vars j
  idx_vars y
  obtain rfl : j0 = brw t y0 := Fin.ext h0
  obtain rfl : j1 = y1 := Fin.ext h1
  exact (point12 m c t y0 j1).trans ((dr_eq F (brw t y0) j1).trans (read_dr (aD m c) (aS m c) (aE m c) (aF m c) (brw t y0) j1).symm)
theorem final13 : (dats m 0 c).arrAt 13 (cfgs 0).N = val_main_v192 (F := Ideal) (aD m c) (aZ m c) (aW m c) := by
  refine (dats m 0 c).arrAt_eq_of_covers 13 _ (by decide +kernel) fun t hf y => ?_
  blk_simp
  rw [after0_13]
  have h1 : ((win0_13.blk t).view.emb y 1).val = (y 1).val := by blk_simp [idx t]
  generalize (win0_13.blk t).view.emb y = j at h1 ⊢
  idx_vars j
  idx_vars y
  obtain rfl : j1 = y1 := Fin.ext h1
  refine (row_total (fun n h => (outsAt0 m c n h).2.2.1) (fun p k => dvr (aD m c) (aZ m c) (aW m c) p k * Norm.hat K (vrow (aZ m c) p) k) (index13 m c) t ((flush0_13 t).mp hf) y0 j1).trans
    (Eq.trans ?_ (read_dlg (aD m c) (aZ m c) (aW m c) _ j1).symm)
  exact Finset.sum_congr rfl fun p _ => mul_comm _ _
theorem final14 : (dats m 0 c).arrAt 14 (cfgs 0).N = val_main_v193 (F := Ideal) (aD m c) (aZ m c) (aW m c) := by
  refine (dats m 0 c).arrAt_eq_of_covers 14 _ (by decide +kernel) fun t hf y => ?_
  blk_simp
  rw [after0_14]
  have h1 : ((win0_14.blk t).view.emb y 1).val = (y 1).val := by blk_simp [idx t]
  generalize (win0_14.blk t).view.emb y = j at h1 ⊢
  idx_vars j
  idx_vars y
  obtain rfl : j1 = y1 := Fin.ext h1
  exact (row_total (fun n h => (outsAt0 m c n h).2.2.2.1) (fun p k => dvr (aD m c) (aZ m c) (aW m c) p k) (index14 m c) t ((flush0_14 t).mp hf) y0 j1).trans
    (read_dlb (aD m c) (aZ m c) (aW m c) _ j1).symm
include F in
theorem final17 : (dats m 0 c).arrAt 17 (cfgs 0).N = val_main_v195 (F := Ideal) (aD m c) (aS m c) (aE m c) (aF m c) := by
  refine (dats m 0 c).arrAt_eq_of_covers 17 _ (by decide +kernel) fun t hf y => ?_
  blk_simp
  rw [after0_17]
  have h1 : ((win0_17.blk t).view.emb y 1).val = (y 1).val := by blk_simp [idx t]
  generalize (win0_17.blk t).view.emb y = j at h1 ⊢
  idx_vars j
  idx_vars y
  obtain rfl : j1 = y1 := Fin.ext h1
  refine (row_total (fun n h => (outsAt0 m c n h).2.2.2.2.2.2.1) (fun p k => dcK m c p k * Norm.hat K (srow (aS m c) p) k) (index17 m c) t ((flush0_17 t).mp hf) y0 j1).trans
    (Eq.trans ?_ (read_dcg (aD m c) (aS m c) (aE m c) (aF m c) _ j1).symm)
  exact Finset.sum_congr rfl fun p _ => by rw [mul_comm, dcK, act_eq F]
include F in
theorem final18 : (dats m 0 c).arrAt 18 (cfgs 0).N = val_main_v196 (F := Ideal) (aD m c) (aS m c) (aE m c) (aF m c) := by
  refine (dats m 0 c).arrAt_eq_of_covers 18 _ (by decide +kernel) fun t hf y => ?_
  blk_simp
  rw [after0_18]
  have h1 : ((win0_18.blk t).view.emb y 1).val = (y 1).val := by blk_simp [idx t]
  generalize (win0_18.blk t).view.emb y = j at h1 ⊢
  idx_vars j
  idx_vars y
  obtain rfl : j1 = y1 := Fin.ext h1
  refine (row_total (fun n h => (outsAt0 m c n h).2.2.2.2.2.2.2.1) (fun p k => dcK m c p k) (index18 m c) t ((flush0_18 t).mp hf) y0 j1).trans
    (Eq.trans ?_ (read_dcb (aD m c) (aS m c) (aE m c) (aF m c) _ j1).symm)
  exact Finset.sum_congr rfl fun p _ => act_eq F p _

theorem final15 : (dats m 0 c).arrAt 15 (cfgs 0).N = val_main_v71 (F := Ideal) (aD m c) (aZ m c) (aG m c) (aH m c) := by
  refine (dats m 0 c).arrAt_eq_of_covers 15 _ (by decide +kernel) fun t hf y => ?_
  blk_simp
  rw [after0_15]
  have h0 : ((win0_15.blk t).view.emb y 0).val = (y 0).val := by blk_simp [idx t]
  have h1 : ((win0_15.blk t).view.emb y 1).val = (y 1).val := by blk_simp [idx t]
  have h2 : ((win0_15.blk t).view.emb y 2).val = (y 2).val := by blk_simp [idx t]
  generalize (win0_15.blk t).view.emb y = j at h0 h1 h2 ⊢
  idx_vars j
  idx_vars y
  obtain rfl : j0 = y0 := Fin.ext h0
  obtain rfl : j1 = y1 := Fin.ext h1
  obtain rfl : j2 = y2 := Fin.ext h2
  refine (table_total (fun n h => (outsAt0 m c n h).2.2.2.2.1) (partW m c) (index15A m c) (index15 m c) t ((flush0_15 t).mp hf) (point_lt t) j0 j1 j2).trans ?_
  refine Eq.trans ?_ (read_dw (aD m c) (aZ m c) (aG m c) (aH m c) j0 j1 j2).symm
  unfold partW
  by_cases hc : j2.val ≤ j1.val
  · refine Eq.trans (Finset.sum_congr rfl fun s _ => if_pos hc) (Eq.trans ?_ (if_pos hc).symm)
    exact chunks_sum t (fun n => ∑ l : Fin 128, dmix (aD m c) (aZ m c) n j1 j0 l * vn (aZ m c) (aG m c) (aH m c) (row n j2) (lane j0 l)) _
  · exact Eq.trans (Finset.sum_congr rfl fun s _ => if_neg hc) (Eq.trans Finset.sum_const_zero (if_neg hc).symm)
theorem final16 : (dats m 0 c).arrAt 16 (cfgs 0).N = val_main_v194 (F := Ideal) (aD m c) (aZ m c) := by
  refine (dats m 0 c).arrAt_eq_of_covers 16 _ (by decide +kernel) fun t hf y => ?_
  blk_simp
  rw [after0_16]
  have h0 : ((win0_16.blk t).view.emb y 0).val = (y 0).val := by blk_simp [idx t]
  have h1 : ((win0_16.blk t).view.emb y 1).val = (y 1).val := by blk_simp [idx t]
  generalize (win0_16.blk t).view.emb y = j at h0 h1 ⊢
  idx_vars j
  idx_vars y
  obtain rfl : j0 = y0 := Fin.ext h0
  obtain rfl : j1 = y1 := Fin.ext h1
  have hS : ∀ l, (outsAt0 m c t.val t.isLt).2.2.2.2.2.2.2.2 (ix3 j0 j1 l) = ∑ n : Fin 32, dmix (aD m c) (aZ m c) n j1 j0 l := fun l => by
    refine (table_total (fun n h => (outsAt0 m c n h).2.2.2.2.2.2.2.2) (partS m c) (indexSA m c) (indexS m c) t ((flush0_16 t).mp hf) (point_lt t) j0 j1 l).trans ?_
    exact chunks_sum t (fun n => dmix (aD m c) (aZ m c) n j1 j0 l) _
  refine (index16 m c t j0 j1 _ ((flush0_16 t).mp hf)).trans (Eq.trans ?_ (read_dsb (aD m c) (aZ m c) j0 j1 _).symm)
  rw [Finset.sum_congr rfl fun l _ => hS l, Finset.sum_comm]

end Cert.MixerRowsBwdIdeal.Val
end
-- ==== Proof.Mixer.lean ====
module
public import proofs.«01_k».proof.Defs
public import proofs.«01_k».proof.Proof.MixerOut
public import proofs.«01_k».proof.Proof.Gen.MixerRowsBwd.Frame
public import proofs.«01_k».proof.Proof.Gen.MixerRowsBwdRefIdeal.Run
public import proofs.«01_k».proof.Proof.Gen.Pre_mixer_rows_finite
@[expose] public section
set_option maxRecDepth 16384
noncomputable section
open Idealize.ShloMosaic Idealize.SL.Sem Idealize.ShloMosaic.StableHlo

namespace Cert.MixerRowsBwdRefIdeal.Read
open Cert.MixerRowsBwdRefIdeal

/-- The reference's run with each result at its named stage instead of the composed term. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v191) = val_main_v191 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v187) = val_main_v187 (F := Ideal) (m ((c.tc : Thread nD τ).loc main_arg0)) (m ((c.tc : Thread nD τ).loc main_arg2)) (m ((c.tc : Thread nD τ).loc main_arg7)) (m ((c.tc : Thread nD τ).loc main_arg8))
      ∧ r.2.mem ((c.tc : Thread nD τ).loc main_v192) = val_main_v192 (F := Ideal) (m ((c.tc : Thread nD τ).loc main_arg0)) (m ((c.tc : Thread nD τ).loc main_arg1)) (m ((c.tc : Thread nD τ).loc main_arg5))
      ∧ r.2.mem ((c.tc : Thread nD τ).loc main_v193) = val_main_v193 (F := Ideal) (m ((c.tc : Thread nD τ).loc main_arg0)) (m ((c.tc : Thread nD τ).loc main_arg1)) (m ((c.tc : Thread nD τ).loc main_arg5))
      ∧ r.2.mem ((c.tc : Thread nD τ).loc main_v71) = val_main_v71 (F := Ideal) (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_v194) = val_main_v194 (F := Ideal) (m ((c.tc : Thread nD τ).loc main_arg0)) (m ((c.tc : Thread nD τ).loc main_arg1))
      ∧ r.2.mem ((c.tc : Thread nD τ).loc main_v195) = val_main_v195 (F := Ideal) (m ((c.tc : Thread nD τ).loc main_arg0)) (m ((c.tc : Thread nD τ).loc main_arg2)) (m ((c.tc : Thread nD τ).loc main_arg7)) (m ((c.tc : Thread nD τ).loc main_arg8))
      ∧ r.2.mem ((c.tc : Thread nD τ).loc main_v196) = val_main_v196 (F := Ideal) (m ((c.tc : Thread nD τ).loc main_arg0)) (m ((c.tc : Thread nD τ).loc main_arg2)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
    ⟨(h c).1.trans (val_main_v191_eq (launchContents m c)),
      (h c).2.1.trans (val_main_v187_eq (launchContents m c)),
      (h c).2.2.1.trans (val_main_v192_eq (launchContents m c)),
      (h c).2.2.2.1.trans (val_main_v193_eq (launchContents m c)),
      (h c).2.2.2.2.1.trans (val_main_v71_eq (launchContents m c)),
      (h c).2.2.2.2.2.1.trans (val_main_v194_eq (launchContents m c)),
      (h c).2.2.2.2.2.2.1.trans (val_main_v195_eq (launchContents m c)),
      (h c).2.2.2.2.2.2.2.1.trans (val_main_v196_eq (launchContents m c)),
      (h c).2.2.2.2.2.2.2.2⟩)
    (Value.run (F := Ideal) m ρ)

end Cert.MixerRowsBwdRefIdeal.Read

namespace Cert.MixerRowsBwdIdeal.Val

set_option maxHeartbeats 1600000 in
/-- The gradient call of the mixers' rows leaves the reference's eight gradients, on finite arguments. -/
theorem algebraic : Cert.algebraic_MixerRowsBwdIdeal_MixerRowsBwdRefIdeal_pre_mixer_rows_finite (hMixerRowsBwdIdeal := Cert.MixerRowsBwdIdeal.Gen.facts)
    (hMixerRowsBwdRefIdeal := Cert.MixerRowsBwdRefIdeal.Gen.facts) (hPre_mixer_rows_finite := Cert.Pre_mixer_rows_finite.Gen.facts) := by
  intro m g m' g' hpre hagree
  refine ⟨fun c => (Gen.dats m 0 c).arrAt 11 (cfgs 0).N, fun c => (Gen.dats m 0 c).arrAt 12 (cfgs 0).N, fun c => (Gen.dats m 0 c).arrAt 13 (cfgs 0).N, fun c => (Gen.dats m 0 c).arrAt 14 (cfgs 0).N, fun c => (Gen.dats m 0 c).arrAt 15 (cfgs 0).N, fun c => (Gen.dats m 0 c).arrAt 16 (cfgs 0).N, fun c => (Gen.dats m 0 c).arrAt 17 (cfgs 0).N, fun c => (Gen.dats m 0 c).arrAt 18 (cfgs 0).N, ?_, ?_⟩
  · exact θ_run_mono (θ_run_and (Gen.run_main m g) (Gen.unchanged m g)) fun r h c =>
      ⟨(h.1 c).1 11, (h.1 c).1 12, (h.1 c).1 13, (h.1 c).1 14, (h.1 c).1 15, (h.1 c).1 16, (h.1 c).1 17, (h.1 c).1 18, h.2 c⟩
  · refine (θ_run Cert.MixerRowsBwdRefIdeal.defs _ _).mono (fun r h c => ?_) (Cert.MixerRowsBwdRefIdeal.Read.run_named m' g')
    obtain ⟨e0, e1, e2, e3, e4, e5, e6, e7, e8⟩ := hagree c
    obtain ⟨h0, h1, h2, h3, h4, h5, h6, h7, hs⟩ := h c
    refine ⟨h0.trans ?_, h1.trans ?_, h2.trans ?_, h3.trans ?_, h4.trans ?_, h5.trans ?_, h6.trans ?_, h7.trans ?_, hs⟩
    · rw [e0, e1, e3, e4, e5, e6]; exact (final11 m c (finite_of_fn (hpre c))).symm
    · rw [e0, e2, e7, e8]; exact (final12 m c (finite_of_fn (hpre c))).symm
    · rw [e0, e1, e5]; exact (final13 m c).symm
    · rw [e0, e1, e5]; exact (final14 m c).symm
    · rw [e0, e1, e3, e4]; exact (final15 m c).symm
    · rw [e0, e1]; exact (final16 m c).symm
    · rw [e0, e2, e7, e8]; exact (final17 m c (finite_of_fn (hpre c))).symm
    · rw [e0, e2, e7, e8]; exact (final18 m c (finite_of_fn (hpre c))).symm

/-- The reference leaves its arguments as they were, and it declares no semaphore. -/
theorem frame_ref : Cert.quiescent_MixerRowsBwdRefIdeal (hMixerRowsBwdRefIdeal := Cert.MixerRowsBwdRefIdeal.Gen.facts) := fun m ρ _ =>
  (θ_run Cert.MixerRowsBwdRefIdeal.defs _ _).mono (fun r h => ⟨fun c => (h c).2.2.2.2.2.2.2.2, sem_eq_zero_of_no_sems (by decide) r.2⟩)
    (Cert.MixerRowsBwdRefIdeal.Value.run (F := Ideal) m ρ)

end Cert.MixerRowsBwdIdeal.Val
end
-- ==== Proof.ShortVal.lean ====
module

public import proofs.«01_k».proof.Proof.Gen.ShortConvBwdIdeal.Frame
public import Idealize.ShloMosaic.Lib.Pipeline.ValueKit
public import proofs.«01_k».proof.Proof.Kit

@[expose] public section
set_option maxRecDepth 16384
noncomputable section
open Idealize.ShloMosaic Idealize.ShloMosaic.TcCoe Idealize.SL.Sem
open Idealize.ShloMosaic.Pipeline (Dat)
namespace Cert.ShortConvBwdIdeal.Val
open Cert.ShortConvBwdIdeal Cert.ShortConvBwdIdeal.Gen
variable (m : (ℓ : Loc nD τ sig) → Buf (Elt Ideal) ℓ)

theorem idx : ∀ t : Fin cfg0.N, win0_0.index t = ![0, 0, t.val] ∧ win0_1.index t = ![0, t.val]
    ∧ win0_2.index t = ![0, 8 + t.val] ∧ win0_3.index t = ![0, 16 + t.val] ∧ win0_4.index t = ![3, 0, t.val]
    ∧ win0_5.index t = ![0, 0, t.val] ∧ win0_6.index t = ![0, t.val] :=
  (by decide +kernel : ∀ t : Fin grid0.N, _)

/-- The cotangents of the three mixers. -/
abbrev aD (c : Dev nD) : FVec Ideal S3x4096x1024 .f32 := m ((c : Thread nD τ).loc main_arg0)
/-- The packed projection of the layer's input. -/
abbrev aZ (c : Dev nD) : FVec Ideal S4096x13312 .f32 := m ((c : Thread nD τ).loc main_arg1)
/-- The taps of every layer. -/
abbrev aW (c : Dev nD) : FVec Ideal S4x3x1024 .f32 := m ((c : Thread nD τ).loc main_arg2)

theorem entry_d (c : Dev nD) : V m c main_arg0 = aD m c := by entry_read; rfl
theorem entry_z (c : Dev nD) : V m c main_arg1 = aZ m c := by entry_read; rfl
theorem entry_w (c : Dev nD) : V m c main_arg2 = aW m c := by entry_read; rfl

end Cert.ShortConvBwdIdeal.Val
end
-- ==== Proof.Conv.lean ====
module

public import Idealize.ShloMosaic.Lib.Pipeline.ValueKit

@[expose] public section
noncomputable section
open Idealize.ShloMosaic
/-! A causal convolution's two index moves on arrays of any size: the rows `k + t` of a padded array, read for every
    tap `k` and every time `t`, and the sum of what is handed back to a row. -/
namespace Cert.Conv

variable {K T n C : ℕ} (idx : IVec ⟨3, ![K, T, 1]⟩ 32)
  (hidx : ∀ (k : Fin K) (t : Fin T), idx (ix3 k t 0) = BitVec.ofNat 32 (k.val + t.val)) (hn : K + T = n + 1) (hs : n < 2 ^ 31)

include hn hs in
theorem toInt_row (k : Fin K) (t : Fin T) : (BitVec.ofNat 32 (k.val + t.val)).toInt = ((k.val + t.val : ℕ) : ℤ) := by
  have := k.isLt; have := t.isLt
  rw [BitVec.toInt_eq_toNat_of_lt (by rw [BitVec.toNat_ofNat]; omega), BitVec.toNat_ofNat, Nat.mod_eq_of_lt (by omega)]

/-- A row number is never negative, so the wrap of negative row numbers leaves it. -/
theorem row_word (k t : ℕ) (y : BitVec 32) (h : k + t < 2 ^ 31) :
    Scalar.select (IntOp.cmpi .slt (IntOp.addi (BitVec.ofNat 32 k) (BitVec.ofNat 32 t)) 0#32) y (IntOp.addi (BitVec.ofNat 32 k) (BitVec.ofNat 32 t))
      = BitVec.ofNat 32 (k + t) := by
  have e : IntOp.addi (BitVec.ofNat 32 k) (BitVec.ofNat 32 t) = BitVec.ofNat 32 (k + t) := (BitVec.ofNat_add k t).symm
  have hlt : (BitVec.ofNat 32 (k + t)).toInt = ((k + t : ℕ) : ℤ) := by
    rw [BitVec.toInt_eq_toNat_of_lt (by rw [BitVec.toNat_ofNat]; omega), BitVec.toNat_ofNat, Nat.mod_eq_of_lt (by omega)]
  have hs : (BitVec.ofNat 32 (k + t)).slt 0#32 = false := by
    rw [BitVec.slt, hlt]
    simp
    omega
  rw [e]
  show Scalar.select (BitVec.ofBool ((BitVec.ofNat 32 (k + t)).slt 0#32)) _ _ = _
  rw [hs]
  rfl

include hidx hn hs in
/-- Reading the padded array: tap `k` at time `t` sees row `k + t`. -/
theorem gather_shift {α : Type} (h : GatherDims.WF ⟨2, ![n, C]⟩ ⟨3, ![K, T, 1]⟩ ⟨3, ![K, T, C]⟩ [2] [0] [] [0] [] 2 ![1, C])
    (x : (⟨2, ![n, C]⟩ : Shape).Idx → α) (k : Fin K) (t : Fin T) (c : Fin C) :
    Host.gather (⟨[2], [0], [], [], [0], 2, ![1, C], h⟩ : GatherDims ⟨2, ![n, C]⟩ ⟨3, ![K, T, 1]⟩ ⟨3, ![K, T, C]⟩) x idx (ix3 k t c)
      = x (ix2 ⟨k.val + t.val, by have := k.isLt; have := t.isLt; omega⟩ c) := by
  have := k.isLt; have := t.isLt
  unfold Host.gather
  congr 1
  funext a
  apply Fin.ext
  match a with
  | 0 =>
    show min (idx _).toInt.toNat (n - 1) + 0 + 0 = k.val + t.val
    have e : ∀ j : (⟨3, ![K, T, 1]⟩ : Shape).Idx, j = ix3 k t 0 → idx j = BitVec.ofNat 32 (k.val + t.val) := by rintro _ rfl; exact hidx k t
    rw [e _ (by funext b; match b with | 0 => rfl | 1 => rfl | 2 => rfl), toInt_row hn hs]
    omega
  | 1 =>
    show 0 + 0 + c.val = c.val
    omega

include hidx hn hs in
/-- Handing back to the padded array: row `r` collects, over the taps, the update of the time that read it. -/
theorem scatter_shift (h : ScatterDims.WF ⟨2, ![n, C]⟩ ⟨3, ![K, T, 1]⟩ ⟨3, ![K, T, C]⟩ [2] [0] [0] 2)
    (x : FVec Ideal ⟨2, ![n, C]⟩ .f32) (upd : FVec Ideal ⟨3, ![K, T, C]⟩ .f32) (r : Fin n) (c : Fin C) :
    Host.scatterAdd (⟨[2], [0], [0], 2, h⟩ : ScatterDims ⟨2, ![n, C]⟩ ⟨3, ![K, T, 1]⟩ ⟨3, ![K, T, C]⟩) x idx upd (ix2 r c)
      = x (ix2 r c) + ∑ k : Fin K, if h : k.val ≤ r.val ∧ r.val - k.val < T then upd (ix3 k ⟨r.val - k.val, h.2⟩ c) else 0 := by
  have key : ∀ (k : Fin K) (t : Fin T) (q : Fin C),
      (⟨[2], [0], [0], 2, h⟩ : ScatterDims ⟨2, ![n, C]⟩ ⟨3, ![K, T, 1]⟩ ⟨3, ![K, T, C]⟩).resultIdx? (ix3 k t q) idx
        = some (ix2 ⟨k.val + t.val, by have := k.isLt; have := t.isLt; omega⟩ q) := by
    intro k t q
    have hk := k.isLt; have ht := t.isLt
    have e : ∀ j : (⟨3, ![K, T, 1]⟩ : Shape).Idx, j = ix3 k t 0 → (idx j).toInt = ((k.val + t.val : ℕ) : ℤ) := by
      rintro _ rfl; rw [hidx k t, toInt_row hn hs]
    have s0 : (⟨[2], [0], [0], 2, h⟩ : ScatterDims ⟨2, ![n, C]⟩ ⟨3, ![K, T, 1]⟩ ⟨3, ![K, T, C]⟩).start (ix3 k t q) idx 0 = ((k.val + t.val : ℕ) : ℤ) :=
      e _ (by funext b; match b with | 0 => rfl | 1 => rfl | 2 => rfl)
    have s1 : (⟨[2], [0], [0], 2, h⟩ : ScatterDims ⟨2, ![n, C]⟩ ⟨3, ![K, T, 1]⟩ ⟨3, ![K, T, C]⟩).start (ix3 k t q) idx 1 = 0 := rfl
    have w0 : (⟨[2], [0], [0], 2, h⟩ : ScatterDims ⟨2, ![n, C]⟩ ⟨3, ![K, T, 1]⟩ ⟨3, ![K, T, C]⟩).window (ix3 k t q) 0 = 0 := rfl
    have w1 : (⟨[2], [0], [0], 2, h⟩ : ScatterDims ⟨2, ![n, C]⟩ ⟨3, ![K, T, 1]⟩ ⟨3, ![K, T, C]⟩).window (ix3 k t q) 1 = q.val := rfl
    unfold ScatterDims.resultIdx?
    have hh : ∀ a, 0 ≤ (⟨[2], [0], [0], 2, h⟩ : ScatterDims ⟨2, ![n, C]⟩ ⟨3, ![K, T, 1]⟩ ⟨3, ![K, T, C]⟩).start (ix3 k t q) idx a
        + (⟨[2], [0], [0], 2, h⟩ : ScatterDims ⟨2, ![n, C]⟩ ⟨3, ![K, T, 1]⟩ ⟨3, ![K, T, C]⟩).window (ix3 k t q) a
      ∧ (⟨[2], [0], [0], 2, h⟩ : ScatterDims ⟨2, ![n, C]⟩ ⟨3, ![K, T, 1]⟩ ⟨3, ![K, T, C]⟩).start (ix3 k t q) idx a
        + (⟨[2], [0], [0], 2, h⟩ : ScatterDims ⟨2, ![n, C]⟩ ⟨3, ![K, T, 1]⟩ ⟨3, ![K, T, C]⟩).window (ix3 k t q) a < (⟨2, ![n, C]⟩ : Shape).size a := by
      intro a
      match a with
      | 0 => rw [s0, w0]; refine ⟨by positivity, ?_⟩; show _ < (n : ℤ); omega
      | 1 => rw [s1, w1]; refine ⟨by positivity, ?_⟩; show _ < (C : ℤ); have := q.isLt; omega
    rw [dif_pos hh]
    congr 1
    funext a
    apply Fin.ext
    match a with
    | 0 => show Int.toNat _ = k.val + t.val; rw [s0, w0]; omega
    | 1 => exact (congrArg Int.toNat (congrArg₂ (fun (a : ℤ) (b : ℕ) => a + (b : ℤ)) s1 w1)).trans (by simp)
  show x (ix2 r c) + ∑ j ∈ Finset.univ.filter _, upd j = _
  congr 1
  rw [Finset.sum_filter, sum_idx3]
  refine Finset.sum_congr rfl fun k _ => ?_
  simp only [key, Option.some.injEq]
  have hc : ∀ (t : Fin T) (q : Fin C), ((ix2 ⟨k.val + t.val, by have := k.isLt; have := t.isLt; omega⟩ q : (⟨2, ![n, C]⟩ : Shape).Idx) = ix2 r c)
      ↔ (k.val + t.val = r.val ∧ q = c) := by
    intro t q
    constructor
    · intro e
      exact ⟨congrArg Fin.val (congrFun e 0), congrFun e 1⟩
    · rintro ⟨e, rfl⟩
      congr 1
      exact Fin.ext e
  simp only [hc]
  by_cases hr : k.val ≤ r.val ∧ r.val - k.val < T
  · rw [dif_pos hr, Finset.sum_eq_single ⟨r.val - k.val, hr.2⟩, Finset.sum_eq_single c]
    · rw [if_pos ⟨by show _ + (_ - _) = _; omega, rfl⟩]
    · intro q _ hq; rw [if_neg (fun e => hq e.2)]
    · intro hq; exact absurd (Finset.mem_univ _) hq
    · intro t _ ht
      refine Finset.sum_eq_zero fun q _ => if_neg fun e => ht (Fin.ext ?_)
      show t.val = r.val - k.val
      omega
    · intro hq; exact absurd (Finset.mem_univ _) hq
  · rw [dif_neg hr]
    refine Finset.sum_eq_zero fun t _ => Finset.sum_eq_zero fun q _ => if_neg fun e => hr ?_
    have := t.isLt
    omega

/-- 4096 rows summed as the tap gradients sum them: sixteen blocks of 256 rows one after the other, of each block the
    rows `a * 8 + s` into the lane row `s`, and the eight lane rows last. -/
theorem fold_rows (f : ℕ → EReal) :
    ∑ s : Fin 8, (∑ a : Fin 32, f (a.val * 8 + s.val)
      + ∑ a : Fin 32, f (256 + (a.val * 8 + s.val))
      + ∑ a : Fin 32, f (512 + (a.val * 8 + s.val))
      + ∑ a : Fin 32, f (768 + (a.val * 8 + s.val))
      + ∑ a : Fin 32, f (1024 + (a.val * 8 + s.val))
      + ∑ a : Fin 32, f (1280 + (a.val * 8 + s.val))
      + ∑ a : Fin 32, f (1536 + (a.val * 8 + s.val))
      + ∑ a : Fin 32, f (1792 + (a.val * 8 + s.val))
      + ∑ a : Fin 32, f (2048 + (a.val * 8 + s.val))
      + ∑ a : Fin 32, f (2304 + (a.val * 8 + s.val))
      + ∑ a : Fin 32, f (2560 + (a.val * 8 + s.val))
      + ∑ a : Fin 32, f (2816 + (a.val * 8 + s.val))
      + ∑ a : Fin 32, f (3072 + (a.val * 8 + s.val))
      + ∑ a : Fin 32, f (3328 + (a.val * 8 + s.val))
      + ∑ a : Fin 32, f (3584 + (a.val * 8 + s.val))
      + ∑ a : Fin 32, f (3840 + (a.val * 8 + s.val))) = ∑ r : Fin 4096, f r.val := by
  have e : ∑ b : Fin 16, ∑ w : Fin 256, f (b.val * 256 + w.val) = ∑ r : Fin 4096, f r.val :=
    Fin.sum_mul_add_congr fun b w _ => rfl
  have w (b : ℕ) : ∑ a : Fin 32, ∑ s : Fin 8, f (b + (a.val * 8 + s.val)) = ∑ w : Fin 256, f (b + w.val) :=
    Fin.sum_mul_add_congr (f := fun w : Fin 256 => f (b + w.val)) fun a s _ => rfl
  have v (b : ℕ) : ∑ s : Fin 8, ∑ a : Fin 32, f (b + (a.val * 8 + s.val)) = ∑ w : Fin 256, f (b + w.val) :=
    Finset.sum_comm.trans (w b)
  have v0 := v 0
  have u (g : ℕ → EReal) : ∑ b : Fin 16, g b.val = g 0 + g 1 + g 2 + g 3 + g 4 + g 5 + g 6 + g 7 + g 8 + g 9 + g 10 + g 11
      + g 12 + g 13 + g 14 + g 15 := by
    simp only [Fin.sum_univ_castSucc, Fin.sum_univ_zero, zero_add]; rfl
  rw [← e, u fun b => ∑ w : Fin 256, f (b * 256 + w.val)]
  simp only [Nat.zero_add, Nat.zero_mul, Nat.one_mul, Nat.reduceMul] at v0 ⊢
  simp only [Finset.sum_add_distrib, v, v0]

/-- Thirty-one taps, written out in their order. -/
theorem sum_taps (w : Fin 31 → EReal) (f : ℕ → EReal) (r : ℕ) : ∑ k : Fin 31, w k * f (r + 30 - k.val) =
    w 0 * f (30 + r) + w 1 * f (29 + r) + w 2 * f (28 + r) + w 3 * f (27 + r) + w 4 * f (26 + r) + w 5 * f (25 + r) + w 6 * f (24 + r) + w 7 * f (23 + r) + w 8 * f (22 + r) + w 9 * f (21 + r) + w 10 * f (20 + r) + w 11 * f (19 + r) + w 12 * f (18 + r) + w 13 * f (17 + r) + w 14 * f (16 + r) + w 15 * f (15 + r) + w 16 * f (14 + r) + w 17 * f (13 + r) + w 18 * f (12 + r) + w 19 * f (11 + r) + w 20 * f (10 + r) + w 21 * f (9 + r) + w 22 * f (8 + r) + w 23 * f (7 + r) + w 24 * f (6 + r) + w 25 * f (5 + r) + w 26 * f (4 + r) + w 27 * f (3 + r) + w 28 * f (2 + r) + w 29 * f (1 + r) + w 30 * f r := by
  have u (g : Fin 31 → EReal) : ∑ k : Fin 31, g k = g 0 + g 1 + g 2 + g 3 + g 4 + g 5 + g 6 + g 7 + g 8 + g 9 + g 10 + g 11 + g 12 + g 13 + g 14 + g 15 + g 16 + g 17 + g 18 + g 19 + g 20 + g 21 + g 22 + g 23 + g 24 + g 25 + g 26 + g 27 + g 28 + g 29 + g 30 := by
    simp only [Fin.sum_univ_castSucc, Fin.sum_univ_zero, zero_add]; rfl
  simp only [Nat.add_comm _ r]
  exact u fun k => w k * f (r + 30 - k.val)

end Cert.Conv
end
-- ==== Proof.ShortRef.lean ====
module

public import proofs.«01_k».proof.Proof.Gen.ShortConvBwdRefIdeal.Read
public import Idealize.ShloMosaic.Lib.Pipeline.ValueKit
public import proofs.«01_k».proof.Proof.Conv

@[expose] public section
set_option maxRecDepth 16384
noncomputable section
open Idealize.ShloMosaic Idealize.SL.Sem
namespace Cert.ShortConvBwdRefIdeal.Val
open Cert.ShortConvBwdRefIdeal Cert.ShortConvBwdRefIdeal.Gen Cert.ShortConvBwdRefIdeal.Read

variable (d : FVec Ideal S3x4096x1024 .f32) (z : FVec Ideal S4096x13312 .f32) (w : FVec Ideal S4x3x1024 .f32)

/-- The convolution's argument below thirty-two rows of zeros. -/
def P (q : Fin 1024) (j : ℕ) : EReal :=
  if h : 32 ≤ j ∧ j - 32 < 4096 then z (ix2 ⟨j - 32, h.2⟩ ⟨1024 + q.val, by omega⟩) * z (ix2 ⟨j - 32, h.2⟩ ⟨2048 + q.val, by omega⟩) else 0

/-- What is handed back to the convolution, above rows of zeros. -/
def Q (q : Fin 1024) (j : ℕ) : EReal :=
  if h : j < 4096 then d (ix3 0 ⟨j, h⟩ q) * z (ix2 ⟨j, h⟩ ⟨q.val, by omega⟩) else 0

/-- The rows the gather names. -/
theorem read_idx (k : Fin 3) (t : Fin 4096) : val_main_v21 (F := Ideal) (ix3 k t 0) = BitVec.ofNat 32 (k.val + t.val) := by
  pointwise [val_main_v21, val_main_v20, val_main_v17, val_main_v15, val_main_v13, val_main_v14, val_main_v10, val_main_v12,
    val_main_v9, val_main_v11, val_main_v16, val_main_c]
  exact Conv.row_word k.val t.val _ (by omega)

theorem read_x (k : Fin 3) (t : Fin 4096) (q : Fin 1024) : val_main_v22 (F := Ideal) z (ix3 k t q) = P z q (30 + k.val + t.val) := by
  refine (Conv.gather_shift (K := 3) (T := 4096) (n := 4098) (C := 1024) _ read_idx (by decide) (by decide) _ _ k t q).trans ?_
  pointwise [val_main_v7, val_main_v6, val_main_cst, val_main_v5, val_main_v1, val_main_v2, P]
  have hk := k.isLt
  by_cases h : k.val + t.val < 2
  · rw [dif_pos h, dif_neg (by omega)]
  · rw [dif_neg h, dif_pos (by omega)]
    have e : 30 + k.val + t.val - 32 = k.val + t.val - 2 := by omega
    simp only [e]

/-- The convolution. -/
theorem read_conv (t : Fin 4096) (q : Fin 1024) :
    val_main_v26 (F := Ideal) z w (ix2 t q) = ∑ k : Fin 3, w (ix3 3 k q) * P z q (30 + k.val + t.val) := by
  pointwise [val_main_v26, val_main_v25, val_main_v24, val_main_v23, val_main_v4, val_main_v3, val_main_cst_2, read_x]

/-- Its transpose. -/
theorem read_back (t : Fin 4096) (q : Fin 1024) :
    val_main_v42 (F := Ideal) d z w (ix2 t q) = ∑ k : Fin 3, w (ix3 3 k q) * Q d z q (t.val + 2 - k.val) := by
  pointwise [val_main_v42]
  unfold val_main_v40
  refine (Conv.scatter_shift (K := 3) (T := 4096) (n := 4098) (C := 1024) _ read_idx (by decide) (by decide) _ _ _ _ q).trans ?_
  pointwise [val_main_v39, val_main_cst_5]
  refine Finset.sum_congr rfl fun k _ => ?_
  have hk := k.isLt
  have e : 2 + t.val - k.val = t.val + 2 - k.val := by omega
  unfold Q
  by_cases h : t.val + 2 - k.val < 4096
  · rw [dif_pos ⟨by omega, by omega⟩, dif_pos h]
    pointwise [val_main_v34, val_main_v33, val_main_v32, val_main_v30, val_main_v23, val_main_v4, val_main_v3, val_main_v0, val_main_v29, val_main_v28]
    simp only [e]
    exact congrArg (w _ * ·) (mul_comm _ _)
  · rw [dif_neg (by omega), dif_neg h, mul_zero]

/-- The gradient of the taps. -/
theorem read_taps (k : Fin 3) (q : Fin 1024) :
    val_main_v38 (F := Ideal) d z (ix2 k q) = ∑ t : Fin 4096, Q d z q t.val * P z q (30 + k.val + t.val) := by
  pointwise [val_main_v38, val_main_v37, val_main_v36, val_main_v35, val_main_v32, val_main_v30, val_main_v0, val_main_v29, val_main_v28,
    val_main_cst_3, val_main_cst_4, read_x]
  rw [Fin.sum_univ_one]
  refine Finset.sum_congr rfl fun t _ => ?_
  rw [Q, dif_pos t.isLt, mul_comm (z _)]

theorem read_rows (a : Fin 3) (t : Fin 4096) (q : Fin 1024) :
    val_main_v49 (F := Ideal) d z w (ix3 a t q) = match a with
      | 0 => d (ix3 0 t q) * ∑ k : Fin 3, w (ix3 3 k q) * P z q (30 + k.val + t.val)
      | 1 => (∑ k : Fin 3, w (ix3 3 k q) * Q d z q (t.val + 2 - k.val)) * z (ix2 t ⟨2048 + q.val, by omega⟩)
      | 2 => (∑ k : Fin 3, w (ix3 3 k q) * Q d z q (t.val + 2 - k.val)) * z (ix2 t ⟨1024 + q.val, by omega⟩) := by
  match a with
  | 0 => pointwise [val_main_v49, val_main_v48, val_main_v45, val_main_v31, val_main_v29, val_main_v28, read_conv]
  | 1 => pointwise [val_main_v49, val_main_v48, val_main_v46, val_main_v44, val_main_v2, read_back]
  | 2 => pointwise [val_main_v49, val_main_v48, val_main_v47, val_main_v43, val_main_v1, read_back]; rw [mul_comm]

end Cert.ShortConvBwdRefIdeal.Val
end
-- ==== Proof.ShortOut.lean ====
module

public import proofs.«01_k».proof.Proof.ShortVal
public import proofs.«01_k».proof.Proof.ShortRef

@[expose] public section
set_option maxRecDepth 16384
noncomputable section
open Idealize.ShloMosaic Idealize.ShloMosaic.TcCoe Idealize.SL.Sem
open Idealize.ShloMosaic.Pipeline (Dat)
namespace Cert.ShortConvBwdIdeal.Val
open Cert.ShortConvBwdIdeal Cert.ShortConvBwdIdeal.Gen
open Cert.ShortConvBwdRefIdeal.Val (P Q read_rows read_taps)
open Cert.ShortConvBwdRefIdeal.Read (val_main_v49 val_main_v38)
variable (m : (ℓ : Loc nD τ sig) → Buf (Elt Ideal) ℓ) (c : Dev nD)

/-- The column of the arrays a point's lane is. -/
def col (t : Fin cfg0.N) (l : Fin 128) : Fin 1024 := ⟨t.val * 128 + l.val, by have := t.isLt; have h : cfg0.N = 8 := rfl; omega⟩

theorem sum_three (w : Fin 3 → EReal) (f : ℕ → EReal) (g : Fin 3 → ℕ) {n0 n1 n2 : ℕ} (h0 : n0 = g 0) (h1 : n1 = g 1) (h2 : n2 = g 2) :
    w 0 * f n0 + w 1 * f n1 + w 2 * f n2 = ∑ k : Fin 3, w k * f (g k) := by
  subst h0 h1 h2; exact (Fin.sum_univ_three (fun k => w k * f (g k))).symm

/-- The taps of layer 3 that a point reads. -/
theorem blk_w (t : Fin cfg0.N) (k : Fin 3) (l : Fin 128) : iblk m c 4 t (ix3 0 k l) = aW m c (ix3 3 k (col t l)) := by
  have hc : (col t l).val = t.val * 128 + l.val := rfl
  blk_point [iblk, entry_w, idx t]

theorem blk_d (t : Fin cfg0.N) (r : Fin 4096) (l : Fin 128) : iblk m c 0 t (ix3 0 r l) = aD m c (ix3 0 r (col t l)) := by
  have hc : (col t l).val = t.val * 128 + l.val := rfl
  blk_point [iblk, entry_d, idx t]

theorem blk_1 (t : Fin cfg0.N) (r : Fin 4096) (l : Fin 128) :
    iblk m c 1 t (ix2 r l) = aZ m c (ix2 r ⟨(col t l).val, by omega⟩) := by
  have hc : (col t l).val = t.val * 128 + l.val := rfl
  blk_point [iblk, entry_z, idx t]

theorem blk_2 (t : Fin cfg0.N) (r : Fin 4096) (l : Fin 128) :
    iblk m c 2 t (ix2 r l) = aZ m c (ix2 r ⟨1024 + (col t l).val, by omega⟩) := by
  have hc : (col t l).val = t.val * 128 + l.val := rfl
  blk_point [iblk, entry_z, idx t]

theorem blk_3 (t : Fin cfg0.N) (r : Fin 4096) (l : Fin 128) :
    iblk m c 3 t (ix2 r l) = aZ m c (ix2 r ⟨2048 + (col t l).val, by omega⟩) := by
  have hc : (col t l).val = t.val * 128 + l.val := rfl
  blk_point [iblk, entry_z, idx t]

/-- The scratch that holds the convolution's argument, at any 256 rows. -/
theorem read_p (t : Fin cfg0.N) (r0 : ℕ) (inb) :
    (View.whole cc0_scratch0).readCov (Val := Elt Ideal)
      [⟨Rect.unit (s := S4128x128) ![32, 0] ![4096, 128] inb_S4128x128_S4096x128_32_0, k0_pay3 (iblk m c 2 t) (iblk m c 3 t)⟩,
        ⟨Rect.unit (s := S4128x128) ![0, 0] ![32, 128] inb_S4128x128_S32x128_0_0, k0_pay2 (F := Ideal)⟩]
      (Rect.unit (s := S4128x128) ![r0, 0] ![256, 128] inb).toLoadRect
      = fun i => P (aZ m c) (col t (i 1)) (r0 + (i 0).val) := by
  funext i
  refine (congrFun (View.readCov_eq_canon' _ _ _) _).trans ?_
  canon_tiles x h using (View.cover_of_tiledBy _ ![32, 128] (by sl_kernel_rfl) _)
  case piece0 =>
    have e0 : r0 + (i 0).val = 32 + (x 0).val := by simpa [Rect.idx_unit_val] using h0
    have e1 : i 1 = x 1 := Fin.ext (by simpa [Rect.idx_unit_val] using h1)
    have hc : (col t (x 1)).val = t.val * 128 + (x 1).val := rfl
    unfold P
    rw [e0, dif_pos (by omega), e1]
    open_payloads
    pointwise []
    blk_point [iblk, entry_z, idx t]
  case piece1 =>
    have e0 : r0 + (i 0).val = (x 0).val := by simpa [Rect.idx_unit_val] using h0
    unfold P
    rw [e0, dif_neg (by omega)]
    open_payloads
    pointwise []

/-- The scratch that holds what is handed back, at any 256 rows. -/
theorem read_q (t : Fin cfg0.N) (r0 : ℕ) (inb) :
    (View.whole cc0_scratch1).readCov (Val := Elt Ideal)
      [⟨Rect.unit (s := S4128x128) ![0, 0] ![4096, 128] inb_S4128x128_S4096x128_0_0, k0_pay5 (iblk m c 0 t) (iblk m c 1 t)⟩,
        ⟨Rect.unit (s := S4128x128) ![4096, 0] ![32, 128] inb_S4128x128_S32x128_4096_0, k0_pay4 (F := Ideal)⟩]
      (Rect.unit (s := S4128x128) ![r0, 0] ![256, 128] inb).toLoadRect
      = fun i => Q (aD m c) (aZ m c) (col t (i 1)) (r0 + (i 0).val) := by
  funext i
  refine (congrFun (View.readCov_eq_canon' _ _ _) _).trans ?_
  canon_tiles x h using (View.cover_of_tiledBy _ ![32, 128] (by sl_kernel_rfl) _)
  case piece0 =>
    have e0 : r0 + (i 0).val = (x 0).val := by simpa [Rect.idx_unit_val] using h0
    have e1 : i 1 = x 1 := Fin.ext (by simpa [Rect.idx_unit_val] using h1)
    have hc : (col t (x 1)).val = t.val * 128 + (x 1).val := rfl
    unfold Q
    rw [e0, dif_pos x0_lt, e1]
    open_payloads
    pointwise []
    blk_point [iblk, entry_z, entry_d, idx t]
  case piece1 =>
    have e0 : r0 + (i 0).val = 4096 + (x 0).val := by simpa [Rect.idx_unit_val] using h0
    unfold Q
    rw [e0, dif_neg (by omega)]
    open_payloads
    pointwise []

set_option maxHeartbeats 2000000 in
theorem point5 (t : Fin cfg0.N) (y) (a : Fin 3) (r : Fin 4096) (l : Fin 128) (ha : a.val = y 0) (hr : r.val = y 1) (hl : l.val = y 2) :
     (outsAt0 m c t).1 y = match a with
      | 0 => aD m c (ix3 0 r (col t l)) * ∑ k : Fin 3, aW m c (ix3 3 k (col t l)) * P (aZ m c) (col t l) (30 + k.val + r.val)
      | 1 => (∑ k : Fin 3, aW m c (ix3 3 k (col t l)) * Q (aD m c) (aZ m c) (col t l) (r.val + 2 - k.val)) * aZ m c (ix2 r ⟨2048 + (col t l).val, by omega⟩)
      | 2 => (∑ k : Fin 3, aW m c (ix3 3 k (col t l)) * Q (aD m c) (aZ m c) (col t l) (r.val + 2 - k.val)) * aZ m c (ix2 r ⟨1024 + (col t l).val, by omega⟩) := by
  unfold outsAt0
  dsimp only
  frame_out
  canon_tiles x h
  all_goals
    first
      | rw [read_q m c t, read_q m c t, read_q m c t]
      | rw [read_p m c t, read_p m c t, read_p m c t]
    obtain ⟨r, hr0⟩ := r
    have hr1 := hr.trans h1
    obtain rfl : l = x 2 := Fin.ext (hl.trans h2)
    first
      | (have e : (y 0).val = 2 := by omega
         obtain rfl : a = 2 := Fin.ext (ha.trans e))
      | (have e : (y 0).val = 1 := by omega
         obtain rfl : a = 1 := Fin.ext (ha.trans e))
      | (have e : (y 0).val = 0 := by omega
         obtain rfl : a = 0 := Fin.ext (ha.trans e))
    generalize P (aZ m c) = p
    generalize Q (aD m c) (aZ m c) = q
    clear ha hr hl h0 h1 h2
    idx_vars x
    open_payloads
    pointwise []
    simp only [blk_w, blk_2, blk_3, blk_d]
    first
      | refine congrArg₂ (· * ·) (sum_three (fun k => aW m c (ix3 3 k (col t x2))) (q (col t x2))
          (fun k => r + 2 - k.val) ?_ ?_ ?_) (congrArg (fun i => aZ m c (ix2 i _)) (Fin.ext hr1.symm))
      | refine congrArg₂ (· * ·) (congrArg (fun i => aD m c (ix3 0 i _)) (Fin.ext hr1.symm))
          (sum_three (fun k => aW m c (ix3 3 k (col t x2))) (p (col t x2)) (fun k => 30 + k.val + r) ?_ ?_ ?_)
    all_goals
      have hr1 : r = _ := hr1
      simp
      omega

set_option maxHeartbeats 4000000 in
theorem point6 (t : Fin cfg0.N) (y) (k : Fin 3) (l : Fin 128) (hk : k.val = y 0) (hl : l.val = y 1) :
     (outsAt0 m c t).2 y = ∑ r : Fin 4096, Q (aD m c) (aZ m c) (col t l) r.val * P (aZ m c) (col t l) (30 + k.val + r.val) := by
  unfold outsAt0
  dsimp only
  frame_open
  simp (disch := decide) only [↓View.readCov_skip, ↓View.readCov_cons_toLoadRect, ↓View.readCov_fill]
  frame_out
  canon_tiles x h
  all_goals
    repeat (first | rw [read_q m c t] | rw [read_p m c t])
    generalize P (aZ m c) = p
    generalize Q (aD m c) (aZ m c) = q
    obtain rfl : l = x 1 := Fin.ext (hl.trans h1)
    obtain ⟨k, hk0⟩ := k
    have hk1 : k = _ := hk.trans h0
    clear hk hl h0 h1
    idx_vars x
    open_payloads
    pointwise []
    have e := Cert.Conv.fold_rows fun n => q (col t x1) n * p (col t x1) (30 + k + n)
    rw [hk1, (by omega : x0.val = 0)] at e ⊢
    simp only [← Nat.add_assoc, Nat.add_zero, Nat.reduceAdd] at e ⊢
    exact e

/-- The first result: the gradient of the three planes. -/
theorem final5 : (dats m 0 c).arrAt 5 (cfgs 0).N = val_main_v49 (F := Ideal) (aD m c) (aZ m c) (aW m c) := by
  refine (dats m 0 c).arrAt_eq_of_covers 5 _ (by decide +kernel) fun t hf y => ?_
  blk_simp
  rw [after0_5]
  have h0 : ((win0_5.blk t).view.emb y 0).val = (y 0).val := by blk_simp [idx t]
  have h1 : ((win0_5.blk t).view.emb y 1).val = (y 1).val := by blk_simp [idx t]
  have h2 : ((win0_5.blk t).view.emb y 2).val = t.val * 128 + (y 2).val := by blk_simp [idx t]
  generalize (win0_5.blk t).view.emb y = j at h0 h1 h2 ⊢
  idx_vars j
  obtain rfl : j2 = col t (y 2) := Fin.ext h2
  exact (point5 m c t y j0 j1 (y 2) h0 h1 rfl).trans (read_rows (aD m c) (aZ m c) (aW m c) _ _ _).symm

/-- The second result: the gradient of the taps. -/
theorem final6 : (dats m 0 c).arrAt 6 (cfgs 0).N = val_main_v38 (F := Ideal) (aD m c) (aZ m c) := by
  refine (dats m 0 c).arrAt_eq_of_covers 6 _ (by decide +kernel) fun t hf y => ?_
  blk_simp
  rw [after0_6]
  have h0 : ((win0_6.blk t).view.emb y 0).val = (y 0).val := by blk_simp [idx t]
  have h1 : ((win0_6.blk t).view.emb y 1).val = t.val * 128 + (y 1).val := by blk_simp [idx t]
  generalize (win0_6.blk t).view.emb y = j at h0 h1 ⊢
  idx_vars j
  obtain rfl : j1 = col t (y 1) := Fin.ext h1
  exact (point6 m c t y j0 (y 1) h0 rfl).trans (read_taps (aD m c) (aZ m c) _ _).symm

end Cert.ShortConvBwdIdeal.Val
-- ==== Proof.Short.lean ====
module
public import proofs.«01_k».proof.Defs
public import proofs.«01_k».proof.Proof.ShortOut
public import proofs.«01_k».proof.Proof.Gen.ShortConvBwdRefIdeal.Run
@[expose] public section
set_option maxRecDepth 16384
noncomputable section
open Idealize.ShloMosaic Idealize.SL.Sem Idealize.ShloMosaic.StableHlo

namespace Cert.ShortConvBwdRefIdeal.Read
open Cert.ShortConvBwdRefIdeal

/-- The reference's run with each result at its named stage instead of the composed term. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v49) = val_main_v49 (F := Ideal) (m ((c.tc : Thread nD τ).loc main_arg0)) (m ((c.tc : Thread nD τ).loc main_arg1)) (m ((c.tc : Thread nD τ).loc main_arg2))
      ∧ r.2.mem ((c.tc : Thread nD τ).loc main_v38) = val_main_v38 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨(h c).1.trans (val_main_v49_eq m c),
      (h c).2.1.trans (val_main_v38_eq _ _),
      (h c).2.2⟩)
    (Value.run (F := Ideal) m ρ)

end Cert.ShortConvBwdRefIdeal.Read

namespace Cert.ShortConvBwdIdeal.Val

set_option maxHeartbeats 1600000 in
/-- The gradient call of the short convolution leaves the reference's two gradients. -/
theorem algebraic : Cert.algebraic_ShortConvBwdIdeal_ShortConvBwdRefIdeal (hShortConvBwdIdeal := Cert.ShortConvBwdIdeal.Gen.facts)
    (hShortConvBwdRefIdeal := Cert.ShortConvBwdRefIdeal.Gen.facts) := by
  intro m g m' g' hpre hagree
  refine ⟨fun c => (Gen.dats m 0 c).arrAt 5 (cfgs 0).N, fun c => (Gen.dats m 0 c).arrAt 6 (cfgs 0).N, ?_, ?_⟩
  · exact θ_run_mono (θ_run_and (Gen.run_main m g) (Gen.unchanged m g)) fun r h c =>
      ⟨(h.1 c).1 5, (h.1 c).1 6, h.2 c⟩
  · refine (θ_run Cert.ShortConvBwdRefIdeal.defs _ _).mono (fun r h c => ?_) (Cert.ShortConvBwdRefIdeal.Read.run_named m' g')
    obtain ⟨e0, e1, e2⟩ := hagree c
    obtain ⟨h0, h1, hs⟩ := h c
    refine ⟨h0.trans ?_, h1.trans ?_, hs⟩
    · rw [e0, e1, e2]; exact (final5 m c).symm
    · rw [e0, e1]; exact (final6 m c).symm

/-- The reference leaves its arguments as they were, and it declares no semaphore. -/
theorem frame_ref : Cert.quiescent_ShortConvBwdRefIdeal (hShortConvBwdRefIdeal := Cert.ShortConvBwdRefIdeal.Gen.facts) := fun m ρ _ =>
  (θ_run Cert.ShortConvBwdRefIdeal.defs _ _).mono (fun r h => ⟨fun c => (h c).2.2, sem_eq_zero_of_no_sems (by decide) r.2⟩)
    (Cert.ShortConvBwdRefIdeal.Value.run (F := Ideal) m ρ)

end Cert.ShortConvBwdIdeal.Val
end
-- ==== Proof.ConfVal.lean ====
module

public import proofs.«01_k».proof.Proof.Gen.ConformerConvBwdIdeal.Frame
public import Idealize.ShloMosaic.Lib.Pipeline.ValueKit
public import proofs.«01_k».proof.Proof.Kit

@[expose] public section
set_option maxRecDepth 16384
noncomputable section
open Idealize.ShloMosaic Idealize.ShloMosaic.TcCoe Idealize.SL.Sem
open Idealize.ShloMosaic.Pipeline (Dat)
namespace Cert.ConformerConvBwdIdeal.Val
open Cert.ConformerConvBwdIdeal Cert.ConformerConvBwdIdeal.Gen
variable (m : (ℓ : Loc nD τ sig) → Buf (Elt Ideal) ℓ)

theorem idx : ∀ t : Fin cfg0.N, win0_0.index t = ![0, t.val] ∧ win0_1.index t = ![0, 40 + t.val]
    ∧ win0_2.index t = ![0, 48 + t.val] ∧ win0_3.index t = ![3, 0, t.val]
    ∧ win0_4.index t = ![0, 0, t.val] ∧ win0_5.index t = ![0, t.val] ∧ win0_6.index t = ![0, t.val] :=
  (by decide +kernel : ∀ t : Fin grid0.N, _)

/-- The cotangent of the convolution's output. -/
abbrev aD (c : Dev nD) : FVec Ideal S4096x1024 .f32 := m ((c : Thread nD τ).loc main_arg0)
/-- The packed projection of the layer's input. -/
abbrev aZ (c : Dev nD) : FVec Ideal S4096x13312 .f32 := m ((c : Thread nD τ).loc main_arg1)
/-- The taps of every layer. -/
abbrev aW (c : Dev nD) : FVec Ideal S4x31x1024 .f32 := m ((c : Thread nD τ).loc main_arg2)

theorem entry_d (c : Dev nD) : V m c main_arg0 = aD m c := by entry_read; rfl
theorem entry_z (c : Dev nD) : V m c main_arg1 = aZ m c := by entry_read; rfl
theorem entry_w (c : Dev nD) : V m c main_arg2 = aW m c := by entry_read; rfl

variable (c : Dev nD)

/-- The column of the arrays a point's lane is. -/
def col (t : Fin cfg0.N) (l : Fin 128) : Fin 1024 := ⟨t.val * 128 + l.val, by have := t.isLt; have h : cfg0.N = 8 := rfl; omega⟩

/-- The taps of layer 3 that a point reads. -/
theorem blk_w (t : Fin cfg0.N) (k : Fin 31) (l : Fin 128) : iblk m c 3 t (ix3 0 k l) = aW m c (ix3 3 k (col t l)) := by
  have hc : (col t l).val = t.val * 128 + l.val := rfl
  blk_point [iblk, entry_w, idx t]

theorem blk_d (t : Fin cfg0.N) (r : Fin 4096) (l : Fin 128) : iblk m c 0 t (ix2 r l) = aD m c (ix2 r (col t l)) := by
  have hc : (col t l).val = t.val * 128 + l.val := rfl
  blk_point [iblk, entry_d, idx t]

theorem blk_1 (t : Fin cfg0.N) (r : Fin 4096) (l : Fin 128) :
    iblk m c 1 t (ix2 r l) = aZ m c (ix2 r ⟨5120 + (col t l).val, by omega⟩) := by
  have hc : (col t l).val = t.val * 128 + l.val := rfl
  blk_point [iblk, entry_z, idx t]

theorem blk_2 (t : Fin cfg0.N) (r : Fin 4096) (l : Fin 128) :
    iblk m c 2 t (ix2 r l) = aZ m c (ix2 r ⟨6144 + (col t l).val, by omega⟩) := by
  have hc : (col t l).val = t.val * 128 + l.val := rfl
  blk_point [iblk, entry_z, idx t]

end Cert.ConformerConvBwdIdeal.Val
end
-- ==== Proof.ConfRef.lean ====
module

public import proofs.«01_k».proof.Proof.Gen.ConformerConvBwdRefIdeal.Read
public import Idealize.ShloMosaic.Lib.Pipeline.ValueKit
public import proofs.«01_k».proof.Proof.Conv

@[expose] public section
set_option maxRecDepth 16384
noncomputable section
open Idealize.ShloMosaic Idealize.SL.Sem
namespace Cert.ConformerConvBwdRefIdeal.Val
open Cert.ConformerConvBwdRefIdeal Cert.ConformerConvBwdRefIdeal.Gen Cert.ConformerConvBwdRefIdeal.Read

variable (d : FVec Ideal S4096x1024 .f32) (z : FVec Ideal S4096x13312 .f32) (w : FVec Ideal S4x31x1024 .f32)

/-- The gate of the linear unit. -/
def sg (t : Fin 4096) (q : Fin 1024) : EReal := Ideal.logistic (z (ix2 t ⟨6144 + q.val, by omega⟩))

/-- The convolution's argument below thirty-two rows of zeros. -/
def P (q : Fin 1024) (j : ℕ) : EReal :=
  if h : 32 ≤ j ∧ j - 32 < 4096 then z (ix2 ⟨j - 32, h.2⟩ ⟨5120 + q.val, by omega⟩) * sg z ⟨j - 32, h.2⟩ q else 0

/-- What is handed back to the convolution, above rows of zeros. -/
def Q (q : Fin 1024) (j : ℕ) : EReal := if h : j < 4096 then d (ix2 ⟨j, h⟩ q) else 0

theorem read_gate (t : Fin 4096) (q : Fin 1024) : val_main_v10 (F := Ideal) z (ix2 t q) = sg z t q := by
  pointwise [val_main_v10, val_main_v9, val_main_v8, val_main_v7, val_main_v6, val_main_v5, val_main_v1, val_main_cst_0, val_main_cst_1, sg]
  rfl

/-- The rows the gather names. -/
theorem read_idx (k : Fin 31) (t : Fin 4096) : val_main_v30 (F := Ideal) (ix3 k t 0) = BitVec.ofNat 32 (k.val + t.val) := by
  pointwise [val_main_v30, val_main_v29, val_main_v26, val_main_v24, val_main_v22, val_main_v23, val_main_v19, val_main_v21,
    val_main_v18, val_main_v20, val_main_v25, val_main_c]
  exact Conv.row_word k.val t.val _ (by omega)

theorem read_x (k : Fin 31) (t : Fin 4096) (q : Fin 1024) : val_main_v31 (F := Ideal) z (ix3 k t q) = P z q (2 + k.val + t.val) := by
  refine (Conv.gather_shift (K := 31) (T := 4096) (n := 4126) (C := 1024) _ read_idx (by decide) (by decide) _ _ k t q).trans ?_
  pointwise [val_main_v16, val_main_v15, val_main_cst_3, val_main_v14, val_main_v0, read_gate, P]
  have hk := k.isLt
  by_cases h : k.val + t.val < 30
  · rw [dif_pos h, dif_neg (by omega)]
  · rw [dif_neg h, dif_pos (by omega)]
    have e : 2 + k.val + t.val - 32 = k.val + t.val - 30 := by omega
    simp only [e]

/-- The convolution's transpose. -/
theorem read_back (t : Fin 4096) (q : Fin 1024) :
    val_main_v53 (F := Ideal) d w (ix2 t q) = ∑ k : Fin 31, w (ix3 3 k q) * Q d q (t.val + 30 - k.val) := by
  pointwise [val_main_v53]
  unfold val_main_v51
  refine (Conv.scatter_shift (K := 31) (T := 4096) (n := 4126) (C := 1024) _ read_idx (by decide) (by decide) _ _ _ _ q).trans ?_
  pointwise [val_main_v50, val_main_cst_11]
  refine Finset.sum_congr rfl fun k _ => ?_
  have hk := k.isLt
  have e : 30 + t.val - k.val = t.val + 30 - k.val := by omega
  unfold Q
  by_cases h : t.val + 30 - k.val < 4096
  · rw [dif_pos ⟨by omega, by omega⟩, dif_pos h]
    pointwise [val_main_v45, val_main_v44, val_main_v43, val_main_v39, val_main_v32, val_main_v3, val_main_v2]
    simp only [e]
  · rw [dif_neg (by omega), dif_neg h, mul_zero]

/-- The gradient of the taps. -/
theorem read_taps (k : Fin 31) (q : Fin 1024) :
    val_main_v49 (F := Ideal) d z (ix2 k q) = ∑ t : Fin 4096, Q d q t.val * P z q (2 + k.val + t.val) := by
  pointwise [val_main_v49, val_main_v48, val_main_v47, val_main_v46, val_main_v43, val_main_v39,
    val_main_cst_9, val_main_cst_10, read_x]
  rw [Fin.sum_univ_one]
  refine Finset.sum_congr rfl fun t _ => ?_
  rw [Q, dif_pos t.isLt]

/-- The gradient of the added row. -/
theorem read_bias (q : Fin 1024) : val_main_v61 (F := Ideal) d (ix2 0 q) = ∑ t : Fin 4096, d (ix2 t q) := by
  pointwise [val_main_v61, val_main_v42, val_main_v41, val_main_v40, val_main_cst_7, val_main_cst_8]
  rw [Fin.sum_univ_one]

theorem read_rows (a : Fin 2) (t : Fin 4096) (q : Fin 1024) :
    val_main_v60 (F := Ideal) d z w (ix3 a t q) = match a with
      | 0 => (∑ k : Fin 31, w (ix3 3 k q) * Q d q (t.val + 30 - k.val)) * sg z t q
      | 1 => (∑ k : Fin 31, w (ix3 3 k q) * Q d q (t.val + 30 - k.val)) * z (ix2 t ⟨5120 + q.val, by omega⟩)
          * (sg z t q * (1 - sg z t q)) := by
  match a with
  | 0 => pointwise [val_main_v60, val_main_v59, val_main_v57, val_main_v55, read_gate, read_back]
  | 1 =>
    pointwise [val_main_v60, val_main_v59, val_main_v58, val_main_v56, val_main_v54, val_main_v0, val_main_v13, val_main_v12,
      val_main_v11, val_main_cst_2, read_gate, read_back]
    rw [mul_comm (z _)]

end Cert.ConformerConvBwdRefIdeal.Val
end
-- ==== Proof.ConfRead.lean ====
module

public import proofs.«01_k».proof.Proof.ConfVal
public import proofs.«01_k».proof.Proof.ConfRef

@[expose] public section
set_option maxRecDepth 16384
noncomputable section
open Idealize.ShloMosaic Idealize.ShloMosaic.TcCoe Idealize.SL.Sem
open Idealize.ShloMosaic.Pipeline (Dat)
namespace Cert.ConformerConvBwdIdeal.Val
open Cert.ConformerConvBwdIdeal Cert.ConformerConvBwdIdeal.Gen
open Cert.ConformerConvBwdRefIdeal.Val (P Q sg read_rows read_taps read_bias)
open Cert.ConformerConvBwdRefIdeal.Read (val_main_v60 val_main_v49 val_main_v61)
variable (m : (ℓ : Loc nD τ sig) → Buf (Elt Ideal) ℓ) (c : Dev nD)

/-- The scratch that holds the convolution's argument, at any 256 rows. -/
theorem read_p (t : Fin cfg0.N) (r0 : ℕ) (inb) :
    (View.whole cc0_scratch0).readCov (Val := Elt Ideal)
      [⟨Rect.unit (s := S4128x128) ![32, 0] ![4096, 128] inb_S4128x128_S4096x128_32_0, k0_pay5 (iblk m c 1 t) (iblk m c 2 t)⟩,
        ⟨Rect.unit (s := S4128x128) ![0, 0] ![32, 128] inb_S4128x128_S32x128_0_0, k0_pay4 (F := Ideal)⟩]
      (Rect.unit (s := S4128x128) ![r0, 0] ![256, 128] inb).toLoadRect
      = fun i => P (aZ m c) (col t (i 1)) (r0 + (i 0).val) := by
  funext i
  refine (congrFun (View.readCov_eq_canon' _ _ _) _).trans ?_
  canon_tiles x h using (View.cover_of_tiledBy _ ![32, 128] (by sl_kernel_rfl) _)
  case piece0 =>
    have e0 : r0 + (i 0).val = 32 + (x 0).val := by simpa [Rect.idx_unit_val] using h0
    have e1 : i 1 = x 1 := Fin.ext (by simpa [Rect.idx_unit_val] using h1)
    have hc : (col t (x 1)).val = t.val * 128 + (x 1).val := rfl
    unfold P
    rw [e0, dif_pos (by omega), e1]
    open_payloads
    pointwise [sg]
    blk_point [iblk, entry_z, idx t]
  case piece1 =>
    have e0 : r0 + (i 0).val = (x 0).val := by simpa [Rect.idx_unit_val] using h0
    unfold P
    rw [e0, dif_neg (by omega)]
    open_payloads
    pointwise []

/-- The scratch that holds what is handed back, at any 256 rows. -/
theorem read_q (t : Fin cfg0.N) (r0 : ℕ) (inb) :
    (View.whole cc0_scratch1).readCov (Val := Elt Ideal)
      [⟨Rect.unit (s := S4128x128) ![0, 0] ![4096, 128] inb_S4128x128_S4096x128_0_0, k0_pay7 (iblk m c 0 t)⟩,
        ⟨Rect.unit (s := S4128x128) ![4096, 0] ![32, 128] inb_S4128x128_S32x128_4096_0, k0_pay6 (F := Ideal)⟩]
      (Rect.unit (s := S4128x128) ![r0, 0] ![256, 128] inb).toLoadRect
      = fun i => Q (aD m c) (col t (i 1)) (r0 + (i 0).val) := by
  funext i
  refine (congrFun (View.readCov_eq_canon' _ _ _) _).trans ?_
  canon_tiles x h using (View.cover_of_tiledBy _ ![32, 128] (by sl_kernel_rfl) _)
  case piece0 =>
    have e0 : r0 + (i 0).val = (x 0).val := by simpa [Rect.idx_unit_val] using h0
    have e1 : i 1 = x 1 := Fin.ext (by simpa [Rect.idx_unit_val] using h1)
    have hc : (col t (x 1)).val = t.val * 128 + (x 1).val := rfl
    unfold Q
    rw [e0, dif_pos x0_lt, e1]
    open_payloads
    pointwise []
    blk_point [iblk, entry_z, entry_d, idx t]
  case piece1 =>
    have e0 : r0 + (i 0).val = 4096 + (x 0).val := by simpa [Rect.idx_unit_val] using h0
    unfold Q
    rw [e0, dif_neg (by omega)]
    open_payloads
    pointwise []

end Cert.ConformerConvBwdIdeal.Val
end
-- ==== Proof.ConfOut.lean ====
module

public import proofs.«01_k».proof.Proof.ConfRead

@[expose] public section
set_option maxRecDepth 16384
noncomputable section
open Idealize.ShloMosaic Idealize.ShloMosaic.TcCoe Idealize.SL.Sem
open Idealize.ShloMosaic.Pipeline (Dat)
namespace Cert.ConformerConvBwdIdeal.Val
open Cert.ConformerConvBwdIdeal Cert.ConformerConvBwdIdeal.Gen
open Cert.ConformerConvBwdRefIdeal.Val (P Q sg read_rows read_taps read_bias)
open Cert.ConformerConvBwdRefIdeal.Read (val_main_v60 val_main_v49 val_main_v61)
variable (m : (ℓ : Loc nD τ sig) → Buf (Elt Ideal) ℓ) (c : Dev nD)

set_option maxHeartbeats 4000000 in
/-- The two planes at a point. -/
theorem point4 (t : Fin cfg0.N) (y) (a : Fin 2) (r : Fin 4096) (l : Fin 128) (ha : a.val = y 0) (hr : r.val = y 1) (hl : l.val = y 2) :
     (outsAt0 m c t).1 y = match a with
      | 0 => (∑ k : Fin 31, aW m c (ix3 3 k (col t l)) * Q (aD m c) (col t l) (r.val + 30 - k.val)) * sg (aZ m c) r (col t l)
      | 1 => (∑ k : Fin 31, aW m c (ix3 3 k (col t l)) * Q (aD m c) (col t l) (r.val + 30 - k.val)) * aZ m c (ix2 r ⟨5120 + (col t l).val, by omega⟩)
          * (sg (aZ m c) r (col t l) * (1 - sg (aZ m c) r (col t l))) := by
  unfold outsAt0
  dsimp only
  frame_out
  canon_tiles x h
  all_goals
    repeat rw [read_q m c t]
    generalize Q (aD m c) = q
    obtain ⟨r, hr0⟩ := r
    obtain rfl := hr.trans h1
    obtain rfl : l = x 2 := Fin.ext (hl.trans h2)
    first
      | (have e : (y 0).val = 1 := by omega
         obtain rfl : a = 1 := Fin.ext (ha.trans e))
      | (have e : (y 0).val = 0 := by omega
         obtain rfl : a = 0 := Fin.ext (ha.trans e))
    clear ha hr hl h0 h1 h2
    idx_vars x
    open_payloads
    pointwise [sg]
    simp only [blk_w, blk_1, blk_2, Conv.sum_taps, ← Nat.add_assoc, Nat.reduceAdd]

/-- The added row's gradient at a point. -/
theorem point6 (t : Fin cfg0.N) (l : Fin 128) : (outsAt0 m c t).2.2 (ix2 0 l) = ∑ r : Fin 4096, aD m c (ix2 r (col t l)) := by
  unfold outsAt0
  dsimp only
  frame_out
  open_payloads
  pointwise []
  simp only [blk_d]

/-- The first result: the gradients of the two halves of the linear unit. -/
theorem final4 : (dats m 0 c).arrAt 4 (cfgs 0).N = val_main_v60 (F := Ideal) (aD m c) (aZ m c) (aW m c) := by
  refine (dats m 0 c).arrAt_eq_of_covers 4 _ (by decide +kernel) fun t hf y => ?_
  blk_simp
  rw [after0_4]
  have h0 : ((win0_4.blk t).view.emb y 0).val = (y 0).val := by blk_simp [idx t]
  have h1 : ((win0_4.blk t).view.emb y 1).val = (y 1).val := by blk_simp [idx t]
  have h2 : ((win0_4.blk t).view.emb y 2).val = t.val * 128 + (y 2).val := by blk_simp [idx t]
  generalize (win0_4.blk t).view.emb y = j at h0 h1 h2 ⊢
  idx_vars j
  obtain rfl : j2 = col t (y 2) := Fin.ext h2
  exact (point4 m c t y j0 j1 (y 2) h0 h1 rfl).trans (read_rows (aD m c) (aZ m c) (aW m c) _ _ _).symm

/-- The third result: the gradient of the added row. -/
theorem final6 : (dats m 0 c).arrAt 6 (cfgs 0).N = val_main_v61 (F := Ideal) (aD m c) := by
  refine (dats m 0 c).arrAt_eq_of_covers 6 _ (by decide +kernel) fun t hf y => ?_
  blk_simp
  rw [after0_6]
  have h1 : ((win0_6.blk t).view.emb y 1).val = t.val * 128 + (y 1).val := by blk_simp [idx t]
  generalize (win0_6.blk t).view.emb y = j at h1 ⊢
  idx_vars j
  idx_vars y
  obtain rfl : j0 = 0 := Fin.ext (by omega)
  obtain rfl : y0 = 0 := Fin.ext (by omega)
  obtain rfl : j1 = col t y1 := Fin.ext h1
  exact (point6 m c t y1).trans (read_bias (aD m c) _).symm

end Cert.ConformerConvBwdIdeal.Val
end
-- ==== Proof.ConfTaps.lean ====
module

public import proofs.«01_k».proof.Proof.ConfRead

@[expose] public section
set_option maxRecDepth 16384
noncomputable section
open Idealize.ShloMosaic Idealize.ShloMosaic.TcCoe Idealize.SL.Sem
open Idealize.ShloMosaic.Pipeline (Dat)
namespace Cert.ConformerConvBwdIdeal.Val
open Cert.ConformerConvBwdIdeal Cert.ConformerConvBwdIdeal.Gen
open Cert.ConformerConvBwdRefIdeal.Val (P Q sg read_rows read_taps read_bias)
open Cert.ConformerConvBwdRefIdeal.Read (val_main_v60 val_main_v49 val_main_v61)
variable (m : (ℓ : Loc nD τ sig) → Buf (Elt Ideal) ℓ) (c : Dev nD)

set_option maxHeartbeats 16000000 in
/-- The taps' gradient at a point. -/
theorem point5 (t : Fin cfg0.N) (y) (k : Fin 31) (l : Fin 128) (hk : k.val = y 0) (hl : l.val = y 1) :
     (outsAt0 m c t).2.1 y = ∑ r : Fin 4096, Q (aD m c) (col t l) r.val * P (aZ m c) (col t l) (2 + k.val + r.val) := by
  unfold outsAt0
  dsimp only
  frame_open
  simp (disch := decide) only [↓View.readCov_skip, ↓View.readCov_cons_toLoadRect, ↓View.readCov_fill]
  frame_out
  canon_tiles x h
  all_goals
    repeat (first | rw [read_q m c t] | rw [read_p m c t])
    generalize P (aZ m c) = p
    generalize Q (aD m c) = q
    obtain rfl : l = x 1 := Fin.ext (hl.trans h1)
    obtain ⟨k, hk0⟩ := k
    have hk1 : k = _ := hk.trans h0
    clear hk hl h0 h1
    idx_vars x
    open_payloads
    pointwise []
    have e := Cert.Conv.fold_rows fun n => q (col t x1) n * p (col t x1) (2 + k + n)
    rw [hk1, (by omega : x0.val = 0)] at e ⊢
    simp only [← Nat.add_assoc, Nat.add_zero, Nat.reduceAdd] at e ⊢
    exact e

/-- The second result: the gradient of the taps. -/
theorem final5 : (dats m 0 c).arrAt 5 (cfgs 0).N = val_main_v49 (F := Ideal) (aD m c) (aZ m c) := by
  refine (dats m 0 c).arrAt_eq_of_covers 5 _ (by decide +kernel) fun t hf y => ?_
  blk_simp
  rw [after0_5]
  have h0 : ((win0_5.blk t).view.emb y 0).val = (y 0).val := by blk_simp [idx t]
  have h1 : ((win0_5.blk t).view.emb y 1).val = t.val * 128 + (y 1).val := by blk_simp [idx t]
  generalize (win0_5.blk t).view.emb y = j at h0 h1 ⊢
  idx_vars j
  obtain rfl : j1 = col t (y 1) := Fin.ext h1
  exact (point5 m c t y j0 (y 1) h0 rfl).trans (read_taps (aD m c) (aZ m c) _ _).symm

end Cert.ConformerConvBwdIdeal.Val
end
-- ==== Proof.Conf.lean ====
module
public import proofs.«01_k».proof.Defs
public import proofs.«01_k».proof.Proof.ConfOut
public import proofs.«01_k».proof.Proof.ConfTaps
public import proofs.«01_k».proof.Proof.Gen.ConformerConvBwdRefIdeal.Run
@[expose] public section
set_option maxRecDepth 16384
noncomputable section
open Idealize.ShloMosaic Idealize.SL.Sem Idealize.ShloMosaic.StableHlo

namespace Cert.ConformerConvBwdRefIdeal.Read
open Cert.ConformerConvBwdRefIdeal

/-- The reference's run with each result at its named stage instead of the composed term. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v60) = val_main_v60 (F := Ideal) (m ((c.tc : Thread nD τ).loc main_arg0)) (m ((c.tc : Thread nD τ).loc main_arg1)) (m ((c.tc : Thread nD τ).loc main_arg2))
      ∧ r.2.mem ((c.tc : Thread nD τ).loc main_v49) = val_main_v49 (F := Ideal) (m ((c.tc : Thread nD τ).loc main_arg0)) (m ((c.tc : Thread nD τ).loc main_arg1))
      ∧ r.2.mem ((c.tc : Thread nD τ).loc main_v61) = val_main_v61 (F := Ideal) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨(h c).1.trans (val_main_v60_eq m c),
      (h c).2.1.trans (val_main_v49_eq _ _),
      (h c).2.2.1.trans (val_main_v61_eq _),
      (h c).2.2.2⟩)
    (Value.run (F := Ideal) m ρ)

end Cert.ConformerConvBwdRefIdeal.Read

namespace Cert.ConformerConvBwdIdeal.Val

set_option maxHeartbeats 1600000 in
/-- The gradient through the depthwise convolution of the conformer branch and its gates: the kernel and the reference leave the same three arrays at any arguments. -/
theorem algebraic : Cert.algebraic_ConformerConvBwdIdeal_ConformerConvBwdRefIdeal (hConformerConvBwdIdeal := Cert.ConformerConvBwdIdeal.Gen.facts)
    (hConformerConvBwdRefIdeal := Cert.ConformerConvBwdRefIdeal.Gen.facts) := by
  intro m g m' g' hpre hagree
  refine ⟨fun c => (Gen.dats m 0 c).arrAt 4 (cfgs 0).N, fun c => (Gen.dats m 0 c).arrAt 5 (cfgs 0).N, fun c => (Gen.dats m 0 c).arrAt 6 (cfgs 0).N, ?_, ?_⟩
  · exact θ_run_mono (θ_run_and (Gen.run_main m g) (Gen.unchanged m g)) fun r h c =>
      ⟨(h.1 c).1 4, (h.1 c).1 5, (h.1 c).1 6, h.2 c⟩
  · refine (θ_run Cert.ConformerConvBwdRefIdeal.defs _ _).mono (fun r h c => ?_) (Cert.ConformerConvBwdRefIdeal.Read.run_named m' g')
    obtain ⟨e0, e1, e2⟩ := hagree c
    obtain ⟨h0, h1, h2, hs⟩ := h c
    refine ⟨h0.trans ?_, h1.trans ?_, h2.trans ?_, hs⟩
    · rw [e0, e1, e2]; exact (final4 m c).symm
    · rw [e0, e1]; exact (final5 m c).symm
    · rw [e0]; exact (final6 m c).symm

/-- The reference leaves its arguments as they were, and it declares no semaphore. -/
theorem frame_ref : Cert.quiescent_ConformerConvBwdRefIdeal (hConformerConvBwdRefIdeal := Cert.ConformerConvBwdRefIdeal.Gen.facts) := fun m ρ _ =>
  (θ_run Cert.ConformerConvBwdRefIdeal.defs _ _).mono (fun r h => ⟨fun c => (h c).2.2.2, sem_eq_zero_of_no_sems (by decide) r.2⟩)
    (Cert.ConformerConvBwdRefIdeal.Value.run (F := Ideal) m ρ)

end Cert.ConformerConvBwdIdeal.Val
end
-- ==== Proof.FfnRef.lean ====
module

public import proofs.«01_k».proof.Proof.Gen.FfnOutBwdRefIdeal.Read
public import Idealize.ShloMosaic.Lib.Pipeline.ValueKit
public import proofs.«01_k».proof.Proof.Norm

@[expose] public section
set_option maxRecDepth 16384
noncomputable section
open Idealize.ShloMosaic Idealize.ShloMosaic.TcCoe Idealize.SL.Sem
namespace Cert.FfnOutBwdRefIdeal.Val
open Cert.FfnOutBwdRefIdeal Cert.FfnOutBwdRefIdeal.Gen Cert.FfnOutBwdRefIdeal.Read

variable (x : FVec Ideal S4096x2048 .f32) (w : FVec Ideal S2048x11264 .f32) (o : FVec Ideal S5632x2048 .f32) (d : FVec Ideal S4096x2048 .f32)

/-- The gate's half of the hidden projection. -/
def gate (r : Fin 4096) (f : Fin 5632) : EReal := ∑ k : Fin 2048, x (ix2 r k) * w (ix2 k ⟨f.val, by omega⟩)

/-- The other half. -/
def up (r : Fin 4096) (f : Fin 5632) : EReal := ∑ k : Fin 2048, x (ix2 r k) * w (ix2 k ⟨5632 + f.val, by omega⟩)

/-- The cotangent of the gated product. -/
def dact (r : Fin 4096) (f : Fin 5632) : EReal := ∑ k : Fin 2048, d (ix2 r k) * o (ix2 f k)

theorem read_gate (r : Fin 4096) (f : Fin 5632) : val_main_v1 (F := Ideal) x w (ix2 r f) = gate x w r f := by
  pointwise [val_main_v1, val_main_v0, gate]

theorem read_up (r : Fin 4096) (f : Fin 5632) : val_main_v2 (F := Ideal) x w (ix2 r f) = up x w r f := by
  pointwise [val_main_v2, val_main_v0, up]

theorem read_sig (r : Fin 4096) (f : Fin 5632) : val_main_v8 (F := Ideal) x w (ix2 r f) = Ideal.logistic (gate x w r f) := by
  pointwise [val_main_v8, val_main_v7, val_main_v6, val_main_v5, val_main_v4, val_main_v3, val_main_cst, val_main_cst_0, read_gate]
  rfl

theorem read_dact (r : Fin 4096) (f : Fin 5632) : val_main_v15 (F := Ideal) o d (ix2 r f) = dact o d r f := by
  pointwise [val_main_v15, dact]

/-- The gradient of the gate's half. -/
theorem read_plane0 (r : Fin 4096) (f : Fin 5632) :
    val_main_v25 (F := Ideal) x w o d (ix3 0 r f) = dact o d r f * up x w r f * Ideal.logistic (gate x w r f)
      + gate x w r f * (dact o d r f * up x w r f) * (Ideal.logistic (gate x w r f) * (1 - Ideal.logistic (gate x w r f))) := by
  pointwise [val_main_v25, val_main_v24, val_main_v22, val_main_v21, val_main_v20, val_main_v19, val_main_v18, val_main_v17, val_main_v11,
    val_main_v10, val_main_v9, val_main_cst_1, read_gate, read_up, read_sig, read_dact]

/-- The gradient of the other half. -/
theorem read_plane1 (r : Fin 4096) (f : Fin 5632) :
    val_main_v25 (F := Ideal) x w o d (ix3 1 r f) = gate x w r f * Ideal.logistic (gate x w r f) * dact o d r f := by
  pointwise [val_main_v25, val_main_v24, val_main_v23, val_main_v16, val_main_v12, read_gate, read_sig, read_dact]

end Cert.FfnOutBwdRefIdeal.Val
end
-- ==== Proof.FfnOut.lean ====
module

public import proofs.«01_k».proof.Proof.Gen.FfnOutBwdIdeal.Frame
public import Idealize.ShloMosaic.Lib.Pipeline.ValueKit
public import proofs.«01_k».proof.Defs
public import proofs.«01_k».proof.Proof.FfnRef
public import proofs.«01_k».proof.Proof.Kit

@[expose] public section
set_option maxRecDepth 16384
noncomputable section
open Idealize.ShloMosaic Idealize.ShloMosaic.TcCoe Idealize.SL.Sem
open Idealize.ShloMosaic.Pipeline (Dat)
namespace Cert.FfnOutBwdIdeal.Val
open Cert.FfnOutBwdIdeal Cert.FfnOutBwdIdeal.Gen
open Cert.FfnOutBwdRefIdeal.Val (gate up dact read_plane0 read_plane1)
open Cert.FfnOutBwdRefIdeal.Read (val_main_v25)
open Cert.Norm (IsReal)
variable (m : (ℓ : Loc nD τ sig) → Buf (Elt Ideal) ℓ) (c : Dev nD)

theorem idx : ∀ t : Fin cfg0.N, win0_0.index t = ![t.val % 8, 0] ∧ win0_1.index t = ![t.val / 8, 0]
    ∧ win0_2.index t = ![0, t.val % 8, t.val / 8] ∧ win0_3.index t = ![0, t.val % 8, t.val / 8] :=
  (by decide +kernel : ∀ t : Fin grid0.N, _)

/-- The rows the hidden projection is taken of. -/
abbrev aX (c : Dev nD) : FVec Ideal S4096x2048 .f32 := m ((c : Thread nD τ).loc main_arg0)
/-- The weights of the hidden projection. -/
abbrev aW (c : Dev nD) : FVec Ideal S2048x11264 .f32 := m ((c : Thread nD τ).loc main_arg1)
/-- The weights of the output projection. -/
abbrev aO (c : Dev nD) : FVec Ideal S5632x2048 .f32 := m ((c : Thread nD τ).loc main_arg2)
/-- The cotangent. -/
abbrev aD (c : Dev nD) : FVec Ideal S4096x2048 .f32 := m ((c : Thread nD τ).loc main_arg3)

theorem entry_o : V m c main_v7 = aO m c := by entry_read; rfl
theorem entry_d : V m c main_v6 = aD m c := by entry_read; rfl
/-- The hidden projection the kernel is given: its two halves one behind the other. -/
def hid : FVec Ideal S2x4096x5632 .f32 :=
  fun i => if (i 0).val = 0 then gate (aX m c) (aW m c) (i 1) (i 2) else up (aX m c) (aW m c) (i 1) (i 2)
theorem entry_h : V m c main_v5 = hid m c := by
  entry_read
  funext i
  idx_vars i
  unfold hid
  by_cases h : i0.val = 0
  · obtain rfl : i0 = 0 := Fin.ext h
    pointwise [gate]
  · obtain rfl : i0 = 1 := Fin.ext (by omega)
    pointwise [up]

/-- The row of the arrays a point's row is. -/
def row (t : Fin cfg0.N) (r : Fin 512) : Fin 4096 := ⟨t.val % 8 * 512 + r.val, by omega⟩
/-- The column of the arrays a point's column is. -/
def col (t : Fin cfg0.N) (l : Fin 1408) : Fin 5632 := ⟨t.val / 8 * 1408 + l.val, by have := t.isLt; have h : cfg0.N = 32 := rfl; omega⟩

theorem blk_d (t : Fin cfg0.N) (r : Fin 512) (k : Fin 2048) : iblk m c 0 t (ix2 r k) = aD m c (ix2 (row t r) k) := by
  have hc : (row t r).val = t.val % 8 * 512 + r.val := rfl
  blk_point [iblk, entry_d, idx t]
theorem blk_o (t : Fin cfg0.N) (l : Fin 1408) (k : Fin 2048) : iblk m c 1 t (ix2 l k) = aO m c (ix2 (col t l) k) := by
  have hc : (col t l).val = t.val / 8 * 1408 + l.val := rfl
  blk_point [iblk, entry_o, idx t]
theorem blk_h (t : Fin cfg0.N) (a : Fin 2) (r : Fin 512) (l : Fin 1408) : iblk m c 2 t (ix3 a r l) = hid m c (ix3 a (row t r) (col t l)) := by
  have hc : (col t l).val = t.val / 8 * 1408 + l.val := rfl
  have hr : (row t r).val = t.val % 8 * 512 + r.val := rfl
  have e := entry_h m c
  generalize hid m c = H at e ⊢
  blk_point [iblk, e, idx t]
theorem blk_g (t : Fin cfg0.N) (r : Fin 512) (l : Fin 1408) : iblk m c 2 t (ix3 0 r l) = gate (aX m c) (aW m c) (row t r) (col t l) :=
  (blk_h m c t 0 r l).trans rfl
theorem blk_u (t : Fin cfg0.N) (r : Fin 512) (l : Fin 1408) : iblk m c 2 t (ix3 1 r l) = up (aX m c) (aW m c) (row t r) (col t l) :=
  (blk_h m c t 1 r l).trans rfl

/-- What a step leaves of its block, at any of its entries. -/
theorem point3 (t : Fin cfg0.N) (y) (a : Fin 2) (r : Fin 512) (l : Fin 1408) (ha : a.val = y 0) (hr : r.val = y 1) (hl : l.val = y 2) :
    outsAt0 m c t y = if a.val = 0 then
        dact (aO m c) (aD m c) (row t r) (col t l) * up (aX m c) (aW m c) (row t r) (col t l)
          * (Ideal.logistic (gate (aX m c) (aW m c) (row t r) (col t l)) * (1 + gate (aX m c) (aW m c) (row t r) (col t l)
              * (1 - Ideal.logistic (gate (aX m c) (aW m c) (row t r) (col t l)))))
      else dact (aO m c) (aD m c) (row t r) (col t l)
          * (gate (aX m c) (aW m c) (row t r) (col t l) * Ideal.logistic (gate (aX m c) (aW m c) (row t r) (col t l))) := by
  unfold outsAt0
  frame_out
  canon_tiles x h using (View.cover_of_tiledBy _ ![1, 512, 128] (by sl_kernel_rfl) _)
  all_goals
    obtain ⟨l, hl0⟩ := l
    obtain rfl := hl.trans h2
    obtain rfl : r = x 1 := Fin.ext (hr.trans h1)
    first
      | (have e : a.val = 0 := by omega
         rw [if_pos e])
      | (have e : a.val ≠ 0 := by omega
         rw [if_neg e])
    clear ha hr hl h0 h1 h2 e
    idx_vars x
    open_payloads
    pointwise []
    simp only [blk_d, blk_o, blk_g, blk_u, dact]

/-- No argument is infinite. -/
structure Finite (x : FVec Ideal S4096x2048 .f32) (w : FVec Ideal S2048x11264 .f32) (o : FVec Ideal S5632x2048 .f32)
    (d : FVec Ideal S4096x2048 .f32) : Prop where
  x : ∀ i, IsReal (x i)
  w : ∀ i, IsReal (w i)
  o : ∀ i, IsReal (o i)
  d : ∀ i, IsReal (d i)

theorem finite_of_fn [Cert.Pre_ffn_out_finite.Facts] {x : FVec Ideal S4096x2048 .f32} {w : FVec Ideal S2048x11264 .f32}
    {o : FVec Ideal S5632x2048 .f32} {d : FVec Ideal S4096x2048 .f32}
    (h : Cert.Pre_ffn_out_finite.fn (F := Ideal) x w o d = fun _ => 1#1) : Finite x w o d := by
  have h0 := congrFun h (fun a => a.elim0)
  simp only [Cert.Pre_ffn_out_finite.fn, Cert.Pre_ffn_out_finite.fn_part1, andi_apply, Cert.Norm.and_one] at h0
  obtain ⟨⟨⟨h1, h2⟩, h3⟩, h4⟩ := h0
  exact ⟨IsReal.of_all _ _ _ _ _ _ h1, IsReal.of_all _ _ _ _ _ _ h2, IsReal.of_all _ _ _ _ _ _ h3, IsReal.of_all _ _ _ _ _ _ h4⟩

/-- What the steps leave is the reference's value. -/
theorem value (F : Finite (aX m c) (aW m c) (aO m c) (aD m c)) (a : Fin 2) (r : Fin 4096) (f : Fin 5632) :
    (if a.val = 0 then dact (aO m c) (aD m c) r f * up (aX m c) (aW m c) r f
          * (Ideal.logistic (gate (aX m c) (aW m c) r f) * (1 + gate (aX m c) (aW m c) r f * (1 - Ideal.logistic (gate (aX m c) (aW m c) r f))))
      else dact (aO m c) (aD m c) r f * (gate (aX m c) (aW m c) r f * Ideal.logistic (gate (aX m c) (aW m c) r f)))
      = val_main_v25 (F := Ideal) (aX m c) (aW m c) (aO m c) (aD m c) (ix3 a r f) := by
  have hg : IsReal (gate (aX m c) (aW m c) r f) := IsReal.sum fun k => (F.x _).mul (F.w _)
  have hu : IsReal (up (aX m c) (aW m c) r f) := IsReal.sum fun k => (F.x _).mul (F.w _)
  have hd : IsReal (dact (aO m c) (aD m c) r f) := IsReal.sum fun k => (F.d _).mul (F.o _)
  obtain rfl | rfl : a = 0 ∨ a = 1 := by omega
  · exact (Cert.Norm.silu_grad hg (hd.mul hu)).trans (read_plane0 (aX m c) (aW m c) (aO m c) (aD m c) _ _).symm
  · exact (mul_comm _ _).trans (read_plane1 (aX m c) (aW m c) (aO m c) (aD m c) _ _).symm

/-- The result: the gradient of the hidden projection's two halves. -/
theorem final3 (F : Finite (aX m c) (aW m c) (aO m c) (aD m c)) :
    (dats m 0 c).arrAt 3 (cfgs 0).N = val_main_v25 (F := Ideal) (aX m c) (aW m c) (aO m c) (aD m c) := by
  refine (dats m 0 c).arrAt_eq_of_covers 3 _ (by decide +kernel) fun t hf y => ?_
  blk_simp
  rw [after0_3]
  have h0 : ((win0_3.blk t).view.emb y 0).val = (y 0).val := by blk_simp [idx t]
  have h1 : ((win0_3.blk t).view.emb y 1).val = t.val % 8 * 512 + (y 1).val := by blk_simp [idx t]
  have h2 : ((win0_3.blk t).view.emb y 2).val = t.val / 8 * 1408 + (y 2).val := by blk_simp [idx t]
  generalize (win0_3.blk t).view.emb y = j at h0 h1 h2 ⊢
  idx_vars j
  obtain rfl : j1 = row t (y 1) := Fin.ext h1
  obtain rfl : j2 = col t (y 2) := Fin.ext h2
  exact (point3 m c t y j0 (y 1) (y 2) h0 rfl rfl).trans (value m c F j0 _ _)

end Cert.FfnOutBwdIdeal.Val
end
-- ==== Proof.Ffn.lean ====
module
public import proofs.«01_k».proof.Defs
public import proofs.«01_k».proof.Proof.FfnOut
public import proofs.«01_k».proof.Proof.Gen.FfnOutBwdRefIdeal.Run
public import proofs.«01_k».proof.Proof.Gen.Pre_ffn_out_finite
@[expose] public section
set_option maxRecDepth 16384
noncomputable section
open Idealize.ShloMosaic Idealize.SL.Sem Idealize.ShloMosaic.StableHlo

namespace Cert.FfnOutBwdRefIdeal.Read
open Cert.FfnOutBwdRefIdeal

/-- The reference's run with each result at its named stage instead of the composed term. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = val_main_v25 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨(h c).1.trans (val_main_v25_eq _ _ _ _),
      (h c).2⟩)
    (Value.run (F := Ideal) m ρ)

end Cert.FfnOutBwdRefIdeal.Read

namespace Cert.FfnOutBwdIdeal.Val

set_option maxHeartbeats 1600000 in
/-- The gradient of the layer's output projection and of the gated product before it: on arguments none of which is infinite, the kernel and the reference leave the same array. -/
theorem algebraic : Cert.algebraic_FfnOutBwdIdeal_FfnOutBwdRefIdeal_pre_ffn_out_finite (hFfnOutBwdIdeal := Cert.FfnOutBwdIdeal.Gen.facts)
    (hFfnOutBwdRefIdeal := Cert.FfnOutBwdRefIdeal.Gen.facts) (hPre_ffn_out_finite := Cert.Pre_ffn_out_finite.Gen.facts) := by
  intro m g m' g' hpre hagree
  refine ⟨fun c => (Gen.dats m 0 c).arrAt 3 (cfgs 0).N, ?_, ?_⟩
  · exact θ_run_mono (θ_run_and (Gen.run_main m g) (Gen.unchanged m g)) fun r h c =>
      ⟨(h.1 c).1 3, h.2 c⟩
  · refine (θ_run Cert.FfnOutBwdRefIdeal.defs _ _).mono (fun r h c => ?_) (Cert.FfnOutBwdRefIdeal.Read.run_named m' g')
    obtain ⟨e0, e1, e2, e3⟩ := hagree c
    obtain ⟨h0, hs⟩ := h c
    refine ⟨h0.trans ?_, hs⟩
    · rw [e0, e1, e2, e3]; exact (final3 m c (finite_of_fn (hpre c))).symm

/-- The reference leaves its arguments as they were, and it declares no semaphore. -/
theorem frame_ref : Cert.quiescent_FfnOutBwdRefIdeal (hFfnOutBwdRefIdeal := Cert.FfnOutBwdRefIdeal.Gen.facts) := fun m ρ _ =>
  (θ_run Cert.FfnOutBwdRefIdeal.defs _ _).mono (fun r h => ⟨fun c => (h c).2, sem_eq_zero_of_no_sems (by decide) r.2⟩)
    (Cert.FfnOutBwdRefIdeal.Value.run (F := Ideal) m ρ)

end Cert.FfnOutBwdIdeal.Val
end
-- ==== Proof.LossRef.lean ====
module

public import proofs.«01_k».proof.Proof.Gen.LossHeadRefIdeal.Read
public import Idealize.ShloMosaic.Lib.Pipeline.ValueKit
public import proofs.«01_k».proof.Proof.Norm

@[expose] public section
set_option maxRecDepth 16384
noncomputable section
open Idealize.ShloMosaic Idealize.ShloMosaic.TcCoe Idealize.SL.Sem
namespace Cert.LossHeadRefIdeal.Val
open Cert.LossHeadRefIdeal Cert.LossHeadRefIdeal.Gen Cert.LossHeadRefIdeal.Read

variable (x : FVec Ideal S4096x2048 .f32) (g b : FVec Ideal S4x2048 .f32) (d : FVec Ideal S4096x2048 .f32)

/-- The length of a row, as the programs write it. -/
abbrev K : EReal := Ideal.ofBits .f32 0x45000000#32
/-- One half, as the programs write it. -/
abbrev half : EReal := Ideal.ofBits .f32 0x3F000000#32
/-- The rows that are normalised. -/
abbrev row (p : Fin 4096) (k : Fin 2048) : EReal := x (ix2 p k)
/-- The distance of the normalised row to its target. -/
def err (p : Fin 4096) (k : Fin 2048) : EReal := Norm.hat K (row x p) k * g (ix2 3 k) + b (ix2 3 k) - d (ix2 p k)

theorem read_dev (p : Fin 4096) (k : Fin 2048) : val_main_v9 (F := Ideal) x (ix2 p k) = Norm.dev K (row x p) k := by
  pointwise [val_main_v9, val_main_v8, val_main_v7, val_main_v6, val_main_v5, val_main_v4, val_main_cst, val_main_cst_0, Norm.dev, Norm.mean]
theorem read_rstd (p : Fin 4096) (x0 : Fin 1) : val_main_v19 (F := Ideal) x (ix2 p x0) = Norm.rstd K (row x p) := by
  pointwise [val_main_v19, val_main_v18, val_main_v17, val_main_v14, val_main_v13, val_main_v12, val_main_v11, val_main_v10, val_main_cst_1,
    val_main_cst_2, val_main_cst_3]
  simp only [read_dev]
  pointwise [Norm.rstd, Norm.var, Norm.mean]
theorem read_err (p : Fin 4096) (k : Fin 2048) : val_main_v28 (F := Ideal) x g b d (ix2 p k) = err x g b d p k := by
  have hdev : val_main_v16 (F := Ideal) x (ix2 p k) = Norm.dev K (row x p) k := read_dev x p k
  pointwise [val_main_v28, val_main_v27, val_main_v26, val_main_v25, val_main_v24, val_main_v23, val_main_v22, val_main_v21, val_main_v20,
    val_main_v3, val_main_v2, val_main_v1, val_main_v0]
  rw [hdev, read_rstd]; rfl
/-- The gradient of the loss at the normalised rows. -/
theorem read_dy (p : Fin 4096) (k : Fin 2048) : val_main_v42 (F := Ideal) x g b d (ix2 p k)
    = Ideal.div (half * 1) K * (Ideal.ofBits .f32 0x40000000#32 * err x g b d p k) := by
  pointwise [val_main_v42, val_main_v41, val_main_v40, val_main_v39, val_main_v38, val_main_v37, val_main_v31, val_main_v30, val_main_cst_4,
    val_main_cst_9, val_main_cst_10, val_main_cst_11]
  simp only [read_err]
/-- The loss. -/
theorem read_loss (i j : Fin 1) : val_main_v43 (F := Ideal) x g b d (ix2 i j)
    = half * ∑ p : Fin 4096, Ideal.div (∑ k : Fin 2048, err x g b d p k * err x g b d p k) K := by
  pointwise [val_main_v43, val_main_v36, val_main_v35, val_main_v34, val_main_v33, val_main_v32, val_main_v29, val_main_cst_5, val_main_cst_6,
    val_main_cst_7, val_main_cst_8]
  simp only [read_err]

theorem half_eq : half = ((1 / 2 : ℝ) : EReal) := by
  simp [half, Ideal.ofBits, Ideal.ieee]; norm_num; rw [← EReal.coe_mul]; congr 1; norm_num
theorem scale_eq : Ideal.ofBits .f32 0x3A000000#32 = ((1 / 2048 : ℝ) : EReal) := by
  simp [Ideal.ofBits, Ideal.ieee]; norm_num; rw [← EReal.coe_mul]; congr 1; norm_num
/-- Half the square's gradient, divided by the row's length, is one multiplication. -/
theorem scaled (e : EReal) : e * Ideal.ofBits .f32 0x3A000000#32 = Ideal.div (half * 1) K * (Ideal.ofBits .f32 0x40000000#32 * e) := by
  rw [mul_one, half_eq, scale_eq, Norm.two_eq, K, Norm.n2048_eq, Ideal.div_coe (by norm_num), ← mul_assoc, ← EReal.coe_mul, ← EReal.coe_mul,
    mul_comm]
  congr 2; norm_num
/-- Taking halves commutes with a sum, infinite or not. -/
theorem half_sum {n : ℕ} (f : Fin n → EReal) : half * ∑ k, f k = ∑ k, half * f k := by
  induction n with
  | zero => simp
  | succ n ih =>
    rw [Fin.sum_univ_castSucc, Fin.sum_univ_castSucc, ← ih, half_eq]
    exact EReal.left_distrib_of_nonneg_of_ne_top (EReal.coe_nonneg.mpr (by norm_num)) (EReal.coe_ne_top _) _ _

end Cert.LossHeadRefIdeal.Val
end
-- ==== Proof.Rows.lean ====
module

public import Idealize.ShloMosaic.Lib.Pipeline.ValueKit

@[expose] public section
noncomputable section
open Idealize.ShloMosaic
namespace Cert.Rows

variable {N : ℕ} {ι : Type}

/-- A sum kept over eight steps of 512 rows each, set to zero before the first: at the last step it is the sum over all rows. -/
theorem total (f : (n : ℕ) → n < N → ι → EReal) (G : Fin 4096 → ι → EReal) (row : Fin N → Fin 512 → Fin 4096)
    (hN : N = 8) (hrow : ∀ t a, (row t a).val = t.val * 512 + a.val)
    (hA : ∀ t : Fin N, t.val % 8 = 0 → ∀ i, f t.val t.isLt i = 0 + ∑ a : Fin 512, G (row t a) i)
    (hB : ∀ t : Fin N, ¬t.val % 8 = 0 → ∀ i, f t.val t.isLt i = f (t.val - 1) (Nat.lt_of_le_of_lt (Nat.sub_le _ _) t.isLt) i + ∑ a : Fin 512, G (row t a) i)
    (t : Fin N) (ht : t.val % 8 = 7) (i : ι) : f t.val t.isLt i = ∑ p : Fin 4096, G p i := by
  rw [Pipeline.eq_sum_fin_of_reset_step_apply_of_flush f 8 (fun _ => 0) (fun t i => ∑ a : Fin 512, G (row t a) i) hA hB t ht i, zero_add]
  have hl : t.val < 8 := lt_of_lt_of_eq t.isLt hN
  refine Fin.sum_mul_add_congr fun s k hlt => congrArg (G · i) (Fin.ext ?_)
  rw [hrow]
  show (8 * (t.val / 8) + s.val) * 512 + k.val = s.val * 512 + k.val
  omega

end Cert.Rows
end
-- ==== Proof.LossOut.lean ====
module

public import proofs.«01_k».proof.Proof.Gen.LossHeadIdeal.Frame
public import Idealize.ShloMosaic.Lib.Pipeline.ValueKit
public import proofs.«01_k».proof.Proof.LossRef
public import proofs.«01_k».proof.Proof.Rows
public import proofs.«01_k».proof.Proof.Kit

@[expose] public section
set_option maxRecDepth 16384
noncomputable section
open Idealize.ShloMosaic Idealize.ShloMosaic.TcCoe Idealize.SL.Sem
open Idealize.ShloMosaic.Pipeline (Dat)
namespace Cert.LossHeadIdeal.Val
open Cert.LossHeadIdeal Cert.LossHeadIdeal.Gen
open Cert.LossHeadRefIdeal.Val (K half row err read_dy read_loss scaled half_sum)
open Cert.LossHeadRefIdeal.Read (val_main_v42 val_main_v43)
variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![0, 0] :=
  (by decide +kernel : ∀ t : Fin grid0.N, _)

/-- The rows the last normalisation takes. -/
abbrev aX (c : Dev nD) : FVec Ideal S4096x2048 .f32 := m ((c : Thread nD τ).loc main_arg0)
/-- The scales of every layer. -/
abbrev aG (c : Dev nD) : FVec Ideal S4x2048 .f32 := m ((c : Thread nD τ).loc main_arg1)
/-- The shifts. -/
abbrev aB (c : Dev nD) : FVec Ideal S4x2048 .f32 := m ((c : Thread nD τ).loc main_arg2)
/-- The target. -/
abbrev aT (c : Dev nD) : FVec Ideal S4096x2048 .f32 := m ((c : Thread nD τ).loc main_arg3)

theorem entry_t : V m c main_arg3 = aT m c := by entry_read; rfl
/-- The normalised rows. -/
def nrm : FVec Ideal S4096x2048 .f32 := fun i => Norm.hat K (row (aX m c) (i 0)) (i 1)
theorem entry_h : V m c main_v15 = nrm m c := by
  entry_read; funext i; idx_vars i
  pointwise [nrm, Norm.hat, Norm.dev, Norm.mean, Norm.rstd, Norm.var]
theorem entry_g : V m c main_v18 = fun i => aG m c (ix2 3 (i 1)) := by entry_read; funext i; idx_vars i; pointwise []
theorem entry_b : V m c main_v21 = fun i => aB m c (ix2 3 (i 1)) := by entry_read; funext i; idx_vars i; pointwise []

/-- The row of the arrays a point's row is. -/
def brw (t : Fin cfg0.N) (a : Fin 512) : Fin 4096 := ⟨t.val * 512 + a.val, by have := t.isLt; have h : cfg0.N = 8 := rfl; omega⟩

theorem blk_h (t : Fin cfg0.N) (a : Fin 512) (k : Fin 2048) : iblk m c 0 t (ix2 a k) = Norm.hat K (row (aX m c) (brw t a)) k := by
  have hr : (brw t a).val = t.val * 512 + a.val := rfl
  have e := entry_h m c
  refine Eq.trans ?_ (rfl : nrm m c (ix2 (brw t a) k) = _)
  generalize nrm m c = H at e ⊢
  blk_point [iblk, e, idx t]
theorem blk_g (t : Fin cfg0.N) (x : Fin 1) (k : Fin 2048) : iblk m c 1 t (ix2 x k) = aG m c (ix2 3 k) := by blk_point [iblk, entry_g, idx t]
theorem blk_b (t : Fin cfg0.N) (x : Fin 1) (k : Fin 2048) : iblk m c 2 t (ix2 x k) = aB m c (ix2 3 k) := by blk_point [iblk, entry_b, idx t]
theorem blk_t (t : Fin cfg0.N) (a : Fin 512) (k : Fin 2048) : iblk m c 3 t (ix2 a k) = aT m c (ix2 (brw t a) k) := by
  have hr : (brw t a).val = t.val * 512 + a.val := rfl
  blk_point [iblk, entry_t, idx t]

/-- The rows a step leaves of the first result. -/
theorem point4 (t : Fin cfg0.N) (a : Fin 512) (k : Fin 2048) :
    (outsAt0 m c t.val t.isLt).1 (ix2 a k) = err (aX m c) (aG m c) (aB m c) (aT m c) (brw t a) k * Ideal.ofBits .f32 0x3A000000#32 := by
  unfold err
  by_cases h0 : t.val % 8 = 0
  · rw [outsAt0_A m c t h0]; dsimp only; frame_out; open_payloads; pointwise []; simp only [blk_h, blk_g, blk_b, blk_t]
  · rw [outsAt0_B m c t h0]; dsimp only; frame_out; open_payloads; pointwise []; simp only [blk_h, blk_g, blk_b, blk_t]
/-- A row's mean square distance. -/
def msq (p : Fin 4096) : EReal := Ideal.div (∑ k : Fin 2048, err (aX m c) (aG m c) (aB m c) (aT m c) p k * err (aX m c) (aG m c) (aB m c) (aT m c) p k) K
/-- What the loss holds after a step. -/
theorem first5 (t : Fin cfg0.N) (h0 : t.val % 8 = 0) (i) : (outsAt0 m c t.val t.isLt).2 i = 0 + ∑ a : Fin 512, half * msq m c (brw t a) := by
  idx_vars i
  rw [← half_sum]; unfold msq err
  rw [outsAt0_A m c t h0]; dsimp only; frame_out; open_payloads; pointwise []; simp only [blk_h, blk_g, blk_b, blk_t]
theorem next5 (t : Fin cfg0.N) (h0 : ¬t.val % 8 = 0) (i) : (outsAt0 m c t.val t.isLt).2 i
    = (outsAt0 m c (t.val - 1) (Nat.lt_of_le_of_lt (Nat.sub_le _ _) t.isLt)).2 i + ∑ a : Fin 512, half * msq m c (brw t a) := by
  idx_vars i
  rw [← half_sum]; unfold msq err
  rw [outsAt0_B m c t h0]; dsimp only; frame_out; open_payloads; pointwise []; simp only [blk_h, blk_g, blk_b, blk_t]

/-- The first result: the loss's gradient. -/
theorem final4 : (dats m 0 c).arrAt 4 (cfgs 0).N = val_main_v42 (F := Ideal) (aX m c) (aG m c) (aB m c) (aT m c) := by
  refine (dats m 0 c).arrAt_eq_of_covers 4 _ (by decide +kernel) fun t hf y => ?_
  blk_simp
  rw [after0_4]
  have h0 : ((win0_4.blk t).view.emb y 0).val = t.val * 512 + (y 0).val := by blk_simp [idx t]
  have h1 : ((win0_4.blk t).view.emb y 1).val = (y 1).val := by blk_simp [idx t]
  generalize (win0_4.blk t).view.emb y = j at h0 h1 ⊢
  idx_vars j
  idx_vars y
  obtain rfl : j0 = brw t y0 := Fin.ext h0
  obtain rfl : j1 = y1 := Fin.ext h1
  exact (point4 m c t y0 j1).trans ((scaled _).trans (read_dy (aX m c) (aG m c) (aB m c) (aT m c) _ _).symm)
/-- The second result: the loss. -/
theorem final5 : (dats m 0 c).arrAt 5 (cfgs 0).N = val_main_v43 (F := Ideal) (aX m c) (aG m c) (aB m c) (aT m c) := by
  refine (dats m 0 c).arrAt_eq_of_covers 5 _ (by decide +kernel) fun t hf y => ?_
  blk_simp
  rw [after0_5]
  generalize (win0_5.blk t).view.emb y = j
  idx_vars j
  idx_vars y
  exact (Cert.Rows.total (fun n h => (outsAt0 m c n h).2) (fun p _ => half * msq m c p) brw N_0 (fun _ _ => rfl)
    (first5 m c) (next5 m c) t ((flush0_5 t).mp hf) (ix2 y0 y1)).trans ((half_sum _).symm.trans (read_loss (aX m c) (aG m c) (aB m c) (aT m c) j0 j1).symm)

end Cert.LossHeadIdeal.Val
end
-- ==== Proof.Loss.lean ====
module
public import proofs.«01_k».proof.Defs
public import proofs.«01_k».proof.Proof.LossOut
public import proofs.«01_k».proof.Proof.Gen.LossHeadRefIdeal.Run
@[expose] public section
set_option maxRecDepth 16384
noncomputable section
open Idealize.ShloMosaic Idealize.SL.Sem Idealize.ShloMosaic.StableHlo

namespace Cert.LossHeadRefIdeal.Read
open Cert.LossHeadRefIdeal

/-- The reference's run with each result at its named stage instead of the composed term. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42) = val_main_v42 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v43) = val_main_v43 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨(h c).1.trans (val_main_v42_eq _ _ _ _),
      (h c).2.1.trans (val_main_v43_eq m c),
      (h c).2.2⟩)
    (Value.run (F := Ideal) m ρ)

end Cert.LossHeadRefIdeal.Read

namespace Cert.LossHeadIdeal.Val

set_option maxHeartbeats 1600000 in
/-- The loss and its gradient: the kernel and the reference leave the same two arrays at any arguments. -/
theorem algebraic : Cert.algebraic_LossHeadIdeal_LossHeadRefIdeal (hLossHeadIdeal := Cert.LossHeadIdeal.Gen.facts)
    (hLossHeadRefIdeal := Cert.LossHeadRefIdeal.Gen.facts) := by
  intro m g m' g' hpre hagree
  refine ⟨fun c => (Gen.dats m 0 c).arrAt 4 (cfgs 0).N, fun c => (Gen.dats m 0 c).arrAt 5 (cfgs 0).N, ?_, ?_⟩
  · exact θ_run_mono (θ_run_and (Gen.run_main m g) (Gen.unchanged m g)) fun r h c =>
      ⟨(h.1 c).1 4, (h.1 c).1 5, h.2 c⟩
  · refine (θ_run Cert.LossHeadRefIdeal.defs _ _).mono (fun r h c => ?_) (Cert.LossHeadRefIdeal.Read.run_named m' g')
    obtain ⟨e0, e1, e2, e3⟩ := hagree c
    obtain ⟨h0, h1, hs⟩ := h c
    refine ⟨h0.trans ?_, h1.trans ?_, hs⟩
    · rw [e0, e1, e2, e3]; exact (final4 m c).symm
    · rw [e0, e1, e2, e3]; exact (final5 m c).symm

/-- The reference leaves its arguments as they were, and it declares no semaphore. -/
theorem frame_ref : Cert.quiescent_LossHeadRefIdeal (hLossHeadRefIdeal := Cert.LossHeadRefIdeal.Gen.facts) := fun m ρ _ =>
  (θ_run Cert.LossHeadRefIdeal.defs _ _).mono (fun r h => ⟨fun c => (h c).2.2, sem_eq_zero_of_no_sems (by decide) r.2⟩)
    (Cert.LossHeadRefIdeal.Value.run (F := Ideal) m ρ)

end Cert.LossHeadIdeal.Val
end
-- ==== Proof.LnFfnRef.lean ====
module

public import proofs.«01_k».proof.Proof.Gen.LnFfnBwdRefIdeal.Read
public import Idealize.ShloMosaic.Lib.Pipeline.ValueKit
public import proofs.«01_k».proof.Proof.Norm

@[expose] public section
set_option maxRecDepth 16384
noncomputable section
open Idealize.ShloMosaic Idealize.ShloMosaic.TcCoe Idealize.SL.Sem
namespace Cert.LnFfnBwdRefIdeal.Val
open Cert.LnFfnBwdRefIdeal Cert.LnFfnBwdRefIdeal.Gen Cert.LnFfnBwdRefIdeal.Read

variable (x f : FVec Ideal S4096x2048 .f32) (g : FVec Ideal S4x2048 .f32) (d : FVec Ideal S4096x2048 .f32)

/-- The length of a row, as the programs write it. -/
abbrev K : EReal := Ideal.ofBits .f32 0x45000000#32
/-- The rows that are normalised: the residual row, scaled, plus the branch's. -/
abbrev row (p : Fin 4096) (k : Fin 2048) : EReal := Ideal.ofBits .f32 0x3FD744FD#32 * x (ix2 p k) + f (ix2 p k)
/-- The gradient of the normalised row. -/
abbrev dn (p : Fin 4096) (k : Fin 2048) : EReal := d (ix2 p k) * g (ix2 3 k)

theorem read_dev (p : Fin 4096) (k : Fin 2048) : val_main_v12 (F := Ideal) x f (ix2 p k) = Norm.dev K (row x f p) k := by
  pointwise [val_main_v12, val_main_v11, val_main_v10, val_main_v9, val_main_v8, val_main_v7, val_main_cst_0, val_main_cst_1, val_main_v6, val_main_v5, val_main_v4, val_main_cst, Norm.dev, Norm.mean]
theorem read_var (p : Fin 4096) (x0 : Fin 1) : val_main_v23 (F := Ideal) x f (ix2 p x0) = Norm.var K (row x f p) := by
  pointwise [val_main_v23, val_main_v22, val_main_v19, val_main_v18, val_main_v17, val_main_v16, val_main_v13, val_main_cst_3, val_main_cst_4, val_main_cst_5]
  simp only [read_dev]
  pointwise [Norm.var, Norm.mean]
theorem read_rstd (p : Fin 4096) (x0 : Fin 1) : val_main_v24 (F := Ideal) x f (ix2 p x0) = Norm.rstd K (row x f p) := by
  pointwise [val_main_v24]
  rw [read_var]; rfl
theorem read_dev' (p : Fin 4096) (k : Fin 2048) : val_main_v21 (F := Ideal) x f (ix2 p k) = Norm.dev K (row x f p) k := read_dev x f p k
theorem read_hat (p : Fin 4096) (k : Fin 2048) : val_main_v29 (F := Ideal) x f (ix2 p k) = Norm.hat K (row x f p) k := by
  pointwise [val_main_v29, val_main_v28]
  rw [read_dev', read_rstd]; rfl
/-- The first result: the gradient of the rows. -/
theorem read_dx (p : Fin 4096) (k : Fin 2048) : val_main_v69 (F := Ideal) x f g d (ix2 p k) = Norm.vjp K (row x f p) (dn g d p) k := by
  have hd : ∀ (p : Fin 4096) k, val_main_v44 (F := Ideal) g d (ix2 p k) = dn g d p k := fun p k => by
    pointwise [val_main_v44, val_main_v43, val_main_v36, val_main_v30, val_main_v1, val_main_v0]
  have hvia : ∀ p : Fin 4096, val_main_v57 (F := Ideal) x f g d (ix1 p) = Norm.viaVar K (row x f p) (dn g d p) := fun p => by
    pointwise [val_main_v57, val_main_v56, val_main_v55, val_main_v51, val_main_v48, val_main_v47, val_main_v46, val_main_v27, val_main_v26, val_main_v25, val_main_cst_6, val_main_cst_11, val_main_cst_13, val_main_cst_14, Norm.viaVar]
    simp only [hd, read_dev', read_var, read_rstd, Finset.univ_unique, Finset.sum_singleton]
  pointwise [val_main_v69, val_main_v68, val_main_v67, val_main_v66, val_main_v65, val_main_v64, val_main_v63, val_main_v62, val_main_v61, val_main_v60, val_main_v59, val_main_v58, val_main_v54, val_main_v53, val_main_v52, val_main_v50, val_main_v49, val_main_v15, val_main_v14, val_main_cst_2, val_main_cst_12, val_main_cst_15, val_main_cst_16, val_main_cst_17, Norm.vjp]
  simp only [hd, read_dev, hvia, read_rstd, Finset.univ_unique, Finset.sum_singleton]
/-- The gradient of the scale. -/
theorem read_dg (x0 : Fin 1) (k : Fin 2048) :
    val_main_v71 (F := Ideal) x f d (ix2 x0 k) = ∑ p : Fin 4096, Norm.hat K (row x f p) k * d (ix2 p k) := by
  pointwise [val_main_v71, val_main_v45, val_main_v42, val_main_v41, val_main_v40, val_main_v36, val_main_cst_9, val_main_cst_10]
  simp only [read_hat, Finset.univ_unique, Finset.sum_singleton]
/-- The gradient of the shift. -/
theorem read_db (x0 : Fin 1) (k : Fin 2048) : val_main_v72 (F := Ideal) d (ix2 x0 k) = ∑ p : Fin 4096, d (ix2 p k) := by
  pointwise [val_main_v72, val_main_v39, val_main_v38, val_main_v37, val_main_cst_7, val_main_cst_8]
  simp only [Finset.univ_unique, Finset.sum_singleton]
/-- The same gradient, handed on at half the width. -/
theorem read_half (p : Fin 4096) (k : Fin 2048) : val_main_v70 (F := Ideal) x f g d (ix2 p k) = Norm.vjp K (row x f p) (dn g d p) k := by
  pointwise [val_main_v70]
  exact read_dx x f g d p k

end Cert.LnFfnBwdRefIdeal.Val
end
-- ==== Proof.LnFfnOut.lean ====
module

public import proofs.«01_k».proof.Proof.Gen.LnFfnBwdIdeal.Frame
public import Idealize.ShloMosaic.Lib.Pipeline.ValueKit
public import proofs.«01_k».proof.Defs
public import proofs.«01_k».proof.Proof.LnFfnRef
public import proofs.«01_k».proof.Proof.Rows
public import proofs.«01_k».proof.Proof.Kit

@[expose] public section
set_option maxRecDepth 16384
noncomputable section
open Idealize.ShloMosaic Idealize.ShloMosaic.TcCoe Idealize.SL.Sem
open Idealize.ShloMosaic.Pipeline (Dat)
namespace Cert.LnFfnBwdIdeal.Val
open Cert.LnFfnBwdIdeal Cert.LnFfnBwdIdeal.Gen
open Cert.LnFfnBwdRefIdeal.Val (K row dn read_dx read_dg read_db read_half)
open Cert.LnFfnBwdRefIdeal.Read (val_main_v69 val_main_v70 val_main_v71 val_main_v72)
open Cert.Norm (IsReal)
variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![0, 0] ∧ win0_4.index t = ![t.val, 0] ∧ win0_5.index t = ![t.val, 0] ∧ win0_6.index t = ![0, 0] ∧ win0_7.index t = ![0, 0] :=
  (by decide +kernel : ∀ t : Fin grid0.N, _)

/-- The residual rows. -/
abbrev aX (c : Dev nD) : FVec Ideal S4096x2048 .f32 := m ((c : Thread nD τ).loc main_arg0)
/-- The branch's rows. -/
abbrev aF (c : Dev nD) : FVec Ideal S4096x2048 .f32 := m ((c : Thread nD τ).loc main_arg1)
/-- The scales of every layer. -/
abbrev aG (c : Dev nD) : FVec Ideal S4x2048 .f32 := m ((c : Thread nD τ).loc main_arg2)
/-- The cotangent. -/
abbrev aD (c : Dev nD) : FVec Ideal S4096x2048 .f32 := m ((c : Thread nD τ).loc main_arg4)

theorem entry_d : V m c main_arg4 = aD m c := by entry_read; rfl
/-- The normalised rows. -/
def nrm : FVec Ideal S4096x2048 .f32 := fun i => Norm.hat K (row (aX m c) (aF m c) (i 0)) (i 1)
theorem entry_h : V m c main_v18 = nrm m c := by
  entry_read; funext i; idx_vars i
  pointwise [nrm, Norm.hat, Norm.dev, Norm.mean, Norm.rstd, Norm.var]
/-- One over each row's standard deviation. -/
def inv : FVec Ideal S4096x1 .f32 := fun i => Norm.rstd K (row (aX m c) (aF m c) (i 0))
theorem entry_r : V m c main_v16 = inv m c := by
  entry_read; funext i; idx_vars i
  pointwise [inv, Norm.dev, Norm.mean, Norm.rstd, Norm.var]
theorem entry_g : V m c main_v21 = fun i => aG m c (ix2 3 (i 1)) := by entry_read; funext i; idx_vars i; pointwise []

/-- The row of the arrays a point's row is. -/
def brw (t : Fin cfg0.N) (a : Fin 512) : Fin 4096 := ⟨t.val * 512 + a.val, by have := t.isLt; have h : cfg0.N = 8 := rfl; omega⟩

theorem blk_d (t : Fin cfg0.N) (a : Fin 512) (k : Fin 2048) : iblk m c 0 t (ix2 a k) = aD m c (ix2 (brw t a) k) := by
  have hr : (brw t a).val = t.val * 512 + a.val := rfl
  blk_point [iblk, entry_d, idx t]
theorem blk_h (t : Fin cfg0.N) (a : Fin 512) (k : Fin 2048) : iblk m c 1 t (ix2 a k) = Norm.hat K (row (aX m c) (aF m c) (brw t a)) k := by
  have hr : (brw t a).val = t.val * 512 + a.val := rfl
  have e := entry_h m c
  refine Eq.trans ?_ (rfl : nrm m c (ix2 (brw t a) k) = _)
  generalize nrm m c = H at e ⊢
  blk_point [iblk, e, idx t]
theorem blk_r (t : Fin cfg0.N) (a : Fin 512) (x : Fin 1) : iblk m c 2 t (ix2 a x) = Norm.rstd K (row (aX m c) (aF m c) (brw t a)) := by
  have hr : (brw t a).val = t.val * 512 + a.val := rfl
  have e := entry_r m c
  refine Eq.trans ?_ (rfl : inv m c (ix2 (brw t a) x) = _)
  generalize inv m c = H at e ⊢
  blk_point [iblk, e, idx t]
theorem blk_g (t : Fin cfg0.N) (x : Fin 1) (k : Fin 2048) : iblk m c 3 t (ix2 x k) = aG m c (ix2 3 k) := by
  blk_point [iblk, entry_g, idx t]

/-- The rows a step leaves of the first result. -/
theorem point4 (t : Fin cfg0.N) (a : Fin 512) (k : Fin 2048) :
    (outsAt0 m c t.val t.isLt).1 (ix2 a k) = Norm.bwd K (row (aX m c) (aF m c) (brw t a)) (dn (aG m c) (aD m c) (brw t a)) k := by
  by_cases h0 : t.val % 8 = 0
  · rw [outsAt0_A m c t h0]; dsimp only; frame_out; open_payloads; pointwise []; simp only [blk_d, blk_h, blk_r, blk_g]; rfl
  · rw [outsAt0_B m c t h0]; dsimp only; frame_out; open_payloads; pointwise []; simp only [blk_d, blk_h, blk_r, blk_g]; rfl
/-- The same rows at half the width. -/
theorem point5 (t : Fin cfg0.N) (a : Fin 512) (k : Fin 2048) :
    (outsAt0 m c t.val t.isLt).2.1 (ix2 a k) = Norm.bwd K (row (aX m c) (aF m c) (brw t a)) (dn (aG m c) (aD m c) (brw t a)) k := by
  by_cases h0 : t.val % 8 = 0
  · rw [outsAt0_A m c t h0]; dsimp only; frame_out; open_payloads; pointwise []; simp only [blk_d, blk_h, blk_r, blk_g]; rfl
  · rw [outsAt0_B m c t h0]; dsimp only; frame_out; open_payloads; pointwise []; simp only [blk_d, blk_h, blk_r, blk_g]; rfl
/-- What the scale's sum holds after a step. -/
theorem first6 (t : Fin cfg0.N) (h0 : t.val % 8 = 0) (i) : (outsAt0 m c t.val t.isLt).2.2.1 i = 0 + ∑ a : Fin 512, aD m c (ix2 (brw t a) (i 1)) * Norm.hat K (row (aX m c) (aF m c) (brw t a)) (i 1) := by
  idx_vars i
  rw [outsAt0_A m c t h0]; dsimp only; frame_out; open_payloads; pointwise []; simp only [blk_d, blk_h]
theorem next6 (t : Fin cfg0.N) (h0 : ¬t.val % 8 = 0) (i) : (outsAt0 m c t.val t.isLt).2.2.1 i
    = (outsAt0 m c (t.val - 1) (Nat.lt_of_le_of_lt (Nat.sub_le _ _) t.isLt)).2.2.1 i + ∑ a : Fin 512, aD m c (ix2 (brw t a) (i 1)) * Norm.hat K (row (aX m c) (aF m c) (brw t a)) (i 1) := by
  idx_vars i
  rw [outsAt0_B m c t h0]; dsimp only; frame_out; open_payloads; pointwise []; simp only [blk_d, blk_h]
/-- What the shift's sum holds after a step. -/
theorem first7 (t : Fin cfg0.N) (h0 : t.val % 8 = 0) (i) : (outsAt0 m c t.val t.isLt).2.2.2 i = 0 + ∑ a : Fin 512, aD m c (ix2 (brw t a) (i 1)) := by
  idx_vars i
  rw [outsAt0_A m c t h0]; dsimp only; frame_out; open_payloads; pointwise []; simp only [blk_d, blk_h]
theorem next7 (t : Fin cfg0.N) (h0 : ¬t.val % 8 = 0) (i) : (outsAt0 m c t.val t.isLt).2.2.2 i
    = (outsAt0 m c (t.val - 1) (Nat.lt_of_le_of_lt (Nat.sub_le _ _) t.isLt)).2.2.2 i + ∑ a : Fin 512, aD m c (ix2 (brw t a) (i 1)) := by
  idx_vars i
  rw [outsAt0_B m c t h0]; dsimp only; frame_out; open_payloads; pointwise []; simp only [blk_d, blk_h]

/-- No argument the gradient of the rows reads is infinite. -/
structure Finite (x : FVec Ideal S4096x2048 .f32) (f : FVec Ideal S4096x2048 .f32) (g : FVec Ideal S4x2048 .f32) (d : FVec Ideal S4096x2048 .f32) : Prop where
  x : ∀ i, IsReal (x i)
  f : ∀ i, IsReal (f i)
  g : ∀ i, IsReal (g i)
  d : ∀ i, IsReal (d i)

theorem finite_of_fn [Cert.Pre_ln_ffn_finite.Facts] {x : FVec Ideal S4096x2048 .f32} {f : FVec Ideal S4096x2048 .f32} {g : FVec Ideal S4x2048 .f32} {b : FVec Ideal S4x2048 .f32} {d : FVec Ideal S4096x2048 .f32}
    (h : Cert.Pre_ln_ffn_finite.fn (F := Ideal) x f g b d = fun _ => 1#1) : Finite x f g d := by
  have h0 := congrFun h (fun a => a.elim0)
  simp only [Cert.Pre_ln_ffn_finite.fn, Cert.Pre_ln_ffn_finite.fn_part1, andi_apply, Cert.Norm.and_one] at h0
  obtain ⟨⟨⟨h1, h2⟩, h3⟩, h4⟩ := h0
  exact ⟨IsReal.of_all _ _ _ _ _ _ h1, IsReal.of_all _ _ _ _ _ _ h2, IsReal.of_all _ _ _ _ _ _ h3, IsReal.of_all _ _ _ _ _ _ h4⟩

theorem scale_real : IsReal (Ideal.ofBits .f32 0x3FD744FD#32) := ⟨14107901 * (2 ^ 23)⁻¹, by simp [Ideal.ofBits, Ideal.ieee]⟩

theorem Finite.same {x f : FVec Ideal S4096x2048 .f32} {g : FVec Ideal S4x2048 .f32} {d : FVec Ideal S4096x2048 .f32} (F : Finite x f g d) (p : Fin 4096) (k : Fin 2048) :
    Norm.bwd K (row x f p) (dn g d p) k = Norm.vjp K (row x f p) (dn g d p) k :=
  Norm.bwd_eq_vjp (n := 2048) (by norm_num) Norm.n2048_eq (fun k => (scale_real.mul (F.x _)).add (F.f _)) (fun k => (F.d _).mul (F.g _)) k

/-- The first result. -/
theorem final4 (F : Finite (aX m c) (aF m c) (aG m c) (aD m c)) :
    (dats m 0 c).arrAt 4 (cfgs 0).N = val_main_v69 (F := Ideal) (aX m c) (aF m c) (aG m c) (aD m c) := by
  refine (dats m 0 c).arrAt_eq_of_covers 4 _ (by decide +kernel) fun t hf y => ?_
  blk_simp
  rw [after0_4]
  have h0 : ((win0_4.blk t).view.emb y 0).val = t.val * 512 + (y 0).val := by blk_simp [idx t]
  have h1 : ((win0_4.blk t).view.emb y 1).val = (y 1).val := by blk_simp [idx t]
  generalize (win0_4.blk t).view.emb y = j at h0 h1 ⊢
  idx_vars j
  idx_vars y
  obtain rfl : j0 = brw t y0 := Fin.ext h0
  obtain rfl : j1 = y1 := Fin.ext h1
  exact (point4 m c t y0 j1).trans ((F.same _ _).trans (read_dx (aX m c) (aF m c) (aG m c) (aD m c) _ _).symm)
/-- The first result at half the width. -/
theorem final5 (F : Finite (aX m c) (aF m c) (aG m c) (aD m c)) :
    (dats m 0 c).arrAt 5 (cfgs 0).N = val_main_v70 (F := Ideal) (aX m c) (aF m c) (aG m c) (aD m c) := by
  refine (dats m 0 c).arrAt_eq_of_covers 5 _ (by decide +kernel) fun t hf y => ?_
  blk_simp
  rw [after0_5]
  have h0 : ((win0_5.blk t).view.emb y 0).val = t.val * 512 + (y 0).val := by blk_simp [idx t]
  have h1 : ((win0_5.blk t).view.emb y 1).val = (y 1).val := by blk_simp [idx t]
  generalize (win0_5.blk t).view.emb y = j at h0 h1 ⊢
  idx_vars j
  idx_vars y
  obtain rfl : j0 = brw t y0 := Fin.ext h0
  obtain rfl : j1 = y1 := Fin.ext h1
  exact (point5 m c t y0 j1).trans ((F.same _ _).trans (read_half (aX m c) (aF m c) (aG m c) (aD m c) _ _).symm)
/-- The gradient of the scale. -/
theorem final6 : (dats m 0 c).arrAt 6 (cfgs 0).N = val_main_v71 (F := Ideal) (aX m c) (aF m c) (aD m c) := by
  refine (dats m 0 c).arrAt_eq_of_covers 6 _ (by decide +kernel) fun t hf y => ?_
  blk_simp
  rw [after0_6]
  have h1 : ((win0_6.blk t).view.emb y 1).val = (y 1).val := by blk_simp [idx t]
  generalize (win0_6.blk t).view.emb y = j at h1 ⊢
  idx_vars j
  idx_vars y
  obtain rfl : j1 = y1 := Fin.ext h1
  exact (Cert.Rows.total (fun n h => (outsAt0 m c n h).2.2.1) (fun p i => aD m c (ix2 p (i 1)) * Norm.hat K (row (aX m c) (aF m c) p) (i 1)) brw N_0 (fun _ _ => rfl)
    (first6 m c) (next6 m c) t ((flush0_6 t).mp hf) (ix2 y0 j1)).trans (Eq.trans (Finset.sum_congr rfl fun p _ => mul_comm _ _) (read_dg (aX m c) (aF m c) (aD m c) _ j1).symm)
/-- The gradient of the shift. -/
theorem final7 : (dats m 0 c).arrAt 7 (cfgs 0).N = val_main_v72 (F := Ideal) (aD m c) := by
  refine (dats m 0 c).arrAt_eq_of_covers 7 _ (by decide +kernel) fun t hf y => ?_
  blk_simp
  rw [after0_7]
  have h1 : ((win0_7.blk t).view.emb y 1).val = (y 1).val := by blk_simp [idx t]
  generalize (win0_7.blk t).view.emb y = j at h1 ⊢
  idx_vars j
  idx_vars y
  obtain rfl : j1 = y1 := Fin.ext h1
  exact (Cert.Rows.total (fun n h => (outsAt0 m c n h).2.2.2) (fun p i => aD m c (ix2 p (i 1))) brw N_0 (fun _ _ => rfl)
    (first7 m c) (next7 m c) t ((flush0_7 t).mp hf) (ix2 y0 j1)).trans (read_db (aD m c) _ j1).symm

end Cert.LnFfnBwdIdeal.Val
end
-- ==== Proof.LnFfn.lean ====
module
public import proofs.«01_k».proof.Defs
public import proofs.«01_k».proof.Proof.LnFfnOut
public import proofs.«01_k».proof.Proof.Gen.LnFfnBwdRefIdeal.Run
public import proofs.«01_k».proof.Proof.Gen.Pre_ln_ffn_finite
@[expose] public section
set_option maxRecDepth 16384
noncomputable section
open Idealize.ShloMosaic Idealize.SL.Sem Idealize.ShloMosaic.StableHlo

namespace Cert.LnFfnBwdRefIdeal.Read
open Cert.LnFfnBwdRefIdeal

/-- The reference's run with each result at its named stage instead of the composed term. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v69) = val_main_v69 (F := Ideal) (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v70) = val_main_v70 (F := Ideal) (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v71) = val_main_v71 (F := Ideal) (m ((c.tc : Thread nD τ).loc main_arg0)) (m ((c.tc : Thread nD τ).loc main_arg1)) (m ((c.tc : Thread nD τ).loc main_arg4))
      ∧ r.2.mem ((c.tc : Thread nD τ).loc main_v72) = val_main_v72 (F := Ideal) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨(h c).1.trans (val_main_v69_eq m c),
      (h c).2.1.trans (val_main_v70_eq m c),
      (h c).2.2.1.trans (val_main_v71_eq _ _ _),
      (h c).2.2.2.1.trans (val_main_v72_eq _),
      (h c).2.2.2.2⟩)
    (Value.run (F := Ideal) m ρ)

end Cert.LnFfnBwdRefIdeal.Read

namespace Cert.LnFfnBwdIdeal.Val

set_option maxHeartbeats 1600000 in
/-- The gradient through the normalisation that closes a layer: on rows, a scale and a cotangent none of which is infinite, the kernel and the reference leave the same four arrays. -/
theorem algebraic : Cert.algebraic_LnFfnBwdIdeal_LnFfnBwdRefIdeal_pre_ln_ffn_finite (hLnFfnBwdIdeal := Cert.LnFfnBwdIdeal.Gen.facts)
    (hLnFfnBwdRefIdeal := Cert.LnFfnBwdRefIdeal.Gen.facts) (hPre_ln_ffn_finite := Cert.Pre_ln_ffn_finite.Gen.facts) := by
  intro m g m' g' hpre hagree
  refine ⟨fun c => (Gen.dats m 0 c).arrAt 4 (cfgs 0).N, fun c => (Gen.dats m 0 c).arrAt 5 (cfgs 0).N, fun c => (Gen.dats m 0 c).arrAt 6 (cfgs 0).N, fun c => (Gen.dats m 0 c).arrAt 7 (cfgs 0).N, ?_, ?_⟩
  · exact θ_run_mono (θ_run_and (Gen.run_main m g) (Gen.unchanged m g)) fun r h c =>
      ⟨(h.1 c).1 4, (h.1 c).1 5, (h.1 c).1 6, (h.1 c).1 7, h.2 c⟩
  · refine (θ_run Cert.LnFfnBwdRefIdeal.defs _ _).mono (fun r h c => ?_) (Cert.LnFfnBwdRefIdeal.Read.run_named m' g')
    obtain ⟨e0, e1, e2, e3, e4⟩ := hagree c
    obtain ⟨h0, h1, h2, h3, hs⟩ := h c
    refine ⟨h0.trans ?_, h1.trans ?_, h2.trans ?_, h3.trans ?_, hs⟩
    · rw [e0, e1, e2, e4]; exact (final4 m c (finite_of_fn (hpre c))).symm
    · rw [e0, e1, e2, e4]; exact (final5 m c (finite_of_fn (hpre c))).symm
    · rw [e0, e1, e4]; exact (final6 m c).symm
    · rw [e4]; exact (final7 m c).symm

/-- The reference leaves its arguments as they were, and it declares no semaphore. -/
theorem frame_ref : Cert.quiescent_LnFfnBwdRefIdeal (hLnFfnBwdRefIdeal := Cert.LnFfnBwdRefIdeal.Gen.facts) := fun m ρ _ =>
  (θ_run Cert.LnFfnBwdRefIdeal.defs _ _).mono (fun r h => ⟨fun c => (h c).2.2.2.2, sem_eq_zero_of_no_sems (by decide) r.2⟩)
    (Cert.LnFfnBwdRefIdeal.Value.run (F := Ideal) m ρ)

end Cert.LnFfnBwdIdeal.Val
end
-- ==== Proof.LnInRef.lean ====
module

public import proofs.«01_k».proof.Proof.Gen.LnInBwdRefIdeal.Read
public import Idealize.ShloMosaic.Lib.Pipeline.ValueKit
public import proofs.«01_k».proof.Proof.Norm

@[expose] public section
set_option maxRecDepth 16384
noncomputable section
open Idealize.ShloMosaic Idealize.ShloMosaic.TcCoe Idealize.SL.Sem
namespace Cert.LnInBwdRefIdeal.Val
open Cert.LnInBwdRefIdeal Cert.LnInBwdRefIdeal.Gen Cert.LnInBwdRefIdeal.Read

variable (x : FVec Ideal S4096x2048 .f32) (g : FVec Ideal S2048 .f32) (d : FVec Ideal S4096x2048 .f32)

/-- The length of a row, as the programs write it. -/
abbrev K : EReal := Ideal.ofBits .f32 0x45000000#32
/-- The rows that are normalised. -/
abbrev row (p : Fin 4096) (k : Fin 2048) : EReal := x (ix2 p k)
/-- The gradient of the normalised row. -/
abbrev dn (p : Fin 4096) (k : Fin 2048) : EReal := d (ix2 p k) * g (ix1 k)

theorem read_dev (p : Fin 4096) (k : Fin 2048) : val_main_v5 (F := Ideal) x (ix2 p k) = Norm.dev K (row x p) k := by
  pointwise [val_main_v5, val_main_v4, val_main_v3, val_main_v2, val_main_v1, val_main_v0, val_main_cst, val_main_cst_0, Norm.dev, Norm.mean]
theorem read_var (p : Fin 4096) (x0 : Fin 1) : val_main_v16 (F := Ideal) x (ix2 p x0) = Norm.var K (row x p) := by
  pointwise [val_main_v16, val_main_v15, val_main_v12, val_main_v11, val_main_v10, val_main_v9, val_main_v6, val_main_cst_2, val_main_cst_3, val_main_cst_4]
  simp only [read_dev]
  pointwise [Norm.var, Norm.mean]
theorem read_rstd (p : Fin 4096) (x0 : Fin 1) : val_main_v17 (F := Ideal) x (ix2 p x0) = Norm.rstd K (row x p) := by
  pointwise [val_main_v17]
  rw [read_var]; rfl
theorem read_dev' (p : Fin 4096) (k : Fin 2048) : val_main_v14 (F := Ideal) x (ix2 p k) = Norm.dev K (row x p) k := read_dev x p k
theorem read_hat (p : Fin 4096) (k : Fin 2048) : val_main_v22 (F := Ideal) x (ix2 p k) = Norm.hat K (row x p) k := by
  pointwise [val_main_v22, val_main_v21]
  rw [read_dev', read_rstd]; rfl
/-- The first result: the gradient of the rows. -/
theorem read_dx (p : Fin 4096) (k : Fin 2048) : val_main_v62 (F := Ideal) x g d (ix2 p k) = Norm.vjp K (row x p) (dn g d p) k := by
  have hd : ∀ (p : Fin 4096) k, val_main_v37 (F := Ideal) g d (ix2 p k) = dn g d p k := fun p k => by
    pointwise [val_main_v37, val_main_v36, val_main_v29, val_main_v23]
  have hvia : ∀ p : Fin 4096, val_main_v50 (F := Ideal) x g d (ix1 p) = Norm.viaVar K (row x p) (dn g d p) := fun p => by
    pointwise [val_main_v50, val_main_v49, val_main_v48, val_main_v44, val_main_v41, val_main_v40, val_main_v39, val_main_v20, val_main_v19, val_main_v18, val_main_cst_5, val_main_cst_10, val_main_cst_12, val_main_cst_13, Norm.viaVar]
    simp only [hd, read_dev', read_var, read_rstd, Finset.univ_unique, Finset.sum_singleton]
  pointwise [val_main_v62, val_main_v61, val_main_v60, val_main_v59, val_main_v58, val_main_v57, val_main_v56, val_main_v55, val_main_v54, val_main_v53, val_main_v52, val_main_v51, val_main_v47, val_main_v46, val_main_v45, val_main_v43, val_main_v42, val_main_v8, val_main_v7, val_main_cst_1, val_main_cst_11, val_main_cst_14, val_main_cst_15, val_main_cst_16, Norm.vjp]
  simp only [hd, read_dev, hvia, read_rstd, Finset.univ_unique, Finset.sum_singleton]
/-- The gradient of the scale. -/
theorem read_dg (x0 : Fin 1) (k : Fin 2048) :
    val_main_v63 (F := Ideal) x d (ix2 x0 k) = ∑ p : Fin 4096, Norm.hat K (row x p) k * d (ix2 p k) := by
  pointwise [val_main_v63, val_main_v38, val_main_v35, val_main_v34, val_main_v33, val_main_v29, val_main_cst_8, val_main_cst_9]
  simp only [read_hat, Finset.univ_unique, Finset.sum_singleton]
/-- The gradient of the shift. -/
theorem read_db (x0 : Fin 1) (k : Fin 2048) : val_main_v64 (F := Ideal) d (ix2 x0 k) = ∑ p : Fin 4096, d (ix2 p k) := by
  pointwise [val_main_v64, val_main_v32, val_main_v31, val_main_v30, val_main_cst_6, val_main_cst_7]
  simp only [Finset.univ_unique, Finset.sum_singleton]

end Cert.LnInBwdRefIdeal.Val
end
-- ==== Proof.LnInOut.lean ====
module

public import proofs.«01_k».proof.Proof.Gen.LnInBwdIdeal.Frame
public import Idealize.ShloMosaic.Lib.Pipeline.ValueKit
public import proofs.«01_k».proof.Defs
public import proofs.«01_k».proof.Proof.LnInRef
public import proofs.«01_k».proof.Proof.Rows
public import proofs.«01_k».proof.Proof.Kit

@[expose] public section
set_option maxRecDepth 16384
noncomputable section
open Idealize.ShloMosaic Idealize.ShloMosaic.TcCoe Idealize.SL.Sem
open Idealize.ShloMosaic.Pipeline (Dat)
namespace Cert.LnInBwdIdeal.Val
open Cert.LnInBwdIdeal Cert.LnInBwdIdeal.Gen
open Cert.LnInBwdRefIdeal.Val (K row dn read_dx read_dg read_db)
open Cert.LnInBwdRefIdeal.Read (val_main_v62 val_main_v63 val_main_v64)
open Cert.Norm (IsReal)
variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![0, 0] ∧ win0_4.index t = ![t.val, 0] ∧ win0_5.index t = ![0, 0] ∧ win0_6.index t = ![0, 0] :=
  (by decide +kernel : ∀ t : Fin grid0.N, _)

/-- The rows that are normalised. -/
abbrev aX (c : Dev nD) : FVec Ideal S4096x2048 .f32 := m ((c : Thread nD τ).loc main_arg0)
/-- The scale. -/
abbrev aG (c : Dev nD) : FVec Ideal S2048 .f32 := m ((c : Thread nD τ).loc main_arg1)
/-- The cotangent. -/
abbrev aD (c : Dev nD) : FVec Ideal S4096x2048 .f32 := m ((c : Thread nD τ).loc main_arg3)

theorem entry_d : V m c main_arg3 = aD m c := by entry_read; rfl
/-- The normalised rows. -/
def nrm : FVec Ideal S4096x2048 .f32 := fun i => Norm.hat K (row (aX m c) (i 0)) (i 1)
theorem entry_h : V m c main_v15 = nrm m c := by
  entry_read; funext i; idx_vars i
  pointwise [nrm, Norm.hat, Norm.dev, Norm.mean, Norm.rstd, Norm.var]
/-- One over each row's standard deviation. -/
def inv : FVec Ideal S4096x1 .f32 := fun i => Norm.rstd K (row (aX m c) (i 0))
theorem entry_r : V m c main_v13 = inv m c := by
  entry_read; funext i; idx_vars i
  pointwise [inv, Norm.dev, Norm.mean, Norm.rstd, Norm.var]
theorem entry_g : V m c main_v16 = fun i => aG m c (ix1 (i 1)) := by entry_read; funext i; idx_vars i; pointwise []

/-- The row of the arrays a point's row is. -/
def brw (t : Fin cfg0.N) (a : Fin 512) : Fin 4096 := ⟨t.val * 512 + a.val, by have := t.isLt; have h : cfg0.N = 8 := rfl; omega⟩

theorem blk_d (t : Fin cfg0.N) (a : Fin 512) (k : Fin 2048) : iblk m c 0 t (ix2 a k) = aD m c (ix2 (brw t a) k) := by
  have hr : (brw t a).val = t.val * 512 + a.val := rfl
  blk_point [iblk, entry_d, idx t]
theorem blk_h (t : Fin cfg0.N) (a : Fin 512) (k : Fin 2048) : iblk m c 1 t (ix2 a k) = Norm.hat K (row (aX m c) (brw t a)) k := by
  have hr : (brw t a).val = t.val * 512 + a.val := rfl
  have e := entry_h m c
  refine Eq.trans ?_ (rfl : nrm m c (ix2 (brw t a) k) = _)
  generalize nrm m c = H at e ⊢
  blk_point [iblk, e, idx t]
theorem blk_r (t : Fin cfg0.N) (a : Fin 512) (x : Fin 1) : iblk m c 2 t (ix2 a x) = Norm.rstd K (row (aX m c) (brw t a)) := by
  have hr : (brw t a).val = t.val * 512 + a.val := rfl
  have e := entry_r m c
  refine Eq.trans ?_ (rfl : inv m c (ix2 (brw t a) x) = _)
  generalize inv m c = H at e ⊢
  blk_point [iblk, e, idx t]
theorem blk_g (t : Fin cfg0.N) (x : Fin 1) (k : Fin 2048) : iblk m c 3 t (ix2 x k) = aG m c (ix1 k) := by
  blk_point [iblk, entry_g, idx t]

/-- The rows a step leaves of the first result. -/
theorem point4 (t : Fin cfg0.N) (a : Fin 512) (k : Fin 2048) :
    (outsAt0 m c t.val t.isLt).1 (ix2 a k) = Norm.bwd K (row (aX m c) (brw t a)) (dn (aG m c) (aD m c) (brw t a)) k := by
  by_cases h0 : t.val % 8 = 0
  · rw [outsAt0_A m c t h0]; dsimp only; frame_out; open_payloads; pointwise []; simp only [blk_d, blk_h, blk_r, blk_g]; rfl
  · rw [outsAt0_B m c t h0]; dsimp only; frame_out; open_payloads; pointwise []; simp only [blk_d, blk_h, blk_r, blk_g]; rfl
/-- What the scale's sum holds after a step. -/
theorem first5 (t : Fin cfg0.N) (h0 : t.val % 8 = 0) (i) : (outsAt0 m c t.val t.isLt).2.1 i = 0 + ∑ a : Fin 512, aD m c (ix2 (brw t a) (i 1)) * Norm.hat K (row (aX m c) (brw t a)) (i 1) := by
  idx_vars i
  rw [outsAt0_A m c t h0]; dsimp only; frame_out; open_payloads; pointwise []; simp only [blk_d, blk_h]
theorem next5 (t : Fin cfg0.N) (h0 : ¬t.val % 8 = 0) (i) : (outsAt0 m c t.val t.isLt).2.1 i
    = (outsAt0 m c (t.val - 1) (Nat.lt_of_le_of_lt (Nat.sub_le _ _) t.isLt)).2.1 i + ∑ a : Fin 512, aD m c (ix2 (brw t a) (i 1)) * Norm.hat K (row (aX m c) (brw t a)) (i 1) := by
  idx_vars i
  rw [outsAt0_B m c t h0]; dsimp only; frame_out; open_payloads; pointwise []; simp only [blk_d, blk_h]
/-- What the shift's sum holds after a step. -/
theorem first6 (t : Fin cfg0.N) (h0 : t.val % 8 = 0) (i) : (outsAt0 m c t.val t.isLt).2.2 i = 0 + ∑ a : Fin 512, aD m c (ix2 (brw t a) (i 1)) := by
  idx_vars i
  rw [outsAt0_A m c t h0]; dsimp only; frame_out; open_payloads; pointwise []; simp only [blk_d, blk_h]
theorem next6 (t : Fin cfg0.N) (h0 : ¬t.val % 8 = 0) (i) : (outsAt0 m c t.val t.isLt).2.2 i
    = (outsAt0 m c (t.val - 1) (Nat.lt_of_le_of_lt (Nat.sub_le _ _) t.isLt)).2.2 i + ∑ a : Fin 512, aD m c (ix2 (brw t a) (i 1)) := by
  idx_vars i
  rw [outsAt0_B m c t h0]; dsimp only; frame_out; open_payloads; pointwise []; simp only [blk_d, blk_h]

/-- No argument the gradient of the rows reads is infinite. -/
structure Finite (x : FVec Ideal S4096x2048 .f32) (g : FVec Ideal S2048 .f32) (d : FVec Ideal S4096x2048 .f32) : Prop where
  x : ∀ i, IsReal (x i)
  g : ∀ i, IsReal (g i)
  d : ∀ i, IsReal (d i)

theorem finite_of_fn [Cert.Pre_ln_in_finite.Facts] {x : FVec Ideal S4096x2048 .f32} {g : FVec Ideal S2048 .f32} {b : FVec Ideal S2048 .f32} {d : FVec Ideal S4096x2048 .f32}
    (h : Cert.Pre_ln_in_finite.fn (F := Ideal) x g b d = fun _ => 1#1) : Finite x g d := by
  have h0 := congrFun h (fun a => a.elim0)
  simp only [Cert.Pre_ln_in_finite.fn, andi_apply, Cert.Norm.and_one] at h0
  obtain ⟨⟨h1, h2⟩, h3⟩ := h0
  exact ⟨IsReal.of_all _ _ _ _ _ _ h1, IsReal.of_all _ _ _ _ _ _ h2, IsReal.of_all _ _ _ _ _ _ h3⟩

theorem Finite.same {x : FVec Ideal S4096x2048 .f32} {g : FVec Ideal S2048 .f32} {d : FVec Ideal S4096x2048 .f32} (F : Finite x g d) (p : Fin 4096) (k : Fin 2048) :
    Norm.bwd K (row x p) (dn g d p) k = Norm.vjp K (row x p) (dn g d p) k :=
  Norm.bwd_eq_vjp (n := 2048) (by norm_num) Norm.n2048_eq (fun k => F.x _) (fun k => (F.d _).mul (F.g _)) k

/-- The first result. -/
theorem final4 (F : Finite (aX m c) (aG m c) (aD m c)) :
    (dats m 0 c).arrAt 4 (cfgs 0).N = val_main_v62 (F := Ideal) (aX m c) (aG m c) (aD m c) := by
  refine (dats m 0 c).arrAt_eq_of_covers 4 _ (by decide +kernel) fun t hf y => ?_
  blk_simp
  rw [after0_4]
  have h0 : ((win0_4.blk t).view.emb y 0).val = t.val * 512 + (y 0).val := by blk_simp [idx t]
  have h1 : ((win0_4.blk t).view.emb y 1).val = (y 1).val := by blk_simp [idx t]
  generalize (win0_4.blk t).view.emb y = j at h0 h1 ⊢
  idx_vars j
  idx_vars y
  obtain rfl : j0 = brw t y0 := Fin.ext h0
  obtain rfl : j1 = y1 := Fin.ext h1
  exact (point4 m c t y0 j1).trans ((F.same _ _).trans (read_dx (aX m c) (aG m c) (aD m c) _ _).symm)
/-- The gradient of the scale. -/
theorem final5 : (dats m 0 c).arrAt 5 (cfgs 0).N = val_main_v63 (F := Ideal) (aX m c) (aD m c) := by
  refine (dats m 0 c).arrAt_eq_of_covers 5 _ (by decide +kernel) fun t hf y => ?_
  blk_simp
  rw [after0_5]
  have h1 : ((win0_5.blk t).view.emb y 1).val = (y 1).val := by blk_simp [idx t]
  generalize (win0_5.blk t).view.emb y = j at h1 ⊢
  idx_vars j
  idx_vars y
  obtain rfl : j1 = y1 := Fin.ext h1
  exact (Cert.Rows.total (fun n h => (outsAt0 m c n h).2.1) (fun p i => aD m c (ix2 p (i 1)) * Norm.hat K (row (aX m c) p) (i 1)) brw N_0 (fun _ _ => rfl)
    (first5 m c) (next5 m c) t ((flush0_5 t).mp hf) (ix2 y0 j1)).trans (Eq.trans (Finset.sum_congr rfl fun p _ => mul_comm _ _) (read_dg (aX m c) (aD m c) _ j1).symm)
/-- The gradient of the shift. -/
theorem final6 : (dats m 0 c).arrAt 6 (cfgs 0).N = val_main_v64 (F := Ideal) (aD m c) := by
  refine (dats m 0 c).arrAt_eq_of_covers 6 _ (by decide +kernel) fun t hf y => ?_
  blk_simp
  rw [after0_6]
  have h1 : ((win0_6.blk t).view.emb y 1).val = (y 1).val := by blk_simp [idx t]
  generalize (win0_6.blk t).view.emb y = j at h1 ⊢
  idx_vars j
  idx_vars y
  obtain rfl : j1 = y1 := Fin.ext h1
  exact (Cert.Rows.total (fun n h => (outsAt0 m c n h).2.2) (fun p i => aD m c (ix2 p (i 1))) brw N_0 (fun _ _ => rfl)
    (first6 m c) (next6 m c) t ((flush0_6 t).mp hf) (ix2 y0 j1)).trans (read_db (aD m c) _ j1).symm

end Cert.LnInBwdIdeal.Val
end
-- ==== Proof.LnIn.lean ====
module
public import proofs.«01_k».proof.Defs
public import proofs.«01_k».proof.Proof.LnInOut
public import proofs.«01_k».proof.Proof.Gen.LnInBwdRefIdeal.Run
public import proofs.«01_k».proof.Proof.Gen.Pre_ln_in_finite
@[expose] public section
set_option maxRecDepth 16384
noncomputable section
open Idealize.ShloMosaic Idealize.SL.Sem Idealize.ShloMosaic.StableHlo

namespace Cert.LnInBwdRefIdeal.Read
open Cert.LnInBwdRefIdeal

/-- The reference's run with each result at its named stage instead of the composed term. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v62) = val_main_v62 (F := Ideal) (m ((c.tc : Thread nD τ).loc main_arg0)) (m ((c.tc : Thread nD τ).loc main_arg1)) (m ((c.tc : Thread nD τ).loc main_arg3))
      ∧ r.2.mem ((c.tc : Thread nD τ).loc main_v63) = val_main_v63 (F := Ideal) (m ((c.tc : Thread nD τ).loc main_arg0)) (m ((c.tc : Thread nD τ).loc main_arg3))
      ∧ r.2.mem ((c.tc : Thread nD τ).loc main_v64) = val_main_v64 (F := Ideal) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨(h c).1.trans (val_main_v62_eq m c),
      (h c).2.1.trans (val_main_v63_eq _ _),
      (h c).2.2.1.trans (val_main_v64_eq _),
      (h c).2.2.2⟩)
    (Value.run (F := Ideal) m ρ)

end Cert.LnInBwdRefIdeal.Read

namespace Cert.LnInBwdIdeal.Val

set_option maxHeartbeats 1600000 in
/-- The gradient through the normalisation of the layer's input: on rows, a scale and a cotangent none of which is infinite, the kernel and the reference leave the same three arrays. -/
theorem algebraic : Cert.algebraic_LnInBwdIdeal_LnInBwdRefIdeal_pre_ln_in_finite (hLnInBwdIdeal := Cert.LnInBwdIdeal.Gen.facts)
    (hLnInBwdRefIdeal := Cert.LnInBwdRefIdeal.Gen.facts) (hPre_ln_in_finite := Cert.Pre_ln_in_finite.Gen.facts) := by
  intro m g m' g' hpre hagree
  refine ⟨fun c => (Gen.dats m 0 c).arrAt 4 (cfgs 0).N, fun c => (Gen.dats m 0 c).arrAt 5 (cfgs 0).N, fun c => (Gen.dats m 0 c).arrAt 6 (cfgs 0).N, ?_, ?_⟩
  · exact θ_run_mono (θ_run_and (Gen.run_main m g) (Gen.unchanged m g)) fun r h c =>
      ⟨(h.1 c).1 4, (h.1 c).1 5, (h.1 c).1 6, h.2 c⟩
  · refine (θ_run Cert.LnInBwdRefIdeal.defs _ _).mono (fun r h c => ?_) (Cert.LnInBwdRefIdeal.Read.run_named m' g')
    obtain ⟨e0, e1, e2, e3⟩ := hagree c
    obtain ⟨h0, h1, h2, hs⟩ := h c
    refine ⟨h0.trans ?_, h1.trans ?_, h2.trans ?_, hs⟩
    · rw [e0, e1, e3]; exact (final4 m c (finite_of_fn (hpre c))).symm
    · rw [e0, e3]; exact (final5 m c).symm
    · rw [e3]; exact (final6 m c).symm

/-- The reference leaves its arguments as they were, and it declares no semaphore. -/
theorem frame_ref : Cert.quiescent_LnInBwdRefIdeal (hLnInBwdRefIdeal := Cert.LnInBwdRefIdeal.Gen.facts) := fun m ρ _ =>
  (θ_run Cert.LnInBwdRefIdeal.defs _ _).mono (fun r h => ⟨fun c => (h c).2.2.2, sem_eq_zero_of_no_sems (by decide) r.2⟩)
    (Cert.LnInBwdRefIdeal.Value.run (F := Ideal) m ρ)

end Cert.LnInBwdIdeal.Val
end
-- ==== Proof.LnInFRef.lean ====
module

public import proofs.«01_k».proof.Proof.Gen.LnInFwdRefIdeal.Read
public import Idealize.ShloMosaic.Lib.Pipeline.ValueKit
public import proofs.«01_k».proof.Proof.Norm

@[expose] public section
set_option maxRecDepth 16384
noncomputable section
open Idealize.ShloMosaic Idealize.ShloMosaic.TcCoe Idealize.SL.Sem
namespace Cert.LnInFwdRefIdeal.Val
open Cert.LnInFwdRefIdeal Cert.LnInFwdRefIdeal.Gen Cert.LnInFwdRefIdeal.Read

variable (x : FVec Ideal S4096x2048 .f32) (g b : FVec Ideal S2048 .f32)

/-- The length of a row, as the programs write it. -/
abbrev K : EReal := Ideal.ofBits .f32 0x45000000#32
/-- The rows that are normalised. -/
abbrev row (p : Fin 4096) (k : Fin 2048) : EReal := x (ix2 p k)

theorem read_dev (p : Fin 4096) (k : Fin 2048) : val_main_v5 (F := Ideal) x (ix2 p k) = Norm.dev K (row x p) k := by
  pointwise [val_main_v5, val_main_v4, val_main_v3, val_main_v2, val_main_v1, val_main_v0, val_main_cst, val_main_cst_0, Norm.dev, Norm.mean]
/-- The third result: one over each row's standard deviation. -/
theorem read_rstd (p : Fin 4096) (x0 : Fin 1) : val_main_v13 (F := Ideal) x (ix2 p x0) = Norm.rstd K (row x p) := by
  pointwise [val_main_v13, val_main_v12, val_main_v11, val_main_v10, val_main_v9, val_main_v8, val_main_v7, val_main_v6, val_main_cst_1, val_main_cst_2, val_main_cst_3]
  simp only [read_dev]
  pointwise [Norm.rstd, Norm.var, Norm.mean]
/-- The first result: the normalised rows. -/
theorem read_hat (p : Fin 4096) (k : Fin 2048) : val_main_v17 (F := Ideal) x (ix2 p k) = Norm.hat K (row x p) k := by
  have hd : val_main_v15 (F := Ideal) x (ix2 p k) = Norm.dev K (row x p) k := read_dev x p k
  pointwise [val_main_v17, val_main_v16]
  rw [hd, read_rstd]; rfl
/-- The second result: the rows scaled and shifted. -/
theorem read_y (p : Fin 4096) (k : Fin 2048) : val_main_v24 (F := Ideal) x g b (ix2 p k) = Norm.hat K (row x p) k * g (ix1 k) + b (ix1 k) := by
  pointwise [val_main_v24, val_main_v23, val_main_v22, val_main_v21, val_main_v20, val_main_v19, val_main_v18]
  rw [read_hat]

end Cert.LnInFwdRefIdeal.Val
end
-- ==== Proof.LnInFOut.lean ====
module

public import proofs.«01_k».proof.Proof.Gen.LnInFwdIdeal.Frame
public import Idealize.ShloMosaic.Lib.Pipeline.ValueKit
public import proofs.«01_k».proof.Proof.LnInFRef
public import proofs.«01_k».proof.Proof.Kit

@[expose] public section
set_option maxRecDepth 16384
noncomputable section
open Idealize.ShloMosaic Idealize.ShloMosaic.TcCoe Idealize.SL.Sem
open Idealize.ShloMosaic.Pipeline (Dat)
namespace Cert.LnInFwdIdeal.Val
open Cert.LnInFwdIdeal Cert.LnInFwdIdeal.Gen
open Cert.LnInFwdRefIdeal.Val (K row read_hat read_y read_rstd)
open Cert.LnInFwdRefIdeal.Read (val_main_v17 val_main_v24 val_main_v13)
variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0] ∧ win0_3.index t = ![t.val, 0] ∧ win0_4.index t = ![t.val, 0] ∧ win0_5.index t = ![t.val, 0] :=
  (by decide +kernel : ∀ t : Fin grid0.N, _)

/-- The rows that are normalised. -/
abbrev aX (c : Dev nD) : FVec Ideal S4096x2048 .f32 := m ((c : Thread nD τ).loc main_arg0)
/-- The scale. -/
abbrev aG (c : Dev nD) : FVec Ideal S2048 .f32 := m ((c : Thread nD τ).loc main_arg1)
/-- The shift. -/
abbrev aB (c : Dev nD) : FVec Ideal S2048 .f32 := m ((c : Thread nD τ).loc main_arg2)

theorem entry_x : V m c main_arg0 = aX m c := by entry_read; rfl
theorem entry_g : V m c main_v0 = fun i => aG m c (ix1 (i 1)) := by entry_read; funext i; idx_vars i; pointwise []
theorem entry_b : V m c main_v1 = fun i => aB m c (ix1 (i 1)) := by entry_read; funext i; idx_vars i; pointwise []

/-- The row of the arrays a point's row is. -/
def brw (t : Fin cfg0.N) (a : Fin 512) : Fin 4096 := ⟨t.val * 512 + a.val, by have := t.isLt; have h : cfg0.N = 8 := rfl; omega⟩

theorem blk_x (t : Fin cfg0.N) (a : Fin 512) (k : Fin 2048) : iblk m c 0 t (ix2 a k) = row (aX m c) (brw t a) k := by
  have hr : (brw t a).val = t.val * 512 + a.val := rfl
  blk_point [iblk, entry_x, idx t]
theorem blk_g (t : Fin cfg0.N) (x : Fin 1) (k : Fin 2048) : iblk m c 1 t (ix2 x k) = aG m c (ix1 k) := by
  blk_point [iblk, entry_g, idx t]
theorem blk_b (t : Fin cfg0.N) (x : Fin 1) (k : Fin 2048) : iblk m c 2 t (ix2 x k) = aB m c (ix1 k) := by
  blk_point [iblk, entry_b, idx t]

/-- The normalised rows a step leaves. -/
theorem point3 (t : Fin cfg0.N) (a : Fin 512) (k : Fin 2048) :
    out0_3 (iblk m c 0 t) (iblk m c 1 t) (iblk m c 2 t) (ix2 a k) = Norm.hat K (row (aX m c) (brw t a)) k := by
  frame_out; open_payloads; pointwise []; simp only [blk_x]; rfl
/-- The scaled and shifted rows a step leaves. -/
theorem point4 (t : Fin cfg0.N) (a : Fin 512) (k : Fin 2048) :
    out0_4 (iblk m c 0 t) (iblk m c 1 t) (iblk m c 2 t) (ix2 a k) = Norm.hat K (row (aX m c) (brw t a)) k * aG m c (ix1 k) + aB m c (ix1 k) := by
  frame_out; open_payloads; pointwise []; simp only [blk_x, blk_g, blk_b]; rfl
/-- What a step leaves of one over the rows' standard deviations. -/
theorem point5 (t : Fin cfg0.N) (a : Fin 512) (k : Fin 1) :
    out0_5 (iblk m c 0 t) (iblk m c 1 t) (iblk m c 2 t) (ix2 a k) = Norm.rstd K (row (aX m c) (brw t a)) := by
  frame_out; open_payloads; pointwise []; simp only [blk_x]; rfl

/-- The normalised rows. -/
theorem final3 : (dats m 0 c).arrAt 3 (cfgs 0).N = val_main_v17 (F := Ideal) (aX m c) := by
  refine (dats m 0 c).arrAt_eq_of_covers 3 _ (by decide +kernel) fun t hf y => ?_
  blk_simp
  rw [after0_3]
  have h0 : ((win0_3.blk t).view.emb y 0).val = t.val * 512 + (y 0).val := by blk_simp [idx t]
  have h1 : ((win0_3.blk t).view.emb y 1).val = (y 1).val := by blk_simp [idx t]
  generalize (win0_3.blk t).view.emb y = j at h0 h1 ⊢
  idx_vars j
  idx_vars y
  obtain rfl : j0 = brw t y0 := Fin.ext h0
  obtain rfl : j1 = y1 := Fin.ext h1
  exact (point3 m c t y0 j1).trans (read_hat (aX m c) _ _).symm
/-- The scaled and shifted rows. -/
theorem final4 : (dats m 0 c).arrAt 4 (cfgs 0).N = val_main_v24 (F := Ideal) (aX m c) (aG m c) (aB m c) := by
  refine (dats m 0 c).arrAt_eq_of_covers 4 _ (by decide +kernel) fun t hf y => ?_
  blk_simp
  rw [after0_4]
  have h0 : ((win0_4.blk t).view.emb y 0).val = t.val * 512 + (y 0).val := by blk_simp [idx t]
  have h1 : ((win0_4.blk t).view.emb y 1).val = (y 1).val := by blk_simp [idx t]
  generalize (win0_4.blk t).view.emb y = j at h0 h1 ⊢
  idx_vars j
  idx_vars y
  obtain rfl : j0 = brw t y0 := Fin.ext h0
  obtain rfl : j1 = y1 := Fin.ext h1
  exact (point4 m c t y0 j1).trans (read_y (aX m c) (aG m c) (aB m c) _ _).symm
/-- One over the rows' standard deviations. -/
theorem final5 : (dats m 0 c).arrAt 5 (cfgs 0).N = val_main_v13 (F := Ideal) (aX m c) := by
  refine (dats m 0 c).arrAt_eq_of_covers 5 _ (by decide +kernel) fun t hf y => ?_
  blk_simp
  rw [after0_5]
  have h0 : ((win0_5.blk t).view.emb y 0).val = t.val * 512 + (y 0).val := by blk_simp [idx t]
  have h1 : ((win0_5.blk t).view.emb y 1).val = (y 1).val := by blk_simp [idx t]
  generalize (win0_5.blk t).view.emb y = j at h0 h1 ⊢
  idx_vars j
  idx_vars y
  obtain rfl : j0 = brw t y0 := Fin.ext h0
  obtain rfl : j1 = y1 := Fin.ext h1
  exact (point5 m c t y0 j1).trans (read_rstd (aX m c) _ _).symm

end Cert.LnInFwdIdeal.Val
end
-- ==== Proof.LnInF.lean ====
module
public import proofs.«01_k».proof.Defs
public import proofs.«01_k».proof.Proof.LnInFOut
public import proofs.«01_k».proof.Proof.Gen.LnInFwdRefIdeal.Run
@[expose] public section
set_option maxRecDepth 16384
noncomputable section
open Idealize.ShloMosaic Idealize.SL.Sem Idealize.ShloMosaic.StableHlo

namespace Cert.LnInFwdRefIdeal.Read
open Cert.LnInFwdRefIdeal

/-- The reference's run with each result at its named stage instead of the composed term. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = val_main_v17 (F := Ideal) (m ((c.tc : Thread nD τ).loc main_arg0))
      ∧ r.2.mem ((c.tc : Thread nD τ).loc main_v24) = val_main_v24 (F := Ideal) (m ((c.tc : Thread nD τ).loc main_arg0)) (m ((c.tc : Thread nD τ).loc main_arg1)) (m ((c.tc : Thread nD τ).loc main_arg2))
      ∧ r.2.mem ((c.tc : Thread nD τ).loc main_v13) = val_main_v13 (F := Ideal) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨(h c).1.trans (val_main_v17_eq _),
      (h c).2.1.trans (val_main_v24_eq _ _ _),
      (h c).2.2.1.trans (val_main_v13_eq _),
      (h c).2.2.2⟩)
    (Value.run (F := Ideal) m ρ)

end Cert.LnInFwdRefIdeal.Read

namespace Cert.LnInFwdIdeal.Val

set_option maxHeartbeats 1600000 in
/-- The normalisation at the head of the layer: the kernel and the reference leave the same normalised rows, the same cast of them and the same statistics. -/
theorem algebraic : Cert.algebraic_LnInFwdIdeal_LnInFwdRefIdeal (hLnInFwdIdeal := Cert.LnInFwdIdeal.Gen.facts)
    (hLnInFwdRefIdeal := Cert.LnInFwdRefIdeal.Gen.facts) := by
  intro m g m' g' hpre hagree
  refine ⟨fun c => (Gen.dats m 0 c).arrAt 3 (cfgs 0).N, fun c => (Gen.dats m 0 c).arrAt 4 (cfgs 0).N, fun c => (Gen.dats m 0 c).arrAt 5 (cfgs 0).N, ?_, ?_⟩
  · exact θ_run_mono (θ_run_and (Gen.run_main m g) (Gen.unchanged m g)) fun r h c =>
      ⟨(h.1 c).1 3, (h.1 c).1 4, (h.1 c).1 5, h.2 c⟩
  · refine (θ_run Cert.LnInFwdRefIdeal.defs _ _).mono (fun r h c => ?_) (Cert.LnInFwdRefIdeal.Read.run_named m' g')
    obtain ⟨e0, e1, e2⟩ := hagree c
    obtain ⟨h0, h1, h2, hs⟩ := h c
    refine ⟨h0.trans ?_, h1.trans ?_, h2.trans ?_, hs⟩
    · rw [e0]; exact (final3 m c).symm
    · rw [e0, e1, e2]; exact (final4 m c).symm
    · rw [e0]; exact (final5 m c).symm

/-- The reference leaves its arguments as they were, and it declares no semaphore. -/
theorem frame_ref : Cert.quiescent_LnInFwdRefIdeal (hLnInFwdRefIdeal := Cert.LnInFwdRefIdeal.Gen.facts) := fun m ρ _ =>
  (θ_run Cert.LnInFwdRefIdeal.defs _ _).mono (fun r h => ⟨fun c => (h c).2.2.2, sem_eq_zero_of_no_sems (by decide) r.2⟩)
    (Cert.LnInFwdRefIdeal.Value.run (F := Ideal) m ρ)

end Cert.LnInFwdIdeal.Val
end
-- ==== Proof.ConfFRef.lean ====
module

public import proofs.«01_k».proof.Proof.Gen.ConformerConvFwdRefIdeal.Read
public import Idealize.ShloMosaic.Lib.Pipeline.ValueKit
public import proofs.«01_k».proof.Proof.Conv

@[expose] public section
set_option maxRecDepth 16384
noncomputable section
open Idealize.ShloMosaic Idealize.ShloMosaic.TcCoe Idealize.SL.Sem
namespace Cert.ConformerConvFwdRefIdeal.Val
open Cert.ConformerConvFwdRefIdeal Cert.ConformerConvFwdRefIdeal.Gen Cert.ConformerConvFwdRefIdeal.Read

variable (z : FVec Ideal S4096x13312 .f32) (w : FVec Ideal S4x31x1024 .f32) (b : FVec Ideal S4x1024 .f32)

/-- The gate of the linear unit. -/
def sg (t : Fin 4096) (q : Fin 1024) : EReal := Ideal.logistic (z (ix2 t ⟨6144 + q.val, by omega⟩))

/-- The convolution's argument below thirty-two rows of zeros. -/
def P (q : Fin 1024) (j : ℕ) : EReal :=
  if h : 32 ≤ j ∧ j - 32 < 4096 then z (ix2 ⟨j - 32, h.2⟩ ⟨5120 + q.val, by omega⟩) * sg z ⟨j - 32, h.2⟩ q else 0

/-- Thirty-one taps, written out in their order. -/
theorem sum_taps (w : Fin 31 → EReal) (f : ℕ → EReal) (r : ℕ) : ∑ k : Fin 31, w k * f (2 + k.val + r) =
    w 0 * f (2 + r) + w 1 * f (3 + r) + w 2 * f (4 + r) + w 3 * f (5 + r) + w 4 * f (6 + r) + w 5 * f (7 + r) + w 6 * f (8 + r) + w 7 * f (9 + r) + w 8 * f (10 + r) + w 9 * f (11 + r) + w 10 * f (12 + r) + w 11 * f (13 + r) + w 12 * f (14 + r) + w 13 * f (15 + r) + w 14 * f (16 + r) + w 15 * f (17 + r) + w 16 * f (18 + r) + w 17 * f (19 + r) + w 18 * f (20 + r) + w 19 * f (21 + r) + w 20 * f (22 + r) + w 21 * f (23 + r) + w 22 * f (24 + r) + w 23 * f (25 + r) + w 24 * f (26 + r) + w 25 * f (27 + r) + w 26 * f (28 + r) + w 27 * f (29 + r) + w 28 * f (30 + r) + w 29 * f (31 + r) + w 30 * f (32 + r) := by
  have u (g : Fin 31 → EReal) : ∑ k : Fin 31, g k = g 0 + g 1 + g 2 + g 3 + g 4 + g 5 + g 6 + g 7 + g 8 + g 9 + g 10 + g 11 + g 12 + g 13 + g 14 + g 15 + g 16 + g 17 + g 18 + g 19 + g 20 + g 21 + g 22 + g 23 + g 24 + g 25 + g 26 + g 27 + g 28 + g 29 + g 30 := by
    simp only [Fin.sum_univ_castSucc, Fin.sum_univ_zero, zero_add]; rfl
  exact u fun k => w k * f (2 + k.val + r)

theorem read_gate (t : Fin 4096) (q : Fin 1024) : val_main_v11 (F := Ideal) z (ix2 t q) = sg z t q := by
  pointwise [val_main_v11, val_main_v10, val_main_v9, val_main_v8, val_main_v7, val_main_v6, val_main_v1, val_main_cst, val_main_cst_0, sg]
  rfl

/-- The rows the gather names. -/
theorem read_idx (k : Fin 31) (t : Fin 4096) : val_main_v27 (F := Ideal) (ix3 k t 0) = BitVec.ofNat 32 (k.val + t.val) := by
  pointwise [val_main_v27, val_main_v26, val_main_v25, val_main_v24, val_main_v23, val_main_v22, val_main_v21, val_main_v20, val_main_v19,
    val_main_v18, val_main_v17, val_main_v16, val_main_v15, val_main_c]
  exact Conv.row_word k.val t.val _ (by omega)

theorem read_x (k : Fin 31) (t : Fin 4096) (q : Fin 1024) : val_main_v28 (F := Ideal) z (ix3 k t q) = P z q (2 + k.val + t.val) := by
  refine (Conv.gather_shift (K := 31) (T := 4096) (n := 4126) (C := 1024) _ read_idx (by decide) (by decide) _ _ k t q).trans ?_
  pointwise [val_main_v14, val_main_v13, val_main_cst_1, val_main_v12, val_main_v0, read_gate, P]
  have hk := k.isLt
  by_cases h : k.val + t.val < 30
  · rw [dif_pos h, dif_neg (by omega)]
  · rw [dif_neg h, dif_pos (by omega)]
    have e : 2 + k.val + t.val - 32 = k.val + t.val - 30 := by omega
    simp only [e]

/-- The result: the convolution plus the added row. -/
theorem read_r (t : Fin 4096) (q : Fin 1024) :
    val_main_v35 (F := Ideal) z w b (ix2 t q) = ∑ k : Fin 31, w (ix3 3 k q) * P z q (2 + k.val + t.val) + b (ix2 3 q) := by
  pointwise [val_main_v35, val_main_v34, val_main_v33, val_main_v32, val_main_v31, val_main_v30, val_main_v29, val_main_v5, val_main_v4, val_main_v3, val_main_v2, val_main_cst_3, read_x]

end Cert.ConformerConvFwdRefIdeal.Val
end
-- ==== Proof.ConfFOut.lean ====
module

public import proofs.«01_k».proof.Proof.Gen.ConformerConvFwdIdeal.Frame
public import Idealize.ShloMosaic.Lib.Pipeline.ValueKit
public import proofs.«01_k».proof.Proof.ConfFRef
public import proofs.«01_k».proof.Proof.Kit

@[expose] public section
set_option maxRecDepth 16384
noncomputable section
open Idealize.ShloMosaic Idealize.ShloMosaic.TcCoe Idealize.SL.Sem
open Idealize.ShloMosaic.Pipeline (Dat)
namespace Cert.ConformerConvFwdIdeal.Val
open Cert.ConformerConvFwdIdeal Cert.ConformerConvFwdIdeal.Gen
open Cert.ConformerConvFwdRefIdeal.Val (P sg sum_taps read_r)
open Cert.ConformerConvFwdRefIdeal.Read (val_main_v35)
variable (m : (ℓ : Loc nD τ sig) → Buf (Elt Ideal) ℓ) (c : Dev nD)

theorem idx : ∀ t : Fin cfg0.N, win0_0.index t = ![0, 40 + t.val]
    ∧ win0_1.index t = ![0, 48 + t.val] ∧ win0_2.index t = ![3, 0, t.val] ∧ win0_3.index t = ![3, 0, t.val] ∧ win0_4.index t = ![0, t.val] :=
  (by decide +kernel : ∀ t : Fin grid0.N, _)

/-- The packed projection of the layer's input. -/
abbrev aZ (c : Dev nD) : FVec Ideal S4096x13312 .f32 := m ((c : Thread nD τ).loc main_arg0)
/-- The taps of every layer. -/
abbrev aW (c : Dev nD) : FVec Ideal S4x31x1024 .f32 := m ((c : Thread nD τ).loc main_arg1)
/-- The added rows of every layer. -/
abbrev aB (c : Dev nD) : FVec Ideal S4x1024 .f32 := m ((c : Thread nD τ).loc main_arg2)

theorem entry_z : V m c main_arg0 = aZ m c := by entry_read; rfl
theorem entry_w : V m c main_arg1 = aW m c := by entry_read; rfl
theorem entry_b : V m c main_v0 = fun i => aB m c (ix2 (i 0) (i 2)) := by entry_read; funext i; idx_vars i; pointwise []

/-- The column of the arrays a point's lane is. -/
def col (t : Fin cfg0.N) (l : Fin 128) : Fin 1024 := ⟨t.val * 128 + l.val, by have := t.isLt; have h : cfg0.N = 8 := rfl; omega⟩

/-- The taps of layer 3 that a point reads. -/
theorem blk_w (t : Fin cfg0.N) (k : Fin 31) (l : Fin 128) : iblk m c 2 t (ix3 0 k l) = aW m c (ix3 3 k (col t l)) := by
  have hc : (col t l).val = t.val * 128 + l.val := rfl
  blk_point [iblk, entry_w, idx t]
/-- The added row of layer 3 that a point reads. -/
theorem blk_b (t : Fin cfg0.N) (l : Fin 128) : iblk m c 3 t (ix3 0 0 l) = aB m c (ix2 3 (col t l)) := by
  have hc : (col t l).val = t.val * 128 + l.val := rfl
  blk_point [iblk, entry_b, idx t]

/-- The scratch that holds the convolution's argument, at any 256 rows. -/
theorem read_p (t : Fin cfg0.N) (r0 : ℕ) (inb) :
    (View.whole cc0_scratch0).readCov (Val := Elt Ideal)
      [⟨Rect.unit (s := S4128x128) ![32, 0] ![4096, 128] inb_S4128x128_S4096x128_32_0, k0_pay3 (iblk m c 0 t) (iblk m c 1 t)⟩,
        ⟨Rect.unit (s := S4128x128) ![0, 0] ![32, 128] inb_S4128x128_S32x128_0_0, k0_pay2 (F := Ideal)⟩]
      (Rect.unit (s := S4128x128) ![r0, 0] ![256, 128] inb).toLoadRect
      = fun i => P (aZ m c) (col t (i 1)) (r0 + (i 0).val) := by
  funext i
  refine (congrFun (View.readCov_eq_canon' _ _ _) _).trans ?_
  canon_tiles x h using (View.cover_of_tiledBy _ ![32, 128] (by sl_kernel_rfl) _)
  case piece0 =>
    have e0 : r0 + (i 0).val = 32 + (x 0).val := by simpa [Rect.idx_unit_val] using h0
    have e1 : i 1 = x 1 := Fin.ext (by simpa [Rect.idx_unit_val] using h1)
    have hc : (col t (x 1)).val = t.val * 128 + (x 1).val := rfl
    unfold P
    rw [e0, dif_pos (by omega), e1]
    open_payloads
    pointwise [sg]
    blk_point [iblk, entry_z, idx t]
  case piece1 =>
    have e0 : r0 + (i 0).val = (x 0).val := by simpa [Rect.idx_unit_val] using h0
    unfold P
    rw [e0, dif_neg (by omega)]
    open_payloads
    pointwise []

set_option maxHeartbeats 4000000 in
/-- The rows a point leaves. -/
theorem point4 (t : Fin cfg0.N) (y) (r : Fin 4096) (l : Fin 128) (hr : r.val = y 0) (hl : l.val = y 1) :
    outsAt0 m c t y = ∑ k : Fin 31, aW m c (ix3 3 k (col t l)) * P (aZ m c) (col t l) (2 + k.val + r.val) + aB m c (ix2 3 (col t l)) := by
  unfold outsAt0
  frame_out
  canon_tiles x h
  all_goals
    repeat rw [read_p m c t]
    generalize P (aZ m c) = p
    obtain ⟨r, hr0⟩ := r
    obtain rfl := hr.trans h0
    obtain rfl : l = x 1 := Fin.ext (hl.trans h1)
    clear hr hl h0 h1
    idx_vars x
    open_payloads
    pointwise []
    simp only [blk_w, blk_b]
    rw [sum_taps (fun k => aW m c (ix3 3 k (col t x1))) (p (col t x1))]
    try simp only [← Nat.add_assoc, Nat.reduceAdd]

/-- The result: the convolution of the gated half plus the added row. -/
theorem final4 : (dats m 0 c).arrAt 4 (cfgs 0).N = val_main_v35 (F := Ideal) (aZ m c) (aW m c) (aB m c) := by
  refine (dats m 0 c).arrAt_eq_of_covers 4 _ (by decide +kernel) fun t hf y => ?_
  blk_simp
  rw [after0_4]
  have h0 : ((win0_4.blk t).view.emb y 0).val = (y 0).val := by blk_simp [idx t]
  have h1 : ((win0_4.blk t).view.emb y 1).val = t.val * 128 + (y 1).val := by blk_simp [idx t]
  generalize (win0_4.blk t).view.emb y = j at h0 h1 ⊢
  idx_vars j
  obtain rfl : j1 = col t (y 1) := Fin.ext h1
  exact (point4 m c t y j0 (y 1) h0 rfl).trans (read_r (aZ m c) (aW m c) (aB m c) _ _).symm

end Cert.ConformerConvFwdIdeal.Val
end
-- ==== Proof.ConfF.lean ====
module
public import proofs.«01_k».proof.Defs
public import proofs.«01_k».proof.Proof.ConfFOut
public import proofs.«01_k».proof.Proof.Gen.ConformerConvFwdRefIdeal.Run
@[expose] public section
set_option maxRecDepth 16384
noncomputable section
open Idealize.ShloMosaic Idealize.SL.Sem Idealize.ShloMosaic.StableHlo

namespace Cert.ConformerConvFwdRefIdeal.Read
open Cert.ConformerConvFwdRefIdeal

/-- The reference's run with each result at its named stage instead of the composed term. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35) = val_main_v35 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨(h c).1.trans (val_main_v35_eq _ _ _),
      (h c).2⟩)
    (Value.run (F := Ideal) m ρ)

end Cert.ConformerConvFwdRefIdeal.Read

namespace Cert.ConformerConvFwdIdeal.Val

set_option maxHeartbeats 1600000 in
/-- The long causal convolution with its gate: the same array on both sides. -/
theorem algebraic : Cert.algebraic_ConformerConvFwdIdeal_ConformerConvFwdRefIdeal (hConformerConvFwdIdeal := Cert.ConformerConvFwdIdeal.Gen.facts)
    (hConformerConvFwdRefIdeal := Cert.ConformerConvFwdRefIdeal.Gen.facts) := by
  intro m g m' g' hpre hagree
  refine ⟨fun c => (Gen.dats m 0 c).arrAt 4 (cfgs 0).N, ?_, ?_⟩
  · exact θ_run_mono (θ_run_and (Gen.run_main m g) (Gen.unchanged m g)) fun r h c =>
      ⟨(h.1 c).1 4, h.2 c⟩
  · refine (θ_run Cert.ConformerConvFwdRefIdeal.defs _ _).mono (fun r h c => ?_) (Cert.ConformerConvFwdRefIdeal.Read.run_named m' g')
    obtain ⟨e0, e1, e2⟩ := hagree c
    obtain ⟨h0, hs⟩ := h c
    refine ⟨h0.trans ?_, hs⟩
    · rw [e0, e1, e2]; exact (final4 m c).symm

/-- The reference leaves its arguments as they were, and it declares no semaphore. -/
theorem frame_ref : Cert.quiescent_ConformerConvFwdRefIdeal (hConformerConvFwdRefIdeal := Cert.ConformerConvFwdRefIdeal.Gen.facts) := fun m ρ _ =>
  (θ_run Cert.ConformerConvFwdRefIdeal.defs _ _).mono (fun r h => ⟨fun c => (h c).2, sem_eq_zero_of_no_sems (by decide) r.2⟩)
    (Cert.ConformerConvFwdRefIdeal.Value.run (F := Ideal) m ρ)

end Cert.ConformerConvFwdIdeal.Val
end
-- ==== Proof.MmOutFRef.lean ====
module

public import proofs.«01_k».proof.Proof.Gen.MmOutLnRefIdeal.Read
public import Idealize.ShloMosaic.Lib.Pipeline.ValueKit
public import proofs.«01_k».proof.Proof.Norm

@[expose] public section
set_option maxRecDepth 16384
noncomputable section
open Idealize.ShloMosaic Idealize.ShloMosaic.TcCoe Idealize.SL.Sem
namespace Cert.MmOutLnRefIdeal.Val
open Cert.MmOutLnRefIdeal Cert.MmOutLnRefIdeal.Gen Cert.MmOutLnRefIdeal.Read

variable (a : FVec Ideal S4096x2048 .f32) (w : FVec Ideal S2048x2048 .f32) (x : FVec Ideal S4096x2048 .f32) (gi bi g b : FVec Ideal S4x2048 .f32)

/-- The length of a row, as the programs write it. -/
abbrev K : EReal := Ideal.ofBits .f32 0x45000000#32
/-- The rows the residual is a normalisation of. -/
abbrev row (p : Fin 4096) (k : Fin 2048) : EReal := x (ix2 p k)
/-- The residual scaled, plus the projection of the merged branches: the rows that are normalised. -/
def tot (p : Fin 4096) (k : Fin 2048) : EReal :=
  Ideal.ofBits .f32 0x3FD744FD#32 * (Norm.hat K (row x p) k * gi (ix2 2 k) + bi (ix2 2 k)) + ∑ l : Fin 2048, a (ix2 p l) * w (ix2 l k)

theorem read_dev (p : Fin 4096) (k : Fin 2048) : val_main_v9 (F := Ideal) x (ix2 p k) = Norm.dev K (row x p) k := by
  pointwise [val_main_v9, val_main_v8, val_main_v7, val_main_v6, val_main_v5, val_main_v4, val_main_cst, val_main_cst_0, Norm.dev, Norm.mean]
theorem read_rstd (p : Fin 4096) (x0 : Fin 1) : val_main_v19 (F := Ideal) x (ix2 p x0) = Norm.rstd K (row x p) := by
  pointwise [val_main_v19, val_main_v18, val_main_v17, val_main_v14, val_main_v13, val_main_v12, val_main_v11, val_main_v10, val_main_cst_1, val_main_cst_2, val_main_cst_3]
  simp only [read_dev]
  pointwise [Norm.rstd, Norm.var, Norm.mean]
theorem read_hat (p : Fin 4096) (k : Fin 2048) : val_main_v21 (F := Ideal) x (ix2 p k) = Norm.hat K (row x p) k := by
  have hd : val_main_v16 (F := Ideal) x (ix2 p k) = Norm.dev K (row x p) k := read_dev x p k
  pointwise [val_main_v21, val_main_v20]
  rw [hd, read_rstd]; rfl
theorem read_tot (p : Fin 4096) (k : Fin 2048) : val_main_v31 (F := Ideal) a w x gi bi (ix2 p k) = tot a w x gi bi p k := by
  pointwise [val_main_v31, val_main_v30, val_main_v29, val_main_v28, val_main_v27, val_main_v26, val_main_v25, val_main_v24, val_main_v23, val_main_v22, val_main_v3, val_main_v2, val_main_v1, val_main_v0, val_main_cst_4]
  rw [read_hat]; rfl
theorem read_dev2 (p : Fin 4096) (k : Fin 2048) : val_main_v41 (F := Ideal) a w x gi bi (ix2 p k) = Norm.dev K (tot a w x gi bi p) k := by
  pointwise [val_main_v41, val_main_v40, val_main_v39, val_main_v38, val_main_v37, val_main_v36, val_main_cst_5, val_main_cst_6]
  simp only [read_tot]
  pointwise [Norm.dev, Norm.mean]
/-- The third result: one over each row's standard deviation. -/
theorem read_rstd2 (p : Fin 4096) (x0 : Fin 1) : val_main_v49 (F := Ideal) a w x gi bi (ix2 p x0) = Norm.rstd K (tot a w x gi bi p) := by
  pointwise [val_main_v49, val_main_v48, val_main_v47, val_main_v46, val_main_v45, val_main_v44, val_main_v43, val_main_v42, val_main_cst_7, val_main_cst_8, val_main_cst_9]
  simp only [read_dev2]
  pointwise [Norm.rstd, Norm.var, Norm.mean]
/-- The first result: the normalised rows. -/
theorem read_hat2 (p : Fin 4096) (k : Fin 2048) : val_main_v53 (F := Ideal) a w x gi bi (ix2 p k) = Norm.hat K (tot a w x gi bi p) k := by
  have hd : val_main_v51 (F := Ideal) a w x gi bi (ix2 p k) = Norm.dev K (tot a w x gi bi p) k := read_dev2 a w x gi bi p k
  pointwise [val_main_v53, val_main_v52]
  rw [hd, read_rstd2]; rfl
/-- The second result: the rows scaled and shifted. -/
theorem read_y (p : Fin 4096) (k : Fin 2048) : val_main_v60 (F := Ideal) a w x gi bi g b (ix2 p k) = Norm.hat K (tot a w x gi bi p) k * g (ix2 3 k) + b (ix2 3 k) := by
  pointwise [val_main_v60, val_main_v59, val_main_v58, val_main_v57, val_main_v56, val_main_v55, val_main_v54, val_main_v35, val_main_v34, val_main_v33, val_main_v32]
  rw [read_hat2]

end Cert.MmOutLnRefIdeal.Val
end
-- ==== Proof.MmOutFOut.lean ====
module

public import proofs.«01_k».proof.Proof.Gen.MmOutLnIdeal.Frame
public import Idealize.ShloMosaic.Lib.Pipeline.ValueKit
public import proofs.«01_k».proof.Proof.MmOutFRef
public import proofs.«01_k».proof.Proof.Kit

@[expose] public section
set_option maxRecDepth 16384
noncomputable section
open Idealize.ShloMosaic Idealize.ShloMosaic.TcCoe Idealize.SL.Sem
open Idealize.ShloMosaic.Pipeline (Dat)
namespace Cert.MmOutLnIdeal.Val
open Cert.MmOutLnIdeal Cert.MmOutLnIdeal.Gen
open Cert.MmOutLnRefIdeal.Val (K row tot read_hat2 read_y read_rstd2)
open Cert.MmOutLnRefIdeal.Read (val_main_v53 val_main_v60 val_main_v49)
variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![0, 0] ∧ win0_4.index t = ![0, 0] ∧ win0_5.index t = ![0, 0] ∧ win0_6.index t = ![0, 0] ∧ win0_7.index t = ![t.val, 0] ∧ win0_8.index t = ![t.val, 0] ∧ win0_9.index t = ![t.val, 0] :=
  (by decide +kernel : ∀ t : Fin grid0.N, _)

/-- The merged branches. -/
abbrev aA (c : Dev nD) : FVec Ideal S4096x2048 .f32 := m ((c : Thread nD τ).loc main_arg0)
/-- The weights of the projection. -/
abbrev aW (c : Dev nD) : FVec Ideal S2048x2048 .f32 := m ((c : Thread nD τ).loc main_arg1)
/-- The rows the residual is a normalisation of. -/
abbrev aX (c : Dev nD) : FVec Ideal S4096x2048 .f32 := m ((c : Thread nD τ).loc main_arg2)
/-- The residual's scale. -/
abbrev aGi (c : Dev nD) : FVec Ideal S4x2048 .f32 := m ((c : Thread nD τ).loc main_arg3)
/-- The residual's shift. -/
abbrev aBi (c : Dev nD) : FVec Ideal S4x2048 .f32 := m ((c : Thread nD τ).loc main_arg4)
/-- The scale. -/
abbrev aG (c : Dev nD) : FVec Ideal S4x2048 .f32 := m ((c : Thread nD τ).loc main_arg5)
/-- The shift. -/
abbrev aB (c : Dev nD) : FVec Ideal S4x2048 .f32 := m ((c : Thread nD τ).loc main_arg6)

theorem entry_a : V m c main_v0 = aA m c := by entry_read; rfl
theorem entry_w : V m c main_v1 = aW m c := by entry_read; rfl
/-- The normalised rows the kernel is given. -/
def nrm : FVec Ideal S4096x2048 .f32 := fun i => Norm.hat K (row (aX m c) (i 0)) (i 1)
theorem entry_h : V m c main_v17 = nrm m c := by
  entry_read; funext i; idx_vars i
  pointwise [nrm, Norm.hat, Norm.dev, Norm.mean, Norm.rstd, Norm.var]
theorem entry_gi : V m c main_v20 = fun i => aGi m c (ix2 2 (i 1)) := by entry_read; funext i; idx_vars i; pointwise []
theorem entry_bi : V m c main_v23 = fun i => aBi m c (ix2 2 (i 1)) := by entry_read; funext i; idx_vars i; pointwise []
theorem entry_g : V m c main_v26 = fun i => aG m c (ix2 3 (i 1)) := by entry_read; funext i; idx_vars i; pointwise []
theorem entry_b : V m c main_v29 = fun i => aB m c (ix2 3 (i 1)) := by entry_read; funext i; idx_vars i; pointwise []

/-- The row of the arrays a point's row is. -/
def brw (t : Fin cfg0.N) (a : Fin 512) : Fin 4096 := ⟨t.val * 512 + a.val, by have := t.isLt; have h : cfg0.N = 8 := rfl; omega⟩

theorem blk_a (t : Fin cfg0.N) (a : Fin 512) (k : Fin 2048) : iblk m c 0 t (ix2 a k) = aA m c (ix2 (brw t a) k) := by
  have hr : (brw t a).val = t.val * 512 + a.val := rfl
  blk_point [iblk, entry_a, idx t]
theorem blk_w (t : Fin cfg0.N) (a : Fin 2048) (k : Fin 2048) : iblk m c 1 t (ix2 a k) = aW m c (ix2 a k) := by
  blk_point [iblk, entry_w, idx t]
theorem blk_h (t : Fin cfg0.N) (a : Fin 512) (k : Fin 2048) : iblk m c 2 t (ix2 a k) = Norm.hat K (row (aX m c) (brw t a)) k := by
  have hr : (brw t a).val = t.val * 512 + a.val := rfl
  have e := entry_h m c
  refine Eq.trans ?_ (rfl : nrm m c (ix2 (brw t a) k) = _)
  generalize nrm m c = H at e ⊢
  blk_point [iblk, e, idx t]
theorem blk_gi (t : Fin cfg0.N) (x : Fin 1) (k : Fin 2048) : iblk m c 3 t (ix2 x k) = aGi m c (ix2 2 k) := by
  blk_point [iblk, entry_gi, idx t]
theorem blk_bi (t : Fin cfg0.N) (x : Fin 1) (k : Fin 2048) : iblk m c 4 t (ix2 x k) = aBi m c (ix2 2 k) := by
  blk_point [iblk, entry_bi, idx t]
theorem blk_g (t : Fin cfg0.N) (x : Fin 1) (k : Fin 2048) : iblk m c 5 t (ix2 x k) = aG m c (ix2 3 k) := by
  blk_point [iblk, entry_g, idx t]
theorem blk_b (t : Fin cfg0.N) (x : Fin 1) (k : Fin 2048) : iblk m c 6 t (ix2 x k) = aB m c (ix2 3 k) := by
  blk_point [iblk, entry_b, idx t]

/-- The normalised rows a step leaves. -/
theorem point7 (t : Fin cfg0.N) (a : Fin 512) (k : Fin 2048) :
    out0_7 (iblk m c 0 t) (iblk m c 1 t) (iblk m c 2 t) (iblk m c 3 t) (iblk m c 4 t) (iblk m c 5 t) (iblk m c 6 t) (ix2 a k) = Norm.hat K (tot (aA m c) (aW m c) (aX m c) (aGi m c) (aBi m c) (brw t a)) k := by
  frame_out; open_payloads; pointwise []; simp only [blk_a, blk_w, blk_h, blk_gi, blk_bi]; rfl
/-- The scaled and shifted rows a step leaves. -/
theorem point8 (t : Fin cfg0.N) (a : Fin 512) (k : Fin 2048) :
    out0_8 (iblk m c 0 t) (iblk m c 1 t) (iblk m c 2 t) (iblk m c 3 t) (iblk m c 4 t) (iblk m c 5 t) (iblk m c 6 t) (ix2 a k) = Norm.hat K (tot (aA m c) (aW m c) (aX m c) (aGi m c) (aBi m c) (brw t a)) k * aG m c (ix2 3 k) + aB m c (ix2 3 k) := by
  frame_out; open_payloads; pointwise []; simp only [blk_a, blk_w, blk_h, blk_gi, blk_bi, blk_g, blk_b]; rfl
/-- What a step leaves of one over the rows' standard deviations. -/
theorem point9 (t : Fin cfg0.N) (a : Fin 512) (k : Fin 1) :
    out0_9 (iblk m c 0 t) (iblk m c 1 t) (iblk m c 2 t) (iblk m c 3 t) (iblk m c 4 t) (iblk m c 5 t) (iblk m c 6 t) (ix2 a k) = Norm.rstd K (tot (aA m c) (aW m c) (aX m c) (aGi m c) (aBi m c) (brw t a)) := by
  frame_out; open_payloads; pointwise []; simp only [blk_a, blk_w, blk_h, blk_gi, blk_bi]; rfl

/-- The normalised rows. -/
theorem final7 : (dats m 0 c).arrAt 7 (cfgs 0).N = val_main_v53 (F := Ideal) (aA m c) (aW m c) (aX m c) (aGi m c) (aBi m c) := by
  refine (dats m 0 c).arrAt_eq_of_covers 7 _ (by decide +kernel) fun t hf y => ?_
  blk_simp
  rw [after0_7]
  have h0 : ((win0_7.blk t).view.emb y 0).val = t.val * 512 + (y 0).val := by blk_simp [idx t]
  have h1 : ((win0_7.blk t).view.emb y 1).val = (y 1).val := by blk_simp [idx t]
  generalize (win0_7.blk t).view.emb y = j at h0 h1 ⊢
  idx_vars j
  idx_vars y
  obtain rfl : j0 = brw t y0 := Fin.ext h0
  obtain rfl : j1 = y1 := Fin.ext h1
  exact (point7 m c t y0 j1).trans (read_hat2 (aA m c) (aW m c) (aX m c) (aGi m c) (aBi m c) _ _).symm
/-- The scaled and shifted rows. -/
theorem final8 : (dats m 0 c).arrAt 8 (cfgs 0).N = val_main_v60 (F := Ideal) (aA m c) (aW m c) (aX m c) (aGi m c) (aBi m c) (aG m c) (aB m c) := by
  refine (dats m 0 c).arrAt_eq_of_covers 8 _ (by decide +kernel) fun t hf y => ?_
  blk_simp
  rw [after0_8]
  have h0 : ((win0_8.blk t).view.emb y 0).val = t.val * 512 + (y 0).val := by blk_simp [idx t]
  have h1 : ((win0_8.blk t).view.emb y 1).val = (y 1).val := by blk_simp [idx t]
  generalize (win0_8.blk t).view.emb y = j at h0 h1 ⊢
  idx_vars j
  idx_vars y
  obtain rfl : j0 = brw t y0 := Fin.ext h0
  obtain rfl : j1 = y1 := Fin.ext h1
  exact (point8 m c t y0 j1).trans (read_y (aA m c) (aW m c) (aX m c) (aGi m c) (aBi m c) (aG m c) (aB m c) _ _).symm
/-- One over the rows' standard deviations. -/
theorem final9 : (dats m 0 c).arrAt 9 (cfgs 0).N = val_main_v49 (F := Ideal) (aA m c) (aW m c) (aX m c) (aGi m c) (aBi m c) := by
  refine (dats m 0 c).arrAt_eq_of_covers 9 _ (by decide +kernel) fun t hf y => ?_
  blk_simp
  rw [after0_9]
  have h0 : ((win0_9.blk t).view.emb y 0).val = t.val * 512 + (y 0).val := by blk_simp [idx t]
  have h1 : ((win0_9.blk t).view.emb y 1).val = (y 1).val := by blk_simp [idx t]
  generalize (win0_9.blk t).view.emb y = j at h0 h1 ⊢
  idx_vars j
  idx_vars y
  obtain rfl : j0 = brw t y0 := Fin.ext h0
  obtain rfl : j1 = y1 := Fin.ext h1
  exact (point9 m c t y0 j1).trans (read_rstd2 (aA m c) (aW m c) (aX m c) (aGi m c) (aBi m c) _ _).symm

end Cert.MmOutLnIdeal.Val
end
-- ==== Proof.MmOutF.lean ====
module
public import proofs.«01_k».proof.Defs
public import proofs.«01_k».proof.Proof.MmOutFOut
public import proofs.«01_k».proof.Proof.Gen.MmOutLnRefIdeal.Run
@[expose] public section
set_option maxRecDepth 16384
noncomputable section
open Idealize.ShloMosaic Idealize.SL.Sem Idealize.ShloMosaic.StableHlo

namespace Cert.MmOutLnRefIdeal.Read
open Cert.MmOutLnRefIdeal

/-- The reference's run with each result at its named stage instead of the composed term. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v53) = val_main_v53 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v60) = val_main_v60 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v49) = val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨(h c).1.trans (val_main_v53_eq m c),
      (h c).2.1.trans (val_main_v60_eq m c),
      (h c).2.2.1.trans (val_main_v49_eq m c),
      (h c).2.2.2⟩)
    (Value.run (F := Ideal) m ρ)

end Cert.MmOutLnRefIdeal.Read

namespace Cert.MmOutLnIdeal.Val

set_option maxHeartbeats 1600000 in
/-- The merged rows' output projection with the residual sum and the normalisation after it: the same three arrays on both sides. -/
theorem algebraic : Cert.algebraic_MmOutLnIdeal_MmOutLnRefIdeal (hMmOutLnIdeal := Cert.MmOutLnIdeal.Gen.facts)
    (hMmOutLnRefIdeal := Cert.MmOutLnRefIdeal.Gen.facts) := by
  intro m g m' g' hpre hagree
  refine ⟨fun c => (Gen.dats m 0 c).arrAt 7 (cfgs 0).N, fun c => (Gen.dats m 0 c).arrAt 8 (cfgs 0).N, fun c => (Gen.dats m 0 c).arrAt 9 (cfgs 0).N, ?_, ?_⟩
  · exact θ_run_mono (θ_run_and (Gen.run_main m g) (Gen.unchanged m g)) fun r h c =>
      ⟨(h.1 c).1 7, (h.1 c).1 8, (h.1 c).1 9, h.2 c⟩
  · refine (θ_run Cert.MmOutLnRefIdeal.defs _ _).mono (fun r h c => ?_) (Cert.MmOutLnRefIdeal.Read.run_named m' g')
    obtain ⟨e0, e1, e2, e3, e4, e5, e6⟩ := hagree c
    obtain ⟨h0, h1, h2, hs⟩ := h c
    refine ⟨h0.trans ?_, h1.trans ?_, h2.trans ?_, hs⟩
    · rw [e0, e1, e2, e3, e4]; exact (final7 m c).symm
    · rw [e0, e1, e2, e3, e4, e5, e6]; exact (final8 m c).symm
    · rw [e0, e1, e2, e3, e4]; exact (final9 m c).symm

/-- The reference leaves its arguments as they were, and it declares no semaphore. -/
theorem frame_ref : Cert.quiescent_MmOutLnRefIdeal (hMmOutLnRefIdeal := Cert.MmOutLnRefIdeal.Gen.facts) := fun m ρ _ =>
  (θ_run Cert.MmOutLnRefIdeal.defs _ _).mono (fun r h => ⟨fun c => (h c).2.2.2, sem_eq_zero_of_no_sems (by decide) r.2⟩)
    (Cert.MmOutLnRefIdeal.Value.run (F := Ideal) m ρ)

end Cert.MmOutLnIdeal.Val
end
-- ==== Proof.SwigluFRef.lean ====
module

public import proofs.«01_k».proof.Proof.Gen.FfnInSwigluRefIdeal.Read
public import Idealize.ShloMosaic.Lib.Pipeline.ValueKit

@[expose] public section
set_option maxRecDepth 16384
noncomputable section
open Idealize.ShloMosaic Idealize.ShloMosaic.TcCoe Idealize.SL.Sem
namespace Cert.FfnInSwigluRefIdeal.Val
open Cert.FfnInSwigluRefIdeal Cert.FfnInSwigluRefIdeal.Gen Cert.FfnInSwigluRefIdeal.Read

variable (x : FVec Ideal S4096x2048 .f32) (w : FVec Ideal S2048x11264 .f32)

/-- The gate's half of the hidden projection. -/
def gate (r : Fin 4096) (f : Fin 5632) : EReal := ∑ k : Fin 2048, x (ix2 r k) * w (ix2 k ⟨f.val, by omega⟩)
/-- The other half. -/
def up (r : Fin 4096) (f : Fin 5632) : EReal := ∑ k : Fin 2048, x (ix2 r k) * w (ix2 k ⟨5632 + f.val, by omega⟩)

theorem read_gate (r : Fin 4096) (f : Fin 5632) : val_main_v1 (F := Ideal) x w (ix2 r f) = gate x w r f := by
  pointwise [val_main_v1, val_main_v0, gate]
theorem read_up (r : Fin 4096) (f : Fin 5632) : val_main_v2 (F := Ideal) x w (ix2 r f) = up x w r f := by
  pointwise [val_main_v2, val_main_v0, up]
/-- The first result's two planes: the two halves of the hidden projection. -/
theorem read_plane0 (r : Fin 4096) (f : Fin 5632) : val_main_v5 (F := Ideal) x w (ix3 0 r f) = gate x w r f := by
  pointwise [val_main_v5, val_main_v3, read_gate]
theorem read_plane1 (r : Fin 4096) (f : Fin 5632) : val_main_v5 (F := Ideal) x w (ix3 1 r f) = up x w r f := by
  pointwise [val_main_v5, val_main_v4, read_up]
/-- The second result: the gated product. -/
theorem read_act (r : Fin 4096) (f : Fin 5632) :
    val_main_v14 (F := Ideal) x w (ix2 r f) = gate x w r f * Ideal.logistic (gate x w r f) * up x w r f := by
  pointwise [val_main_v14, val_main_v13, val_main_v12, val_main_v11, val_main_v10, val_main_v9, val_main_v8, val_main_v7, val_main_v6, val_main_cst, val_main_cst_0, read_gate, read_up]
  rfl

end Cert.FfnInSwigluRefIdeal.Val
end
-- ==== Proof.SwigluFOut.lean ====
module

public import proofs.«01_k».proof.Proof.Gen.FfnInSwigluIdeal.Frame
public import Idealize.ShloMosaic.Lib.Pipeline.ValueKit
public import proofs.«01_k».proof.Proof.SwigluFRef

@[expose] public section
set_option maxRecDepth 16384
noncomputable section
open Idealize.ShloMosaic Idealize.ShloMosaic.TcCoe Idealize.SL.Sem
open Idealize.ShloMosaic.Pipeline (Dat)
namespace Cert.FfnInSwigluIdeal.Val
open Cert.FfnInSwigluIdeal Cert.FfnInSwigluIdeal.Gen
open Cert.FfnInSwigluRefIdeal.Val (gate up read_plane0 read_plane1 read_act)
open Cert.FfnInSwigluRefIdeal.Read (val_main_v5 val_main_v14)
variable (m : (ℓ : Loc nD τ sig) → Buf (Elt Ideal) ℓ) (c : Dev nD)

theorem idx : ∀ t : Fin cfg0.N, win0_0.index t = ![t.val % 16, 0] ∧ win0_1.index t = ![0, t.val / 16] ∧ win0_2.index t = ![0, 4 + t.val / 16] ∧ win0_3.index t = ![0, t.val % 16, t.val / 16] ∧ win0_4.index t = ![t.val % 16, t.val / 16] :=
  (by decide +kernel : ∀ t : Fin grid0.N, _)

/-- The rows the hidden projection is taken of. -/
abbrev aX (c : Dev nD) : FVec Ideal S4096x2048 .f32 := m ((c : Thread nD τ).loc main_arg0)
/-- The weights of the hidden projection. -/
abbrev aW (c : Dev nD) : FVec Ideal S2048x11264 .f32 := m ((c : Thread nD τ).loc main_arg1)

theorem entry_x : V m c main_v0 = aX m c := by entry_read; rfl
theorem entry_w : V m c main_v1 = aW m c := by entry_read; rfl

/-- The row of the arrays a point's row is. -/
def row (t : Fin cfg0.N) (r : Fin 256) : Fin 4096 := ⟨t.val % 16 * 256 + r.val, by omega⟩
/-- The column of the arrays a point's column is. -/
def col (t : Fin cfg0.N) (l : Fin 1408) : Fin 5632 := ⟨t.val / 16 * 1408 + l.val, by have := t.isLt; have h : cfg0.N = 64 := rfl; omega⟩

theorem blk_x (t : Fin cfg0.N) (r : Fin 256) (k : Fin 2048) : iblk m c 0 t (ix2 r k) = aX m c (ix2 (row t r) k) := by
  have hc : (row t r).val = t.val % 16 * 256 + r.val := rfl
  blk_point [iblk, entry_x, idx t]
theorem blk_g (t : Fin cfg0.N) (k : Fin 2048) (l : Fin 1408) : iblk m c 1 t (ix2 k l) = aW m c (ix2 k ⟨(col t l).val, by omega⟩) := by
  have hc : (col t l).val = t.val / 16 * 1408 + l.val := rfl
  blk_point [iblk, entry_w, idx t]
theorem blk_u (t : Fin cfg0.N) (k : Fin 2048) (l : Fin 1408) : iblk m c 2 t (ix2 k l) = aW m c (ix2 k ⟨5632 + (col t l).val, by omega⟩) := by
  have hc : (col t l).val = t.val / 16 * 1408 + l.val := rfl
  blk_point [iblk, entry_w, idx t]

/-- The two halves a step leaves, one behind the other. -/
theorem point3 (t : Fin cfg0.N) (y) (a : Fin 2) (ha : a.val = y 0) :
    out0_3 (iblk m c 0 t) (iblk m c 1 t) (iblk m c 2 t) y
      = if a.val = 0 then gate (aX m c) (aW m c) (row t (y 1)) (col t (y 2)) else up (aX m c) (aW m c) (row t (y 1)) (col t (y 2)) := by
  frame_out
  canon_tiles x h
  all_goals
    have e1 : y 1 = x 1 := Fin.ext (by omega)
    have e2 : y 2 = x 2 := Fin.ext (by omega)
    rw [e1, e2]
    first
      | (have e : a.val = 0 := by omega
         rw [if_pos e])
      | (have e : a.val ≠ 0 := by omega
         rw [if_neg e])
    clear ha h0 h1 h2 e e1 e2
    idx_vars x
    open_payloads
    pointwise []
    simp only [blk_x, blk_g, blk_u, gate, up]
/-- The gated product a step leaves. -/
theorem point4 (t : Fin cfg0.N) (r : Fin 256) (l : Fin 1408) :
    out0_4 (iblk m c 0 t) (iblk m c 1 t) (iblk m c 2 t) (ix2 r l)
      = gate (aX m c) (aW m c) (row t r) (col t l) * Ideal.logistic (gate (aX m c) (aW m c) (row t r) (col t l)) * up (aX m c) (aW m c) (row t r) (col t l) := by
  frame_out; open_payloads; pointwise []; simp only [blk_x, blk_g, blk_u, gate, up]

/-- What the steps leave is the reference's value. -/
theorem value (a : Fin 2) (r : Fin 4096) (f : Fin 5632) :
    (if a.val = 0 then gate (aX m c) (aW m c) r f else up (aX m c) (aW m c) r f) = val_main_v5 (F := Ideal) (aX m c) (aW m c) (ix3 a r f) := by
  obtain rfl | rfl : a = 0 ∨ a = 1 := by omega
  · exact (read_plane0 (aX m c) (aW m c) _ _).symm
  · exact (read_plane1 (aX m c) (aW m c) _ _).symm

/-- The first result: the two halves of the hidden projection. -/
theorem final3 : (dats m 0 c).arrAt 3 (cfgs 0).N = val_main_v5 (F := Ideal) (aX m c) (aW m c) := by
  refine (dats m 0 c).arrAt_eq_of_covers 3 _ (by decide +kernel) fun t hf y => ?_
  blk_simp
  rw [after0_3]
  have h0 : ((win0_3.blk t).view.emb y 0).val = (y 0).val := by blk_simp [idx t]
  have h1 : ((win0_3.blk t).view.emb y 1).val = t.val % 16 * 256 + (y 1).val := by blk_simp [idx t]
  have h2 : ((win0_3.blk t).view.emb y 2).val = t.val / 16 * 1408 + (y 2).val := by blk_simp [idx t]
  generalize (win0_3.blk t).view.emb y = j at h0 h1 h2 ⊢
  idx_vars j
  obtain rfl : j1 = row t (y 1) := Fin.ext h1
  obtain rfl : j2 = col t (y 2) := Fin.ext h2
  exact (point3 m c t y j0 h0).trans (value m c j0 _ _)
/-- The second result: the gated product. -/
theorem final4 : (dats m 0 c).arrAt 4 (cfgs 0).N = val_main_v14 (F := Ideal) (aX m c) (aW m c) := by
  refine (dats m 0 c).arrAt_eq_of_covers 4 _ (by decide +kernel) fun t hf y => ?_
  blk_simp
  rw [after0_4]
  have h0 : ((win0_4.blk t).view.emb y 0).val = t.val % 16 * 256 + (y 0).val := by blk_simp [idx t]
  have h1 : ((win0_4.blk t).view.emb y 1).val = t.val / 16 * 1408 + (y 1).val := by blk_simp [idx t]
  generalize (win0_4.blk t).view.emb y = j at h0 h1 ⊢
  idx_vars j
  idx_vars y
  obtain rfl : j0 = row t y0 := Fin.ext h0
  obtain rfl : j1 = col t y1 := Fin.ext h1
  exact (point4 m c t y0 y1).trans (read_act (aX m c) (aW m c) _ _).symm

end Cert.FfnInSwigluIdeal.Val
end
-- ==== Proof.SwigluF.lean ====
module
public import proofs.«01_k».proof.Defs
public import proofs.«01_k».proof.Proof.SwigluFOut
public import proofs.«01_k».proof.Proof.Gen.FfnInSwigluRefIdeal.Run
@[expose] public section
set_option maxRecDepth 16384
noncomputable section
open Idealize.ShloMosaic Idealize.SL.Sem Idealize.ShloMosaic.StableHlo

namespace Cert.FfnInSwigluRefIdeal.Read
open Cert.FfnInSwigluRefIdeal

/-- The reference's run with each result at its named stage instead of the composed term. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = val_main_v5 (F := Ideal) (m ((c.tc : Thread nD τ).loc main_arg0)) (m ((c.tc : Thread nD τ).loc main_arg1))
      ∧ r.2.mem ((c.tc : Thread nD τ).loc main_v14) = val_main_v14 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨(h c).1.trans (val_main_v5_eq _ _),
      (h c).2.1.trans (val_main_v14_eq _ _),
      (h c).2.2⟩)
    (Value.run (F := Ideal) m ρ)

end Cert.FfnInSwigluRefIdeal.Read

namespace Cert.FfnInSwigluIdeal.Val

set_option maxHeartbeats 1600000 in
/-- The feed-forward's input projection and its gated activation: the same two arrays on both sides. -/
theorem algebraic : Cert.algebraic_FfnInSwigluIdeal_FfnInSwigluRefIdeal (hFfnInSwigluIdeal := Cert.FfnInSwigluIdeal.Gen.facts)
    (hFfnInSwigluRefIdeal := Cert.FfnInSwigluRefIdeal.Gen.facts) := by
  intro m g m' g' hpre hagree
  refine ⟨fun c => (Gen.dats m 0 c).arrAt 3 (cfgs 0).N, fun c => (Gen.dats m 0 c).arrAt 4 (cfgs 0).N, ?_, ?_⟩
  · exact θ_run_mono (θ_run_and (Gen.run_main m g) (Gen.unchanged m g)) fun r h c =>
      ⟨(h.1 c).1 3, (h.1 c).1 4, h.2 c⟩
  · refine (θ_run Cert.FfnInSwigluRefIdeal.defs _ _).mono (fun r h c => ?_) (Cert.FfnInSwigluRefIdeal.Read.run_named m' g')
    obtain ⟨e0, e1⟩ := hagree c
    obtain ⟨h0, h1, hs⟩ := h c
    refine ⟨h0.trans ?_, h1.trans ?_, hs⟩
    · rw [e0, e1]; exact (final3 m c).symm
    · rw [e0, e1]; exact (final4 m c).symm

/-- The reference leaves its arguments as they were, and it declares no semaphore. -/
theorem frame_ref : Cert.quiescent_FfnInSwigluRefIdeal (hFfnInSwigluRefIdeal := Cert.FfnInSwigluRefIdeal.Gen.facts) := fun m ρ _ =>
  (θ_run Cert.FfnInSwigluRefIdeal.defs _ _).mono (fun r h => ⟨fun c => (h c).2.2, sem_eq_zero_of_no_sems (by decide) r.2⟩)
    (Cert.FfnInSwigluRefIdeal.Value.run (F := Ideal) m ρ)

end Cert.FfnInSwigluIdeal.Val
end
-- ==== Proof.FfnFRef.lean ====
module

public import proofs.«01_k».proof.Proof.Gen.FfnOutLnRefIdeal.Read
public import Idealize.ShloMosaic.Lib.Pipeline.ValueKit
public import proofs.«01_k».proof.Proof.Norm

@[expose] public section
set_option maxRecDepth 16384
noncomputable section
open Idealize.ShloMosaic Idealize.ShloMosaic.TcCoe Idealize.SL.Sem
namespace Cert.FfnOutLnRefIdeal.Val
open Cert.FfnOutLnRefIdeal Cert.FfnOutLnRefIdeal.Gen Cert.FfnOutLnRefIdeal.Read

variable (a : FVec Ideal S4096x5632 .f32) (w : FVec Ideal S5632x2048 .f32) (x : FVec Ideal S4096x2048 .f32) (gi bi g b : FVec Ideal S4x2048 .f32)

/-- The length of a row, as the programs write it. -/
abbrev K : EReal := Ideal.ofBits .f32 0x45000000#32
/-- The rows the residual is a normalisation of. -/
abbrev row (p : Fin 4096) (k : Fin 2048) : EReal := x (ix2 p k)
/-- The residual scaled. -/
def base (p : Fin 4096) (k : Fin 2048) : EReal := Ideal.ofBits .f32 0x3FD744FD#32 * (Norm.hat K (row x p) k * gi (ix2 3 k) + bi (ix2 3 k))
/-- A quarter of a product's inner sum. -/
def quarter (b : Fin 4) (p : Fin 4096) (k : Fin 2048) : EReal :=
  ∑ l : Fin 1408, a (ix2 p ⟨b.val * 1408 + l.val, by omega⟩) * w (ix2 ⟨b.val * 1408 + l.val, by omega⟩ k)
theorem quarters (p : Fin 4096) (k : Fin 2048) :
    ∑ l : Fin 5632, a (ix2 p l) * w (ix2 l k) = quarter a w 0 p k + quarter a w 1 p k + quarter a w 2 p k + quarter a w 3 p k := by
  rw [← Fin.sum_univ_four (fun b => quarter a w b p k)]
  exact (Fin.sum_mul_add_congr fun b l _ => rfl :
    ∑ b : Fin 4, ∑ l : Fin 1408, (fun j : Fin 5632 => a (ix2 p j) * w (ix2 j k)) ⟨b.val * 1408 + l.val, by omega⟩ = ∑ j : Fin 5632, a (ix2 p j) * w (ix2 j k)).symm
/-- The residual scaled, plus the product of the activations with the output weights: the rows that are normalised. -/
def tot (p : Fin 4096) (k : Fin 2048) : EReal :=
  base x gi bi p k + ∑ l : Fin 5632, a (ix2 p l) * w (ix2 l k)

theorem read_dev (p : Fin 4096) (k : Fin 2048) : val_main_v9 (F := Ideal) x (ix2 p k) = Norm.dev K (row x p) k := by
  pointwise [val_main_v9, val_main_v8, val_main_v7, val_main_v6, val_main_v5, val_main_v4, val_main_cst, val_main_cst_0, Norm.dev, Norm.mean]
theorem read_rstd (p : Fin 4096) (x0 : Fin 1) : val_main_v19 (F := Ideal) x (ix2 p x0) = Norm.rstd K (row x p) := by
  pointwise [val_main_v19, val_main_v18, val_main_v17, val_main_v14, val_main_v13, val_main_v12, val_main_v11, val_main_v10, val_main_cst_1, val_main_cst_2, val_main_cst_3]
  simp only [read_dev]
  pointwise [Norm.rstd, Norm.var, Norm.mean]
theorem read_hat (p : Fin 4096) (k : Fin 2048) : val_main_v21 (F := Ideal) x (ix2 p k) = Norm.hat K (row x p) k := by
  have hd : val_main_v16 (F := Ideal) x (ix2 p k) = Norm.dev K (row x p) k := read_dev x p k
  pointwise [val_main_v21, val_main_v20]
  rw [hd, read_rstd]; rfl
theorem read_tot (p : Fin 4096) (k : Fin 2048) : val_main_v31 (F := Ideal) a w x gi bi (ix2 p k) = tot a w x gi bi p k := by
  pointwise [val_main_v31, val_main_v30, val_main_v29, val_main_v28, val_main_v27, val_main_v26, val_main_v25, val_main_v24, val_main_v23, val_main_v22, val_main_v3, val_main_v2, val_main_v1, val_main_v0, val_main_cst_4]
  rw [read_hat]; rfl
theorem read_dev2 (p : Fin 4096) (k : Fin 2048) : val_main_v41 (F := Ideal) a w x gi bi (ix2 p k) = Norm.dev K (tot a w x gi bi p) k := by
  pointwise [val_main_v41, val_main_v40, val_main_v39, val_main_v38, val_main_v37, val_main_v36, val_main_cst_5, val_main_cst_6]
  simp only [read_tot]
  pointwise [Norm.dev, Norm.mean]
/-- The third result: one over each row's standard deviation. -/
theorem read_rstd2 (p : Fin 4096) (x0 : Fin 1) : val_main_v49 (F := Ideal) a w x gi bi (ix2 p x0) = Norm.rstd K (tot a w x gi bi p) := by
  pointwise [val_main_v49, val_main_v48, val_main_v47, val_main_v46, val_main_v45, val_main_v44, val_main_v43, val_main_v42, val_main_cst_7, val_main_cst_8, val_main_cst_9]
  simp only [read_dev2]
  pointwise [Norm.rstd, Norm.var, Norm.mean]
/-- The first result: the normalised rows. -/
theorem read_hat2 (p : Fin 4096) (k : Fin 2048) : val_main_v53 (F := Ideal) a w x gi bi (ix2 p k) = Norm.hat K (tot a w x gi bi p) k := by
  have hd : val_main_v51 (F := Ideal) a w x gi bi (ix2 p k) = Norm.dev K (tot a w x gi bi p) k := read_dev2 a w x gi bi p k
  pointwise [val_main_v53, val_main_v52]
  rw [hd, read_rstd2]; rfl
/-- The second result: the rows scaled and shifted. -/
theorem read_y (p : Fin 4096) (k : Fin 2048) : val_main_v60 (F := Ideal) a w x gi bi g b (ix2 p k) = Norm.hat K (tot a w x gi bi p) k * g (ix2 3 k) + b (ix2 3 k) := by
  pointwise [val_main_v60, val_main_v59, val_main_v58, val_main_v57, val_main_v56, val_main_v55, val_main_v54, val_main_v35, val_main_v34, val_main_v33, val_main_v32]
  rw [read_hat2]

end Cert.FfnOutLnRefIdeal.Val
end
-- ==== Proof.FfnFOut.lean ====
module

public import proofs.«01_k».proof.Proof.Gen.FfnOutLnIdeal.Frame
public import Idealize.ShloMosaic.Lib.Pipeline.ValueKit
public import proofs.«01_k».proof.Proof.FfnFRef
public import proofs.«01_k».proof.Proof.Kit

@[expose] public section
set_option maxRecDepth 16384
noncomputable section
open Idealize.ShloMosaic Idealize.ShloMosaic.TcCoe Idealize.SL.Sem
open Idealize.ShloMosaic.Pipeline (Dat)
namespace Cert.FfnOutLnIdeal.Val
open Cert.FfnOutLnIdeal Cert.FfnOutLnIdeal.Gen
open Cert.FfnOutLnRefIdeal.Val (K row base quarter quarters tot read_hat2 read_y read_rstd2)
open Cert.FfnOutLnRefIdeal.Read (val_main_v53 val_main_v60 val_main_v49)
variable (m : (ℓ : Loc nD τ sig) → Buf (Elt Ideal) ℓ) (c : Dev nD)

theorem idx : ∀ t : Fin cfg0.N, win0_0.index t = ![t.val / 4, t.val % 4] ∧ win0_1.index t = ![t.val % 4, 0] ∧ win0_2.index t = ![t.val / 4, 0] ∧ win0_3.index t = ![0, 0] ∧ win0_4.index t = ![0, 0] ∧ win0_5.index t = ![0, 0] ∧ win0_6.index t = ![0, 0] ∧ win0_7.index t = ![t.val / 4, 0] ∧ win0_8.index t = ![t.val / 4, 0] ∧ win0_9.index t = ![t.val / 4, 0] :=
  (by decide +kernel : ∀ t : Fin grid0.N, _)

/-- The activations. -/
abbrev aA (c : Dev nD) : FVec Ideal S4096x5632 .f32 := m ((c : Thread nD τ).loc main_arg0)
/-- The output weights. -/
abbrev aW (c : Dev nD) : FVec Ideal S5632x2048 .f32 := m ((c : Thread nD τ).loc main_arg1)
/-- The rows the residual is a normalisation of. -/
abbrev aX (c : Dev nD) : FVec Ideal S4096x2048 .f32 := m ((c : Thread nD τ).loc main_arg2)
/-- The residual's scale. -/
abbrev aGi (c : Dev nD) : FVec Ideal S4x2048 .f32 := m ((c : Thread nD τ).loc main_arg3)
/-- The residual's shift. -/
abbrev aBi (c : Dev nD) : FVec Ideal S4x2048 .f32 := m ((c : Thread nD τ).loc main_arg4)
/-- The scale. -/
abbrev aG (c : Dev nD) : FVec Ideal S4x2048 .f32 := m ((c : Thread nD τ).loc main_arg5)
/-- The shift. -/
abbrev aB (c : Dev nD) : FVec Ideal S4x2048 .f32 := m ((c : Thread nD τ).loc main_arg6)

theorem entry_a : V m c main_v0 = aA m c := by entry_read; rfl
theorem entry_w : V m c main_v1 = aW m c := by entry_read; rfl
/-- The normalised rows the kernel is given. -/
def nrm : FVec Ideal S4096x2048 .f32 := fun i => Norm.hat K (row (aX m c) (i 0)) (i 1)
theorem entry_h : V m c main_v17 = nrm m c := by
  entry_read; funext i; idx_vars i
  pointwise [nrm, Norm.hat, Norm.dev, Norm.mean, Norm.rstd, Norm.var]
theorem entry_gi : V m c main_v20 = fun i => aGi m c (ix2 3 (i 1)) := by entry_read; funext i; idx_vars i; pointwise []
theorem entry_bi : V m c main_v23 = fun i => aBi m c (ix2 3 (i 1)) := by entry_read; funext i; idx_vars i; pointwise []
theorem entry_g : V m c main_v26 = fun i => aG m c (ix2 3 (i 1)) := by entry_read; funext i; idx_vars i; pointwise []
theorem entry_b : V m c main_v29 = fun i => aB m c (ix2 3 (i 1)) := by entry_read; funext i; idx_vars i; pointwise []

/-- The row of the arrays a point's row is. -/
def brw (t : Fin cfg0.N) (a : Fin 512) : Fin 4096 := ⟨t.val / 4 * 512 + a.val, by have := t.isLt; have h : cfg0.N = 32 := rfl; omega⟩

/-- The place in the inner sum a point's column is. -/
def kcol (t : Fin cfg0.N) (l : Fin 1408) : Fin 5632 := ⟨t.val % 4 * 1408 + l.val, by omega⟩
theorem blk_a (t : Fin cfg0.N) (a : Fin 512) (k : Fin 1408) : iblk m c 0 t (ix2 a k) = aA m c (ix2 (brw t a) (kcol t k)) := by
  have hr : (brw t a).val = t.val / 4 * 512 + a.val := rfl
  have hk : (kcol t k).val = t.val % 4 * 1408 + k.val := rfl
  blk_point [iblk, entry_a, idx t]
theorem blk_w (t : Fin cfg0.N) (a : Fin 1408) (k : Fin 2048) : iblk m c 1 t (ix2 a k) = aW m c (ix2 (kcol t a) k) := by
  have hk : (kcol t a).val = t.val % 4 * 1408 + a.val := rfl
  blk_point [iblk, entry_w, idx t]
theorem blk_h (t : Fin cfg0.N) (a : Fin 512) (k : Fin 2048) : iblk m c 2 t (ix2 a k) = Norm.hat K (row (aX m c) (brw t a)) k := by
  have hr : (brw t a).val = t.val / 4 * 512 + a.val := rfl
  have e := entry_h m c
  refine Eq.trans ?_ (rfl : nrm m c (ix2 (brw t a) k) = _)
  generalize nrm m c = H at e ⊢
  blk_point [iblk, e, idx t]
theorem blk_gi (t : Fin cfg0.N) (x : Fin 1) (k : Fin 2048) : iblk m c 3 t (ix2 x k) = aGi m c (ix2 3 k) := by
  blk_point [iblk, entry_gi, idx t]
theorem blk_bi (t : Fin cfg0.N) (x : Fin 1) (k : Fin 2048) : iblk m c 4 t (ix2 x k) = aBi m c (ix2 3 k) := by
  blk_point [iblk, entry_bi, idx t]
theorem blk_g (t : Fin cfg0.N) (x : Fin 1) (k : Fin 2048) : iblk m c 5 t (ix2 x k) = aG m c (ix2 3 k) := by
  blk_point [iblk, entry_g, idx t]
theorem blk_b (t : Fin cfg0.N) (x : Fin 1) (k : Fin 2048) : iblk m c 6 t (ix2 x k) = aB m c (ix2 3 k) := by
  blk_point [iblk, entry_b, idx t]

/-- The part of the inner sum a point adds. -/
def part (t : Fin cfg0.N) (a : Fin 512) (k : Fin 2048) : EReal := quarter (aA m c) (aW m c) ⟨t.val % 4, by omega⟩ (brw t a) k
/-- What a point leaves of the running sum, over what the point before left. -/
abbrev prev (t : Fin cfg0.N) : FVec Ideal S512x2048 .f32 := (outsAt0 m c (t.val - 1) (Nat.lt_of_le_of_lt (Nat.sub_le _ _) t.isLt)).2.2.2

theorem first (t : Fin cfg0.N) (h0 : t.val % 4 = 0) (a : Fin 512) (k : Fin 2048) :
    (outsAt0 m c t.val t.isLt).2.2.2 (ix2 a k) = base (aX m c) (aGi m c) (aBi m c) (brw t a) k + part m c t a k := by
  rw [outsAt0_A m c t h0 (by omega)]; dsimp only
  frame_out; open_payloads; pointwise []; simp only [blk_a, blk_w, blk_h, blk_gi, blk_bi]; rfl
theorem next (t : Fin cfg0.N) (h0 : ¬t.val % 4 = 0) (h1 : ¬t.val % 4 = 3) (a : Fin 512) (k : Fin 2048) :
    (outsAt0 m c t.val t.isLt).2.2.2 (ix2 a k) = prev m c t (ix2 a k) + part m c t a k := by
  rw [outsAt0_B m c t h0 h1]; dsimp only
  frame_out; open_payloads; pointwise []; simp only [blk_a, blk_w, read_unread_whole]; rfl
/-- The running sum before a block's last point, plus what that point adds: the whole rows. -/
theorem whole (t : Fin cfg0.N) (h3 : t.val % 4 = 3) (a : Fin 512) (k : Fin 2048) :
    prev m c t (ix2 a k) + part m c t a k = tot (aA m c) (aW m c) (aX m c) (aGi m c) (aBi m c) (brw t a) k := by
  have hN : cfg0.N = 32 := rfl
  have ht := t.isLt
  have e1 := next m c ⟨t.val - 1, by omega⟩ (by dsimp only; omega) (by dsimp only; omega) a k
  have e2 := next m c ⟨t.val - 1 - 1, by omega⟩ (by dsimp only; omega) (by dsimp only; omega) a k
  have e3 := first m c ⟨t.val - 1 - 1 - 1, by omega⟩ (by dsimp only; omega) a k
  have b1 : brw ⟨t.val - 1, by omega⟩ a = brw t a := Fin.ext (by simp only [brw]; omega)
  have b2 : brw ⟨t.val - 1 - 1, by omega⟩ a = brw t a := Fin.ext (by simp only [brw]; omega)
  have b3 : brw ⟨t.val - 1 - 1 - 1, by omega⟩ a = brw t a := Fin.ext (by simp only [brw]; omega)
  have q0 : (⟨t.val % 4, by omega⟩ : Fin 4) = 3 := Fin.ext h3
  have q1 : (⟨(t.val - 1) % 4, by omega⟩ : Fin 4) = 2 := Fin.ext (by show (t.val - 1) % 4 = 2; omega)
  have q2 : (⟨(t.val - 1 - 1) % 4, by omega⟩ : Fin 4) = 1 := Fin.ext (by show (t.val - 1 - 1) % 4 = 1; omega)
  have q3 : (⟨(t.val - 1 - 1 - 1) % 4, by omega⟩ : Fin 4) = 0 := Fin.ext (by show (t.val - 1 - 1 - 1) % 4 = 0; omega)
  simp only [part, b1, q1] at e1
  simp only [part, b2, q2] at e2
  simp only [part, b3, q3] at e3
  simp only [part, q0, tot, quarters]
  refine (congrArg (· + _) (e1.trans (congrArg (· + _) (e2.trans (congrArg (· + _) e3))))).trans ?_
  simp only [add_assoc]

/-- The normalised rows a block's last point leaves. -/
theorem point7 (t : Fin cfg0.N) (h3 : t.val % 4 = 3) (a : Fin 512) (k : Fin 2048) :
    (outsAt0 m c t.val t.isLt).1 (ix2 a k) = Norm.hat K (tot (aA m c) (aW m c) (aX m c) (aGi m c) (aBi m c) (brw t a)) k := by
  rw [← (funext fun k => whole m c t h3 a k : (fun k => prev m c t (ix2 a k) + part m c t a k) = _), outsAt0_C m c t (by omega) h3]; dsimp only
  frame_out; open_payloads; pointwise []; simp only [blk_a, blk_w, read_unread_whole]; rfl
/-- The scaled and shifted rows a block's last point leaves. -/
theorem point8 (t : Fin cfg0.N) (h3 : t.val % 4 = 3) (a : Fin 512) (k : Fin 2048) :
    (outsAt0 m c t.val t.isLt).2.1 (ix2 a k) = Norm.hat K (tot (aA m c) (aW m c) (aX m c) (aGi m c) (aBi m c) (brw t a)) k * aG m c (ix2 3 k) + aB m c (ix2 3 k) := by
  rw [← (funext fun k => whole m c t h3 a k : (fun k => prev m c t (ix2 a k) + part m c t a k) = _), outsAt0_C m c t (by omega) h3]; dsimp only
  frame_out; open_payloads; pointwise []; simp only [blk_a, blk_w, blk_g, blk_b, read_unread_whole]; rfl
/-- What a block's last point leaves of one over the rows' standard deviations. -/
theorem point9 (t : Fin cfg0.N) (h3 : t.val % 4 = 3) (a : Fin 512) (k : Fin 1) :
    (outsAt0 m c t.val t.isLt).2.2.1 (ix2 a k) = Norm.rstd K (tot (aA m c) (aW m c) (aX m c) (aGi m c) (aBi m c) (brw t a)) := by
  rw [← (funext fun k => whole m c t h3 a k : (fun k => prev m c t (ix2 a k) + part m c t a k) = _), outsAt0_C m c t (by omega) h3]; dsimp only
  frame_out; open_payloads; pointwise []; simp only [blk_a, blk_w, read_unread_whole]; rfl

/-- The normalised rows. -/
theorem final7 : (dats m 0 c).arrAt 7 (cfgs 0).N = val_main_v53 (F := Ideal) (aA m c) (aW m c) (aX m c) (aGi m c) (aBi m c) := by
  refine (dats m 0 c).arrAt_eq_of_covers 7 _ (by decide +kernel) fun t hf y => ?_
  blk_simp
  rw [after0_7]
  have h0 : ((win0_7.blk t).view.emb y 0).val = t.val / 4 * 512 + (y 0).val := by blk_simp [idx t]
  have h1 : ((win0_7.blk t).view.emb y 1).val = (y 1).val := by blk_simp [idx t]
  generalize (win0_7.blk t).view.emb y = j at h0 h1 ⊢
  idx_vars j
  idx_vars y
  obtain rfl : j0 = brw t y0 := Fin.ext h0
  obtain rfl : j1 = y1 := Fin.ext h1
  exact (point7 m c t ((flush0_7 t).mp hf) y0 j1).trans (read_hat2 (aA m c) (aW m c) (aX m c) (aGi m c) (aBi m c) _ _).symm
/-- The scaled and shifted rows. -/
theorem final8 : (dats m 0 c).arrAt 8 (cfgs 0).N = val_main_v60 (F := Ideal) (aA m c) (aW m c) (aX m c) (aGi m c) (aBi m c) (aG m c) (aB m c) := by
  refine (dats m 0 c).arrAt_eq_of_covers 8 _ (by decide +kernel) fun t hf y => ?_
  blk_simp
  rw [after0_8]
  have h0 : ((win0_8.blk t).view.emb y 0).val = t.val / 4 * 512 + (y 0).val := by blk_simp [idx t]
  have h1 : ((win0_8.blk t).view.emb y 1).val = (y 1).val := by blk_simp [idx t]
  generalize (win0_8.blk t).view.emb y = j at h0 h1 ⊢
  idx_vars j
  idx_vars y
  obtain rfl : j0 = brw t y0 := Fin.ext h0
  obtain rfl : j1 = y1 := Fin.ext h1
  exact (point8 m c t ((flush0_8 t).mp hf) y0 j1).trans (read_y (aA m c) (aW m c) (aX m c) (aGi m c) (aBi m c) (aG m c) (aB m c) _ _).symm
/-- One over the rows' standard deviations. -/
theorem final9 : (dats m 0 c).arrAt 9 (cfgs 0).N = val_main_v49 (F := Ideal) (aA m c) (aW m c) (aX m c) (aGi m c) (aBi m c) := by
  refine (dats m 0 c).arrAt_eq_of_covers 9 _ (by decide +kernel) fun t hf y => ?_
  blk_simp
  rw [after0_9]
  have h0 : ((win0_9.blk t).view.emb y 0).val = t.val / 4 * 512 + (y 0).val := by blk_simp [idx t]
  have h1 : ((win0_9.blk t).view.emb y 1).val = (y 1).val := by blk_simp [idx t]
  generalize (win0_9.blk t).view.emb y = j at h0 h1 ⊢
  idx_vars j
  idx_vars y
  obtain rfl : j0 = brw t y0 := Fin.ext h0
  obtain rfl : j1 = y1 := Fin.ext h1
  exact (point9 m c t ((flush0_9 t).mp hf) y0 j1).trans (read_rstd2 (aA m c) (aW m c) (aX m c) (aGi m c) (aBi m c) _ _).symm

end Cert.FfnOutLnIdeal.Val
end
-- ==== Proof.FfnF.lean ====
module
public import proofs.«01_k».proof.Defs
public import proofs.«01_k».proof.Proof.FfnFOut
public import proofs.«01_k».proof.Proof.Gen.FfnOutLnRefIdeal.Run
@[expose] public section
set_option maxRecDepth 16384
noncomputable section
open Idealize.ShloMosaic Idealize.SL.Sem Idealize.ShloMosaic.StableHlo

namespace Cert.FfnOutLnRefIdeal.Read
open Cert.FfnOutLnRefIdeal

/-- The reference's run with each result at its named stage instead of the composed term. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v53) = val_main_v53 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v60) = val_main_v60 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v49) = val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨(h c).1.trans (val_main_v53_eq m c),
      (h c).2.1.trans (val_main_v60_eq m c),
      (h c).2.2.1.trans (val_main_v49_eq m c),
      (h c).2.2.2⟩)
    (Value.run (F := Ideal) m ρ)

end Cert.FfnOutLnRefIdeal.Read

namespace Cert.FfnOutLnIdeal.Val

set_option maxHeartbeats 1600000 in
/-- The feed-forward's output projection with the residual sum and the normalisation after it: the same three arrays on both sides. -/
theorem algebraic : Cert.algebraic_FfnOutLnIdeal_FfnOutLnRefIdeal (hFfnOutLnIdeal := Cert.FfnOutLnIdeal.Gen.facts)
    (hFfnOutLnRefIdeal := Cert.FfnOutLnRefIdeal.Gen.facts) := by
  intro m g m' g' hpre hagree
  refine ⟨fun c => (Gen.dats m 0 c).arrAt 7 (cfgs 0).N, fun c => (Gen.dats m 0 c).arrAt 8 (cfgs 0).N, fun c => (Gen.dats m 0 c).arrAt 9 (cfgs 0).N, ?_, ?_⟩
  · exact θ_run_mono (θ_run_and (Gen.run_main m g) (Gen.unchanged m g)) fun r h c =>
      ⟨(h.1 c).1 7, (h.1 c).1 8, (h.1 c).1 9, h.2 c⟩
  · refine (θ_run Cert.FfnOutLnRefIdeal.defs _ _).mono (fun r h c => ?_) (Cert.FfnOutLnRefIdeal.Read.run_named m' g')
    obtain ⟨e0, e1, e2, e3, e4, e5, e6⟩ := hagree c
    obtain ⟨h0, h1, h2, hs⟩ := h c
    refine ⟨h0.trans ?_, h1.trans ?_, h2.trans ?_, hs⟩
    · rw [e0, e1, e2, e3, e4]; exact (final7 m c).symm
    · rw [e0, e1, e2, e3, e4, e5, e6]; exact (final8 m c).symm
    · rw [e0, e1, e2, e3, e4]; exact (final9 m c).symm

/-- The reference leaves its arguments as they were, and it declares no semaphore. -/
theorem frame_ref : Cert.quiescent_FfnOutLnRefIdeal (hFfnOutLnRefIdeal := Cert.FfnOutLnRefIdeal.Gen.facts) := fun m ρ _ =>
  (θ_run Cert.FfnOutLnRefIdeal.defs _ _).mono (fun r h => ⟨fun c => (h c).2.2.2, sem_eq_zero_of_no_sems (by decide) r.2⟩)
    (Cert.FfnOutLnRefIdeal.Value.run (F := Ideal) m ρ)

end Cert.FfnOutLnIdeal.Val
end
-- ==== Proof.MergeFRef.lean ====
module

public import proofs.«01_k».proof.Proof.Gen.BranchMergeRefIdeal.Read
public import Idealize.ShloMosaic.Lib.Pipeline.ValueKit

@[expose] public section
set_option maxRecDepth 16384
noncomputable section
open Idealize.ShloMosaic Idealize.ShloMosaic.TcCoe Idealize.SL.Sem
namespace Cert.BranchMergeRefIdeal.Val
open Cert.BranchMergeRefIdeal Cert.BranchMergeRefIdeal.Gen Cert.BranchMergeRefIdeal.Read

variable (y : FVec Ideal S4096x3x1024 .f32) (w : FVec Ideal S3x1024x2048 .f32) (z : FVec Ideal S4096x13312 .f32) (b : FVec Ideal S4x6144 .f32)

/-- The gate of branch `n` at row `r`, column `q`: the logistic of the packed projection plus the layer's bias. -/
def gate (n : Fin 3) (r : Fin 4096) (q : Fin 2048) : EReal :=
  Ideal.logistic (z (ix2 r ⟨7168 + (n.val * 2048 + q.val), by omega⟩) + b (ix2 3 ⟨n.val * 2048 + q.val, by omega⟩))
/-- The plane of the mixers' stack that holds branch `n`. -/
def plane : Fin 3 → Fin 3 := ![2, 0, 1]
/-- The projection of branch `n`. -/
def proj (n : Fin 3) (r : Fin 4096) (q : Fin 2048) : EReal := ∑ k : Fin 1024, y (ix3 r (plane n) k) * w (ix3 n k q)

theorem read_gate (r : Fin 4096) (n : Fin 3) (q : Fin 2048) : val_main_v12 (F := Ideal) z b (ix3 r n q) = gate z b n r q := by
  have h2 : (n.val * 2048 + q.val) % 2048 = q.val := by omega
  have h1 : (n.val * 2048 + q.val) / 2048 = n.val := by omega
  pointwise [val_main_v12, val_main_v11, val_main_v10, val_main_v9, val_main_v8, val_main_v7,
    val_main_v6, val_main_v5, val_main_v4, val_main_v3, val_main_v2, val_main_v1, val_main_v0, val_main_cst, val_main_cst_0, gate, h1, h2]
  rfl
/-- The branches stacked in their own order are the branches. -/
theorem read_y (r : Fin 4096) (n : Fin 3) (k : Fin 1024) : val_main_v22 (F := Ideal) y (ix3 r n k) = y (ix3 r (plane n) k) := by
  match n with
  | 0 => pointwise [val_main_v22, val_main_v21, val_main_v20, val_main_v19, val_main_v18, val_main_v17, val_main_v16, val_main_v15, val_main_v14, val_main_v13, plane]
  | 1 => pointwise [val_main_v22, val_main_v21, val_main_v20, val_main_v19, val_main_v18, val_main_v17, val_main_v16, val_main_v15, val_main_v14, val_main_v13, plane]
  | 2 => pointwise [val_main_v22, val_main_v21, val_main_v20, val_main_v19, val_main_v18, val_main_v17, val_main_v16, val_main_v15, val_main_v14, val_main_v13, plane]
/-- The second result: the projected branches. -/
theorem read_proj (n : Fin 3) (r : Fin 4096) (q : Fin 2048) : val_main_v28 (F := Ideal) y w (ix3 n r q) = proj y w n r q := by
  pointwise [val_main_v28, val_main_v24, val_main_v23, read_y, proj]
  simp only [mul_comm (w _)]
/-- The first result: the gated branches, summed. -/
theorem read_merged (r : Fin 4096) (q : Fin 2048) :
    val_main_v27 (F := Ideal) y w z b (ix2 r q) = ∑ n : Fin 3, gate z b n r q * proj y w n r q := by
  have h (n : Fin 3) : val_main_v24 (F := Ideal) y w (ix3 r n q) = proj y w n r q := by
    pointwise [val_main_v24, val_main_v23, read_y, proj]
    simp only [mul_comm (w _)]
  pointwise [val_main_v27, val_main_v26, val_main_v25, val_main_cst_1, h, read_gate]

end Cert.BranchMergeRefIdeal.Val
end
-- ==== Proof.MergeFOut.lean ====
module

public import proofs.«01_k».proof.Proof.Gen.BranchMergeIdeal.Frame
public import Idealize.ShloMosaic.Lib.Pipeline.ValueKit
public import proofs.«01_k».proof.Proof.MergeFRef
public import proofs.«01_k».proof.Proof.Kit

@[expose] public section
set_option maxRecDepth 16384
noncomputable section
open Idealize.ShloMosaic Idealize.ShloMosaic.TcCoe Idealize.SL.Sem
open Idealize.ShloMosaic.Pipeline (Dat)
namespace Cert.BranchMergeIdeal.Val
open Cert.BranchMergeIdeal Cert.BranchMergeIdeal.Gen
open Cert.BranchMergeRefIdeal.Val (gate proj plane read_proj read_merged)
open Cert.BranchMergeRefIdeal.Read (val_main_v27 val_main_v28)
variable (m : (ℓ : Loc nD τ sig) → Buf (Elt Ideal) ℓ) (c : Dev nD)

theorem idx : ∀ t : Fin cfg0.N, win0_0.index t = ![0, t.val / 4, 0] ∧ win0_1.index t = ![0, 0, t.val % 4] ∧ win0_2.index t = ![t.val / 4, 14 + t.val % 4] ∧ win0_3.index t = ![t.val / 4, 18 + t.val % 4] ∧ win0_4.index t = ![t.val / 4, 22 + t.val % 4] ∧ win0_5.index t = ![3, 0, 0, t.val % 4] ∧ win0_6.index t = ![t.val / 4, t.val % 4] ∧ win0_7.index t = ![0, t.val / 4, t.val % 4] :=
  (by decide +kernel : ∀ t : Fin grid0.N, _)

/-- The mixers' results, the three branches side by side. -/
abbrev aY (c : Dev nD) : FVec Ideal S4096x3x1024 .f32 := m ((c : Thread nD τ).loc main_arg0)
/-- The weights of the branches' projections. -/
abbrev aW (c : Dev nD) : FVec Ideal S3x1024x2048 .f32 := m ((c : Thread nD τ).loc main_arg1)
/-- The packed projection of the layer's input. -/
abbrev aZ (c : Dev nD) : FVec Ideal S4096x13312 .f32 := m ((c : Thread nD τ).loc main_arg2)
/-- The gates' biases of every layer. -/
abbrev aB (c : Dev nD) : FVec Ideal S4x6144 .f32 := m ((c : Thread nD τ).loc main_arg3)

theorem entry_y (n : Fin 3) (r : Fin 4096) (k : Fin 1024) : V m c main_v1 (ix3 n r k) = aY m c (ix3 r n k) := by entry_read; pointwise []
theorem entry_w : V m c main_v2 = aW m c := by entry_read; rfl
theorem entry_z : V m c main_arg2 = aZ m c := by entry_read; rfl
theorem entry_b (l : Fin 4) (n : Fin 3) (q : Fin 2048) : V m c main_v3 (ix4 l n 0 q) = aB m c (ix2 l ⟨n.val * 2048 + q.val, by omega⟩) := by
  entry_read; pointwise []

/-- The row of the arrays a point's row is. -/
def brw (t : Fin cfg0.N) (a : Fin 1024) : Fin 4096 := ⟨t.val / 4 * 1024 + a.val, by have := t.isLt; have h : cfg0.N = 16 := rfl; omega⟩
/-- The column of the arrays a point's column is. -/
def bcl (t : Fin cfg0.N) (l : Fin 512) : Fin 2048 := ⟨t.val % 4 * 512 + l.val, by omega⟩

theorem blk_y (t : Fin cfg0.N) (n : Fin 3) (a k : Fin 1024) : iblk m c 0 t (ix3 n a k) = aY m c (ix3 (brw t a) n k) := by
  have hr : (brw t a).val = t.val / 4 * 1024 + a.val := rfl
  obtain ⟨H, e⟩ : ∃ H, V m c main_v1 = H := ⟨_, rfl⟩
  have h := entry_y m c n (brw t a) k
  rw [e] at h
  rw [← h]
  blk_point [iblk, e, idx t]
theorem blk_w (t : Fin cfg0.N) (n : Fin 3) (k : Fin 1024) (l : Fin 512) : iblk m c 1 t (ix3 n k l) = aW m c (ix3 n k (bcl t l)) := by
  have hc : (bcl t l).val = t.val % 4 * 512 + l.val := rfl
  blk_point [iblk, entry_w, idx t]
theorem blk_z0 (t : Fin cfg0.N) (a : Fin 1024) (l : Fin 512) :
    iblk m c 2 t (ix2 a l) = aZ m c (ix2 (brw t a) ⟨7168 + (0 * 2048 + (bcl t l).val), by omega⟩) := by
  have hr : (brw t a).val = t.val / 4 * 1024 + a.val := rfl
  have hc : (bcl t l).val = t.val % 4 * 512 + l.val := rfl
  blk_point [iblk, entry_z, idx t]
theorem blk_z1 (t : Fin cfg0.N) (a : Fin 1024) (l : Fin 512) :
    iblk m c 3 t (ix2 a l) = aZ m c (ix2 (brw t a) ⟨7168 + (1 * 2048 + (bcl t l).val), by omega⟩) := by
  have hr : (brw t a).val = t.val / 4 * 1024 + a.val := rfl
  have hc : (bcl t l).val = t.val % 4 * 512 + l.val := rfl
  blk_point [iblk, entry_z, idx t]
theorem blk_z2 (t : Fin cfg0.N) (a : Fin 1024) (l : Fin 512) :
    iblk m c 4 t (ix2 a l) = aZ m c (ix2 (brw t a) ⟨7168 + (2 * 2048 + (bcl t l).val), by omega⟩) := by
  have hr : (brw t a).val = t.val / 4 * 1024 + a.val := rfl
  have hc : (bcl t l).val = t.val % 4 * 512 + l.val := rfl
  blk_point [iblk, entry_z, idx t]
theorem blk_b (t : Fin cfg0.N) (n : Fin 3) (l : Fin 512) :
    iblk m c 5 t (ix4 0 n 0 l) = aB m c (ix2 3 ⟨n.val * 2048 + (bcl t l).val, by omega⟩) := by
  have hc : (bcl t l).val = t.val % 4 * 512 + l.val := rfl
  obtain ⟨H, e⟩ : ∃ H, V m c main_v3 = H := ⟨_, rfl⟩
  have h := entry_b m c 3 n (bcl t l)
  rw [e] at h
  rw [← h]
  blk_point [iblk, e, idx t]

/-- The merged rows a point leaves. -/
theorem point6 (t : Fin cfg0.N) (y) (r : Fin 4096) (q : Fin 2048) (hr : r.val = t.val / 4 * 1024 + y 0) (hq : q.val = t.val % 4 * 512 + y 1) :
    out0_6 (iblk m c 0 t) (iblk m c 1 t) (iblk m c 2 t) (iblk m c 3 t) (iblk m c 4 t) (iblk m c 5 t) y = ∑ n : Fin 3, gate (aZ m c) (aB m c) n r q * proj (aY m c) (aW m c) n r q := by
  rw [Fin.sum_univ_three]
  frame_out
  canon_tiles x h
  all_goals
    idx_vars x
    open_payloads
    pointwise []
    simp only [blk_y, blk_w, blk_z0, blk_z1, blk_z2, blk_b]
    obtain rfl : brw t x0 = r := Fin.ext (by rw [hr, h0]; rfl)
    first
      | (have e : bcl t ⟨256 + x1.val, Nat.add_lt_add_left x1.isLt 256⟩ = q := by apply Fin.ext; rw [hq, h1]; rfl); subst e
      | (have e : bcl t ⟨x1.val, Nat.lt_of_lt_of_le x1.isLt (by decide)⟩ = q := by apply Fin.ext; rw [hq, h1]; rfl); subst e
    rfl
/-- The projected branches a point leaves. -/
theorem point7 (t : Fin cfg0.N) (y) (n : Fin 3) (r : Fin 4096) (q : Fin 2048) (hn : n.val = y 0) (hr : r.val = t.val / 4 * 1024 + y 1) (hq : q.val = t.val % 4 * 512 + y 2) :
    out0_7 (iblk m c 0 t) (iblk m c 1 t) (iblk m c 2 t) (iblk m c 3 t) (iblk m c 4 t) (iblk m c 5 t) y = proj (aY m c) (aW m c) n r q := by
  frame_out
  canon_tiles x h
  all_goals
    idx_vars x
    open_payloads
    pointwise []
    simp only [blk_y, blk_w]
    obtain rfl : brw t x1 = r := Fin.ext (by rw [hr, h1]; rfl)
    first
      | (have e : bcl t ⟨256 + x2.val, Nat.add_lt_add_left x2.isLt 256⟩ = q := by apply Fin.ext; rw [hq, h2]; rfl); subst e
      | (have e : bcl t ⟨x2.val, Nat.lt_of_lt_of_le x2.isLt (by decide)⟩ = q := by apply Fin.ext; rw [hq, h2]; rfl); subst e
    first
      | (have e : 2 = n := by apply Fin.ext; rw [hn, h0]; show 2 = _ ; omega); subst e
      | (have e : 1 = n := by apply Fin.ext; rw [hn, h0]; show 1 = _ ; omega); subst e
      | (have e : 0 = n := by apply Fin.ext; rw [hn, h0]; show 0 = _ ; omega); subst e
    rfl

/-- The gated branches, summed. -/
theorem final6 : (dats m 0 c).arrAt 6 (cfgs 0).N = val_main_v27 (F := Ideal) (aY m c) (aW m c) (aZ m c) (aB m c) := by
  refine (dats m 0 c).arrAt_eq_of_covers 6 _ (by decide +kernel) fun t hf y => ?_
  blk_simp
  rw [after0_6]
  have h0 : ((win0_6.blk t).view.emb y 0).val = t.val / 4 * 1024 + (y 0).val := by blk_simp [idx t]
  have h1 : ((win0_6.blk t).view.emb y 1).val = t.val % 4 * 512 + (y 1).val := by blk_simp [idx t]
  generalize (win0_6.blk t).view.emb y = j at h0 h1 ⊢
  idx_vars j
  exact (point6 m c t y _ _ h0 h1).trans (read_merged (aY m c) (aW m c) (aZ m c) (aB m c) _ _).symm

/-- The projected branches. -/
theorem final7 : (dats m 0 c).arrAt 7 (cfgs 0).N = val_main_v28 (F := Ideal) (aY m c) (aW m c) := by
  refine (dats m 0 c).arrAt_eq_of_covers 7 _ (by decide +kernel) fun t hf y => ?_
  blk_simp
  rw [after0_7]
  have h0 : ((win0_7.blk t).view.emb y 0).val = (y 0).val := by blk_simp [idx t]
  have h1 : ((win0_7.blk t).view.emb y 1).val = t.val / 4 * 1024 + (y 1).val := by blk_simp [idx t]
  have h2 : ((win0_7.blk t).view.emb y 2).val = t.val % 4 * 512 + (y 2).val := by blk_simp [idx t]
  generalize (win0_7.blk t).view.emb y = j at h0 h1 h2 ⊢
  idx_vars j
  exact (point7 m c t y _ _ _ h0 h1 h2).trans (read_proj (aY m c) (aW m c) _ _ _).symm

end Cert.BranchMergeIdeal.Val
end
-- ==== Proof.MergeF.lean ====
module
public import proofs.«01_k».proof.Defs
public import proofs.«01_k».proof.Proof.MergeFOut
public import proofs.«01_k».proof.Proof.Gen.BranchMergeRefIdeal.Run
@[expose] public section
set_option maxRecDepth 16384
noncomputable section
open Idealize.ShloMosaic Idealize.SL.Sem Idealize.ShloMosaic.StableHlo

namespace Cert.BranchMergeRefIdeal.Read
open Cert.BranchMergeRefIdeal

/-- The reference's run with each result at its named stage instead of the composed term. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27) = val_main_v27 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v28) = val_main_v28 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨(h c).1.trans (val_main_v27_eq _ _ _ _),
      (h c).2.1.trans (val_main_v28_eq _ _),
      (h c).2.2⟩)
    (Value.run (F := Ideal) m ρ)

end Cert.BranchMergeRefIdeal.Read

namespace Cert.BranchMergeIdeal.Val

set_option maxHeartbeats 1600000 in
/-- The gated merge of the three branches: the same merged rows and the same projected branches on both sides. -/
theorem algebraic : Cert.algebraic_BranchMergeIdeal_BranchMergeRefIdeal (hBranchMergeIdeal := Cert.BranchMergeIdeal.Gen.facts)
    (hBranchMergeRefIdeal := Cert.BranchMergeRefIdeal.Gen.facts) := by
  intro m g m' g' hpre hagree
  refine ⟨fun c => (Gen.dats m 0 c).arrAt 6 (cfgs 0).N, fun c => (Gen.dats m 0 c).arrAt 7 (cfgs 0).N, ?_, ?_⟩
  · exact θ_run_mono (θ_run_and (Gen.run_main m g) (Gen.unchanged m g)) fun r h c =>
      ⟨(h.1 c).1 6, (h.1 c).1 7, h.2 c⟩
  · refine (θ_run Cert.BranchMergeRefIdeal.defs _ _).mono (fun r h c => ?_) (Cert.BranchMergeRefIdeal.Read.run_named m' g')
    obtain ⟨e0, e1, e2, e3⟩ := hagree c
    obtain ⟨h0, h1, hs⟩ := h c
    refine ⟨h0.trans ?_, h1.trans ?_, hs⟩
    · rw [e0, e1, e2, e3]; exact (final6 m c).symm
    · rw [e0, e1]; exact (final7 m c).symm

/-- The reference leaves its arguments as they were, and it declares no semaphore. -/
theorem frame_ref : Cert.quiescent_BranchMergeRefIdeal (hBranchMergeRefIdeal := Cert.BranchMergeRefIdeal.Gen.facts) := fun m ρ _ =>
  (θ_run Cert.BranchMergeRefIdeal.defs _ _).mono (fun r h => ⟨fun c => (h c).2.2, sem_eq_zero_of_no_sems (by decide) r.2⟩)
    (Cert.BranchMergeRefIdeal.Value.run (F := Ideal) m ρ)

end Cert.BranchMergeIdeal.Val
end
-- ==== Proof.MixerFRef.lean ====
module

public import proofs.«01_k».proof.Proof.Gen.MixerRowsFwdRefIdeal.Read
public import Idealize.ShloMosaic.Lib.Pipeline.ValueKit
public import proofs.«01_k».proof.Proof.MixerRef
public import proofs.«01_k».proof.Proof.Norm
public import proofs.«01_k».proof.Proof.Kit

@[expose] public section
set_option maxRecDepth 16384
noncomputable section
open Idealize.ShloMosaic Idealize.ShloMosaic.TcCoe Idealize.SL.Sem
namespace Cert.MixerRowsFwdRefIdeal.Val
open Cert.MixerRowsFwdRefIdeal Cert.MixerRowsFwdRefIdeal.Gen Cert.MixerRowsFwdRefIdeal.Read

open Cert.MixerRowsBwdRefIdeal.Val (K row lane ucol vrow vn wt mixed srow sn)
variable (z : FVec Ideal S4096x13312 .f32) (s : FVec Ideal S4096x1024 .f32) (lg lb : FVec Ideal S4x1024 .f32)
  (w : FVec Ideal S4x8x128x128 .f32) (sb : FVec Ideal S4x8x128 .f32) (cg cb : FVec Ideal S4x1024 .f32)

/-- The mixed rows, by row and lane. -/
def mixR (p : Fin 4096) (k : Fin 1024) : EReal :=
  mixed z lg lb w sb ⟨p.val / 128, by omega⟩ ⟨p.val % 128, by omega⟩ ⟨k.val / 128, by omega⟩ ⟨k.val % 128, by omega⟩

theorem read_hat (p : Fin 4096) (k : Fin 1024) : val_main_v27 (F := Ideal) z (ix2 p k) = Norm.hat K (vrow z p) k := by
  pointwise [val_main_v27, val_main_v26, val_main_v25, val_main_v24, val_main_v23, val_main_v22, val_main_v21, val_main_v20, val_main_v19,
    val_main_v18, val_main_v17, val_main_v16, val_main_v15, val_main_v14, val_main_v13, val_main_v12, val_main_v11, val_main_v10, val_main_v1,
    val_main_cst, val_main_cst_0, val_main_cst_1, val_main_cst_2, val_main_cst_3, Norm.hat, Norm.rstd, Norm.var, Norm.dev, Norm.mean]
  try rfl
theorem read_vn (p : Fin 4096) (k : Fin 1024) : val_main_v33 (F := Ideal) z lg lb (ix2 p k) = vn z lg lb p k := by
  pointwise [val_main_v33, val_main_v32, val_main_v31, val_main_v30, val_main_v29, val_main_v28, val_main_v5, val_main_v4, val_main_v3,
    val_main_v2, vn]
  rw [read_hat]
theorem read_vc (n : Fin 32) (a : Fin 128) (g : Fin 8) (l : Fin 128) :
    val_main_v34 (F := Ideal) z lg lb (ix4 n a g l) = vn z lg lb (row n a) (lane g l) := by
  pointwise [val_main_v34]
  exact read_vn _ _ _ _ _
theorem read_wt (g : Fin 8) (a b : Fin 128) : val_main_v39 (F := Ideal) w (ix3 g a b) = wt w g a b := by
  pointwise [val_main_v39, val_main_v38, val_main_v37, val_main_v36, val_main_v35, val_main_v7, val_main_v6, val_main_cst_4, wt]
  exact Kit.select_causal a b _ _
theorem read_mixed (n : Fin 32) (a : Fin 128) (g : Fin 8) (l : Fin 128) :
    val_main_v46 (F := Ideal) z lg lb w sb (ix4 n a g l) = mixed z lg lb w sb n a g l := by
  pointwise [val_main_v46, val_main_v45, val_main_v44, val_main_v43, val_main_v42, val_main_v41, val_main_v40, val_main_v9,
    val_main_v8, mixed]
  simp only [read_vc, read_wt]
/-- The first plane of the result: the rows mixed within their chunks, gated. -/
theorem read_u (p : Fin 4096) (k : Fin 1024) :
    val_main_v87 (F := Ideal) z s lg lb w sb cg cb (ix3 0 p k) = ucol z p k * mixR z lg lb w sb p k := by
  pointwise [val_main_v87, val_main_v86, val_main_v84, val_main_v48, val_main_v47, val_main_v0]
  exact congrArg _ (read_mixed _ _ _ _ _ _ _ _ _)

theorem read_shat (p : Fin 4096) (k : Fin 1024) : val_main_v70 (F := Ideal) s (ix2 p k) = Norm.hat K (srow s p) k := by
  pointwise [val_main_v70, val_main_v69, val_main_v68, val_main_v67, val_main_v66, val_main_v65, val_main_v64, val_main_v63, val_main_v62,
    val_main_v61, val_main_v60, val_main_v59, val_main_v58, val_main_v57, val_main_v56, val_main_v55, val_main_v54, val_main_v53,
    val_main_cst_5, val_main_cst_6, val_main_cst_7, val_main_cst_8, val_main_cst_9, Norm.hat, Norm.rstd, Norm.var, Norm.dev, Norm.mean]
  try rfl
theorem read_sn (p : Fin 4096) (k : Fin 1024) : val_main_v76 (F := Ideal) s cg cb (ix2 p k) = sn s cg cb p k := by
  pointwise [val_main_v76, val_main_v75, val_main_v74, val_main_v73, val_main_v72, val_main_v71, val_main_v52, val_main_v51, val_main_v50,
    val_main_v49, sn]
  rw [read_shat]
/-- The second plane of the result: the last mixer's normalised rows through the activation. -/
theorem read_s (p : Fin 4096) (k : Fin 1024) :
    val_main_v87 (F := Ideal) z s lg lb w sb cg cb (ix3 1 p k) = sn s cg cb p k * Ideal.logistic (sn s cg cb p k) := by
  pointwise [val_main_v87, val_main_v86, val_main_v85, val_main_v83, val_main_v82, val_main_v81, val_main_v80, val_main_v79, val_main_v78,
    val_main_v77, val_main_cst_10, val_main_cst_11]
  rw [read_sn]; rfl

end Cert.MixerRowsFwdRefIdeal.Val
end
-- ==== Proof.MixerFOut.lean ====
module

public import proofs.«01_k».proof.Proof.Gen.MixerRowsFwdIdeal.Frame
public import Idealize.ShloMosaic.Lib.Pipeline.ValueKit
public import proofs.«01_k».proof.Proof.MixerFRef
public import proofs.«01_k».proof.Proof.Norm
public import proofs.«01_k».proof.Proof.Kit

@[expose] public section
set_option maxRecDepth 16384
noncomputable section
open Idealize.ShloMosaic Idealize.ShloMosaic.TcCoe Idealize.SL.Sem
open Idealize.ShloMosaic.Pipeline (Dat)
namespace Cert.MixerRowsFwdIdeal.Val
open Cert.MixerRowsFwdIdeal Cert.MixerRowsFwdIdeal.Gen
open Cert.MixerRowsBwdRefIdeal.Val (K row lane ucol vrow vn wt mixed srow sn)
open Cert.MixerRowsFwdRefIdeal.Val (mixR read_u read_s)
open Cert.MixerRowsFwdRefIdeal.Read (val_main_v87)
variable (m : (ℓ : Loc nD τ sig) → Buf (Elt Ideal) ℓ) (c : Dev nD)

theorem idx : ∀ t : Fin cfg0.N, win0_0.index t = ![t.val, 3] ∧ win0_1.index t = ![t.val, 4] ∧ win0_2.index t = ![t.val, 0]
    ∧ win0_3.index t = ![3, 0, 0] ∧ win0_4.index t = ![3, 0, 0] ∧ win0_5.index t = ![3, 0, 0, 0] ∧ win0_6.index t = ![3, 0, 0, 0]
    ∧ win0_7.index t = ![3, 0, 0] ∧ win0_8.index t = ![3, 0, 0] ∧ win0_9.index t = ![0, t.val, 0] :=
  (by decide +kernel : ∀ t : Fin grid0.N, _)

/-- The packed projection of the layer's input. -/
abbrev aZ (c : Dev nD) : FVec Ideal S4096x13312 .f32 := m ((c : Thread nD τ).loc main_arg0)
/-- The rows the last mixer normalises. -/
abbrev aS (c : Dev nD) : FVec Ideal S4096x1024 .f32 := m ((c : Thread nD τ).loc main_arg1)
/-- The scales of the first normalisation, every layer. -/
abbrev aG (c : Dev nD) : FVec Ideal S4x1024 .f32 := m ((c : Thread nD τ).loc main_arg2)
/-- Its shifts. -/
abbrev aH (c : Dev nD) : FVec Ideal S4x1024 .f32 := m ((c : Thread nD τ).loc main_arg3)
/-- The mixing weights of every layer. -/
abbrev aW (c : Dev nD) : FVec Ideal S4x8x128x128 .f32 := m ((c : Thread nD τ).loc main_arg4)
/-- The mixing biases. -/
abbrev aB (c : Dev nD) : FVec Ideal S4x8x128 .f32 := m ((c : Thread nD τ).loc main_arg5)
/-- The scales of the second normalisation. -/
abbrev aE (c : Dev nD) : FVec Ideal S4x1024 .f32 := m ((c : Thread nD τ).loc main_arg6)
/-- Its shifts. -/
abbrev aF (c : Dev nD) : FVec Ideal S4x1024 .f32 := m ((c : Thread nD τ).loc main_arg7)

theorem entry_z : V m c main_arg0 = aZ m c := by entry_read; rfl
theorem entry_s : V m c main_arg1 = aS m c := by entry_read; rfl
theorem entry_w : V m c main_arg4 = aW m c := by entry_read; rfl
/-- The layers' rows enter the region with a unit axis between. -/
theorem entry_g : V m c main_v0 = fun i => aG m c (ix2 (i 0) (i 2)) := by
  show StableHlo.after hostOps0 (fun b => m (c, b)) (Proc.devRef .tc main_v0) = _
  entry_read; funext i; idx_vars i; pointwise []
theorem entry_h : V m c main_v1 = fun i => aH m c (ix2 (i 0) (i 2)) := by
  show StableHlo.after hostOps0 (fun b => m (c, b)) (Proc.devRef .tc main_v1) = _
  entry_read; funext i; idx_vars i; pointwise []
theorem entry_b : V m c main_v2 = fun i => aB m c (ix3 (i 0) (i 1) (i 2)) := by
  show StableHlo.after hostOps0 (fun b => m (c, b)) (Proc.devRef .tc main_v2) = _
  entry_read; funext i; idx_vars i; pointwise []
theorem entry_e : V m c main_v3 = fun i => aE m c (ix2 (i 0) (i 2)) := by
  show StableHlo.after hostOps0 (fun b => m (c, b)) (Proc.devRef .tc main_v3) = _
  entry_read; funext i; idx_vars i; pointwise []
theorem entry_f : V m c main_v4 = fun i => aF m c (ix2 (i 0) (i 2)) := by
  show StableHlo.after hostOps0 (fun b => m (c, b)) (Proc.devRef .tc main_v4) = _
  entry_read; funext i; idx_vars i; pointwise []

variable (t : Fin cfg0.N)

/-- The row of the arrays a block's row is. -/
abbrev brw (a : Fin 512) : Fin 4096 := ⟨t.val * 512 + a.val, by have : t.val < 8 := lt_of_lt_of_eq t.isLt N_0; omega⟩

theorem blk_u (a : Fin 512) (k : Fin 1024) : iblk m c 0 t (ix2 a k) = ucol (aZ m c) (brw t a) k := by blk_point [iblk, entry_z, idx t]
theorem blk_v (a : Fin 512) (k : Fin 1024) : iblk m c 1 t (ix2 a k) = vrow (aZ m c) (brw t a) k := by blk_point [iblk, entry_z, idx t]
theorem blk_s (a : Fin 512) (k : Fin 1024) : iblk m c 2 t (ix2 a k) = srow (aS m c) (brw t a) k := by blk_point [iblk, entry_s, idx t]
theorem blk_g (x y : Fin 1) (k : Fin 1024) : iblk m c 3 t (ix3 x y k) = aG m c (ix2 3 k) := by
  obtain ⟨H, e⟩ : ∃ H, V m c main_v0 = H := ⟨_, rfl⟩
  refine Eq.trans ?_ (congrFun (entry_g m c) (ix3 3 0 k))
  rw [e]
  blk_point [iblk, e, idx t]
theorem blk_h (x y : Fin 1) (k : Fin 1024) : iblk m c 4 t (ix3 x y k) = aH m c (ix2 3 k) := by
  obtain ⟨H, e⟩ : ∃ H, V m c main_v1 = H := ⟨_, rfl⟩
  refine Eq.trans ?_ (congrFun (entry_h m c) (ix3 3 0 k))
  rw [e]
  blk_point [iblk, e, idx t]
theorem blk_w (x : Fin 1) (g : Fin 8) (a b : Fin 128) : iblk m c 5 t (ix4 x g a b) = aW m c (ix4 3 g a b) := by blk_point [iblk, entry_w, idx t]
theorem blk_b (x : Fin 1) (g : Fin 8) (a : Fin 128) (y : Fin 1) : iblk m c 6 t (ix4 x g a y) = aB m c (ix3 3 g a) := by
  obtain ⟨H, e⟩ : ∃ H, V m c main_v2 = H := ⟨_, rfl⟩
  refine Eq.trans ?_ (congrFun (entry_b m c) (ix4 3 g a 0))
  rw [e]
  blk_point [iblk, e, idx t]
theorem blk_e (x y : Fin 1) (k : Fin 1024) : iblk m c 7 t (ix3 x y k) = aE m c (ix2 3 k) := by
  obtain ⟨H, e⟩ : ∃ H, V m c main_v3 = H := ⟨_, rfl⟩
  refine Eq.trans ?_ (congrFun (entry_e m c) (ix3 3 0 k))
  rw [e]
  blk_point [iblk, e, idx t]
theorem blk_f (x y : Fin 1) (k : Fin 1024) : iblk m c 8 t (ix3 x y k) = aF m c (ix2 3 k) := by
  obtain ⟨H, e⟩ : ∃ H, V m c main_v4 = H := ⟨_, rfl⟩
  refine Eq.trans ?_ (congrFun (entry_f m c) (ix3 3 0 k))
  rw [e]
  blk_point [iblk, e, idx t]

/-- One row of a block of rows. -/
abbrev brow (v : FVec Ideal S512x1024 .f32) (a : Fin 512) (k : Fin 1024) : EReal := v (ix2 a k)

theorem vn_at (v : FVec Ideal S512x1024 .f32) (g h : FVec Ideal S1x1x1024 .f32) (a : Fin 512) (k : Fin 1024) :
    k0_pay2 (F := Ideal) v g h (ix2 a k) = Norm.hat K (brow v a) k * g (ix3 0 0 k) + h (ix3 0 0 k) := by
  pointwise [k0_pay2, Norm.hat, Norm.rstd, Norm.var, Norm.dev, Norm.mean]
  try rfl
/-- A row's normalisation through the activation, in terms of the normalised row. -/
def act (y : EReal) : EReal := y * Ideal.logistic y
theorem sn_at (v : FVec Ideal S512x1024 .f32) (g h : FVec Ideal S1x1x1024 .f32) (x : Fin 1) (a : Fin 512) (k : Fin 1024) :
    k0_pay1 (F := Ideal) v (k0_pay62 v) g h (ix3 x a k) = act (Norm.hat K (brow v a) k * g (ix3 0 0 k) + h (ix3 0 0 k)) := by
  pointwise [k0_pay1, k0_pay62, act, Norm.hat, Norm.rstd, Norm.var, Norm.dev, Norm.mean]
  try rfl
/-- The causal weights of a group. -/
theorem wt_at (w : FVec Ideal S1x1x128x128 .f32) (a b : Fin 128) :
    k0_pay4 (F := Ideal) w (ix2 a b) = if b.val ≤ a.val then w (ix4 0 0 a b) else 0 := by
  pointwise [k0_pay4, k0_pay3]
  exact Kit.select_causal a b _ _
theorem bias_at (b : FVec Ideal S1x1x128x1 .f32) (a : Fin 128) : k0_pay5 (F := Ideal) b (ix2 a 0) = b (ix4 0 0 a 0) := by
  pointwise [k0_pay5]
theorem mix_at (w vb : FVec Ideal S128x128 .bf16) (b : FVec Ideal S128x1 .f32) (u : FVec Ideal S128x128 .f32) (x : Fin 1) (a l : Fin 128) :
    k0_pay7 (F := Ideal) w b vb u (ix3 x a l) = u (ix2 a l) * ((∑ k : Fin 128, w (ix2 a k) * vb (ix2 k l)) + b (ix2 a 0)) := by
  pointwise [k0_pay7]

/-- A square of the gated half. -/
theorem ld_u (o1 o2 : ℕ) (inb : ∀ a, (![o1, o2] : Fin 2 → ℕ) a + (![128, 128] : Fin 2 → ℕ) a ≤ S512x1024.size a) (a l : Fin 128)
    (P : Fin 512) (Q : Fin 1024) (hP : P.val = o1 + a.val) (hQ : Q.val = o2 + l.val) :
    View.ld (S := S512x1024) (iblk m c 0 t) (Rect.unit ![o1, o2] ![128, 128] inb) (ix2 a l) = ucol (aZ m c) (brw t P) Q := by
  refine Eq.trans (Kit.ld_at (S := S512x1024) (iblk m c 0 t) ![o1, o2] ![128, 128] inb (ix2 a l) (ix2 P Q) ?_) (blk_u m c t P Q)
  intro i
  match i with
  | 0 => exact hP
  | 1 => exact hQ
/-- One group of the mixing weights. -/
theorem ld_w (g : ℕ) (inb : ∀ a, (![0, g, 0, 0] : Fin 4 → ℕ) a + (![1, 1, 128, 128] : Fin 4 → ℕ) a ≤ S1x8x128x128.size a) (a b : Fin 128)
    (G : Fin 8) (hG : G.val = g) :
    View.ld (S := S1x8x128x128) (iblk m c 5 t) (Rect.unit ![0, g, 0, 0] ![1, 1, 128, 128] inb) (ix4 0 0 a b) = aW m c (ix4 3 G a b) := by
  refine Eq.trans (Kit.ld_at (S := S1x8x128x128) (iblk m c 5 t) ![0, g, 0, 0] ![1, 1, 128, 128] inb (ix4 0 0 a b) (ix4 0 G a b) ?_) (blk_w m c t 0 G a b)
  intro i
  match i with
  | 0 => rfl
  | 1 => exact hG
  | 2 => exact (Nat.zero_add _).symm
  | 3 => exact (Nat.zero_add _).symm
/-- One group of the mixing biases. -/
theorem ld_b (g : ℕ) (inb : ∀ a, (![0, g, 0, 0] : Fin 4 → ℕ) a + (![1, 1, 128, 1] : Fin 4 → ℕ) a ≤ S1x8x128x1.size a) (a : Fin 128)
    (G : Fin 8) (hG : G.val = g) :
    View.ld (S := S1x8x128x1) (iblk m c 6 t) (Rect.unit ![0, g, 0, 0] ![1, 1, 128, 1] inb) (ix4 0 0 a 0) = aB m c (ix3 3 G a) := by
  refine Eq.trans (Kit.ld_at (S := S1x8x128x1) (iblk m c 6 t) ![0, g, 0, 0] ![1, 1, 128, 1] inb (ix4 0 0 a 0) (ix4 0 G a 0) ?_) (blk_b m c t 0 G a 0)
  intro i
  match i with
  | 0 => rfl
  | 1 => exact hG
  | 2 => exact (Nat.zero_add _).symm
  | 3 => rfl

/-- The block's normalised half. -/
abbrev vnB : FVec Ideal S512x1024 .bf16 := k0_pay2 (iblk m c 1 t) (iblk m c 3 t) (iblk m c 4 t)
theorem vnB_at (a : Fin 512) (k : Fin 1024) : vnB m c t (ix2 a k) = vn (aZ m c) (aG m c) (aH m c) (brw t a) k := by
  refine (vn_at _ _ _ a k).trans ?_
  have e : brow (iblk m c 1 t) a = vrow (aZ m c) (brw t a) := funext (blk_v m c t a)
  simp only [e, blk_g, blk_h, vn]
theorem vnB_slice (o1 o2 : ℕ) (hs : S512x1024.Slices ![o1, o2] S128x128) (a l : Fin 128) (P : Fin 512) (Q : Fin 1024)
    (hP : P.val = o1 + a.val) (hQ : Q.val = o2 + l.val) :
    extractStridedSlice S128x128 ![o1, o2] (vnB m c t) hs (ix2 a l) = vn (aZ m c) (aG m c) (aH m c) (brw t P) Q := by
  rw [← vnB_at m c t P Q]; refine congrArg (vnB m c t) (funext fun i => Fin.ext ?_)
  match i with
  | 0 => exact hP.symm
  | 1 => exact hQ.symm

theorem lane_self (k : Fin 1024) (hg hl) : lane ⟨k.val / 128, hg⟩ ⟨k.val % 128, hl⟩ = k := by ext; show k.val / 128 * 128 + k.val % 128 = _; omega
theorem row_brw (a P : Fin 512) (r : Fin 128) (o : ℕ) (ho : o % 128 = 0) (b : Fin 128) (h1 : a.val = o + r.val) (hP : P.val = o + b.val) (h) :
    row ⟨(brw t a).val / 128, h⟩ b = brw t P := by
  have : t.val < 8 := lt_of_lt_of_eq t.isLt N_0
  ext; show (t.val * 512 + a.val) / 128 * 128 + b.val = t.val * 512 + P.val; omega
theorem mod_brw (a : Fin 512) (r : Fin 128) (o : ℕ) (ho : o % 128 = 0) (h1 : a.val = o + r.val) (h) :
    (⟨(brw t a).val % 128, h⟩ : Fin 128) = r := by
  ext; show (t.val * 512 + a.val) % 128 = _; omega

/-- What the first plane holds: the mixed rows, gated. -/
def planeU (p : Fin 4096) (k : Fin 1024) : EReal := ucol (aZ m c) p k * mixR (aZ m c) (aG m c) (aH m c) (aW m c) (aB m c) p k
/-- What the second plane holds. -/
def planeS (p : Fin 4096) (k : Fin 1024) : EReal := act (sn (aS m c) (aE m c) (aF m c) p k)

/-- One square of the first plane. -/
theorem core_u (o1 o2 g : ℕ) (ho : o1 % 128 = 0) (hg : o2 = 128 * g)
    (i0 : ∀ a, (![o1, o2] : Fin 2 → ℕ) a + (![128, 128] : Fin 2 → ℕ) a ≤ S512x1024.size a)
    (i5 : ∀ a, (![0, g, 0, 0] : Fin 4 → ℕ) a + (![1, 1, 128, 128] : Fin 4 → ℕ) a ≤ S1x8x128x128.size a)
    (i6 : ∀ a, (![0, g, 0, 0] : Fin 4 → ℕ) a + (![1, 1, 128, 1] : Fin 4 → ℕ) a ≤ S1x8x128x1.size a)
    (hs : S512x1024.Slices ![o1, o2] S128x128) (x : S1x128x128.Idx) (a : Fin 512) (k : Fin 1024)
    (h1 : a.val = o1 + (x 1).val) (h2 : k.val = o2 + (x 2).val) :
    k0_pay7 (F := Ideal) (k0_pay4 (View.ld (S := S1x8x128x128) (iblk m c 5 t) (Rect.unit ![0, g, 0, 0] ![1, 1, 128, 128] i5)))
      (k0_pay5 (View.ld (S := S1x8x128x1) (iblk m c 6 t) (Rect.unit ![0, g, 0, 0] ![1, 1, 128, 1] i6)))
      (extractStridedSlice S128x128 ![o1, o2] (vnB m c t) hs)
      (View.ld (S := S512x1024) (iblk m c 0 t) (Rect.unit ![o1, o2] ![128, 128] i0)) x = planeU m c (brw t a) k := by
  obtain ⟨x0, r, l, rfl⟩ : ∃ x0 r l, x = ix3 x0 r l := ⟨x 0, x 1, x 2, by funext i; match i with | 0 => rfl | 1 => rfl | 2 => rfl⟩
  replace h1 : a.val = o1 + r.val := h1
  replace h2 : k.val = o2 + l.val := h2
  have hG : k.val / 128 = g := by omega
  refine (mix_at _ _ _ _ _ _ _).trans ?_
  unfold planeU mixR mixed wt
  simp only [lane_self, mod_brw t a r o1 ho h1]
  congr 1
  · exact ld_u m c t o1 o2 i0 r l a k h1 h2
  · congr 1
    · refine Finset.sum_congr rfl fun b _ => ?_
      rw [wt_at, ld_w m c t g i5 r b ⟨k.val / 128, by omega⟩ hG, show (t.val * 512 + a.val) % 128 = r.val by omega,
        vnB_slice m c t o1 o2 hs b l ⟨o1 + b.val, by omega⟩ k rfl h2, row_brw t a ⟨o1 + b.val, by omega⟩ r o1 ho b h1 rfl, mul_comm]
    · rw [bias_at]
      exact ld_b m c t g i6 r ⟨k.val / 128, by omega⟩ hG

set_option maxHeartbeats 4000000 in
/-- The two planes a point leaves. -/
theorem point9 (y) (a : Fin 512) (k : Fin 1024) (ha : a.val = y 1) (hk : k.val = y 2) :
    outsAt0 m c t y = if (y 0).val = 0 then planeU m c (brw t a) k else planeS m c (brw t a) k := by
  unfold outsAt0
  frame_out
  canon_tiles x h using (View.cover_of_tiledBy _ ![1, 128, 128] (by sl_kernel_rfl) _)
  case piece0 =>
    rw [if_neg (show ¬ (y 0).val = 0 by rw [h0]; show ¬ 1 + (x 0).val = 0; omega)]
    idx_vars x
    obtain rfl : a = x1 := Fin.ext (ha.trans h1)
    obtain rfl : k = x2 := Fin.ext (hk.trans h2)
    refine (sn_at _ _ _ _ _ _).trans ?_
    have e : brow (iblk m c 2 t) a = srow (aS m c) (brw t a) := funext (blk_s m c t a)
    simp only [e, blk_e, blk_f, planeS, sn]
  all_goals
    rw [if_pos (show (y 0).val = 0 by rw [h0]; have := (x 0).isLt; exact Nat.lt_one_iff.mp this)]
    replace h1 := ha.trans h1
    replace h2 := hk.trans h2
    exact core_u m c t _ _ _ (by decide) (by decide) _ _ _ (by decide) x a k (by omega) (by omega)

/-- The two planes of the array the steps leave. -/
def planes : S3x4096x1024.Idx → EReal := fun i => if (i 0).val = 0 then planeU m c (i 1) (i 2) else planeS m c (i 1) (i 2)
theorem step9 (z : S2x512x1024.Idx) (j : S3x4096x1024.Idx) (h0 : (j 0).val = z 0) (h1 : (j 1).val = t.val * 512 + z 1)
    (h2 : (j 2).val = z 2) : outsAt0 m c t z = planes m c j := by
  refine (point9 m c t z (z 1) (j 2) rfl h2).trans ?_
  unfold planes
  rw [show j 1 = brw t (z 1) from Fin.ext h1, h0]

/-- An element of a step's block sits in the array at the block's rows. -/
theorem emb9 (y : (win0_9.xblock (grid0.coords t)).Idx) (a : Fin 3) :
    ((win0_9.rect t).emb y a).val = win0_9.index t a * S2x512x1024.size a + (win0_9.xinj (grid0.coords t) y a).val :=
  Pipeline.Window.rect_emb_val win0_9 t y a

theorem final9 (i : S3x4096x1024.Idx) (hi : (i 0).val / 2 = 0) : (dats m 0 c).arrAt 9 (cfgs 0).N i = planes m c i := by
  refine ((dats m 0 c).arrAt_apply_of_coversWhere 9 (planes m c) (P := fun i : S3x4096x1024.Idx => (i 0).val / 2 = 0) (fun β => β (0 : Fin 3) = 0) (by decide +kernel) (fun t hf y => ?_) (fun j => ?_) i).trans (if_pos hi)
  · refine (cast_eq _ _).trans ?_
    rw [after0_9]
    have e := (idx t).2.2.2.2.2.2.2.2.2
    refine step9 m c t _ _ ((emb9 t y 0).trans ?_) ((emb9 t y 1).trans ?_) ((emb9 t y 2).trans ?_)
    · rw [e]; exact Nat.zero_add _
    · rw [e]; rfl
    · rw [e]; exact Nat.zero_add _
  · blk_simp [Pipeline.Window.cell_apply]

/-- What the program returns is the first two planes of that array. -/
theorem tail (W : Valuation τ sig (Elt Ideal)) :
    StableHlo.after (List.flatten [hostOps1]) W (Proc.devRef .tc main_v6)
      = extractStridedSlice S2x4096x1024 ![0, 0, 0] (W (Proc.devRef .tc main_v5)) slices_S3x4096x1024_S2x4096x1024_0_0_0 := by
  show StableHlo.after hostOps1 W (Proc.devRef .tc main_v6) = _
  entry_read
  try rfl

/-- The result: both planes as the reference leaves them. -/
theorem result : Pipeline.afterTail₀ cfgs (dats m) 0 (V0 m) [hostOps1] c main_v6
    = val_main_v87 (F := Ideal) (aZ m c) (aS m c) (aG m c) (aH m c) (aW m c) (aB m c) (aE m c) (aF m c) := by
  unfold Pipeline.afterTail₀
  refine (tail _).trans ?_
  have e : Pipeline.withArrays (cfgs 0).spec c (V0 m c) (fun w => (dats m 0 c).arrAt w (cfgs 0).N) (Proc.devRef .tc main_v5)
      = (dats m 0 c).arrAt 9 (cfgs 0).N := (dats m 0 c).withArrays_arrAt sharedIn0 (V0 m c) (A_eq m c) 9
  rw [e]
  funext i
  obtain ⟨p, q, k, rfl⟩ : ∃ (p : Fin 2) (q : Fin 4096) (k : Fin 1024), i = ix3 p q k := ⟨i 0, i 1, i 2, by funext a; match a with | 0 => rfl | 1 => rfl | 2 => rfl⟩
  have s : extractStridedSlice S2x4096x1024 ![0, 0, 0] ((dats m 0 c).arrAt 9 (cfgs 0).N) slices_S3x4096x1024_S2x4096x1024_0_0_0 (ix3 p q k)
      = (dats m 0 c).arrAt 9 (cfgs 0).N (ix3 (⟨p.val, by omega⟩ : Fin 3) q k) :=
    congrArg ((dats m 0 c).arrAt 9 (cfgs 0).N) (funext fun a => Fin.ext (by
      match a with
      | 0 => exact Nat.zero_add _
      | 1 => exact Nat.zero_add _
      | 2 => exact Nat.zero_add _))
  refine s.trans ((final9 m c _ (show p.val / 2 = 0 by omega)).trans ?_)
  match p with
  | 0 => exact (if_pos rfl).trans (read_u (aZ m c) (aS m c) (aG m c) (aH m c) (aW m c) (aB m c) (aE m c) (aF m c) q k).symm
  | 1 => exact (if_neg (show ¬ 1 = 0 by decide)).trans (read_s (aZ m c) (aS m c) (aG m c) (aH m c) (aW m c) (aB m c) (aE m c) (aF m c) q k).symm

end Cert.MixerRowsFwdIdeal.Val
end
-- ==== Proof.MixerF.lean ====
module
public import proofs.«01_k».proof.Defs
public import proofs.«01_k».proof.Proof.MixerFOut
public import proofs.«01_k».proof.Proof.Gen.MixerRowsFwdRefIdeal.Run
@[expose] public section
set_option maxRecDepth 16384
noncomputable section
open Idealize.ShloMosaic Idealize.SL.Sem Idealize.ShloMosaic.StableHlo

namespace Cert.MixerRowsFwdRefIdeal.Read
open Cert.MixerRowsFwdRefIdeal

/-- The reference's run with each result at its named stage instead of the composed term. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v87) = val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c =>
    ⟨(h c).1.trans (val_main_v87_eq m c),
      (h c).2⟩)
    (Value.run (F := Ideal) m ρ)

end Cert.MixerRowsFwdRefIdeal.Read

namespace Cert.MixerRowsFwdIdeal.Val

set_option maxHeartbeats 1600000 in
/-- The mixing of the rows within their chunks and the normalised rows through the activation: the same two planes on both sides. -/
theorem algebraic : Cert.algebraic_MixerRowsFwdIdeal_MixerRowsFwdRefIdeal (hMixerRowsFwdIdeal := Cert.MixerRowsFwdIdeal.Gen.facts)
    (hMixerRowsFwdRefIdeal := Cert.MixerRowsFwdRefIdeal.Gen.facts) := by
  intro m g m' g' hpre hagree
  refine ⟨fun c => Pipeline.afterTail₀ cfgs (Gen.dats m) 0 (Gen.V0 m) [Gen.hostOps1] c main_v6, ?_, ?_⟩
  · exact θ_run_mono (θ_run_and (Gen.run_main m g) (Gen.unchanged m g)) fun r h c =>
      ⟨(h.1 c).2 main_v6 (Pipeline.mem_restRefs_of main_v6 (by decide) (by decide)), h.2 c⟩
  · refine (θ_run Cert.MixerRowsFwdRefIdeal.defs _ _).mono (fun r h c => ?_) (Cert.MixerRowsFwdRefIdeal.Read.run_named m' g')
    obtain ⟨e0, e1, e2, e3, e4, e5, e6, e7⟩ := hagree c
    obtain ⟨h0, hs⟩ := h c
    refine ⟨h0.trans ?_, hs⟩
    · rw [e0, e1, e2, e3, e4, e5, e6, e7]; exact (result m c).symm

/-- The reference leaves its arguments as they were, and it declares no semaphore. -/
theorem frame_ref : Cert.quiescent_MixerRowsFwdRefIdeal (hMixerRowsFwdRefIdeal := Cert.MixerRowsFwdRefIdeal.Gen.facts) := fun m ρ _ =>
  (θ_run Cert.MixerRowsFwdRefIdeal.defs _ _).mono (fun r h => ⟨fun c => (h c).2, sem_eq_zero_of_no_sems (by decide) r.2⟩)
    (Cert.MixerRowsFwdRefIdeal.Value.run (F := Ideal) m ρ)

end Cert.MixerRowsFwdIdeal.Val
end
-- ==== Proof.ShortFRef.lean ====
module

public import proofs.«01_k».proof.Proof.Gen.ShortConvFwdRefIdeal.Read
public import Idealize.ShloMosaic.Lib.Pipeline.ValueKit
public import proofs.«01_k».proof.Proof.Conv

@[expose] public section
set_option maxRecDepth 16384
noncomputable section
open Idealize.ShloMosaic Idealize.ShloMosaic.TcCoe Idealize.SL.Sem
namespace Cert.ShortConvFwdRefIdeal.Val
open Cert.ShortConvFwdRefIdeal Cert.ShortConvFwdRefIdeal.Gen Cert.ShortConvFwdRefIdeal.Read

variable (y : FVec Ideal S3x4096x1024 .f32) (z : FVec Ideal S4096x13312 .f32) (w : FVec Ideal S4x3x1024 .f32)

/-- The convolution's argument below thirty-two rows of zeros. -/
def P (q : Fin 1024) (j : ℕ) : EReal :=
  if h : 32 ≤ j ∧ j - 32 < 4096 then z (ix2 ⟨j - 32, h.2⟩ ⟨1024 + q.val, by omega⟩) * z (ix2 ⟨j - 32, h.2⟩ ⟨2048 + q.val, by omega⟩) else 0

/-- The rows the gather names. -/
theorem read_idx (k : Fin 3) (t : Fin 4096) : val_main_v20 (F := Ideal) (ix3 k t 0) = BitVec.ofNat 32 (k.val + t.val) := by
  pointwise [val_main_v20, val_main_v19, val_main_v18, val_main_v17, val_main_v16, val_main_v15, val_main_v14, val_main_v13, val_main_v12,
    val_main_v11, val_main_v10, val_main_v9, val_main_v8, val_main_c]
  exact Conv.row_word k.val t.val _ (by omega)

theorem read_x (k : Fin 3) (t : Fin 4096) (q : Fin 1024) : val_main_v21 (F := Ideal) z (ix3 k t q) = P z q (30 + k.val + t.val) := by
  refine (Conv.gather_shift (K := 3) (T := 4096) (n := 4098) (C := 1024) _ read_idx (by decide) (by decide) _ _ k t q).trans ?_
  pointwise [val_main_v7, val_main_v6, val_main_cst, val_main_v5, val_main_v1, val_main_v2, P]
  have hk := k.isLt
  by_cases h : k.val + t.val < 2
  · rw [dif_pos h, dif_neg (by omega)]
  · rw [dif_neg h, dif_pos (by omega)]
    have e : 30 + k.val + t.val - 32 = k.val + t.val - 2 := by omega
    simp only [e]

/-- The gated convolution. -/
def conv (t : Fin 4096) (q : Fin 1024) : EReal :=
  z (ix2 t ⟨q.val, by omega⟩) * ∑ k : Fin 3, w (ix3 3 k q) * P z q (30 + k.val + t.val)

/-- The result: the two planes the call is handed, and the gated convolution as the third. -/
theorem read_rows (a : Fin 3) (t : Fin 4096) (q : Fin 1024) :
    val_main_v30 (F := Ideal) y z w (ix3 a t q) = if a = 2 then conv z w t q else y (ix3 a t q) := by
  match a with
  | 0 => pointwise [val_main_v30, val_main_v29, val_main_v27]
  | 1 => pointwise [val_main_v30, val_main_v29, val_main_v27]
  | 2 => rw [if_pos rfl]
         pointwise [val_main_v30, val_main_v29, val_main_v28, val_main_v26, val_main_v25, val_main_v24, val_main_v23, val_main_v22, val_main_v4, val_main_v3, val_main_v0, val_main_cst_1, read_x, conv]

end Cert.ShortConvFwdRefIdeal.Val
end
-- ==== Proof.ShortFOut.lean ====
module

public import proofs.«01_k».proof.Proof.Gen.ShortConvFwdIdeal.Frame
public import Idealize.ShloMosaic.Lib.Pipeline.ValueKit
public import proofs.«01_k».proof.Proof.ShortFRef
public import proofs.«01_k».proof.Proof.Kit

@[expose] public section
set_option maxRecDepth 16384
noncomputable section
open Idealize.ShloMosaic Idealize.ShloMosaic.TcCoe Idealize.SL.Sem
open Idealize.ShloMosaic.Pipeline (Dat)
namespace Cert.ShortConvFwdIdeal.Val
open Cert.ShortConvFwdIdeal Cert.ShortConvFwdIdeal.Gen
open Cert.ShortConvFwdRefIdeal.Val (P conv read_rows)
open Cert.ShortConvFwdRefIdeal.Read (val_main_v30)
variable (m : (ℓ : Loc nD τ sig) → Buf (Elt Ideal) ℓ) (c : Dev nD)

theorem idx : ∀ t : Fin cfg0.N, win0_0.index t = ![0, t.val] ∧ win0_1.index t = ![0, 8 + t.val]
    ∧ win0_2.index t = ![0, 16 + t.val] ∧ win0_3.index t = ![3, 0, t.val] ∧ win0_4.index t = ![2, 0, t.val] :=
  (by decide +kernel : ∀ t : Fin grid0.N, _)

/-- The mixers' results, of which the call fills in one plane. -/
abbrev aY (c : Dev nD) : FVec Ideal S3x4096x1024 .f32 := m ((c : Thread nD τ).loc main_arg0)
/-- The packed projection of the layer's input. -/
abbrev aZ (c : Dev nD) : FVec Ideal S4096x13312 .f32 := m ((c : Thread nD τ).loc main_arg1)
/-- The taps of every layer. -/
abbrev aW (c : Dev nD) : FVec Ideal S4x3x1024 .f32 := m ((c : Thread nD τ).loc main_arg2)

theorem entry_y : V m c main_v1 = aY m c := by entry_read; rfl
theorem entry_z : V m c main_arg1 = aZ m c := by entry_read; rfl
theorem entry_w : V m c main_arg2 = aW m c := by entry_read; rfl

/-- The column of the arrays a point's lane is. -/
def col (t : Fin cfg0.N) (l : Fin 128) : Fin 1024 := ⟨t.val * 128 + l.val, by have := t.isLt; have h : cfg0.N = 8 := rfl; omega⟩

theorem sum_three (w : Fin 3 → EReal) (f : ℕ → EReal) (r : ℕ) :
    ∑ k : Fin 3, w k * f (30 + k.val + r) = w 0 * f (30 + r) + w 1 * f (31 + r) + w 2 * f (32 + r) :=
  Fin.sum_univ_three (fun k => w k * f (30 + k.val + r))

/-- The taps of layer 3 that a point reads. -/
theorem blk_w (t : Fin cfg0.N) (k : Fin 3) (l : Fin 128) : iblk m c 3 t (ix3 0 k l) = aW m c (ix3 3 k (col t l)) := by
  have hc : (col t l).val = t.val * 128 + l.val := rfl
  blk_point [iblk, entry_w, idx t]
/-- The gate a point reads. -/
theorem blk_g (t : Fin cfg0.N) (r : Fin 4096) (l : Fin 128) : iblk m c 0 t (ix2 r l) = aZ m c (ix2 r ⟨(col t l).val, by omega⟩) := by
  have hc : (col t l).val = t.val * 128 + l.val := rfl
  blk_point [iblk, entry_z, idx t]

/-- The scratch that holds the convolution's argument, at any 256 rows. -/
theorem read_p (t : Fin cfg0.N) (r0 : ℕ) (inb) :
    (View.whole cc0_scratch0).readCov (Val := Elt Ideal)
      [⟨Rect.unit (s := S4128x128) ![32, 0] ![4096, 128] inb_S4128x128_S4096x128_32_0, k0_pay3 (iblk m c 1 t) (iblk m c 2 t)⟩,
        ⟨Rect.unit (s := S4128x128) ![0, 0] ![32, 128] inb_S4128x128_S32x128_0_0, k0_pay2 (F := Ideal)⟩]
      (Rect.unit (s := S4128x128) ![r0, 0] ![256, 128] inb).toLoadRect
      = fun i => P (aZ m c) (col t (i 1)) (r0 + (i 0).val) := by
  funext i
  refine (congrFun (View.readCov_eq_canon' _ _ _) _).trans ?_
  canon_tiles x h using (View.cover_of_tiledBy _ ![32, 128] (by sl_kernel_rfl) _)
  case piece0 =>
    have e0 : r0 + (i 0).val = 32 + (x 0).val := by simpa [Rect.idx_unit_val] using h0
    have e1 : i 1 = x 1 := Fin.ext (by simpa [Rect.idx_unit_val] using h1)
    have hc : (col t (x 1)).val = t.val * 128 + (x 1).val := rfl
    unfold P
    rw [e0, dif_pos (by omega), e1]
    open_payloads
    pointwise []
    blk_point [iblk, entry_z, idx t]
  case piece1 =>
    have e0 : r0 + (i 0).val = (x 0).val := by simpa [Rect.idx_unit_val] using h0
    unfold P
    rw [e0, dif_neg (by omega)]
    open_payloads
    pointwise []

set_option maxHeartbeats 2000000 in
/-- The plane a point fills in. -/
theorem point4 (t : Fin cfg0.N) (y) (r : Fin 4096) (l : Fin 128) (hr : r.val = y 1) (hl : l.val = y 2) :
    outsAt0 m c t y = conv (aZ m c) (aW m c) r (col t l) := by
  unfold outsAt0
  frame_out
  canon_tiles x h
  all_goals
    repeat rw [read_p m c t]
    unfold conv
    generalize P (aZ m c) = p
    obtain ⟨r, hr0⟩ := r
    obtain rfl := hr.trans h1
    obtain rfl : l = x 2 := Fin.ext (hl.trans h2)
    clear hr hl h0 h1 h2
    idx_vars x
    open_payloads
    pointwise []
    simp only [blk_w, blk_g]
    rw [sum_three (fun k => aW m c (ix3 3 k (col t x2))) (p (col t x2))]
    try simp only [← Nat.add_assoc, Nat.reduceAdd]

/-- The result: the planes handed in, and the gated convolution as the third. -/
theorem final4 : (dats m 0 c).arrAt 4 (cfgs 0).N = val_main_v30 (F := Ideal) (aY m c) (aZ m c) (aW m c) := by
  refine (dats m 0 c).arrAt_eq_of_coversWhere_of_agree 4 _ (fun β => β (0 : Fin 3) = 2) (by decide +kernel) (fun t hf y => ?_) (fun j hj => ?_)
  · blk_simp
    rw [after0_4]
    have h0 : ((win0_4.blk t).view.emb y 0).val = 2 := by blk_simp [idx t]
    have h1 : ((win0_4.blk t).view.emb y 1).val = (y 1).val := by blk_simp [idx t]
    have h2 : ((win0_4.blk t).view.emb y 2).val = t.val * 128 + (y 2).val := by blk_simp [idx t]
    generalize (win0_4.blk t).view.emb y = j at h0 h1 h2 ⊢
    idx_vars j
    obtain rfl : j0 = 2 := Fin.ext h0
    obtain rfl : j2 = col t (y 2) := Fin.ext h2
    exact (point4 m c t y j1 (y 2) h1 rfl).trans ((read_rows (aY m c) (aZ m c) (aW m c) _ _ _).trans (if_pos rfl)).symm
  · blk_simp [Pipeline.Window.cell_apply] at hj
    rw [Nat.div_one] at hj
    rw [A_eq]
    generalize e : (cfg0.win 4).arr.view.emb j = i
    have h0 : ¬ (i (0 : Fin 3)).val = 2 := by rw [← e]; exact hj
    clear e hj
    revert h0 i
    show ∀ i : S3x4096x1024.Idx, ¬ (i 0).val = 2 → V m c main_v1 i = val_main_v30 (F := Ideal) (aY m c) (aZ m c) (aW m c) i
    intro i h0
    idx_vars i
    rw [entry_y]
    exact ((read_rows (aY m c) (aZ m c) (aW m c) _ _ _).trans (if_neg fun e => h0 (congrArg Fin.val e))).symm

end Cert.ShortConvFwdIdeal.Val
end
-- ==== Proof.ShortF.lean ====
module
public import proofs.«01_k».proof.Defs
public import proofs.«01_k».proof.Proof.ShortFOut
public import proofs.«01_k».proof.Proof.Gen.ShortConvFwdRefIdeal.Run
@[expose] public section
set_option maxRecDepth 16384
noncomputable section
open Idealize.ShloMosaic Idealize.SL.Sem Idealize.ShloMosaic.StableHlo

namespace Cert.ShortConvFwdRefIdeal.Read
open Cert.ShortConvFwdRefIdeal

/-- The reference's run with each result at its named stage instead of the composed term. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30) = val_main_v30 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨(h c).1.trans (val_main_v30_eq _ _ _),
      (h c).2⟩)
    (Value.run (F := Ideal) m ρ)

end Cert.ShortConvFwdRefIdeal.Read

namespace Cert.ShortConvFwdIdeal.Val

set_option maxHeartbeats 1600000 in
/-- The short gated causal convolution: the same array on both sides, the other planes as they were handed in. -/
theorem algebraic : Cert.algebraic_ShortConvFwdIdeal_ShortConvFwdRefIdeal (hShortConvFwdIdeal := Cert.ShortConvFwdIdeal.Gen.facts)
    (hShortConvFwdRefIdeal := Cert.ShortConvFwdRefIdeal.Gen.facts) := by
  intro m g m' g' hpre hagree
  refine ⟨fun c => (Gen.dats m 0 c).arrAt 4 (cfgs 0).N, ?_, ?_⟩
  · exact θ_run_mono (θ_run_and (Gen.run_main m g) (Gen.unchanged m g)) fun r h c =>
      ⟨(h.1 c).1 4, h.2 c⟩
  · refine (θ_run Cert.ShortConvFwdRefIdeal.defs _ _).mono (fun r h c => ?_) (Cert.ShortConvFwdRefIdeal.Read.run_named m' g')
    obtain ⟨e0, e1, e2⟩ := hagree c
    obtain ⟨h0, hs⟩ := h c
    refine ⟨h0.trans ?_, hs⟩
    · rw [e0, e1, e2]; exact (final4 m c).symm

/-- The reference leaves its arguments as they were, and it declares no semaphore. -/
theorem frame_ref : Cert.quiescent_ShortConvFwdRefIdeal (hShortConvFwdRefIdeal := Cert.ShortConvFwdRefIdeal.Gen.facts) := fun m ρ _ =>
  (θ_run Cert.ShortConvFwdRefIdeal.defs _ _).mono (fun r h => ⟨fun c => (h c).2, sem_eq_zero_of_no_sems (by decide) r.2⟩)
    (Cert.ShortConvFwdRefIdeal.Value.run (F := Ideal) m ρ)

end Cert.ShortConvFwdIdeal.Val
end
-- ==== Proof.MmInOut.lean ====
module

public import proofs.«01_k».proof.Proof.Gen.MmInIdeal.Frame
public import proofs.«01_k».proof.Proof.Gen.MmInRefIdeal.Read
public import Idealize.ShloMosaic.Lib.Pipeline.ValueKit
public import proofs.«01_k».proof.Proof.Kit

@[expose] public section
set_option maxRecDepth 16384
noncomputable section
open Idealize.ShloMosaic Idealize.ShloMosaic.TcCoe Idealize.SL.Sem
open Idealize.ShloMosaic.Pipeline (Dat)
namespace Cert.MmInIdeal.Val
open Cert.MmInIdeal Cert.MmInIdeal.Gen
open Cert.MmInRefIdeal.Read
variable (m : (ℓ : Loc nD τ sig) → Buf (Elt Ideal) ℓ) (c : Dev nD)

theorem idx : ∀ t : Fin cfg0.N, win0_0.index t = ![t.val % 2, 0] ∧ win0_1.index t = ![0, t.val / 2] ∧ win0_2.index t = ![t.val % 2, t.val / 2] :=
  (by decide +kernel : ∀ t : Fin grid0.N, _)

/-- The layer's input. -/
abbrev aX (c : Dev nD) : FVec Ideal S4096x2048 .f32 := m ((c : Thread nD τ).loc main_arg0)
/-- The weights of the input projection. -/
abbrev aW (c : Dev nD) : FVec Ideal S2048x13312 .f32 := m ((c : Thread nD τ).loc main_arg1)
theorem entry_x : V m c main_v0 = aX m c := by entry_read; rfl
theorem entry_w : V m c main_v1 = aW m c := by entry_read; rfl

/-- An entry of the input projection. -/
def entry (x : FVec Ideal S4096x2048 .f32) (w : FVec Ideal S2048x13312 .f32) (r : Fin 4096) (f : Fin 13312) : EReal :=
  ∑ k : Fin 2048, x (ix2 r k) * w (ix2 k f)
/-- The reference's entries. -/
theorem read_ref (x : FVec Ideal S4096x2048 .f32) (w : FVec Ideal S2048x13312 .f32) (r : Fin 4096) (f : Fin 13312) :
    val_main_v0 (F := Ideal) x w (ix2 r f) = entry x w r f := by pointwise [val_main_v0, entry]

/-- The row of the arrays a point's row is. -/
def row (t : Fin cfg0.N) (r : Fin 2048) : Fin 4096 := ⟨t.val % 2 * 2048 + r.val, by omega⟩
/-- The column of the arrays a point's column is. -/
def col (t : Fin cfg0.N) (l : Fin 1024) : Fin 13312 := ⟨t.val / 2 * 1024 + l.val, by have := t.isLt; have h : cfg0.N = 26 := rfl; omega⟩
theorem blk_x (t : Fin cfg0.N) (r : Fin 2048) (k : Fin 2048) : iblk m c 0 t (ix2 r k) = aX m c (ix2 (row t r) k) := by
  have hc : (row t r).val = t.val % 2 * 2048 + r.val := rfl
  blk_point [iblk, entry_x, idx t]
theorem blk_w (t : Fin cfg0.N) (k : Fin 2048) (l : Fin 1024) : iblk m c 1 t (ix2 k l) = aW m c (ix2 k (col t l)) := by
  have hc : (col t l).val = t.val / 2 * 1024 + l.val := rfl
  blk_point [iblk, entry_w, idx t]
/-- What a step leaves. -/
theorem point (t : Fin cfg0.N) (r : Fin 2048) (l : Fin 1024) :
    out0_2 (iblk m c 0 t) (iblk m c 1 t) (ix2 r l) = entry (aX m c) (aW m c) (row t r) (col t l) := by
  frame_out; open_payloads; pointwise []; simp only [blk_x, blk_w, entry]
/-- The projected rows. -/
theorem final2 : (dats m 0 c).arrAt 2 (cfgs 0).N = val_main_v0 (F := Ideal) (aX m c) (aW m c) := by
  refine (dats m 0 c).arrAt_eq_of_covers 2 _ (by decide +kernel) fun t hf y => ?_
  blk_simp
  rw [after0_2]
  have h0 : ((win0_2.blk t).view.emb y 0).val = t.val % 2 * 2048 + (y 0).val := by blk_simp [idx t]
  have h1 : ((win0_2.blk t).view.emb y 1).val = t.val / 2 * 1024 + (y 1).val := by blk_simp [idx t]
  generalize (win0_2.blk t).view.emb y = j at h0 h1 ⊢
  idx_vars j
  idx_vars y
  obtain rfl : j0 = row t y0 := Fin.ext h0
  obtain rfl : j1 = col t y1 := Fin.ext h1
  exact (point m c t y0 y1).trans (read_ref (aX m c) (aW m c) _ _).symm

end Cert.MmInIdeal.Val
end
-- ==== Proof.MmIn.lean ====
module
public import proofs.«01_k».proof.Defs
public import proofs.«01_k».proof.Proof.MmInOut
public import proofs.«01_k».proof.Proof.Gen.MmInRefIdeal.Run
@[expose] public section
set_option maxRecDepth 16384
noncomputable section
open Idealize.ShloMosaic Idealize.SL.Sem Idealize.ShloMosaic.StableHlo

namespace Cert.MmInRefIdeal.Read
open Cert.MmInRefIdeal

/-- The reference's run with each result at its named stage instead of the composed term. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = val_main_v0 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨(h c).1.trans (val_main_v0_eq _ _),
      (h c).2⟩)
    (Value.run (F := Ideal) m ρ)

end Cert.MmInRefIdeal.Read

namespace Cert.MmInIdeal.Val

set_option maxHeartbeats 1600000 in
/-- The idealized input projection computes the layer's input times its weights. -/
theorem algebraic : Cert.algebraic_MmInIdeal_MmInRefIdeal (hMmInIdeal := Cert.MmInIdeal.Gen.facts)
    (hMmInRefIdeal := Cert.MmInRefIdeal.Gen.facts) := by
  intro m g m' g' hpre hagree
  refine ⟨fun c => (Gen.dats m 0 c).arrAt 2 (cfgs 0).N, ?_, ?_⟩
  · exact θ_run_mono (θ_run_and (Gen.run_main m g) (Gen.unchanged m g)) fun r h c =>
      ⟨(h.1 c).1 2, h.2 c⟩
  · refine (θ_run Cert.MmInRefIdeal.defs _ _).mono (fun r h c => ?_) (Cert.MmInRefIdeal.Read.run_named m' g')
    obtain ⟨e0, e1⟩ := hagree c
    obtain ⟨h0, hs⟩ := h c
    refine ⟨h0.trans ?_, hs⟩
    · rw [e0, e1]; exact (final2 m c).symm

/-- The reference leaves its arguments as they were, and it declares no semaphore. -/
theorem frame_ref : Cert.quiescent_MmInRefIdeal (hMmInRefIdeal := Cert.MmInRefIdeal.Gen.facts) := fun m ρ _ =>
  (θ_run Cert.MmInRefIdeal.defs _ _).mono (fun r h => ⟨fun c => (h c).2, sem_eq_zero_of_no_sems (by decide) r.2⟩)
    (Cert.MmInRefIdeal.Value.run (F := Ideal) m ρ)

end Cert.MmInIdeal.Val
end
-- ==== Proof.MmOutDgradOut.lean ====
module

public import proofs.«01_k».proof.Proof.Gen.MmOutDgradIdeal.Frame
public import proofs.«01_k».proof.Proof.Gen.MmOutDgradRefIdeal.Read
public import Idealize.ShloMosaic.Lib.Pipeline.ValueKit
public import proofs.«01_k».proof.Proof.Kit

@[expose] public section
set_option maxRecDepth 16384
noncomputable section
open Idealize.ShloMosaic Idealize.ShloMosaic.TcCoe Idealize.SL.Sem
open Idealize.ShloMosaic.Pipeline (Dat)
namespace Cert.MmOutDgradIdeal.Val
open Cert.MmOutDgradIdeal Cert.MmOutDgradIdeal.Gen
open Cert.MmOutDgradRefIdeal.Read
variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- The output projection's weights. -/
abbrev aW (c : Dev nD) : FVec Ideal S2048x2048 .f32 := m ((c : Thread nD τ).loc main_arg1)
/-- The cotangent of the projected rows. -/
abbrev aC (c : Dev nD) : FVec Ideal S4096x2048 .f32 := m ((c : Thread nD τ).loc main_arg2)
theorem entry_c : V m c main_v0 = aC m c := by entry_read; rfl
theorem entry_w : V m c main_v1 = aW m c := by entry_read; rfl

/-- An entry of the gradient of the merged rows. -/
def entry (w : FVec Ideal S2048x2048 .f32) (ct : FVec Ideal S4096x2048 .f32) (r : Fin 4096) (f : Fin 2048) : EReal :=
  ∑ k : Fin 2048, ct (ix2 r k) * w (ix2 f k)
/-- The reference's entries. -/
theorem read_ref (w : FVec Ideal S2048x2048 .f32) (ct : FVec Ideal S4096x2048 .f32) (r : Fin 4096) (f : Fin 2048) :
    val_main_v1 (F := Ideal) w ct (ix2 r f) = entry w ct r f := by pointwise [val_main_v1, entry]

/-- The row of the arrays a point's row is. -/
def row (t : Fin cfg0.N) (r : Fin 1024) : Fin 4096 := ⟨t.val * 1024 + r.val, by have := t.isLt; have h : cfg0.N = 4 := rfl; omega⟩
theorem blk_c (t : Fin cfg0.N) (r : Fin 1024) (k : Fin 2048) : iblk m c 0 t (ix2 r k) = aC m c (ix2 (row t r) k) := by
  have hc : (row t r).val = t.val * 1024 + r.val := rfl
  blk_point [iblk, entry_c, idx t]
theorem blk_w (t : Fin cfg0.N) (f k : Fin 2048) : iblk m c 1 t (ix2 f k) = aW m c (ix2 f k) := by
  blk_point [iblk, entry_w, idx t]
/-- What a step leaves. -/
theorem point (t : Fin cfg0.N) (r : Fin 1024) (f : Fin 2048) :
    out0_2 (iblk m c 0 t) (iblk m c 1 t) (ix2 r f) = entry (aW m c) (aC m c) (row t r) f := by
  frame_out; open_payloads; pointwise []; simp only [blk_c, blk_w, entry]
/-- The gradient of the merged rows. -/
theorem final2 : (dats m 0 c).arrAt 2 (cfgs 0).N = val_main_v1 (F := Ideal) (aW m c) (aC m c) := by
  refine (dats m 0 c).arrAt_eq_of_covers 2 _ (by decide +kernel) fun t hf y => ?_
  blk_simp
  rw [after0_2]
  have h0 : ((win0_2.blk t).view.emb y 0).val = t.val * 1024 + (y 0).val := by blk_simp [idx t]
  have h1 : ((win0_2.blk t).view.emb y 1).val = (y 1).val := by blk_simp [idx t]
  generalize (win0_2.blk t).view.emb y = j at h0 h1 ⊢
  idx_vars j
  idx_vars y
  obtain rfl : j0 = row t y0 := Fin.ext h0
  obtain rfl : j1 = y1 := Fin.ext h1
  exact (point m c t y0 j1).trans (read_ref (aW m c) (aC m c) _ _).symm

end Cert.MmOutDgradIdeal.Val
end
-- ==== Proof.MmOutDgrad.lean ====
module
public import proofs.«01_k».proof.Defs
public import proofs.«01_k».proof.Proof.MmOutDgradOut
public import proofs.«01_k».proof.Proof.Gen.MmOutDgradRefIdeal.Run
@[expose] public section
set_option maxRecDepth 16384
noncomputable section
open Idealize.ShloMosaic Idealize.SL.Sem Idealize.ShloMosaic.StableHlo

namespace Cert.MmOutDgradRefIdeal.Read
open Cert.MmOutDgradRefIdeal

/-- The reference's run with each result at its named stage instead of the composed term. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = val_main_v1 (F := Ideal) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨(h c).1.trans (val_main_v1_eq _ _),
      (h c).2⟩)
    (Value.run (F := Ideal) m ρ)

end Cert.MmOutDgradRefIdeal.Read

namespace Cert.MmOutDgradIdeal.Val

set_option maxHeartbeats 1600000 in
/-- The idealized product of the cotangent with the transposed weights is the gradient of the merged rows. -/
theorem algebraic : Cert.algebraic_MmOutDgradIdeal_MmOutDgradRefIdeal (hMmOutDgradIdeal := Cert.MmOutDgradIdeal.Gen.facts)
    (hMmOutDgradRefIdeal := Cert.MmOutDgradRefIdeal.Gen.facts) := by
  intro m g m' g' hpre hagree
  refine ⟨fun c => (Gen.dats m 0 c).arrAt 2 (cfgs 0).N, ?_, ?_⟩
  · exact θ_run_mono (θ_run_and (Gen.run_main m g) (Gen.unchanged m g)) fun r h c =>
      ⟨(h.1 c).1 2, h.2 c⟩
  · refine (θ_run Cert.MmOutDgradRefIdeal.defs _ _).mono (fun r h c => ?_) (Cert.MmOutDgradRefIdeal.Read.run_named m' g')
    obtain ⟨e0, e1, e2⟩ := hagree c
    obtain ⟨h0, hs⟩ := h c
    refine ⟨h0.trans ?_, hs⟩
    · rw [e1, e2]; exact (final2 m c).symm

/-- The reference leaves its arguments as they were, and it declares no semaphore. -/
theorem frame_ref : Cert.quiescent_MmOutDgradRefIdeal (hMmOutDgradRefIdeal := Cert.MmOutDgradRefIdeal.Gen.facts) := fun m ρ _ =>
  (θ_run Cert.MmOutDgradRefIdeal.defs _ _).mono (fun r h => ⟨fun c => (h c).2, sem_eq_zero_of_no_sems (by decide) r.2⟩)
    (Cert.MmOutDgradRefIdeal.Value.run (F := Ideal) m ρ)

end Cert.MmOutDgradIdeal.Val
end
-- ==== Proof.FfnOutWgradOut.lean ====
module

public import proofs.«01_k».proof.Proof.Gen.FfnOutWgradIdeal.Frame
public import proofs.«01_k».proof.Proof.Gen.FfnOutWgradRefIdeal.Read
public import Idealize.ShloMosaic.Lib.Pipeline.ValueKit
public import proofs.«01_k».proof.Proof.Kit

@[expose] public section
set_option maxRecDepth 16384
noncomputable section
open Idealize.ShloMosaic Idealize.ShloMosaic.TcCoe Idealize.SL.Sem
open Idealize.ShloMosaic.Pipeline (Dat)
namespace Cert.FfnOutWgradIdeal.Val
open Cert.FfnOutWgradIdeal Cert.FfnOutWgradIdeal.Gen
open Cert.FfnOutWgradRefIdeal.Read
variable (m : (ℓ : Loc nD τ sig) → Buf (Elt Ideal) ℓ) (c : Dev nD)

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The activations. -/
abbrev aA (c : Dev nD) : FVec Ideal S4096x5632 .f32 := m ((c : Thread nD τ).loc main_arg0)
/-- The cotangent of the projected rows. -/
abbrev aC (c : Dev nD) : FVec Ideal S4096x2048 .f32 := m ((c : Thread nD τ).loc main_arg2)
theorem entry_a : V m c main_v0 = aA m c := by entry_read; rfl
theorem entry_c : V m c main_v1 = aC m c := by entry_read; rfl

variable (a : FVec Ideal S4096x5632 .f32) (ct : FVec Ideal S4096x2048 .f32) in
/-- An entry of the weights' gradient. -/
def entry (f : Fin 5632) (k : Fin 2048) : EReal := ∑ r : Fin 4096, a (ix2 r f) * ct (ix2 r k)
variable (a : FVec Ideal S4096x5632 .f32) (ct : FVec Ideal S4096x2048 .f32) in
/-- The reference's entries. -/
theorem read_ref (f : Fin 5632) (k : Fin 2048) : val_main_v3 (F := Ideal) a ct (ix2 f k) = entry a ct f k := by
  pointwise [val_main_v3, val_main_v2, val_main_v1, entry]
  exact Finset.sum_congr rfl fun _ _ => mul_comm _ _
variable (a : FVec Ideal S4096x5632 .f32) (ct : FVec Ideal S4096x2048 .f32) in
/-- The part of the sum over a quarter of the rows. -/
def quarter (q : Fin 4) (f : Fin 5632) (k : Fin 2048) : EReal :=
  ∑ l : Fin 1024, a (ix2 ⟨q.val * 1024 + l.val, by omega⟩ f) * ct (ix2 ⟨q.val * 1024 + l.val, by omega⟩ k)
variable (a : FVec Ideal S4096x5632 .f32) (ct : FVec Ideal S4096x2048 .f32) in
theorem quarters (f : Fin 5632) (k : Fin 2048) :
    entry a ct f k = quarter a ct 0 f k + quarter a ct 1 f k + quarter a ct 2 f k + quarter a ct 3 f k := by
  rw [← Fin.sum_univ_four (fun q => quarter a ct q f k)]
  exact (Fin.sum_mul_add_congr fun q l _ => rfl :
    ∑ q : Fin 4, ∑ l : Fin 1024, (fun j : Fin 4096 => a (ix2 j f) * ct (ix2 j k)) ⟨q.val * 1024 + l.val, by omega⟩ = ∑ j : Fin 4096, a (ix2 j f) * ct (ix2 j k)).symm

/-- The row of the gradient a point's row is. -/
def grow (t : Fin cfg0.N) (f : Fin 1408) : Fin 5632 := ⟨t.val / 4 * 1408 + f.val, by have := t.isLt; have h : cfg0.N = 16 := rfl; omega⟩
/-- The row of the summands a point's row is. -/
def row (t : Fin cfg0.N) (r : Fin 1024) : Fin 4096 := ⟨t.val % 4 * 1024 + r.val, by omega⟩
theorem blk_a (t : Fin cfg0.N) (r : Fin 1024) (f : Fin 1408) : iblk m c 0 t (ix2 r f) = aA m c (ix2 (row t r) (grow t f)) := by
  have hr : (row t r).val = t.val % 4 * 1024 + r.val := rfl
  have hf : (grow t f).val = t.val / 4 * 1408 + f.val := rfl
  blk_point [iblk, entry_a, idx t]
theorem blk_c (t : Fin cfg0.N) (r : Fin 1024) (k : Fin 2048) : iblk m c 1 t (ix2 r k) = aC m c (ix2 (row t r) k) := by
  have hr : (row t r).val = t.val % 4 * 1024 + r.val := rfl
  blk_point [iblk, entry_c, idx t]
/-- What a point adds. -/
def part (t : Fin cfg0.N) (f : Fin 1408) (k : Fin 2048) : EReal := quarter (aA m c) (aC m c) ⟨t.val % 4, by omega⟩ (grow t f) k

/-- What the point before left of the running sum. -/
abbrev prev (t : Fin cfg0.N) : FVec Ideal S1408x2048 .f32 := (outsAt0 m c (t.val - 1) (Nat.lt_of_le_of_lt (Nat.sub_le _ _) t.isLt)).2
theorem first (t : Fin cfg0.N) (h0 : t.val % 4 = 0) (f : Fin 1408) (k : Fin 2048) :
    (outsAt0 m c t.val t.isLt).2 (ix2 f k) = part m c t f k := by
  rw [outsAt0_A m c t h0 (by omega)]; dsimp only
  frame_out; open_payloads; pointwise []; simp only [blk_a, blk_c, zero_add]; rfl
theorem next (t : Fin cfg0.N) (h0 : ¬t.val % 4 = 0) (h1 : ¬t.val % 4 = 3) (f : Fin 1408) (k : Fin 2048) :
    (outsAt0 m c t.val t.isLt).2 (ix2 f k) = prev m c t (ix2 f k) + part m c t f k := by
  rw [outsAt0_B m c t h0 h1]; dsimp only
  frame_out; open_payloads; pointwise []; simp only [blk_a, blk_c, read_unread_whole]; rfl
/-- The running sum before a block's last point, plus what that point adds: the whole sum. -/
theorem whole (t : Fin cfg0.N) (h3 : t.val % 4 = 3) (f : Fin 1408) (k : Fin 2048) :
    prev m c t (ix2 f k) + part m c t f k = entry (aA m c) (aC m c) (grow t f) k := by
  have hN : cfg0.N = 16 := rfl
  have ht := t.isLt
  have e1 := next m c ⟨t.val - 1, by omega⟩ (by dsimp only; omega) (by dsimp only; omega) f k
  have e2 := next m c ⟨t.val - 1 - 1, by omega⟩ (by dsimp only; omega) (by dsimp only; omega) f k
  have e3 := first m c ⟨t.val - 1 - 1 - 1, by omega⟩ (by dsimp only; omega) f k
  have b1 : grow ⟨t.val - 1, by omega⟩ f = grow t f := Fin.ext (by simp only [grow]; omega)
  have b2 : grow ⟨t.val - 1 - 1, by omega⟩ f = grow t f := Fin.ext (by simp only [grow]; omega)
  have b3 : grow ⟨t.val - 1 - 1 - 1, by omega⟩ f = grow t f := Fin.ext (by simp only [grow]; omega)
  have q0 : (⟨t.val % 4, by omega⟩ : Fin 4) = 3 := Fin.ext h3
  have q1 : (⟨(t.val - 1) % 4, by omega⟩ : Fin 4) = 2 := Fin.ext (by show (t.val - 1) % 4 = 2; omega)
  have q2 : (⟨(t.val - 1 - 1) % 4, by omega⟩ : Fin 4) = 1 := Fin.ext (by show (t.val - 1 - 1) % 4 = 1; omega)
  have q3 : (⟨(t.val - 1 - 1 - 1) % 4, by omega⟩ : Fin 4) = 0 := Fin.ext (by show (t.val - 1 - 1 - 1) % 4 = 0; omega)
  simp only [part, b1, q1] at e1
  simp only [part, b2, q2] at e2
  simp only [part, b3, q3] at e3
  simp only [part, q0, quarters]
  exact congrArg (· + _) (e1.trans (congrArg (· + _) (e2.trans (congrArg (· + _) e3))))

/-- What a block's last point leaves. -/
theorem point (t : Fin cfg0.N) (h3 : t.val % 4 = 3) (f : Fin 1408) (k : Fin 2048) :
    (outsAt0 m c t.val t.isLt).1 (ix2 f k) = entry (aA m c) (aC m c) (grow t f) k := by
  rw [← whole m c t h3 f k, outsAt0_C m c t (by omega) h3]; dsimp only
  frame_out; open_payloads; pointwise []; simp only [blk_a, blk_c, read_unread_whole]; rfl
/-- The gradient of the output weights. -/
theorem final2 : (dats m 0 c).arrAt 2 (cfgs 0).N = val_main_v3 (F := Ideal) (aA m c) (aC m c) := by
  refine (dats m 0 c).arrAt_eq_of_covers 2 _ (by decide +kernel) fun t hf y => ?_
  blk_simp
  rw [after0_2]
  have h0 : ((win0_2.blk t).view.emb y 0).val = t.val / 4 * 1408 + (y 0).val := by blk_simp [idx t]
  have h1 : ((win0_2.blk t).view.emb y 1).val = (y 1).val := by blk_simp [idx t]
  generalize (win0_2.blk t).view.emb y = j at h0 h1 ⊢
  idx_vars j
  idx_vars y
  obtain rfl : j0 = grow t y0 := Fin.ext h0
  obtain rfl : j1 = y1 := Fin.ext h1
  exact (point m c t ((flush0_2 t).mp hf) y0 j1).trans (read_ref (aA m c) (aC m c) _ _).symm

end Cert.FfnOutWgradIdeal.Val
end
-- ==== Proof.FfnOutWgrad.lean ====
module
public import proofs.«01_k».proof.Defs
public import proofs.«01_k».proof.Proof.FfnOutWgradOut
public import proofs.«01_k».proof.Proof.Gen.FfnOutWgradRefIdeal.Run
@[expose] public section
set_option maxRecDepth 16384
noncomputable section
open Idealize.ShloMosaic Idealize.SL.Sem Idealize.ShloMosaic.StableHlo

namespace Cert.FfnOutWgradRefIdeal.Read
open Cert.FfnOutWgradRefIdeal

/-- The reference's run with each result at its named stage instead of the composed term. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = val_main_v3 (F := Ideal) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨(h c).1.trans (val_main_v3_eq _ _),
      (h c).2⟩)
    (Value.run (F := Ideal) m ρ)

end Cert.FfnOutWgradRefIdeal.Read

namespace Cert.FfnOutWgradIdeal.Val

set_option maxHeartbeats 1600000 in
/-- The idealized sum over blocks of rows is the gradient of the feed-forward block's output weights. -/
theorem algebraic : Cert.algebraic_FfnOutWgradIdeal_FfnOutWgradRefIdeal (hFfnOutWgradIdeal := Cert.FfnOutWgradIdeal.Gen.facts)
    (hFfnOutWgradRefIdeal := Cert.FfnOutWgradRefIdeal.Gen.facts) := by
  intro m g m' g' hpre hagree
  refine ⟨fun c => (Gen.dats m 0 c).arrAt 2 (cfgs 0).N, ?_, ?_⟩
  · exact θ_run_mono (θ_run_and (Gen.run_main m g) (Gen.unchanged m g)) fun r h c =>
      ⟨(h.1 c).1 2, h.2 c⟩
  · refine (θ_run Cert.FfnOutWgradRefIdeal.defs _ _).mono (fun r h c => ?_) (Cert.FfnOutWgradRefIdeal.Read.run_named m' g')
    obtain ⟨e0, e1, e2⟩ := hagree c
    obtain ⟨h0, hs⟩ := h c
    refine ⟨h0.trans ?_, hs⟩
    · rw [e0, e2]; exact (final2 m c).symm

/-- The reference leaves its arguments as they were, and it declares no semaphore. -/
theorem frame_ref : Cert.quiescent_FfnOutWgradRefIdeal (hFfnOutWgradRefIdeal := Cert.FfnOutWgradRefIdeal.Gen.facts) := fun m ρ _ =>
  (θ_run Cert.FfnOutWgradRefIdeal.defs _ _).mono (fun r h => ⟨fun c => (h c).2, sem_eq_zero_of_no_sems (by decide) r.2⟩)
    (Cert.FfnOutWgradRefIdeal.Value.run (F := Ideal) m ρ)

end Cert.FfnOutWgradIdeal.Val
end
-- ==== Proof.BranchDgradOut.lean ====
module

public import proofs.«01_k».proof.Proof.Gen.BranchDgradIdeal.Frame
public import proofs.«01_k».proof.Proof.Gen.BranchDgradRefIdeal.Read
public import Idealize.ShloMosaic.Lib.Pipeline.ValueKit
public import proofs.«01_k».proof.Proof.Kit

@[expose] public section
set_option maxRecDepth 16384
noncomputable section
open Idealize.ShloMosaic Idealize.ShloMosaic.TcCoe Idealize.SL.Sem
open Idealize.ShloMosaic.Pipeline (Dat)
namespace Cert.BranchDgradIdeal.Val
open Cert.BranchDgradIdeal Cert.BranchDgradIdeal.Gen
open Cert.BranchDgradRefIdeal.Read
variable (m : (ℓ : Loc nD τ sig) → Buf (Elt Ideal) ℓ) (c : Dev nD)

theorem idx : ∀ t : Fin cfg0.N, win0_0.index t = ![t.val / 4, t.val % 4, 0] ∧ win0_1.index t = ![t.val / 4, 0, 0] ∧ win0_2.index t = ![t.val / 4, t.val % 4, 0] :=
  (by decide +kernel : ∀ t : Fin grid0.N, _)

/-- The branches' weights. -/
abbrev aW (c : Dev nD) : FVec Ideal S3x1024x2048 .f32 := m ((c : Thread nD τ).loc main_arg1)
/-- The cotangent of the projected branches. -/
abbrev aC (c : Dev nD) : FVec Ideal S3x4096x2048 .f32 := m ((c : Thread nD τ).loc main_arg2)
theorem entry_c : V m c main_v0 = aC m c := by entry_read; rfl
theorem entry_w : V m c main_v1 = aW m c := by entry_read; rfl

/-- An entry of a branch's gradient. -/
def entry (w : FVec Ideal S3x1024x2048 .f32) (ct : FVec Ideal S3x4096x2048 .f32) (n : Fin 3) (r : Fin 4096) (f : Fin 1024) : EReal :=
  ∑ k : Fin 2048, ct (ix3 n r k) * w (ix3 n f k)
variable (w : FVec Ideal S3x1024x2048 .f32) (ct : FVec Ideal S3x4096x2048 .f32) in
theorem read_grad (n : Fin 3) (r : Fin 4096) (f : Fin 1024) : val_main_v15 (F := Ideal) w ct (ix3 n r f) = entry w ct n r f := by
  pointwise [val_main_v15, val_main_v14, val_main_v13, entry]
variable (w : FVec Ideal S3x1024x2048 .f32) (ct : FVec Ideal S3x4096x2048 .f32) in
/-- The planes in the order the branches are stacked in before the projection. -/
theorem read_planes (r : Fin 4096) (f : Fin 1024) :
    val_main_v26 (F := Ideal) w ct (ix3 0 r f) = entry w ct 1 r f
    ∧ val_main_v26 (F := Ideal) w ct (ix3 1 r f) = entry w ct 2 r f
    ∧ val_main_v26 (F := Ideal) w ct (ix3 2 r f) = entry w ct 0 r f := by
  refine ⟨?_, ?_, ?_⟩ <;>
    pointwise [val_main_v26, val_main_v25, val_main_v24, val_main_v23, val_main_v22, val_main_v21, val_main_v20, val_main_v19, val_main_v18, val_main_v17, val_main_v16, read_grad]
variable (w : FVec Ideal S3x1024x2048 .f32) (ct : FVec Ideal S3x4096x2048 .f32) in
/-- The reference's entries. -/
theorem read_ref (n : Fin 3) (r : Fin 4096) (f : Fin 1024) : val_main_v36 (F := Ideal) w ct (ix3 n r f) = entry w ct n r f := by
  obtain ⟨e0, e1, e2⟩ := read_planes w ct r f
  obtain rfl | rfl | rfl : n = 0 ∨ n = 1 ∨ n = 2 := by omega
  all_goals
    pointwise [val_main_v36, val_main_v35, val_main_v34, val_main_v33, val_main_v32, val_main_v31, val_main_v30, val_main_v29, val_main_v28, val_main_v27]
    simp only [e0, e1, e2]

/-- The branch of a point. -/
def br (t : Fin cfg0.N) : Fin 3 := ⟨t.val / 4, by have := t.isLt; have h : cfg0.N = 12 := rfl; omega⟩
/-- The row of the arrays a point's row is. -/
def row (t : Fin cfg0.N) (r : Fin 1024) : Fin 4096 := ⟨t.val % 4 * 1024 + r.val, by omega⟩
theorem blk_c (t : Fin cfg0.N) (x : Fin 1) (r : Fin 1024) (k : Fin 2048) : iblk m c 0 t (ix3 x r k) = aC m c (ix3 (br t) (row t r) k) := by
  have hb : (br t).val = t.val / 4 := rfl
  have hc : (row t r).val = t.val % 4 * 1024 + r.val := rfl
  blk_point [iblk, entry_c, idx t]
theorem blk_w (t : Fin cfg0.N) (x : Fin 1) (f : Fin 1024) (k : Fin 2048) : iblk m c 1 t (ix3 x f k) = aW m c (ix3 (br t) f k) := by
  have hb : (br t).val = t.val / 4 := rfl
  blk_point [iblk, entry_w, idx t]
/-- What a step leaves. -/
theorem point (t : Fin cfg0.N) (x : Fin 1) (r : Fin 1024) (f : Fin 1024) :
    out0_2 (iblk m c 0 t) (iblk m c 1 t) (ix3 x r f) = entry (aW m c) (aC m c) (br t) (row t r) f := by
  frame_out; open_payloads; pointwise []; simp only [blk_c, blk_w, entry]
/-- The branches' gradients. -/
theorem final2 : (dats m 0 c).arrAt 2 (cfgs 0).N = val_main_v36 (F := Ideal) (aW m c) (aC m c) := by
  refine (dats m 0 c).arrAt_eq_of_covers 2 _ (by decide +kernel) fun t hf y => ?_
  blk_simp
  rw [after0_2]
  have h0 : ((win0_2.blk t).view.emb y 0).val = t.val / 4 := by blk_simp [idx t]
  have h1 : ((win0_2.blk t).view.emb y 1).val = t.val % 4 * 1024 + (y 1).val := by blk_simp [idx t]
  have h2 : ((win0_2.blk t).view.emb y 2).val = (y 2).val := by blk_simp [idx t]
  generalize (win0_2.blk t).view.emb y = j at h0 h1 h2 ⊢
  idx_vars j
  idx_vars y
  obtain rfl : j0 = br t := Fin.ext h0
  obtain rfl : j1 = row t y1 := Fin.ext h1
  obtain rfl : j2 = y2 := Fin.ext h2
  exact (point m c t y0 y1 j2).trans (read_ref (aW m c) (aC m c) _ _ _).symm

end Cert.BranchDgradIdeal.Val
end
-- ==== Proof.BranchDgrad.lean ====
module
public import proofs.«01_k».proof.Defs
public import proofs.«01_k».proof.Proof.BranchDgradOut
public import proofs.«01_k».proof.Proof.Gen.BranchDgradRefIdeal.Run
@[expose] public section
set_option maxRecDepth 16384
noncomputable section
open Idealize.ShloMosaic Idealize.SL.Sem Idealize.ShloMosaic.StableHlo

namespace Cert.BranchDgradRefIdeal.Read
open Cert.BranchDgradRefIdeal

/-- The reference's run with each result at its named stage instead of the composed term. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = val_main_v36 (F := Ideal) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨(h c).1.trans (val_main_v36_eq m c),
      (h c).2⟩)
    (Value.run (F := Ideal) m ρ)

end Cert.BranchDgradRefIdeal.Read

namespace Cert.BranchDgradIdeal.Val

set_option maxHeartbeats 1600000 in
/-- The idealized products of the three cotangents with their transposed weights are the gradients of the branches. -/
theorem algebraic : Cert.algebraic_BranchDgradIdeal_BranchDgradRefIdeal (hBranchDgradIdeal := Cert.BranchDgradIdeal.Gen.facts)
    (hBranchDgradRefIdeal := Cert.BranchDgradRefIdeal.Gen.facts) := by
  intro m g m' g' hpre hagree
  refine ⟨fun c => (Gen.dats m 0 c).arrAt 2 (cfgs 0).N, ?_, ?_⟩
  · exact θ_run_mono (θ_run_and (Gen.run_main m g) (Gen.unchanged m g)) fun r h c =>
      ⟨(h.1 c).1 2, h.2 c⟩
  · refine (θ_run Cert.BranchDgradRefIdeal.defs _ _).mono (fun r h c => ?_) (Cert.BranchDgradRefIdeal.Read.run_named m' g')
    obtain ⟨e0, e1, e2⟩ := hagree c
    obtain ⟨h0, hs⟩ := h c
    refine ⟨h0.trans ?_, hs⟩
    · rw [e1, e2]; exact (final2 m c).symm

/-- The reference leaves its arguments as they were, and it declares no semaphore. -/
theorem frame_ref : Cert.quiescent_BranchDgradRefIdeal (hBranchDgradRefIdeal := Cert.BranchDgradRefIdeal.Gen.facts) := fun m ρ _ =>
  (θ_run Cert.BranchDgradRefIdeal.defs _ _).mono (fun r h => ⟨fun c => (h c).2, sem_eq_zero_of_no_sems (by decide) r.2⟩)
    (Cert.BranchDgradRefIdeal.Value.run (F := Ideal) m ρ)

end Cert.BranchDgradIdeal.Val
end
-- ==== Proof.BranchWgradOut.lean ====
module

public import proofs.«01_k».proof.Proof.Gen.BranchWgradIdeal.Frame
public import proofs.«01_k».proof.Proof.Gen.BranchWgradRefIdeal.Read
public import Idealize.ShloMosaic.Lib.Pipeline.ValueKit
public import proofs.«01_k».proof.Proof.Kit

@[expose] public section
set_option maxRecDepth 16384
noncomputable section
open Idealize.ShloMosaic Idealize.ShloMosaic.TcCoe Idealize.SL.Sem
open Idealize.ShloMosaic.Pipeline (Dat)
namespace Cert.BranchWgradIdeal.Val
open Cert.BranchWgradIdeal Cert.BranchWgradIdeal.Gen
open Cert.BranchWgradRefIdeal.Read
variable (m : (ℓ : Loc nD τ sig) → Buf (Elt Ideal) ℓ) (c : Dev nD)

theorem idx : ∀ t : Fin cfg0.N, win0_0.index t = ![(t.val / 4 + 2) % 3, t.val % 4, 0] ∧ win0_1.index t = ![t.val / 4, t.val % 4, 0] ∧ win0_2.index t = ![t.val / 4, 0, 0] :=
  (by decide +kernel : ∀ t : Fin grid0.N, _)

/-- The branches, in the order the forward pass keeps them in. -/
abbrev aA (c : Dev nD) : FVec Ideal S3x4096x1024 .f32 := m ((c : Thread nD τ).loc main_arg0)
/-- The cotangent of the projected branches. -/
abbrev aC (c : Dev nD) : FVec Ideal S3x4096x2048 .f32 := m ((c : Thread nD τ).loc main_arg2)
theorem entry_a : V m c main_v0 = aA m c := by entry_read; rfl
theorem entry_c : V m c main_v1 = aC m c := by entry_read; rfl

/-- Where a branch is kept. -/
def kept (n : Fin 3) : Fin 3 := ⟨(n.val + 2) % 3, by omega⟩
variable (a : FVec Ideal S3x4096x1024 .f32) (ct : FVec Ideal S3x4096x2048 .f32) in
/-- An entry of a branch's weights' gradient. -/
def entry (n : Fin 3) (f : Fin 1024) (k : Fin 2048) : EReal := ∑ r : Fin 4096, a (ix3 (kept n) r f) * ct (ix3 n r k)
variable (a : FVec Ideal S3x4096x1024 .f32) in
/-- The branches as they are stacked before the projection. -/
theorem read_stack (n : Fin 3) (r : Fin 4096) (f : Fin 1024) : val_main_v9 (F := Ideal) a (ix3 r n f) = a (ix3 (kept n) r f) := by
  obtain rfl | rfl | rfl : n = 0 ∨ n = 1 ∨ n = 2 := by omega
  all_goals
    pointwise [val_main_v9, val_main_v8, val_main_v7, val_main_v6, val_main_v5, val_main_v4, val_main_v3, val_main_v2, val_main_v1, val_main_v0]
    rfl
variable (a : FVec Ideal S3x4096x1024 .f32) (ct : FVec Ideal S3x4096x2048 .f32) in
/-- The reference's entries. -/
theorem read_ref (n : Fin 3) (f : Fin 1024) (k : Fin 2048) : val_main_v17 (F := Ideal) a ct (ix3 n f k) = entry a ct n f k := by
  pointwise [val_main_v17, val_main_v16, val_main_v15, val_main_v14, val_main_v13, entry]
  exact Finset.sum_congr rfl fun r _ => (mul_comm _ _).trans (congrArg (· * _) (read_stack a n r f))
variable (a : FVec Ideal S3x4096x1024 .f32) (ct : FVec Ideal S3x4096x2048 .f32) in
/-- The part of the sum over a quarter of the rows. -/
def quarter (q : Fin 4) (n : Fin 3) (f : Fin 1024) (k : Fin 2048) : EReal :=
  ∑ l : Fin 1024, a (ix3 (kept n) ⟨q.val * 1024 + l.val, by omega⟩ f) * ct (ix3 n ⟨q.val * 1024 + l.val, by omega⟩ k)
variable (a : FVec Ideal S3x4096x1024 .f32) (ct : FVec Ideal S3x4096x2048 .f32) in
theorem quarters (n : Fin 3) (f : Fin 1024) (k : Fin 2048) :
    entry a ct n f k = quarter a ct 0 n f k + quarter a ct 1 n f k + quarter a ct 2 n f k + quarter a ct 3 n f k := by
  rw [← Fin.sum_univ_four (fun q => quarter a ct q n f k)]
  exact (Fin.sum_mul_add_congr fun q l _ => rfl :
    ∑ q : Fin 4, ∑ l : Fin 1024, (fun j : Fin 4096 => a (ix3 (kept n) j f) * ct (ix3 n j k)) ⟨q.val * 1024 + l.val, by omega⟩ = ∑ j : Fin 4096, a (ix3 (kept n) j f) * ct (ix3 n j k)).symm

/-- The branch of a point. -/
def br (t : Fin cfg0.N) : Fin 3 := ⟨t.val / 4, by have := t.isLt; have h : cfg0.N = 12 := rfl; omega⟩
/-- The row of the summands a point's row is. -/
def row (t : Fin cfg0.N) (r : Fin 1024) : Fin 4096 := ⟨t.val % 4 * 1024 + r.val, by omega⟩
theorem blk_a (t : Fin cfg0.N) (x : Fin 1) (r f : Fin 1024) : iblk m c 0 t (ix3 x r f) = aA m c (ix3 (kept (br t)) (row t r) f) := by
  have hb : (kept (br t)).val = (t.val / 4 + 2) % 3 := rfl
  have hr : (row t r).val = t.val % 4 * 1024 + r.val := rfl
  blk_point [iblk, entry_a, idx t]
theorem blk_c (t : Fin cfg0.N) (x : Fin 1) (r : Fin 1024) (k : Fin 2048) : iblk m c 1 t (ix3 x r k) = aC m c (ix3 (br t) (row t r) k) := by
  have hb : (br t).val = t.val / 4 := rfl
  have hr : (row t r).val = t.val % 4 * 1024 + r.val := rfl
  blk_point [iblk, entry_c, idx t]
/-- What a point adds. -/
def part (t : Fin cfg0.N) (f : Fin 1024) (k : Fin 2048) : EReal := quarter (aA m c) (aC m c) ⟨t.val % 4, by omega⟩ (br t) f k

/-- What the point before left of the running sum. -/
abbrev prev (t : Fin cfg0.N) : FVec Ideal S1024x2048 .f32 := (outsAt0 m c (t.val - 1) (Nat.lt_of_le_of_lt (Nat.sub_le _ _) t.isLt)).2
theorem first (t : Fin cfg0.N) (h0 : t.val % 4 = 0) (f : Fin 1024) (k : Fin 2048) :
    (outsAt0 m c t.val t.isLt).2 (ix2 f k) = part m c t f k := by
  rw [outsAt0_A m c t h0 (by omega)]; dsimp only
  frame_out; open_payloads; pointwise []; simp only [blk_a, blk_c, zero_add]; rfl
theorem next (t : Fin cfg0.N) (h0 : ¬t.val % 4 = 0) (h1 : ¬t.val % 4 = 3) (f : Fin 1024) (k : Fin 2048) :
    (outsAt0 m c t.val t.isLt).2 (ix2 f k) = prev m c t (ix2 f k) + part m c t f k := by
  rw [outsAt0_B m c t h0 h1]; dsimp only
  frame_out; open_payloads; pointwise []; simp only [blk_a, blk_c, read_unread_whole]; rfl
/-- The running sum before a block's last point, plus what that point adds: the whole sum. -/
theorem whole (t : Fin cfg0.N) (h3 : t.val % 4 = 3) (f : Fin 1024) (k : Fin 2048) :
    prev m c t (ix2 f k) + part m c t f k = entry (aA m c) (aC m c) (br t) f k := by
  have hN : cfg0.N = 12 := rfl
  have ht := t.isLt
  have e1 := next m c ⟨t.val - 1, by omega⟩ (by dsimp only; omega) (by dsimp only; omega) f k
  have e2 := next m c ⟨t.val - 1 - 1, by omega⟩ (by dsimp only; omega) (by dsimp only; omega) f k
  have e3 := first m c ⟨t.val - 1 - 1 - 1, by omega⟩ (by dsimp only; omega) f k
  have b1 : br ⟨t.val - 1, by omega⟩ = br t := Fin.ext (by simp only [br]; omega)
  have b2 : br ⟨t.val - 1 - 1, by omega⟩ = br t := Fin.ext (by simp only [br]; omega)
  have b3 : br ⟨t.val - 1 - 1 - 1, by omega⟩ = br t := Fin.ext (by simp only [br]; omega)
  have q0 : (⟨t.val % 4, by omega⟩ : Fin 4) = 3 := Fin.ext h3
  have q1 : (⟨(t.val - 1) % 4, by omega⟩ : Fin 4) = 2 := Fin.ext (by show (t.val - 1) % 4 = 2; omega)
  have q2 : (⟨(t.val - 1 - 1) % 4, by omega⟩ : Fin 4) = 1 := Fin.ext (by show (t.val - 1 - 1) % 4 = 1; omega)
  have q3 : (⟨(t.val - 1 - 1 - 1) % 4, by omega⟩ : Fin 4) = 0 := Fin.ext (by show (t.val - 1 - 1 - 1) % 4 = 0; omega)
  simp only [part, b1, q1] at e1
  simp only [part, b2, q2] at e2
  simp only [part, b3, q3] at e3
  simp only [part, q0, quarters]
  exact congrArg (· + _) (e1.trans (congrArg (· + _) (e2.trans (congrArg (· + _) e3))))

/-- What a block's last point leaves. -/
theorem point (t : Fin cfg0.N) (h3 : t.val % 4 = 3) (x : Fin 1) (f : Fin 1024) (k : Fin 2048) :
    (outsAt0 m c t.val t.isLt).1 (ix3 x f k) = entry (aA m c) (aC m c) (br t) f k := by
  rw [← whole m c t h3 f k, outsAt0_C m c t (by omega) h3]; dsimp only
  frame_out; open_payloads; pointwise []; simp only [blk_a, blk_c, read_unread_whole]; rfl
/-- The gradients of the branches' weights. -/
theorem final2 : (dats m 0 c).arrAt 2 (cfgs 0).N = val_main_v17 (F := Ideal) (aA m c) (aC m c) := by
  refine (dats m 0 c).arrAt_eq_of_covers 2 _ (by decide +kernel) fun t hf y => ?_
  blk_simp
  rw [after0_2]
  have h0 : ((win0_2.blk t).view.emb y 0).val = t.val / 4 := by blk_simp [idx t]
  have h1 : ((win0_2.blk t).view.emb y 1).val = (y 1).val := by blk_simp [idx t]
  have h2 : ((win0_2.blk t).view.emb y 2).val = (y 2).val := by blk_simp [idx t]
  generalize (win0_2.blk t).view.emb y = j at h0 h1 h2 ⊢
  idx_vars j
  idx_vars y
  obtain rfl : j0 = br t := Fin.ext h0
  obtain rfl : j1 = y1 := Fin.ext h1
  obtain rfl : j2 = y2 := Fin.ext h2
  exact (point m c t ((flush0_2 t).mp hf) y0 j1 j2).trans (read_ref (aA m c) (aC m c) _ _ _).symm

end Cert.BranchWgradIdeal.Val
end
-- ==== Proof.BranchWgrad.lean ====
module
public import proofs.«01_k».proof.Defs
public import proofs.«01_k».proof.Proof.BranchWgradOut
public import proofs.«01_k».proof.Proof.Gen.BranchWgradRefIdeal.Run
@[expose] public section
set_option maxRecDepth 16384
noncomputable section
open Idealize.ShloMosaic Idealize.SL.Sem Idealize.ShloMosaic.StableHlo

namespace Cert.BranchWgradRefIdeal.Read
open Cert.BranchWgradRefIdeal

/-- The reference's run with each result at its named stage instead of the composed term. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = val_main_v17 (F := Ideal) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨(h c).1.trans (val_main_v17_eq _ _),
      (h c).2⟩)
    (Value.run (F := Ideal) m ρ)

end Cert.BranchWgradRefIdeal.Read

namespace Cert.BranchWgradIdeal.Val

set_option maxHeartbeats 1600000 in
/-- The idealized sums over blocks of rows are the gradients of the three branches' weights. -/
theorem algebraic : Cert.algebraic_BranchWgradIdeal_BranchWgradRefIdeal (hBranchWgradIdeal := Cert.BranchWgradIdeal.Gen.facts)
    (hBranchWgradRefIdeal := Cert.BranchWgradRefIdeal.Gen.facts) := by
  intro m g m' g' hpre hagree
  refine ⟨fun c => (Gen.dats m 0 c).arrAt 2 (cfgs 0).N, ?_, ?_⟩
  · exact θ_run_mono (θ_run_and (Gen.run_main m g) (Gen.unchanged m g)) fun r h c =>
      ⟨(h.1 c).1 2, h.2 c⟩
  · refine (θ_run Cert.BranchWgradRefIdeal.defs _ _).mono (fun r h c => ?_) (Cert.BranchWgradRefIdeal.Read.run_named m' g')
    obtain ⟨e0, e1, e2⟩ := hagree c
    obtain ⟨h0, hs⟩ := h c
    refine ⟨h0.trans ?_, hs⟩
    · rw [e0, e2]; exact (final2 m c).symm

/-- The reference leaves its arguments as they were, and it declares no semaphore. -/
theorem frame_ref : Cert.quiescent_BranchWgradRefIdeal (hBranchWgradRefIdeal := Cert.BranchWgradRefIdeal.Gen.facts) := fun m ρ _ =>
  (θ_run Cert.BranchWgradRefIdeal.defs _ _).mono (fun r h => ⟨fun c => (h c).2, sem_eq_zero_of_no_sems (by decide) r.2⟩)
    (Cert.BranchWgradRefIdeal.Value.run (F := Ideal) m ρ)

end Cert.BranchWgradIdeal.Val
end
-- ==== Proof.MmInWgradOut.lean ====
module

public import proofs.«01_k».proof.Proof.Gen.MmInWgradIdeal.Frame
public import proofs.«01_k».proof.Proof.Gen.MmInWgradRefIdeal.Read
public import Idealize.ShloMosaic.Lib.Pipeline.ValueKit
public import proofs.«01_k».proof.Proof.Kit

@[expose] public section
set_option maxRecDepth 16384
noncomputable section
open Idealize.ShloMosaic Idealize.ShloMosaic.TcCoe Idealize.SL.Sem
open Idealize.ShloMosaic.Pipeline (Dat)
namespace Cert.MmInWgradIdeal.Val
open Cert.MmInWgradIdeal Cert.MmInWgradIdeal.Gen
open Cert.MmInWgradRefIdeal.Read
variable (m : (ℓ : Loc nD τ sig) → Buf (Elt Ideal) ℓ) (c : Dev nD)

theorem idx0 : ∀ t : Fin cfg0.N, t.val < 12 → win0_1.index t = ![t.val / 4, t.val % 4, 0] := (by decide +kernel : ∀ t : Fin grid0.N, _)
theorem idx1 : ∀ t : Fin cfg0.N, 3 ≤ t.val / 4 % 13 ∧ t.val / 4 % 13 ≤ 4 → win0_2.index t = ![t.val / 4 - 3, t.val % 4, 0] := (by decide +kernel : ∀ t : Fin grid0.N, _)
theorem idx2 : ∀ t : Fin cfg0.N, 5 ≤ t.val / 4 % 13 ∧ t.val / 4 % 13 ≤ 6 → win0_3.index t = ![t.val / 4 - 5, t.val % 4, 0] := (by decide +kernel : ∀ t : Fin grid0.N, _)
theorem idx3 : ∀ t : Fin cfg0.N, 28 ≤ t.val → win0_4.index t = ![(t.val / 4 - 7) / 2, t.val % 4, (t.val / 4 - 7) % 2] := (by decide +kernel : ∀ t : Fin grid0.N, _)
theorem idx : ∀ t : Fin cfg0.N, win0_0.index t = ![t.val % 4, 0] ∧ win0_5.index t = ![0, t.val / 4] :=
  (by decide +kernel : ∀ t : Fin grid0.N, _)

/-- The layer's input. -/
abbrev aX (c : Dev nD) : FVec Ideal S4096x2048 .f32 := m ((c : Thread nD τ).loc main_arg0)
/-- The cotangent of the projection. -/
abbrev aC (c : Dev nD) : FVec Ideal S4096x13312 .f32 := m ((c : Thread nD τ).loc main_arg2)
theorem entry_x : V m c main_v13 = aX m c := by entry_read; rfl

/-- The columns of the cotangent that the four pieces hold. -/
theorem entry_p0 (n : Fin 3) (r : Fin 4096) (l : Fin 1024) : V m c main_v9 (ix3 n r l) = aC m c (ix2 r ⟨n.val * 1024 + l.val, by omega⟩) := by
  entry_read; pointwise []
theorem entry_p1 (n : Fin 2) (r : Fin 4096) (l : Fin 1024) : V m c main_v10 (ix3 n r l) = aC m c (ix2 r ⟨(3 + n.val) * 1024 + l.val, by omega⟩) := by
  entry_read; pointwise []
theorem entry_p2 (n : Fin 2) (r : Fin 4096) (l : Fin 1024) : V m c main_v11 (ix3 n r l) = aC m c (ix2 r ⟨(5 + n.val) * 1024 + l.val, by omega⟩) := by
  entry_read; pointwise []
theorem entry_p3 (n : Fin 3) (r : Fin 4096) (l : Fin 2048) : V m c main_v12 (ix3 n r l) = aC m c (ix2 r ⟨7168 + (n.val * 2048 + l.val), by omega⟩) := by
  entry_read; pointwise []

variable (x : FVec Ideal S4096x2048 .f32) (ct : FVec Ideal S4096x13312 .f32)
/-- An entry of the weights' gradient. -/
def entry (f : Fin 2048) (k : Fin 13312) : EReal := ∑ r : Fin 4096, x (ix2 r f) * ct (ix2 r k)
/-- The reference's entries. -/
theorem read_ref (f : Fin 2048) (k : Fin 13312) : val_main_v3 (F := Ideal) x ct (ix2 f k) = entry x ct f k := by
  pointwise [val_main_v3, val_main_v2, val_main_v1, entry]
  exact Finset.sum_congr rfl fun _ _ => mul_comm _ _
/-- The part of the sum over the 1024 rows of one step, zero beyond the last. -/
def chunk (q : ℕ) (f : Fin 2048) (k : Fin 13312) : EReal :=
  if h : q < 4 then ∑ l : Fin 1024, x (ix2 ⟨q * 1024 + l.val, by omega⟩ f) * ct (ix2 ⟨q * 1024 + l.val, by omega⟩ k) else 0
theorem chunks (f : Fin 2048) (k : Fin 13312) : ∑ q ∈ Finset.range 4, chunk x ct q f k = entry x ct f k := by
  rw [entry, Finset.sum_range]
  refine Eq.trans (Finset.sum_congr rfl fun q _ => dif_pos q.isLt) ?_
  exact (Fin.sum_mul_add_congr fun q l _ => rfl :
    ∑ q : Fin 4, ∑ l : Fin 1024, (fun j : Fin 4096 => x (ix2 j f) * ct (ix2 j k)) ⟨q.val * 1024 + l.val, by omega⟩ = ∑ j : Fin 4096, x (ix2 j f) * ct (ix2 j k))

/-- The row of the arrays a point's row is. -/
def row (t : Fin cfg0.N) (r : Fin 1024) : Fin 4096 := ⟨t.val % 4 * 1024 + r.val, by omega⟩
/-- The column of the cotangent a point's column is. -/
def col (t : Fin cfg0.N) (l : Fin 1024) : Fin 13312 := ⟨t.val / 4 * 1024 + l.val, by have := t.isLt; have h : cfg0.N = 52 := rfl; omega⟩
theorem blk_p0 (t : Fin cfg0.N) (h : t.val < 12) (x : Fin 1) (r : Fin 1024) (l : Fin 1024) : iblk m c 1 t (ix3 x r l) = aC m c (ix2 (row t r) (col t l)) := by
  have ht := t.isLt
  have hN : cfg0.N = 52 := rfl
  have hr : (row t r).val = t.val % 4 * 1024 + r.val := rfl
  obtain ⟨H, e⟩ : ∃ H, V m c main_v9 = H := ⟨_, rfl⟩
  have q := entry_p0 m c ⟨t.val / 4, by omega⟩ (row t r) l
  rw [e] at q
  refine Eq.trans ?_ (q.trans (congrArg (fun j => aC m c (ix2 _ j)) (Fin.ext ?_)))
  · blk_point [iblk, e, idx0 t h]
  · simp only [col] <;> omega
theorem blk_p1 (t : Fin cfg0.N) (h : 3 ≤ t.val / 4 % 13 ∧ t.val / 4 % 13 ≤ 4) (x : Fin 1) (r : Fin 1024) (l : Fin 1024) : iblk m c 2 t (ix3 x r l) = aC m c (ix2 (row t r) (col t l)) := by
  have ht := t.isLt
  have hN : cfg0.N = 52 := rfl
  have hr : (row t r).val = t.val % 4 * 1024 + r.val := rfl
  obtain ⟨H, e⟩ : ∃ H, V m c main_v10 = H := ⟨_, rfl⟩
  have q := entry_p1 m c ⟨t.val / 4 - 3, by omega⟩ (row t r) l
  rw [e] at q
  refine Eq.trans ?_ (q.trans (congrArg (fun j => aC m c (ix2 _ j)) (Fin.ext ?_)))
  · blk_point [iblk, e, idx1 t h]
  · simp only [col] <;> omega
theorem blk_p2 (t : Fin cfg0.N) (h : 5 ≤ t.val / 4 % 13 ∧ t.val / 4 % 13 ≤ 6) (x : Fin 1) (r : Fin 1024) (l : Fin 1024) : iblk m c 3 t (ix3 x r l) = aC m c (ix2 (row t r) (col t l)) := by
  have ht := t.isLt
  have hN : cfg0.N = 52 := rfl
  have hr : (row t r).val = t.val % 4 * 1024 + r.val := rfl
  obtain ⟨H, e⟩ : ∃ H, V m c main_v11 = H := ⟨_, rfl⟩
  have q := entry_p2 m c ⟨t.val / 4 - 5, by omega⟩ (row t r) l
  rw [e] at q
  refine Eq.trans ?_ (q.trans (congrArg (fun j => aC m c (ix2 _ j)) (Fin.ext ?_)))
  · blk_point [iblk, e, idx2 t h]
  · simp only [col] <;> omega
theorem blk_p3 (t : Fin cfg0.N) (h : 28 ≤ t.val) (x : Fin 1) (r : Fin 1024) (l : Fin 1024) : iblk m c 4 t (ix3 x r l) = aC m c (ix2 (row t r) (col t l)) := by
  have ht := t.isLt
  have hN : cfg0.N = 52 := rfl
  have hr : (row t r).val = t.val % 4 * 1024 + r.val := rfl
  obtain ⟨H, e⟩ : ∃ H, V m c main_v12 = H := ⟨_, rfl⟩
  have q := entry_p3 m c ⟨(t.val / 4 - 7) / 2, by omega⟩ (row t r) ⟨(t.val / 4 - 7) % 2 * 1024 + l.val, by omega⟩
  rw [e] at q
  refine Eq.trans ?_ (q.trans (congrArg (fun j => aC m c (ix2 _ j)) (Fin.ext ?_)))
  · blk_point [iblk, e, idx3 t h]
  · simp only [col] <;> omega
theorem blk_x (t : Fin cfg0.N) (r : Fin 1024) (f : Fin 2048) : iblk m c 0 t (ix2 r f) = aX m c (ix2 (row t r) f) := by
  have hr : (row t r).val = t.val % 4 * 1024 + r.val := rfl
  blk_point [iblk, entry_x, idx t]

/-- What a point adds. -/
def part (t : Fin cfg0.N) (f : Fin 2048) (l : Fin 1024) : EReal := ∑ r : Fin 1024, aX m c (ix2 (row t r) f) * aC m c (ix2 (row t r) (col t l))
theorem part_eq (t : Fin cfg0.N) (f : Fin 2048) (l : Fin 1024) : part m c t f l = chunk (aX m c) (aC m c) (t.val % 4) f (col t l) := by
  rw [chunk, dif_pos (show t.val % 4 < 4 by omega)]; rfl
/-- What the point before left of the running sum. -/
abbrev prev (t : Fin cfg0.N) : FVec Ideal S2048x1024 .f32 := (outsAt0 m c (t.val - 1) (Nat.lt_of_le_of_lt (Nat.sub_le _ _) t.isLt)).2
/-- The first point of a block of columns leaves its part, whichever piece that is read from. -/
theorem first (t : Fin cfg0.N) (h0 : t.val % 4 = 0) (f : Fin 2048) (l : Fin 1024) :
    (outsAt0 m c t.val t.isLt).2 (ix2 f l) = part m c t f l := by
  have ht := t.isLt
  have hN : cfg0.N = 52 := rfl
  by_cases h1 : t.val < 12
  · rw [outsAt0_A m c t h0 h1 (by omega) (by omega) (by omega) (by omega)]; dsimp only
    frame_out; open_payloads; pointwise []; simp only [blk_p0 m c t h1, blk_x, zero_add]; rfl
  by_cases h2 : 3 ≤ t.val / 4 % 13 ∧ t.val / 4 % 13 ≤ 4
  · rw [outsAt0_D m c t h0 h1 h2 (by omega) (by omega) (by omega)]; dsimp only
    frame_out; open_payloads; pointwise []; simp only [blk_p1 m c t h2, blk_x, zero_add]; rfl
  by_cases h3 : 5 ≤ t.val / 4 % 13 ∧ t.val / 4 % 13 ≤ 6
  · rw [outsAt0_G m c t h0 h1 h2 h3 (by omega) (by omega)]; dsimp only
    frame_out; open_payloads; pointwise []; simp only [blk_p2 m c t h3, blk_x, zero_add]; rfl
  · have h4 : 28 ≤ t.val := by omega
    rw [outsAt0_J m c t h0 h1 h2 h3 h4 (by omega)]; dsimp only
    frame_out; open_payloads; pointwise []; simp only [blk_p3 m c t h4, blk_x, zero_add]; rfl
/-- A point in the middle adds its part to what the point before left. -/
theorem next (t : Fin cfg0.N) (h0 : ¬t.val % 4 = 0) (h5 : ¬t.val % 4 = 3) (f : Fin 2048) (l : Fin 1024) :
    (outsAt0 m c t.val t.isLt).2 (ix2 f l) = prev m c t (ix2 f l) + part m c t f l := by
  have ht := t.isLt
  have hN : cfg0.N = 52 := rfl
  by_cases h1 : t.val < 12
  · rw [outsAt0_B m c t h0 h1 (by omega) (by omega) (by omega) h5]; dsimp only
    frame_out; open_payloads; pointwise []; simp only [blk_p0 m c t h1, blk_x, read_unread_whole]; rfl
  by_cases h2 : 3 ≤ t.val / 4 % 13 ∧ t.val / 4 % 13 ≤ 4
  · rw [outsAt0_E m c t h0 h1 h2 (by omega) (by omega) h5]; dsimp only
    frame_out; open_payloads; pointwise []; simp only [blk_p1 m c t h2, blk_x, read_unread_whole]; rfl
  by_cases h3 : 5 ≤ t.val / 4 % 13 ∧ t.val / 4 % 13 ≤ 6
  · rw [outsAt0_H m c t h0 h1 h2 h3 (by omega) h5]; dsimp only
    frame_out; open_payloads; pointwise []; simp only [blk_p2 m c t h3, blk_x, read_unread_whole]; rfl
  · have h4 : 28 ≤ t.val := by omega
    rw [outsAt0_K m c t h0 h1 h2 h3 h4 h5]; dsimp only
    frame_out; open_payloads; pointwise []; simp only [blk_p3 m c t h4, blk_x, read_unread_whole]; rfl
/-- The last point of a block of columns leaves the sum in the result. -/
theorem last (t : Fin cfg0.N) (h5 : t.val % 4 = 3) (f : Fin 2048) (l : Fin 1024) :
    (outsAt0 m c t.val t.isLt).1 (ix2 f l) = prev m c t (ix2 f l) + part m c t f l := by
  have ht := t.isLt
  have hN : cfg0.N = 52 := rfl
  by_cases h1 : t.val < 12
  · rw [outsAt0_C m c t (by omega) h1 (by omega) (by omega) (by omega) h5]; dsimp only
    frame_out; open_payloads; pointwise []; simp only [blk_p0 m c t h1, blk_x, read_unread_whole]; rfl
  by_cases h2 : 3 ≤ t.val / 4 % 13 ∧ t.val / 4 % 13 ≤ 4
  · rw [outsAt0_F m c t (by omega) h1 h2 (by omega) (by omega) h5]; dsimp only
    frame_out; open_payloads; pointwise []; simp only [blk_p1 m c t h2, blk_x, read_unread_whole]; rfl
  by_cases h3 : 5 ≤ t.val / 4 % 13 ∧ t.val / 4 % 13 ≤ 6
  · rw [outsAt0_I m c t (by omega) h1 h2 h3 (by omega) h5]; dsimp only
    frame_out; open_payloads; pointwise []; simp only [blk_p2 m c t h3, blk_x, read_unread_whole]; rfl
  · have h4 : 28 ≤ t.val := by omega
    rw [outsAt0_L m c t (by omega) h1 h2 h3 h4 h5]; dsimp only
    frame_out; open_payloads; pointwise []; simp only [blk_p3 m c t h4, blk_x, read_unread_whole]; rfl
/-- The running sum after a point that is not the last of its columns. -/
theorem run (q : ℕ) : ∀ (t : Fin cfg0.N) (_ : t.val % 4 = q) (_ : q < 3) (f : Fin 2048) (l : Fin 1024),
    (outsAt0 m c t.val t.isLt).2 (ix2 f l) = ∑ p ∈ Finset.range (q + 1), chunk (aX m c) (aC m c) p f (col t l) := by
  induction q with
  | zero =>
    intro t ht _ f l
    rw [first m c t ht, part_eq, ht, Finset.sum_range_one]
  | succ q ih =>
    intro t ht hq f l
    have e := ih ⟨t.val - 1, Nat.lt_of_le_of_lt (Nat.sub_le _ _) t.isLt⟩ (by dsimp only; omega) (by omega) f l
    have b : col ⟨t.val - 1, Nat.lt_of_le_of_lt (Nat.sub_le _ _) t.isLt⟩ l = col t l := Fin.ext (by simp only [col]; omega)
    rw [b] at e
    rw [next m c t (by omega) (by omega), part_eq, ht, Finset.sum_range_succ]
    exact congrArg (· + _) e
/-- What a block's last point leaves. -/
theorem point (t : Fin cfg0.N) (h5 : t.val % 4 = 3) (f : Fin 2048) (l : Fin 1024) :
    (outsAt0 m c t.val t.isLt).1 (ix2 f l) = entry (aX m c) (aC m c) f (col t l) := by
  have e := run m c 2 ⟨t.val - 1, Nat.lt_of_le_of_lt (Nat.sub_le _ _) t.isLt⟩ (by dsimp only; omega) (by omega) f l
  have b : col ⟨t.val - 1, Nat.lt_of_le_of_lt (Nat.sub_le _ _) t.isLt⟩ l = col t l := Fin.ext (by simp only [col]; omega)
  rw [b] at e
  rw [last m c t h5, ← chunks, Finset.sum_range_succ, part_eq, h5]
  exact congrArg (· + _) e
/-- The gradient of the input projection's weights. -/
theorem final5 : (dats m 0 c).arrAt 5 (cfgs 0).N = val_main_v3 (F := Ideal) (aX m c) (aC m c) := by
  refine (dats m 0 c).arrAt_eq_of_covers 5 _ (by decide +kernel) fun t hf y => ?_
  blk_simp
  rw [after0_5]
  have h0 : ((win0_5.blk t).view.emb y 0).val = (y 0).val := by blk_simp [idx t]
  have h1 : ((win0_5.blk t).view.emb y 1).val = t.val / 4 * 1024 + (y 1).val := by blk_simp [idx t]
  generalize (win0_5.blk t).view.emb y = j at h0 h1 ⊢
  idx_vars j
  idx_vars y
  obtain rfl : j0 = y0 := Fin.ext h0
  obtain rfl : j1 = col t y1 := Fin.ext h1
  exact (point m c t ((flush0_5 t).mp hf) j0 y1).trans (read_ref (aX m c) (aC m c) _ _).symm

end Cert.MmInWgradIdeal.Val
end
-- ==== Proof.MmInWgrad.lean ====
module
public import proofs.«01_k».proof.Defs
public import proofs.«01_k».proof.Proof.MmInWgradOut
public import proofs.«01_k».proof.Proof.Gen.MmInWgradRefIdeal.Run
@[expose] public section
set_option maxRecDepth 16384
noncomputable section
open Idealize.ShloMosaic Idealize.SL.Sem Idealize.ShloMosaic.StableHlo

namespace Cert.MmInWgradRefIdeal.Read
open Cert.MmInWgradRefIdeal

/-- The reference's run with each result at its named stage instead of the composed term. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = val_main_v3 (F := Ideal) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨(h c).1.trans (val_main_v3_eq _ _),
      (h c).2⟩)
    (Value.run (F := Ideal) m ρ)

end Cert.MmInWgradRefIdeal.Read

namespace Cert.MmInWgradIdeal.Val

set_option maxHeartbeats 1600000 in
/-- The gradient of the input weights: the idealised kernel and the idealised reference compute the same array. -/
theorem algebraic : Cert.algebraic_MmInWgradIdeal_MmInWgradRefIdeal (hMmInWgradIdeal := Cert.MmInWgradIdeal.Gen.facts)
    (hMmInWgradRefIdeal := Cert.MmInWgradRefIdeal.Gen.facts) := by
  intro m g m' g' hpre hagree
  refine ⟨fun c => (Gen.dats m 0 c).arrAt 5 (cfgs 0).N, ?_, ?_⟩
  · exact θ_run_mono (θ_run_and (Gen.run_main m g) (Gen.unchanged m g)) fun r h c =>
      ⟨(h.1 c).1 5, h.2 c⟩
  · refine (θ_run Cert.MmInWgradRefIdeal.defs _ _).mono (fun r h c => ?_) (Cert.MmInWgradRefIdeal.Read.run_named m' g')
    obtain ⟨e0, e1, e2⟩ := hagree c
    obtain ⟨h0, hs⟩ := h c
    refine ⟨h0.trans ?_, hs⟩
    · rw [e0, e2]; exact (final5 m c).symm

/-- The reference leaves its arguments as they were, and it declares no semaphore. -/
theorem frame_ref : Cert.quiescent_MmInWgradRefIdeal (hMmInWgradRefIdeal := Cert.MmInWgradRefIdeal.Gen.facts) := fun m ρ _ =>
  (θ_run Cert.MmInWgradRefIdeal.defs _ _).mono (fun r h => ⟨fun c => (h c).2, sem_eq_zero_of_no_sems (by decide) r.2⟩)
    (Cert.MmInWgradRefIdeal.Value.run (F := Ideal) m ρ)

end Cert.MmInWgradIdeal.Val
end
-- ==== Proof.MmInDgradOut.lean ====
module

public import proofs.«01_k».proof.Proof.Gen.MmInDgradIdeal.Frame
public import proofs.«01_k».proof.Proof.Gen.MmInDgradRefIdeal.Read
public import Idealize.ShloMosaic.Lib.Pipeline.ValueKit
public import proofs.«01_k».proof.Proof.Kit

@[expose] public section
set_option maxRecDepth 16384
noncomputable section
open Idealize.ShloMosaic Idealize.ShloMosaic.TcCoe Idealize.SL.Sem
open Idealize.ShloMosaic.Pipeline (Dat)
namespace Cert.MmInDgradIdeal.Val
open Cert.MmInDgradIdeal Cert.MmInDgradIdeal.Gen
open Cert.MmInDgradRefIdeal.Read
variable (m : (ℓ : Loc nD τ sig) → Buf (Elt Ideal) ℓ) (c : Dev nD)

theorem idx0 : ∀ t : Fin cfg0.N, t.val % 13 ≤ 2 → win0_0.index t = ![t.val % 13, t.val / 13, 0] := (by decide +kernel : ∀ t : Fin grid0.N, _)
theorem idx1 : ∀ t : Fin cfg0.N, 3 ≤ t.val % 13 ∧ t.val % 13 ≤ 4 → win0_1.index t = ![t.val % 13 - 3, t.val / 13, 0] := (by decide +kernel : ∀ t : Fin grid0.N, _)
theorem idx2 : ∀ t : Fin cfg0.N, 5 ≤ t.val % 13 ∧ t.val % 13 ≤ 6 → win0_2.index t = ![t.val % 13 - 5, t.val / 13, 0] := (by decide +kernel : ∀ t : Fin grid0.N, _)
theorem idx3 : ∀ t : Fin cfg0.N, 7 ≤ t.val % 13 → win0_3.index t = ![(t.val % 13 - 7) / 2, t.val / 13, (t.val % 13 - 7) % 2] := (by decide +kernel : ∀ t : Fin grid0.N, _)
theorem idx : ∀ t : Fin cfg0.N, win0_4.index t = ![0, t.val % 13] ∧ win0_5.index t = ![t.val / 13, 0] ∧ win0_6.index t = ![t.val / 13, 0] :=
  (by decide +kernel : ∀ t : Fin grid0.N, _)

/-- The weights of the input projection. -/
abbrev aW (c : Dev nD) : FVec Ideal S2048x13312 .f32 := m ((c : Thread nD τ).loc main_arg1)
/-- The cotangent of the projection. -/
abbrev aC (c : Dev nD) : FVec Ideal S4096x13312 .f32 := m ((c : Thread nD τ).loc main_arg2)
/-- The cotangent that comes along the residual. -/
abbrev aD (c : Dev nD) : FVec Ideal S4096x2048 .f32 := m ((c : Thread nD τ).loc main_arg3)
theorem entry_w : V m c main_v13 = aW m c := by entry_read; rfl
theorem entry_d : V m c main_arg3 = aD m c := by entry_read; rfl

/-- The columns of the cotangent that the four pieces hold. -/
theorem entry_p0 (n : Fin 3) (r : Fin 4096) (l : Fin 1024) : V m c main_v9 (ix3 n r l) = aC m c (ix2 r ⟨n.val * 1024 + l.val, by omega⟩) := by
  entry_read; pointwise []
theorem entry_p1 (n : Fin 2) (r : Fin 4096) (l : Fin 1024) : V m c main_v10 (ix3 n r l) = aC m c (ix2 r ⟨(3 + n.val) * 1024 + l.val, by omega⟩) := by
  entry_read; pointwise []
theorem entry_p2 (n : Fin 2) (r : Fin 4096) (l : Fin 1024) : V m c main_v11 (ix3 n r l) = aC m c (ix2 r ⟨(5 + n.val) * 1024 + l.val, by omega⟩) := by
  entry_read; pointwise []
theorem entry_p3 (n : Fin 3) (r : Fin 4096) (l : Fin 2048) : V m c main_v12 (ix3 n r l) = aC m c (ix2 r ⟨7168 + (n.val * 2048 + l.val), by omega⟩) := by
  entry_read; pointwise []

variable (w : FVec Ideal S2048x13312 .f32) (ct : FVec Ideal S4096x13312 .f32) (d : FVec Ideal S4096x2048 .f32)
/-- What the residual adds. -/
def base (r : Fin 4096) (f : Fin 2048) : EReal := Ideal.ofBits .f32 0x3FD744FD#32 * d (ix2 r f)
/-- An entry of the gradient of the layer's input. -/
def entry (r : Fin 4096) (f : Fin 2048) : EReal := base d r f + ∑ k : Fin 13312, ct (ix2 r k) * w (ix2 f k)
/-- The reference's entries. -/
theorem read_ref (r : Fin 4096) (f : Fin 2048) : val_main_v6 (F := Ideal) w ct d (ix2 r f) = entry w ct d r f := by
  pointwise [val_main_v6, val_main_v5, val_main_v4, val_main_v3, val_main_cst_0, entry, base]
/-- The part of the sum over the 1024 columns of one step, zero beyond the last. -/
def chunk (q : ℕ) (r : Fin 4096) (f : Fin 2048) : EReal :=
  if h : q < 13 then ∑ l : Fin 1024, ct (ix2 r ⟨q * 1024 + l.val, by omega⟩) * w (ix2 f ⟨q * 1024 + l.val, by omega⟩) else 0
theorem chunks (r : Fin 4096) (f : Fin 2048) : base d r f + ∑ q ∈ Finset.range 13, chunk w ct q r f = entry w ct d r f := by
  rw [entry, Finset.sum_range]
  refine congrArg (base d r f + ·) (Eq.trans (Finset.sum_congr rfl fun q _ => dif_pos q.isLt) ?_)
  exact (Fin.sum_mul_add_congr fun q l _ => rfl :
    ∑ q : Fin 13, ∑ l : Fin 1024, (fun j : Fin 13312 => ct (ix2 r j) * w (ix2 f j)) ⟨q.val * 1024 + l.val, by omega⟩ = ∑ j : Fin 13312, ct (ix2 r j) * w (ix2 f j))

/-- The row of the arrays a point's row is. -/
def row (t : Fin cfg0.N) (r : Fin 512) : Fin 4096 := ⟨t.val / 13 * 512 + r.val, by have := t.isLt; have h : cfg0.N = 104 := rfl; omega⟩
/-- The column of the cotangent a point's column is. -/
def col (t : Fin cfg0.N) (l : Fin 1024) : Fin 13312 := ⟨t.val % 13 * 1024 + l.val, by omega⟩
theorem blk_p0 (t : Fin cfg0.N) (h : t.val % 13 ≤ 2) (x : Fin 1) (r : Fin 512) (l : Fin 1024) : iblk m c 0 t (ix3 x r l) = aC m c (ix2 (row t r) (col t l)) := by
  have ht := t.isLt
  have hN : cfg0.N = 104 := rfl
  have hr : (row t r).val = t.val / 13 * 512 + r.val := rfl
  obtain ⟨H, e⟩ : ∃ H, V m c main_v9 = H := ⟨_, rfl⟩
  have q := entry_p0 m c ⟨t.val % 13, by omega⟩ (row t r) l
  rw [e] at q
  refine Eq.trans ?_ (q.trans (congrArg (fun j => aC m c (ix2 _ j)) (Fin.ext ?_)))
  · blk_point [iblk, e, idx0 t h]
  · simp only [col] <;> omega
theorem blk_p1 (t : Fin cfg0.N) (h : 3 ≤ t.val % 13 ∧ t.val % 13 ≤ 4) (x : Fin 1) (r : Fin 512) (l : Fin 1024) : iblk m c 1 t (ix3 x r l) = aC m c (ix2 (row t r) (col t l)) := by
  have ht := t.isLt
  have hN : cfg0.N = 104 := rfl
  have hr : (row t r).val = t.val / 13 * 512 + r.val := rfl
  obtain ⟨H, e⟩ : ∃ H, V m c main_v10 = H := ⟨_, rfl⟩
  have q := entry_p1 m c ⟨t.val % 13 - 3, by omega⟩ (row t r) l
  rw [e] at q
  refine Eq.trans ?_ (q.trans (congrArg (fun j => aC m c (ix2 _ j)) (Fin.ext ?_)))
  · blk_point [iblk, e, idx1 t h]
  · simp only [col] <;> omega
theorem blk_p2 (t : Fin cfg0.N) (h : 5 ≤ t.val % 13 ∧ t.val % 13 ≤ 6) (x : Fin 1) (r : Fin 512) (l : Fin 1024) : iblk m c 2 t (ix3 x r l) = aC m c (ix2 (row t r) (col t l)) := by
  have ht := t.isLt
  have hN : cfg0.N = 104 := rfl
  have hr : (row t r).val = t.val / 13 * 512 + r.val := rfl
  obtain ⟨H, e⟩ : ∃ H, V m c main_v11 = H := ⟨_, rfl⟩
  have q := entry_p2 m c ⟨t.val % 13 - 5, by omega⟩ (row t r) l
  rw [e] at q
  refine Eq.trans ?_ (q.trans (congrArg (fun j => aC m c (ix2 _ j)) (Fin.ext ?_)))
  · blk_point [iblk, e, idx2 t h]
  · simp only [col] <;> omega
theorem blk_p3 (t : Fin cfg0.N) (h : 7 ≤ t.val % 13) (x : Fin 1) (r : Fin 512) (l : Fin 1024) : iblk m c 3 t (ix3 x r l) = aC m c (ix2 (row t r) (col t l)) := by
  have ht := t.isLt
  have hN : cfg0.N = 104 := rfl
  have hr : (row t r).val = t.val / 13 * 512 + r.val := rfl
  obtain ⟨H, e⟩ : ∃ H, V m c main_v12 = H := ⟨_, rfl⟩
  have q := entry_p3 m c ⟨(t.val % 13 - 7) / 2, by omega⟩ (row t r) ⟨(t.val % 13 - 7) % 2 * 1024 + l.val, by omega⟩
  rw [e] at q
  refine Eq.trans ?_ (q.trans (congrArg (fun j => aC m c (ix2 _ j)) (Fin.ext ?_)))
  · blk_point [iblk, e, idx3 t h]
  · simp only [col] <;> omega
theorem blk_w (t : Fin cfg0.N) (f : Fin 2048) (l : Fin 1024) : iblk m c 4 t (ix2 f l) = aW m c (ix2 f (col t l)) := by
  have hc : (col t l).val = t.val % 13 * 1024 + l.val := rfl
  blk_point [iblk, entry_w, idx t]
theorem blk_d (t : Fin cfg0.N) (r : Fin 512) (f : Fin 2048) : iblk m c 5 t (ix2 r f) = aD m c (ix2 (row t r) f) := by
  have hr : (row t r).val = t.val / 13 * 512 + r.val := rfl
  blk_point [iblk, entry_d, idx t]

/-- What a point adds. -/
def part (t : Fin cfg0.N) (r : Fin 512) (f : Fin 2048) : EReal := ∑ l : Fin 1024, aC m c (ix2 (row t r) (col t l)) * aW m c (ix2 f (col t l))
theorem part_eq (t : Fin cfg0.N) (r : Fin 512) (f : Fin 2048) : part m c t r f = chunk (aW m c) (aC m c) (t.val % 13) (row t r) f := by
  rw [chunk, dif_pos (show t.val % 13 < 13 by omega)]; rfl
/-- What the point before left of the running sum. -/
abbrev prev (t : Fin cfg0.N) : FVec Ideal S512x2048 .f32 := (outsAt0 m c (t.val - 1) (Nat.lt_of_le_of_lt (Nat.sub_le _ _) t.isLt)).2
theorem first (t : Fin cfg0.N) (h0 : t.val % 13 = 0) (r : Fin 512) (f : Fin 2048) :
    (outsAt0 m c t.val t.isLt).2 (ix2 r f) = base (aD m c) (row t r) f + part m c t r f := by
  rw [outsAt0_A m c t h0 (by omega) (by omega) (by omega) (by omega) (by omega)]; dsimp only
  frame_out; open_payloads; pointwise []; simp only [blk_p0 m c t (by omega), blk_w, blk_d]; rfl
/-- A point in the middle adds its part, whichever piece that is read from. -/
theorem next (t : Fin cfg0.N) (h0 : ¬t.val % 13 = 0) (h5 : ¬t.val % 13 = 12) (r : Fin 512) (f : Fin 2048) :
    (outsAt0 m c t.val t.isLt).2 (ix2 r f) = prev m c t (ix2 r f) + part m c t r f := by
  by_cases h1 : t.val % 13 ≤ 2
  · rw [outsAt0_B m c t h0 h1 (by omega) (by omega) (by omega) h5]; dsimp only
    frame_out; open_payloads; pointwise []; simp only [blk_p0 m c t h1, blk_w, read_unread_whole]; rfl
  by_cases h2 : 3 ≤ t.val % 13 ∧ t.val % 13 ≤ 4
  · rw [outsAt0_C m c t h0 h1 h2 (by omega) (by omega) h5]; dsimp only
    frame_out; open_payloads; pointwise []; simp only [blk_p1 m c t h2, blk_w, read_unread_whole]; rfl
  by_cases h3 : 5 ≤ t.val % 13 ∧ t.val % 13 ≤ 6
  · rw [outsAt0_D m c t h0 h1 h2 h3 (by omega) h5]; dsimp only
    frame_out; open_payloads; pointwise []; simp only [blk_p2 m c t h3, blk_w, read_unread_whole]; rfl
  · have h4 : 7 ≤ t.val % 13 := by omega
    rw [outsAt0_E m c t h0 h1 h2 h3 h4 h5]; dsimp only
    frame_out; open_payloads; pointwise []; simp only [blk_p3 m c t h4, blk_w, read_unread_whole]; rfl
/-- The running sum after a point that is not the last of its rows. -/
theorem run (q : ℕ) : ∀ (t : Fin cfg0.N) (_ : t.val % 13 = q) (_ : q < 12) (r : Fin 512) (f : Fin 2048),
    (outsAt0 m c t.val t.isLt).2 (ix2 r f) = base (aD m c) (row t r) f + ∑ p ∈ Finset.range (q + 1), chunk (aW m c) (aC m c) p (row t r) f := by
  induction q with
  | zero =>
    intro t ht _ r f
    rw [first m c t ht, part_eq, ht, Finset.sum_range_one]
  | succ q ih =>
    intro t ht hq r f
    have e := ih ⟨t.val - 1, Nat.lt_of_le_of_lt (Nat.sub_le _ _) t.isLt⟩ (by dsimp only; omega) (by omega) r f
    have b : row ⟨t.val - 1, Nat.lt_of_le_of_lt (Nat.sub_le _ _) t.isLt⟩ r = row t r := Fin.ext (by simp only [row]; omega)
    rw [b] at e
    rw [next m c t (by omega) (by omega), part_eq, ht, Finset.sum_range_succ, ← add_assoc]
    exact congrArg (· + _) e
/-- What the last point of a block of rows leaves. -/
theorem point (t : Fin cfg0.N) (h5 : t.val % 13 = 12) (r : Fin 512) (f : Fin 2048) :
    (outsAt0 m c t.val t.isLt).1 (ix2 r f) = entry (aW m c) (aC m c) (aD m c) (row t r) f := by
  have e := run m c 11 ⟨t.val - 1, Nat.lt_of_le_of_lt (Nat.sub_le _ _) t.isLt⟩ (by dsimp only; omega) (by omega) r f
  have b : row ⟨t.val - 1, Nat.lt_of_le_of_lt (Nat.sub_le _ _) t.isLt⟩ r = row t r := Fin.ext (by simp only [row]; omega)
  rw [b] at e
  have w : prev m c t (ix2 r f) + part m c t r f = entry (aW m c) (aC m c) (aD m c) (row t r) f := by
    rw [← chunks, Finset.sum_range_succ, ← add_assoc, part_eq, h5]
    exact congrArg (· + _) e
  rw [← w, outsAt0_F m c t (by omega) (by omega) (by omega) (by omega) (by omega) h5]; dsimp only
  frame_out; open_payloads; pointwise []; simp only [blk_p3 m c t (by omega), blk_w, read_unread_whole]; rfl
/-- The gradient of the layer's input. -/
theorem final6 : (dats m 0 c).arrAt 6 (cfgs 0).N = val_main_v6 (F := Ideal) (aW m c) (aC m c) (aD m c) := by
  refine (dats m 0 c).arrAt_eq_of_covers 6 _ (by decide +kernel) fun t hf y => ?_
  blk_simp
  rw [after0_6]
  have h0 : ((win0_6.blk t).view.emb y 0).val = t.val / 13 * 512 + (y 0).val := by blk_simp [idx t]
  have h1 : ((win0_6.blk t).view.emb y 1).val = (y 1).val := by blk_simp [idx t]
  generalize (win0_6.blk t).view.emb y = j at h0 h1 ⊢
  idx_vars j
  idx_vars y
  obtain rfl : j0 = row t y0 := Fin.ext h0
  obtain rfl : j1 = y1 := Fin.ext h1
  exact (point m c t ((flush0_6 t).mp hf) y0 j1).trans (read_ref (aW m c) (aC m c) (aD m c) _ _).symm

end Cert.MmInDgradIdeal.Val
end
-- ==== Proof.MmInDgrad.lean ====
module
public import proofs.«01_k».proof.Defs
public import proofs.«01_k».proof.Proof.MmInDgradOut
public import proofs.«01_k».proof.Proof.Gen.MmInDgradRefIdeal.Run
@[expose] public section
set_option maxRecDepth 16384
noncomputable section
open Idealize.ShloMosaic Idealize.SL.Sem Idealize.ShloMosaic.StableHlo

namespace Cert.MmInDgradRefIdeal.Read
open Cert.MmInDgradRefIdeal

/-- The reference's run with each result at its named stage instead of the composed term. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = val_main_v6 (F := Ideal) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨(h c).1.trans (val_main_v6_eq _ _ _),
      (h c).2⟩)
    (Value.run (F := Ideal) m ρ)

end Cert.MmInDgradRefIdeal.Read

namespace Cert.MmInDgradIdeal.Val

set_option maxHeartbeats 1600000 in
/-- The gradient of the layer's input: the idealised kernel and the idealised reference compute the same array. -/
theorem algebraic : Cert.algebraic_MmInDgradIdeal_MmInDgradRefIdeal (hMmInDgradIdeal := Cert.MmInDgradIdeal.Gen.facts)
    (hMmInDgradRefIdeal := Cert.MmInDgradRefIdeal.Gen.facts) := by
  intro m g m' g' hpre hagree
  refine ⟨fun c => (Gen.dats m 0 c).arrAt 6 (cfgs 0).N, ?_, ?_⟩
  · exact θ_run_mono (θ_run_and (Gen.run_main m g) (Gen.unchanged m g)) fun r h c =>
      ⟨(h.1 c).1 6, h.2 c⟩
  · refine (θ_run Cert.MmInDgradRefIdeal.defs _ _).mono (fun r h c => ?_) (Cert.MmInDgradRefIdeal.Read.run_named m' g')
    obtain ⟨e0, e1, e2, e3⟩ := hagree c
    obtain ⟨h0, hs⟩ := h c
    refine ⟨h0.trans ?_, hs⟩
    · rw [e1, e2, e3]; exact (final6 m c).symm

/-- The reference leaves its arguments as they were, and it declares no semaphore. -/
theorem frame_ref : Cert.quiescent_MmInDgradRefIdeal (hMmInDgradRefIdeal := Cert.MmInDgradRefIdeal.Gen.facts) := fun m ρ _ =>
  (θ_run Cert.MmInDgradRefIdeal.defs _ _).mono (fun r h => ⟨fun c => (h c).2, sem_eq_zero_of_no_sems (by decide) r.2⟩)
    (Cert.MmInDgradRefIdeal.Value.run (F := Ideal) m ρ)

end Cert.MmInDgradIdeal.Val
end
-- ==== Proof.SumDevicesOut.lean ====
module

public import proofs.«01_k».proof.Proof.Gen.SumDevicesIdeal.Frame
public import proofs.«01_k».proof.Proof.Gen.SumDevicesRefIdeal.Read
public import Idealize.ShloMosaic.Lib.Pipeline.ValueKit
public import proofs.«01_k».proof.Proof.Kit

@[expose] public section
set_option maxRecDepth 16384
noncomputable section
open Idealize.ShloMosaic Idealize.ShloMosaic.TcCoe Idealize.SL.Sem
open Idealize.ShloMosaic.Pipeline (Dat)
namespace Cert.SumDevicesIdeal.Val
open Cert.SumDevicesIdeal Cert.SumDevicesIdeal.Gen
open Cert.SumDevicesRefIdeal.Read
variable (m : (ℓ : Loc nD τ sig) → Buf (Elt Ideal) ℓ) (c : Dev nD)

theorem idx : ∀ t : Fin cfg0.N, win0_0.index t = ![0, 0, 0] ∧ win0_1.index t = ![0, 0] :=
  (by decide +kernel : ∀ t : Fin grid0.N, _)

/-- The packed gradients of the eight devices. -/
abbrev aS (c : Dev nD) : FVec Ideal S8x1488x128 .f32 := m ((c : Thread nD τ).loc main_arg0)
theorem entry_s : V m c main_arg0 = aS m c := by entry_read; rfl

/-- An entry of the sum. -/
def entry (s : FVec Ideal S8x1488x128 .f32) (r : Fin 1488) (l : Fin 128) : EReal := ∑ b : Fin 8, s (ix3 b r l)
/-- The reference's entries. -/
theorem read_ref (s : FVec Ideal S8x1488x128 .f32) (r : Fin 1488) (l : Fin 128) : val_main_v0 (F := Ideal) s (ix2 r l) = entry s r l := by
  pointwise [val_main_v0, val_main_cst, entry]
theorem blk_s (t : Fin cfg0.N) (b : Fin 8) (r : Fin 1488) (l : Fin 128) : iblk m c 0 t (ix3 b r l) = aS m c (ix3 b r l) := by
  blk_point [iblk, entry_s, idx t]
/-- What the step leaves. -/
theorem point (t : Fin cfg0.N) (r : Fin 1488) (l : Fin 128) : out0_1 (iblk m c 0 t) (ix2 r l) = entry (aS m c) r l := by
  frame_out; open_payloads; pointwise []; simp only [blk_s, entry, Fin.sum_univ_eight]
/-- The sum over the devices. -/
theorem final1 : (dats m 0 c).arrAt 1 (cfgs 0).N = val_main_v0 (F := Ideal) (aS m c) := by
  refine (dats m 0 c).arrAt_eq_of_covers 1 _ (by decide +kernel) fun t hf y => ?_
  blk_simp
  rw [after0_1]
  have h0 : ((win0_1.blk t).view.emb y 0).val = (y 0).val := by blk_simp [idx t]
  have h1 : ((win0_1.blk t).view.emb y 1).val = (y 1).val := by blk_simp [idx t]
  generalize (win0_1.blk t).view.emb y = j at h0 h1 ⊢
  idx_vars j
  idx_vars y
  obtain rfl : j0 = y0 := Fin.ext h0
  obtain rfl : j1 = y1 := Fin.ext h1
  exact (point m c t j0 j1).trans (read_ref (aS m c) _ _).symm

end Cert.SumDevicesIdeal.Val
end
-- ==== Proof.SumDevices.lean ====
module
public import proofs.«01_k».proof.Defs
public import proofs.«01_k».proof.Proof.SumDevicesOut
public import proofs.«01_k».proof.Proof.Gen.SumDevicesRefIdeal.Run
@[expose] public section
set_option maxRecDepth 16384
noncomputable section
open Idealize.ShloMosaic Idealize.SL.Sem Idealize.ShloMosaic.StableHlo

namespace Cert.SumDevicesRefIdeal.Read
open Cert.SumDevicesRefIdeal

/-- The reference's run with each result at its named stage instead of the composed term. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = val_main_v0 (F := Ideal) (m ((c.tc : Thread nD τ).loc main_arg0))
      ∧ r.2.mem ((c.tc : Thread nD τ).loc main_arg0) = m ((c.tc : Thread nD τ).loc main_arg0) :=
  (θ_run defs _ _).mono (fun r h c =>
    ⟨(h c).1.trans (val_main_v0_eq _),
      (h c).2⟩)
    (Value.run (F := Ideal) m ρ)

end Cert.SumDevicesRefIdeal.Read

namespace Cert.SumDevicesIdeal.Val

set_option maxHeartbeats 1600000 in
/-- The sum over the devices: the idealised kernel and the idealised reference compute the same array. -/
theorem algebraic : Cert.algebraic_SumDevicesIdeal_SumDevicesRefIdeal (hSumDevicesIdeal := Cert.SumDevicesIdeal.Gen.facts)
    (hSumDevicesRefIdeal := Cert.SumDevicesRefIdeal.Gen.facts) := by
  intro m g m' g' hpre hagree
  refine ⟨fun c => (Gen.dats m 0 c).arrAt 1 (cfgs 0).N, ?_, ?_⟩
  · exact θ_run_mono (θ_run_and (Gen.run_main m g) (Gen.unchanged m g)) fun r h c =>
      ⟨(h.1 c).1 1, h.2 c⟩
  · refine (θ_run Cert.SumDevicesRefIdeal.defs _ _).mono (fun r h c => ?_) (Cert.SumDevicesRefIdeal.Read.run_named m' g')
    have e0 := hagree c
    obtain ⟨h0, hs⟩ := h c
    refine ⟨h0.trans ?_, hs⟩
    · rw [e0]; exact (final1 m c).symm

/-- The reference leaves its arguments as they were, and it declares no semaphore. -/
theorem frame_ref : Cert.quiescent_SumDevicesRefIdeal (hSumDevicesRefIdeal := Cert.SumDevicesRefIdeal.Gen.facts) := fun m ρ _ =>
  (θ_run Cert.SumDevicesRefIdeal.defs _ _).mono (fun r h => ⟨fun c => (h c).2, sem_eq_zero_of_no_sems (by decide) r.2⟩)
    (Cert.SumDevicesRefIdeal.Value.run (F := Ideal) m ρ)

end Cert.SumDevicesIdeal.Val
end
-- ==== Proof.AdamSmallOut.lean ====
module

public import proofs.«01_k».proof.Proof.Gen.AdamSmallIdeal.Frame
public import proofs.«01_k».proof.Proof.Gen.AdamSmallRefIdeal.Read
public import Idealize.ShloMosaic.Lib.Pipeline.ValueKit
public import proofs.«01_k».proof.Proof.Kit

@[expose] public section
set_option maxRecDepth 16384
noncomputable section
open Idealize.ShloMosaic Idealize.ShloMosaic.TcCoe Idealize.SL.Sem
open Idealize.ShloMosaic.Pipeline (Dat)
namespace Cert.AdamSmallIdeal.Val
open Cert.AdamSmallIdeal Cert.AdamSmallIdeal.Gen
open Cert.AdamSmallRefIdeal.Read
variable (m : (ℓ : Loc nD τ sig) → Buf (Elt Ideal) ℓ) (c : Dev nD)

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

/-- The packed weights. -/
abbrev aW (c : Dev nD) : FVec Ideal S4904x128 .f32 := m ((c : Thread nD τ).loc main_arg0)
/-- Their gradients. -/
abbrev aG (c : Dev nD) : FVec Ideal S4904x128 .f32 := m ((c : Thread nD τ).loc main_arg1)
/-- The first moments. -/
abbrev aM (c : Dev nD) : FVec Ideal S4904x128 .f32 := m ((c : Thread nD τ).loc main_arg2)
/-- The second moments. -/
abbrev aV (c : Dev nD) : FVec Ideal S4904x128 .f32 := m ((c : Thread nD τ).loc main_arg3)
theorem entry_w : V m c main_arg0 = aW m c := by entry_read; rfl
theorem entry_g : V m c main_arg1 = aG m c := by entry_read; rfl
theorem entry_m : V m c main_arg2 = aM m c := by entry_read; rfl
theorem entry_v : V m c main_arg3 = aV m c := by entry_read; rfl
theorem blk_w (t : Fin cfg0.N) (r : Fin 4904) (l : Fin 128) : iblk m c 0 t (ix2 r l) = aW m c (ix2 r l) := by blk_point [iblk, entry_w, idx t]
theorem blk_g (t : Fin cfg0.N) (r : Fin 4904) (l : Fin 128) : iblk m c 1 t (ix2 r l) = aG m c (ix2 r l) := by blk_point [iblk, entry_g, idx t]
theorem blk_m (t : Fin cfg0.N) (r : Fin 4904) (l : Fin 128) : iblk m c 2 t (ix2 r l) = aM m c (ix2 r l) := by blk_point [iblk, entry_m, idx t]
theorem blk_v (t : Fin cfg0.N) (r : Fin 4904) (l : Fin 128) : iblk m c 3 t (ix2 r l) = aV m c (ix2 r l) := by blk_point [iblk, entry_v, idx t]

/-- The one new first moment, second moment and change of a weight. -/
theorem point (t : Fin cfg0.N) (r : Fin 4904) (l : Fin 128) :
    out0_4 (iblk m c 0 t) (iblk m c 1 t) (iblk m c 2 t) (iblk m c 3 t) (ix2 r l) = val_main_v23 (F := Ideal) (aW m c) (aG m c) (aM m c) (aV m c) (ix2 r l)
    ∧ out0_5 (iblk m c 0 t) (iblk m c 1 t) (iblk m c 2 t) (iblk m c 3 t) (ix2 r l) = val_main_v4 (F := Ideal) (aG m c) (aM m c) (ix2 r l)
    ∧ out0_6 (iblk m c 0 t) (iblk m c 1 t) (iblk m c 2 t) (iblk m c 3 t) (ix2 r l) = val_main_v10 (F := Ideal) (aG m c) (aV m c) (ix2 r l) := by
  refine ⟨?_, ?_, ?_⟩
  all_goals
    frame_out; open_payloads
    pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
    simp only [blk_w, blk_g, blk_m, blk_v]
/-- The change of the weights. -/
theorem final4 : (dats m 0 c).arrAt 4 (cfgs 0).N = val_main_v23 (F := Ideal) (aW m c) (aG m c) (aM m c) (aV m c) := by
  refine (dats m 0 c).arrAt_eq_of_covers 4 _ (by decide +kernel) fun t hf y => ?_
  blk_simp
  rw [after0_4]
  have h0 : ((win0_4.blk t).view.emb y 0).val = (y 0).val := by blk_simp [idx t]
  have h1 : ((win0_4.blk t).view.emb y 1).val = (y 1).val := by blk_simp [idx t]
  generalize (win0_4.blk t).view.emb y = j at h0 h1 ⊢
  idx_vars j
  idx_vars y
  obtain rfl : j0 = y0 := Fin.ext h0
  obtain rfl : j1 = y1 := Fin.ext h1
  exact (point m c t j0 j1).1
/-- The new first moments. -/
theorem final5 : (dats m 0 c).arrAt 5 (cfgs 0).N = val_main_v4 (F := Ideal) (aG m c) (aM m c) := by
  refine (dats m 0 c).arrAt_eq_of_covers 5 _ (by decide +kernel) fun t hf y => ?_
  blk_simp
  rw [after0_5]
  have h0 : ((win0_5.blk t).view.emb y 0).val = (y 0).val := by blk_simp [idx t]
  have h1 : ((win0_5.blk t).view.emb y 1).val = (y 1).val := by blk_simp [idx t]
  generalize (win0_5.blk t).view.emb y = j at h0 h1 ⊢
  idx_vars j
  idx_vars y
  obtain rfl : j0 = y0 := Fin.ext h0
  obtain rfl : j1 = y1 := Fin.ext h1
  exact (point m c t j0 j1).2.1
/-- The new second moments. -/
theorem final6 : (dats m 0 c).arrAt 6 (cfgs 0).N = val_main_v10 (F := Ideal) (aG m c) (aV m c) := by
  refine (dats m 0 c).arrAt_eq_of_covers 6 _ (by decide +kernel) fun t hf y => ?_
  blk_simp
  rw [after0_6]
  have h0 : ((win0_6.blk t).view.emb y 0).val = (y 0).val := by blk_simp [idx t]
  have h1 : ((win0_6.blk t).view.emb y 1).val = (y 1).val := by blk_simp [idx t]
  generalize (win0_6.blk t).view.emb y = j at h0 h1 ⊢
  idx_vars j
  idx_vars y
  obtain rfl : j0 = y0 := Fin.ext h0
  obtain rfl : j1 = y1 := Fin.ext h1
  exact (point m c t j0 j1).2.2

end Cert.AdamSmallIdeal.Val
end
-- ==== Proof.AdamSmall.lean ====
module
public import proofs.«01_k».proof.Defs
public import proofs.«01_k».proof.Proof.AdamSmallOut
public import proofs.«01_k».proof.Proof.Gen.AdamSmallRefIdeal.Run
@[expose] public section
set_option maxRecDepth 16384
noncomputable section
open Idealize.ShloMosaic Idealize.SL.Sem Idealize.ShloMosaic.StableHlo

namespace Cert.AdamSmallRefIdeal.Read
open Cert.AdamSmallRefIdeal

/-- The reference's run with each result at its named stage instead of the composed term. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = val_main_v23 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v4) = val_main_v4 (F := Ideal) (m ((c.tc : Thread nD τ).loc main_arg1)) (m ((c.tc : Thread nD τ).loc main_arg2))
      ∧ r.2.mem ((c.tc : Thread nD τ).loc main_v10) = val_main_v10 (F := Ideal) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨(h c).1.trans (val_main_v23_eq _ _ _ _),
      (h c).2.1.trans (val_main_v4_eq _ _),
      (h c).2.2.1.trans (val_main_v10_eq _ _),
      (h c).2.2.2⟩)
    (Value.run (F := Ideal) m ρ)

end Cert.AdamSmallRefIdeal.Read

namespace Cert.AdamSmallIdeal.Val

set_option maxHeartbeats 1600000 in
/-- One step of AdamW: the idealised kernel and the idealised reference compute the same three arrays. -/
theorem algebraic : Cert.algebraic_AdamSmallIdeal_AdamSmallRefIdeal (hAdamSmallIdeal := Cert.AdamSmallIdeal.Gen.facts)
    (hAdamSmallRefIdeal := Cert.AdamSmallRefIdeal.Gen.facts) := by
  intro m g m' g' hpre hagree
  refine ⟨fun c => (Gen.dats m 0 c).arrAt 4 (cfgs 0).N, fun c => (Gen.dats m 0 c).arrAt 5 (cfgs 0).N, fun c => (Gen.dats m 0 c).arrAt 6 (cfgs 0).N, ?_, ?_⟩
  · exact θ_run_mono (θ_run_and (Gen.run_main m g) (Gen.unchanged m g)) fun r h c =>
      ⟨(h.1 c).1 4, (h.1 c).1 5, (h.1 c).1 6, h.2 c⟩
  · refine (θ_run Cert.AdamSmallRefIdeal.defs _ _).mono (fun r h c => ?_) (Cert.AdamSmallRefIdeal.Read.run_named m' g')
    obtain ⟨e0, e1, e2, e3⟩ := hagree c
    obtain ⟨h0, h1, h2, hs⟩ := h c
    refine ⟨h0.trans ?_, h1.trans ?_, h2.trans ?_, hs⟩
    · rw [e0, e1, e2, e3]; exact (final4 m c).symm
    · rw [e1, e2]; exact (final5 m c).symm
    · rw [e1, e3]; exact (final6 m c).symm

/-- The reference leaves its arguments as they were, and it declares no semaphore. -/
theorem frame_ref : Cert.quiescent_AdamSmallRefIdeal (hAdamSmallRefIdeal := Cert.AdamSmallRefIdeal.Gen.facts) := fun m ρ _ =>
  (θ_run Cert.AdamSmallRefIdeal.defs _ _).mono (fun r h => ⟨fun c => (h c).2.2.2, sem_eq_zero_of_no_sems (by decide) r.2⟩)
    (Cert.AdamSmallRefIdeal.Value.run (F := Ideal) m ρ)

end Cert.AdamSmallIdeal.Val
end
-- ==== Proof.lean ====
module

public import proofs.«01_k».proof.Defs
public import proofs.«01_k».proof.Proof.Gen.GateBwd
public import proofs.«01_k».proof.Proof.Gen.GateBwd.Skeleton
public import proofs.«01_k».proof.Proof.Gen.GateBwd.Launch
public import proofs.«01_k».proof.Proof.Gen.GateBwd.Points
public import proofs.«01_k».proof.Proof.Gen.GateBwd.Frame
public import proofs.«01_k».proof.Proof.Gen.GateBwdIdeal
public import proofs.«01_k».proof.Proof.Gen.GateBwdIdeal.Skeleton
public import proofs.«01_k».proof.Proof.Gen.GateBwdIdeal.Launch
public import proofs.«01_k».proof.Proof.Gen.GateBwdIdeal.Points
public import proofs.«01_k».proof.Proof.Gen.GateBwdIdeal.Frame
public import proofs.«01_k».proof.Proof.Gen.GateBwdRefIdeal
public import proofs.«01_k».proof.Proof.Gen.GateBwdIdeal.Value
public import proofs.«01_k».proof.Proof.Gen.GateBwdRefIdeal.Run
public import proofs.«01_k».proof.Proof.Gen.GateBwdRefIdeal.Read
public import proofs.«01_k».proof.Proof.Gate
public import proofs.«01_k».proof.Proof.Gen.MixerRowsBwd
public import proofs.«01_k».proof.Proof.Gen.MixerRowsBwd.Frame
public import proofs.«01_k».proof.Proof.Gen.MixerRowsBwdIdeal
public import proofs.«01_k».proof.Proof.Gen.MixerRowsBwdIdeal.Frame
public import proofs.«01_k».proof.Proof.Gen.MixerRowsBwdRefIdeal
public import proofs.«01_k».proof.Proof.Gen.MixerRowsBwdRefIdeal.Run
public import proofs.«01_k».proof.Proof.Gen.MixerRowsBwdRefIdeal.Read
public import proofs.«01_k».proof.Proof.Gen.Pre_mixer_rows_finite
public import proofs.«01_k».proof.Proof.Gen.ShortConvBwd
public import proofs.«01_k».proof.Proof.Gen.ShortConvBwdIdeal
public import proofs.«01_k».proof.Proof.Gen.ShortConvBwdRefIdeal
public import proofs.«01_k».proof.Proof.Gen.ConformerConvBwd
public import proofs.«01_k».proof.Proof.Gen.ConformerConvBwdIdeal
public import proofs.«01_k».proof.Proof.Gen.ConformerConvBwdRefIdeal
public import proofs.«01_k».proof.Proof.Gen.FfnOutBwd
public import proofs.«01_k».proof.Proof.Gen.FfnOutBwdIdeal
public import proofs.«01_k».proof.Proof.Gen.FfnOutBwdRefIdeal
public import proofs.«01_k».proof.Proof.Gen.LossHead
public import proofs.«01_k».proof.Proof.Gen.LossHeadIdeal
public import proofs.«01_k».proof.Proof.Gen.LossHeadRefIdeal
public import proofs.«01_k».proof.Proof.Gen.LnFfnBwd
public import proofs.«01_k».proof.Proof.Gen.LnFfnBwdIdeal
public import proofs.«01_k».proof.Proof.Gen.LnFfnBwdRefIdeal
public import proofs.«01_k».proof.Proof.Gen.LnInBwd
public import proofs.«01_k».proof.Proof.Gen.LnInBwdIdeal
public import proofs.«01_k».proof.Proof.Gen.LnInBwdRefIdeal
public import proofs.«01_k».proof.Proof.Gen.Pre_ffn_out_finite
public import proofs.«01_k».proof.Proof.Gen.Pre_ln_ffn_finite
public import proofs.«01_k».proof.Proof.Gen.Pre_ln_in_finite
public import proofs.«01_k».proof.Proof.Gen.MixerRowsBwdIdeal.Value
public import proofs.«01_k».proof.Proof.Gen.ShortConvBwd.Skeleton
public import proofs.«01_k».proof.Proof.Gen.ShortConvBwdIdeal.Skeleton
public import proofs.«01_k».proof.Proof.Gen.ShortConvBwd.Launch
public import proofs.«01_k».proof.Proof.Gen.ShortConvBwdIdeal.Launch
public import proofs.«01_k».proof.Proof.Gen.ShortConvBwd.Points
public import proofs.«01_k».proof.Proof.Gen.ShortConvBwdIdeal.Points
public import proofs.«01_k».proof.Proof.Gen.ShortConvBwd.Frame
public import proofs.«01_k».proof.Proof.Gen.ShortConvBwdIdeal.Frame
public import proofs.«01_k».proof.Proof.Gen.ShortConvBwdIdeal.Value
public import proofs.«01_k».proof.Proof.Gen.ShortConvBwdRefIdeal.Run
public import proofs.«01_k».proof.Proof.Gen.ShortConvBwdRefIdeal.Read
public import proofs.«01_k».proof.Proof.Gen.ConformerConvBwd.Skeleton
public import proofs.«01_k».proof.Proof.Gen.ConformerConvBwdIdeal.Skeleton
public import proofs.«01_k».proof.Proof.Gen.ConformerConvBwd.Launch
public import proofs.«01_k».proof.Proof.Gen.ConformerConvBwdIdeal.Launch
public import proofs.«01_k».proof.Proof.Gen.ConformerConvBwd.Points
public import proofs.«01_k».proof.Proof.Gen.ConformerConvBwdIdeal.Points
public import proofs.«01_k».proof.Proof.Gen.ConformerConvBwd.Frame
public import proofs.«01_k».proof.Proof.Gen.ConformerConvBwdIdeal.Frame
public import proofs.«01_k».proof.Proof.Gen.ConformerConvBwdIdeal.Value
public import proofs.«01_k».proof.Proof.Gen.ConformerConvBwdRefIdeal.Run
public import proofs.«01_k».proof.Proof.Gen.ConformerConvBwdRefIdeal.Read
public import proofs.«01_k».proof.Proof.Gen.FfnOutBwd.Skeleton
public import proofs.«01_k».proof.Proof.Gen.FfnOutBwdIdeal.Skeleton
public import proofs.«01_k».proof.Proof.Gen.FfnOutBwd.Launch
public import proofs.«01_k».proof.Proof.Gen.FfnOutBwdIdeal.Launch
public import proofs.«01_k».proof.Proof.Gen.FfnOutBwd.Points
public import proofs.«01_k».proof.Proof.Gen.FfnOutBwdIdeal.Points
public import proofs.«01_k».proof.Proof.Gen.FfnOutBwd.Frame
public import proofs.«01_k».proof.Proof.Gen.FfnOutBwdIdeal.Frame
public import proofs.«01_k».proof.Proof.Gen.FfnOutBwdIdeal.Value
public import proofs.«01_k».proof.Proof.Gen.FfnOutBwdRefIdeal.Run
public import proofs.«01_k».proof.Proof.Gen.FfnOutBwdRefIdeal.Read
public import proofs.«01_k».proof.Proof.Gen.LossHead.Skeleton
public import proofs.«01_k».proof.Proof.Gen.LossHeadIdeal.Skeleton
public import proofs.«01_k».proof.Proof.Gen.LossHead.Launch
public import proofs.«01_k».proof.Proof.Gen.LossHeadIdeal.Launch
public import proofs.«01_k».proof.Proof.Gen.LossHead.Points
public import proofs.«01_k».proof.Proof.Gen.LossHeadIdeal.Points
public import proofs.«01_k».proof.Proof.Gen.LossHead.Frame
public import proofs.«01_k».proof.Proof.Gen.LossHeadIdeal.Frame
public import proofs.«01_k».proof.Proof.Gen.LossHeadIdeal.Value
public import proofs.«01_k».proof.Proof.Gen.LossHeadRefIdeal.Run
public import proofs.«01_k».proof.Proof.Gen.LossHeadRefIdeal.Read
public import proofs.«01_k».proof.Proof.Gen.LnFfnBwd.Skeleton
public import proofs.«01_k».proof.Proof.Gen.LnFfnBwdIdeal.Skeleton
public import proofs.«01_k».proof.Proof.Gen.LnFfnBwd.Launch
public import proofs.«01_k».proof.Proof.Gen.LnFfnBwdIdeal.Launch
public import proofs.«01_k».proof.Proof.Gen.LnFfnBwd.Points
public import proofs.«01_k».proof.Proof.Gen.LnFfnBwdIdeal.Points
public import proofs.«01_k».proof.Proof.Gen.LnFfnBwd.Frame
public import proofs.«01_k».proof.Proof.Gen.LnFfnBwdIdeal.Frame
public import proofs.«01_k».proof.Proof.Gen.LnFfnBwdIdeal.Value
public import proofs.«01_k».proof.Proof.Gen.LnFfnBwdRefIdeal.Run
public import proofs.«01_k».proof.Proof.Gen.LnFfnBwdRefIdeal.Read
public import proofs.«01_k».proof.Proof.Gen.LnInBwd.Skeleton
public import proofs.«01_k».proof.Proof.Gen.LnInBwdIdeal.Skeleton
public import proofs.«01_k».proof.Proof.Gen.LnInBwd.Launch
public import proofs.«01_k».proof.Proof.Gen.LnInBwdIdeal.Launch
public import proofs.«01_k».proof.Proof.Gen.LnInBwd.Points
public import proofs.«01_k».proof.Proof.Gen.LnInBwdIdeal.Points
public import proofs.«01_k».proof.Proof.Gen.LnInBwd.Frame
public import proofs.«01_k».proof.Proof.Gen.LnInBwdIdeal.Frame
public import proofs.«01_k».proof.Proof.Gen.LnInBwdIdeal.Value
public import proofs.«01_k».proof.Proof.Gen.LnInBwdRefIdeal.Run
public import proofs.«01_k».proof.Proof.Gen.LnInBwdRefIdeal.Read
public import proofs.«01_k».proof.Proof.Mixer
public import proofs.«01_k».proof.Proof.Short
public import proofs.«01_k».proof.Proof.Conf
public import proofs.«01_k».proof.Proof.Ffn
public import proofs.«01_k».proof.Proof.Loss
public import proofs.«01_k».proof.Proof.LnFfn
public import proofs.«01_k».proof.Proof.LnIn
public import proofs.«01_k».proof.Proof.Gen.LnInFwd
public import proofs.«01_k».proof.Proof.Gen.LnInFwdIdeal
public import proofs.«01_k».proof.Proof.Gen.LnInFwd.Skeleton
public import proofs.«01_k».proof.Proof.Gen.LnInFwdIdeal.Skeleton
public import proofs.«01_k».proof.Proof.Gen.LnInFwd.Launch
public import proofs.«01_k».proof.Proof.Gen.LnInFwdIdeal.Launch
public import proofs.«01_k».proof.Proof.Gen.LnInFwd.Points
public import proofs.«01_k».proof.Proof.Gen.LnInFwdIdeal.Points
public import proofs.«01_k».proof.Proof.Gen.LnInFwd.Frame
public import proofs.«01_k».proof.Proof.Gen.LnInFwdIdeal.Frame
public import proofs.«01_k».proof.Proof.Gen.LnInFwdIdeal.Value
public import proofs.«01_k».proof.Proof.Gen.LnInFwdRefIdeal
public import proofs.«01_k».proof.Proof.Gen.LnInFwdRefIdeal.Run
public import proofs.«01_k».proof.Proof.Gen.LnInFwdRefIdeal.Read
public import proofs.«01_k».proof.Proof.Gen.ConformerConvFwd
public import proofs.«01_k».proof.Proof.Gen.ConformerConvFwdIdeal
public import proofs.«01_k».proof.Proof.Gen.ConformerConvFwd.Skeleton
public import proofs.«01_k».proof.Proof.Gen.ConformerConvFwdIdeal.Skeleton
public import proofs.«01_k».proof.Proof.Gen.ConformerConvFwd.Launch
public import proofs.«01_k».proof.Proof.Gen.ConformerConvFwdIdeal.Launch
public import proofs.«01_k».proof.Proof.Gen.ConformerConvFwd.Points
public import proofs.«01_k».proof.Proof.Gen.ConformerConvFwdIdeal.Points
public import proofs.«01_k».proof.Proof.Gen.ConformerConvFwd.Frame
public import proofs.«01_k».proof.Proof.Gen.ConformerConvFwdIdeal.Frame
public import proofs.«01_k».proof.Proof.Gen.ConformerConvFwdIdeal.Value
public import proofs.«01_k».proof.Proof.Gen.ConformerConvFwdRefIdeal
public import proofs.«01_k».proof.Proof.Gen.ConformerConvFwdRefIdeal.Run
public import proofs.«01_k».proof.Proof.Gen.ConformerConvFwdRefIdeal.Read
public import proofs.«01_k».proof.Proof.Gen.MmOutLn
public import proofs.«01_k».proof.Proof.Gen.MmOutLnIdeal
public import proofs.«01_k».proof.Proof.Gen.MmOutLn.Skeleton
public import proofs.«01_k».proof.Proof.Gen.MmOutLnIdeal.Skeleton
public import proofs.«01_k».proof.Proof.Gen.MmOutLn.Launch
public import proofs.«01_k».proof.Proof.Gen.MmOutLnIdeal.Launch
public import proofs.«01_k».proof.Proof.Gen.MmOutLn.Points
public import proofs.«01_k».proof.Proof.Gen.MmOutLnIdeal.Points
public import proofs.«01_k».proof.Proof.Gen.MmOutLn.Frame
public import proofs.«01_k».proof.Proof.Gen.MmOutLnIdeal.Frame
public import proofs.«01_k».proof.Proof.Gen.MmOutLnIdeal.Value
public import proofs.«01_k».proof.Proof.Gen.MmOutLnRefIdeal
public import proofs.«01_k».proof.Proof.Gen.MmOutLnRefIdeal.Run
public import proofs.«01_k».proof.Proof.Gen.MmOutLnRefIdeal.Read
public import proofs.«01_k».proof.Proof.Gen.FfnInSwiglu
public import proofs.«01_k».proof.Proof.Gen.FfnInSwigluIdeal
public import proofs.«01_k».proof.Proof.Gen.FfnInSwiglu.Skeleton
public import proofs.«01_k».proof.Proof.Gen.FfnInSwigluIdeal.Skeleton
public import proofs.«01_k».proof.Proof.Gen.FfnInSwiglu.Launch
public import proofs.«01_k».proof.Proof.Gen.FfnInSwigluIdeal.Launch
public import proofs.«01_k».proof.Proof.Gen.FfnInSwiglu.Points
public import proofs.«01_k».proof.Proof.Gen.FfnInSwigluIdeal.Points
public import proofs.«01_k».proof.Proof.Gen.FfnInSwiglu.Frame
public import proofs.«01_k».proof.Proof.Gen.FfnInSwigluIdeal.Frame
public import proofs.«01_k».proof.Proof.Gen.FfnInSwigluIdeal.Value
public import proofs.«01_k».proof.Proof.Gen.FfnInSwigluRefIdeal
public import proofs.«01_k».proof.Proof.Gen.FfnInSwigluRefIdeal.Run
public import proofs.«01_k».proof.Proof.Gen.FfnInSwigluRefIdeal.Read
public import proofs.«01_k».proof.Proof.Gen.FfnOutLn
public import proofs.«01_k».proof.Proof.Gen.FfnOutLnIdeal
public import proofs.«01_k».proof.Proof.Gen.FfnOutLn.Skeleton
public import proofs.«01_k».proof.Proof.Gen.FfnOutLnIdeal.Skeleton
public import proofs.«01_k».proof.Proof.Gen.FfnOutLn.Launch
public import proofs.«01_k».proof.Proof.Gen.FfnOutLnIdeal.Launch
public import proofs.«01_k».proof.Proof.Gen.FfnOutLn.Points
public import proofs.«01_k».proof.Proof.Gen.FfnOutLnIdeal.Points
public import proofs.«01_k».proof.Proof.Gen.FfnOutLn.Frame
public import proofs.«01_k».proof.Proof.Gen.FfnOutLnIdeal.Frame
public import proofs.«01_k».proof.Proof.Gen.FfnOutLnIdeal.Value
public import proofs.«01_k».proof.Proof.Gen.FfnOutLnRefIdeal
public import proofs.«01_k».proof.Proof.Gen.FfnOutLnRefIdeal.Run
public import proofs.«01_k».proof.Proof.Gen.FfnOutLnRefIdeal.Read
public import proofs.«01_k».proof.Proof.Gen.BranchMerge
public import proofs.«01_k».proof.Proof.Gen.BranchMergeIdeal
public import proofs.«01_k».proof.Proof.Gen.BranchMerge.Skeleton
public import proofs.«01_k».proof.Proof.Gen.BranchMergeIdeal.Skeleton
public import proofs.«01_k».proof.Proof.Gen.BranchMerge.Launch
public import proofs.«01_k».proof.Proof.Gen.BranchMergeIdeal.Launch
public import proofs.«01_k».proof.Proof.Gen.BranchMerge.Points
public import proofs.«01_k».proof.Proof.Gen.BranchMergeIdeal.Points
public import proofs.«01_k».proof.Proof.Gen.BranchMerge.Frame
public import proofs.«01_k».proof.Proof.Gen.BranchMergeIdeal.Frame
public import proofs.«01_k».proof.Proof.Gen.BranchMergeIdeal.Value
public import proofs.«01_k».proof.Proof.Gen.BranchMergeRefIdeal
public import proofs.«01_k».proof.Proof.Gen.BranchMergeRefIdeal.Run
public import proofs.«01_k».proof.Proof.Gen.BranchMergeRefIdeal.Read
public import proofs.«01_k».proof.Proof.Gen.MixerRowsFwd
public import proofs.«01_k».proof.Proof.Gen.MixerRowsFwdIdeal
public import proofs.«01_k».proof.Proof.Gen.MixerRowsFwd.Skeleton
public import proofs.«01_k».proof.Proof.Gen.MixerRowsFwdIdeal.Skeleton
public import proofs.«01_k».proof.Proof.Gen.MixerRowsFwd.Launch
public import proofs.«01_k».proof.Proof.Gen.MixerRowsFwdIdeal.Launch
public import proofs.«01_k».proof.Proof.Gen.MixerRowsFwd.Points
public import proofs.«01_k».proof.Proof.Gen.MixerRowsFwdIdeal.Points
public import proofs.«01_k».proof.Proof.Gen.MixerRowsFwd.Frame
public import proofs.«01_k».proof.Proof.Gen.MixerRowsFwdIdeal.Frame
public import proofs.«01_k».proof.Proof.Gen.MixerRowsFwdRefIdeal
public import proofs.«01_k».proof.Proof.Gen.MixerRowsFwdRefIdeal.Run
public import proofs.«01_k».proof.Proof.Gen.MixerRowsFwdRefIdeal.Read
public import proofs.«01_k».proof.Proof.Gen.ShortConvFwd
public import proofs.«01_k».proof.Proof.Gen.ShortConvFwdIdeal
public import proofs.«01_k».proof.Proof.Gen.ShortConvFwd.Skeleton
public import proofs.«01_k».proof.Proof.Gen.ShortConvFwdIdeal.Skeleton
public import proofs.«01_k».proof.Proof.Gen.ShortConvFwd.Launch
public import proofs.«01_k».proof.Proof.Gen.ShortConvFwdIdeal.Launch
public import proofs.«01_k».proof.Proof.Gen.ShortConvFwd.Points
public import proofs.«01_k».proof.Proof.Gen.ShortConvFwdIdeal.Points
public import proofs.«01_k».proof.Proof.Gen.ShortConvFwd.Frame
public import proofs.«01_k».proof.Proof.Gen.ShortConvFwdIdeal.Frame
public import proofs.«01_k».proof.Proof.Gen.ShortConvFwdIdeal.Value
public import proofs.«01_k».proof.Proof.Gen.ShortConvFwdRefIdeal
public import proofs.«01_k».proof.Proof.Gen.ShortConvFwdRefIdeal.Run
public import proofs.«01_k».proof.Proof.Gen.ShortConvFwdRefIdeal.Read
public import proofs.«01_k».proof.Proof.LnInF
public import proofs.«01_k».proof.Proof.ConfF
public import proofs.«01_k».proof.Proof.MmOutF
public import proofs.«01_k».proof.Proof.SwigluF
public import proofs.«01_k».proof.Proof.FfnF
public import proofs.«01_k».proof.Proof.MergeF
public import proofs.«01_k».proof.Proof.MixerF
public import proofs.«01_k».proof.Proof.ShortF
public import proofs.«01_k».proof.Proof.Gen.MmIn
public import proofs.«01_k».proof.Proof.Gen.MmInIdeal
public import proofs.«01_k».proof.Proof.Gen.MmIn.Skeleton
public import proofs.«01_k».proof.Proof.Gen.MmInIdeal.Skeleton
public import proofs.«01_k».proof.Proof.Gen.MmIn.Launch
public import proofs.«01_k».proof.Proof.Gen.MmInIdeal.Launch
public import proofs.«01_k».proof.Proof.Gen.MmIn.Points
public import proofs.«01_k».proof.Proof.Gen.MmInIdeal.Points
public import proofs.«01_k».proof.Proof.Gen.MmIn.Frame
public import proofs.«01_k».proof.Proof.Gen.MmInIdeal.Frame
public import proofs.«01_k».proof.Proof.Gen.MmInIdeal.Value
public import proofs.«01_k».proof.Proof.Gen.MmInRefIdeal
public import proofs.«01_k».proof.Proof.Gen.MmInRefIdeal.Run
public import proofs.«01_k».proof.Proof.Gen.MmInRefIdeal.Read
public import proofs.«01_k».proof.Proof.Gen.MmOutDgrad
public import proofs.«01_k».proof.Proof.Gen.MmOutDgradIdeal
public import proofs.«01_k».proof.Proof.Gen.MmOutDgrad.Skeleton
public import proofs.«01_k».proof.Proof.Gen.MmOutDgradIdeal.Skeleton
public import proofs.«01_k».proof.Proof.Gen.MmOutDgrad.Launch
public import proofs.«01_k».proof.Proof.Gen.MmOutDgradIdeal.Launch
public import proofs.«01_k».proof.Proof.Gen.MmOutDgrad.Points
public import proofs.«01_k».proof.Proof.Gen.MmOutDgradIdeal.Points
public import proofs.«01_k».proof.Proof.Gen.MmOutDgrad.Frame
public import proofs.«01_k».proof.Proof.Gen.MmOutDgradIdeal.Frame
public import proofs.«01_k».proof.Proof.Gen.MmOutDgradIdeal.Value
public import proofs.«01_k».proof.Proof.Gen.MmOutDgradRefIdeal
public import proofs.«01_k».proof.Proof.Gen.MmOutDgradRefIdeal.Run
public import proofs.«01_k».proof.Proof.Gen.MmOutDgradRefIdeal.Read
public import proofs.«01_k».proof.Proof.Gen.FfnOutWgrad
public import proofs.«01_k».proof.Proof.Gen.FfnOutWgradIdeal
public import proofs.«01_k».proof.Proof.Gen.FfnOutWgrad.Skeleton
public import proofs.«01_k».proof.Proof.Gen.FfnOutWgradIdeal.Skeleton
public import proofs.«01_k».proof.Proof.Gen.FfnOutWgrad.Launch
public import proofs.«01_k».proof.Proof.Gen.FfnOutWgradIdeal.Launch
public import proofs.«01_k».proof.Proof.Gen.FfnOutWgrad.Points
public import proofs.«01_k».proof.Proof.Gen.FfnOutWgradIdeal.Points
public import proofs.«01_k».proof.Proof.Gen.FfnOutWgrad.Frame
public import proofs.«01_k».proof.Proof.Gen.FfnOutWgradIdeal.Frame
public import proofs.«01_k».proof.Proof.Gen.FfnOutWgradIdeal.Value
public import proofs.«01_k».proof.Proof.Gen.FfnOutWgradRefIdeal
public import proofs.«01_k».proof.Proof.Gen.FfnOutWgradRefIdeal.Run
public import proofs.«01_k».proof.Proof.Gen.FfnOutWgradRefIdeal.Read
public import proofs.«01_k».proof.Proof.Gen.BranchDgrad
public import proofs.«01_k».proof.Proof.Gen.BranchDgradIdeal
public import proofs.«01_k».proof.Proof.Gen.BranchDgrad.Skeleton
public import proofs.«01_k».proof.Proof.Gen.BranchDgradIdeal.Skeleton
public import proofs.«01_k».proof.Proof.Gen.BranchDgrad.Launch
public import proofs.«01_k».proof.Proof.Gen.BranchDgradIdeal.Launch
public import proofs.«01_k».proof.Proof.Gen.BranchDgrad.Points
public import proofs.«01_k».proof.Proof.Gen.BranchDgradIdeal.Points
public import proofs.«01_k».proof.Proof.Gen.BranchDgrad.Frame
public import proofs.«01_k».proof.Proof.Gen.BranchDgradIdeal.Frame
public import proofs.«01_k».proof.Proof.Gen.BranchDgradIdeal.Value
public import proofs.«01_k».proof.Proof.Gen.BranchDgradRefIdeal
public import proofs.«01_k».proof.Proof.Gen.BranchDgradRefIdeal.Run
public import proofs.«01_k».proof.Proof.Gen.BranchDgradRefIdeal.Read
public import proofs.«01_k».proof.Proof.Gen.BranchWgrad
public import proofs.«01_k».proof.Proof.Gen.BranchWgradIdeal
public import proofs.«01_k».proof.Proof.Gen.BranchWgrad.Skeleton
public import proofs.«01_k».proof.Proof.Gen.BranchWgradIdeal.Skeleton
public import proofs.«01_k».proof.Proof.Gen.BranchWgrad.Launch
public import proofs.«01_k».proof.Proof.Gen.BranchWgradIdeal.Launch
public import proofs.«01_k».proof.Proof.Gen.BranchWgrad.Points
public import proofs.«01_k».proof.Proof.Gen.BranchWgradIdeal.Points
public import proofs.«01_k».proof.Proof.Gen.BranchWgrad.Frame
public import proofs.«01_k».proof.Proof.Gen.BranchWgradIdeal.Frame
public import proofs.«01_k».proof.Proof.Gen.BranchWgradIdeal.Value
public import proofs.«01_k».proof.Proof.Gen.BranchWgradRefIdeal
public import proofs.«01_k».proof.Proof.Gen.BranchWgradRefIdeal.Run
public import proofs.«01_k».proof.Proof.Gen.BranchWgradRefIdeal.Read
public import proofs.«01_k».proof.Proof.MmIn
public import proofs.«01_k».proof.Proof.MmOutDgrad
public import proofs.«01_k».proof.Proof.FfnOutWgrad
public import proofs.«01_k».proof.Proof.BranchDgrad
public import proofs.«01_k».proof.Proof.BranchWgrad
public import proofs.«01_k».proof.Proof.Gen.MmInWgrad
public import proofs.«01_k».proof.Proof.Gen.MmInWgradIdeal
public import proofs.«01_k».proof.Proof.Gen.MmInWgrad.Skeleton
public import proofs.«01_k».proof.Proof.Gen.MmInWgradIdeal.Skeleton
public import proofs.«01_k».proof.Proof.Gen.MmInWgrad.Launch
public import proofs.«01_k».proof.Proof.Gen.MmInWgradIdeal.Launch
public import proofs.«01_k».proof.Proof.Gen.MmInWgrad.Points
public import proofs.«01_k».proof.Proof.Gen.MmInWgradIdeal.Points
public import proofs.«01_k».proof.Proof.Gen.MmInWgrad.Frame
public import proofs.«01_k».proof.Proof.Gen.MmInWgradIdeal.Frame
public import proofs.«01_k».proof.Proof.Gen.MmInWgradIdeal.Value
public import proofs.«01_k».proof.Proof.Gen.MmInWgradRefIdeal
public import proofs.«01_k».proof.Proof.Gen.MmInWgradRefIdeal.Run
public import proofs.«01_k».proof.Proof.Gen.MmInWgradRefIdeal.Read
public import proofs.«01_k».proof.Proof.Gen.MmInDgrad
public import proofs.«01_k».proof.Proof.Gen.MmInDgradIdeal
public import proofs.«01_k».proof.Proof.Gen.MmInDgrad.Skeleton
public import proofs.«01_k».proof.Proof.Gen.MmInDgradIdeal.Skeleton
public import proofs.«01_k».proof.Proof.Gen.MmInDgrad.Launch
public import proofs.«01_k».proof.Proof.Gen.MmInDgradIdeal.Launch
public import proofs.«01_k».proof.Proof.Gen.MmInDgrad.Points
public import proofs.«01_k».proof.Proof.Gen.MmInDgradIdeal.Points
public import proofs.«01_k».proof.Proof.Gen.MmInDgrad.Frame
public import proofs.«01_k».proof.Proof.Gen.MmInDgradIdeal.Frame
public import proofs.«01_k».proof.Proof.Gen.MmInDgradIdeal.Value
public import proofs.«01_k».proof.Proof.Gen.MmInDgradRefIdeal
public import proofs.«01_k».proof.Proof.Gen.MmInDgradRefIdeal.Run
public import proofs.«01_k».proof.Proof.Gen.MmInDgradRefIdeal.Read
public import proofs.«01_k».proof.Proof.Gen.SumDevices
public import proofs.«01_k».proof.Proof.Gen.SumDevicesIdeal
public import proofs.«01_k».proof.Proof.Gen.SumDevices.Skeleton
public import proofs.«01_k».proof.Proof.Gen.SumDevicesIdeal.Skeleton
public import proofs.«01_k».proof.Proof.Gen.SumDevices.Launch
public import proofs.«01_k».proof.Proof.Gen.SumDevicesIdeal.Launch
public import proofs.«01_k».proof.Proof.Gen.SumDevices.Points
public import proofs.«01_k».proof.Proof.Gen.SumDevicesIdeal.Points
public import proofs.«01_k».proof.Proof.Gen.SumDevices.Frame
public import proofs.«01_k».proof.Proof.Gen.SumDevicesIdeal.Frame
public import proofs.«01_k».proof.Proof.Gen.SumDevicesIdeal.Value
public import proofs.«01_k».proof.Proof.Gen.SumDevicesRefIdeal
public import proofs.«01_k».proof.Proof.Gen.SumDevicesRefIdeal.Run
public import proofs.«01_k».proof.Proof.Gen.SumDevicesRefIdeal.Read
public import proofs.«01_k».proof.Proof.Gen.AdamSmall
public import proofs.«01_k».proof.Proof.Gen.AdamSmallIdeal
public import proofs.«01_k».proof.Proof.Gen.AdamSmall.Skeleton
public import proofs.«01_k».proof.Proof.Gen.AdamSmallIdeal.Skeleton
public import proofs.«01_k».proof.Proof.Gen.AdamSmall.Launch
public import proofs.«01_k».proof.Proof.Gen.AdamSmallIdeal.Launch
public import proofs.«01_k».proof.Proof.Gen.AdamSmall.Points
public import proofs.«01_k».proof.Proof.Gen.AdamSmallIdeal.Points
public import proofs.«01_k».proof.Proof.Gen.AdamSmall.Frame
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.MmInWgrad
public import proofs.«01_k».proof.Proof.MmInDgrad
public import proofs.«01_k».proof.Proof.SumDevices
public import proofs.«01_k».proof.Proof.AdamSmall
public import Idealize.ShloMosaic.Adequacy
public import Idealize.ShloMosaic.Init

@[expose] public section

noncomputable section

namespace Cert.Proof

open Idealize.ShloMosaic Idealize.SL.Sem Cert.GateBwd

theorem claim : Cert.Claim := ⟨Cert.GateBwd.Gen.facts,
  Cert.GateBwdIdeal.Gen.facts,
  Cert.GateBwdRefIdeal.Gen.facts,
  Cert.MixerRowsBwd.Gen.facts,
  Cert.MixerRowsBwdIdeal.Gen.facts,
  Cert.MixerRowsBwdRefIdeal.Gen.facts,
  Cert.ShortConvBwd.Gen.facts,
  Cert.ShortConvBwdIdeal.Gen.facts,
  Cert.ShortConvBwdRefIdeal.Gen.facts,
  Cert.ConformerConvBwd.Gen.facts,
  Cert.ConformerConvBwdIdeal.Gen.facts,
  Cert.ConformerConvBwdRefIdeal.Gen.facts,
  Cert.FfnOutBwd.Gen.facts,
  Cert.FfnOutBwdIdeal.Gen.facts,
  Cert.FfnOutBwdRefIdeal.Gen.facts,
  Cert.LossHead.Gen.facts,
  Cert.LossHeadIdeal.Gen.facts,
  Cert.LossHeadRefIdeal.Gen.facts,
  Cert.LnFfnBwd.Gen.facts,
  Cert.LnFfnBwdIdeal.Gen.facts,
  Cert.LnFfnBwdRefIdeal.Gen.facts,
  Cert.LnInBwd.Gen.facts,
  Cert.LnInBwdIdeal.Gen.facts,
  Cert.LnInBwdRefIdeal.Gen.facts,
  Cert.LnInFwd.Gen.facts,
  Cert.LnInFwdIdeal.Gen.facts,
  Cert.LnInFwdRefIdeal.Gen.facts,
  Cert.ConformerConvFwd.Gen.facts,
  Cert.ConformerConvFwdIdeal.Gen.facts,
  Cert.ConformerConvFwdRefIdeal.Gen.facts,
  Cert.MmOutLn.Gen.facts,
  Cert.MmOutLnIdeal.Gen.facts,
  Cert.MmOutLnRefIdeal.Gen.facts,
  Cert.FfnInSwiglu.Gen.facts,
  Cert.FfnInSwigluIdeal.Gen.facts,
  Cert.FfnInSwigluRefIdeal.Gen.facts,
  Cert.FfnOutLn.Gen.facts,
  Cert.FfnOutLnIdeal.Gen.facts,
  Cert.FfnOutLnRefIdeal.Gen.facts,
  Cert.BranchMerge.Gen.facts,
  Cert.BranchMergeIdeal.Gen.facts,
  Cert.BranchMergeRefIdeal.Gen.facts,
  Cert.MixerRowsFwd.Gen.facts,
  Cert.MixerRowsFwdIdeal.Gen.facts,
  Cert.MixerRowsFwdRefIdeal.Gen.facts,
  Cert.ShortConvFwd.Gen.facts,
  Cert.ShortConvFwdIdeal.Gen.facts,
  Cert.ShortConvFwdRefIdeal.Gen.facts,
  Cert.MmIn.Gen.facts,
  Cert.MmInIdeal.Gen.facts,
  Cert.MmInRefIdeal.Gen.facts,
  Cert.MmOutDgrad.Gen.facts,
  Cert.MmOutDgradIdeal.Gen.facts,
  Cert.MmOutDgradRefIdeal.Gen.facts,
  Cert.FfnOutWgrad.Gen.facts,
  Cert.FfnOutWgradIdeal.Gen.facts,
  Cert.FfnOutWgradRefIdeal.Gen.facts,
  Cert.BranchDgrad.Gen.facts,
  Cert.BranchDgradIdeal.Gen.facts,
  Cert.BranchDgradRefIdeal.Gen.facts,
  Cert.BranchWgrad.Gen.facts,
  Cert.BranchWgradIdeal.Gen.facts,
  Cert.BranchWgradRefIdeal.Gen.facts,
  Cert.MmInWgrad.Gen.facts,
  Cert.MmInWgradIdeal.Gen.facts,
  Cert.MmInWgradRefIdeal.Gen.facts,
  Cert.MmInDgrad.Gen.facts,
  Cert.MmInDgradIdeal.Gen.facts,
  Cert.MmInDgradRefIdeal.Gen.facts,
  Cert.SumDevices.Gen.facts,
  Cert.SumDevicesIdeal.Gen.facts,
  Cert.SumDevicesRefIdeal.Gen.facts,
  Cert.AdamSmall.Gen.facts,
  Cert.AdamSmallIdeal.Gen.facts,
  Cert.AdamSmallRefIdeal.Gen.facts,
  Cert.Pre_mixer_rows_finite.Gen.facts,
  Cert.Pre_ffn_out_finite.Gen.facts,
  Cert.Pre_ln_ffn_finite.Gen.facts,
  Cert.Pre_ln_in_finite.Gen.facts,
  fun m ρ _ => Cert.GateBwd.Gen.frame m ρ,
  fun m ρ _ => Cert.GateBwdIdeal.Gen.frame m ρ,
  Cert.GateBwdIdeal.Val.frame_ref,
  fun m ρ _ => Cert.MixerRowsBwd.Gen.frame m ρ,
  fun m ρ _ => Cert.MixerRowsBwdIdeal.Gen.frame m ρ,
  fun m ρ _ => Cert.MixerRowsBwdIdeal.Gen.frame m ρ,
  Cert.MixerRowsBwdIdeal.Val.frame_ref,
  fun m ρ _ => Cert.MixerRowsBwdIdeal.Val.frame_ref m ρ trivial,
  fun m ρ _ => Cert.ShortConvBwd.Gen.frame m ρ,
  fun m ρ _ => Cert.ShortConvBwdIdeal.Gen.frame m ρ,
  Cert.ShortConvBwdIdeal.Val.frame_ref,
  fun m ρ _ => Cert.ConformerConvBwd.Gen.frame m ρ,
  fun m ρ _ => Cert.ConformerConvBwdIdeal.Gen.frame m ρ,
  Cert.ConformerConvBwdIdeal.Val.frame_ref,
  fun m ρ _ => Cert.FfnOutBwd.Gen.frame m ρ,
  fun m ρ _ => Cert.FfnOutBwdIdeal.Gen.frame m ρ,
  fun m ρ _ => Cert.FfnOutBwdIdeal.Gen.frame m ρ,
  Cert.FfnOutBwdIdeal.Val.frame_ref,
  fun m ρ _ => Cert.FfnOutBwdIdeal.Val.frame_ref m ρ trivial,
  fun m ρ _ => Cert.LossHead.Gen.frame m ρ,
  fun m ρ _ => Cert.LossHeadIdeal.Gen.frame m ρ,
  Cert.LossHeadIdeal.Val.frame_ref,
  fun m ρ _ => Cert.LnFfnBwd.Gen.frame m ρ,
  fun m ρ _ => Cert.LnFfnBwdIdeal.Gen.frame m ρ,
  fun m ρ _ => Cert.LnFfnBwdIdeal.Gen.frame m ρ,
  Cert.LnFfnBwdIdeal.Val.frame_ref,
  fun m ρ _ => Cert.LnFfnBwdIdeal.Val.frame_ref m ρ trivial,
  fun m ρ _ => Cert.LnInBwd.Gen.frame m ρ,
  fun m ρ _ => Cert.LnInBwdIdeal.Gen.frame m ρ,
  fun m ρ _ => Cert.LnInBwdIdeal.Gen.frame m ρ,
  Cert.LnInBwdIdeal.Val.frame_ref,
  fun m ρ _ => Cert.LnInBwdIdeal.Val.frame_ref m ρ trivial,
  fun m ρ _ => Cert.LnInFwd.Gen.frame m ρ,
  fun m ρ _ => Cert.LnInFwdIdeal.Gen.frame m ρ,
  Cert.LnInFwdIdeal.Val.frame_ref,
  fun m ρ _ => Cert.ConformerConvFwd.Gen.frame m ρ,
  fun m ρ _ => Cert.ConformerConvFwdIdeal.Gen.frame m ρ,
  Cert.ConformerConvFwdIdeal.Val.frame_ref,
  fun m ρ _ => Cert.MmOutLn.Gen.frame m ρ,
  fun m ρ _ => Cert.MmOutLnIdeal.Gen.frame m ρ,
  Cert.MmOutLnIdeal.Val.frame_ref,
  fun m ρ _ => Cert.FfnInSwiglu.Gen.frame m ρ,
  fun m ρ _ => Cert.FfnInSwigluIdeal.Gen.frame m ρ,
  Cert.FfnInSwigluIdeal.Val.frame_ref,
  fun m ρ _ => Cert.FfnOutLn.Gen.frame m ρ,
  fun m ρ _ => Cert.FfnOutLnIdeal.Gen.frame m ρ,
  Cert.FfnOutLnIdeal.Val.frame_ref,
  fun m ρ _ => Cert.BranchMerge.Gen.frame m ρ,
  fun m ρ _ => Cert.BranchMergeIdeal.Gen.frame m ρ,
  Cert.BranchMergeIdeal.Val.frame_ref,
  fun m ρ _ => Cert.MixerRowsFwd.Gen.frame m ρ,
  fun m ρ _ => Cert.MixerRowsFwdIdeal.Gen.frame m ρ,
  Cert.MixerRowsFwdIdeal.Val.frame_ref,
  fun m ρ _ => Cert.ShortConvFwd.Gen.frame m ρ,
  fun m ρ _ => Cert.ShortConvFwdIdeal.Gen.frame m ρ,
  Cert.ShortConvFwdIdeal.Val.frame_ref,
  fun m ρ _ => Cert.MmIn.Gen.frame m ρ,
  fun m ρ _ => Cert.MmInIdeal.Gen.frame m ρ,
  Cert.MmInIdeal.Val.frame_ref,
  fun m ρ _ => Cert.MmOutDgrad.Gen.frame m ρ,
  fun m ρ _ => Cert.MmOutDgradIdeal.Gen.frame m ρ,
  Cert.MmOutDgradIdeal.Val.frame_ref,
  fun m ρ _ => Cert.FfnOutWgrad.Gen.frame m ρ,
  fun m ρ _ => Cert.FfnOutWgradIdeal.Gen.frame m ρ,
  Cert.FfnOutWgradIdeal.Val.frame_ref,
  fun m ρ _ => Cert.BranchDgrad.Gen.frame m ρ,
  fun m ρ _ => Cert.BranchDgradIdeal.Gen.frame m ρ,
  Cert.BranchDgradIdeal.Val.frame_ref,
  fun m ρ _ => Cert.BranchWgrad.Gen.frame m ρ,
  fun m ρ _ => Cert.BranchWgradIdeal.Gen.frame m ρ,
  Cert.BranchWgradIdeal.Val.frame_ref,
  fun m ρ _ => Cert.MmInWgrad.Gen.frame m ρ,
  fun m ρ _ => Cert.MmInWgradIdeal.Gen.frame m ρ,
  Cert.MmInWgradIdeal.Val.frame_ref,
  fun m ρ _ => Cert.MmInDgrad.Gen.frame m ρ,
  fun m ρ _ => Cert.MmInDgradIdeal.Gen.frame m ρ,
  Cert.MmInDgradIdeal.Val.frame_ref,
  fun m ρ _ => Cert.SumDevices.Gen.frame m ρ,
  fun m ρ _ => Cert.SumDevicesIdeal.Gen.frame m ρ,
  Cert.SumDevicesIdeal.Val.frame_ref,
  fun m ρ _ => Cert.AdamSmall.Gen.frame m ρ,
  fun m ρ _ => Cert.AdamSmallIdeal.Gen.frame m ρ,
  Cert.AdamSmallIdeal.Val.frame_ref,
  trivial,
  Cert.GateBwdIdeal.Val.algebraic,
  trivial,
  Cert.MixerRowsBwdIdeal.Val.algebraic,
  trivial,
  Cert.ShortConvBwdIdeal.Val.algebraic,
  trivial,
  Cert.ConformerConvBwdIdeal.Val.algebraic,
  trivial,
  Cert.FfnOutBwdIdeal.Val.algebraic,
  trivial,
  Cert.LossHeadIdeal.Val.algebraic,
  trivial,
  Cert.LnFfnBwdIdeal.Val.algebraic,
  trivial,
  Cert.LnInBwdIdeal.Val.algebraic,
  trivial,
  Cert.LnInFwdIdeal.Val.algebraic,
  trivial,
  Cert.ConformerConvFwdIdeal.Val.algebraic,
  trivial,
  Cert.MmOutLnIdeal.Val.algebraic,
  trivial,
  Cert.FfnInSwigluIdeal.Val.algebraic,
  trivial,
  Cert.FfnOutLnIdeal.Val.algebraic,
  trivial,
  Cert.BranchMergeIdeal.Val.algebraic,
  trivial,
  Cert.MixerRowsFwdIdeal.Val.algebraic,
  trivial,
  Cert.ShortConvFwdIdeal.Val.algebraic,
  trivial,
  Cert.MmInIdeal.Val.algebraic,
  trivial,
  Cert.MmOutDgradIdeal.Val.algebraic,
  trivial,
  Cert.FfnOutWgradIdeal.Val.algebraic,
  trivial,
  Cert.BranchDgradIdeal.Val.algebraic,
  trivial,
  Cert.BranchWgradIdeal.Val.algebraic,
  trivial,
  Cert.MmInWgradIdeal.Val.algebraic,
  trivial,
  Cert.MmInDgradIdeal.Val.algebraic,
  trivial,
  Cert.SumDevicesIdeal.Val.algebraic,
  trivial,
  Cert.AdamSmallIdeal.Val.algebraic⟩

end Cert.Proof

end
